-- ==== Defs.lean ====
def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_in_proj_finite [hPre_in_proj_finite : Cert.Pre_in_proj_finite.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4))).1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4))).2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4))).2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4))).2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_proj_finite [hPre_in_proj_finite : Cert.Pre_in_proj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2 = (fun _ => 1#1)

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossIdeal_ffn_down_loss_finite [hPre_ffn_down_loss_finite : Cert.Pre_ffn_down_loss_finite.Facts] (m : (ℓ : Loc Cert.DownLossIdeal.nD Cert.DownLossIdeal.τ Cert.DownLossIdeal.sig) → Buf (Elt Ideal) ℓ) : Prop :=
  ∀ c : Dev Cert.DownLossIdeal.nD,
    (Cert.Pre_ffn_down_loss_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).1 = (fun _ => 1#1)
    ∧ (Cert.Pre_ffn_down_loss_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.1 = (fun _ => 1#1)
    ∧ (Cert.Pre_ffn_down_loss_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.1 = (fun _ => 1#1)
    ∧ (Cert.Pre_ffn_down_loss_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.2.1 = (fun _ => 1#1)
    ∧ (Cert.Pre_ffn_down_loss_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.2.2 = (fun _ => 1#1)

def Pre_DownLossRefIdeal (m : (ℓ : Loc Cert.DownLossRefIdeal.nD Cert.DownLossRefIdeal.τ Cert.DownLossRefIdeal.sig) → Buf (Elt Ideal) ℓ) : Prop :=
  True

def Pre_DownLossRefIdeal_ffn_down_loss_finite [hPre_ffn_down_loss_finite : Cert.Pre_ffn_down_loss_finite.Facts] (m : (ℓ : Loc Cert.DownLossRefIdeal.nD Cert.DownLossRefIdeal.τ Cert.DownLossRefIdeal.sig) → Buf (Elt Ideal) ℓ) : Prop :=
  ∀ c : Dev Cert.DownLossRefIdeal.nD,
    (Cert.Pre_ffn_down_loss_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).1 = (fun _ => 1#1)
    ∧ (Cert.Pre_ffn_down_loss_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.1 = (fun _ => 1#1)
    ∧ (Cert.Pre_ffn_down_loss_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.1 = (fun _ => 1#1)
    ∧ (Cert.Pre_ffn_down_loss_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.2.1 = (fun _ => 1#1)
    ∧ (Cert.Pre_ffn_down_loss_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.2.2 = (fun _ => 1#1)

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdIdeal_gla_fwd_finite [hPre_gla_fwd_finite : Cert.Pre_gla_fwd_finite.Facts] (m : (ℓ : Loc Cert.GlaFwdIdeal.nD Cert.GlaFwdIdeal.τ Cert.GlaFwdIdeal.sig) → Buf (Elt Ideal) ℓ) : Prop :=
  ∀ c : Dev Cert.GlaFwdIdeal.nD,
    (Cert.Pre_gla_fwd_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3))).1 = (fun _ => 1#1)
    ∧ (Cert.Pre_gla_fwd_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3))).2.1 = (fun _ => 1#1)
    ∧ (Cert.Pre_gla_fwd_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3))).2.2 = (fun _ => 1#1)

def Pre_GlaFwdRefIdeal (m : (ℓ : Loc Cert.GlaFwdRefIdeal.nD Cert.GlaFwdRefIdeal.τ Cert.GlaFwdRefIdeal.sig) → Buf (Elt Ideal) ℓ) : Prop :=
  True

def Pre_GlaFwdRefIdeal_gla_fwd_finite [hPre_gla_fwd_finite : Cert.Pre_gla_fwd_finite.Facts] (m : (ℓ : Loc Cert.GlaFwdRefIdeal.nD Cert.GlaFwdRefIdeal.τ Cert.GlaFwdRefIdeal.sig) → Buf (Elt Ideal) ℓ) : Prop :=
  ∀ c : Dev Cert.GlaFwdRefIdeal.nD,
    (Cert.Pre_gla_fwd_finite.fn (F := Ideal) (m ((c.tc : Thread Cert.GlaFwdRefIdeal.nD Cert.GlaFwdRefIdeal.τ).loc Cert.GlaFwdRefIdeal.main_arg0)) (m ((c.tc : Thread Cert.GlaFwdRefIdeal.nD Cert.GlaFwdRefIdeal.τ).loc Cert.GlaFwdRefIdeal.main_arg1)) (m ((c.tc : Thread Cert.GlaFwdRefIdeal.nD Cert.GlaFwdRefIdeal.τ).loc Cert.GlaFwdRefIdeal.main_arg2)) (m ((c.tc : Thread Cert.GlaFwdRefIdeal.nD Cert.GlaFwdRefIdeal.τ).loc Cert.GlaFwdRefIdeal.main_arg3))).1 = (fun _ => 1#1)
    ∧ (Cert.Pre_gla_fwd_finite.fn (F := Ideal) (m ((c.tc : Thread Cert.GlaFwdRefIdeal.nD Cert.GlaFwdRefIdeal.τ).loc Cert.GlaFwdRefIdeal.main_arg0)) (m ((c.tc : Thread Cert.GlaFwdRefIdeal.nD Cert.GlaFwdRefIdeal.τ).loc Cert.GlaFwdRefIdeal.main_arg1)) (m ((c.tc : Thread Cert.GlaFwdRefIdeal.nD Cert.GlaFwdRefIdeal.τ).loc Cert.GlaFwdRefIdeal.main_arg2)) (m ((c.tc : Thread Cert.GlaFwdRefIdeal.nD Cert.GlaFwdRefIdeal.τ).loc Cert.GlaFwdRefIdeal.main_arg3))).2.1 = (fun _ => 1#1)
    ∧ (Cert.Pre_gla_fwd_finite.fn (F := Ideal) (m ((c.tc : Thread Cert.GlaFwdRefIdeal.nD Cert.GlaFwdRefIdeal.τ).loc Cert.GlaFwdRefIdeal.main_arg0)) (m ((c.tc : Thread Cert.GlaFwdRefIdeal.nD Cert.GlaFwdRefIdeal.τ).loc Cert.GlaFwdRefIdeal.main_arg1)) (m ((c.tc : Thread Cert.GlaFwdRefIdeal.nD Cert.GlaFwdRefIdeal.τ).loc Cert.GlaFwdRefIdeal.main_arg2)) (m ((c.tc : Thread Cert.GlaFwdRefIdeal.nD Cert.GlaFwdRefIdeal.τ).loc Cert.GlaFwdRefIdeal.main_arg3))).2.2 = (fun _ => 1#1)

def Pre_GlaBwd (m : (ℓ : Loc Cert.GlaBwd.nD Cert.GlaBwd.τ Cert.GlaBwd.sig) → Buf (Elt Bits) ℓ) : Prop :=
  True

def Pre_GlaBwdIdeal (m : (ℓ : Loc Cert.GlaBwdIdeal.nD Cert.GlaBwdIdeal.τ Cert.GlaBwdIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_bwd_finite [hPre_conv_bwd_finite : Cert.Pre_conv_bwd_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_bwd_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).1 = (fun _ => 1#1)
    ∧ (Cert.Pre_conv_bwd_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.1 = (fun _ => 1#1)
    ∧ (Cert.Pre_conv_bwd_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.1 = (fun _ => 1#1)
    ∧ (Cert.Pre_conv_bwd_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.2.1 = (fun _ => 1#1)
    ∧ (Cert.Pre_conv_bwd_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.2.2.1 = (fun _ => 1#1)
    ∧ (Cert.Pre_conv_bwd_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.2.2.2 = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_conv_bwd_finite [hPre_conv_bwd_finite : Cert.Pre_conv_bwd_finite.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_conv_bwd_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).1 = (fun _ => 1#1)
    ∧ (Cert.Pre_conv_bwd_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.1 = (fun _ => 1#1)
    ∧ (Cert.Pre_conv_bwd_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.2.1 = (fun _ => 1#1)
    ∧ (Cert.Pre_conv_bwd_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.2.2.1 = (fun _ => 1#1)
    ∧ (Cert.Pre_conv_bwd_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.2.2.2.1 = (fun _ => 1#1)
    ∧ (Cert.Pre_conv_bwd_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.2.2.2.2 = (fun _ => 1#1)

def Pre_MixUp (m : (ℓ : Loc Cert.MixUp.nD Cert.MixUp.τ Cert.MixUp.sig) → Buf (Elt Bits) ℓ) : Prop :=
  True

def Pre_MixUpIdeal (m : (ℓ : Loc Cert.MixUpIdeal.nD Cert.MixUpIdeal.τ Cert.MixUpIdeal.sig) → Buf (Elt Ideal) ℓ) : Prop :=
  True

def Pre_MixUpRefIdeal (m : (ℓ : Loc Cert.MixUpRefIdeal.nD Cert.MixUpRefIdeal.τ Cert.MixUpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjFwdRefIdeal (m : (ℓ : Loc Cert.InProjFwdRefIdeal.nD Cert.InProjFwdRefIdeal.τ Cert.InProjFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4))
      ∧ r.2.sem = fun _ => 0)

def quiescent_InProjBwdIdeal_pre_in_proj_finite [hInProjBwdIdeal : Cert.InProjBwdIdeal.Facts] [hPre_in_proj_finite : Cert.Pre_in_proj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_in_proj_finite m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_in_proj_finite [hInProjRefIdeal : Cert.InProjRefIdeal.Facts] [hPre_in_proj_finite : Cert.Pre_in_proj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_proj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossIdeal_pre_ffn_down_loss_finite [hDownLossIdeal : Cert.DownLossIdeal.Facts] [hPre_ffn_down_loss_finite : Cert.Pre_ffn_down_loss_finite.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal_ffn_down_loss_finite m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_DownLossRefIdeal_pre_ffn_down_loss_finite [hDownLossRefIdeal : Cert.DownLossRefIdeal.Facts] [hPre_ffn_down_loss_finite : Cert.Pre_ffn_down_loss_finite.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal_ffn_down_loss_finite m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3))
      ∧ r.2.sem = fun _ => 0)

def quiescent_GlaFwdIdeal_pre_gla_fwd_finite [hGlaFwdIdeal : Cert.GlaFwdIdeal.Facts] [hPre_gla_fwd_finite : Cert.Pre_gla_fwd_finite.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal_gla_fwd_finite m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3))
      ∧ r.2.sem = fun _ => 0)

def quiescent_GlaFwdRefIdeal [hGlaFwdRefIdeal : Cert.GlaFwdRefIdeal.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1)
      ∧ r.2.mem ((c.tc : Thread Cert.GlaFwdRefIdeal.nD Cert.GlaFwdRefIdeal.τ).loc Cert.GlaFwdRefIdeal.main_arg2) = m ((c.tc : Thread Cert.GlaFwdRefIdeal.nD Cert.GlaFwdRefIdeal.τ).loc Cert.GlaFwdRefIdeal.main_arg2)
      ∧ r.2.mem ((c.tc : Thread Cert.GlaFwdRefIdeal.nD Cert.GlaFwdRefIdeal.τ).loc Cert.GlaFwdRefIdeal.main_arg3) = m ((c.tc : Thread Cert.GlaFwdRefIdeal.nD Cert.GlaFwdRefIdeal.τ).loc Cert.GlaFwdRefIdeal.main_arg3))
      ∧ r.2.sem = fun _ => 0)

def quiescent_GlaFwdRefIdeal_pre_gla_fwd_finite [hGlaFwdRefIdeal : Cert.GlaFwdRefIdeal.Facts] [hPre_gla_fwd_finite : Cert.Pre_gla_fwd_finite.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal_gla_fwd_finite m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1)
      ∧ r.2.mem ((c.tc : Thread Cert.GlaFwdRefIdeal.nD Cert.GlaFwdRefIdeal.τ).loc Cert.GlaFwdRefIdeal.main_arg2) = m ((c.tc : Thread Cert.GlaFwdRefIdeal.nD Cert.GlaFwdRefIdeal.τ).loc Cert.GlaFwdRefIdeal.main_arg2)
      ∧ r.2.mem ((c.tc : Thread Cert.GlaFwdRefIdeal.nD Cert.GlaFwdRefIdeal.τ).loc Cert.GlaFwdRefIdeal.main_arg3) = m ((c.tc : Thread Cert.GlaFwdRefIdeal.nD Cert.GlaFwdRefIdeal.τ).loc Cert.GlaFwdRefIdeal.main_arg3))
      ∧ r.2.sem = fun _ => 0)

def quiescent_GlaBwd [hGlaBwd : Cert.GlaBwd.Facts] : Prop :=
  ∀ (m : (ℓ : Loc Cert.GlaBwd.nD Cert.GlaBwd.τ Cert.GlaBwd.sig) → Buf (Elt Bits) ℓ) (g : Dev Cert.GlaBwd.nD → PrngReg), Pre_GlaBwd m →
    θ_run (Cert.GlaBwd.defs (F := Bits)) (onTc (τ := Cert.GlaBwd.τ) (Cert.GlaBwd.main (F := Bits))) ⟨m, fun _ => 0, g⟩ (fun r => (∀ c : Dev Cert.GlaBwd.nD,
      r.2.mem ((c.tc : Thread Cert.GlaBwd.nD Cert.GlaBwd.τ).loc Cert.GlaBwd.main_arg0) = m ((c.tc : Thread Cert.GlaBwd.nD Cert.GlaBwd.τ).loc Cert.GlaBwd.main_arg0)
      ∧ r.2.mem ((c.tc : Thread Cert.GlaBwd.nD Cert.GlaBwd.τ).loc Cert.GlaBwd.main_arg1) = m ((c.tc : Thread Cert.GlaBwd.nD Cert.GlaBwd.τ).loc Cert.GlaBwd.main_arg1)
      ∧ r.2.mem ((c.tc : Thread Cert.GlaBwd.nD Cert.GlaBwd.τ).loc Cert.GlaBwd.main_arg2) = m ((c.tc : Thread Cert.GlaBwd.nD Cert.GlaBwd.τ).loc Cert.GlaBwd.main_arg2)
      ∧ r.2.mem ((c.tc : Thread Cert.GlaBwd.nD Cert.GlaBwd.τ).loc Cert.GlaBwd.main_arg3) = m ((c.tc : Thread Cert.GlaBwd.nD Cert.GlaBwd.τ).loc Cert.GlaBwd.main_arg3)
      ∧ r.2.mem ((c.tc : Thread Cert.GlaBwd.nD Cert.GlaBwd.τ).loc Cert.GlaBwd.main_arg4) = m ((c.tc : Thread Cert.GlaBwd.nD Cert.GlaBwd.τ).loc Cert.GlaBwd.main_arg4))
      ∧ r.2.sem = fun _ => 0)

def quiescent_GlaBwdIdeal [hGlaBwdIdeal : Cert.GlaBwdIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdIdeal_pre_conv_bwd_finite [hConvBwdIdeal : Cert.ConvBwdIdeal.Facts] [hPre_conv_bwd_finite : Cert.Pre_conv_bwd_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_bwd_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def quiescent_ConvBwdRefIdeal_pre_conv_bwd_finite [hConvBwdRefIdeal : Cert.ConvBwdRefIdeal.Facts] [hPre_conv_bwd_finite : Cert.Pre_conv_bwd_finite.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_conv_bwd_finite m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def quiescent_MixUp [hMixUp : Cert.MixUp.Facts] : Prop :=
  ∀ (m : (ℓ : Loc Cert.MixUp.nD Cert.MixUp.τ Cert.MixUp.sig) → Buf (Elt Bits) ℓ) (g : Dev Cert.MixUp.nD → PrngReg), Pre_MixUp m →
    θ_run (Cert.MixUp.defs (F := Bits)) (onTc (τ := Cert.MixUp.τ) (Cert.MixUp.main (F := Bits))) ⟨m, fun _ => 0, g⟩ (fun r => (∀ c : Dev Cert.MixUp.nD,
      r.2.mem ((c.tc : Thread Cert.MixUp.nD Cert.MixUp.τ).loc Cert.MixUp.main_arg0) = m ((c.tc : Thread Cert.MixUp.nD Cert.MixUp.τ).loc Cert.MixUp.main_arg0)
      ∧ r.2.mem ((c.tc : Thread Cert.MixUp.nD Cert.MixUp.τ).loc Cert.MixUp.main_arg1) = m ((c.tc : Thread Cert.MixUp.nD Cert.MixUp.τ).loc Cert.MixUp.main_arg1)
      ∧ r.2.mem ((c.tc : Thread Cert.MixUp.nD Cert.MixUp.τ).loc Cert.MixUp.main_arg2) = m ((c.tc : Thread Cert.MixUp.nD Cert.MixUp.τ).loc Cert.MixUp.main_arg2)
      ∧ r.2.mem ((c.tc : Thread Cert.MixUp.nD Cert.MixUp.τ).loc Cert.MixUp.main_arg3) = m ((c.tc : Thread Cert.MixUp.nD Cert.MixUp.τ).loc Cert.MixUp.main_arg3)
      ∧ r.2.mem ((c.tc : Thread Cert.MixUp.nD Cert.MixUp.τ).loc Cert.MixUp.main_arg4) = m ((c.tc : Thread Cert.MixUp.nD Cert.MixUp.τ).loc Cert.MixUp.main_arg4)
      ∧ r.2.mem ((c.tc : Thread Cert.MixUp.nD Cert.MixUp.τ).loc Cert.MixUp.main_arg5) = m ((c.tc : Thread Cert.MixUp.nD Cert.MixUp.τ).loc Cert.MixUp.main_arg5)
      ∧ r.2.mem ((c.tc : Thread Cert.MixUp.nD Cert.MixUp.τ).loc Cert.MixUp.main_arg6) = m ((c.tc : Thread Cert.MixUp.nD Cert.MixUp.τ).loc Cert.MixUp.main_arg6))
      ∧ r.2.sem = fun _ => 0)

def quiescent_MixUpIdeal [hMixUpIdeal : Cert.MixUpIdeal.Facts] : Prop :=
  ∀ (m : (ℓ : Loc Cert.MixUpIdeal.nD Cert.MixUpIdeal.τ Cert.MixUpIdeal.sig) → Buf (Elt Ideal) ℓ) (g : Dev Cert.MixUpIdeal.nD → PrngReg), Pre_MixUpIdeal m →
    θ_run (Cert.MixUpIdeal.defs (F := Ideal)) (onTc (τ := Cert.MixUpIdeal.τ) (Cert.MixUpIdeal.main (F := Ideal))) ⟨m, fun _ => 0, g⟩ (fun r => (∀ c : Dev Cert.MixUpIdeal.nD,
      r.2.mem ((c.tc : Thread Cert.MixUpIdeal.nD Cert.MixUpIdeal.τ).loc Cert.MixUpIdeal.main_arg0) = m ((c.tc : Thread Cert.MixUpIdeal.nD Cert.MixUpIdeal.τ).loc Cert.MixUpIdeal.main_arg0)
      ∧ r.2.mem ((c.tc : Thread Cert.MixUpIdeal.nD Cert.MixUpIdeal.τ).loc Cert.MixUpIdeal.main_arg1) = m ((c.tc : Thread Cert.MixUpIdeal.nD Cert.MixUpIdeal.τ).loc Cert.MixUpIdeal.main_arg1)
      ∧ r.2.mem ((c.tc : Thread Cert.MixUpIdeal.nD Cert.MixUpIdeal.τ).loc Cert.MixUpIdeal.main_arg2) = m ((c.tc : Thread Cert.MixUpIdeal.nD Cert.MixUpIdeal.τ).loc Cert.MixUpIdeal.main_arg2)
      ∧ r.2.mem ((c.tc : Thread Cert.MixUpIdeal.nD Cert.MixUpIdeal.τ).loc Cert.MixUpIdeal.main_arg3) = m ((c.tc : Thread Cert.MixUpIdeal.nD Cert.MixUpIdeal.τ).loc Cert.MixUpIdeal.main_arg3)
      ∧ r.2.mem ((c.tc : Thread Cert.MixUpIdeal.nD Cert.MixUpIdeal.τ).loc Cert.MixUpIdeal.main_arg4) = m ((c.tc : Thread Cert.MixUpIdeal.nD Cert.MixUpIdeal.τ).loc Cert.MixUpIdeal.main_arg4)
      ∧ r.2.mem ((c.tc : Thread Cert.MixUpIdeal.nD Cert.MixUpIdeal.τ).loc Cert.MixUpIdeal.main_arg5) = m ((c.tc : Thread Cert.MixUpIdeal.nD Cert.MixUpIdeal.τ).loc Cert.MixUpIdeal.main_arg5)
      ∧ r.2.mem ((c.tc : Thread Cert.MixUpIdeal.nD Cert.MixUpIdeal.τ).loc Cert.MixUpIdeal.main_arg6) = m ((c.tc : Thread Cert.MixUpIdeal.nD Cert.MixUpIdeal.τ).loc Cert.MixUpIdeal.main_arg6))
      ∧ r.2.sem = fun _ => 0)

def quiescent_MixUpRefIdeal [hMixUpRefIdeal : Cert.MixUpRefIdeal.Facts] : Prop :=
  ∀ (m : (ℓ : Loc Cert.MixUpRefIdeal.nD Cert.MixUpRefIdeal.τ Cert.MixUpRefIdeal.sig) → Buf (Elt Ideal) ℓ) (g : Dev Cert.MixUpRefIdeal.nD → PrngReg), Pre_MixUpRefIdeal m →
    θ_run (Cert.MixUpRefIdeal.defs (F := Ideal)) (onTc (τ := Cert.MixUpRefIdeal.τ) (Cert.MixUpRefIdeal.main (F := Ideal))) ⟨m, fun _ => 0, g⟩ (fun r => (∀ c : Dev Cert.MixUpRefIdeal.nD,
      r.2.mem ((c.tc : Thread Cert.MixUpRefIdeal.nD Cert.MixUpRefIdeal.τ).loc Cert.MixUpRefIdeal.main_arg0) = m ((c.tc : Thread Cert.MixUpRefIdeal.nD Cert.MixUpRefIdeal.τ).loc Cert.MixUpRefIdeal.main_arg0)
      ∧ r.2.mem ((c.tc : Thread Cert.MixUpRefIdeal.nD Cert.MixUpRefIdeal.τ).loc Cert.MixUpRefIdeal.main_arg1) = m ((c.tc : Thread Cert.MixUpRefIdeal.nD Cert.MixUpRefIdeal.τ).loc Cert.MixUpRefIdeal.main_arg1)
      ∧ r.2.mem ((c.tc : Thread Cert.MixUpRefIdeal.nD Cert.MixUpRefIdeal.τ).loc Cert.MixUpRefIdeal.main_arg2) = m ((c.tc : Thread Cert.MixUpRefIdeal.nD Cert.MixUpRefIdeal.τ).loc Cert.MixUpRefIdeal.main_arg2)
      ∧ r.2.mem ((c.tc : Thread Cert.MixUpRefIdeal.nD Cert.MixUpRefIdeal.τ).loc Cert.MixUpRefIdeal.main_arg3) = m ((c.tc : Thread Cert.MixUpRefIdeal.nD Cert.MixUpRefIdeal.τ).loc Cert.MixUpRefIdeal.main_arg3)
      ∧ r.2.mem ((c.tc : Thread Cert.MixUpRefIdeal.nD Cert.MixUpRefIdeal.τ).loc Cert.MixUpRefIdeal.main_arg4) = m ((c.tc : Thread Cert.MixUpRefIdeal.nD Cert.MixUpRefIdeal.τ).loc Cert.MixUpRefIdeal.main_arg4)
      ∧ r.2.mem ((c.tc : Thread Cert.MixUpRefIdeal.nD Cert.MixUpRefIdeal.τ).loc Cert.MixUpRefIdeal.main_arg5) = m ((c.tc : Thread Cert.MixUpRefIdeal.nD Cert.MixUpRefIdeal.τ).loc Cert.MixUpRefIdeal.main_arg5)
      ∧ r.2.mem ((c.tc : Thread Cert.MixUpRefIdeal.nD Cert.MixUpRefIdeal.τ).loc Cert.MixUpRefIdeal.main_arg6) = m ((c.tc : Thread Cert.MixUpRefIdeal.nD Cert.MixUpRefIdeal.τ).loc Cert.MixUpRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjFwdRefIdeal [hInProjFwdRefIdeal : Cert.InProjFwdRefIdeal.Facts] : Prop :=
  ∀ (m : (ℓ : Loc Cert.InProjFwdRefIdeal.nD Cert.InProjFwdRefIdeal.τ Cert.InProjFwdRefIdeal.sig) → Buf (Elt Ideal) ℓ) (g : Dev Cert.InProjFwdRefIdeal.nD → PrngReg), Pre_InProjFwdRefIdeal m →
    θ_run (Cert.InProjFwdRefIdeal.defs (F := Ideal)) (onTc (τ := Cert.InProjFwdRefIdeal.τ) (Cert.InProjFwdRefIdeal.main (F := Ideal))) ⟨m, fun _ => 0, g⟩ (fun r => (∀ c : Dev Cert.InProjFwdRefIdeal.nD,
      r.2.mem ((c.tc : Thread Cert.InProjFwdRefIdeal.nD Cert.InProjFwdRefIdeal.τ).loc Cert.InProjFwdRefIdeal.main_arg0) = m ((c.tc : Thread Cert.InProjFwdRefIdeal.nD Cert.InProjFwdRefIdeal.τ).loc Cert.InProjFwdRefIdeal.main_arg0)
      ∧ r.2.mem ((c.tc : Thread Cert.InProjFwdRefIdeal.nD Cert.InProjFwdRefIdeal.τ).loc Cert.InProjFwdRefIdeal.main_arg1) = m ((c.tc : Thread Cert.InProjFwdRefIdeal.nD Cert.InProjFwdRefIdeal.τ).loc Cert.InProjFwdRefIdeal.main_arg1)
      ∧ r.2.mem ((c.tc : Thread Cert.InProjFwdRefIdeal.nD Cert.InProjFwdRefIdeal.τ).loc Cert.InProjFwdRefIdeal.main_arg2) = m ((c.tc : Thread Cert.InProjFwdRefIdeal.nD Cert.InProjFwdRefIdeal.τ).loc Cert.InProjFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def preserves_InProjBwd_InProjBwdIdeal : Prop :=
  True

def algebraic_InProjBwdIdeal_InProjRefIdeal_pre_in_proj_finite [hInProjBwdIdeal : Cert.InProjBwdIdeal.Facts] [hInProjRefIdeal : Cert.InProjRefIdeal.Facts] [hPre_in_proj_finite : Cert.Pre_in_proj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjBwdIdeal_in_proj_finite m →
    (∀ c : Dev Cert.InProjBwdIdeal.nD,
      m' ((c.tc : Thread Cert.InProjRefIdeal.nD Cert.InProjRefIdeal.τ).loc Cert.InProjRefIdeal.main_arg0) = m ((c.tc : Thread Cert.InProjBwdIdeal.nD Cert.InProjBwdIdeal.τ).loc Cert.InProjBwdIdeal.main_arg0)
      ∧ m' ((c.tc : Thread Cert.InProjRefIdeal.nD Cert.InProjRefIdeal.τ).loc Cert.InProjRefIdeal.main_arg1) = m ((c.tc : Thread Cert.InProjBwdIdeal.nD Cert.InProjBwdIdeal.τ).loc Cert.InProjBwdIdeal.main_arg1)
      ∧ m' ((c.tc : Thread Cert.InProjRefIdeal.nD Cert.InProjRefIdeal.τ).loc Cert.InProjRefIdeal.main_arg2) = m ((c.tc : Thread Cert.InProjBwdIdeal.nD Cert.InProjBwdIdeal.τ).loc Cert.InProjBwdIdeal.main_arg2)
      ∧ m' ((c.tc : Thread Cert.InProjRefIdeal.nD Cert.InProjRefIdeal.τ).loc Cert.InProjRefIdeal.main_arg3) = m ((c.tc : Thread Cert.InProjBwdIdeal.nD Cert.InProjBwdIdeal.τ).loc Cert.InProjBwdIdeal.main_arg3)
      ∧ m' ((c.tc : Thread Cert.InProjRefIdeal.nD Cert.InProjRefIdeal.τ).loc Cert.InProjRefIdeal.main_arg4) = m ((c.tc : Thread Cert.InProjBwdIdeal.nD Cert.InProjBwdIdeal.τ).loc Cert.InProjBwdIdeal.main_arg4)) →
    ∃ (v0 : (c : Dev Cert.InProjBwdIdeal.nD) → Buf (Elt Ideal) ((c.tc : Thread Cert.InProjBwdIdeal.nD Cert.InProjBwdIdeal.τ).loc Cert.InProjBwdIdeal.main_v17_0)) (v1 : (c : Dev Cert.InProjBwdIdeal.nD) → Buf (Elt Ideal) ((c.tc : Thread Cert.InProjBwdIdeal.nD Cert.InProjBwdIdeal.τ).loc Cert.InProjBwdIdeal.main_v17_1)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v17_0) = v0 c
          ∧ r.2.mem ((c.tc : Thread Cert.InProjBwdIdeal.nD Cert.InProjBwdIdeal.τ).loc Cert.InProjBwdIdeal.main_v17_1) = v1 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v43) = v0 c
          ∧ r.2.mem ((c.tc : Thread Cert.InProjRefIdeal.nD Cert.InProjRefIdeal.τ).loc Cert.InProjRefIdeal.main_v41) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)
      ∧ m' ((c.tc : Thread Cert.FfnRefIdeal.nD Cert.FfnRefIdeal.τ).loc Cert.FfnRefIdeal.main_arg6) = m ((c.tc : Thread Cert.FfnBwdIdeal.nD Cert.FfnBwdIdeal.τ).loc Cert.FfnBwdIdeal.main_arg6)) →
    ∃ (v0 : (c : Dev Cert.FfnBwdIdeal.nD) → Buf (Elt Ideal) ((c.tc : Thread Cert.FfnBwdIdeal.nD Cert.FfnBwdIdeal.τ).loc Cert.FfnBwdIdeal.main_v39_0)) (v1 : (c : Dev Cert.FfnBwdIdeal.nD) → Buf (Elt Ideal) ((c.tc : Thread Cert.FfnBwdIdeal.nD Cert.FfnBwdIdeal.τ).loc Cert.FfnBwdIdeal.main_v39_1)) (v2 : (c : Dev Cert.FfnBwdIdeal.nD) → Buf (Elt Ideal) ((c.tc : Thread Cert.FfnBwdIdeal.nD Cert.FfnBwdIdeal.τ).loc Cert.FfnBwdIdeal.main_v39_2)) (v3 : (c : Dev Cert.FfnBwdIdeal.nD) → Buf (Elt Ideal) ((c.tc : Thread Cert.FfnBwdIdeal.nD Cert.FfnBwdIdeal.τ).loc Cert.FfnBwdIdeal.main_v39_3)) (v4 : (c : Dev Cert.FfnBwdIdeal.nD) → Buf (Elt Ideal) ((c.tc : Thread Cert.FfnBwdIdeal.nD Cert.FfnBwdIdeal.τ).loc Cert.FfnBwdIdeal.main_v39_4)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v39_0) = v0 c
          ∧ r.2.mem ((c.tc : Thread Cert.FfnBwdIdeal.nD Cert.FfnBwdIdeal.τ).loc Cert.FfnBwdIdeal.main_v39_1) = v1 c
          ∧ r.2.mem ((c.tc : Thread Cert.FfnBwdIdeal.nD Cert.FfnBwdIdeal.τ).loc Cert.FfnBwdIdeal.main_v39_2) = v2 c
          ∧ r.2.mem ((c.tc : Thread Cert.FfnBwdIdeal.nD Cert.FfnBwdIdeal.τ).loc Cert.FfnBwdIdeal.main_v39_3) = v3 c
          ∧ r.2.mem ((c.tc : Thread Cert.FfnBwdIdeal.nD Cert.FfnBwdIdeal.τ).loc Cert.FfnBwdIdeal.main_v39_4) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v62) = v0 c
          ∧ r.2.mem ((c.tc : Thread Cert.FfnRefIdeal.nD Cert.FfnRefIdeal.τ).loc Cert.FfnRefIdeal.main_v65) = v1 c
          ∧ r.2.mem ((c.tc : Thread Cert.FfnRefIdeal.nD Cert.FfnRefIdeal.τ).loc Cert.FfnRefIdeal.main_v67) = v2 c
          ∧ r.2.mem ((c.tc : Thread Cert.FfnRefIdeal.nD Cert.FfnRefIdeal.τ).loc Cert.FfnRefIdeal.main_v69) = v3 c
          ∧ r.2.mem ((c.tc : Thread Cert.FfnRefIdeal.nD Cert.FfnRefIdeal.τ).loc Cert.FfnRefIdeal.main_v55) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_DownLoss_DownLossIdeal : Prop :=
  True

def algebraic_DownLossIdeal_DownLossRefIdeal_pre_ffn_down_loss_finite [hDownLossIdeal : Cert.DownLossIdeal.Facts] [hDownLossRefIdeal : Cert.DownLossRefIdeal.Facts] [hPre_ffn_down_loss_finite : Cert.Pre_ffn_down_loss_finite.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal_ffn_down_loss_finite m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v14_0)) (v1 : (c : Dev Cert.DownLossIdeal.nD) → Buf (Elt Ideal) ((c.tc : Thread Cert.DownLossIdeal.nD Cert.DownLossIdeal.τ).loc Cert.DownLossIdeal.main_v14_1)) (v2 : (c : Dev Cert.DownLossIdeal.nD) → Buf (Elt Ideal) ((c.tc : Thread Cert.DownLossIdeal.nD Cert.DownLossIdeal.τ).loc Cert.DownLossIdeal.main_v14_2)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v14_0) = v0 c
          ∧ r.2.mem ((c.tc : Thread Cert.DownLossIdeal.nD Cert.DownLossIdeal.τ).loc Cert.DownLossIdeal.main_v14_1) = v1 c
          ∧ r.2.mem ((c.tc : Thread Cert.DownLossIdeal.nD Cert.DownLossIdeal.τ).loc Cert.DownLossIdeal.main_v14_2) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v57) = v0 c
          ∧ r.2.mem ((c.tc : Thread Cert.DownLossRefIdeal.nD Cert.DownLossRefIdeal.τ).loc Cert.DownLossRefIdeal.main_v58) = v1 c
          ∧ r.2.mem ((c.tc : Thread Cert.DownLossRefIdeal.nD Cert.DownLossRefIdeal.τ).loc Cert.DownLossRefIdeal.main_v59) = v2 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_GlaFwd_GlaFwdIdeal : Prop :=
  True

def algebraic_GlaFwdIdeal_GlaFwdRefIdeal_pre_gla_fwd_finite [hGlaFwdIdeal : Cert.GlaFwdIdeal.Facts] [hGlaFwdRefIdeal : Cert.GlaFwdRefIdeal.Facts] [hPre_gla_fwd_finite : Cert.Pre_gla_fwd_finite.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFwdRefIdeal.nD Cert.GlaFwdRefIdeal.τ Cert.GlaFwdRefIdeal.sig) → Buf (Elt Ideal) ℓ) (g' : Dev Cert.GlaFwdRefIdeal.nD → PrngReg), Pre_GlaFwdIdeal_gla_fwd_finite m →
    (∀ c : Dev Cert.GlaFwdIdeal.nD,
      m' ((c.tc : Thread Cert.GlaFwdRefIdeal.nD Cert.GlaFwdRefIdeal.τ).loc Cert.GlaFwdRefIdeal.main_arg0) = m ((c.tc : Thread Cert.GlaFwdIdeal.nD Cert.GlaFwdIdeal.τ).loc Cert.GlaFwdIdeal.main_arg0)
      ∧ m' ((c.tc : Thread Cert.GlaFwdRefIdeal.nD Cert.GlaFwdRefIdeal.τ).loc Cert.GlaFwdRefIdeal.main_arg1) = m ((c.tc : Thread Cert.GlaFwdIdeal.nD Cert.GlaFwdIdeal.τ).loc Cert.GlaFwdIdeal.main_arg1)
      ∧ m' ((c.tc : Thread Cert.GlaFwdRefIdeal.nD Cert.GlaFwdRefIdeal.τ).loc Cert.GlaFwdRefIdeal.main_arg2) = m ((c.tc : Thread Cert.GlaFwdIdeal.nD Cert.GlaFwdIdeal.τ).loc Cert.GlaFwdIdeal.main_arg2)
      ∧ m' ((c.tc : Thread Cert.GlaFwdRefIdeal.nD Cert.GlaFwdRefIdeal.τ).loc Cert.GlaFwdRefIdeal.main_arg3) = m ((c.tc : Thread Cert.GlaFwdIdeal.nD Cert.GlaFwdIdeal.τ).loc Cert.GlaFwdIdeal.main_arg3)) →
    ∃ (v0 : (c : Dev Cert.GlaFwdIdeal.nD) → Buf (Elt Ideal) ((c.tc : Thread Cert.GlaFwdIdeal.nD Cert.GlaFwdIdeal.τ).loc Cert.GlaFwdIdeal.main_v7_0)) (v1 : (c : Dev Cert.GlaFwdIdeal.nD) → Buf (Elt Ideal) ((c.tc : Thread Cert.GlaFwdIdeal.nD Cert.GlaFwdIdeal.τ).loc Cert.GlaFwdIdeal.main_v7_1)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v7_0) = v0 c
          ∧ r.2.mem ((c.tc : Thread Cert.GlaFwdIdeal.nD Cert.GlaFwdIdeal.τ).loc Cert.GlaFwdIdeal.main_v7_1) = v1 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
          ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3))
      ∧ θ_run (Cert.GlaFwdRefIdeal.defs (F := Ideal)) (onTc (τ := Cert.GlaFwdRefIdeal.τ) (Cert.GlaFwdRefIdeal.main (F := Ideal))) ⟨m', fun _ => 0, g'⟩ (fun r => ∀ c : Dev Cert.GlaFwdRefIdeal.nD,
          r.2.mem ((c.tc : Thread Cert.GlaFwdRefIdeal.nD Cert.GlaFwdRefIdeal.τ).loc Cert.GlaFwdRefIdeal.main_v78) = v0 c
          ∧ r.2.mem ((c.tc : Thread Cert.GlaFwdRefIdeal.nD Cert.GlaFwdRefIdeal.τ).loc Cert.GlaFwdRefIdeal.main_v80) = v1 c
          ∧ r.2.mem ((c.tc : Thread Cert.GlaFwdRefIdeal.nD Cert.GlaFwdRefIdeal.τ).loc Cert.GlaFwdRefIdeal.main_arg0) = m' ((c.tc : Thread Cert.GlaFwdRefIdeal.nD Cert.GlaFwdRefIdeal.τ).loc Cert.GlaFwdRefIdeal.main_arg0)
          ∧ r.2.mem ((c.tc : Thread Cert.GlaFwdRefIdeal.nD Cert.GlaFwdRefIdeal.τ).loc Cert.GlaFwdRefIdeal.main_arg1) = m' ((c.tc : Thread Cert.GlaFwdRefIdeal.nD Cert.GlaFwdRefIdeal.τ).loc Cert.GlaFwdRefIdeal.main_arg1)
          ∧ r.2.mem ((c.tc : Thread Cert.GlaFwdRefIdeal.nD Cert.GlaFwdRefIdeal.τ).loc Cert.GlaFwdRefIdeal.main_arg2) = m' ((c.tc : Thread Cert.GlaFwdRefIdeal.nD Cert.GlaFwdRefIdeal.τ).loc Cert.GlaFwdRefIdeal.main_arg2)
          ∧ r.2.mem ((c.tc : Thread Cert.GlaFwdRefIdeal.nD Cert.GlaFwdRefIdeal.τ).loc Cert.GlaFwdRefIdeal.main_arg3) = m' ((c.tc : Thread Cert.GlaFwdRefIdeal.nD Cert.GlaFwdRefIdeal.τ).loc Cert.GlaFwdRefIdeal.main_arg3))

def preserves_GlaBwd_GlaBwdIdeal : Prop :=
  True

def preserves_ConvBwd_ConvBwdIdeal : Prop :=
  True

def algebraic_ConvBwdIdeal_ConvBwdRefIdeal_pre_conv_bwd_finite [hConvBwdIdeal : Cert.ConvBwdIdeal.Facts] [hConvBwdRefIdeal : Cert.ConvBwdRefIdeal.Facts] [hPre_conv_bwd_finite : Cert.Pre_conv_bwd_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_conv_bwd_finite m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)
      ∧ m' ((c.tc : Thread Cert.ConvBwdRefIdeal.nD Cert.ConvBwdRefIdeal.τ).loc Cert.ConvBwdRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v94_2)) (v1 : (c : Dev Cert.ConvBwdIdeal.nD) → Buf (Elt Ideal) ((c.tc : Thread Cert.ConvBwdIdeal.nD Cert.ConvBwdIdeal.τ).loc Cert.ConvBwdIdeal.main_v94_3)) (v2 : (c : Dev Cert.ConvBwdIdeal.nD) → Buf (Elt Ideal) ((c.tc : Thread Cert.ConvBwdIdeal.nD Cert.ConvBwdIdeal.τ).loc Cert.ConvBwdIdeal.main_v94_4)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v94_2) = v0 c
          ∧ r.2.mem ((c.tc : Thread Cert.ConvBwdIdeal.nD Cert.ConvBwdIdeal.τ).loc Cert.ConvBwdIdeal.main_v94_3) = v1 c
          ∧ r.2.mem ((c.tc : Thread Cert.ConvBwdIdeal.nD Cert.ConvBwdIdeal.τ).loc Cert.ConvBwdIdeal.main_v94_4) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v155) = v0 c
          ∧ r.2.mem ((c.tc : Thread Cert.ConvBwdRefIdeal.nD Cert.ConvBwdRefIdeal.τ).loc Cert.ConvBwdRefIdeal.main_v156) = v1 c
          ∧ r.2.mem ((c.tc : Thread Cert.ConvBwdRefIdeal.nD Cert.ConvBwdRefIdeal.τ).loc Cert.ConvBwdRefIdeal.main_v157) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4)
          ∧ r.2.mem ((c.tc : Thread Cert.ConvBwdRefIdeal.nD Cert.ConvBwdRefIdeal.τ).loc Cert.ConvBwdRefIdeal.main_arg5) = m' ((c.tc : Thread Cert.ConvBwdRefIdeal.nD Cert.ConvBwdRefIdeal.τ).loc Cert.ConvBwdRefIdeal.main_arg5))

def preserves_MixUp_MixUpIdeal : Prop :=
  True

def algebraic_MixUpIdeal_MixUpRefIdeal [hMixUpIdeal : Cert.MixUpIdeal.Facts] [hMixUpRefIdeal : Cert.MixUpRefIdeal.Facts] : Prop :=
  ∀ (m : (ℓ : Loc Cert.MixUpIdeal.nD Cert.MixUpIdeal.τ Cert.MixUpIdeal.sig) → Buf (Elt Ideal) ℓ) (g : Dev Cert.MixUpIdeal.nD → PrngReg)
    (m' : (ℓ : Loc Cert.MixUpRefIdeal.nD Cert.MixUpRefIdeal.τ Cert.MixUpRefIdeal.sig) → Buf (Elt Ideal) ℓ) (g' : Dev Cert.MixUpRefIdeal.nD → PrngReg), Pre_MixUpIdeal m →
    (∀ c : Dev Cert.MixUpIdeal.nD,
      m' ((c.tc : Thread Cert.MixUpRefIdeal.nD Cert.MixUpRefIdeal.τ).loc Cert.MixUpRefIdeal.main_arg0) = m ((c.tc : Thread Cert.MixUpIdeal.nD Cert.MixUpIdeal.τ).loc Cert.MixUpIdeal.main_arg0)
      ∧ m' ((c.tc : Thread Cert.MixUpRefIdeal.nD Cert.MixUpRefIdeal.τ).loc Cert.MixUpRefIdeal.main_arg1) = m ((c.tc : Thread Cert.MixUpIdeal.nD Cert.MixUpIdeal.τ).loc Cert.MixUpIdeal.main_arg1)
      ∧ m' ((c.tc : Thread Cert.MixUpRefIdeal.nD Cert.MixUpRefIdeal.τ).loc Cert.MixUpRefIdeal.main_arg2) = m ((c.tc : Thread Cert.MixUpIdeal.nD Cert.MixUpIdeal.τ).loc Cert.MixUpIdeal.main_arg2)
      ∧ m' ((c.tc : Thread Cert.MixUpRefIdeal.nD Cert.MixUpRefIdeal.τ).loc Cert.MixUpRefIdeal.main_arg3) = m ((c.tc : Thread Cert.MixUpIdeal.nD Cert.MixUpIdeal.τ).loc Cert.MixUpIdeal.main_arg3)
      ∧ m' ((c.tc : Thread Cert.MixUpRefIdeal.nD Cert.MixUpRefIdeal.τ).loc Cert.MixUpRefIdeal.main_arg4) = m ((c.tc : Thread Cert.MixUpIdeal.nD Cert.MixUpIdeal.τ).loc Cert.MixUpIdeal.main_arg4)
      ∧ m' ((c.tc : Thread Cert.MixUpRefIdeal.nD Cert.MixUpRefIdeal.τ).loc Cert.MixUpRefIdeal.main_arg5) = m ((c.tc : Thread Cert.MixUpIdeal.nD Cert.MixUpIdeal.τ).loc Cert.MixUpIdeal.main_arg5)
      ∧ m' ((c.tc : Thread Cert.MixUpRefIdeal.nD Cert.MixUpRefIdeal.τ).loc Cert.MixUpRefIdeal.main_arg6) = m ((c.tc : Thread Cert.MixUpIdeal.nD Cert.MixUpIdeal.τ).loc Cert.MixUpIdeal.main_arg6)) →
    ∃ (v0 : (c : Dev Cert.MixUpIdeal.nD) → Buf (Elt Ideal) ((c.tc : Thread Cert.MixUpIdeal.nD Cert.MixUpIdeal.τ).loc Cert.MixUpIdeal.main_v18_0)) (v1 : (c : Dev Cert.MixUpIdeal.nD) → Buf (Elt Ideal) ((c.tc : Thread Cert.MixUpIdeal.nD Cert.MixUpIdeal.τ).loc Cert.MixUpIdeal.main_v18_1)) (v2 : (c : Dev Cert.MixUpIdeal.nD) → Buf (Elt Ideal) ((c.tc : Thread Cert.MixUpIdeal.nD Cert.MixUpIdeal.τ).loc Cert.MixUpIdeal.main_v18_2)) (v3 : (c : Dev Cert.MixUpIdeal.nD) → Buf (Elt Ideal) ((c.tc : Thread Cert.MixUpIdeal.nD Cert.MixUpIdeal.τ).loc Cert.MixUpIdeal.main_v18_3)) (v4 : (c : Dev Cert.MixUpIdeal.nD) → Buf (Elt Ideal) ((c.tc : Thread Cert.MixUpIdeal.nD Cert.MixUpIdeal.τ).loc Cert.MixUpIdeal.main_v18_4)),
      θ_run (Cert.MixUpIdeal.defs (F := Ideal)) (onTc (τ := Cert.MixUpIdeal.τ) (Cert.MixUpIdeal.main (F := Ideal))) ⟨m, fun _ => 0, g⟩ (fun r => ∀ c : Dev Cert.MixUpIdeal.nD,
          r.2.mem ((c.tc : Thread Cert.MixUpIdeal.nD Cert.MixUpIdeal.τ).loc Cert.MixUpIdeal.main_v18_0) = v0 c
          ∧ r.2.mem ((c.tc : Thread Cert.MixUpIdeal.nD Cert.MixUpIdeal.τ).loc Cert.MixUpIdeal.main_v18_1) = v1 c
          ∧ r.2.mem ((c.tc : Thread Cert.MixUpIdeal.nD Cert.MixUpIdeal.τ).loc Cert.MixUpIdeal.main_v18_2) = v2 c
          ∧ r.2.mem ((c.tc : Thread Cert.MixUpIdeal.nD Cert.MixUpIdeal.τ).loc Cert.MixUpIdeal.main_v18_3) = v3 c
          ∧ r.2.mem ((c.tc : Thread Cert.MixUpIdeal.nD Cert.MixUpIdeal.τ).loc Cert.MixUpIdeal.main_v18_4) = v4 c
          ∧ r.2.mem ((c.tc : Thread Cert.MixUpIdeal.nD Cert.MixUpIdeal.τ).loc Cert.MixUpIdeal.main_arg0) = m ((c.tc : Thread Cert.MixUpIdeal.nD Cert.MixUpIdeal.τ).loc Cert.MixUpIdeal.main_arg0)
          ∧ r.2.mem ((c.tc : Thread Cert.MixUpIdeal.nD Cert.MixUpIdeal.τ).loc Cert.MixUpIdeal.main_arg1) = m ((c.tc : Thread Cert.MixUpIdeal.nD Cert.MixUpIdeal.τ).loc Cert.MixUpIdeal.main_arg1)
          ∧ r.2.mem ((c.tc : Thread Cert.MixUpIdeal.nD Cert.MixUpIdeal.τ).loc Cert.MixUpIdeal.main_arg2) = m ((c.tc : Thread Cert.MixUpIdeal.nD Cert.MixUpIdeal.τ).loc Cert.MixUpIdeal.main_arg2)
          ∧ r.2.mem ((c.tc : Thread Cert.MixUpIdeal.nD Cert.MixUpIdeal.τ).loc Cert.MixUpIdeal.main_arg3) = m ((c.tc : Thread Cert.MixUpIdeal.nD Cert.MixUpIdeal.τ).loc Cert.MixUpIdeal.main_arg3)
          ∧ r.2.mem ((c.tc : Thread Cert.MixUpIdeal.nD Cert.MixUpIdeal.τ).loc Cert.MixUpIdeal.main_arg4) = m ((c.tc : Thread Cert.MixUpIdeal.nD Cert.MixUpIdeal.τ).loc Cert.MixUpIdeal.main_arg4)
          ∧ r.2.mem ((c.tc : Thread Cert.MixUpIdeal.nD Cert.MixUpIdeal.τ).loc Cert.MixUpIdeal.main_arg5) = m ((c.tc : Thread Cert.MixUpIdeal.nD Cert.MixUpIdeal.τ).loc Cert.MixUpIdeal.main_arg5)
          ∧ r.2.mem ((c.tc : Thread Cert.MixUpIdeal.nD Cert.MixUpIdeal.τ).loc Cert.MixUpIdeal.main_arg6) = m ((c.tc : Thread Cert.MixUpIdeal.nD Cert.MixUpIdeal.τ).loc Cert.MixUpIdeal.main_arg6))
      ∧ θ_run (Cert.MixUpRefIdeal.defs (F := Ideal)) (onTc (τ := Cert.MixUpRefIdeal.τ) (Cert.MixUpRefIdeal.main (F := Ideal))) ⟨m', fun _ => 0, g'⟩ (fun r => ∀ c : Dev Cert.MixUpRefIdeal.nD,
          r.2.mem ((c.tc : Thread Cert.MixUpRefIdeal.nD Cert.MixUpRefIdeal.τ).loc Cert.MixUpRefIdeal.main_v23) = v0 c
          ∧ r.2.mem ((c.tc : Thread Cert.MixUpRefIdeal.nD Cert.MixUpRefIdeal.τ).loc Cert.MixUpRefIdeal.main_v26) = v1 c
          ∧ r.2.mem ((c.tc : Thread Cert.MixUpRefIdeal.nD Cert.MixUpRefIdeal.τ).loc Cert.MixUpRefIdeal.main_v28) = v2 c
          ∧ r.2.mem ((c.tc : Thread Cert.MixUpRefIdeal.nD Cert.MixUpRefIdeal.τ).loc Cert.MixUpRefIdeal.main_v30) = v3 c
          ∧ r.2.mem ((c.tc : Thread Cert.MixUpRefIdeal.nD Cert.MixUpRefIdeal.τ).loc Cert.MixUpRefIdeal.main_v35) = v4 c
          ∧ r.2.mem ((c.tc : Thread Cert.MixUpRefIdeal.nD Cert.MixUpRefIdeal.τ).loc Cert.MixUpRefIdeal.main_arg0) = m' ((c.tc : Thread Cert.MixUpRefIdeal.nD Cert.MixUpRefIdeal.τ).loc Cert.MixUpRefIdeal.main_arg0)
          ∧ r.2.mem ((c.tc : Thread Cert.MixUpRefIdeal.nD Cert.MixUpRefIdeal.τ).loc Cert.MixUpRefIdeal.main_arg1) = m' ((c.tc : Thread Cert.MixUpRefIdeal.nD Cert.MixUpRefIdeal.τ).loc Cert.MixUpRefIdeal.main_arg1)
          ∧ r.2.mem ((c.tc : Thread Cert.MixUpRefIdeal.nD Cert.MixUpRefIdeal.τ).loc Cert.MixUpRefIdeal.main_arg2) = m' ((c.tc : Thread Cert.MixUpRefIdeal.nD Cert.MixUpRefIdeal.τ).loc Cert.MixUpRefIdeal.main_arg2)
          ∧ r.2.mem ((c.tc : Thread Cert.MixUpRefIdeal.nD Cert.MixUpRefIdeal.τ).loc Cert.MixUpRefIdeal.main_arg3) = m' ((c.tc : Thread Cert.MixUpRefIdeal.nD Cert.MixUpRefIdeal.τ).loc Cert.MixUpRefIdeal.main_arg3)
          ∧ r.2.mem ((c.tc : Thread Cert.MixUpRefIdeal.nD Cert.MixUpRefIdeal.τ).loc Cert.MixUpRefIdeal.main_arg4) = m' ((c.tc : Thread Cert.MixUpRefIdeal.nD Cert.MixUpRefIdeal.τ).loc Cert.MixUpRefIdeal.main_arg4)
          ∧ r.2.mem ((c.tc : Thread Cert.MixUpRefIdeal.nD Cert.MixUpRefIdeal.τ).loc Cert.MixUpRefIdeal.main_arg5) = m' ((c.tc : Thread Cert.MixUpRefIdeal.nD Cert.MixUpRefIdeal.τ).loc Cert.MixUpRefIdeal.main_arg5)
          ∧ r.2.mem ((c.tc : Thread Cert.MixUpRefIdeal.nD Cert.MixUpRefIdeal.τ).loc Cert.MixUpRefIdeal.main_arg6) = m' ((c.tc : Thread Cert.MixUpRefIdeal.nD Cert.MixUpRefIdeal.τ).loc Cert.MixUpRefIdeal.main_arg6))

def preserves_InProj_InProjIdeal : Prop :=
  True

def algebraic_InProjIdeal_InProjFwdRefIdeal [hInProjIdeal : Cert.InProjIdeal.Facts] [hInProjFwdRefIdeal : Cert.InProjFwdRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjFwdRefIdeal.nD Cert.InProjFwdRefIdeal.τ Cert.InProjFwdRefIdeal.sig) → Buf (Elt Ideal) ℓ) (g' : Dev Cert.InProjFwdRefIdeal.nD → PrngReg), Pre_InProjIdeal m →
    (∀ c : Dev Cert.InProjIdeal.nD,
      m' ((c.tc : Thread Cert.InProjFwdRefIdeal.nD Cert.InProjFwdRefIdeal.τ).loc Cert.InProjFwdRefIdeal.main_arg0) = m ((c.tc : Thread Cert.InProjIdeal.nD Cert.InProjIdeal.τ).loc Cert.InProjIdeal.main_arg0)
      ∧ m' ((c.tc : Thread Cert.InProjFwdRefIdeal.nD Cert.InProjFwdRefIdeal.τ).loc Cert.InProjFwdRefIdeal.main_arg1) = m ((c.tc : Thread Cert.InProjIdeal.nD Cert.InProjIdeal.τ).loc Cert.InProjIdeal.main_arg1)
      ∧ m' ((c.tc : Thread Cert.InProjFwdRefIdeal.nD Cert.InProjFwdRefIdeal.τ).loc Cert.InProjFwdRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v6_0)) (v1 : (c : Dev Cert.InProjIdeal.nD) → Buf (Elt Ideal) ((c.tc : Thread Cert.InProjIdeal.nD Cert.InProjIdeal.τ).loc Cert.InProjIdeal.main_v6_1)) (v2 : (c : Dev Cert.InProjIdeal.nD) → Buf (Elt Ideal) ((c.tc : Thread Cert.InProjIdeal.nD Cert.InProjIdeal.τ).loc Cert.InProjIdeal.main_v6_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6_0) = v0 c
          ∧ r.2.mem ((c.tc : Thread Cert.InProjIdeal.nD Cert.InProjIdeal.τ).loc Cert.InProjIdeal.main_v6_1) = v1 c
          ∧ r.2.mem ((c.tc : Thread Cert.InProjIdeal.nD Cert.InProjIdeal.τ).loc Cert.InProjIdeal.main_v6_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjFwdRefIdeal.defs (F := Ideal)) (onTc (τ := Cert.InProjFwdRefIdeal.τ) (Cert.InProjFwdRefIdeal.main (F := Ideal))) ⟨m', fun _ => 0, g'⟩ (fun r => ∀ c : Dev Cert.InProjFwdRefIdeal.nD,
          r.2.mem ((c.tc : Thread Cert.InProjFwdRefIdeal.nD Cert.InProjFwdRefIdeal.τ).loc Cert.InProjFwdRefIdeal.main_v17) = v0 c
          ∧ r.2.mem ((c.tc : Thread Cert.InProjFwdRefIdeal.nD Cert.InProjFwdRefIdeal.τ).loc Cert.InProjFwdRefIdeal.main_v20) = v1 c
          ∧ r.2.mem ((c.tc : Thread Cert.InProjFwdRefIdeal.nD Cert.InProjFwdRefIdeal.τ).loc Cert.InProjFwdRefIdeal.main_v24) = v2 c
          ∧ r.2.mem ((c.tc : Thread Cert.InProjFwdRefIdeal.nD Cert.InProjFwdRefIdeal.τ).loc Cert.InProjFwdRefIdeal.main_arg0) = m' ((c.tc : Thread Cert.InProjFwdRefIdeal.nD Cert.InProjFwdRefIdeal.τ).loc Cert.InProjFwdRefIdeal.main_arg0)
          ∧ r.2.mem ((c.tc : Thread Cert.InProjFwdRefIdeal.nD Cert.InProjFwdRefIdeal.τ).loc Cert.InProjFwdRefIdeal.main_arg1) = m' ((c.tc : Thread Cert.InProjFwdRefIdeal.nD Cert.InProjFwdRefIdeal.τ).loc Cert.InProjFwdRefIdeal.main_arg1)
          ∧ r.2.mem ((c.tc : Thread Cert.InProjFwdRefIdeal.nD Cert.InProjFwdRefIdeal.τ).loc Cert.InProjFwdRefIdeal.main_arg2) = m' ((c.tc : Thread Cert.InProjFwdRefIdeal.nD Cert.InProjFwdRefIdeal.τ).loc Cert.InProjFwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v7)) (v1 : (c : Dev Cert.ConvFwdIdeal.nD) → Buf (Elt Ideal) ((c.tc : Thread Cert.ConvFwdIdeal.nD Cert.ConvFwdIdeal.τ).loc Cert.ConvFwdIdeal.main_v9)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v7) = v0 c
          ∧ r.2.mem ((c.tc : Thread Cert.ConvFwdIdeal.nD Cert.ConvFwdIdeal.τ).loc Cert.ConvFwdIdeal.main_v9) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v84) = v0 c
          ∧ r.2.mem ((c.tc : Thread Cert.ConvFwdRefIdeal.nD Cert.ConvFwdRefIdeal.τ).loc Cert.ConvFwdRefIdeal.main_v112) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def Claim : Prop :=
  ∃ (hInProjBwd : Cert.InProjBwd.Facts) (hInProjBwdIdeal : Cert.InProjBwdIdeal.Facts) (hInProjRefIdeal : Cert.InProjRefIdeal.Facts) (hFfnBwd : Cert.FfnBwd.Facts) (hFfnBwdIdeal : Cert.FfnBwdIdeal.Facts) (hFfnRefIdeal : Cert.FfnRefIdeal.Facts) (hDownLoss : Cert.DownLoss.Facts) (hDownLossIdeal : Cert.DownLossIdeal.Facts) (hDownLossRefIdeal : Cert.DownLossRefIdeal.Facts) (hGlaFwd : Cert.GlaFwd.Facts) (hGlaFwdIdeal : Cert.GlaFwdIdeal.Facts) (hGlaFwdRefIdeal : Cert.GlaFwdRefIdeal.Facts) (hGlaBwd : Cert.GlaBwd.Facts) (hGlaBwdIdeal : Cert.GlaBwdIdeal.Facts) (hConvBwd : Cert.ConvBwd.Facts) (hConvBwdIdeal : Cert.ConvBwdIdeal.Facts) (hConvBwdRefIdeal : Cert.ConvBwdRefIdeal.Facts) (hMixUp : Cert.MixUp.Facts) (hMixUpIdeal : Cert.MixUpIdeal.Facts) (hMixUpRefIdeal : Cert.MixUpRefIdeal.Facts) (hInProj : Cert.InProj.Facts) (hInProjIdeal : Cert.InProjIdeal.Facts) (hInProjFwdRefIdeal : Cert.InProjFwdRefIdeal.Facts) (hConvFwd : Cert.ConvFwd.Facts) (hConvFwdIdeal : Cert.ConvFwdIdeal.Facts) (hConvFwdRefIdeal : Cert.ConvFwdRefIdeal.Facts) (hPre_in_proj_finite : Cert.Pre_in_proj_finite.Facts) (hPre_ffn_finite : Cert.Pre_ffn_finite.Facts) (hPre_ffn_down_loss_finite : Cert.Pre_ffn_down_loss_finite.Facts) (hPre_gla_fwd_finite : Cert.Pre_gla_fwd_finite.Facts) (hPre_conv_bwd_finite : Cert.Pre_conv_bwd_finite.Facts),
    quiescent_InProjBwd (hInProjBwd := hInProjBwd)
    ∧ quiescent_InProjBwdIdeal (hInProjBwdIdeal := hInProjBwdIdeal)
    ∧ quiescent_InProjBwdIdeal_pre_in_proj_finite (hInProjBwdIdeal := hInProjBwdIdeal) (hPre_in_proj_finite := hPre_in_proj_finite)
    ∧ quiescent_InProjRefIdeal (hInProjRefIdeal := hInProjRefIdeal)
    ∧ quiescent_InProjRefIdeal_pre_in_proj_finite (hInProjRefIdeal := hInProjRefIdeal) (hPre_in_proj_finite := hPre_in_proj_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_DownLoss (hDownLoss := hDownLoss)
    ∧ quiescent_DownLossIdeal (hDownLossIdeal := hDownLossIdeal)
    ∧ quiescent_DownLossIdeal_pre_ffn_down_loss_finite (hDownLossIdeal := hDownLossIdeal) (hPre_ffn_down_loss_finite := hPre_ffn_down_loss_finite)
    ∧ quiescent_DownLossRefIdeal (hDownLossRefIdeal := hDownLossRefIdeal)
    ∧ quiescent_DownLossRefIdeal_pre_ffn_down_loss_finite (hDownLossRefIdeal := hDownLossRefIdeal) (hPre_ffn_down_loss_finite := hPre_ffn_down_loss_finite)
    ∧ quiescent_GlaFwd (hGlaFwd := hGlaFwd)
    ∧ quiescent_GlaFwdIdeal (hGlaFwdIdeal := hGlaFwdIdeal)
    ∧ quiescent_GlaFwdIdeal_pre_gla_fwd_finite (hGlaFwdIdeal := hGlaFwdIdeal) (hPre_gla_fwd_finite := hPre_gla_fwd_finite)
    ∧ quiescent_GlaFwdRefIdeal (hGlaFwdRefIdeal := hGlaFwdRefIdeal)
    ∧ quiescent_GlaFwdRefIdeal_pre_gla_fwd_finite (hGlaFwdRefIdeal := hGlaFwdRefIdeal) (hPre_gla_fwd_finite := hPre_gla_fwd_finite)
    ∧ quiescent_GlaBwd (hGlaBwd := hGlaBwd)
    ∧ quiescent_GlaBwdIdeal (hGlaBwdIdeal := hGlaBwdIdeal)
    ∧ quiescent_ConvBwd (hConvBwd := hConvBwd)
    ∧ quiescent_ConvBwdIdeal (hConvBwdIdeal := hConvBwdIdeal)
    ∧ quiescent_ConvBwdIdeal_pre_conv_bwd_finite (hConvBwdIdeal := hConvBwdIdeal) (hPre_conv_bwd_finite := hPre_conv_bwd_finite)
    ∧ quiescent_ConvBwdRefIdeal (hConvBwdRefIdeal := hConvBwdRefIdeal)
    ∧ quiescent_ConvBwdRefIdeal_pre_conv_bwd_finite (hConvBwdRefIdeal := hConvBwdRefIdeal) (hPre_conv_bwd_finite := hPre_conv_bwd_finite)
    ∧ quiescent_MixUp (hMixUp := hMixUp)
    ∧ quiescent_MixUpIdeal (hMixUpIdeal := hMixUpIdeal)
    ∧ quiescent_MixUpRefIdeal (hMixUpRefIdeal := hMixUpRefIdeal)
    ∧ quiescent_InProj (hInProj := hInProj)
    ∧ quiescent_InProjIdeal (hInProjIdeal := hInProjIdeal)
    ∧ quiescent_InProjFwdRefIdeal (hInProjFwdRefIdeal := hInProjFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ preserves_InProjBwd_InProjBwdIdeal
    ∧ algebraic_InProjBwdIdeal_InProjRefIdeal_pre_in_proj_finite (hInProjBwdIdeal := hInProjBwdIdeal) (hInProjRefIdeal := hInProjRefIdeal) (hPre_in_proj_finite := hPre_in_proj_finite)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_DownLoss_DownLossIdeal
    ∧ algebraic_DownLossIdeal_DownLossRefIdeal_pre_ffn_down_loss_finite (hDownLossIdeal := hDownLossIdeal) (hDownLossRefIdeal := hDownLossRefIdeal) (hPre_ffn_down_loss_finite := hPre_ffn_down_loss_finite)
    ∧ preserves_GlaFwd_GlaFwdIdeal
    ∧ algebraic_GlaFwdIdeal_GlaFwdRefIdeal_pre_gla_fwd_finite (hGlaFwdIdeal := hGlaFwdIdeal) (hGlaFwdRefIdeal := hGlaFwdRefIdeal) (hPre_gla_fwd_finite := hPre_gla_fwd_finite)
    ∧ preserves_GlaBwd_GlaBwdIdeal
    ∧ preserves_ConvBwd_ConvBwdIdeal
    ∧ algebraic_ConvBwdIdeal_ConvBwdRefIdeal_pre_conv_bwd_finite (hConvBwdIdeal := hConvBwdIdeal) (hConvBwdRefIdeal := hConvBwdRefIdeal) (hPre_conv_bwd_finite := hPre_conv_bwd_finite)
    ∧ preserves_MixUp_MixUpIdeal
    ∧ algebraic_MixUpIdeal_MixUpRefIdeal (hMixUpIdeal := hMixUpIdeal) (hMixUpRefIdeal := hMixUpRefIdeal)
    ∧ preserves_InProj_InProjIdeal
    ∧ algebraic_InProjIdeal_InProjFwdRefIdeal (hInProjIdeal := hInProjIdeal) (hInProjFwdRefIdeal := hInProjFwdRefIdeal)
    ∧ preserves_ConvFwd_ConvFwdIdeal
    ∧ algebraic_ConvFwdIdeal_ConvFwdRefIdeal (hConvFwdIdeal := hConvFwdIdeal) (hConvFwdRefIdeal := hConvFwdRefIdeal)
-- ==== Pre_conv_bwd_finite.lean ====
abbrev S2x2064x2576 : Shape := ⟨3, ![2, 2064, 2576]⟩
abbrev S1x31x512 : Shape := ⟨3, ![1, 31, 512]⟩
abbrev S1x512 : Shape := ⟨2, ![1, 512]⟩
abbrev S2x2064x1024 : Shape := ⟨3, ![2, 2064, 1024]⟩
abbrev S_ : Shape := ⟨0, ![]⟩

class Facts : Prop where
  bcast_S_S2x2064x2576 : S_.BroadcastsInDim S2x2064x2576 (![] : Fin 0 → Fin S2x2064x2576.rank)
  bcast_S_S1x31x512 : S_.BroadcastsInDim S1x31x512 (![] : Fin 0 → Fin S1x31x512.rank)
  bcast_S_S1x512 : S_.BroadcastsInDim S1x512 (![] : Fin 0 → Fin S1x512.rank)
  bcast_S_S2x2064x1024 : S_.BroadcastsInDim S2x2064x1024 (![] : Fin 0 → Fin S2x2064x1024.rank)

variable [Facts]

def fn {F : FTy → Type} [FloatOps F] (main_arg0 : FVec F S2x2064x2576 .f32) (main_arg1 : FVec F S1x31x512 .f32) (main_arg2 : FVec F S1x512 .f32) (main_arg3 : FVec F S1x512 .f32) (main_arg4 : FVec F S1x512 .f32) (main_arg5 : FVec F S2x2064x1024 .f32) : IVec S2x2064x2576 1 × IVec S1x31x512 1 × IVec S1x512 1 × IVec S1x512 1 × IVec S1x512 1 × IVec S2x2064x1024 1 :=
  let main_v0 : FVec F S2x2064x2576 .f32 := Host.absf main_arg0
  let main_cst : FVec F S_ .f32 := constant S_ .f32 0x7F800000#32
  let main_v1 : FVec F S2x2064x2576 .f32 := broadcastInDim S2x2064x2576 ![] bcast_S_S2x2064x2576 main_cst
  let main_v2 : IVec S2x2064x2576 1 := cmpf .olt main_v0 main_v1
  let main_v3 : FVec F S1x31x512 .f32 := Host.absf main_arg1
  let main_cst_0 : FVec F S_ .f32 := constant S_ .f32 0x7F800000#32
  let main_v4 : FVec F S1x31x512 .f32 := broadcastInDim S1x31x512 ![] bcast_S_S1x31x512 main_cst_0
  let main_v5 : IVec S1x31x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S2x2064x1024 .f32 := Host.absf main_arg5
  let main_cst_4 : FVec F S_ .f32 := constant S_ .f32 0x7F800000#32
  let main_v16 : FVec F S2x2064x1024 .f32 := broadcastInDim S2x2064x1024 ![] bcast_S_S2x2064x1024 main_cst_4
  let main_v17 : IVec S2x2064x1024 1 := cmpf .olt main_v15 main_v16
  (main_v2, main_v5, main_v8, main_v11, main_v14, main_v17)
-- ==== Pre_ffn_down_loss_finite.lean ====
abbrev S2x2064x2816 : Shape := ⟨3, ![2, 2064, 2816]⟩
abbrev S1x2816x1024 : Shape := ⟨3, ![1, 2816, 1024]⟩
abbrev S2x2064x1024 : Shape := ⟨3, ![2, 2064, 1024]⟩
abbrev S1024 : Shape := ⟨1, ![1024]⟩
abbrev S2x2048x1024 : Shape := ⟨3, ![2, 2048, 1024]⟩
abbrev S_ : Shape := ⟨0, ![]⟩

class Facts : Prop where
  bcast_S_S2x2064x2816 : S_.BroadcastsInDim S2x2064x2816 (![] : Fin 0 → Fin S2x2064x2816.rank)
  bcast_S_S1x2816x1024 : S_.BroadcastsInDim S1x2816x1024 (![] : Fin 0 → Fin S1x2816x1024.rank)
  bcast_S_S2x2064x1024 : S_.BroadcastsInDim S2x2064x1024 (![] : Fin 0 → Fin S2x2064x1024.rank)
  bcast_S_S1024 : S_.BroadcastsInDim S1024 (![] : Fin 0 → Fin S1024.rank)
  bcast_S_S2x2048x1024 : S_.BroadcastsInDim S2x2048x1024 (![] : Fin 0 → Fin S2x2048x1024.rank)

variable [Facts]

def fn {F : FTy → Type} [FloatOps F] (main_arg0 : FVec F S2x2064x2816 .f32) (main_arg1 : FVec F S1x2816x1024 .f32) (main_arg2 : FVec F S2x2064x1024 .f32) (main_arg3 : FVec F S1024 .f32) (main_arg4 : FVec F S2x2048x1024 .f32) : IVec S2x2064x2816 1 × IVec S1x2816x1024 1 × IVec S2x2064x1024 1 × IVec S1024 1 × IVec S2x2048x1024 1 :=
  let main_v0 : FVec F S2x2064x2816 .f32 := Host.absf main_arg0
  let main_cst : FVec F S_ .f32 := constant S_ .f32 0x7F800000#32
  let main_v1 : FVec F S2x2064x2816 .f32 := broadcastInDim S2x2064x2816 ![] bcast_S_S2x2064x2816 main_cst
  let main_v2 : IVec S2x2064x2816 1 := cmpf .olt main_v0 main_v1
  let main_v3 : FVec F S1x2816x1024 .f32 := Host.absf main_arg1
  let main_cst_0 : FVec F S_ .f32 := constant S_ .f32 0x7F800000#32
  let main_v4 : FVec F S1x2816x1024 .f32 := broadcastInDim S1x2816x1024 ![] bcast_S_S1x2816x1024 main_cst_0
  let main_v5 : IVec S1x2816x1024 1 := cmpf .olt main_v3 main_v4
  let main_v6 : FVec F S2x2064x1024 .f32 := Host.absf main_arg2
  let main_cst_1 : FVec F S_ .f32 := constant S_ .f32 0x7F800000#32
  let main_v7 : FVec F S2x2064x1024 .f32 := broadcastInDim S2x2064x1024 ![] bcast_S_S2x2064x1024 main_cst_1
  let main_v8 : IVec S2x2064x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S2x2048x1024 .f32 := Host.absf main_arg4
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  (main_v2, main_v5, main_v8, main_v11, main_v14)
-- ==== Pre_ffn_finite.lean ====
abbrev S2x2064x1024 : Shape := ⟨3, ![2, 2064, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S_ : Shape := ⟨0, ![]⟩

class Facts : Prop where
  bcast_S_S2x2064x1024 : S_.BroadcastsInDim S2x2064x1024 (![] : Fin 0 → Fin S2x2064x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S2x2064x1024 .f32) (main_arg1 : FVec F S1x1024 .f32) (main_arg2 : FVec F S1x1024x2816 .f32) (main_arg3 : FVec F S1x1024x2816 .f32) (main_arg4 : FVec F S1x2816x1024 .f32) (main_arg5 : FVec F S1x1024x1024 .f32) (main_arg6 : FVec F S2x2064x1024 .f32) : IVec S2x2064x1024 1 × IVec S1x1024 1 × IVec S1x1024x2816 1 × IVec S1x1024x2816 1 × IVec S1x2816x1024 1 × IVec S2x2064x1024 1 :=
  let main_v0 : FVec F S2x2064x1024 .f32 := Host.absf main_arg0
  let main_cst : FVec F S_ .f32 := constant S_ .f32 0x7F800000#32
  let main_v1 : FVec F S2x2064x1024 .f32 := broadcastInDim S2x2064x1024 ![] bcast_S_S2x2064x1024 main_cst
  let main_v2 : IVec S2x2064x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S2x2064x1024 .f32 := Host.absf main_arg6
  let main_cst_4 : FVec F S_ .f32 := constant S_ .f32 0x7F800000#32
  let main_v16 : FVec F S2x2064x1024 .f32 := broadcastInDim S2x2064x1024 ![] bcast_S_S2x2064x1024 main_cst_4
  let main_v17 : IVec S2x2064x1024 1 := cmpf .olt main_v15 main_v16
  (main_v2, main_v5, main_v8, main_v11, main_v14, main_v17)
-- ==== Pre_gla_fwd_finite.lean ====
abbrev S2x2064x2576 : Shape := ⟨3, ![2, 2064, 2576]⟩
abbrev S1x16x256 : Shape := ⟨3, ![1, 16, 256]⟩
abbrev S1x256 : Shape := ⟨2, ![1, 256]⟩
abbrev S1x128 : Shape := ⟨2, ![1, 128]⟩
abbrev S_ : Shape := ⟨0, ![]⟩

class Facts : Prop where
  bcast_S_S2x2064x2576 : S_.BroadcastsInDim S2x2064x2576 (![] : Fin 0 → Fin S2x2064x2576.rank)
  bcast_S_S1x16x256 : S_.BroadcastsInDim S1x16x256 (![] : Fin 0 → Fin S1x16x256.rank)
  bcast_S_S1x256 : S_.BroadcastsInDim S1x256 (![] : Fin 0 → Fin S1x256.rank)

variable [Facts]

def fn {F : FTy → Type} [FloatOps F] (main_arg0 : FVec F S2x2064x2576 .f32) (main_arg1 : FVec F S1x16x256 .f32) (main_arg2 : FVec F S1x256 .f32) (main_arg3 : FVec F S1x128 .f32) : IVec S2x2064x2576 1 × IVec S1x16x256 1 × IVec S1x256 1 :=
  let main_v0 : FVec F S2x2064x2576 .f32 := Host.absf main_arg0
  let main_cst : FVec F S_ .f32 := constant S_ .f32 0x7F800000#32
  let main_v1 : FVec F S2x2064x2576 .f32 := broadcastInDim S2x2064x2576 ![] bcast_S_S2x2064x2576 main_cst
  let main_v2 : IVec S2x2064x2576 1 := cmpf .olt main_v0 main_v1
  let main_v3 : FVec F S1x16x256 .f32 := Host.absf main_arg1
  let main_cst_0 : FVec F S_ .f32 := constant S_ .f32 0x7F800000#32
  let main_v4 : FVec F S1x16x256 .f32 := broadcastInDim S1x16x256 ![] bcast_S_S1x16x256 main_cst_0
  let main_v5 : IVec S1x16x256 1 := cmpf .olt main_v3 main_v4
  let main_v6 : FVec F S1x256 .f32 := Host.absf main_arg2
  let main_cst_1 : FVec F S_ .f32 := constant S_ .f32 0x7F800000#32
  let main_v7 : FVec F S1x256 .f32 := broadcastInDim S1x256 ![] bcast_S_S1x256 main_cst_1
  let main_v8 : IVec S1x256 1 := cmpf .olt main_v6 main_v7
  (main_v2, main_v5, main_v8)
-- ==== Pre_in_proj_finite.lean ====
abbrev S2x2064x1024 : Shape := ⟨3, ![2, 2064, 1024]⟩
abbrev S1x1024 : Shape := ⟨2, ![1, 1024]⟩
abbrev S1x1024x2576 : Shape := ⟨3, ![1, 1024, 2576]⟩
abbrev S2x2064x2576 : Shape := ⟨3, ![2, 2064, 2576]⟩
abbrev S_ : Shape := ⟨0, ![]⟩

class Facts : Prop where
  bcast_S_S2x2064x1024 : S_.BroadcastsInDim S2x2064x1024 (![] : Fin 0 → Fin S2x2064x1024.rank)
  bcast_S_S1x1024 : S_.BroadcastsInDim S1x1024 (![] : Fin 0 → Fin S1x1024.rank)
  bcast_S_S1x1024x2576 : S_.BroadcastsInDim S1x1024x2576 (![] : Fin 0 → Fin S1x1024x2576.rank)
  bcast_S_S2x2064x2576 : S_.BroadcastsInDim S2x2064x2576 (![] : Fin 0 → Fin S2x2064x2576.rank)

variable [Facts]

def fn {F : FTy → Type} [FloatOps F] (main_arg0 : FVec F S2x2064x1024 .f32) (main_arg1 : FVec F S1x1024 .f32) (main_arg2 : FVec F S1x1024x2576 .f32) (main_arg3 : FVec F S2x2064x1024 .f32) (main_arg4 : FVec F S2x2064x2576 .f32) : IVec S2x2064x1024 1 × IVec S1x1024 1 × IVec S1x1024x2576 1 × IVec S2x2064x2576 1 :=
  let main_v0 : FVec F S2x2064x1024 .f32 := Host.absf main_arg0
  let main_cst : FVec F S_ .f32 := constant S_ .f32 0x7F800000#32
  let main_v1 : FVec F S2x2064x1024 .f32 := broadcastInDim S2x2064x1024 ![] bcast_S_S2x2064x1024 main_cst
  let main_v2 : IVec S2x2064x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2576 .f32 := Host.absf main_arg2
  let main_cst_1 : FVec F S_ .f32 := constant S_ .f32 0x7F800000#32
  let main_v7 : FVec F S1x1024x2576 .f32 := broadcastInDim S1x1024x2576 ![] bcast_S_S1x1024x2576 main_cst_1
  let main_v8 : IVec S1x1024x2576 1 := cmpf .olt main_v6 main_v7
  let main_v9 : FVec F S2x2064x2576 .f32 := Host.absf main_arg4
  let main_cst_2 : FVec F S_ .f32 := constant S_ .f32 0x7F800000#32
  let main_v10 : FVec F S2x2064x2576 .f32 := broadcastInDim S2x2064x2576 ![] bcast_S_S2x2064x2576 main_cst_2
  let main_v11 : IVec S2x2064x2576 1 := cmpf .olt main_v9 main_v10
  (main_v2, main_v5, main_v8, main_v11)
-- ==== InProjBwd.lean ====
abbrev S2x2064x1024 : Shape := ⟨3, ![2, 2064, 1024]⟩
abbrev S1x1024 : Shape := ⟨2, ![1, 1024]⟩
abbrev S1x1024x2576 : Shape := ⟨3, ![1, 1024, 2576]⟩
abbrev S2x2064x2576 : Shape := ⟨3, ![2, 2064, 2576]⟩
abbrev S_ : Shape := ⟨0, ![]⟩
abbrev S2x2112x1024 : Shape := ⟨3, ![2, 2112, 1024]⟩
abbrev S4224x1024 : Shape := ⟨2, ![4224, 1024]⟩
abbrev S2x2064x1552 : Shape := ⟨3, ![2, 2064, 1552]⟩
abbrev S2x2112x1552 : Shape := ⟨3, ![2, 2112, 1552]⟩
abbrev S4224x1552 : Shape := ⟨2, ![4224, 1552]⟩
abbrev S4224x1664 : Shape := ⟨2, ![4224, 1664]⟩
abbrev S1024x2576 : Shape := ⟨2, ![1024, 2576]⟩
abbrev S2576x1024 : Shape := ⟨2, ![2576, 1024]⟩
abbrev S2688x1024 : Shape := ⟨2, ![2688, 1024]⟩
abbrev S384x1024 : Shape := ⟨2, ![384, 1024]⟩
abbrev S384x1664 : Shape := ⟨2, ![384, 1664]⟩
abbrev S1024x1024 : Shape := ⟨2, ![1024, 1024]⟩
abbrev S1664x1024 : Shape := ⟨2, ![1664, 1024]⟩
abbrev S384 : Shape := ⟨1, ![384]⟩
abbrev S384x1 : Shape := ⟨2, ![384, 1]⟩
abbrev S1024 : Shape := ⟨1, ![1024]⟩

abbrev nBuf : Space → Nat
  | .hbm => 36
  | .vmem => 13
  | .smem => 0
  | _ => 0

abbrev bufTy : (tb : Table) → Fin (tcTables nBuf tb) → BufTy
  | .hbm, ⟨0, _⟩ => ⟨S2x2064x1024, .f32⟩
  | .hbm, ⟨1, _⟩ => ⟨S1x1024, .f32⟩
  | .hbm, ⟨2, _⟩ => ⟨S1x1024x2576, .f32⟩
  | .hbm, ⟨3, _⟩ => ⟨S2x2064x1024, .f32⟩
  | .hbm, ⟨4, _⟩ => ⟨S2x2064x2576, .f32⟩
  | .hbm, ⟨5, _⟩ => ⟨S2x2064x1024, .f32⟩
  | .hbm, ⟨6, _⟩ => ⟨S_, .i32⟩
  | .hbm, ⟨7, _⟩ => ⟨S_, .f32⟩
  | .hbm, ⟨8, _⟩ => ⟨S2x2112x1024, .f32⟩
  | .hbm, ⟨9, _⟩ => ⟨S4224x1024, .f32⟩
  | .hbm, ⟨10, _⟩ => ⟨S4224x1024, .bf16⟩
  | .hbm, ⟨11, _⟩ => ⟨S2x2064x1552, .f32⟩
  | .hbm, ⟨12, _⟩ => ⟨S_, .i32⟩
  | .hbm, ⟨13, _⟩ => ⟨S_, .f32⟩
  | .hbm, ⟨14, _⟩ => ⟨S2x2112x1552, .f32⟩
  | .hbm, ⟨15, _⟩ => ⟨S4224x1552, .f32⟩
  | .hbm, ⟨16, _⟩ => ⟨S_, .i32⟩
  | .hbm, ⟨17, _⟩ => ⟨S_, .f32⟩
  | .hbm, ⟨18, _⟩ => ⟨S4224x1664, .f32⟩
  | .hbm, ⟨19, _⟩ => ⟨S4224x1664, .bf16⟩
  | .hbm, ⟨20, _⟩ => ⟨S1024x2576, .f32⟩
  | .hbm, ⟨21, _⟩ => ⟨S2576x1024, .f32⟩
  | .hbm, ⟨22, _⟩ => ⟨S2576x1024, .bf16⟩
  | .hbm, ⟨23, _⟩ => ⟨S_, .i32⟩
  | .hbm, ⟨24, _⟩ => ⟨S_, .bf16⟩
  | .hbm, ⟨25, _⟩ => ⟨S2688x1024, .bf16⟩
  | .hbm, ⟨26, _⟩ => ⟨S_, .i32⟩
  | .hbm, ⟨27, _⟩ => ⟨S_, .f32⟩
  | .hbm, ⟨28, _⟩ => ⟨S2x2112x1024, .f32⟩
  | .hbm, ⟨29, _⟩ => ⟨S4224x1024, .f32⟩
  | .hbm, ⟨30, _⟩ => ⟨S_, .i32⟩
  | .hbm, ⟨31, _⟩ => ⟨S_, .f32⟩
  | .hbm, ⟨32, _⟩ => ⟨S2x2112x1024, .f32⟩
  | .hbm, ⟨33, _⟩ => ⟨S4224x1024, .f32⟩
  | .hbm, ⟨34, _⟩ => ⟨S4224x1024, .f32⟩
  | .hbm, ⟨35, _⟩ => ⟨S1x1024, .f32⟩
  | .local _ .vmem, ⟨0, _⟩ => ⟨S384x1024, .bf16⟩
  | .local _ .vmem, ⟨1, _⟩ => ⟨S384x1024, .bf16⟩
  | .local _ .vmem, ⟨2, _⟩ => ⟨S384x1664, .bf16⟩
  | .local _ .vmem, ⟨3, _⟩ => ⟨S384x1664, .bf16⟩
  | .local _ .vmem, ⟨4, _⟩ => ⟨S2688x1024, .bf16⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S1x1024, .f32⟩
  | .local _ .vmem, ⟨10, _⟩ => ⟨S384x1024, .f32⟩
  | .local _ .vmem, ⟨11, _⟩ => ⟨S384x1024, .f32⟩
  | .local _ .vmem, ⟨12, _⟩ => ⟨S1x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_call3_v0 : Ref sig .tc := ⟨.hbm, 24, rfl⟩
abbrev main_v12 : Ref sig .tc := ⟨.hbm, 25, rfl⟩
abbrev main_c_3 : Ref sig .tc := ⟨.hbm, 26, rfl⟩
abbrev main_call4_v0 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_call5_v0 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2688x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InProjRefIdeal.lean ====
abbrev S2x2064x1024 : Shape := ⟨3, ![2, 2064, 1024]⟩
abbrev S1x1024 : Shape := ⟨2, ![1, 1024]⟩
abbrev S1x1024x2576 : Shape := ⟨3, ![1, 1024, 2576]⟩
abbrev S2x2064x2576 : Shape := ⟨3, ![2, 2064, 2576]⟩
abbrev S1024 : Shape := ⟨1, ![1024]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S1024x2576 : Shape := ⟨2, ![1024, 2576]⟩
abbrev S2x2112x1024 : Shape := ⟨3, ![2, 2112, 1024]⟩
abbrev S4224x1024 : Shape := ⟨2, ![4224, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S1x1024, .f32⟩
  | .hbm, ⟨2, _⟩ => ⟨S1x1024x2576, .f32⟩
  | .hbm, ⟨3, _⟩ => ⟨S2x2064x1024, .f32⟩
  | .hbm, ⟨4, _⟩ => ⟨S2x2064x2576, .f32⟩
  | .hbm, ⟨5, _⟩ => ⟨S1024, .f32⟩
  | .hbm, ⟨6, _⟩ => ⟨S2x2064x1024, .f32⟩
  | .hbm, ⟨7, _⟩ => ⟨S_, .f32⟩
  | .hbm, ⟨8, _⟩ => ⟨S2x2064, .f32⟩
  | .hbm, ⟨9, _⟩ => ⟨S2x2064x1, .f32⟩
  | .hbm, ⟨10, _⟩ => ⟨S_, .f32⟩
  | .hbm, ⟨11, _⟩ => ⟨S2x2064x1, .f32⟩
  | .hbm, ⟨12, _⟩ => ⟨S2x2064x1, .f32⟩
  | .hbm, ⟨13, _⟩ => ⟨S_, .f32⟩
  | .hbm, ⟨14, _⟩ => ⟨S2x2064x1, .f32⟩
  | .hbm, ⟨15, _⟩ => ⟨S2x2064x1, .f32⟩
  | .hbm, ⟨16, _⟩ => ⟨S2x2064x1, .f32⟩
  | .hbm, ⟨17, _⟩ => ⟨S2x2064x1, .f32⟩
  | .hbm, ⟨18, _⟩ => ⟨S_, .f32⟩
  | .hbm, ⟨19, _⟩ => ⟨S2x2064x1, .f32⟩
  | .hbm, ⟨20, _⟩ => ⟨S2x2064x1, .f32⟩
  | .hbm, ⟨21, _⟩ => ⟨S2x2064x1024, .f32⟩
  | .hbm, ⟨22, _⟩ => ⟨S2x2064x1024, .f32⟩
  | .hbm, ⟨23, _⟩ => ⟨S1x1x1024, .f32⟩
  | .hbm, ⟨24, _⟩ => ⟨S2x2064x1024, .f32⟩
  | .hbm, ⟨25, _⟩ => ⟨S2x2064x1024, .f32⟩
  | .hbm, ⟨26, _⟩ => ⟨S1024x2576, .f32⟩
  | .hbm, ⟨27, _⟩ => ⟨S2x2064x2576, .f32⟩
  | .hbm, ⟨28, _⟩ => ⟨S2x2064x1024, .f32⟩
  | .hbm, ⟨29, _⟩ => ⟨S2x2064x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2064x1024, .f32⟩
  | .hbm, ⟨34, _⟩ => ⟨S2x2064x1024, .f32⟩
  | .hbm, ⟨35, _⟩ => ⟨S_, .f32⟩
  | .hbm, ⟨36, _⟩ => ⟨S1024, .f32⟩
  | .hbm, ⟨37, _⟩ => ⟨S2x2064x1024, .f32⟩
  | .hbm, ⟨38, _⟩ => ⟨S_, .f32⟩
  | .hbm, ⟨39, _⟩ => ⟨S2x2064, .f32⟩
  | .hbm, ⟨40, _⟩ => ⟨S2x2064x1, .f32⟩
  | .hbm, ⟨41, _⟩ => ⟨S2x2064x1024, .f32⟩
  | .hbm, ⟨42, _⟩ => ⟨S2x2064x1024, .f32⟩
  | .hbm, ⟨43, _⟩ => ⟨S2x2064x1024, .f32⟩
  | .hbm, ⟨44, _⟩ => ⟨S2x2064x1, .f32⟩
  | .hbm, ⟨45, _⟩ => ⟨S_, .f32⟩
  | .hbm, ⟨46, _⟩ => ⟨S2x2064x1, .f32⟩
  | .hbm, ⟨47, _⟩ => ⟨S2x2064x1, .f32⟩
  | .hbm, ⟨48, _⟩ => ⟨S_, .f32⟩
  | .hbm, ⟨49, _⟩ => ⟨S2x2064, .f32⟩
  | .hbm, ⟨50, _⟩ => ⟨S2x2064x1024, .f32⟩
  | .hbm, ⟨51, _⟩ => ⟨S2x2064x1024, .f32⟩
  | .hbm, ⟨52, _⟩ => ⟨S2x2064x1024, .f32⟩
  | .hbm, ⟨53, _⟩ => ⟨S2x2064x1024, .f32⟩
  | .hbm, ⟨54, _⟩ => ⟨S2x2064x1024, .f32⟩
  | .hbm, ⟨55, _⟩ => ⟨S1x1024, .f32⟩
  | .hbm, ⟨56, _⟩ => ⟨S_, .i32⟩
  | .hbm, ⟨57, _⟩ => ⟨S_, .f32⟩
  | .hbm, ⟨58, _⟩ => ⟨S2x2112x1024, .f32⟩
  | .hbm, ⟨59, _⟩ => ⟨S4224x1024, .f32⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call0_v0 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== FfnBwd.lean ====
abbrev S2x2064x1024 : Shape := ⟨3, ![2, 2064, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S1024 : Shape := ⟨1, ![1024]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S1024x2816 : Shape := ⟨2, ![1024, 2816]⟩
abbrev S2x2064x2816 : Shape := ⟨3, ![2, 2064, 2816]⟩
abbrev S1024x1024 : Shape := ⟨2, ![1024, 1024]⟩
abbrev S4x256x1024 : Shape := ⟨3, ![4, 256, 1024]⟩
abbrev S4x1024x256 : Shape := ⟨3, ![4, 1024, 256]⟩
abbrev S2x2112x1024 : Shape := ⟨3, ![2, 2112, 1024]⟩
abbrev S4224x1024 : Shape := ⟨2, ![4224, 1024]⟩
abbrev S2x2112x2816 : Shape := ⟨3, ![2, 2112, 2816]⟩
abbrev S4224x2816 : Shape := ⟨2, ![4224, 2816]⟩
abbrev S2816x1024 : Shape := ⟨2, ![2816, 1024]⟩
abbrev S192x1024 : Shape := ⟨2, ![192, 1024]⟩
abbrev S192x2816 : Shape := ⟨2, ![192, 2816]⟩
abbrev S192 : Shape := ⟨1, ![192]⟩
abbrev S192x1 : Shape := ⟨2, ![192, 1]⟩
abbrev S1x1024x256 : Shape := ⟨3, ![1, 1024, 256]⟩
abbrev S1024x256 : Shape := ⟨2, ![1024, 256]⟩
abbrev S192x256 : Shape := ⟨2, ![192, 256]⟩

abbrev nBuf : Space → Nat
  | .hbm => 62
  | .vmem => 22
  | .smem => 0
  | _ => 0

abbrev bufTy : (tb : Table) → Fin (tcTables nBuf tb) → BufTy
  | .hbm, ⟨0, _⟩ => ⟨S2x2064x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024x1024, .f32⟩
  | .hbm, ⟨6, _⟩ => ⟨S2x2064x1024, .f32⟩
  | .hbm, ⟨7, _⟩ => ⟨S1024, .f32⟩
  | .hbm, ⟨8, _⟩ => ⟨S2x2064x1024, .f32⟩
  | .hbm, ⟨9, _⟩ => ⟨S_, .f32⟩
  | .hbm, ⟨10, _⟩ => ⟨S2x2064, .f32⟩
  | .hbm, ⟨11, _⟩ => ⟨S2x2064x1, .f32⟩
  | .hbm, ⟨12, _⟩ => ⟨S_, .f32⟩
  | .hbm, ⟨13, _⟩ => ⟨S2x2064x1, .f32⟩
  | .hbm, ⟨14, _⟩ => ⟨S2x2064x1, .f32⟩
  | .hbm, ⟨15, _⟩ => ⟨S_, .f32⟩
  | .hbm, ⟨16, _⟩ => ⟨S2x2064x1, .f32⟩
  | .hbm, ⟨17, _⟩ => ⟨S2x2064x1, .f32⟩
  | .hbm, ⟨18, _⟩ => ⟨S2x2064x1, .f32⟩
  | .hbm, ⟨19, _⟩ => ⟨S2x2064x1024, .f32⟩
  | .hbm, ⟨20, _⟩ => ⟨S2x2064x1024, .f32⟩
  | .hbm, ⟨21, _⟩ => ⟨S1x1x1024, .f32⟩
  | .hbm, ⟨22, _⟩ => ⟨S2x2064x1024, .f32⟩
  | .hbm, ⟨23, _⟩ => ⟨S2x2064x1024, .f32⟩
  | .hbm, ⟨24, _⟩ => ⟨S1024x2816, .f32⟩
  | .hbm, ⟨25, _⟩ => ⟨S2x2064x2816, .f32⟩
  | .hbm, ⟨26, _⟩ => ⟨S1024x2816, .f32⟩
  | .hbm, ⟨27, _⟩ => ⟨S2x2064x2816, .f32⟩
  | .hbm, ⟨28, _⟩ => ⟨S1024x1024, .f32⟩
  | .hbm, ⟨29, _⟩ => ⟨S4x256x1024, .f32⟩
  | .hbm, ⟨30, _⟩ => ⟨S4x1024x256, .f32⟩
  | .hbm, ⟨31, _⟩ => ⟨S4x1024x256, .bf16⟩
  | .hbm, ⟨32, _⟩ => ⟨S_, .i32⟩
  | .hbm, ⟨33, _⟩ => ⟨S_, .f32⟩
  | .hbm, ⟨34, _⟩ => ⟨S2x2112x1024, .f32⟩
  | .hbm, ⟨35, _⟩ => ⟨S4224x1024, .f32⟩
  | .hbm, ⟨36, _⟩ => ⟨S_, .i32⟩
  | .hbm, ⟨37, _⟩ => ⟨S_, .f32⟩
  | .hbm, ⟨38, _⟩ => ⟨S2x2112x2816, .f32⟩
  | .hbm, ⟨39, _⟩ => ⟨S4224x2816, .f32⟩
  | .hbm, ⟨40, _⟩ => ⟨S_, .i32⟩
  | .hbm, ⟨41, _⟩ => ⟨S_, .f32⟩
  | .hbm, ⟨42, _⟩ => ⟨S2x2112x2816, .f32⟩
  | .hbm, ⟨43, _⟩ => ⟨S4224x2816, .f32⟩
  | .hbm, ⟨44, _⟩ => ⟨S_, .i32⟩
  | .hbm, ⟨45, _⟩ => ⟨S_, .f32⟩
  | .hbm, ⟨46, _⟩ => ⟨S2x2112x1024, .f32⟩
  | .hbm, ⟨47, _⟩ => ⟨S4224x1024, .f32⟩
  | .hbm, ⟨48, _⟩ => ⟨S2816x1024, .f32⟩
  | .hbm, ⟨49, _⟩ => ⟨S2816x1024, .bf16⟩
  | .hbm, ⟨50, _⟩ => ⟨S1024x2816, .bf16⟩
  | .hbm, ⟨51, _⟩ => ⟨S1024x2816, .f32⟩
  | .hbm, ⟨52, _⟩ => ⟨S2816x1024, .f32⟩
  | .hbm, ⟨53, _⟩ => ⟨S2816x1024, .bf16⟩
  | .hbm, ⟨54, _⟩ => ⟨S1024x2816, .f32⟩
  | .hbm, ⟨55, _⟩ => ⟨S2816x1024, .f32⟩
  | .hbm, ⟨56, _⟩ => ⟨S2816x1024, .bf16⟩
  | .hbm, ⟨57, _⟩ => ⟨S4224x2816, .bf16⟩
  | .hbm, ⟨58, _⟩ => ⟨S4224x2816, .bf16⟩
  | .hbm, ⟨59, _⟩ => ⟨S4224x1024, .f32⟩
  | .hbm, ⟨60, _⟩ => ⟨S4224x1024, .f32⟩
  | .hbm, ⟨61, _⟩ => ⟨S1x1024, .f32⟩
  | .local _ .vmem, ⟨0, _⟩ => ⟨S192x1024, .f32⟩
  | .local _ .vmem, ⟨1, _⟩ => ⟨S192x1024, .f32⟩
  | .local _ .vmem, ⟨2, _⟩ => ⟨S192x2816, .f32⟩
  | .local _ .vmem, ⟨3, _⟩ => ⟨S192x2816, .f32⟩
  | .local _ .vmem, ⟨4, _⟩ => ⟨S192x2816, .f32⟩
  | .local _ .vmem, ⟨5, _⟩ => ⟨S192x2816, .f32⟩
  | .local _ .vmem, ⟨6, _⟩ => ⟨S192x1024, .f32⟩
  | .local _ .vmem, ⟨7, _⟩ => ⟨S192x1024, .f32⟩
  | .local _ .vmem, ⟨8, _⟩ => ⟨S1024x2816, .bf16⟩
  | .local _ .vmem, ⟨9, _⟩ => ⟨S2816x1024, .bf16⟩
  | .local _ .vmem, ⟨10, _⟩ => ⟨S2816x1024, .bf16⟩
  | .local _ .vmem, ⟨11, _⟩ => ⟨S4x1024x256, .bf16⟩
  | .local _ .vmem, ⟨12, _⟩ => ⟨S1x1024, .f32⟩
  | .local _ .vmem, ⟨13, _⟩ => ⟨S192x2816, .bf16⟩
  | .local _ .vmem, ⟨14, _⟩ => ⟨S192x2816, .bf16⟩
  | .local _ .vmem, ⟨15, _⟩ => ⟨S192x2816, .bf16⟩
  | .local _ .vmem, ⟨16, _⟩ => ⟨S192x2816, .bf16⟩
  | .local _ .vmem, ⟨17, _⟩ => ⟨S192x1024, .f32⟩
  | .local _ .vmem, ⟨18, _⟩ => ⟨S192x1024, .f32⟩
  | .local _ .vmem, ⟨19, _⟩ => ⟨S192x1024, .f32⟩
  | .local _ .vmem, ⟨20, _⟩ => ⟨S192x1024, .f32⟩
  | .local _ .vmem, ⟨21, _⟩ => ⟨S1x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_call1_v0 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_call2_v0 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_call3_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39_0 : Ref sig .tc := ⟨.hbm, 57, rfl⟩
abbrev main_v39_1 : Ref sig .tc := ⟨.hbm, 58, rfl⟩
abbrev main_v39_2 : Ref sig .tc := ⟨.hbm, 59, rfl⟩
abbrev main_v39_3 : Ref sig .tc := ⟨.hbm, 60, rfl⟩
abbrev main_v39_4 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S192x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S192x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S192x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S192x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S2x2064x1024 : Shape := ⟨3, ![2, 2064, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S1024 : Shape := ⟨1, ![1024]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S1024x2816 : Shape := ⟨2, ![1024, 2816]⟩
abbrev S2x2064x2816 : Shape := ⟨3, ![2, 2064, 2816]⟩
abbrev S2816x1024 : Shape := ⟨2, ![2816, 1024]⟩
abbrev S1024x1024 : Shape := ⟨2, ![1024, 1024]⟩
abbrev S2x2112x2816 : Shape := ⟨3, ![2, 2112, 2816]⟩
abbrev S4224x2816 : Shape := ⟨2, ![4224, 2816]⟩
abbrev S2x2112x1024 : Shape := ⟨3, ![2, 2112, 1024]⟩
abbrev S4224x1024 : Shape := ⟨2, ![4224, 1024]⟩

abbrev nBuf : Space → Nat
  | .hbm => 110
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024x1024, .f32⟩
  | .hbm, ⟨6, _⟩ => ⟨S2x2064x1024, .f32⟩
  | .hbm, ⟨7, _⟩ => ⟨S1024, .f32⟩
  | .hbm, ⟨8, _⟩ => ⟨S2x2064x1024, .f32⟩
  | .hbm, ⟨9, _⟩ => ⟨S_, .f32⟩
  | .hbm, ⟨10, _⟩ => ⟨S2x2064, .f32⟩
  | .hbm, ⟨11, _⟩ => ⟨S2x2064x1, .f32⟩
  | .hbm, ⟨12, _⟩ => ⟨S_, .f32⟩
  | .hbm, ⟨13, _⟩ => ⟨S2x2064x1, .f32⟩
  | .hbm, ⟨14, _⟩ => ⟨S2x2064x1, .f32⟩
  | .hbm, ⟨15, _⟩ => ⟨S_, .f32⟩
  | .hbm, ⟨16, _⟩ => ⟨S2x2064x1, .f32⟩
  | .hbm, ⟨17, _⟩ => ⟨S2x2064x1, .f32⟩
  | .hbm, ⟨18, _⟩ => ⟨S2x2064x1, .f32⟩
  | .hbm, ⟨19, _⟩ => ⟨S2x2064x1, .f32⟩
  | .hbm, ⟨20, _⟩ => ⟨S_, .f32⟩
  | .hbm, ⟨21, _⟩ => ⟨S2x2064x1, .f32⟩
  | .hbm, ⟨22, _⟩ => ⟨S2x2064x1, .f32⟩
  | .hbm, ⟨23, _⟩ => ⟨S2x2064x1024, .f32⟩
  | .hbm, ⟨24, _⟩ => ⟨S2x2064x1024, .f32⟩
  | .hbm, ⟨25, _⟩ => ⟨S1x1x1024, .f32⟩
  | .hbm, ⟨26, _⟩ => ⟨S2x2064x1024, .f32⟩
  | .hbm, ⟨27, _⟩ => ⟨S2x2064x1024, .f32⟩
  | .hbm, ⟨28, _⟩ => ⟨S1024x2816, .f32⟩
  | .hbm, ⟨29, _⟩ => ⟨S2x2064x2816, .f32⟩
  | .hbm, ⟨30, _⟩ => ⟨S1024x2816, .f32⟩
  | .hbm, ⟨31, _⟩ => ⟨S2x2064x2816, .f32⟩
  | .hbm, ⟨32, _⟩ => ⟨S2x2064x2816, .f32⟩
  | .hbm, ⟨33, _⟩ => ⟨S2x2064x2816, .f32⟩
  | .hbm, ⟨34, _⟩ => ⟨S_, .f32⟩
  | .hbm, ⟨35, _⟩ => ⟨S2x2064x2816, .f32⟩
  | .hbm, ⟨36, _⟩ => ⟨S2x2064x2816, .f32⟩
  | .hbm, ⟨37, _⟩ => ⟨S_, .f32⟩
  | .hbm, ⟨38, _⟩ => ⟨S2x2064x2816, .f32⟩
  | .hbm, ⟨39, _⟩ => ⟨S2x2064x2816, .f32⟩
  | .hbm, ⟨40, _⟩ => ⟨S_, .f32⟩
  | .hbm, ⟨41, _⟩ => ⟨S2x2064x2816, .f32⟩
  | .hbm, ⟨42, _⟩ => ⟨S2x2064x2816, .f32⟩
  | .hbm, ⟨43, _⟩ => ⟨S2x2064x2816, .f32⟩
  | .hbm, ⟨44, _⟩ => ⟨S2x2064x2816, .f32⟩
  | .hbm, ⟨45, _⟩ => ⟨S2x2064x2816, .f32⟩
  | .hbm, ⟨46, _⟩ => ⟨S2816x1024, .f32⟩
  | .hbm, ⟨47, _⟩ => ⟨S2x2064x1024, .f32⟩
  | .hbm, ⟨48, _⟩ => ⟨S2x2064x1024, .f32⟩
  | .hbm, ⟨49, _⟩ => ⟨S2x2064x1024, .f32⟩
  | .hbm, ⟨50, _⟩ => ⟨S2x2064x2816, .f32⟩
  | .hbm, ⟨51, _⟩ => ⟨S2x2064x2816, .f32⟩
  | .hbm, ⟨52, _⟩ => ⟨S2x2064x2816, .f32⟩
  | .hbm, ⟨53, _⟩ => ⟨S2x2064x2816, .f32⟩
  | .hbm, ⟨54, _⟩ => ⟨S2x2064x2816, .f32⟩
  | .hbm, ⟨55, _⟩ => ⟨S2x2064x2816, .f32⟩
  | .hbm, ⟨56, _⟩ => ⟨S2x2064x2816, .f32⟩
  | .hbm, ⟨57, _⟩ => ⟨S2x2064x1024, .f32⟩
  | .hbm, ⟨58, _⟩ => ⟨S2x2064x1024, .f32⟩
  | .hbm, ⟨59, _⟩ => ⟨S2x2064x1024, .f32⟩
  | .hbm, ⟨60, _⟩ => ⟨S2x2064x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S2x2064x1024, .f32⟩
  | .hbm, ⟨65, _⟩ => ⟨S2x2064x1024, .f32⟩
  | .hbm, ⟨66, _⟩ => ⟨S_, .f32⟩
  | .hbm, ⟨67, _⟩ => ⟨S1024, .f32⟩
  | .hbm, ⟨68, _⟩ => ⟨S2x2064x1024, .f32⟩
  | .hbm, ⟨69, _⟩ => ⟨S_, .f32⟩
  | .hbm, ⟨70, _⟩ => ⟨S2x2064, .f32⟩
  | .hbm, ⟨71, _⟩ => ⟨S2x2064x1, .f32⟩
  | .hbm, ⟨72, _⟩ => ⟨S2x2064x1024, .f32⟩
  | .hbm, ⟨73, _⟩ => ⟨S2x2064x1024, .f32⟩
  | .hbm, ⟨74, _⟩ => ⟨S2x2064x1024, .f32⟩
  | .hbm, ⟨75, _⟩ => ⟨S2x2064x1, .f32⟩
  | .hbm, ⟨76, _⟩ => ⟨S_, .f32⟩
  | .hbm, ⟨77, _⟩ => ⟨S2x2064x1, .f32⟩
  | .hbm, ⟨78, _⟩ => ⟨S2x2064x1, .f32⟩
  | .hbm, ⟨79, _⟩ => ⟨S_, .f32⟩
  | .hbm, ⟨80, _⟩ => ⟨S2x2064, .f32⟩
  | .hbm, ⟨81, _⟩ => ⟨S2x2064x1024, .f32⟩
  | .hbm, ⟨82, _⟩ => ⟨S2x2064x1024, .f32⟩
  | .hbm, ⟨83, _⟩ => ⟨S2x2064x1024, .f32⟩
  | .hbm, ⟨84, _⟩ => ⟨S2x2064x1024, .f32⟩
  | .hbm, ⟨85, _⟩ => ⟨S2x2064x1024, .f32⟩
  | .hbm, ⟨86, _⟩ => ⟨S1x1024, .f32⟩
  | .hbm, ⟨87, _⟩ => ⟨S_, .f32⟩
  | .hbm, ⟨88, _⟩ => ⟨S2x2064x1024, .f32⟩
  | .hbm, ⟨89, _⟩ => ⟨S1024x1024, .f32⟩
  | .hbm, ⟨90, _⟩ => ⟨S2x2064x1024, .f32⟩
  | .hbm, ⟨91, _⟩ => ⟨S2x2064x1024, .f32⟩
  | .hbm, ⟨92, _⟩ => ⟨S_, .i32⟩
  | .hbm, ⟨93, _⟩ => ⟨S_, .f32⟩
  | .hbm, ⟨94, _⟩ => ⟨S2x2112x2816, .f32⟩
  | .hbm, ⟨95, _⟩ => ⟨S4224x2816, .f32⟩
  | .hbm, ⟨96, _⟩ => ⟨S4224x2816, .bf16⟩
  | .hbm, ⟨97, _⟩ => ⟨S_, .i32⟩
  | .hbm, ⟨98, _⟩ => ⟨S_, .f32⟩
  | .hbm, ⟨99, _⟩ => ⟨S2x2112x2816, .f32⟩
  | .hbm, ⟨100, _⟩ => ⟨S4224x2816, .f32⟩
  | .hbm, ⟨101, _⟩ => ⟨S4224x2816, .bf16⟩
  | .hbm, ⟨102, _⟩ => ⟨S_, .i32⟩
  | .hbm, ⟨103, _⟩ => ⟨S_, .f32⟩
  | .hbm, ⟨104, _⟩ => ⟨S2x2112x1024, .f32⟩
  | .hbm, ⟨105, _⟩ => ⟨S4224x1024, .f32⟩
  | .hbm, ⟨106, _⟩ => ⟨S_, .i32⟩
  | .hbm, ⟨107, _⟩ => ⟨S_, .f32⟩
  | .hbm, ⟨108, _⟩ => ⟨S2x2112x1024, .f32⟩
  | .hbm, ⟨109, _⟩ => ⟨S4224x1024, .f32⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_3 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_v39 : Ref sig .tc := ⟨.hbm, 67, rfl⟩
abbrev main_v40 : Ref sig .tc := ⟨.hbm, 68, rfl⟩
abbrev main_cst_5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_6 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c : Ref sig .tc := ⟨.hbm, 92, rfl⟩
abbrev main_call2_v0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_9 : Ref sig .tc := ⟨.hbm, 97, rfl⟩
abbrev main_call3_v0 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_10 : Ref sig .tc := ⟨.hbm, 102, rfl⟩
abbrev main_call4_v0 : Ref sig .tc := ⟨.hbm, 103, rfl⟩
abbrev main_v66 : Ref sig .tc := ⟨.hbm, 104, rfl⟩
abbrev main_v67 : Ref sig .tc := ⟨.hbm, 105, rfl⟩
abbrev main_c_11 : Ref sig .tc := ⟨.hbm, 106, rfl⟩
abbrev main_call5_v0 : Ref sig .tc := ⟨.hbm, 107, rfl⟩
abbrev main_v68 : Ref sig .tc := ⟨.hbm, 108, rfl⟩
abbrev main_v69 : Ref sig .tc := ⟨.hbm, 109, rfl⟩

abbrev nD : Nat := 1
abbrev τ : Topo := Topo.v7x

variable {F : FTy → Type} [FloatOps F]
-- ==== DownLoss.lean ====
abbrev S2x2064x2816 : Shape := ⟨3, ![2, 2064, 2816]⟩
abbrev S1x2816x1024 : Shape := ⟨3, ![1, 2816, 1024]⟩
abbrev S2x2064x1024 : Shape := ⟨3, ![2, 2064, 1024]⟩
abbrev S1024 : Shape := ⟨1, ![1024]⟩
abbrev S2x2048x1024 : Shape := ⟨3, ![2, 2048, 1024]⟩
abbrev S_ : Shape := ⟨0, ![]⟩
abbrev S2x2112x1024 : Shape := ⟨3, ![2, 2112, 1024]⟩
abbrev S4224x1024 : Shape := ⟨2, ![4224, 1024]⟩
abbrev S2x64x1 : Shape := ⟨3, ![2, 64, 1]⟩
abbrev S2x2048x1 : Shape := ⟨3, ![2, 2048, 1]⟩
abbrev S2x2112x1 : Shape := ⟨3, ![2, 2112, 1]⟩
abbrev S4224x1 : Shape := ⟨2, ![4224, 1]⟩
abbrev S2x2112x2816 : Shape := ⟨3, ![2, 2112, 2816]⟩
abbrev S4224x2816 : Shape := ⟨2, ![4224, 2816]⟩
abbrev S2816x1024 : Shape := ⟨2, ![2816, 1024]⟩
abbrev S1x1024 : Shape := ⟨2, ![1, 1024]⟩
abbrev S1x128 : Shape := ⟨2, ![1, 128]⟩
abbrev S384x2816 : Shape := ⟨2, ![384, 2816]⟩
abbrev S384x1024 : Shape := ⟨2, ![384, 1024]⟩
abbrev S384x1 : Shape := ⟨2, ![384, 1]⟩
abbrev S128x1024 : Shape := ⟨2, ![128, 1024]⟩
abbrev S128x2816 : Shape := ⟨2, ![128, 2816]⟩
abbrev S128 : Shape := ⟨1, ![128]⟩
abbrev S128x1 : Shape := ⟨2, ![128, 1]⟩
abbrev S1x128x1024 : Shape := ⟨3, ![1, 128, 1024]⟩
abbrev S1 : Shape := ⟨1, ![1]⟩
abbrev S1x1x1 : Shape := ⟨3, ![1, 1, 1]⟩

abbrev nBuf : Space → Nat
  | .hbm => 30
  | .vmem => 14
  | .smem => 0
  | _ => 0

abbrev bufTy : (tb : Table) → Fin (tcTables nBuf tb) → BufTy
  | .hbm, ⟨0, _⟩ => ⟨S2x2064x2816, .f32⟩
  | .hbm, ⟨1, _⟩ => ⟨S1x2816x1024, .f32⟩
  | .hbm, ⟨2, _⟩ => ⟨S2x2064x1024, .f32⟩
  | .hbm, ⟨3, _⟩ => ⟨S1024, .f32⟩
  | .hbm, ⟨4, _⟩ => ⟨S2x2048x1024, .f32⟩
  | .hbm, ⟨5, _⟩ => ⟨S_, .i32⟩
  | .hbm, ⟨6, _⟩ => ⟨S_, .f32⟩
  | .hbm, ⟨7, _⟩ => ⟨S2x2112x1024, .f32⟩
  | .hbm, ⟨8, _⟩ => ⟨S4224x1024, .f32⟩
  | .hbm, ⟨9, _⟩ => ⟨S_, .f32⟩
  | .hbm, ⟨10, _⟩ => ⟨S2x64x1, .f32⟩
  | .hbm, ⟨11, _⟩ => ⟨S_, .f32⟩
  | .hbm, ⟨12, _⟩ => ⟨S2x2048x1, .f32⟩
  | .hbm, ⟨13, _⟩ => ⟨S2x2112x1, .f32⟩
  | .hbm, ⟨14, _⟩ => ⟨S4224x1, .f32⟩
  | .hbm, ⟨15, _⟩ => ⟨S_, .i32⟩
  | .hbm, ⟨16, _⟩ => ⟨S_, .f32⟩
  | .hbm, ⟨17, _⟩ => ⟨S2x2112x2816, .f32⟩
  | .hbm, ⟨18, _⟩ => ⟨S4224x2816, .f32⟩
  | .hbm, ⟨19, _⟩ => ⟨S4224x2816, .bf16⟩
  | .hbm, ⟨20, _⟩ => ⟨S2816x1024, .f32⟩
  | .hbm, ⟨21, _⟩ => ⟨S2816x1024, .bf16⟩
  | .hbm, ⟨22, _⟩ => ⟨S_, .i32⟩
  | .hbm, ⟨23, _⟩ => ⟨S_, .f32⟩
  | .hbm, ⟨24, _⟩ => ⟨S2x2112x1024, .f32⟩
  | .hbm, ⟨25, _⟩ => ⟨S4224x1024, .f32⟩
  | .hbm, ⟨26, _⟩ => ⟨S1x1024, .f32⟩
  | .hbm, ⟨27, _⟩ => ⟨S4224x1024, .f32⟩
  | .hbm, ⟨28, _⟩ => ⟨S1x128, .f32⟩
  | .hbm, ⟨29, _⟩ => ⟨S1x1024, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S1x1024, .f32⟩
  | .local _ .vmem, ⟨8, _⟩ => ⟨S384x1, .f32⟩
  | .local _ .vmem, ⟨9, _⟩ => ⟨S384x1, .f32⟩
  | .local _ .vmem, ⟨10, _⟩ => ⟨S384x1024, .f32⟩
  | .local _ .vmem, ⟨11, _⟩ => ⟨S384x1024, .f32⟩
  | .local _ .vmem, ⟨12, _⟩ => ⟨S1x128, .f32⟩
  | .local _ .vmem, ⟨13, _⟩ => ⟨S1x1024, .f32⟩
  | _, _ => ⟨S2x2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossRefIdeal.lean ====
abbrev S2x2064x2816 : Shape := ⟨3, ![2, 2064, 2816]⟩
abbrev S1x2816x1024 : Shape := ⟨3, ![1, 2816, 1024]⟩
abbrev S2x2064x1024 : Shape := ⟨3, ![2, 2064, 1024]⟩
abbrev S1024 : Shape := ⟨1, ![1024]⟩
abbrev S2x2048x1024 : Shape := ⟨3, ![2, 2048, 1024]⟩
abbrev S2816x1024 : Shape := ⟨2, ![2816, 1024]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S2x2048 : Shape := ⟨2, ![2, 2048]⟩
abbrev S2x2112x1024 : Shape := ⟨3, ![2, 2112, 1024]⟩
abbrev S4224x1024 : Shape := ⟨2, ![4224, 1024]⟩
abbrev S1x128 : Shape := ⟨2, ![1, 128]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2x2064x2816, .f32⟩
  | .hbm, ⟨1, _⟩ => ⟨S1x2816x1024, .f32⟩
  | .hbm, ⟨2, _⟩ => ⟨S2x2064x1024, .f32⟩
  | .hbm, ⟨3, _⟩ => ⟨S1024, .f32⟩
  | .hbm, ⟨4, _⟩ => ⟨S2x2048x1024, .f32⟩
  | .hbm, ⟨5, _⟩ => ⟨S2816x1024, .f32⟩
  | .hbm, ⟨6, _⟩ => ⟨S2x2064x1024, .f32⟩
  | .hbm, ⟨7, _⟩ => ⟨S2x2064x1024, .f32⟩
  | .hbm, ⟨8, _⟩ => ⟨S2x2064x1024, .f32⟩
  | .hbm, ⟨9, _⟩ => ⟨S_, .f32⟩
  | .hbm, ⟨10, _⟩ => ⟨S2x2064, .f32⟩
  | .hbm, ⟨11, _⟩ => ⟨S2x2064x1, .f32⟩
  | .hbm, ⟨12, _⟩ => ⟨S_, .f32⟩
  | .hbm, ⟨13, _⟩ => ⟨S2x2064x1, .f32⟩
  | .hbm, ⟨14, _⟩ => ⟨S2x2064x1, .f32⟩
  | .hbm, ⟨15, _⟩ => ⟨S_, .f32⟩
  | .hbm, ⟨16, _⟩ => ⟨S2x2064x1, .f32⟩
  | .hbm, ⟨17, _⟩ => ⟨S2x2064x1, .f32⟩
  | .hbm, ⟨18, _⟩ => ⟨S2x2064x1, .f32⟩
  | .hbm, ⟨19, _⟩ => ⟨S2x2064x1, .f32⟩
  | .hbm, ⟨20, _⟩ => ⟨S_, .f32⟩
  | .hbm, ⟨21, _⟩ => ⟨S2x2064x1, .f32⟩
  | .hbm, ⟨22, _⟩ => ⟨S2x2064x1, .f32⟩
  | .hbm, ⟨23, _⟩ => ⟨S2x2064x1024, .f32⟩
  | .hbm, ⟨24, _⟩ => ⟨S2x2064x1024, .f32⟩
  | .hbm, ⟨25, _⟩ => ⟨S1x1x1024, .f32⟩
  | .hbm, ⟨26, _⟩ => ⟨S2x2064x1024, .f32⟩
  | .hbm, ⟨27, _⟩ => ⟨S2x2064x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x2048, .f32⟩
  | .hbm, ⟨36, _⟩ => ⟨S_, .f32⟩
  | .hbm, ⟨37, _⟩ => ⟨S2x2048, .f32⟩
  | .hbm, ⟨38, _⟩ => ⟨S2x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2x2048, .f32⟩
  | .hbm, ⟨47, _⟩ => ⟨S_, .f32⟩
  | .hbm, ⟨48, _⟩ => ⟨S2x2048, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S2x2064x1024, .f32⟩
  | .hbm, ⟨54, _⟩ => ⟨S2x2064x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S2x2064x1024, .f32⟩
  | .hbm, ⟨59, _⟩ => ⟨S2x2064x1024, .f32⟩
  | .hbm, ⟨60, _⟩ => ⟨S_, .f32⟩
  | .hbm, ⟨61, _⟩ => ⟨S1024, .f32⟩
  | .hbm, ⟨62, _⟩ => ⟨S2x2064x1024, .f32⟩
  | .hbm, ⟨63, _⟩ => ⟨S_, .f32⟩
  | .hbm, ⟨64, _⟩ => ⟨S2x2064, .f32⟩
  | .hbm, ⟨65, _⟩ => ⟨S2x2064x1, .f32⟩
  | .hbm, ⟨66, _⟩ => ⟨S2x2064x1024, .f32⟩
  | .hbm, ⟨67, _⟩ => ⟨S2x2064x1024, .f32⟩
  | .hbm, ⟨68, _⟩ => ⟨S2x2064x1, .f32⟩
  | .hbm, ⟨69, _⟩ => ⟨S_, .f32⟩
  | .hbm, ⟨70, _⟩ => ⟨S2x2064x1, .f32⟩
  | .hbm, ⟨71, _⟩ => ⟨S2x2064x1, .f32⟩
  | .hbm, ⟨72, _⟩ => ⟨S_, .f32⟩
  | .hbm, ⟨73, _⟩ => ⟨S2x2064, .f32⟩
  | .hbm, ⟨74, _⟩ => ⟨S2x2064x1024, .f32⟩
  | .hbm, ⟨75, _⟩ => ⟨S2x2064x1024, .f32⟩
  | .hbm, ⟨76, _⟩ => ⟨S2x2064x1024, .f32⟩
  | .hbm, ⟨77, _⟩ => ⟨S2x2064x1024, .f32⟩
  | .hbm, ⟨78, _⟩ => ⟨S2x2064x1024, .f32⟩
  | .hbm, ⟨79, _⟩ => ⟨S_, .i32⟩
  | .hbm, ⟨80, _⟩ => ⟨S_, .f32⟩
  | .hbm, ⟨81, _⟩ => ⟨S2x2112x1024, .f32⟩
  | .hbm, ⟨82, _⟩ => ⟨S4224x1024, .f32⟩
  | .hbm, ⟨83, _⟩ => ⟨S1x128, .f32⟩
  | .hbm, ⟨84, _⟩ => ⟨S1x1024, .f32⟩
  | _, _ => ⟨S2x2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c : Ref sig .tc := ⟨.hbm, 79, rfl⟩
abbrev main_call0_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]
-- ==== GlaFwd.lean ====
abbrev S2x2064x2576 : Shape := ⟨3, ![2, 2064, 2576]⟩
abbrev S1x16x256 : Shape := ⟨3, ![1, 16, 256]⟩
abbrev S1x256 : Shape := ⟨2, ![1, 256]⟩
abbrev S1x128 : Shape := ⟨2, ![1, 128]⟩
abbrev S_ : Shape := ⟨0, ![]⟩
abbrev S2x2112x2576 : Shape := ⟨3, ![2, 2112, 2576]⟩
abbrev S4224x2576 : Shape := ⟨2, ![4224, 2576]⟩
abbrev S4224x2688 : Shape := ⟨2, ![4224, 2688]⟩
abbrev S16x256 : Shape := ⟨2, ![16, 256]⟩
abbrev S128x256 : Shape := ⟨2, ![128, 256]⟩
abbrev S2x2112x2688 : Shape := ⟨3, ![2, 2112, 2688]⟩
abbrev S2x2112x512 : Shape := ⟨3, ![2, 2112, 512]⟩
abbrev S2x4224x256 : Shape := ⟨3, ![2, 4224, 256]⟩
abbrev S2x192x512 : Shape := ⟨3, ![2, 192, 512]⟩
abbrev S2x192x128 : Shape := ⟨3, ![2, 192, 128]⟩
abbrev S2x384x256 : Shape := ⟨3, ![2, 384, 256]⟩
abbrev S2x128x256 : Shape := ⟨3, ![2, 128, 256]⟩
abbrev S1x128x256 : Shape := ⟨3, ![1, 128, 256]⟩
abbrev S1x64x512 : Shape := ⟨3, ![1, 64, 512]⟩
abbrev S64x512 : Shape := ⟨2, ![64, 512]⟩
abbrev S64x256 : Shape := ⟨2, ![64, 256]⟩
abbrev S1x64x128 : Shape := ⟨3, ![1, 64, 128]⟩
abbrev S64x128 : Shape := ⟨2, ![64, 128]⟩
abbrev S64x1 : Shape := ⟨2, ![64, 1]⟩
abbrev S64x64 : Shape := ⟨2, ![64, 64]⟩
abbrev S64x768 : Shape := ⟨2, ![64, 768]⟩
abbrev S256x256 : Shape := ⟨2, ![256, 256]⟩
abbrev S256x64 : Shape := ⟨2, ![256, 64]⟩
abbrev S256x512 : Shape := ⟨2, ![256, 512]⟩
abbrev S256x128 : Shape := ⟨2, ![256, 128]⟩
abbrev S512x256 : Shape := ⟨2, ![512, 256]⟩
abbrev S256 : Shape := ⟨1, ![256]⟩
abbrev S256x1 : Shape := ⟨2, ![256, 1]⟩

abbrev nBuf : Space → Nat
  | .hbm => 19
  | .vmem => 16
  | .smem => 0
  | _ => 0

abbrev bufTy : (tb : Table) → Fin (tcTables nBuf tb) → BufTy
  | .hbm, ⟨0, _⟩ => ⟨S2x2064x2576, .f32⟩
  | .hbm, ⟨1, _⟩ => ⟨S1x16x256, .f32⟩
  | .hbm, ⟨2, _⟩ => ⟨S1x256, .f32⟩
  | .hbm, ⟨3, _⟩ => ⟨S1x128, .f32⟩
  | .hbm, ⟨4, _⟩ => ⟨S_, .i32⟩
  | .hbm, ⟨5, _⟩ => ⟨S_, .f32⟩
  | .hbm, ⟨6, _⟩ => ⟨S2x2112x2576, .f32⟩
  | .hbm, ⟨7, _⟩ => ⟨S4224x2576, .f32⟩
  | .hbm, ⟨8, _⟩ => ⟨S_, .i32⟩
  | .hbm, ⟨9, _⟩ => ⟨S_, .f32⟩
  | .hbm, ⟨10, _⟩ => ⟨S4224x2688, .f32⟩
  | .hbm, ⟨11, _⟩ => ⟨S16x256, .f32⟩
  | .hbm, ⟨12, _⟩ => ⟨S16x256, .bf16⟩
  | .hbm, ⟨13, _⟩ => ⟨S_, .i32⟩
  | .hbm, ⟨14, _⟩ => ⟨S_, .bf16⟩
  | .hbm, ⟨15, _⟩ => ⟨S128x256, .bf16⟩
  | .hbm, ⟨16, _⟩ => ⟨S2x2112x2688, .f32⟩
  | .hbm, ⟨17, _⟩ => ⟨S2x2112x512, .bf16⟩
  | .hbm, ⟨18, _⟩ => ⟨S2x4224x256, .f32⟩
  | .local _ .vmem, ⟨0, _⟩ => ⟨S2x192x512, .f32⟩
  | .local _ .vmem, ⟨1, _⟩ => ⟨S2x192x512, .f32⟩
  | .local _ .vmem, ⟨2, _⟩ => ⟨S2x192x512, .f32⟩
  | .local _ .vmem, ⟨3, _⟩ => ⟨S2x192x512, .f32⟩
  | .local _ .vmem, ⟨4, _⟩ => ⟨S2x192x512, .f32⟩
  | .local _ .vmem, ⟨5, _⟩ => ⟨S2x192x512, .f32⟩
  | .local _ .vmem, ⟨6, _⟩ => ⟨S2x192x128, .f32⟩
  | .local _ .vmem, ⟨7, _⟩ => ⟨S2x192x128, .f32⟩
  | .local _ .vmem, ⟨8, _⟩ => ⟨S128x256, .bf16⟩
  | .local _ .vmem, ⟨9, _⟩ => ⟨S1x256, .f32⟩
  | .local _ .vmem, ⟨10, _⟩ => ⟨S1x128, .f32⟩
  | .local _ .vmem, ⟨11, _⟩ => ⟨S2x192x512, .bf16⟩
  | .local _ .vmem, ⟨12, _⟩ => ⟨S2x192x512, .bf16⟩
  | .local _ .vmem, ⟨13, _⟩ => ⟨S2x384x256, .f32⟩
  | .local _ .vmem, ⟨14, _⟩ => ⟨S2x384x256, .f32⟩
  | .local _ .vmem, ⟨15, _⟩ => ⟨S2x128x256, .f32⟩
  | _, _ => ⟨S2x2064x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_3 (i : grid0.Coords) : Fin 3 → Nat :=
  let arg0 : BitVec 32 := BitVec.ofNat 32 (i 0).val
  let c0_i32 : BitVec 32 := 0#32
  let c20_i32 : BitVec 32 := 20#32
  let c0_i32_0 : BitVec 32 := 0#32
  ![c0_i32.toNat, arg0.toNat, c20_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x192x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GlaFwdRefIdeal.lean ====
abbrev S2x2064x2576 : Shape := ⟨3, ![2, 2064, 2576]⟩
abbrev S1x16x256 : Shape := ⟨3, ![1, 16, 256]⟩
abbrev S1x256 : Shape := ⟨2, ![1, 256]⟩
abbrev S1x128 : Shape := ⟨2, ![1, 128]⟩
abbrev S2x2064x1552 : Shape := ⟨3, ![2, 2064, 1552]⟩
abbrev S2x2064x256 : Shape := ⟨3, ![2, 2064, 256]⟩
abbrev S2x2064x512 : Shape := ⟨3, ![2, 2064, 512]⟩
abbrev S2x2064x16 : Shape := ⟨3, ![2, 2064, 16]⟩
abbrev S16x256 : Shape := ⟨2, ![16, 256]⟩
abbrev S256 : Shape := ⟨1, ![256]⟩
abbrev S128 : Shape := ⟨1, ![128]⟩
abbrev S1x1x256 : Shape := ⟨3, ![1, 1, 256]⟩
abbrev S_ : Shape := ⟨0, ![]⟩
abbrev S2x2112x256 : Shape := ⟨3, ![2, 2112, 256]⟩
abbrev S2x33x64x4x64 : Shape := ⟨5, ![2, 33, 64, 4, 64]⟩
abbrev S2x33x4x64x64 : Shape := ⟨5, ![2, 33, 4, 64, 64]⟩
abbrev S2x2112x512 : Shape := ⟨3, ![2, 2112, 512]⟩
abbrev S2x33x64x4x128 : Shape := ⟨5, ![2, 33, 64, 4, 128]⟩
abbrev S2x33x4x64x128 : Shape := ⟨5, ![2, 33, 4, 64, 128]⟩
abbrev S2x33x4x1x64 : Shape := ⟨5, ![2, 33, 4, 1, 64]⟩
abbrev S64x64 : Shape := ⟨2, ![64, 64]⟩
abbrev S2x33x4x64 : Shape := ⟨4, ![2, 33, 4, 64]⟩
abbrev S2x4x64x128 : Shape := ⟨4, ![2, 4, 64, 128]⟩
abbrev S33x2x4x64 : Shape := ⟨4, ![33, 2, 4, 64]⟩
abbrev S33x2x4x64x128 : Shape := ⟨5, ![33, 2, 4, 64, 128]⟩
abbrev S1x2x4x64 : Shape := ⟨4, ![1, 2, 4, 64]⟩
abbrev S2x4x64 : Shape := ⟨3, ![2, 4, 64]⟩
abbrev S1x2x4x64x128 : Shape := ⟨5, ![1, 2, 4, 64, 128]⟩
abbrev S2x4x64x1 : Shape := ⟨4, ![2, 4, 64, 1]⟩
abbrev S2x2112x4x128 : Shape := ⟨4, ![2, 2112, 4, 128]⟩
abbrev S2x2064x4x128 : Shape := ⟨4, ![2, 2064, 4, 128]⟩
abbrev S2x2064x4 : Shape := ⟨3, ![2, 2064, 4]⟩
abbrev S2x2064x4x1 : Shape := ⟨4, ![2, 2064, 4, 1]⟩
abbrev S1x1x1x128 : Shape := ⟨4, ![1, 1, 1, 128]⟩
abbrev S2x33x128x4x64 : Shape := ⟨5, ![2, 33, 128, 4, 64]⟩
abbrev S2x4224x256 : Shape := ⟨3, ![2, 4224, 256]⟩

abbrev nBuf : Space → Nat
  | .hbm => 170
  | .vmem => 0
  | .smem => 0
  | _ => 0

abbrev hbmTy0_0 (i : Nat) : BufTy := match i % 128 with
  | 0 => ⟨S2x2064x2576, .f32⟩
  | 1 => ⟨S1x16x256, .f32⟩
  | 2 => ⟨S1x256, .f32⟩
  | 3 => ⟨S1x128, .f32⟩
  | 4 => ⟨S2x2064x1552, .f32⟩
  | 5 => ⟨S2x2064x256, .f32⟩
  | 6 => ⟨S2x2064x256, .f32⟩
  | 7 => ⟨S2x2064x512, .f32⟩
  | 8 => ⟨S2x2064x512, .f32⟩
  | 9 => ⟨S2x2064x16, .f32⟩
  | 10 => ⟨S16x256, .f32⟩
  | 11 => ⟨S256, .f32⟩
  | 12 => ⟨S128, .f32⟩
  | 13 => ⟨S2x2064x256, .f32⟩
  | 14 => ⟨S1x1x256, .f32⟩
  | 15 => ⟨S2x2064x256, .f32⟩
  | 16 => ⟨S2x2064x256, .f32⟩
  | 17 => ⟨S2x2064x256, .f32⟩
  | 18 => ⟨S_, .f32⟩
  | 19 => ⟨S2x2064x256, .f32⟩
  | 20 => ⟨S2x2064x256, .f32⟩
  | 21 => ⟨S2x2064x256, .f32⟩
  | 22 => ⟨S2x2064x256, .f32⟩
  | 23 => ⟨S2x2064x256, .i1⟩
  | 24 => ⟨S2x2064x256, .f32⟩
  | 25 => ⟨S2x2064x256, .f32⟩
  | 26 => ⟨S2x2064x256, .f32⟩
  | 27 => ⟨S2x2064x256, .f32⟩
  | 28 => ⟨S2x2064x256, .f32⟩
  | 29 => ⟨S2x2064x256, .f32⟩
  | 30 => ⟨S2x2064x256, .f32⟩
  | 31 => ⟨S2x2064x256, .f32⟩
  | 32 => ⟨S2x2064x256, .f32⟩
  | 33 => ⟨S_, .f32⟩
  | 34 => ⟨S2x2064x256, .f32⟩
  | 35 => ⟨S2x2064x256, .f32⟩
  | 36 => ⟨S_, .i32⟩
  | 37 => ⟨S_, .f32⟩
  | 38 => ⟨S2x2112x256, .f32⟩
  | 39 => ⟨S2x33x64x4x64, .f32⟩
  | 40 => ⟨S2x33x4x64x64, .f32⟩
  | 41 => ⟨S_, .f32⟩
  | 42 => ⟨S2x33x4x64x64, .f32⟩
  | 43 => ⟨S2x33x4x64x64, .f32⟩
  | 44 => ⟨S_, .i32⟩
  | 45 => ⟨S_, .f32⟩
  | 46 => ⟨S2x2112x256, .f32⟩
  | 47 => ⟨S2x33x64x4x64, .f32⟩
  | 48 => ⟨S2x33x4x64x64, .f32⟩
  | 49 => ⟨S_, .i32⟩
  | 50 => ⟨S_, .f32⟩
  | 51 => ⟨S2x2112x512, .f32⟩
  | 52 => ⟨S2x33x64x4x128, .f32⟩
  | 53 => ⟨S2x33x4x64x128, .f32⟩
  | 54 => ⟨S_, .i32⟩
  | 55 => ⟨S_, .f32⟩
  | 56 => ⟨S2x2112x256, .f32⟩
  | 57 => ⟨S2x33x64x4x64, .f32⟩
  | 58 => ⟨S2x33x4x64x64, .f32⟩
  | 59 => ⟨S_, .f32⟩
  | 60 => ⟨S_, .f32⟩
  | 61 => ⟨S2x33x4x64x64, .f32⟩
  | 62 => ⟨S2x33x4x1x64, .f32⟩
  | 63 => ⟨S2x33x4x64x64, .f32⟩
  | 64 => ⟨S2x33x4x64x64, .f32⟩
  | 65 => ⟨S2x33x4x64x64, .f32⟩
  | 66 => ⟨S2x33x4x64x64, .f32⟩
  | 67 => ⟨S2x33x4x64x64, .f32⟩
  | 68 => ⟨S_, .i1⟩
  | 69 => ⟨S64x64, .i1⟩
  | 70 => ⟨S64x64, .i32⟩
  | 71 => ⟨S_, .i32⟩
  | 72 => ⟨S64x64, .i32⟩
  | 73 => ⟨S64x64, .i32⟩
  | 74 => ⟨S64x64, .i32⟩
  | 75 => ⟨S64x64, .i1⟩
  | 76 => ⟨S_, .i1⟩
  | 77 => ⟨S64x64, .i1⟩
  | 78 => ⟨S64x64, .i1⟩
  | 79 => ⟨S2x33x4x64x64, .f32⟩
  | 80 => ⟨S_, .f32⟩
  | 81 => ⟨S_, .f32⟩
  | 82 => ⟨S2x33x4x64x64, .i1⟩
  | 83 => ⟨S2x33x4x64x64, .f32⟩
  | 84 => ⟨S2x33x4x64x64, .f32⟩
  | 85 => ⟨S2x33x4x64x128, .f32⟩
  | 86 => ⟨S2x33x4x64x64, .f32⟩
  | 87 => ⟨S2x33x4x64x64, .f32⟩
  | 88 => ⟨S2x33x4x64x64, .f32⟩
  | 89 => ⟨S2x33x4x64x64, .f32⟩
  | 90 => ⟨S2x33x4x64x128, .f32⟩
  | 91 => ⟨S2x33x4x64, .f32⟩
  | 92 => ⟨S2x33x4x64, .f32⟩
  | 93 => ⟨S_, .f32⟩
  | 94 => ⟨S2x4x64x128, .f32⟩
  | 95 => ⟨S33x2x4x64, .f32⟩
  | 96 => ⟨S33x2x4x64x128, .f32⟩
  | 97 => ⟨S_, .f32⟩
  | 98 => ⟨S33x2x4x64x128, .f32⟩
  | 99 => ⟨S_, .i32⟩
  | 100 => ⟨S33x2x4x64, .f32⟩
  | 101 => ⟨S33x2x4x64x128, .f32⟩
  | 102 => ⟨S_, .i32⟩
  | 103 => ⟨S2x4x64x128, .f32⟩
  | 104 => ⟨S33x2x4x64x128, .f32⟩
  | 105 => ⟨S_, .i32⟩
  | 106 => ⟨S_, .i1⟩
  | 107 => ⟨S_, .i32⟩
  | 108 => ⟨S_, .i32⟩
  | 109 => ⟨S_, .i32⟩
  | 110 => ⟨S1x2x4x64, .f32⟩
  | 111 => ⟨S2x4x64, .f32⟩
  | 112 => ⟨S_, .i32⟩
  | 113 => ⟨S_, .i32⟩
  | 114 => ⟨S_, .i32⟩
  | 115 => ⟨S_, .i32⟩
  | 116 => ⟨S1x2x4x64x128, .f32⟩
  | 117 => ⟨S2x4x64x128, .f32⟩
  | 118 => ⟨S2x4x64x1, .f32⟩
  | 119 => ⟨S2x4x64x128, .f32⟩
  | 120 => ⟨S2x4x64x128, .f32⟩
  | 121 => ⟨S2x4x64x128, .f32⟩
  | 122 => ⟨S1x2x4x64x128, .f32⟩
  | 123 => ⟨S_, .i32⟩
  | 124 => ⟨S_, .i32⟩
  | 125 => ⟨S_, .i32⟩
  | 126 => ⟨S_, .i32⟩
  | 127 => ⟨S33x2x4x64x128, .f32⟩
  | _ => ⟨S2x2064x2576, .f32⟩

abbrev hbmTy0_1 (i : Nat) : BufTy := match i % 128 with
  | 0 => ⟨S_, .i32⟩
  | 1 => ⟨S_, .i32⟩
  | 2 => ⟨S2x33x4x64x128, .f32⟩
  | 3 => ⟨S2x33x4x64x128, .f32⟩
  | 4 => ⟨S2x33x4x64x128, .f32⟩
  | 5 => ⟨S2x33x64x4x128, .f32⟩
  | 6 => ⟨S2x2112x4x128, .f32⟩
  | 7 => ⟨S2x2064x4x128, .f32⟩
  | 8 => ⟨S2x2064x4x128, .f32⟩
  | 9 => ⟨S_, .f32⟩
  | 10 => ⟨S2x2064x4, .f32⟩
  | 11 => ⟨S2x2064x4x1, .f32⟩
  | 12 => ⟨S_, .f32⟩
  | 13 => ⟨S2x2064x4x1, .f32⟩
  | 14 => ⟨S2x2064x4x1, .f32⟩
  | 15 => ⟨S_, .f32⟩
  | 16 => ⟨S2x2064x4x1, .f32⟩
  | 17 => ⟨S2x2064x4x1, .f32⟩
  | 18 => ⟨S2x2064x4x1, .f32⟩
  | 19 => ⟨S2x2064x4x128, .f32⟩
  | 20 => ⟨S2x2064x4x128, .f32⟩
  | 21 => ⟨S1x1x1x128, .f32⟩
  | 22 => ⟨S2x2064x4x128, .f32⟩
  | 23 => ⟨S2x2064x4x128, .f32⟩
  | 24 => ⟨S2x2064x512, .f32⟩
  | 25 => ⟨S2x2064x512, .f32⟩
  | 26 => ⟨S_, .f32⟩
  | 27 => ⟨S2x2064x512, .f32⟩
  | 28 => ⟨S2x2064x512, .f32⟩
  | 29 => ⟨S_, .f32⟩
  | 30 => ⟨S2x2064x512, .f32⟩
  | 31 => ⟨S2x2064x512, .f32⟩
  | 32 => ⟨S2x2064x512, .f32⟩
  | 33 => ⟨S2x2064x4x128, .f32⟩
  | 34 => ⟨S2x2064x4x128, .f32⟩
  | 35 => ⟨S2x2064x512, .f32⟩
  | 36 => ⟨S_, .i32⟩
  | 37 => ⟨S_, .f32⟩
  | 38 => ⟨S2x2112x512, .f32⟩
  | 39 => ⟨S2x2112x512, .bf16⟩
  | 40 => ⟨S2x33x128x4x64, .f32⟩
  | 41 => ⟨S2x4224x256, .f32⟩
  | _ => ⟨S2x2064x2576, .f32⟩

abbrev hbmTy (i : Nat) : BufTy := match i / 128 with
  | 0 => hbmTy0_0 i
  | 1 => hbmTy0_1 i
  | _ => ⟨S2x2064x2576, .f32⟩

abbrev bufTy : (tb : Table) → Fin (tcTables nBuf tb) → BufTy
  | .hbm, ⟨i, _⟩ => hbmTy i
  | _, _ => ⟨S2x2064x2576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_call1_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_v20 : Ref sig .tc := ⟨.hbm, 43, rfl⟩
abbrev main_c_1 : Ref sig .tc := ⟨.hbm, 44, rfl⟩
abbrev main_call2_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_2 : Ref sig .tc := ⟨.hbm, 49, rfl⟩
abbrev main_call3_v0 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_3 : Ref sig .tc := ⟨.hbm, 54, rfl⟩
abbrev main_call4_v0 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call5_call0_cst : Ref sig .tc := ⟨.hbm, 59, rfl⟩
abbrev main_call5_call0_v0 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_4 : Ref sig .tc := ⟨.hbm, 68, rfl⟩
abbrev main_v37 : Ref sig .tc := ⟨.hbm, 69, rfl⟩
abbrev main_call6_v0 : Ref sig .tc := ⟨.hbm, 70, rfl⟩
abbrev main_call6_c : Ref sig .tc := ⟨.hbm, 71, rfl⟩
abbrev main_call6_v1 : Ref sig .tc := ⟨.hbm, 72, rfl⟩
abbrev main_call6_v2 : Ref sig .tc := ⟨.hbm, 73, rfl⟩
abbrev main_call6_v3 : Ref sig .tc := ⟨.hbm, 74, rfl⟩
abbrev main_call6_v4 : Ref sig .tc := ⟨.hbm, 75, rfl⟩
abbrev main_call6_c_0 : Ref sig .tc := ⟨.hbm, 76, rfl⟩
abbrev main_call6_v5 : Ref sig .tc := ⟨.hbm, 77, rfl⟩
abbrev main_v38 : Ref sig .tc := ⟨.hbm, 78, rfl⟩
abbrev main_v39 : Ref sig .tc := ⟨.hbm, 79, rfl⟩
abbrev main_cst_5 : Ref sig .tc := ⟨.hbm, 80, rfl⟩
abbrev main_call7_v0 : Ref sig .tc := ⟨.hbm, 81, rfl⟩
abbrev main_call7_v1 : Ref sig .tc := ⟨.hbm, 82, rfl⟩
abbrev main_call7_v2 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_6 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_7 : Ref sig .tc := ⟨.hbm, 97, rfl⟩
abbrev main_v52 : Ref sig .tc := ⟨.hbm, 98, rfl⟩
abbrev main_c_8 : Ref sig .tc := ⟨.hbm, 99, rfl⟩
abbrev main_v53_0 : Ref sig .tc := ⟨.hbm, 100, rfl⟩
abbrev main_v53_1 : Ref sig .tc := ⟨.hbm, 101, rfl⟩
abbrev main_v53_2 : Ref sig .tc := ⟨.hbm, 102, rfl⟩
abbrev main_v53_3 : Ref sig .tc := ⟨.hbm, 103, rfl⟩
abbrev main_v53_4 : Ref sig .tc := ⟨.hbm, 104, rfl⟩
abbrev main_while0c_c_17 : Ref sig .tc := ⟨.hbm, 105, rfl⟩
abbrev main_while0c_v81 : Ref sig .tc := ⟨.hbm, 106, rfl⟩
abbrev main_while0b_call8_c : Ref sig .tc := ⟨.hbm, 107, rfl⟩
abbrev main_while0b_call8_c_0 : Ref sig .tc := ⟨.hbm, 108, rfl⟩
abbrev main_while0b_call8_c_1 : Ref sig .tc := ⟨.hbm, 109, rfl⟩
abbrev main_while0b_call8_v0 : Ref sig .tc := ⟨.hbm, 110, rfl⟩
abbrev main_while0b_v81 : Ref sig .tc := ⟨.hbm, 111, rfl⟩
abbrev main_while0b_call9_c : Ref sig .tc := ⟨.hbm, 112, rfl⟩
abbrev main_while0b_call9_c_0 : Ref sig .tc := ⟨.hbm, 113, rfl⟩
abbrev main_while0b_call9_c_1 : Ref sig .tc := ⟨.hbm, 114, rfl⟩
abbrev main_while0b_call9_c_2 : Ref sig .tc := ⟨.hbm, 115, rfl⟩
abbrev main_while0b_call9_v0 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_v85 : Ref sig .tc := ⟨.hbm, 120, rfl⟩
abbrev main_while0b_v86 : Ref sig .tc := ⟨.hbm, 121, rfl⟩
abbrev main_while0b_call10_v0 : Ref sig .tc := ⟨.hbm, 122, rfl⟩
abbrev main_while0b_call10_c : Ref sig .tc := ⟨.hbm, 123, rfl⟩
abbrev main_while0b_call10_c_0 : Ref sig .tc := ⟨.hbm, 124, rfl⟩
abbrev main_while0b_call10_c_1 : Ref sig .tc := ⟨.hbm, 125, rfl⟩
abbrev main_while0b_call10_c_2 : Ref sig .tc := ⟨.hbm, 126, rfl⟩
abbrev main_while0b_v87 : Ref sig .tc := ⟨.hbm, 127, rfl⟩
abbrev main_while0b_c_17 : Ref sig .tc := ⟨.hbm, 128, rfl⟩
abbrev main_while0b_v88 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_cst_9 : Ref sig .tc := ⟨.hbm, 137, rfl⟩
abbrev main_v61 : Ref sig .tc := ⟨.hbm, 138, rfl⟩
abbrev main_v62 : Ref sig .tc := ⟨.hbm, 139, rfl⟩
abbrev main_cst_10 : Ref sig .tc := ⟨.hbm, 140, rfl⟩
abbrev main_v63 : Ref sig .tc := ⟨.hbm, 141, rfl⟩
abbrev main_v64 : Ref sig .tc := ⟨.hbm, 142, rfl⟩
abbrev main_cst_11 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_call11_v0 : Ref sig .tc := ⟨.hbm, 152, rfl⟩
abbrev main_call11_v1 : Ref sig .tc := ⟨.hbm, 153, rfl⟩
abbrev main_call11_cst : Ref sig .tc := ⟨.hbm, 154, rfl⟩
abbrev main_call11_v2 : Ref sig .tc := ⟨.hbm, 155, rfl⟩
abbrev main_call11_v3 : Ref sig .tc := ⟨.hbm, 156, rfl⟩
abbrev main_call11_cst_0 : Ref sig .tc := ⟨.hbm, 157, rfl⟩
abbrev main_call11_v4 : Ref sig .tc := ⟨.hbm, 158, rfl⟩
abbrev main_call11_v5 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_c_12 : Ref sig .tc := ⟨.hbm, 164, rfl⟩
abbrev main_call12_v0 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩

abbrev nD : Nat := 1
abbrev τ : Topo := Topo.v7x

variable {F : FTy → Type} [FloatOps F]

abbrev main_while0_count : Scf.Loop 32 := ⟨0#32, 33#32, 1#32⟩
-- ==== GlaBwd.lean ====
abbrev S2x2064x2576 : Shape := ⟨3, ![2, 2064, 2576]⟩
abbrev S1x16x256 : Shape := ⟨3, ![1, 16, 256]⟩
abbrev S1x256 : Shape := ⟨2, ![1, 256]⟩
abbrev S1x128 : Shape := ⟨2, ![1, 128]⟩
abbrev S2x2064x1024 : Shape := ⟨3, ![2, 2064, 1024]⟩
abbrev S_ : Shape := ⟨0, ![]⟩
abbrev S2x2112x2576 : Shape := ⟨3, ![2, 2112, 2576]⟩
abbrev S4224x2576 : Shape := ⟨2, ![4224, 2576]⟩
abbrev S4224x2688 : Shape := ⟨2, ![4224, 2688]⟩
abbrev S16x256 : Shape := ⟨2, ![16, 256]⟩
abbrev S128x256 : Shape := ⟨2, ![128, 256]⟩
abbrev S2x2064x1552 : Shape := ⟨3, ![2, 2064, 1552]⟩
abbrev S2x2064x256 : Shape := ⟨3, ![2, 2064, 256]⟩
abbrev S2x2064x512 : Shape := ⟨3, ![2, 2064, 512]⟩
abbrev S2x2064x16 : Shape := ⟨3, ![2, 2064, 16]⟩
abbrev S256 : Shape := ⟨1, ![256]⟩
abbrev S1x1x256 : Shape := ⟨3, ![1, 1, 256]⟩
abbrev S2x2112x256 : Shape := ⟨3, ![2, 2112, 256]⟩
abbrev S2x33x64x4x64 : Shape := ⟨5, ![2, 33, 64, 4, 64]⟩
abbrev S2x33x4x64x64 : Shape := ⟨5, ![2, 33, 4, 64, 64]⟩
abbrev S2x2112x512 : Shape := ⟨3, ![2, 2112, 512]⟩
abbrev S2x33x64x4x128 : Shape := ⟨5, ![2, 33, 64, 4, 128]⟩
abbrev S2x33x4x64x128 : Shape := ⟨5, ![2, 33, 4, 64, 128]⟩
abbrev S2x33x4x1x64 : Shape := ⟨5, ![2, 33, 4, 1, 64]⟩
abbrev S2x33x4x64 : Shape := ⟨4, ![2, 33, 4, 64]⟩
abbrev S2x33x4x64x1 : Shape := ⟨5, ![2, 33, 4, 64, 1]⟩
abbrev S2x1x4x64x128 : Shape := ⟨5, ![2, 1, 4, 64, 128]⟩
abbrev S2x11x4x64x128 : Shape := ⟨5, ![2, 11, 4, 64, 128]⟩
abbrev S2x33x128x4x64 : Shape := ⟨5, ![2, 33, 128, 4, 64]⟩
abbrev S2x4224x256 : Shape := ⟨3, ![2, 4224, 256]⟩
abbrev S2x2112x1024 : Shape := ⟨3, ![2, 2112, 1024]⟩
abbrev S4224x1024 : Shape := ⟨2, ![4224, 1024]⟩
abbrev S2x2112x2688 : Shape := ⟨3, ![2, 2112, 2688]⟩
abbrev S2x2112x1664 : Shape := ⟨3, ![2, 2112, 1664]⟩
abbrev S2x192x512 : Shape := ⟨3, ![2, 192, 512]⟩
abbrev S2x192x128 : Shape := ⟨3, ![2, 192, 128]⟩
abbrev S2x384x256 : Shape := ⟨3, ![2, 384, 256]⟩
abbrev S2x192x1664 : Shape := ⟨3, ![2, 192, 1664]⟩
abbrev S2x128x256 : Shape := ⟨3, ![2, 128, 256]⟩
abbrev S1x128x256 : Shape := ⟨3, ![1, 128, 256]⟩
abbrev S1x64x512 : Shape := ⟨3, ![1, 64, 512]⟩
abbrev S64x512 : Shape := ⟨2, ![64, 512]⟩
abbrev S1x64x128 : Shape := ⟨3, ![1, 64, 128]⟩
abbrev S64x128 : Shape := ⟨2, ![64, 128]⟩
abbrev S64x256 : Shape := ⟨2, ![64, 256]⟩
abbrev S64x1 : Shape := ⟨2, ![64, 1]⟩
abbrev S64x64 : Shape := ⟨2, ![64, 64]⟩
abbrev S64x768 : Shape := ⟨2, ![64, 768]⟩
abbrev S256x256 : Shape := ⟨2, ![256, 256]⟩
abbrev S256x64 : Shape := ⟨2, ![256, 64]⟩
abbrev S256x512 : Shape := ⟨2, ![256, 512]⟩
abbrev S256x128 : Shape := ⟨2, ![256, 128]⟩
abbrev S256x1 : Shape := ⟨2, ![256, 1]⟩
abbrev S128 : Shape := ⟨1, ![128]⟩
abbrev S512x256 : Shape := ⟨2, ![512, 256]⟩
abbrev S1x64x1664 : Shape := ⟨3, ![1, 64, 1664]⟩
abbrev S64x1664 : Shape := ⟨2, ![64, 1664]⟩
abbrev S1x64x256 : Shape := ⟨3, ![1, 64, 256]⟩

abbrev nBuf : Space → Nat
  | .hbm => 222
  | .vmem => 21
  | .smem => 0
  | _ => 0

abbrev hbmTy0_0 (i : Nat) : BufTy := match i % 128 with
  | 0 => ⟨S2x2064x2576, .f32⟩
  | 1 => ⟨S1x16x256, .f32⟩
  | 2 => ⟨S1x256, .f32⟩
  | 3 => ⟨S1x128, .f32⟩
  | 4 => ⟨S2x2064x1024, .f32⟩
  | 5 => ⟨S_, .i32⟩
  | 6 => ⟨S_, .f32⟩
  | 7 => ⟨S2x2112x2576, .f32⟩
  | 8 => ⟨S4224x2576, .f32⟩
  | 9 => ⟨S_, .i32⟩
  | 10 => ⟨S_, .f32⟩
  | 11 => ⟨S4224x2688, .f32⟩
  | 12 => ⟨S16x256, .f32⟩
  | 13 => ⟨S16x256, .bf16⟩
  | 14 => ⟨S_, .i32⟩
  | 15 => ⟨S_, .bf16⟩
  | 16 => ⟨S128x256, .bf16⟩
  | 17 => ⟨S2x2064x1552, .f32⟩
  | 18 => ⟨S2x2064x256, .f32⟩
  | 19 => ⟨S2x2064x256, .f32⟩
  | 20 => ⟨S2x2064x512, .f32⟩
  | 21 => ⟨S2x2064x512, .f32⟩
  | 22 => ⟨S2x2064x16, .f32⟩
  | 23 => ⟨S16x256, .f32⟩
  | 24 => ⟨S256, .f32⟩
  | 25 => ⟨S2x2064x256, .f32⟩
  | 26 => ⟨S1x1x256, .f32⟩
  | 27 => ⟨S2x2064x256, .f32⟩
  | 28 => ⟨S2x2064x256, .f32⟩
  | 29 => ⟨S2x2064x256, .f32⟩
  | 30 => ⟨S_, .f32⟩
  | 31 => ⟨S2x2064x256, .f32⟩
  | 32 => ⟨S2x2064x256, .f32⟩
  | 33 => ⟨S2x2064x256, .f32⟩
  | 34 => ⟨S2x2064x256, .f32⟩
  | 35 => ⟨S2x2064x256, .i1⟩
  | 36 => ⟨S2x2064x256, .f32⟩
  | 37 => ⟨S2x2064x256, .f32⟩
  | 38 => ⟨S2x2064x256, .f32⟩
  | 39 => ⟨S2x2064x256, .f32⟩
  | 40 => ⟨S2x2064x256, .f32⟩
  | 41 => ⟨S2x2064x256, .f32⟩
  | 42 => ⟨S2x2064x256, .f32⟩
  | 43 => ⟨S2x2064x256, .f32⟩
  | 44 => ⟨S2x2064x256, .f32⟩
  | 45 => ⟨S_, .f32⟩
  | 46 => ⟨S2x2064x256, .f32⟩
  | 47 => ⟨S2x2064x256, .f32⟩
  | 48 => ⟨S_, .i32⟩
  | 49 => ⟨S_, .f32⟩
  | 50 => ⟨S2x2112x256, .f32⟩
  | 51 => ⟨S2x33x64x4x64, .f32⟩
  | 52 => ⟨S2x33x4x64x64, .f32⟩
  | 53 => ⟨S_, .i32⟩
  | 54 => ⟨S_, .f32⟩
  | 55 => ⟨S2x2112x512, .f32⟩
  | 56 => ⟨S2x33x64x4x128, .f32⟩
  | 57 => ⟨S2x33x4x64x128, .f32⟩
  | 58 => ⟨S_, .i32⟩
  | 59 => ⟨S_, .f32⟩
  | 60 => ⟨S2x2112x256, .f32⟩
  | 61 => ⟨S2x33x64x4x64, .f32⟩
  | 62 => ⟨S2x33x4x64x64, .f32⟩
  | 63 => ⟨S_, .f32⟩
  | 64 => ⟨S_, .f32⟩
  | 65 => ⟨S2x33x4x64x64, .f32⟩
  | 66 => ⟨S2x33x4x1x64, .f32⟩
  | 67 => ⟨S2x33x4x64x64, .f32⟩
  | 68 => ⟨S2x33x4x64x64, .f32⟩
  | 69 => ⟨S2x33x4x64x64, .f32⟩
  | 70 => ⟨S2x33x4x64x64, .f32⟩
  | 71 => ⟨S2x33x4x64x128, .f32⟩
  | 72 => ⟨S2x33x4x64, .f32⟩
  | 73 => ⟨S2x33x4x64, .f32⟩
  | 74 => ⟨S2x33x4x64x1, .f32⟩
  | 75 => ⟨S2x33x4x64x128, .f32⟩
  | 76 => ⟨S_, .f32⟩
  | 77 => ⟨S2x1x4x64x128, .f32⟩
  | 78 => ⟨S2x1x4x64x128, .f32⟩
  | 79 => ⟨S2x1x4x64x128, .f32⟩
  | 80 => ⟨S2x1x4x64x128, .f32⟩
  | 81 => ⟨S2x1x4x64x128, .f32⟩
  | 82 => ⟨S2x1x4x64x128, .f32⟩
  | 83 => ⟨S2x1x4x64x128, .f32⟩
  | 84 => ⟨S2x1x4x64x128, .f32⟩
  | 85 => ⟨S2x1x4x64x128, .f32⟩
  | 86 => ⟨S2x1x4x64x128, .f32⟩
  | 87 => ⟨S2x1x4x64x128, .f32⟩
  | 88 => ⟨S2x1x4x64x128, .f32⟩
  | 89 => ⟨S2x1x4x64x128, .f32⟩
  | 90 => ⟨S2x1x4x64x128, .f32⟩
  | 91 => ⟨S2x1x4x64x128, .f32⟩
  | 92 => ⟨S2x1x4x64x128, .f32⟩
  | 93 => ⟨S2x1x4x64x128, .f32⟩
  | 94 => ⟨S2x1x4x64x128, .f32⟩
  | 95 => ⟨S2x1x4x64x128, .f32⟩
  | 96 => ⟨S2x1x4x64x128, .f32⟩
  | 97 => ⟨S2x1x4x64x128, .f32⟩
  | 98 => ⟨S2x1x4x64x128, .f32⟩
  | 99 => ⟨S2x1x4x64x128, .f32⟩
  | 100 => ⟨S2x1x4x64x128, .f32⟩
  | 101 => ⟨S2x1x4x64x128, .f32⟩
  | 102 => ⟨S2x1x4x64x128, .f32⟩
  | 103 => ⟨S2x1x4x64x128, .f32⟩
  | 104 => ⟨S2x1x4x64x128, .f32⟩
  | 105 => ⟨S2x1x4x64x128, .f32⟩
  | 106 => ⟨S2x1x4x64x128, .f32⟩
  | 107 => ⟨S2x1x4x64x128, .f32⟩
  | 108 => ⟨S2x1x4x64x128, .f32⟩
  | 109 => ⟨S2x1x4x64x128, .f32⟩
  | 110 => ⟨S2x1x4x64x128, .f32⟩
  | 111 => ⟨S2x1x4x64x128, .f32⟩
  | 112 => ⟨S2x1x4x64x128, .f32⟩
  | 113 => ⟨S2x1x4x64x128, .f32⟩
  | 114 => ⟨S2x1x4x64x128, .f32⟩
  | 115 => ⟨S2x1x4x64x128, .f32⟩
  | 116 => ⟨S2x1x4x64x128, .f32⟩
  | 117 => ⟨S2x1x4x64x128, .f32⟩
  | 118 => ⟨S2x1x4x64x128, .f32⟩
  | 119 => ⟨S2x1x4x64x128, .f32⟩
  | 120 => ⟨S2x1x4x64x128, .f32⟩
  | 121 => ⟨S2x1x4x64x128, .f32⟩
  | 122 => ⟨S2x1x4x64x128, .f32⟩
  | 123 => ⟨S2x1x4x64x128, .f32⟩
  | 124 => ⟨S2x1x4x64x128, .f32⟩
  | 125 => ⟨S2x1x4x64x128, .f32⟩
  | 126 => ⟨S2x1x4x64x128, .f32⟩
  | 127 => ⟨S2x1x4x64x128, .f32⟩
  | _ => ⟨S2x2064x2576, .f32⟩

abbrev hbmTy0_1 (i : Nat) : BufTy := match i % 128 with
  | 0 => ⟨S2x1x4x64x128, .f32⟩
  | 1 => ⟨S2x1x4x64x128, .f32⟩
  | 2 => ⟨S2x1x4x64x128, .f32⟩
  | 3 => ⟨S2x1x4x64x128, .f32⟩
  | 4 => ⟨S2x1x4x64x128, .f32⟩
  | 5 => ⟨S2x1x4x64x128, .f32⟩
  | 6 => ⟨S2x1x4x64x128, .f32⟩
  | 7 => ⟨S2x1x4x64x128, .f32⟩
  | 8 => ⟨S2x1x4x64x128, .f32⟩
  | 9 => ⟨S2x1x4x64x128, .f32⟩
  | 10 => ⟨S2x1x4x64x128, .f32⟩
  | 11 => ⟨S2x1x4x64x128, .f32⟩
  | 12 => ⟨S2x1x4x64x128, .f32⟩
  | 13 => ⟨S2x1x4x64x128, .f32⟩
  | 14 => ⟨S2x1x4x64x128, .f32⟩
  | 15 => ⟨S2x1x4x64x128, .f32⟩
  | 16 => ⟨S2x1x4x64x128, .f32⟩
  | 17 => ⟨S2x1x4x64x128, .f32⟩
  | 18 => ⟨S2x1x4x64x128, .f32⟩
  | 19 => ⟨S2x1x4x64x128, .f32⟩
  | 20 => ⟨S2x1x4x64x128, .f32⟩
  | 21 => ⟨S2x1x4x64x128, .f32⟩
  | 22 => ⟨S2x1x4x64x128, .f32⟩
  | 23 => ⟨S2x1x4x64x128, .f32⟩
  | 24 => ⟨S2x1x4x64x128, .f32⟩
  | 25 => ⟨S2x1x4x64x128, .f32⟩
  | 26 => ⟨S2x1x4x64x128, .f32⟩
  | 27 => ⟨S2x1x4x64x128, .f32⟩
  | 28 => ⟨S2x1x4x64x128, .f32⟩
  | 29 => ⟨S2x1x4x64x128, .f32⟩
  | 30 => ⟨S2x1x4x64x128, .f32⟩
  | 31 => ⟨S2x1x4x64x128, .f32⟩
  | 32 => ⟨S2x1x4x64x128, .f32⟩
  | 33 => ⟨S2x1x4x64x128, .f32⟩
  | 34 => ⟨S2x1x4x64x128, .f32⟩
  | 35 => ⟨S2x1x4x64x128, .f32⟩
  | 36 => ⟨S2x1x4x64x128, .f32⟩
  | 37 => ⟨S2x1x4x64x128, .f32⟩
  | 38 => ⟨S2x1x4x64x128, .f32⟩
  | 39 => ⟨S2x1x4x64x128, .f32⟩
  | 40 => ⟨S2x1x4x64x128, .f32⟩
  | 41 => ⟨S2x1x4x64x128, .f32⟩
  | 42 => ⟨S2x1x4x64x128, .f32⟩
  | 43 => ⟨S2x1x4x64x128, .f32⟩
  | 44 => ⟨S2x1x4x64x128, .f32⟩
  | 45 => ⟨S2x1x4x64x128, .f32⟩
  | 46 => ⟨S2x1x4x64x128, .f32⟩
  | 47 => ⟨S2x1x4x64x128, .f32⟩
  | 48 => ⟨S2x1x4x64x128, .f32⟩
  | 49 => ⟨S2x1x4x64x128, .f32⟩
  | 50 => ⟨S2x1x4x64x128, .f32⟩
  | 51 => ⟨S2x1x4x64x128, .f32⟩
  | 52 => ⟨S2x1x4x64x128, .f32⟩
  | 53 => ⟨S2x1x4x64x128, .f32⟩
  | 54 => ⟨S2x1x4x64x128, .f32⟩
  | 55 => ⟨S2x1x4x64x128, .f32⟩
  | 56 => ⟨S2x1x4x64x128, .f32⟩
  | 57 => ⟨S2x1x4x64x128, .f32⟩
  | 58 => ⟨S2x1x4x64x128, .f32⟩
  | 59 => ⟨S2x1x4x64x128, .f32⟩
  | 60 => ⟨S2x1x4x64x128, .f32⟩
  | 61 => ⟨S2x1x4x64x128, .f32⟩
  | 62 => ⟨S2x1x4x64x128, .f32⟩
  | 63 => ⟨S2x1x4x64x128, .f32⟩
  | 64 => ⟨S2x1x4x64x128, .f32⟩
  | 65 => ⟨S2x1x4x64x128, .f32⟩
  | 66 => ⟨S2x1x4x64x128, .f32⟩
  | 67 => ⟨S2x1x4x64x128, .f32⟩
  | 68 => ⟨S2x1x4x64x128, .f32⟩
  | 69 => ⟨S2x1x4x64x128, .f32⟩
  | 70 => ⟨S2x1x4x64x128, .f32⟩
  | 71 => ⟨S2x1x4x64x128, .f32⟩
  | 72 => ⟨S2x1x4x64x128, .f32⟩
  | 73 => ⟨S2x1x4x64x128, .f32⟩
  | 74 => ⟨S2x1x4x64x128, .f32⟩
  | 75 => ⟨S2x1x4x64x128, .f32⟩
  | 76 => ⟨S2x1x4x64x128, .f32⟩
  | 77 => ⟨S2x1x4x64x128, .f32⟩
  | 78 => ⟨S2x11x4x64x128, .f32⟩
  | 79 => ⟨S2x11x4x64x128, .f32⟩
  | 80 => ⟨S2x11x4x64x128, .f32⟩
  | 81 => ⟨S2x33x4x64x128, .f32⟩
  | 82 => ⟨S2x33x128x4x64, .f32⟩
  | 83 => ⟨S2x4224x256, .f32⟩
  | 84 => ⟨S_, .i32⟩
  | 85 => ⟨S_, .f32⟩
  | 86 => ⟨S2x2112x1024, .f32⟩
  | 87 => ⟨S4224x1024, .f32⟩
  | 88 => ⟨S2x2112x2688, .f32⟩
  | 89 => ⟨S2x2112x1024, .f32⟩
  | 90 => ⟨S2x2112x1664, .bf16⟩
  | 91 => ⟨S128x256, .f32⟩
  | 92 => ⟨S1x256, .f32⟩
  | 93 => ⟨S1x128, .f32⟩
  | _ => ⟨S2x2064x2576, .f32⟩

abbrev hbmTy (i : Nat) : BufTy := match i / 128 with
  | 0 => hbmTy0_0 i
  | 1 => hbmTy0_1 i
  | _ => ⟨S2x2064x2576, .f32⟩

abbrev bufTy : (tb : Table) → Fin (tcTables nBuf tb) → BufTy
  | .hbm, ⟨i, _⟩ => hbmTy i
  | .local _ .vmem, ⟨0, _⟩ => ⟨S2x192x512, .f32⟩
  | .local _ .vmem, ⟨1, _⟩ => ⟨S2x192x512, .f32⟩
  | .local _ .vmem, ⟨2, _⟩ => ⟨S2x192x512, .f32⟩
  | .local _ .vmem, ⟨3, _⟩ => ⟨S2x192x512, .f32⟩
  | .local _ .vmem, ⟨4, _⟩ => ⟨S2x192x512, .f32⟩
  | .local _ .vmem, ⟨5, _⟩ => ⟨S2x192x512, .f32⟩
  | .local _ .vmem, ⟨6, _⟩ => ⟨S2x192x512, .f32⟩
  | .local _ .vmem, ⟨7, _⟩ => ⟨S2x192x512, .f32⟩
  | .local _ .vmem, ⟨8, _⟩ => ⟨S2x192x128, .f32⟩
  | .local _ .vmem, ⟨9, _⟩ => ⟨S2x192x128, .f32⟩
  | .local _ .vmem, ⟨10, _⟩ => ⟨S2x384x256, .f32⟩
  | .local _ .vmem, ⟨11, _⟩ => ⟨S2x384x256, .f32⟩
  | .local _ .vmem, ⟨12, _⟩ => ⟨S128x256, .bf16⟩
  | .local _ .vmem, ⟨13, _⟩ => ⟨S1x256, .f32⟩
  | .local _ .vmem, ⟨14, _⟩ => ⟨S1x128, .f32⟩
  | .local _ .vmem, ⟨15, _⟩ => ⟨S2x192x1664, .bf16⟩
  | .local _ .vmem, ⟨16, _⟩ => ⟨S2x192x1664, .bf16⟩
  | .local _ .vmem, ⟨17, _⟩ => ⟨S128x256, .f32⟩
  | .local _ .vmem, ⟨18, _⟩ => ⟨S1x256, .f32⟩
  | .local _ .vmem, ⟨19, _⟩ => ⟨S1x128, .f32⟩
  | .local _ .vmem, ⟨20, _⟩ => ⟨S2x128x256, .f32⟩
  | _, _ => ⟨S2x2064x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call3_v0 : Ref sig .tc := ⟨.hbm, 29, rfl⟩
abbrev main_call3_call0_cst : Ref sig .tc := ⟨.hbm, 30, rfl⟩
abbrev main_call3_call0_v0 : Ref sig .tc := ⟨.hbm, 31, rfl⟩
abbrev main_call3_call0_v1 : Ref sig .tc := ⟨.hbm, 32, rfl⟩
abbrev main_call3_call0_v2 : Ref sig .tc := ⟨.hbm, 33, rfl⟩
abbrev main_call3_call0_v3 : Ref sig .tc := ⟨.hbm, 34, rfl⟩
abbrev main_call3_call0_v4 : Ref sig .tc := ⟨.hbm, 35, rfl⟩
abbrev main_call3_call0_v5 : Ref sig .tc := ⟨.hbm, 36, rfl⟩
abbrev main_call3_call0_v6 : Ref sig .tc := ⟨.hbm, 37, rfl⟩
abbrev main_call3_call0_v7 : Ref sig .tc := ⟨.hbm, 38, rfl⟩
abbrev main_call3_call0_v8 : Ref sig .tc := ⟨.hbm, 39, rfl⟩
abbrev main_call3_call0_v9 : Ref sig .tc := ⟨.hbm, 40, rfl⟩
abbrev main_call3_call0_v10 : Ref sig .tc := ⟨.hbm, 41, rfl⟩
abbrev main_call3_call0_v11 : Ref sig .tc := ⟨.hbm, 42, rfl⟩
abbrev main_call3_v1 : Ref sig .tc := ⟨.hbm, 43, rfl⟩
abbrev main_v18 : Ref sig .tc := ⟨.hbm, 44, rfl⟩
abbrev main_cst : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_call4_v0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_3 : Ref sig .tc := ⟨.hbm, 53, rfl⟩
abbrev main_call5_v0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_4 : Ref sig .tc := ⟨.hbm, 58, rfl⟩
abbrev main_call6_v0 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_call7_call0_cst : Ref sig .tc := ⟨.hbm, 63, rfl⟩
abbrev main_call7_call0_v0 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_5 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_c_6 : Ref sig .tc := ⟨.hbm, 212, rfl⟩
abbrev main_call8_v0 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180_0 : Ref sig .tc := ⟨.hbm, 218, rfl⟩
abbrev main_v180_1 : Ref sig .tc := ⟨.hbm, 219, rfl⟩
abbrev main_v180_2 : Ref sig .tc := ⟨.hbm, 220, rfl⟩
abbrev main_v180_3 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c1_i32 : BitVec 32 := 1#32
  let c0_i32_0 : BitVec 32 := 0#32
  ![c0_i32.toNat, v0.toNat, c1_i32.toNat]

def cc0_transform_1 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c2_i32 : BitVec 32 := 2#32
  let c0_i32_0 : BitVec 32 := 0#32
  ![c0_i32.toNat, v0.toNat, c2_i32.toNat]

def cc0_transform_2 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c3_i32 : BitVec 32 := 3#32
  let c0_i32_0 : BitVec 32 := 0#32
  ![c0_i32.toNat, v0.toNat, c3_i32.toNat]

def cc0_transform_3 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c4_i32 : BitVec 32 := 4#32
  let c0_i32_0 : BitVec 32 := 0#32
  ![c0_i32.toNat, v0.toNat, c4_i32.toNat]

def cc0_transform_4 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c20_i32 : BitVec 32 := 20#32
  let c0_i32_0 : BitVec 32 := 0#32
  ![c0_i32.toNat, v0.toNat, c20_i32.toNat]

def cc0_transform_5 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x384x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x192x1664 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvBwd.lean ====
abbrev S2x2064x2576 : Shape := ⟨3, ![2, 2064, 2576]⟩
abbrev S1x31x512 : Shape := ⟨3, ![1, 31, 512]⟩
abbrev S1x512 : Shape := ⟨2, ![1, 512]⟩
abbrev S2x2064x1024 : Shape := ⟨3, ![2, 2064, 1024]⟩
abbrev S_ : Shape := ⟨0, ![]⟩
abbrev S2x2112x2576 : Shape := ⟨3, ![2, 2112, 2576]⟩
abbrev S4224x2576 : Shape := ⟨2, ![4224, 2576]⟩
abbrev S4224x2688 : Shape := ⟨2, ![4224, 2688]⟩
abbrev S2x2064x512 : Shape := ⟨3, ![2, 2064, 512]⟩
abbrev S31x512 : Shape := ⟨2, ![31, 512]⟩
abbrev S32x512 : Shape := ⟨2, ![32, 512]⟩
abbrev S2x2112x1024 : Shape := ⟨3, ![2, 2112, 1024]⟩
abbrev S4224x1024 : Shape := ⟨2, ![4224, 1024]⟩
abbrev S2x30x512 : Shape := ⟨3, ![2, 30, 512]⟩
abbrev S2x2094x512 : Shape := ⟨3, ![2, 2094, 512]⟩
abbrev S1x2x2064x512 : Shape := ⟨4, ![1, 2, 2064, 512]⟩
abbrev S16x2x2064x512 : Shape := ⟨4, ![16, 2, 2064, 512]⟩
abbrev S15x2x2064x512 : Shape := ⟨4, ![15, 2, 2064, 512]⟩
abbrev S31x2x2064x512 : Shape := ⟨4, ![31, 2, 2064, 512]⟩
abbrev S31x1x1x512 : Shape := ⟨4, ![31, 1, 1, 512]⟩
abbrev S512 : Shape := ⟨1, ![512]⟩
abbrev S1x1x512 : Shape := ⟨3, ![1, 1, 512]⟩
abbrev S2x2112x512 : Shape := ⟨3, ![2, 2112, 512]⟩
abbrev S4224x512 : Shape := ⟨2, ![4224, 512]⟩
abbrev S192x512 : Shape := ⟨2, ![192, 512]⟩
abbrev S192x1024 : Shape := ⟨2, ![192, 1024]⟩
abbrev S32x1024 : Shape := ⟨2, ![32, 1024]⟩
abbrev S224x512 : Shape := ⟨2, ![224, 512]⟩
abbrev S32x8x512 : Shape := ⟨3, ![32, 8, 512]⟩
abbrev S7x216x512 : Shape := ⟨3, ![7, 216, 512]⟩
abbrev S192x1 : Shape := ⟨2, ![192, 1]⟩
abbrev S192 : Shape := ⟨1, ![192]⟩
abbrev S32 : Shape := ⟨1, ![32]⟩
abbrev S32x1 : Shape := ⟨2, ![32, 1]⟩
abbrev S216x512 : Shape := ⟨2, ![216, 512]⟩
abbrev S1x216x512 : Shape := ⟨3, ![1, 216, 512]⟩
abbrev S1x32x512 : Shape := ⟨3, ![1, 32, 512]⟩
abbrev S1x8x512 : Shape := ⟨3, ![1, 8, 512]⟩
abbrev S8x512 : Shape := ⟨2, ![8, 512]⟩
abbrev S4x8x512 : Shape := ⟨3, ![4, 8, 512]⟩

abbrev nBuf : Space → Nat
  | .hbm => 119
  | .vmem => 26
  | .smem => 0
  | _ => 0

abbrev bufTy : (tb : Table) → Fin (tcTables nBuf tb) → BufTy
  | .hbm, ⟨0, _⟩ => ⟨S2x2064x2576, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S2x2064x1024, .f32⟩
  | .hbm, ⟨6, _⟩ => ⟨S_, .i32⟩
  | .hbm, ⟨7, _⟩ => ⟨S_, .f32⟩
  | .hbm, ⟨8, _⟩ => ⟨S2x2112x2576, .f32⟩
  | .hbm, ⟨9, _⟩ => ⟨S4224x2576, .f32⟩
  | .hbm, ⟨10, _⟩ => ⟨S_, .i32⟩
  | .hbm, ⟨11, _⟩ => ⟨S_, .f32⟩
  | .hbm, ⟨12, _⟩ => ⟨S4224x2688, .f32⟩
  | .hbm, ⟨13, _⟩ => ⟨S2x2064x512, .f32⟩
  | .hbm, ⟨14, _⟩ => ⟨S2x2064x512, .f32⟩
  | .hbm, ⟨15, _⟩ => ⟨S2x2064x512, .f32⟩
  | .hbm, ⟨16, _⟩ => ⟨S2x2064x512, .f32⟩
  | .hbm, ⟨17, _⟩ => ⟨S_, .f32⟩
  | .hbm, ⟨18, _⟩ => ⟨S2x2064x512, .f32⟩
  | .hbm, ⟨19, _⟩ => ⟨S2x2064x512, .f32⟩
  | .hbm, ⟨20, _⟩ => ⟨S_, .f32⟩
  | .hbm, ⟨21, _⟩ => ⟨S2x2064x512, .f32⟩
  | .hbm, ⟨22, _⟩ => ⟨S2x2064x512, .f32⟩
  | .hbm, ⟨23, _⟩ => ⟨S2x2064x512, .f32⟩
  | .hbm, ⟨24, _⟩ => ⟨S31x512, .f32⟩
  | .hbm, ⟨25, _⟩ => ⟨S_, .i32⟩
  | .hbm, ⟨26, _⟩ => ⟨S_, .f32⟩
  | .hbm, ⟨27, _⟩ => ⟨S32x512, .f32⟩
  | .hbm, ⟨28, _⟩ => ⟨S_, .i32⟩
  | .hbm, ⟨29, _⟩ => ⟨S_, .f32⟩
  | .hbm, ⟨30, _⟩ => ⟨S2x2112x1024, .f32⟩
  | .hbm, ⟨31, _⟩ => ⟨S4224x1024, .f32⟩
  | .hbm, ⟨32, _⟩ => ⟨S31x512, .f32⟩
  | .hbm, ⟨33, _⟩ => ⟨S_, .f32⟩
  | .hbm, ⟨34, _⟩ => ⟨S2x30x512, .f32⟩
  | .hbm, ⟨35, _⟩ => ⟨S2x2094x512, .f32⟩
  | .hbm, ⟨36, _⟩ => ⟨S2x2064x512, .f32⟩
  | .hbm, ⟨37, _⟩ => ⟨S1x2x2064x512, .f32⟩
  | .hbm, ⟨38, _⟩ => ⟨S2x2064x512, .f32⟩
  | .hbm, ⟨39, _⟩ => ⟨S1x2x2064x512, .f32⟩
  | .hbm, ⟨40, _⟩ => ⟨S2x2064x512, .f32⟩
  | .hbm, ⟨41, _⟩ => ⟨S1x2x2064x512, .f32⟩
  | .hbm, ⟨42, _⟩ => ⟨S2x2064x512, .f32⟩
  | .hbm, ⟨43, _⟩ => ⟨S1x2x2064x512, .f32⟩
  | .hbm, ⟨44, _⟩ => ⟨S2x2064x512, .f32⟩
  | .hbm, ⟨45, _⟩ => ⟨S1x2x2064x512, .f32⟩
  | .hbm, ⟨46, _⟩ => ⟨S2x2064x512, .f32⟩
  | .hbm, ⟨47, _⟩ => ⟨S1x2x2064x512, .f32⟩
  | .hbm, ⟨48, _⟩ => ⟨S2x2064x512, .f32⟩
  | .hbm, ⟨49, _⟩ => ⟨S1x2x2064x512, .f32⟩
  | .hbm, ⟨50, _⟩ => ⟨S2x2064x512, .f32⟩
  | .hbm, ⟨51, _⟩ => ⟨S1x2x2064x512, .f32⟩
  | .hbm, ⟨52, _⟩ => ⟨S2x2064x512, .f32⟩
  | .hbm, ⟨53, _⟩ => ⟨S1x2x2064x512, .f32⟩
  | .hbm, ⟨54, _⟩ => ⟨S2x2064x512, .f32⟩
  | .hbm, ⟨55, _⟩ => ⟨S1x2x2064x512, .f32⟩
  | .hbm, ⟨56, _⟩ => ⟨S2x2064x512, .f32⟩
  | .hbm, ⟨57, _⟩ => ⟨S1x2x2064x512, .f32⟩
  | .hbm, ⟨58, _⟩ => ⟨S2x2064x512, .f32⟩
  | .hbm, ⟨59, _⟩ => ⟨S1x2x2064x512, .f32⟩
  | .hbm, ⟨60, _⟩ => ⟨S2x2064x512, .f32⟩
  | .hbm, ⟨61, _⟩ => ⟨S1x2x2064x512, .f32⟩
  | .hbm, ⟨62, _⟩ => ⟨S2x2064x512, .f32⟩
  | .hbm, ⟨63, _⟩ => ⟨S1x2x2064x512, .f32⟩
  | .hbm, ⟨64, _⟩ => ⟨S2x2064x512, .f32⟩
  | .hbm, ⟨65, _⟩ => ⟨S1x2x2064x512, .f32⟩
  | .hbm, ⟨66, _⟩ => ⟨S2x2064x512, .f32⟩
  | .hbm, ⟨67, _⟩ => ⟨S1x2x2064x512, .f32⟩
  | .hbm, ⟨68, _⟩ => ⟨S2x2064x512, .f32⟩
  | .hbm, ⟨69, _⟩ => ⟨S1x2x2064x512, .f32⟩
  | .hbm, ⟨70, _⟩ => ⟨S2x2064x512, .f32⟩
  | .hbm, ⟨71, _⟩ => ⟨S1x2x2064x512, .f32⟩
  | .hbm, ⟨72, _⟩ => ⟨S2x2064x512, .f32⟩
  | .hbm, ⟨73, _⟩ => ⟨S1x2x2064x512, .f32⟩
  | .hbm, ⟨74, _⟩ => ⟨S2x2064x512, .f32⟩
  | .hbm, ⟨75, _⟩ => ⟨S1x2x2064x512, .f32⟩
  | .hbm, ⟨76, _⟩ => ⟨S2x2064x512, .f32⟩
  | .hbm, ⟨77, _⟩ => ⟨S1x2x2064x512, .f32⟩
  | .hbm, ⟨78, _⟩ => ⟨S2x2064x512, .f32⟩
  | .hbm, ⟨79, _⟩ => ⟨S1x2x2064x512, .f32⟩
  | .hbm, ⟨80, _⟩ => ⟨S2x2064x512, .f32⟩
  | .hbm, ⟨81, _⟩ => ⟨S1x2x2064x512, .f32⟩
  | .hbm, ⟨82, _⟩ => ⟨S2x2064x512, .f32⟩
  | .hbm, ⟨83, _⟩ => ⟨S1x2x2064x512, .f32⟩
  | .hbm, ⟨84, _⟩ => ⟨S2x2064x512, .f32⟩
  | .hbm, ⟨85, _⟩ => ⟨S1x2x2064x512, .f32⟩
  | .hbm, ⟨86, _⟩ => ⟨S2x2064x512, .f32⟩
  | .hbm, ⟨87, _⟩ => ⟨S1x2x2064x512, .f32⟩
  | .hbm, ⟨88, _⟩ => ⟨S2x2064x512, .f32⟩
  | .hbm, ⟨89, _⟩ => ⟨S1x2x2064x512, .f32⟩
  | .hbm, ⟨90, _⟩ => ⟨S2x2064x512, .f32⟩
  | .hbm, ⟨91, _⟩ => ⟨S1x2x2064x512, .f32⟩
  | .hbm, ⟨92, _⟩ => ⟨S2x2064x512, .f32⟩
  | .hbm, ⟨93, _⟩ => ⟨S1x2x2064x512, .f32⟩
  | .hbm, ⟨94, _⟩ => ⟨S2x2064x512, .f32⟩
  | .hbm, ⟨95, _⟩ => ⟨S1x2x2064x512, .f32⟩
  | .hbm, ⟨96, _⟩ => ⟨S2x2064x512, .f32⟩
  | .hbm, ⟨97, _⟩ => ⟨S1x2x2064x512, .f32⟩
  | .hbm, ⟨98, _⟩ => ⟨S16x2x2064x512, .f32⟩
  | .hbm, ⟨99, _⟩ => ⟨S15x2x2064x512, .f32⟩
  | .hbm, ⟨100, _⟩ => ⟨S31x2x2064x512, .f32⟩
  | .hbm, ⟨101, _⟩ => ⟨S31x1x1x512, .f32⟩
  | .hbm, ⟨102, _⟩ => ⟨S31x2x2064x512, .f32⟩
  | .hbm, ⟨103, _⟩ => ⟨S31x2x2064x512, .f32⟩
  | .hbm, ⟨104, _⟩ => ⟨S_, .f32⟩
  | .hbm, ⟨105, _⟩ => ⟨S2x2064x512, .f32⟩
  | .hbm, ⟨106, _⟩ => ⟨S512, .f32⟩
  | .hbm, ⟨107, _⟩ => ⟨S1x1x512, .f32⟩
  | .hbm, ⟨108, _⟩ => ⟨S2x2064x512, .f32⟩
  | .hbm, ⟨109, _⟩ => ⟨S2x2064x512, .f32⟩
  | .hbm, ⟨110, _⟩ => ⟨S_, .i32⟩
  | .hbm, ⟨111, _⟩ => ⟨S_, .f32⟩
  | .hbm, ⟨112, _⟩ => ⟨S2x2112x512, .f32⟩
  | .hbm, ⟨113, _⟩ => ⟨S4224x512, .f32⟩
  | .hbm, ⟨114, _⟩ => ⟨S4224x1024, .bf16⟩
  | .hbm, ⟨115, _⟩ => ⟨S32x512, .f32⟩
  | .hbm, ⟨116, _⟩ => ⟨S1x512, .f32⟩
  | .hbm, ⟨117, _⟩ => ⟨S1x512, .f32⟩
  | .hbm, ⟨118, _⟩ => ⟨S1x512, .f32⟩
  | .local _ .vmem, ⟨0, _⟩ => ⟨S192x512, .f32⟩
  | .local _ .vmem, ⟨1, _⟩ => ⟨S192x512, .f32⟩
  | .local _ .vmem, ⟨2, _⟩ => ⟨S32x512, .f32⟩
  | .local _ .vmem, ⟨3, _⟩ => ⟨S32x512, .f32⟩
  | .local _ .vmem, ⟨4, _⟩ => ⟨S192x512, .f32⟩
  | .local _ .vmem, ⟨5, _⟩ => ⟨S192x512, .f32⟩
  | .local _ .vmem, ⟨6, _⟩ => ⟨S32x512, .f32⟩
  | .local _ .vmem, ⟨7, _⟩ => ⟨S32x512, .f32⟩
  | .local _ .vmem, ⟨8, _⟩ => ⟨S192x1024, .f32⟩
  | .local _ .vmem, ⟨9, _⟩ => ⟨S192x1024, .f32⟩
  | .local _ .vmem, ⟨10, _⟩ => ⟨S32x1024, .f32⟩
  | .local _ .vmem, ⟨11, _⟩ => ⟨S32x1024, .f32⟩
  | .local _ .vmem, ⟨12, _⟩ => ⟨S32x512, .f32⟩
  | .local _ .vmem, ⟨13, _⟩ => ⟨S1x512, .f32⟩
  | .local _ .vmem, ⟨14, _⟩ => ⟨S1x512, .f32⟩
  | .local _ .vmem, ⟨15, _⟩ => ⟨S192x1024, .bf16⟩
  | .local _ .vmem, ⟨16, _⟩ => ⟨S192x1024, .bf16⟩
  | .local _ .vmem, ⟨17, _⟩ => ⟨S32x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S224x512, .f32⟩
  | .local _ .vmem, ⟨22, _⟩ => ⟨S224x512, .f32⟩
  | .local _ .vmem, ⟨23, _⟩ => ⟨S32x8x512, .f32⟩
  | .local _ .vmem, ⟨24, _⟩ => ⟨S7x216x512, .f32⟩
  | .local _ .vmem, ⟨25, _⟩ => ⟨S7x216x512, .f32⟩
  | _, _ => ⟨S2x2064x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_call2_v0 : Ref sig .tc := ⟨.hbm, 26, rfl⟩
abbrev main_v13 : Ref sig .tc := ⟨.hbm, 27, rfl⟩
abbrev main_c_3 : Ref sig .tc := ⟨.hbm, 28, rfl⟩
abbrev main_call3_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_5 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_c_6 : Ref sig .tc := ⟨.hbm, 110, rfl⟩
abbrev main_call4_v0 : Ref sig .tc := ⟨.hbm, 111, rfl⟩
abbrev main_v92 : Ref sig .tc := ⟨.hbm, 112, rfl⟩
abbrev main_v93 : Ref sig .tc := ⟨.hbm, 113, rfl⟩
abbrev main_v94_0 : Ref sig .tc := ⟨.hbm, 114, rfl⟩
abbrev main_v94_1 : Ref sig .tc := ⟨.hbm, 115, rfl⟩
abbrev main_v94_2 : Ref sig .tc := ⟨.hbm, 116, rfl⟩
abbrev main_v94_3 : Ref sig .tc := ⟨.hbm, 117, rfl⟩
abbrev main_v94_4 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg0 : BitVec 32 := BitVec.ofNat 32 (i 0).val
  let c1_i32 : BitVec 32 := 1#32
  let v3446 : BitVec 1 := Scalar.cmpi .eq arg0 c1_i32
  let arg1 : BitVec 32 := BitVec.ofNat 32 (i 1).val
  let c10_i32_2515 : BitVec 32 := 10#32
  let v3447 : BitVec 1 := Scalar.cmpi .eq arg1 c10_i32_2515
  let v3448 : BitVec 1 := Scalar.andi v3446 v3447
  let v3449 : BitVec 32 := Scalar.extui v3448
  let c0_i32_2516 : BitVec 32 := 0#32
  let v3450 : BitVec 1 := Scalar.cmpi .ne v3449 c0_i32_2516
  v3450

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c1_i32 : BitVec 32 := 1#32
  let v2 : BitVec 32 := Scalar.addi v1 c1_i32
  let c6_i32 : BitVec 32 := 6#32
  let v3 : BitVec 32 := Scalar.muli v2 c6_i32
  let c131_i32 : BitVec 32 := 131#32
  let v4 : BitVec 32 := Scalar.minsi v3 c131_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c1_i32 : BitVec 32 := 1#32
  let v2 : BitVec 32 := Scalar.addi v1 c1_i32
  let c6_i32 : BitVec 32 := 6#32
  let v3 : BitVec 32 := Scalar.muli v2 c6_i32
  let c131_i32 : BitVec 32 := 131#32
  let v4 : BitVec 32 := Scalar.minsi v3 c131_i32
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c6_i32 : BitVec 32 := 6#32
  let v2 : BitVec 32 := Scalar.muli v1 c6_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S192x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ConvBwdRefIdeal.lean ====
abbrev S2x2064x2576 : Shape := ⟨3, ![2, 2064, 2576]⟩
abbrev S1x31x512 : Shape := ⟨3, ![1, 31, 512]⟩
abbrev S1x512 : Shape := ⟨2, ![1, 512]⟩
abbrev S2x2064x1024 : Shape := ⟨3, ![2, 2064, 1024]⟩
abbrev S512 : Shape := ⟨1, ![512]⟩
abbrev S2x2064x512 : Shape := ⟨3, ![2, 2064, 512]⟩
abbrev S31x512 : Shape := ⟨2, ![31, 512]⟩
abbrev S_ : Shape := ⟨0, ![]⟩
abbrev S2x30x512 : Shape := ⟨3, ![2, 30, 512]⟩
abbrev S2x2094x512 : Shape := ⟨3, ![2, 2094, 512]⟩
abbrev S1x2x2064x512 : Shape := ⟨4, ![1, 2, 2064, 512]⟩
abbrev S16x2x2064x512 : Shape := ⟨4, ![16, 2, 2064, 512]⟩
abbrev S15x2x2064x512 : Shape := ⟨4, ![15, 2, 2064, 512]⟩
abbrev S31x2x2064x512 : Shape := ⟨4, ![31, 2, 2064, 512]⟩
abbrev S31x1x1x512 : Shape := ⟨4, ![31, 1, 1, 512]⟩
abbrev S1x1x512 : Shape := ⟨3, ![1, 1, 512]⟩
abbrev S2x2064 : Shape := ⟨2, ![2, 2064]⟩
abbrev S2x2064x1 : Shape := ⟨3, ![2, 2064, 1]⟩

abbrev nBuf : Space → Nat
  | .hbm => 203
  | .vmem => 0
  | .smem => 0
  | _ => 0

abbrev hbmTy0_0 (i : Nat) : BufTy := match i % 128 with
  | 0 => ⟨S2x2064x2576, .f32⟩
  | 1 => ⟨S1x31x512, .f32⟩
  | 2 => ⟨S1x512, .f32⟩
  | 3 => ⟨S1x512, .f32⟩
  | 4 => ⟨S1x512, .f32⟩
  | 5 => ⟨S2x2064x1024, .f32⟩
  | 6 => ⟨S512, .f32⟩
  | 7 => ⟨S512, .f32⟩
  | 8 => ⟨S512, .f32⟩
  | 9 => ⟨S2x2064x512, .f32⟩
  | 10 => ⟨S2x2064x512, .f32⟩
  | 11 => ⟨S31x512, .f32⟩
  | 12 => ⟨S2x2064x512, .f32⟩
  | 13 => ⟨S2x2064x512, .f32⟩
  | 14 => ⟨S_, .f32⟩
  | 15 => ⟨S2x2064x512, .f32⟩
  | 16 => ⟨S2x2064x512, .f32⟩
  | 17 => ⟨S_, .f32⟩
  | 18 => ⟨S2x2064x512, .f32⟩
  | 19 => ⟨S2x2064x512, .f32⟩
  | 20 => ⟨S2x2064x512, .f32⟩
  | 21 => ⟨S_, .f32⟩
  | 22 => ⟨S2x30x512, .f32⟩
  | 23 => ⟨S2x2094x512, .f32⟩
  | 24 => ⟨S2x2064x512, .f32⟩
  | 25 => ⟨S1x2x2064x512, .f32⟩
  | 26 => ⟨S2x2064x512, .f32⟩
  | 27 => ⟨S1x2x2064x512, .f32⟩
  | 28 => ⟨S2x2064x512, .f32⟩
  | 29 => ⟨S1x2x2064x512, .f32⟩
  | 30 => ⟨S2x2064x512, .f32⟩
  | 31 => ⟨S1x2x2064x512, .f32⟩
  | 32 => ⟨S2x2064x512, .f32⟩
  | 33 => ⟨S1x2x2064x512, .f32⟩
  | 34 => ⟨S2x2064x512, .f32⟩
  | 35 => ⟨S1x2x2064x512, .f32⟩
  | 36 => ⟨S2x2064x512, .f32⟩
  | 37 => ⟨S1x2x2064x512, .f32⟩
  | 38 => ⟨S2x2064x512, .f32⟩
  | 39 => ⟨S1x2x2064x512, .f32⟩
  | 40 => ⟨S2x2064x512, .f32⟩
  | 41 => ⟨S1x2x2064x512, .f32⟩
  | 42 => ⟨S2x2064x512, .f32⟩
  | 43 => ⟨S1x2x2064x512, .f32⟩
  | 44 => ⟨S2x2064x512, .f32⟩
  | 45 => ⟨S1x2x2064x512, .f32⟩
  | 46 => ⟨S2x2064x512, .f32⟩
  | 47 => ⟨S1x2x2064x512, .f32⟩
  | 48 => ⟨S2x2064x512, .f32⟩
  | 49 => ⟨S1x2x2064x512, .f32⟩
  | 50 => ⟨S2x2064x512, .f32⟩
  | 51 => ⟨S1x2x2064x512, .f32⟩
  | 52 => ⟨S2x2064x512, .f32⟩
  | 53 => ⟨S1x2x2064x512, .f32⟩
  | 54 => ⟨S2x2064x512, .f32⟩
  | 55 => ⟨S1x2x2064x512, .f32⟩
  | 56 => ⟨S2x2064x512, .f32⟩
  | 57 => ⟨S1x2x2064x512, .f32⟩
  | 58 => ⟨S2x2064x512, .f32⟩
  | 59 => ⟨S1x2x2064x512, .f32⟩
  | 60 => ⟨S2x2064x512, .f32⟩
  | 61 => ⟨S1x2x2064x512, .f32⟩
  | 62 => ⟨S2x2064x512, .f32⟩
  | 63 => ⟨S1x2x2064x512, .f32⟩
  | 64 => ⟨S2x2064x512, .f32⟩
  | 65 => ⟨S1x2x2064x512, .f32⟩
  | 66 => ⟨S2x2064x512, .f32⟩
  | 67 => ⟨S1x2x2064x512, .f32⟩
  | 68 => ⟨S2x2064x512, .f32⟩
  | 69 => ⟨S1x2x2064x512, .f32⟩
  | 70 => ⟨S2x2064x512, .f32⟩
  | 71 => ⟨S1x2x2064x512, .f32⟩
  | 72 => ⟨S2x2064x512, .f32⟩
  | 73 => ⟨S1x2x2064x512, .f32⟩
  | 74 => ⟨S2x2064x512, .f32⟩
  | 75 => ⟨S1x2x2064x512, .f32⟩
  | 76 => ⟨S2x2064x512, .f32⟩
  | 77 => ⟨S1x2x2064x512, .f32⟩
  | 78 => ⟨S2x2064x512, .f32⟩
  | 79 => ⟨S1x2x2064x512, .f32⟩
  | 80 => ⟨S2x2064x512, .f32⟩
  | 81 => ⟨S1x2x2064x512, .f32⟩
  | 82 => ⟨S2x2064x512, .f32⟩
  | 83 => ⟨S1x2x2064x512, .f32⟩
  | 84 => ⟨S2x2064x512, .f32⟩
  | 85 => ⟨S1x2x2064x512, .f32⟩
  | 86 => ⟨S16x2x2064x512, .f32⟩
  | 87 => ⟨S15x2x2064x512, .f32⟩
  | 88 => ⟨S31x2x2064x512, .f32⟩
  | 89 => ⟨S31x1x1x512, .f32⟩
  | 90 => ⟨S31x2x2064x512, .f32⟩
  | 91 => ⟨S31x2x2064x512, .f32⟩
  | 92 => ⟨S_, .f32⟩
  | 93 => ⟨S2x2064x512, .f32⟩
  | 94 => ⟨S1x1x512, .f32⟩
  | 95 => ⟨S2x2064x512, .f32⟩
  | 96 => ⟨S2x2064x512, .f32⟩
  | 97 => ⟨S_, .f32⟩
  | 98 => ⟨S2x2064, .f32⟩
  | 99 => ⟨S2x2064x1, .f32⟩
  | 100 => ⟨S_, .f32⟩
  | 101 => ⟨S2x2064x1, .f32⟩
  | 102 => ⟨S2x2064x1, .f32⟩
  | 103 => ⟨S2x2064x512, .f32⟩
  | 104 => ⟨S2x2064x512, .f32⟩
  | 105 => ⟨S2x2064x512, .f32⟩
  | 106 => ⟨S_, .f32⟩
  | 107 => ⟨S2x2064x512, .f32⟩
  | 108 => ⟨S2x2064x512, .f32⟩
  | 109 => ⟨S_, .f32⟩
  | 110 => ⟨S2x2064, .f32⟩
  | 111 => ⟨S2x2064x1, .f32⟩
  | 112 => ⟨S_, .f32⟩
  | 113 => ⟨S2x2064x1, .f32⟩
  | 114 => ⟨S2x2064x1, .f32⟩
  | 115 => ⟨S2x2064x512, .f32⟩
  | 116 => ⟨S2x2064x512, .f32⟩
  | 117 => ⟨S_, .f32⟩
  | 118 => ⟨S2x2064x1, .f32⟩
  | 119 => ⟨S2x2064x1, .f32⟩
  | 120 => ⟨S2x2064x1, .f32⟩
  | 121 => ⟨S2x2064x1, .f32⟩
  | 122 => ⟨S_, .f32⟩
  | 123 => ⟨S2x2064x1, .f32⟩
  | 124 => ⟨S2x2064x1, .f32⟩
  | 125 => ⟨S2x2064x512, .f32⟩
  | 126 => ⟨S2x2064x512, .f32⟩
  | 127 => ⟨S1x1x512, .f32⟩
  | _ => ⟨S2x2064x2576, .f32⟩

abbrev hbmTy0_1 (i : Nat) : BufTy := match i % 128 with
  | 0 => ⟨S2x2064x512, .f32⟩
  | 1 => ⟨S2x2064x512, .f32⟩
  | 2 => ⟨S1x1x512, .f32⟩
  | 3 => ⟨S2x2064x512, .f32⟩
  | 4 => ⟨S2x2064x512, .f32⟩
  | 5 => ⟨S2x2064x512, .f32⟩
  | 6 => ⟨S2x2064x512, .f32⟩
  | 7 => ⟨S_, .f32⟩
  | 8 => ⟨S2x2064x512, .f32⟩
  | 9 => ⟨S2x2064x512, .f32⟩
  | 10 => ⟨S_, .f32⟩
  | 11 => ⟨S2x2064x512, .f32⟩
  | 12 => ⟨S2x2064x512, .f32⟩
  | 13 => ⟨S_, .f32⟩
  | 14 => ⟨S2x2064x512, .f32⟩
  | 15 => ⟨S2x2064x512, .f32⟩
  | 16 => ⟨S2x2064x512, .f32⟩
  | 17 => ⟨S2x2064x512, .f32⟩
  | 18 => ⟨S2x2064x512, .f32⟩
  | 19 => ⟨S2x2064x512, .f32⟩
  | 20 => ⟨S2x2064x512, .f32⟩
  | 21 => ⟨S2x2064x512, .f32⟩
  | 22 => ⟨S2x2064x512, .f32⟩
  | 23 => ⟨S_, .f32⟩
  | 24 => ⟨S512, .f32⟩
  | 25 => ⟨S1x1x512, .f32⟩
  | 26 => ⟨S_, .f32⟩
  | 27 => ⟨S512, .f32⟩
  | 28 => ⟨S2x2064x512, .f32⟩
  | 29 => ⟨S_, .f32⟩
  | 30 => ⟨S512, .f32⟩
  | 31 => ⟨S1x1x512, .f32⟩
  | 32 => ⟨S2x2064x512, .f32⟩
  | 33 => ⟨S2x2064x512, .f32⟩
  | 34 => ⟨S_, .f32⟩
  | 35 => ⟨S512, .f32⟩
  | 36 => ⟨S2x2064x512, .f32⟩
  | 37 => ⟨S_, .f32⟩
  | 38 => ⟨S2x2064, .f32⟩
  | 39 => ⟨S2x2064x1, .f32⟩
  | 40 => ⟨S2x2064x512, .f32⟩
  | 41 => ⟨S2x2064x512, .f32⟩
  | 42 => ⟨S2x2064x1, .f32⟩
  | 43 => ⟨S2x2064x512, .f32⟩
  | 44 => ⟨S_, .f32⟩
  | 45 => ⟨S2x2064, .f32⟩
  | 46 => ⟨S2x2064x1, .f32⟩
  | 47 => ⟨S_, .f32⟩
  | 48 => ⟨S2x2064x1, .f32⟩
  | 49 => ⟨S2x2064x1, .f32⟩
  | 50 => ⟨S_, .f32⟩
  | 51 => ⟨S2x2064, .f32⟩
  | 52 => ⟨S2x2064x512, .f32⟩
  | 53 => ⟨S2x2064x512, .f32⟩
  | 54 => ⟨S2x2064x512, .f32⟩
  | 55 => ⟨S_, .f32⟩
  | 56 => ⟨S2x2064, .f32⟩
  | 57 => ⟨S2x2064x1, .f32⟩
  | 58 => ⟨S2x2064x512, .f32⟩
  | 59 => ⟨S2x2064x1, .f32⟩
  | 60 => ⟨S_, .f32⟩
  | 61 => ⟨S2x2064x1, .f32⟩
  | 62 => ⟨S2x2064x1, .f32⟩
  | 63 => ⟨S_, .f32⟩
  | 64 => ⟨S2x2064, .f32⟩
  | 65 => ⟨S2x2064x512, .f32⟩
  | 66 => ⟨S2x2064x512, .f32⟩
  | 67 => ⟨S_, .f32⟩
  | 68 => ⟨S512, .f32⟩
  | 69 => ⟨S1x1x512, .f32⟩
  | 70 => ⟨S_, .f32⟩
  | 71 => ⟨S512, .f32⟩
  | 72 => ⟨S1x512, .f32⟩
  | 73 => ⟨S1x512, .f32⟩
  | 74 => ⟨S1x512, .f32⟩
  | _ => ⟨S2x2064x2576, .f32⟩

abbrev hbmTy (i : Nat) : BufTy := match i / 128 with
  | 0 => hbmTy0_0 i
  | 1 => hbmTy0_1 i
  | _ => ⟨S2x2064x2576, .f32⟩

abbrev bufTy : (tb : Table) → Fin (tcTables nBuf tb) → BufTy
  | .hbm, ⟨i, _⟩ => hbmTy i
  | _, _ => ⟨S2x2064x2576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_2 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_3 : Ref sig .tc := ⟨.hbm, 97, rfl⟩
abbrev main_v87 : Ref sig .tc := ⟨.hbm, 98, rfl⟩
abbrev main_v88 : Ref sig .tc := ⟨.hbm, 99, rfl⟩
abbrev main_cst_4 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_5 : Ref sig .tc := ⟨.hbm, 106, rfl⟩
abbrev main_v94 : Ref sig .tc := ⟨.hbm, 107, rfl⟩
abbrev main_v95 : Ref sig .tc := ⟨.hbm, 108, rfl⟩
abbrev main_cst_6 : Ref sig .tc := ⟨.hbm, 109, rfl⟩
abbrev main_v96 : Ref sig .tc := ⟨.hbm, 110, rfl⟩
abbrev main_v97 : Ref sig .tc := ⟨.hbm, 111, rfl⟩
abbrev main_cst_7 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_8 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_9 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_call0_v0 : Ref sig .tc := ⟨.hbm, 133, rfl⟩
abbrev main_call0_v1 : Ref sig .tc := ⟨.hbm, 134, rfl⟩
abbrev main_call0_cst : Ref sig .tc := ⟨.hbm, 135, rfl⟩
abbrev main_call0_v2 : Ref sig .tc := ⟨.hbm, 136, rfl⟩
abbrev main_call0_v3 : Ref sig .tc := ⟨.hbm, 137, rfl⟩
abbrev main_call0_cst_0 : Ref sig .tc := ⟨.hbm, 138, rfl⟩
abbrev main_call0_v4 : Ref sig .tc := ⟨.hbm, 139, rfl⟩
abbrev main_v116_2 : Ref sig .tc := ⟨.hbm, 140, rfl⟩
abbrev main_call0_cst_1 : Ref sig .tc := ⟨.hbm, 141, rfl⟩
abbrev main_call0_v6 : Ref sig .tc := ⟨.hbm, 142, rfl⟩
abbrev main_call0_v7 : Ref sig .tc := ⟨.hbm, 143, rfl⟩
abbrev main_v116_1 : Ref sig .tc := ⟨.hbm, 144, rfl⟩
abbrev main_v116_0 : Ref sig .tc := ⟨.hbm, 145, rfl⟩
abbrev main_v117 : Ref sig .tc := ⟨.hbm, 146, rfl⟩
abbrev main_call1_v0 : Ref sig .tc := ⟨.hbm, 147, rfl⟩
abbrev main_call1_v1 : Ref sig .tc := ⟨.hbm, 148, rfl⟩
abbrev main_call1_v2 : Ref sig .tc := ⟨.hbm, 149, rfl⟩
abbrev main_v118 : Ref sig .tc := ⟨.hbm, 150, rfl⟩
abbrev main_cst_10 : Ref sig .tc := ⟨.hbm, 151, rfl⟩
abbrev main_v119 : Ref sig .tc := ⟨.hbm, 152, rfl⟩
abbrev main_v120 : Ref sig .tc := ⟨.hbm, 153, rfl⟩
abbrev main_cst_11 : Ref sig .tc := ⟨.hbm, 154, rfl⟩
abbrev main_v121 : Ref sig .tc := ⟨.hbm, 155, rfl⟩
abbrev main_v122 : Ref sig .tc := ⟨.hbm, 156, rfl⟩
abbrev main_cst_12 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_13 : Ref sig .tc := ⟨.hbm, 162, rfl⟩
abbrev main_v127 : Ref sig .tc := ⟨.hbm, 163, rfl⟩
abbrev main_v128 : Ref sig .tc := ⟨.hbm, 164, rfl⟩
abbrev main_cst_14 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_15 : Ref sig .tc := ⟨.hbm, 172, rfl⟩
abbrev main_v135 : Ref sig .tc := ⟨.hbm, 173, rfl⟩
abbrev main_v136 : Ref sig .tc := ⟨.hbm, 174, rfl⟩
abbrev main_cst_16 : Ref sig .tc := ⟨.hbm, 175, rfl⟩
abbrev main_v137 : Ref sig .tc := ⟨.hbm, 176, rfl⟩
abbrev main_v138 : Ref sig .tc := ⟨.hbm, 177, rfl⟩
abbrev main_cst_17 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_18 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_19 : Ref sig .tc := ⟨.hbm, 188, rfl⟩
abbrev main_v147 : Ref sig .tc := ⟨.hbm, 189, rfl⟩
abbrev main_v148 : Ref sig .tc := ⟨.hbm, 190, rfl⟩
abbrev main_cst_20 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_21 : Ref sig .tc := ⟨.hbm, 195, rfl⟩
abbrev main_v152 : Ref sig .tc := ⟨.hbm, 196, rfl⟩
abbrev main_v153 : Ref sig .tc := ⟨.hbm, 197, rfl⟩
abbrev main_cst_22 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩

abbrev nD : Nat := 1
abbrev τ : Topo := Topo.v7x

variable {F : FTy → Type} [FloatOps F]
-- ==== MixUp.lean ====
abbrev S2x2064x1024 : Shape := ⟨3, ![2, 2064, 1024]⟩
abbrev S2x2064x512 : Shape := ⟨3, ![2, 2064, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1024x1024 : Shape := ⟨2, ![1024, 1024]⟩
abbrev S4x256x1024 : Shape := ⟨3, ![4, 256, 1024]⟩
abbrev S4x1024x256 : Shape := ⟨3, ![4, 1024, 256]⟩
abbrev S_ : Shape := ⟨0, ![]⟩
abbrev S2x2112x1024 : Shape := ⟨3, ![2, 2112, 1024]⟩
abbrev S4224x1024 : Shape := ⟨2, ![4224, 1024]⟩
abbrev S2x2112x512 : Shape := ⟨3, ![2, 2112, 512]⟩
abbrev S4224x512 : Shape := ⟨2, ![4224, 512]⟩
abbrev S1024x2816 : Shape := ⟨2, ![1024, 2816]⟩
abbrev S2816x1024 : Shape := ⟨2, ![2816, 1024]⟩
abbrev S4224x2816 : Shape := ⟨2, ![4224, 2816]⟩
abbrev S384x1024 : Shape := ⟨2, ![384, 1024]⟩
abbrev S384x512 : Shape := ⟨2, ![384, 512]⟩
abbrev S384x2816 : Shape := ⟨2, ![384, 2816]⟩
abbrev S384x256 : Shape := ⟨2, ![384, 256]⟩
abbrev S1x1024x256 : Shape := ⟨3, ![1, 1024, 256]⟩
abbrev S1024x256 : Shape := ⟨2, ![1024, 256]⟩
abbrev S384 : Shape := ⟨1, ![384]⟩
abbrev S384x1 : Shape := ⟨2, ![384, 1]⟩

abbrev nBuf : Space → Nat
  | .hbm => 36
  | .vmem => 20
  | .smem => 0
  | _ => 0

abbrev bufTy : (tb : Table) → Fin (tcTables nBuf tb) → BufTy
  | .hbm, ⟨0, _⟩ => ⟨S2x2064x1024, .f32⟩
  | .hbm, ⟨1, _⟩ => ⟨S2x2064x512, .f32⟩
  | .hbm, ⟨2, _⟩ => ⟨S2x2064x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1024x1024, .f32⟩
  | .hbm, ⟨8, _⟩ => ⟨S4x256x1024, .f32⟩
  | .hbm, ⟨9, _⟩ => ⟨S4x1024x256, .f32⟩
  | .hbm, ⟨10, _⟩ => ⟨S4x1024x256, .bf16⟩
  | .hbm, ⟨11, _⟩ => ⟨S_, .i32⟩
  | .hbm, ⟨12, _⟩ => ⟨S_, .f32⟩
  | .hbm, ⟨13, _⟩ => ⟨S2x2112x1024, .f32⟩
  | .hbm, ⟨14, _⟩ => ⟨S4224x1024, .f32⟩
  | .hbm, ⟨15, _⟩ => ⟨S_, .i32⟩
  | .hbm, ⟨16, _⟩ => ⟨S_, .f32⟩
  | .hbm, ⟨17, _⟩ => ⟨S2x2112x512, .f32⟩
  | .hbm, ⟨18, _⟩ => ⟨S4224x512, .f32⟩
  | .hbm, ⟨19, _⟩ => ⟨S4224x512, .bf16⟩
  | .hbm, ⟨20, _⟩ => ⟨S_, .i32⟩
  | .hbm, ⟨21, _⟩ => ⟨S_, .f32⟩
  | .hbm, ⟨22, _⟩ => ⟨S2x2112x512, .f32⟩
  | .hbm, ⟨23, _⟩ => ⟨S4224x512, .f32⟩
  | .hbm, ⟨24, _⟩ => ⟨S4224x512, .bf16⟩
  | .hbm, ⟨25, _⟩ => ⟨S1024x2816, .f32⟩
  | .hbm, ⟨26, _⟩ => ⟨S2816x1024, .f32⟩
  | .hbm, ⟨27, _⟩ => ⟨S2816x1024, .bf16⟩
  | .hbm, ⟨28, _⟩ => ⟨S1024x2816, .f32⟩
  | .hbm, ⟨29, _⟩ => ⟨S2816x1024, .f32⟩
  | .hbm, ⟨30, _⟩ => ⟨S2816x1024, .bf16⟩
  | .hbm, ⟨31, _⟩ => ⟨S4224x1024, .f32⟩
  | .hbm, ⟨32, _⟩ => ⟨S4224x1024, .bf16⟩
  | .hbm, ⟨33, _⟩ => ⟨S4224x2816, .f32⟩
  | .hbm, ⟨34, _⟩ => ⟨S4224x2816, .f32⟩
  | .hbm, ⟨35, _⟩ => ⟨S4224x2816, .bf16⟩
  | .local _ .vmem, ⟨0, _⟩ => ⟨S384x1024, .f32⟩
  | .local _ .vmem, ⟨1, _⟩ => ⟨S384x1024, .f32⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S4x1024x256, .bf16⟩
  | .local _ .vmem, ⟨7, _⟩ => ⟨S1x1024, .f32⟩
  | .local _ .vmem, ⟨8, _⟩ => ⟨S2816x1024, .bf16⟩
  | .local _ .vmem, ⟨9, _⟩ => ⟨S2816x1024, .bf16⟩
  | .local _ .vmem, ⟨10, _⟩ => ⟨S384x1024, .f32⟩
  | .local _ .vmem, ⟨11, _⟩ => ⟨S384x1024, .f32⟩
  | .local _ .vmem, ⟨12, _⟩ => ⟨S384x1024, .bf16⟩
  | .local _ .vmem, ⟨13, _⟩ => ⟨S384x1024, .bf16⟩
  | .local _ .vmem, ⟨14, _⟩ => ⟨S384x2816, .f32⟩
  | .local _ .vmem, ⟨15, _⟩ => ⟨S384x2816, .f32⟩
  | .local _ .vmem, ⟨16, _⟩ => ⟨S384x2816, .f32⟩
  | .local _ .vmem, ⟨17, _⟩ => ⟨S384x2816, .f32⟩
  | .local _ .vmem, ⟨18, _⟩ => ⟨S384x2816, .bf16⟩
  | .local _ .vmem, ⟨19, _⟩ => ⟨S384x2816, .bf16⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixUpRefIdeal.lean ====
abbrev S2x2064x1024 : Shape := ⟨3, ![2, 2064, 1024]⟩
abbrev S2x2064x512 : Shape := ⟨3, ![2, 2064, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1024x1024 : Shape := ⟨2, ![1024, 1024]⟩
abbrev S1024 : Shape := ⟨1, ![1024]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S1024x2816 : Shape := ⟨2, ![1024, 2816]⟩
abbrev S2x2064x2816 : Shape := ⟨3, ![2, 2064, 2816]⟩
abbrev S2x2112x1024 : Shape := ⟨3, ![2, 2112, 1024]⟩
abbrev S4224x1024 : Shape := ⟨2, ![4224, 1024]⟩
abbrev S2x2112x2816 : Shape := ⟨3, ![2, 2112, 2816]⟩
abbrev S4224x2816 : Shape := ⟨2, ![4224, 2816]⟩

abbrev nBuf : Space → Nat
  | .hbm => 64
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S2x2064x512, .f32⟩
  | .hbm, ⟨2, _⟩ => ⟨S2x2064x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S2x2064x1024, .f32⟩
  | .hbm, ⟨8, _⟩ => ⟨S1024x1024, .f32⟩
  | .hbm, ⟨9, _⟩ => ⟨S2x2064x1024, .f32⟩
  | .hbm, ⟨10, _⟩ => ⟨S2x2064x1024, .f32⟩
  | .hbm, ⟨11, _⟩ => ⟨S1024, .f32⟩
  | .hbm, ⟨12, _⟩ => ⟨S2x2064x1024, .f32⟩
  | .hbm, ⟨13, _⟩ => ⟨S_, .f32⟩
  | .hbm, ⟨14, _⟩ => ⟨S2x2064, .f32⟩
  | .hbm, ⟨15, _⟩ => ⟨S2x2064x1, .f32⟩
  | .hbm, ⟨16, _⟩ => ⟨S_, .f32⟩
  | .hbm, ⟨17, _⟩ => ⟨S2x2064x1, .f32⟩
  | .hbm, ⟨18, _⟩ => ⟨S2x2064x1, .f32⟩
  | .hbm, ⟨19, _⟩ => ⟨S_, .f32⟩
  | .hbm, ⟨20, _⟩ => ⟨S2x2064x1, .f32⟩
  | .hbm, ⟨21, _⟩ => ⟨S2x2064x1, .f32⟩
  | .hbm, ⟨22, _⟩ => ⟨S2x2064x1, .f32⟩
  | .hbm, ⟨23, _⟩ => ⟨S2x2064x1024, .f32⟩
  | .hbm, ⟨24, _⟩ => ⟨S2x2064x1024, .f32⟩
  | .hbm, ⟨25, _⟩ => ⟨S1x1x1024, .f32⟩
  | .hbm, ⟨26, _⟩ => ⟨S2x2064x1024, .f32⟩
  | .hbm, ⟨27, _⟩ => ⟨S2x2064x1024, .f32⟩
  | .hbm, ⟨28, _⟩ => ⟨S1024x2816, .f32⟩
  | .hbm, ⟨29, _⟩ => ⟨S2x2064x2816, .f32⟩
  | .hbm, ⟨30, _⟩ => ⟨S1024x2816, .f32⟩
  | .hbm, ⟨31, _⟩ => ⟨S2x2064x2816, .f32⟩
  | .hbm, ⟨32, _⟩ => ⟨S_, .i32⟩
  | .hbm, ⟨33, _⟩ => ⟨S_, .f32⟩
  | .hbm, ⟨34, _⟩ => ⟨S2x2112x1024, .f32⟩
  | .hbm, ⟨35, _⟩ => ⟨S4224x1024, .f32⟩
  | .hbm, ⟨36, _⟩ => ⟨S_, .i32⟩
  | .hbm, ⟨37, _⟩ => ⟨S_, .f32⟩
  | .hbm, ⟨38, _⟩ => ⟨S2x2112x1024, .f32⟩
  | .hbm, ⟨39, _⟩ => ⟨S4224x1024, .f32⟩
  | .hbm, ⟨40, _⟩ => ⟨S4224x1024, .bf16⟩
  | .hbm, ⟨41, _⟩ => ⟨S_, .i32⟩
  | .hbm, ⟨42, _⟩ => ⟨S_, .f32⟩
  | .hbm, ⟨43, _⟩ => ⟨S2x2112x2816, .f32⟩
  | .hbm, ⟨44, _⟩ => ⟨S4224x2816, .f32⟩
  | .hbm, ⟨45, _⟩ => ⟨S_, .i32⟩
  | .hbm, ⟨46, _⟩ => ⟨S_, .f32⟩
  | .hbm, ⟨47, _⟩ => ⟨S2x2112x2816, .f32⟩
  | .hbm, ⟨48, _⟩ => ⟨S4224x2816, .f32⟩
  | .hbm, ⟨49, _⟩ => ⟨S2x2064x2816, .f32⟩
  | .hbm, ⟨50, _⟩ => ⟨S2x2064x2816, .f32⟩
  | .hbm, ⟨51, _⟩ => ⟨S_, .f32⟩
  | .hbm, ⟨52, _⟩ => ⟨S2x2064x2816, .f32⟩
  | .hbm, ⟨53, _⟩ => ⟨S2x2064x2816, .f32⟩
  | .hbm, ⟨54, _⟩ => ⟨S_, .f32⟩
  | .hbm, ⟨55, _⟩ => ⟨S2x2064x2816, .f32⟩
  | .hbm, ⟨56, _⟩ => ⟨S2x2064x2816, .f32⟩
  | .hbm, ⟨57, _⟩ => ⟨S2x2064x2816, .f32⟩
  | .hbm, ⟨58, _⟩ => ⟨S2x2064x2816, .f32⟩
  | .hbm, ⟨59, _⟩ => ⟨S_, .i32⟩
  | .hbm, ⟨60, _⟩ => ⟨S_, .f32⟩
  | .hbm, ⟨61, _⟩ => ⟨S2x2112x2816, .f32⟩
  | .hbm, ⟨62, _⟩ => ⟨S4224x2816, .f32⟩
  | .hbm, ⟨63, _⟩ => ⟨S4224x2816, .bf16⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_call1_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_call2_v0 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_call3_v0 : Ref sig .tc := ⟨.hbm, 46, rfl⟩
abbrev main_v29 : Ref sig .tc := ⟨.hbm, 47, rfl⟩
abbrev main_v30 : Ref sig .tc := ⟨.hbm, 48, rfl⟩
abbrev main_call4_v0 : Ref sig .tc := ⟨.hbm, 49, rfl⟩
abbrev main_call4_v1 : Ref sig .tc := ⟨.hbm, 50, rfl⟩
abbrev main_call4_cst : Ref sig .tc := ⟨.hbm, 51, rfl⟩
abbrev main_call4_v2 : Ref sig .tc := ⟨.hbm, 52, rfl⟩
abbrev main_call4_v3 : Ref sig .tc := ⟨.hbm, 53, rfl⟩
abbrev main_call4_cst_0 : Ref sig .tc := ⟨.hbm, 54, rfl⟩
abbrev main_call4_v4 : Ref sig .tc := ⟨.hbm, 55, rfl⟩
abbrev main_call4_v5 : Ref sig .tc := ⟨.hbm, 56, rfl⟩
abbrev main_v31 : Ref sig .tc := ⟨.hbm, 57, rfl⟩
abbrev main_v32 : Ref sig .tc := ⟨.hbm, 58, rfl⟩
abbrev main_c_5 : Ref sig .tc := ⟨.hbm, 59, rfl⟩
abbrev main_call5_v0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩

abbrev nD : Nat := 1
abbrev τ : Topo := Topo.v7x

variable {F : FTy → Type} [FloatOps F]
-- ==== InProj.lean ====
abbrev S2x2064x1024 : Shape := ⟨3, ![2, 2064, 1024]⟩
abbrev S1x1024 : Shape := ⟨2, ![1, 1024]⟩
abbrev S1x1024x2576 : Shape := ⟨3, ![1, 1024, 2576]⟩
abbrev S1024x2576 : Shape := ⟨2, ![1024, 2576]⟩
abbrev S2576x1024 : Shape := ⟨2, ![2576, 1024]⟩
abbrev S4x644x1024 : Shape := ⟨3, ![4, 644, 1024]⟩
abbrev S_ : Shape := ⟨0, ![]⟩
abbrev S2x2112x1024 : Shape := ⟨3, ![2, 2112, 1024]⟩
abbrev S4224x1024 : Shape := ⟨2, ![4224, 1024]⟩
abbrev S4224x2688 : Shape := ⟨2, ![4224, 2688]⟩
abbrev S2688x1024 : Shape := ⟨2, ![2688, 1024]⟩
abbrev S384x1024 : Shape := ⟨2, ![384, 1024]⟩
abbrev S384x2688 : Shape := ⟨2, ![384, 2688]⟩
abbrev S1x644x1024 : Shape := ⟨3, ![1, 644, 1024]⟩
abbrev S644x1024 : Shape := ⟨2, ![644, 1024]⟩
abbrev S112x1024 : Shape := ⟨2, ![112, 1024]⟩
abbrev S384 : Shape := ⟨1, ![384]⟩
abbrev S384x1 : Shape := ⟨2, ![384, 1]⟩

abbrev nBuf : Space → Nat
  | .hbm => 14
  | .vmem => 9
  | .smem => 0
  | _ => 0

abbrev bufTy : (tb : Table) → Fin (tcTables nBuf tb) → BufTy
  | .hbm, ⟨0, _⟩ => ⟨S2x2064x1024, .f32⟩
  | .hbm, ⟨1, _⟩ => ⟨S1x1024, .f32⟩
  | .hbm, ⟨2, _⟩ => ⟨S1x1024x2576, .f32⟩
  | .hbm, ⟨3, _⟩ => ⟨S1024x2576, .f32⟩
  | .hbm, ⟨4, _⟩ => ⟨S2576x1024, .f32⟩
  | .hbm, ⟨5, _⟩ => ⟨S4x644x1024, .f32⟩
  | .hbm, ⟨6, _⟩ => ⟨S4x644x1024, .bf16⟩
  | .hbm, ⟨7, _⟩ => ⟨S_, .i32⟩
  | .hbm, ⟨8, _⟩ => ⟨S_, .f32⟩
  | .hbm, ⟨9, _⟩ => ⟨S2x2112x1024, .f32⟩
  | .hbm, ⟨10, _⟩ => ⟨S4224x1024, .f32⟩
  | .hbm, ⟨11, _⟩ => ⟨S4224x2688, .f32⟩
  | .hbm, ⟨12, _⟩ => ⟨S4224x1024, .bf16⟩
  | .hbm, ⟨13, _⟩ => ⟨S2688x1024, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S4x644x1024, .bf16⟩
  | .local _ .vmem, ⟨4, _⟩ => ⟨S384x2688, .f32⟩
  | .local _ .vmem, ⟨5, _⟩ => ⟨S384x2688, .f32⟩
  | .local _ .vmem, ⟨6, _⟩ => ⟨S384x1024, .bf16⟩
  | .local _ .vmem, ⟨7, _⟩ => ⟨S384x1024, .bf16⟩
  | .local _ .vmem, ⟨8, _⟩ => ⟨S2688x1024, .bf16⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x644x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2688x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InProjFwdRefIdeal.lean ====
abbrev S2x2064x1024 : Shape := ⟨3, ![2, 2064, 1024]⟩
abbrev S1x1024 : Shape := ⟨2, ![1, 1024]⟩
abbrev S1x1024x2576 : Shape := ⟨3, ![1, 1024, 2576]⟩
abbrev S1024 : Shape := ⟨1, ![1024]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S1024x2576 : Shape := ⟨2, ![1024, 2576]⟩
abbrev S2x2064x2576 : Shape := ⟨3, ![2, 2064, 2576]⟩
abbrev S2x2112x2688 : Shape := ⟨3, ![2, 2112, 2688]⟩
abbrev S4224x2688 : Shape := ⟨2, ![4224, 2688]⟩
abbrev S2x2112x1024 : Shape := ⟨3, ![2, 2112, 1024]⟩
abbrev S4224x1024 : Shape := ⟨2, ![4224, 1024]⟩
abbrev S2576x1024 : Shape := ⟨2, ![2576, 1024]⟩
abbrev S2688x1024 : Shape := ⟨2, ![2688, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S1x1024, .f32⟩
  | .hbm, ⟨2, _⟩ => ⟨S1x1024x2576, .f32⟩
  | .hbm, ⟨3, _⟩ => ⟨S1024, .f32⟩
  | .hbm, ⟨4, _⟩ => ⟨S2x2064x1024, .f32⟩
  | .hbm, ⟨5, _⟩ => ⟨S_, .f32⟩
  | .hbm, ⟨6, _⟩ => ⟨S2x2064, .f32⟩
  | .hbm, ⟨7, _⟩ => ⟨S2x2064x1, .f32⟩
  | .hbm, ⟨8, _⟩ => ⟨S_, .f32⟩
  | .hbm, ⟨9, _⟩ => ⟨S2x2064x1, .f32⟩
  | .hbm, ⟨10, _⟩ => ⟨S2x2064x1, .f32⟩
  | .hbm, ⟨11, _⟩ => ⟨S_, .f32⟩
  | .hbm, ⟨12, _⟩ => ⟨S2x2064x1, .f32⟩
  | .hbm, ⟨13, _⟩ => ⟨S2x2064x1, .f32⟩
  | .hbm, ⟨14, _⟩ => ⟨S2x2064x1, .f32⟩
  | .hbm, ⟨15, _⟩ => ⟨S2x2064x1024, .f32⟩
  | .hbm, ⟨16, _⟩ => ⟨S2x2064x1024, .f32⟩
  | .hbm, ⟨17, _⟩ => ⟨S1x1x1024, .f32⟩
  | .hbm, ⟨18, _⟩ => ⟨S2x2064x1024, .f32⟩
  | .hbm, ⟨19, _⟩ => ⟨S2x2064x1024, .f32⟩
  | .hbm, ⟨20, _⟩ => ⟨S1024x2576, .f32⟩
  | .hbm, ⟨21, _⟩ => ⟨S2x2064x2576, .f32⟩
  | .hbm, ⟨22, _⟩ => ⟨S_, .i32⟩
  | .hbm, ⟨23, _⟩ => ⟨S_, .f32⟩
  | .hbm, ⟨24, _⟩ => ⟨S2x2112x2688, .f32⟩
  | .hbm, ⟨25, _⟩ => ⟨S4224x2688, .f32⟩
  | .hbm, ⟨26, _⟩ => ⟨S_, .i32⟩
  | .hbm, ⟨27, _⟩ => ⟨S_, .f32⟩
  | .hbm, ⟨28, _⟩ => ⟨S2x2112x1024, .f32⟩
  | .hbm, ⟨29, _⟩ => ⟨S4224x1024, .f32⟩
  | .hbm, ⟨30, _⟩ => ⟨S4224x1024, .bf16⟩
  | .hbm, ⟨31, _⟩ => ⟨S1024x2576, .f32⟩
  | .hbm, ⟨32, _⟩ => ⟨S2576x1024, .f32⟩
  | .hbm, ⟨33, _⟩ => ⟨S_, .i32⟩
  | .hbm, ⟨34, _⟩ => ⟨S_, .f32⟩
  | .hbm, ⟨35, _⟩ => ⟨S2688x1024, .f32⟩
  | .hbm, ⟨36, _⟩ => ⟨S2688x1024, .bf16⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== ConvFwd.lean ====
abbrev S2x2064x2576 : Shape := ⟨3, ![2, 2064, 2576]⟩
abbrev S1x31x512 : Shape := ⟨3, ![1, 31, 512]⟩
abbrev S1x512 : Shape := ⟨2, ![1, 512]⟩
abbrev S_ : Shape := ⟨0, ![]⟩
abbrev S2x2112x2576 : Shape := ⟨3, ![2, 2112, 2576]⟩
abbrev S4224x2576 : Shape := ⟨2, ![4224, 2576]⟩
abbrev S4224x2688 : Shape := ⟨2, ![4224, 2688]⟩
abbrev S31x512 : Shape := ⟨2, ![31, 512]⟩
abbrev S32x512 : Shape := ⟨2, ![32, 512]⟩
abbrev S4224x512 : Shape := ⟨2, ![4224, 512]⟩
abbrev S192x1024 : Shape := ⟨2, ![192, 1024]⟩
abbrev S32x1024 : Shape := ⟨2, ![32, 1024]⟩
abbrev S192x512 : Shape := ⟨2, ![192, 512]⟩
abbrev S224x512 : Shape := ⟨2, ![224, 512]⟩
abbrev S7x216x512 : Shape := ⟨3, ![7, 216, 512]⟩
abbrev S216x512 : Shape := ⟨2, ![216, 512]⟩
abbrev S1x216x512 : Shape := ⟨3, ![1, 216, 512]⟩
abbrev S1x32x512 : Shape := ⟨3, ![1, 32, 512]⟩
abbrev S32 : Shape := ⟨1, ![32]⟩
abbrev S32x1 : Shape := ⟨2, ![32, 1]⟩
abbrev S2x2112x512 : Shape := ⟨3, ![2, 2112, 512]⟩
abbrev S2x2064x512 : Shape := ⟨3, ![2, 2064, 512]⟩

abbrev nBuf : Space → Nat
  | .hbm => 22
  | .vmem => 14
  | .smem => 0
  | _ => 0

abbrev bufTy : (tb : Table) → Fin (tcTables nBuf tb) → BufTy
  | .hbm, ⟨0, _⟩ => ⟨S2x2064x2576, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S_, .i32⟩
  | .hbm, ⟨6, _⟩ => ⟨S_, .f32⟩
  | .hbm, ⟨7, _⟩ => ⟨S2x2112x2576, .f32⟩
  | .hbm, ⟨8, _⟩ => ⟨S4224x2576, .f32⟩
  | .hbm, ⟨9, _⟩ => ⟨S_, .i32⟩
  | .hbm, ⟨10, _⟩ => ⟨S_, .f32⟩
  | .hbm, ⟨11, _⟩ => ⟨S4224x2688, .f32⟩
  | .hbm, ⟨12, _⟩ => ⟨S31x512, .f32⟩
  | .hbm, ⟨13, _⟩ => ⟨S_, .i32⟩
  | .hbm, ⟨14, _⟩ => ⟨S_, .f32⟩
  | .hbm, ⟨15, _⟩ => ⟨S32x512, .f32⟩
  | .hbm, ⟨16, _⟩ => ⟨S4224x512, .f32⟩
  | .hbm, ⟨17, _⟩ => ⟨S4224x512, .bf16⟩
  | .hbm, ⟨18, _⟩ => ⟨S2x2112x512, .f32⟩
  | .hbm, ⟨19, _⟩ => ⟨S2x2064x512, .f32⟩
  | .hbm, ⟨20, _⟩ => ⟨S2x2112x512, .bf16⟩
  | .hbm, ⟨21, _⟩ => ⟨S2x2064x512, .bf16⟩
  | .local _ .vmem, ⟨0, _⟩ => ⟨S192x1024, .f32⟩
  | .local _ .vmem, ⟨1, _⟩ => ⟨S192x1024, .f32⟩
  | .local _ .vmem, ⟨2, _⟩ => ⟨S32x1024, .f32⟩
  | .local _ .vmem, ⟨3, _⟩ => ⟨S32x1024, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S192x512, .f32⟩
  | .local _ .vmem, ⟨9, _⟩ => ⟨S192x512, .f32⟩
  | .local _ .vmem, ⟨10, _⟩ => ⟨S192x512, .bf16⟩
  | .local _ .vmem, ⟨11, _⟩ => ⟨S192x512, .bf16⟩
  | .local _ .vmem, ⟨12, _⟩ => ⟨S224x512, .f32⟩
  | .local _ .vmem, ⟨13, _⟩ => ⟨S7x216x512, .f32⟩
  | _, _ => ⟨S2x2064x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c6_i32 : BitVec 32 := 6#32
  let v2 : BitVec 32 := Scalar.muli v1 c6_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S192x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S192x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvFwdRefIdeal.lean ====
abbrev S2x2064x2576 : Shape := ⟨3, ![2, 2064, 2576]⟩
abbrev S1x31x512 : Shape := ⟨3, ![1, 31, 512]⟩
abbrev S1x512 : Shape := ⟨2, ![1, 512]⟩
abbrev S2x2064x512 : Shape := ⟨3, ![2, 2064, 512]⟩
abbrev S_ : Shape := ⟨0, ![]⟩
abbrev S31x512 : Shape := ⟨2, ![31, 512]⟩
abbrev S2x30x512 : Shape := ⟨3, ![2, 30, 512]⟩
abbrev S2x2094x512 : Shape := ⟨3, ![2, 2094, 512]⟩
abbrev S1x2x2064x512 : Shape := ⟨4, ![1, 2, 2064, 512]⟩
abbrev S16x2x2064x512 : Shape := ⟨4, ![16, 2, 2064, 512]⟩
abbrev S15x2x2064x512 : Shape := ⟨4, ![15, 2, 2064, 512]⟩
abbrev S31x2x2064x512 : Shape := ⟨4, ![31, 2, 2064, 512]⟩
abbrev S31x1x1x512 : Shape := ⟨4, ![31, 1, 1, 512]⟩
abbrev S512 : Shape := ⟨1, ![512]⟩
abbrev S1x1x512 : Shape := ⟨3, ![1, 1, 512]⟩
abbrev S2x2064 : Shape := ⟨2, ![2, 2064]⟩
abbrev S2x2064x1 : Shape := ⟨3, ![2, 2064, 1]⟩

abbrev nBuf : Space → Nat
  | .hbm => 135
  | .vmem => 0
  | .smem => 0
  | _ => 0

abbrev hbmTy0_0 (i : Nat) : BufTy := match i % 128 with
  | 0 => ⟨S2x2064x2576, .f32⟩
  | 1 => ⟨S1x31x512, .f32⟩
  | 2 => ⟨S1x512, .f32⟩
  | 3 => ⟨S1x512, .f32⟩
  | 4 => ⟨S1x512, .f32⟩
  | 5 => ⟨S2x2064x512, .f32⟩
  | 6 => ⟨S2x2064x512, .f32⟩
  | 7 => ⟨S2x2064x512, .f32⟩
  | 8 => ⟨S2x2064x512, .f32⟩
  | 9 => ⟨S_, .f32⟩
  | 10 => ⟨S2x2064x512, .f32⟩
  | 11 => ⟨S2x2064x512, .f32⟩
  | 12 => ⟨S_, .f32⟩
  | 13 => ⟨S2x2064x512, .f32⟩
  | 14 => ⟨S2x2064x512, .f32⟩
  | 15 => ⟨S2x2064x512, .f32⟩
  | 16 => ⟨S31x512, .f32⟩
  | 17 => ⟨S_, .f32⟩
  | 18 => ⟨S2x30x512, .f32⟩
  | 19 => ⟨S2x2094x512, .f32⟩
  | 20 => ⟨S2x2064x512, .f32⟩
  | 21 => ⟨S1x2x2064x512, .f32⟩
  | 22 => ⟨S2x2064x512, .f32⟩
  | 23 => ⟨S1x2x2064x512, .f32⟩
  | 24 => ⟨S2x2064x512, .f32⟩
  | 25 => ⟨S1x2x2064x512, .f32⟩
  | 26 => ⟨S2x2064x512, .f32⟩
  | 27 => ⟨S1x2x2064x512, .f32⟩
  | 28 => ⟨S2x2064x512, .f32⟩
  | 29 => ⟨S1x2x2064x512, .f32⟩
  | 30 => ⟨S2x2064x512, .f32⟩
  | 31 => ⟨S1x2x2064x512, .f32⟩
  | 32 => ⟨S2x2064x512, .f32⟩
  | 33 => ⟨S1x2x2064x512, .f32⟩
  | 34 => ⟨S2x2064x512, .f32⟩
  | 35 => ⟨S1x2x2064x512, .f32⟩
  | 36 => ⟨S2x2064x512, .f32⟩
  | 37 => ⟨S1x2x2064x512, .f32⟩
  | 38 => ⟨S2x2064x512, .f32⟩
  | 39 => ⟨S1x2x2064x512, .f32⟩
  | 40 => ⟨S2x2064x512, .f32⟩
  | 41 => ⟨S1x2x2064x512, .f32⟩
  | 42 => ⟨S2x2064x512, .f32⟩
  | 43 => ⟨S1x2x2064x512, .f32⟩
  | 44 => ⟨S2x2064x512, .f32⟩
  | 45 => ⟨S1x2x2064x512, .f32⟩
  | 46 => ⟨S2x2064x512, .f32⟩
  | 47 => ⟨S1x2x2064x512, .f32⟩
  | 48 => ⟨S2x2064x512, .f32⟩
  | 49 => ⟨S1x2x2064x512, .f32⟩
  | 50 => ⟨S2x2064x512, .f32⟩
  | 51 => ⟨S1x2x2064x512, .f32⟩
  | 52 => ⟨S2x2064x512, .f32⟩
  | 53 => ⟨S1x2x2064x512, .f32⟩
  | 54 => ⟨S2x2064x512, .f32⟩
  | 55 => ⟨S1x2x2064x512, .f32⟩
  | 56 => ⟨S2x2064x512, .f32⟩
  | 57 => ⟨S1x2x2064x512, .f32⟩
  | 58 => ⟨S2x2064x512, .f32⟩
  | 59 => ⟨S1x2x2064x512, .f32⟩
  | 60 => ⟨S2x2064x512, .f32⟩
  | 61 => ⟨S1x2x2064x512, .f32⟩
  | 62 => ⟨S2x2064x512, .f32⟩
  | 63 => ⟨S1x2x2064x512, .f32⟩
  | 64 => ⟨S2x2064x512, .f32⟩
  | 65 => ⟨S1x2x2064x512, .f32⟩
  | 66 => ⟨S2x2064x512, .f32⟩
  | 67 => ⟨S1x2x2064x512, .f32⟩
  | 68 => ⟨S2x2064x512, .f32⟩
  | 69 => ⟨S1x2x2064x512, .f32⟩
  | 70 => ⟨S2x2064x512, .f32⟩
  | 71 => ⟨S1x2x2064x512, .f32⟩
  | 72 => ⟨S2x2064x512, .f32⟩
  | 73 => ⟨S1x2x2064x512, .f32⟩
  | 74 => ⟨S2x2064x512, .f32⟩
  | 75 => ⟨S1x2x2064x512, .f32⟩
  | 76 => ⟨S2x2064x512, .f32⟩
  | 77 => ⟨S1x2x2064x512, .f32⟩
  | 78 => ⟨S2x2064x512, .f32⟩
  | 79 => ⟨S1x2x2064x512, .f32⟩
  | 80 => ⟨S2x2064x512, .f32⟩
  | 81 => ⟨S1x2x2064x512, .f32⟩
  | 82 => ⟨S16x2x2064x512, .f32⟩
  | 83 => ⟨S15x2x2064x512, .f32⟩
  | 84 => ⟨S31x2x2064x512, .f32⟩
  | 85 => ⟨S31x1x1x512, .f32⟩
  | 86 => ⟨S31x2x2064x512, .f32⟩
  | 87 => ⟨S31x2x2064x512, .f32⟩
  | 88 => ⟨S_, .f32⟩
  | 89 => ⟨S2x2064x512, .f32⟩
  | 90 => ⟨S512, .f32⟩
  | 91 => ⟨S1x1x512, .f32⟩
  | 92 => ⟨S2x2064x512, .f32⟩
  | 93 => ⟨S2x2064x512, .f32⟩
  | 94 => ⟨S_, .f32⟩
  | 95 => ⟨S2x2064, .f32⟩
  | 96 => ⟨S2x2064x1, .f32⟩
  | 97 => ⟨S_, .f32⟩
  | 98 => ⟨S2x2064x1, .f32⟩
  | 99 => ⟨S2x2064x1, .f32⟩
  | 100 => ⟨S2x2064x512, .f32⟩
  | 101 => ⟨S2x2064x512, .f32⟩
  | 102 => ⟨S2x2064x512, .f32⟩
  | 103 => ⟨S_, .f32⟩
  | 104 => ⟨S2x2064, .f32⟩
  | 105 => ⟨S2x2064x1, .f32⟩
  | 106 => ⟨S_, .f32⟩
  | 107 => ⟨S2x2064x1, .f32⟩
  | 108 => ⟨S2x2064x1, .f32⟩
  | 109 => ⟨S2x2064x512, .f32⟩
  | 110 => ⟨S2x2064x512, .f32⟩
  | 111 => ⟨S_, .f32⟩
  | 112 => ⟨S2x2064x1, .f32⟩
  | 113 => ⟨S2x2064x1, .f32⟩
  | 114 => ⟨S2x2064x1, .f32⟩
  | 115 => ⟨S2x2064x512, .f32⟩
  | 116 => ⟨S2x2064x512, .f32⟩
  | 117 => ⟨S512, .f32⟩
  | 118 => ⟨S1x1x512, .f32⟩
  | 119 => ⟨S2x2064x512, .f32⟩
  | 120 => ⟨S2x2064x512, .f32⟩
  | 121 => ⟨S512, .f32⟩
  | 122 => ⟨S1x1x512, .f32⟩
  | 123 => ⟨S2x2064x512, .f32⟩
  | 124 => ⟨S2x2064x512, .f32⟩
  | 125 => ⟨S2x2064x512, .f32⟩
  | 126 => ⟨S2x2064x512, .f32⟩
  | 127 => ⟨S_, .f32⟩
  | _ => ⟨S2x2064x2576, .f32⟩

abbrev hbmTy0_1 (i : Nat) : BufTy := match i % 128 with
  | 0 => ⟨S2x2064x512, .f32⟩
  | 1 => ⟨S2x2064x512, .f32⟩
  | 2 => ⟨S_, .f32⟩
  | 3 => ⟨S2x2064x512, .f32⟩
  | 4 => ⟨S2x2064x512, .f32⟩
  | 5 => ⟨S2x2064x512, .f32⟩
  | 6 => ⟨S2x2064x512, .bf16⟩
  | _ => ⟨S2x2064x2576, .f32⟩

abbrev hbmTy (i : Nat) : BufTy := match i / 128 with
  | 0 => hbmTy0_0 i
  | 1 => hbmTy0_1 i
  | _ => ⟨S2x2064x2576, .f32⟩

abbrev bufTy : (tb : Table) → Fin (tcTables nBuf tb) → BufTy
  | .hbm, ⟨i, _⟩ => hbmTy i
  | _, _ => ⟨S2x2064x2576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_2 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst_3 : Ref sig .tc := ⟨.hbm, 94, rfl⟩
abbrev main_v85 : Ref sig .tc := ⟨.hbm, 95, rfl⟩
abbrev main_v86 : Ref sig .tc := ⟨.hbm, 96, rfl⟩
abbrev main_cst_4 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_cst_5 : Ref sig .tc := ⟨.hbm, 103, rfl⟩
abbrev main_v92 : Ref sig .tc := ⟨.hbm, 104, rfl⟩
abbrev main_v93 : Ref sig .tc := ⟨.hbm, 105, rfl⟩
abbrev main_cst_6 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_7 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_call0_v0 : Ref sig .tc := ⟨.hbm, 125, rfl⟩
abbrev main_call0_v1 : Ref sig .tc := ⟨.hbm, 126, rfl⟩
abbrev main_call0_cst : Ref sig .tc := ⟨.hbm, 127, rfl⟩
abbrev main_call0_v2 : Ref sig .tc := ⟨.hbm, 128, rfl⟩
abbrev main_call0_v3 : Ref sig .tc := ⟨.hbm, 129, rfl⟩
abbrev main_call0_cst_0 : Ref sig .tc := ⟨.hbm, 130, rfl⟩
abbrev main_call0_v4 : Ref sig .tc := ⟨.hbm, 131, rfl⟩
abbrev main_call0_v5 : Ref sig .tc := ⟨.hbm, 132, rfl⟩
abbrev main_v111 : Ref sig .tc := ⟨.hbm, 133, rfl⟩
abbrev main_v112 : Ref sig .tc := ⟨.hbm, 134, rfl⟩

abbrev nD : Nat := 1
abbrev τ : Topo := Topo.v7x

variable {F : FTy → Type} [FloatOps F]
-- ==== Proof.PaddedRows.lean ====
module

public import Idealize.ShloMosaic.Lib.Pointwise
public import Idealize.ShloMosaic.Lib.Claim

/-!
The rows the kernels work on. An example's 2064 rows are preceded by 48 rows of zeros, and the two examples lie one under
the other: row `r` of the 4224 is row `r % 2112 - 48` of example `r / 2112` where that is not negative, and a row of
zeros otherwise.
-/

@[expose] public section

noncomputable section

open Idealize.ShloMosaic

namespace PaddedRows

/-- The zero-padded rows of two examples, one under the other. -/
def padded {n : ℕ} (x : Fin 2 → Fin 2064 → Fin n → EReal) (r : Fin 4224) (j : Fin n) : EReal :=
  if h : 48 ≤ r.val % 2112 then x ⟨r.val / 2112, by omega⟩ ⟨r.val % 2112 - 48, by omega⟩ j else 0

theorem padded_of_le {n : ℕ} (x : Fin 2 → Fin 2064 → Fin n → EReal) (r : Fin 4224) (j : Fin n)
    (h : 48 ≤ r.val % 2112) :
    padded x r j = x ⟨r.val / 2112, by omega⟩ ⟨r.val % 2112 - 48, by omega⟩ j := dif_pos h

theorem padded_of_lt {n : ℕ} (x : Fin 2 → Fin 2064 → Fin n → EReal) (r : Fin 4224) (j : Fin n)
    (h : r.val % 2112 < 48) : padded x r j = 0 := dif_neg (by omega)

/-- The padded rows as a reshape of padded examples reads. -/
theorem dite_padded {n : ℕ} (x : Fin 2 → Fin 2064 → Fin n → EReal) (z : EReal) (hz : z = 0) (r : Fin 4224) (j : Fin n) :
    (if h : r.val / 2112 < 2 ∧ 48 ≤ r.val % 2112 ∧ r.val % 2112 - 48 < 2064 then
      x ⟨r.val / 2112, h.1⟩ ⟨r.val % 2112 - 48, h.2.2⟩ j else z) = padded x r j := by
  by_cases h : 48 ≤ r.val % 2112
  · rw [dif_pos ⟨by omega, h, by omega⟩, padded_of_le x r j h]
  · rw [dif_neg (by omega), padded_of_lt x r j (by omega), hz]

/-- Padding acts row by row. -/
theorem padded_map {n k : ℕ} (x : Fin 2 → Fin 2064 → Fin n → EReal) (f : (Fin n → EReal) → Fin k → EReal)
    (hf : ∀ j, f (fun _ => 0) j = 0) (r : Fin 4224) (j : Fin k) :
    f (padded x r) j = padded (fun b s => f (x b s)) r j := by
  by_cases h : 48 ≤ r.val % 2112
  · rw [padded_of_le _ r j h]
    exact congrArg (f · j) (funext fun i => padded_of_le x r i h)
  · rw [padded_of_lt _ r j (by omega), show padded x r = fun _ => 0 from funext fun i => padded_of_lt x r i (by omega), hf]

/-- A sum over the padded rows of what vanishes on the rows of zeros is the sum over the examples and their rows. -/
theorem sum_rows (f : Fin 4224 → EReal) (g : Fin 2 → Fin 2064 → EReal)
    (h0 : ∀ r : Fin 4224, r.val % 2112 < 48 → f r = 0)
    (hg : ∀ (r : Fin 4224) (_ : 48 ≤ r.val % 2112), f r = g ⟨r.val / 2112, by omega⟩ ⟨r.val % 2112 - 48, by omega⟩) :
    ∑ r, f r = ∑ b, ∑ s, g b s := by
  rw [Fin.sum_univ_tiles 2 2112 rfl f]
  refine Finset.sum_congr rfl fun b _ => ?_
  rw [Fin.sum_univ_two_halves 48 2064 rfl, Finset.sum_eq_zero, zero_add]
  · refine Finset.sum_congr rfl fun s _ => ?_
    rw [hg _ (by show 48 ≤ (b.val * 2112 + (48 + s.val)) % 2112; omega)]
    congr 1 <;> (apply Fin.ext; dsimp only; omega)
  · intro s _
    exact h0 _ (by show (b.val * 2112 + s.val) % 2112 < 48; omega)

/-- The indices of a stack of matrices that drop to column `j` are those whose last coordinate is `j`. -/
theorem drop_outer_iff {a b n : ℕ} (h : (⟨3, ![a, b, n]⟩ : Shape).ReducesTo [0, 1] ⟨1, ![n]⟩) (j : Fin n)
    (i : (⟨3, ![a, b, n]⟩ : Shape).Idx) : h.drop i = ix1 j ↔ ∃ k : Fin a × Fin b, ix3 k.1 k.2 j = i := by
  constructor
  · intro e
    refine ⟨(i 0, i 1), funext fun x => Fin.ext ?_⟩
    match x with
    | ⟨0, _⟩ => rfl
    | ⟨1, _⟩ => rfl
    | ⟨2, _⟩ => exact (congrArg Fin.val (congrFun e 0)).symm
  · rintro ⟨k, rfl⟩
    funext x
    apply Fin.ext
    match x with
    | ⟨0, _⟩ => rfl

/-- The host's sum over the two outer axes of a stack of matrices. -/
theorem hostReduceAdd_outer {a b n : ℕ} (h : (⟨3, ![a, b, n]⟩ : Shape).ReducesTo [0, 1] ⟨1, ![n]⟩)
    (x : (⟨3, ![a, b, n]⟩ : Shape).Idx → EReal) (z : EReal) (j : Fin n) :
    Ideal.hostReduceAdd h x z (ix1 j) = z + ∑ s, ∑ t, x (ix3 s t j) := by
  unfold Ideal.hostReduceAdd
  rw [Finset.sum_filter_eq_sum_of_fiber _ (fun k : Fin a × Fin b => ix3 k.1 k.2 j)
    (fun k l e => Prod.ext (congrFun e 0) (congrFun e 1)) (drop_outer_iff h j), Fintype.sum_prod_type]

end PaddedRows
end
-- ==== Proof.InProjHost.lean ====
module

public import Idealize.ShloMosaic.Lib.Pointwise
public import Idealize.ShloMosaic.Lib.Claim
public import Idealize.ShloMosaic.Lib.KernelVsHost
public import Idealize.ShloMosaic.Lib.Pipeline.ValueKit
public import proofs.«01_k».proof.Proof.Gen.InProjBwdIdeal.Frame
public import proofs.«01_k».proof.Proof.PaddedRows

/-!
What the host hands to the projection's backward call: the cotangent cut at column 1024 and padded to 4224 rows and to
2688 columns, the transposed projection padded to 2688 rows, and the two streams padded to 4224 rows.
-/

@[expose] public section

set_option maxRecDepth 16384

noncomputable section

open Idealize.ShloMosaic Idealize.ShloMosaic.TcCoe Idealize.SL.Sem
open PaddedRows

namespace Cert.InProjBwdIdeal.Host
open Cert.InProjBwdIdeal Cert.InProjBwdIdeal.Gen
variable (m : (ℓ : Loc nD τ sig) → Buf (Elt Ideal) ℓ) (c : Dev nD)

/-- The first argument, at an example, a row and a column. -/
def h (b : Fin 2) (s : Fin 2064) (j : Fin 1024) : EReal := m (c.tc.loc main_arg0) (ix3 b s j)
/-- The projection. -/
def w (j : Fin 1024) (k : Fin 2576) : EReal := m (c.tc.loc main_arg2) (ix3 0 j k)
/-- The residual cotangent. -/
def d (b : Fin 2) (s : Fin 2064) (j : Fin 1024) : EReal := m (c.tc.loc main_arg3) (ix3 b s j)
/-- The projection's cotangent. -/
def u (b : Fin 2) (s : Fin 2064) (k : Fin 2576) : EReal := m (c.tc.loc main_arg4) (ix3 b s k)

/-- What the padding holds, an integer zero converted. -/
abbrev zero (φ : FTy) : FVec Ideal S_ φ := sitofp φ (constantI S_ 32 0#32)

theorem zero_apply (φ : FTy) (i : S_.Idx) : zero φ i = (0 : EReal) := sitofp_zero

/-- Padding the examples' rows and putting the examples one under the other. -/
theorem rows1024 (x : FVec Ideal S2x2064x1024 .f32) (r : Fin 4224) (j : Fin 1024) :
    shapeCast S4224x1024 (pad S2x2112x1024 ![0, 48, 0] ![0, 0, 0] ![0, 0, 0] x (zero .f32)
      pads_S2x2064x1024_S2x2112x1024_000_4800_000 h_S_) shapeCasts_S2x2112x1024_S4224x1024 (ix2 r j)
      = padded (fun b s k => x (ix3 b s k)) r j := by
  pointwise
  exact dite_padded (fun b s k => x (ix3 b s k)) _ (sitofp_zero (φ := .f32)) r j

theorem rows1552 (x : FVec Ideal S2x2064x1552 .f32) (r : Fin 4224) (j : Fin 1552) :
    shapeCast S4224x1552 (pad S2x2112x1552 ![0, 48, 0] ![0, 0, 0] ![0, 0, 0] x (zero .f32)
      pads_S2x2064x1552_S2x2112x1552_000_4800_000 h_S_) shapeCasts_S2x2112x1552_S4224x1552 (ix2 r j)
      = padded (fun b s k => x (ix3 b s k)) r j := by
  pointwise
  exact dite_padded (fun b s k => x (ix3 b s k)) _ (sitofp_zero (φ := .f32)) r j

/-- The stream, padded rows. -/
def hp : FVec Ideal S4224x1024 .f32 := V m c main_v14

theorem hp_eq : hp m c = shapeCast S4224x1024 (pad S2x2112x1024 ![0, 48, 0] ![0, 0, 0] ![0, 0, 0]
    (m (c.tc.loc main_arg0) : FVec Ideal S2x2064x1024 .f32) (zero .f32) pads_S2x2064x1024_S2x2112x1024_000_4800_000 h_S_)
    shapeCasts_S2x2112x1024_S4224x1024 := by
  unfold hp
  simp only [V, List.flatten_cons, List.flatten_nil, List.cons_append, List.nil_append]
  entry_read
  rfl

theorem hp_apply (r : Fin 4224) (j : Fin 1024) :
    hp m c (ix2 r j) = padded (h m c) r j := by
  rw [hp_eq]; exact rows1024 _ r j

/-- The residual cotangent, padded rows. -/
def dp : FVec Ideal S4224x1024 .f32 := V m c main_v16

theorem dp_eq : dp m c = shapeCast S4224x1024 (pad S2x2112x1024 ![0, 48, 0] ![0, 0, 0] ![0, 0, 0]
    (m (c.tc.loc main_arg3) : FVec Ideal S2x2064x1024 .f32) (zero .f32) pads_S2x2064x1024_S2x2112x1024_000_4800_000 h_S_)
    shapeCasts_S2x2112x1024_S4224x1024 := by
  unfold dp
  simp only [V, List.flatten_cons, List.flatten_nil, List.cons_append, List.nil_append]
  entry_read
  rfl

theorem dp_apply (r : Fin 4224) (j : Fin 1024) :
    dp m c (ix2 r j) = padded (d m c) r j := by
  rw [dp_eq]; exact rows1024 _ r j

/-- The cotangent's first 1024 columns, padded rows. -/
def xc : FVec Ideal S4224x1024 .bf16 := V m c main_v3

theorem xc_eq : xc m c = truncf .bf16 (shapeCast S4224x1024 (pad S2x2112x1024 ![0, 48, 0] ![0, 0, 0] ![0, 0, 0]
    (extractStridedSlice S2x2064x1024 ![0, 0, 0] (m (c.tc.loc main_arg4) : FVec Ideal S2x2064x2576 .f32)
      slices_S2x2064x2576_S2x2064x1024_0_0_0) (zero .f32) pads_S2x2064x1024_S2x2112x1024_000_4800_000 h_S_)
    shapeCasts_S2x2112x1024_S4224x1024) bitsLt_bf16_f32 := by
  unfold xc
  simp only [V, List.flatten_cons, List.flatten_nil, List.cons_append, List.nil_append]
  entry_read
  rfl

theorem left_apply (x : FVec Ideal S2x2064x2576 .f32) (b : Fin 2) (s : Fin 2064) (k : Fin 1024) :
    extractStridedSlice S2x2064x1024 ![0, 0, 0] x slices_S2x2064x2576_S2x2064x1024_0_0_0 (ix3 b s k)
      = x (ix3 b s ⟨k.val, by omega⟩) := by
  pointwise

theorem right_apply (x : FVec Ideal S2x2064x2576 .f32) (b : Fin 2) (s : Fin 2064) (k : Fin 1552) :
    extractStridedSlice S2x2064x1552 ![0, 0, 1024] x slices_S2x2064x2576_S2x2064x1552_0_0_1024 (ix3 b s k)
      = x (ix3 b s ⟨1024 + k.val, by omega⟩) := by
  pointwise

theorem xc_apply (r : Fin 4224) (k : Fin 1024) :
    xc m c (ix2 r k) = padded (u m c) r ⟨k.val, by omega⟩ := by
  rw [xc_eq]
  refine (rows1024 _ r k).trans ?_
  simp only [left_apply]
  rfl

/-- The cotangent's columns from 1024 on, padded rows and columns. -/
def xg : FVec Ideal S4224x1664 .bf16 := V m c main_v8

theorem xg_eq : xg m c = truncf .bf16 (pad S4224x1664 ![0, 0] ![0, 112] ![0, 0] (shapeCast S4224x1552
    (pad S2x2112x1552 ![0, 48, 0] ![0, 0, 0] ![0, 0, 0] (extractStridedSlice S2x2064x1552 ![0, 0, 1024]
      (m (c.tc.loc main_arg4) : FVec Ideal S2x2064x2576 .f32) slices_S2x2064x2576_S2x2064x1552_0_0_1024) (zero .f32)
      pads_S2x2064x1552_S2x2112x1552_000_4800_000 h_S_) shapeCasts_S2x2112x1552_S4224x1552) (zero .f32)
    pads_S4224x1552_S4224x1664_000_01120 h_S_) bitsLt_bf16_f32 := by
  unfold xg
  simp only [V, List.flatten_cons, List.flatten_nil, List.cons_append, List.nil_append]
  entry_read
  rfl

theorem cols_apply (x : FVec Ideal S4224x1552 .f32) (r : Fin 4224) (k : Fin 1664) :
    truncf .bf16 (pad S4224x1664 ![0, 0] ![0, 112] ![0, 0] x (zero .f32) pads_S4224x1552_S4224x1664_000_01120 h_S_)
      bitsLt_bf16_f32 (ix2 r k) = if h : k.val < 1552 then x (ix2 r ⟨k.val, h⟩) else (0 : EReal) := by
  pointwise
  refine dite_congr rfl (fun _ => rfl) fun _ => sitofp_zero (φ := .f32)

theorem xg_apply (r : Fin 4224) (k : Fin 1664) :
    xg m c (ix2 r k)
      = if h : k.val < 1552 then padded (u m c) r ⟨1024 + k.val, by omega⟩ else 0 := by
  rw [xg_eq]
  refine (cols_apply _ r k).trans ?_
  simp only [rows1552, right_apply]
  rfl

/-- The transposed projection, padded rows. -/
def wt : FVec Ideal S2688x1024 .bf16 := V m c main_v12

theorem wt_eq : wt m c = pad S2688x1024 ![0, 0] ![112, 0] ![0, 0] (truncf .bf16 (transpose S2576x1024 [1, 0]
    (shapeCast S1024x2576 (m (c.tc.loc main_arg2) : FVec Ideal S1x1024x2576 .f32) shapeCasts_S1x1024x2576_S1024x2576)
      transposes_S1024x2576_S2576x1024_1_0) bitsLt_bf16_f32) (zero .bf16) pads_S2576x1024_S2688x1024_01120_000 h_S_ := by
  unfold wt
  simp only [V, List.flatten_cons, List.flatten_nil, List.cons_append, List.nil_append]
  entry_read
  rfl

theorem rowsT_apply (x : FVec Ideal S1x1024x2576 .f32) (k : Fin 2688) (j : Fin 1024) :
    pad S2688x1024 ![0, 0] ![112, 0] ![0, 0] (truncf .bf16 (transpose S2576x1024 [1, 0]
      (shapeCast S1024x2576 x shapeCasts_S1x1024x2576_S1024x2576) transposes_S1024x2576_S2576x1024_1_0) bitsLt_bf16_f32)
      (zero .bf16) pads_S2576x1024_S2688x1024_01120_000 h_S_ (ix2 k j)
      = if h : k.val < 2576 then x (ix3 0 j ⟨k.val, h⟩) else (0 : EReal) := by
  pointwise
  refine dite_congr rfl (fun _ => rfl) fun _ => sitofp_zero (φ := .bf16)

theorem wt_apply (k : Fin 2688) (j : Fin 1024) :
    wt m c (ix2 k j)
      = if h : k.val < 2576 then w m c j ⟨k.val, h⟩ else 0 := by
  rw [wt_eq]; exact rowsT_apply _ k j

/-- The cotangent of the normalised rows: the projection's cotangent against the projection. -/
def n (b : Fin 2) (s : Fin 2064) (j : Fin 1024) : EReal := ∑ k : Fin 2576, u m c b s k * w m c j k

/-- A product over 2576 columns cut at column 1024, its second part padded to 1664 columns. -/
theorem cut_columns (x y : Fin 2576 → EReal) :
    (∑ k : Fin 1024, x ⟨k.val, by omega⟩ * (if h : k.val < 2576 then y ⟨k.val, h⟩ else 0))
      + ∑ k : Fin 1664, (if h : k.val < 1552 then x ⟨1024 + k.val, by omega⟩ else 0)
        * (if h : 1024 + k.val < 2576 then y ⟨1024 + k.val, h⟩ else 0)
      = ∑ k, x k * y k := by
  have hl : ∀ k : Fin 1024, x ⟨k.val, by omega⟩ * (if h : k.val < 2576 then y ⟨k.val, h⟩ else 0)
      = x ⟨k.val, by omega⟩ * y ⟨k.val, by omega⟩ := fun k => by rw [dif_pos (show k.val < 2576 by omega)]
  have hr : ∀ k : Fin 1552, (if h : k.val < 1552 then x ⟨1024 + k.val, by omega⟩ else 0)
        * (if h : 1024 + k.val < 2576 then y ⟨1024 + k.val, h⟩ else 0)
      = x ⟨1024 + k.val, by omega⟩ * y ⟨1024 + k.val, by omega⟩ :=
    fun k => by rw [dif_pos k.isLt, dif_pos (show 1024 + k.val < 2576 by omega)]
  have hz : ∀ k : Fin 112, (if h : 1552 + k.val < 1552 then x ⟨1024 + (1552 + k.val), by omega⟩ else 0)
        * (if h : 1024 + (1552 + k.val) < 2576 then y ⟨1024 + (1552 + k.val), h⟩ else 0) = 0 :=
    fun k => by rw [dif_neg (show ¬ (1552 + k.val < 1552) by omega), zero_mul]
  have hN : 1024 + 1552 = 2576 := by norm_num
  have hM : 1552 + 112 = 1664 := by norm_num
  rw [Fin.sum_univ_two_halves 1024 1552 hN (fun k => x k * y k), Fin.sum_univ_two_halves 1552 112 hM]
  exact congrArg₂ (· + ·) (Finset.sum_congr rfl fun k _ => hl k)
    ((congrArg₂ (· + ·) (Finset.sum_congr rfl fun k _ => hr k) (Finset.sum_eq_zero fun k _ => hz k)).trans
      (add_zero _))

/-- The two products of a row, over the columns below 1024 and the padded columns from 1024 on. -/
theorem products (r : Fin 4224) (j : Fin 1024) :
    (∑ k : Fin 1024, xc m c (ix2 r k)
        * wt m c (ix2 ⟨k.val, by omega⟩ j) : EReal)
      + ∑ k : Fin 1664, xg m c (ix2 r k)
        * wt m c (ix2 ⟨1024 + k.val, by omega⟩ j)
      = padded (n m c) r j :=
  (congrArg₂ (· + ·)
    (Finset.sum_congr rfl fun k _ => congrArg₂ (· * ·) (xc_apply m c r k) (wt_apply m c _ j))
    (Finset.sum_congr rfl fun k _ => congrArg₂ (· * ·) (xg_apply m c r k) (wt_apply m c _ j))).trans
  ((cut_columns (padded (u m c) r) (w m c j)).trans
    (padded_map (u m c) (fun x j => ∑ k, x k * w m c j k)
      (fun j => by simp only [zero_mul, Finset.sum_const_zero]) r j))

end Cert.InProjBwdIdeal.Host
end
-- ==== Proof.RmsGrad.lean ====
/- The gradient of a root-mean-square normalisation, at one row, over the extended reals: the two ways the two programs
   write it (the kernel's from the normalised row, the derivative's from the row itself) are one value for finite rows. -/
module

public import Idealize.ShloMosaic.Lib.Pointwise
public import Idealize.ShloMosaic.Lib.IdealHost

@[expose] public section

set_option maxRecDepth 16384

noncomputable section

namespace RmsGrad

open Idealize.ShloMosaic
open scoped BigOperators

/-! ## Finite extended reals -/

/-- `x` is a real number. -/
def IsReal (x : EReal) : Prop := ∃ r : ℝ, x = (r : EReal)

theorem isReal_of_abs_lt {x : EReal} (h : max x (-x) < ⊤) : IsReal x := by
  induction x with
  | bot => simp at h
  | top => simp at h
  | coe r => exact ⟨r, rfl⟩

/-- A comparison with infinity that holds. -/
theorem isReal_of_cmp {x : EReal}
    (h : FloatOps.cmpf (F := Ideal) (φ := .f32) .olt (max x (-x)) (Ideal.ofBits .f32 0x7F800000#32) = 1#1) : IsReal x := by
  refine isReal_of_abs_lt ?_
  rw [← show Ideal.ofBits .f32 0x7F800000#32 = ⊤ by simp [Ideal.ofBits, Ideal.ieee]]
  by_contra hn
  simp [FloatOps.cmpf, Ideal.cmp, hn] at h

theorem isReal_zero : IsReal 0 := ⟨0, rfl⟩
theorem isReal_one : IsReal 1 := ⟨1, rfl⟩

theorem IsReal.mul {x y : EReal} : IsReal x → IsReal y → IsReal (x * y) := by
  rintro ⟨a, rfl⟩ ⟨b, rfl⟩; exact ⟨a * b, by push_cast; rfl⟩

theorem IsReal.add {x y : EReal} : IsReal x → IsReal y → IsReal (x + y) := by
  rintro ⟨a, rfl⟩ ⟨b, rfl⟩; exact ⟨a + b, by push_cast; rfl⟩

theorem IsReal.sub {x y : EReal} : IsReal x → IsReal y → IsReal (x - y) := by
  rintro ⟨a, rfl⟩ ⟨b, rfl⟩; exact ⟨a - b, by push_cast; rfl⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-! ## The literals -/

/-- The literal of the row length. -/
theorem ofBits_1024 : Ideal.ofBits .f32 0x44800000#32 = ((1024 : ℝ) : EReal) := by
  simp [Ideal.ofBits, Ideal.ieee, -EReal.coe_mul]; norm_num

/-- The literal of minus one half. -/
theorem ofBits_neg_half : Ideal.ofBits .f32 0xBF000000#32 = ((-(1 / 2) : ℝ) : EReal) := by
  simp [Ideal.ofBits, Ideal.ieee, -EReal.coe_mul, -EReal.coe_neg]; norm_num

/-- The literal added under the root is a positive real. -/
theorem ofBits_eps : ∃ e : ℝ, 0 < e ∧ Ideal.ofBits .f32 0x358637BD#32 = (e : EReal) := by
  refine ⟨_, ?_, by simp only [Ideal.ofBits, Ideal.ieee]; rw [if_neg (by decide), if_neg (by decide)]⟩
  norm_num
  rw [if_neg (by decide)]
  positivity

/-! ## One row -/

/-- The mean square of a row plus the literal under the root. -/
abbrev meanSq {n : ℕ} (x : Fin n → EReal) : EReal :=
  Ideal.div (∑ k, x k * x k) (Ideal.ofBits .f32 0x44800000#32) + Ideal.ofBits .f32 0x358637BD#32

/-- The mean square of a finite row plus the literal is positive. -/
theorem meanSq_pos {n : ℕ} {x : Fin n → EReal} (hx : ∀ k, IsReal (x k)) : ∃ q : ℝ, 0 < q ∧ meanSq x = (q : EReal) := by
  obtain ⟨e, he, hE⟩ := ofBits_eps
  choose x' hx' using hx
  obtain rfl : x = fun k => (x' k : EReal) := funext hx'
  refine ⟨(∑ k, x' k * x' k) * (1 / 1024) + e, add_pos_of_nonneg_of_pos
    (mul_nonneg (Finset.sum_nonneg fun k _ => mul_self_nonneg _) (by norm_num)) he, ?_⟩
  unfold meanSq
  rw [hE, ofBits_1024, Ideal.div_coe (by norm_num)]
  push_cast [coe_sum]; rfl

theorem rsqrt_real {n : ℕ} {x : Fin n → EReal} (hx : ∀ k, IsReal (x k)) : IsReal (Ideal.rsqrt (meanSq x)) := by
  obtain ⟨q, hq, e⟩ := meanSq_pos hx
  rw [e, Ideal.rsqrt_coe, if_neg (not_lt.mpr hq.le), if_neg hq.ne']
  exact ⟨_, rfl⟩

/-- The two ways to write the gradient of the normalisation at entry `j` of a finite row `x`, from the cotangent `w` of the
    normalised row (the gain already multiplied in): the kernel's `r (w − x r · mean(w x r))` and the derivative's
    `w r + x a + a x` with `a` the derivative of the reciprocal root times `∑ x w`, over the row length. -/
theorem row {n : ℕ} (d : EReal) (x w : Fin n → EReal) (hx : ∀ k, IsReal (x k)) (hw : ∀ k, IsReal (w k)) (j : Fin n) :
    d + Ideal.rsqrt (meanSq x)
        * (w j - x j * Ideal.rsqrt (meanSq x)
            * Ideal.div (∑ k, w k * (x k * Ideal.rsqrt (meanSq x))) (Ideal.ofBits .f32 0x44800000#32))
      = d + w j * Ideal.rsqrt (meanSq x)
        + x j * Ideal.div ((∑ k, x k * w k) * (Ideal.ofBits .f32 0xBF000000#32
            * Ideal.div (Ideal.rsqrt (meanSq x)) (meanSq x))) (Ideal.ofBits .f32 0x44800000#32)
        + Ideal.div ((∑ k, x k * w k) * (Ideal.ofBits .f32 0xBF000000#32
            * Ideal.div (Ideal.rsqrt (meanSq x)) (meanSq x))) (Ideal.ofBits .f32 0x44800000#32) * x j := by
  obtain ⟨q, hpos, hm⟩ := meanSq_pos hx
  choose x' hx' using hx
  choose w' hw' using hw
  rw [hm]
  obtain rfl : x = fun k => (x' k : EReal) := funext hx'
  obtain rfl : w = fun k => (w' k : EReal) := funext hw'
  have hs : 0 < Real.sqrt q := Real.sqrt_pos.mpr hpos
  rw [Ideal.rsqrt_coe, if_neg (not_lt.mpr hpos.le), if_neg hpos.ne', ofBits_1024, ofBits_neg_half,
    Ideal.div_coe (by norm_num), Ideal.div_coe hpos.ne', Ideal.div_coe (by norm_num)]
  have h1 : ∑ k, (w' k : EReal) * ((x' k : EReal) * (((Real.sqrt q)⁻¹ : ℝ) : EReal))
      = (((∑ k, x' k * w' k) * (Real.sqrt q)⁻¹ : ℝ) : EReal) := by
    rw [Finset.sum_mul, coe_sum]
    exact Finset.sum_congr rfl fun k _ => by rw [← EReal.coe_mul, ← EReal.coe_mul]; congr 1; ring
  have h2 : ∑ k, (x' k : EReal) * (w' k : EReal) = ((∑ k, x' k * w' k : ℝ) : EReal) := by
    rw [coe_sum]; exact Finset.sum_congr rfl fun k _ => by rw [← EReal.coe_mul]
  rw [h1, h2, add_assoc, add_assoc]
  congr 1
  generalize ∑ k, x' k * w' k = S
  simp only [← EReal.coe_mul, ← EReal.coe_add, ← EReal.coe_sub]
  congr 1
  have hq : q = Real.sqrt q * Real.sqrt q := (Real.mul_self_sqrt hpos.le).symm
  generalize Real.sqrt q = s at hs hq
  subst hq
  field_simp
  ring

end RmsGrad

end
-- ==== Proof.InProjBlock.lean ====
module

public import Idealize.ShloMosaic.Lib.Pointwise
public import Idealize.ShloMosaic.Lib.Pipeline.ValueKit
public import proofs.«01_k».proof.Proof.Gen.InProjBwdIdeal.Frame
public import proofs.«01_k».proof.Proof.RmsGrad

/-!
What one block of 384 rows of the projection's backward call computes, entry by entry.
-/

@[expose] public section

set_option maxRecDepth 16384

noncomputable section

open Idealize.ShloMosaic Idealize.ShloMosaic.TcCoe Idealize.SL.Sem
open RmsGrad

namespace Cert.InProjBwdIdeal.Block
open Cert.InProjBwdIdeal Cert.InProjBwdIdeal.Gen

/-- The stream's gradient: the residual cotangent plus the norm's gradient. -/
theorem dh (x dn : FVec Ideal S384x1024 .f32) (g : FVec Ideal S1x1024 .f32) (d : FVec Ideal S384x1024 .f32)
    (r : Fin 384) (j : Fin 1024) :
    k0_pay1 (F := Ideal) dn (k0_pay5 (F := Ideal) x) (k0_pay6 (F := Ideal) x) g d (ix2 r j)
      = d (ix2 r j) + Ideal.rsqrt (meanSq fun k => x (ix2 r k)) * (dn (ix2 r j) * g (ix2 0 j)
        - x (ix2 r j) * Ideal.rsqrt (meanSq fun k => x (ix2 r k))
          * Ideal.div (∑ k, dn (ix2 r k) * g (ix2 0 k) * (x (ix2 r k) * Ideal.rsqrt (meanSq fun k => x (ix2 r k))))
            (Ideal.ofBits .f32 0x44800000#32)) := by
  pointwise [k0_pay1, k0_pay5, k0_pay6, k0_pay4]

/-- The cotangent of the normalised rows: two products with the projection. -/
theorem dn (xc : FVec Ideal S384x1024 .bf16) (wc : FVec Ideal S1024x1024 .bf16) (xg : FVec Ideal S384x1664 .bf16)
    (wg : FVec Ideal S1664x1024 .bf16) (r : Fin 384) (j : Fin 1024) :
    k0_pay3 (F := Ideal) xc wc xg wg (ix2 r j)
      = ∑ k, xc (ix2 r k) * wc (ix2 k j) + ∑ k, xg (ix2 r k) * wg (ix2 k j) := by
  pointwise [k0_pay3]

/-- The gain's gradient: what was there plus the block's rows of cotangent times normalised row. -/
theorem dg (xc : FVec Ideal S384x1024 .bf16) (wc : FVec Ideal S1024x1024 .bf16) (xg : FVec Ideal S384x1664 .bf16)
    (wg : FVec Ideal S1664x1024 .bf16) (x : FVec Ideal S384x1024 .f32) (acc : FVec Ideal S1x1024 .f32) (j : Fin 1024) :
    k0_pay7 (F := Ideal) xc wc xg wg x acc (ix2 0 j)
      = acc (ix2 0 j) + ∑ r, k0_pay3 (F := Ideal) xc wc xg wg (ix2 r j)
        * (x (ix2 r j) * Ideal.rsqrt (meanSq fun k => x (ix2 r k))) := by
  pointwise [k0_pay7, k0_pay6, k0_pay5, k0_pay4]

/-- The accumulator starts from zero. -/
theorem zero_fill (j : Fin 1024) : k0_pay2 (F := Ideal) (ix2 0 j) = (0 : EReal) := by
  pointwise [k0_pay2]

end Cert.InProjBwdIdeal.Block
end
-- ==== Proof.InProjValue.lean ====
module

public import Idealize.ShloMosaic.Lib.Pointwise
public import Idealize.ShloMosaic.Lib.Claim
public import Idealize.ShloMosaic.Lib.Pipeline.ValueKit
public import proofs.«01_k».proof.Proof.InProjHost
public import proofs.«01_k».proof.Proof.InProjBlock

/-!
What the projection's backward call leaves in its two result arrays: the stream's gradient row by row, and the gain's
gradient accumulated over the eleven blocks of 384 rows.
-/

@[expose] public section

set_option maxRecDepth 16384

noncomputable section

open Idealize.ShloMosaic Idealize.ShloMosaic.TcCoe Idealize.SL.Sem
open Idealize.ShloMosaic.Pipeline (Dat)
open PaddedRows RmsGrad

namespace Cert.InProjBwdIdeal.Value
open Cert.InProjBwdIdeal Cert.InProjBwdIdeal.Gen Cert.InProjBwdIdeal.Host Cert.InProjBwdIdeal.Block
variable (m : (ℓ : Loc nD τ sig) → Buf (Elt Ideal) ℓ) (c : Dev nD)

/-- The gain. -/
def g (j : Fin 1024) : EReal := m (c.tc.loc main_arg1) (ix2 0 j)

theorem idx : ∀ t : Fin cfg0.N, win0_0.index t = ![t.val, 0] ∧ win0_1.index t = ![t.val, 0]
    ∧ win0_2.index t = ![0, 0] ∧ win0_3.index t = ![t.val, 0] ∧ win0_4.index t = ![t.val, 0]
    ∧ win0_5.index t = ![0, 0] ∧ win0_6.index t = ![t.val, 0] ∧ win0_7.index t = ![0, 0] :=
  (by decide +kernel : ∀ t : Fin grid0.N, win0_0.index t = ![t.val, 0] ∧ win0_1.index t = ![t.val, 0]
    ∧ win0_2.index t = ![0, 0] ∧ win0_3.index t = ![t.val, 0] ∧ win0_4.index t = ![t.val, 0]
    ∧ win0_5.index t = ![0, 0] ∧ win0_6.index t = ![t.val, 0] ∧ win0_7.index t = ![0, 0])

/-- Row `r` of block `t`. -/
abbrev row (t : Fin cfg0.N) (r : Fin 384) : Fin 4224 :=
  ⟨384 * t.val + r.val, by have h : t.val < 11 := t.isLt; have := r.isLt; omega⟩

theorem blk0 (t : Fin cfg0.N) (r : Fin 384) (k : Fin 1024) :
    (iblk m c 0 t : FVec Ideal S384x1024 .bf16) (ix2 r k) = xc m c (ix2 (row t r) k) := by
  blk_point [iblk, xc, idx t]

theorem blk1 (t : Fin cfg0.N) (r : Fin 384) (k : Fin 1664) :
    (iblk m c 1 t : FVec Ideal S384x1664 .bf16) (ix2 r k) = xg m c (ix2 (row t r) k) := by
  blk_point [iblk, xg, idx t]

theorem blk2_top (t : Fin cfg0.N) (k : Fin 1024) (j : Fin 1024) :
    View.ld (iblk m c 2 t) (Rect.unit ![0, 0] ![1024, 1024] inb_S2688x1024_S1024x1024_0_0) (ix2 k j)
      = wt m c (ix2 ⟨k.val, by omega⟩ j) := by
  blk_point [iblk, wt, idx t]

theorem blk2_bottom (t : Fin cfg0.N) (k : Fin 1664) (j : Fin 1024) :
    View.ld (iblk m c 2 t) (Rect.unit ![1024, 0] ![1664, 1024] inb_S2688x1024_S1664x1024_1024_0) (ix2 k j)
      = wt m c (ix2 ⟨1024 + k.val, by omega⟩ j) := by
  blk_point [iblk, wt, idx t]

theorem blk3 (t : Fin cfg0.N) (r : Fin 384) (j : Fin 1024) :
    (iblk m c 3 t : FVec Ideal S384x1024 .f32) (ix2 r j) = hp m c (ix2 (row t r) j) := by
  blk_point [iblk, hp, idx t]

theorem blk4 (t : Fin cfg0.N) (r : Fin 384) (j : Fin 1024) :
    (iblk m c 4 t : FVec Ideal S384x1024 .f32) (ix2 r j) = dp m c (ix2 (row t r) j) := by
  blk_point [iblk, dp, idx t]

theorem blk5 (t : Fin cfg0.N) (j : Fin 1024) :
    (iblk m c 5 t : FVec Ideal S1x1024 .f32) (ix2 0 j) = g m c j := by
  blk_point [iblk, g, V, idx t]

/-- The cotangent of the normalised rows of block `t`. -/
def dnBlk (t : Fin cfg0.N) : FVec Ideal S384x1024 .f32 :=
  k0_pay3 (F := Ideal) (iblk m c 0 t)
    (View.ld (iblk m c 2 t) (Rect.unit ![0, 0] ![1024, 1024] inb_S2688x1024_S1024x1024_0_0)) (iblk m c 1 t)
    (View.ld (iblk m c 2 t) (Rect.unit ![1024, 0] ![1664, 1024] inb_S2688x1024_S1664x1024_1024_0))

theorem dnBlk_apply (t : Fin cfg0.N) (r : Fin 384) (j : Fin 1024) :
    dnBlk m c t (ix2 r j) = padded (n m c) (row t r) j := by
  unfold dnBlk
  rw [dn, ← products]
  simp only [blk0, blk1, blk2_top, blk2_bottom]

/-- The stream's gradient at a padded row and a column. -/
def stream (r : Fin 4224) (j : Fin 1024) : EReal :=
  padded (d m c) r j + Ideal.rsqrt (meanSq (padded (h m c) r)) * (padded (n m c) r j * g m c j
    - padded (h m c) r j * Ideal.rsqrt (meanSq (padded (h m c) r))
      * Ideal.div (∑ k, padded (n m c) r k * g m c k * (padded (h m c) r k * Ideal.rsqrt (meanSq (padded (h m c) r))))
        (Ideal.ofBits .f32 0x44800000#32))

/-- A padded row's contribution to the gain's gradient. -/
def gainRow (r : Fin 4224) (j : Fin 1024) : EReal :=
  padded (n m c) r j * (padded (h m c) r j * Ideal.rsqrt (meanSq (padded (h m c) r)))

theorem stream_blk (t : Fin cfg0.N) (r : Fin 384) (j : Fin 1024) :
    k0_pay1 (F := Ideal) (dnBlk m c t) (k0_pay5 (F := Ideal) (iblk m c 3 t)) (k0_pay6 (F := Ideal) (iblk m c 3 t))
      (iblk m c 5 t) (iblk m c 4 t) (ix2 r j) = stream m c (row t r) j := by
  rw [dh]
  simp only [blk3, blk4, blk5, dnBlk_apply, hp_apply, dp_apply]
  rfl

theorem gain_blk (t : Fin cfg0.N) (acc : FVec Ideal S1x1024 .f32) (j : Fin 1024) :
    k0_pay7 (F := Ideal) (iblk m c 0 t)
      (View.ld (iblk m c 2 t) (Rect.unit ![0, 0] ![1024, 1024] inb_S2688x1024_S1024x1024_0_0)) (iblk m c 1 t)
      (View.ld (iblk m c 2 t) (Rect.unit ![1024, 0] ![1664, 1024] inb_S2688x1024_S1664x1024_1024_0))
      (iblk m c 3 t) acc (ix2 0 j) = acc (ix2 0 j) + ∑ r, gainRow m c (row t r) j := by
  rw [dg]
  refine congrArg (acc (ix2 0 j) + ·) (Finset.sum_congr rfl fun r _ => ?_)
  refine (congrArg₂ (· * ·) (dnBlk_apply m c t r j) ?_).trans rfl
  simp only [blk3, hp_apply]

theorem out_stream (t : Fin cfg0.N) (r : Fin 384) (j : Fin 1024) :
    (outsAt0 m c t.val t.isLt).1 (ix2 r j) = stream m c (row t r) j := by
  by_cases h0 : t.val % 11 = 0
  · rw [outsAt0_A m c t h0]
    frame_out
    exact stream_blk m c t r j
  · rw [outsAt0_B m c t h0]
    frame_out
    exact stream_blk m c t r j

/-- The stream's gradient, in the first result array. -/
theorem final6 (r : Fin 4224) (j : Fin 1024) :
    ((dats m 0 c).arrAt 6 cfg0.N : FVec Ideal S4224x1024 .f32) (ix2 r j) = stream m c r j := by
  have key : ((dats m 0 c).arrAt 6 cfg0.N : FVec Ideal S4224x1024 .f32) = fun i => stream m c (i 0) (i 1) := by
    refine (dats m 0 c).arrAt_eq_of_covers 6 _ (by decide +kernel) fun t hf y => ?_
    blk_simp
    rw [after0_6]
    idx_vars y
    have e : ((View.whole main_v17_0).slice (win0_6.rect t)).emb (ix2 y0 y1) = ix2 (row t y0) y1 := by
      blk_ext [idx t]
    rw [e]
    exact out_stream m c t y0 y1
  rw [key]; rfl

/-- The last point of the grid. -/
def last : Fin cfg0.N := ⟨10, by decide⟩

theorem out_gain (j : Fin 1024) :
    (outsAt0 m c last.val last.isLt).2 (ix2 0 j) = ∑ t : Fin 11, ∑ r, gainRow m c (row t r) j := by
  rw [Pipeline.eq_sum_fin_of_reset_step_apply_last (fun n h => (outsAt0 m c n h).2) 11 (fun _ => (0 : EReal))
    (fun (t : Fin cfg0.N) (i : S1x1024.Idx) => ∑ r, gainRow m c (row t r) (i 1))
    (fun t h i => by
      rw [outsAt0_A m c t h]; frame_out
      idx_vars i
      obtain rfl : i0 = 0 := Subsingleton.elim _ _
      exact (gain_blk m c t _ i1).trans (congrArg (· + _) (zero_fill i1)))
    (fun t h i => by
      rw [outsAt0_B m c t h]; frame_out
      idx_vars i
      obtain rfl : i0 = 0 := Subsingleton.elim _ _
      exact gain_blk m c t _ i1) (le_of_eq N_0) last rfl (ix2 0 j), zero_add]
  rfl

/-- The rows, block by block. -/
theorem sum_blocks (j : Fin 1024) : ∑ t : Fin 11, ∑ r, gainRow m c (row t r) j = ∑ r, gainRow m c r j := by
  rw [Fin.sum_univ_tiles 11 384 (by norm_num) fun r => gainRow m c r j]
  refine Finset.sum_congr rfl fun t _ => Finset.sum_congr rfl fun r _ => ?_
  exact congrArg (gainRow m c · j) (Fin.ext (by show 384 * t.val + r.val = t.val * 384 + r.val; omega))

/-- The gain's gradient, in the second result array. -/
theorem final7 (j : Fin 1024) :
    ((dats m 0 c).arrAt 7 cfg0.N : FVec Ideal S1x1024 .f32) (ix2 0 j) = ∑ r, gainRow m c r j := by
  have key : ((dats m 0 c).arrAt 7 cfg0.N : FVec Ideal S1x1024 .f32) = fun i => ∑ r, gainRow m c r (i 1) := by
    refine (dats m 0 c).arrAt_eq_of_after_last 7 last (by decide +kernel) _ fun i => ?_
    blk_simp
    rw [after0_7]
    idx_vars i
    obtain rfl : i0 = 0 := Subsingleton.elim _ _
    rw [out_gain]
    exact sum_blocks m c i1
  rw [key]; rfl

end Cert.InProjBwdIdeal.Value
end
-- ==== Proof.InProjRead.lean ====
module

public import Idealize.ShloMosaic.Lib.Pointwise
public import Idealize.ShloMosaic.Lib.KernelVsHost
public import Idealize.ShloMosaic.Lib.IdealHost
public import proofs.«01_k».proof.Proof.Gen.InProjRefIdeal.Read
public import proofs.«01_k».proof.Proof.PaddedRows
public import proofs.«01_k».proof.Proof.RmsGrad

/-!
What the reference of the projection's backward part computes: the stream's gradient at a row and a column, and the
gain's gradient as a sum over the examples and their rows.
-/

@[expose] public section

set_option maxRecDepth 16384

noncomputable section

open Idealize.ShloMosaic Idealize.ShloMosaic.TcCoe Idealize.SL.Sem
open PaddedRows RmsGrad

namespace Cert.InProjRefIdeal.Read
open Cert.InProjRefIdeal Cert.InProjRefIdeal.Gen

variable (x0 : FVec Ideal S2x2064x1024 .f32) (x1 : FVec Ideal S1x1024 .f32) (x2 : FVec Ideal S1x1024x2576 .f32)
  (x3 : FVec Ideal S2x2064x1024 .f32) (x4 : FVec Ideal S2x2064x2576 .f32)

/-- The cotangent of the normalised rows. -/
theorem normalised (b : Fin 2) (s : Fin 2064) (j : Fin 1024) :
    val_main_v19 (F := Ideal) x2 x4 (ix3 b s j) = ∑ k, x4 (ix3 b s k) * x2 (ix3 0 j k) := by
  pointwise [val_main_v19, val_main_v17]

/-- The factor both contributions of the mean square carry. -/
abbrev pull (b : Fin 2) (s : Fin 2064) : EReal :=
  Ideal.div ((∑ k, x0 (ix3 b s k) * (val_main_v19 (F := Ideal) x2 x4 (ix3 b s k) * x1 (ix2 0 k)))
    * (Ideal.ofBits .f32 0xBF000000#32 * Ideal.div (Ideal.rsqrt (meanSq fun k => x0 (ix3 b s k)))
      (meanSq fun k => x0 (ix3 b s k)))) (Ideal.ofBits .f32 0x44800000#32)

/-- The stream's gradient. -/
theorem stream (b : Fin 2) (s : Fin 2064) (j : Fin 1024) :
    val_main_v40 (F := Ideal) x0 x1 x2 x3 x4 (ix3 b s j)
      = x3 (ix3 b s j) + val_main_v19 (F := Ideal) x2 x4 (ix3 b s j) * x1 (ix2 0 j)
          * Ideal.rsqrt (meanSq fun k => x0 (ix3 b s k))
        + x0 (ix3 b s j) * pull x0 x1 x2 x4 b s + pull x0 x1 x2 x4 b s * x0 (ix3 b s j) := by
  pointwise [val_main_v40, val_main_v39, val_main_v38, val_main_v37, val_main_v36, val_main_v35, val_main_v34,
    val_main_v33, val_main_v32, val_main_v31, val_main_v30, val_main_v29, val_main_v28, val_main_v27, val_main_v26,
    val_main_v24, val_main_v23, val_main_v14, val_main_v0, val_main_v11, val_main_v10, val_main_v9, val_main_v8,
    val_main_v7, val_main_v6, val_main_v5, val_main_v4, val_main_v3, val_main_v2, val_main_v1, val_main_cst,
    val_main_cst_0, val_main_cst_1, val_main_cst_2, val_main_cst_4, val_main_cst_5, val_main_cst_6, val_main_cst_7]
  simp only [Finset.univ_unique, Finset.sum_singleton]

/-- The stream's gradient on the padded rows. -/
theorem padded_stream (r : Fin 4224) (j : Fin 1024) :
    val_main_v43 (F := Ideal) x0 x1 x2 x3 x4 (ix2 r j)
      = padded (fun b s j => val_main_v40 (F := Ideal) x0 x1 x2 x3 x4 (ix3 b s j)) r j := by
  pointwise [val_main_v43, val_main_v42, val_main_call0_v0, val_main_c]
  exact dite_padded (fun b s k => val_main_v40 (F := Ideal) x0 x1 x2 x3 x4 (ix3 b s k)) _ (sitofp_zero (φ := .f32)) r j

/-- A row's contribution to the gain's gradient. -/
theorem gain_row (b : Fin 2) (s : Fin 2064) (j : Fin 1024) :
    val_main_v20 (F := Ideal) x0 x2 x4 (ix3 b s j)
      = x0 (ix3 b s j) * Ideal.rsqrt (meanSq fun k => x0 (ix3 b s k)) * val_main_v19 (F := Ideal) x2 x4 (ix3 b s j) := by
  pointwise [val_main_v20, val_main_v13, val_main_v12, val_main_v8, val_main_v7, val_main_v6, val_main_v5,
    val_main_v4, val_main_v3, val_main_v2, val_main_v1, val_main_cst, val_main_cst_0, val_main_cst_1, val_main_cst_2]

theorem gain_inner (j : Fin 1024) :
    val_main_v21 (F := Ideal) x0 x2 x4 (ix1 j) = ∑ b, ∑ s, val_main_v20 (F := Ideal) x0 x2 x4 (ix3 b s j) := by
  unfold val_main_v21
  rw [Idealize.ShloMosaic.ValueIdx.hostReduceAdd_apply]
  refine (hostReduceAdd_outer (a := 2) (b := 2064) (n := 1024) _ _ _ j).trans ?_
  rw [show val_main_cst_3 (F := Ideal) (Shape.Idx.first h_S_) = (0 : EReal) from Ideal.ofBits_zero_f32, zero_add]

/-- The gain's gradient. -/
theorem gain (j : Fin 1024) :
    val_main_v41 (F := Ideal) x0 x2 x4 (ix2 0 j) = ∑ b, ∑ s, val_main_v20 (F := Ideal) x0 x2 x4 (ix3 b s j) := by
  have h25 : val_main_v25 (F := Ideal) x0 x2 x4 (ix1 j) = val_main_v22 (F := Ideal) x0 x2 x4 (ix3 0 0 j) := by
    unfold val_main_v25
    rw [Idealize.ShloMosaic.ValueIdx.hostReduceAdd_apply]
    refine (hostReduceAdd_outer (a := 1) (b := 1) (n := 1024) _ _ _ j).trans ?_
    rw [show val_main_cst_4 (F := Ideal) (Shape.Idx.first h_S_) = (0 : EReal) from Ideal.ofBits_zero_f32, zero_add]
    simp only [Finset.univ_unique, Finset.sum_singleton]
    rfl
  have h22 : val_main_v22 (F := Ideal) x0 x2 x4 (ix3 0 0 j) = val_main_v21 (F := Ideal) x0 x2 x4 (ix1 j) := by
    pointwise [val_main_v22]
  rw [← gain_inner, ← h22, ← h25]
  pointwise [val_main_v41]

end Cert.InProjRefIdeal.Read
end
-- ==== Proof.InProjEq.lean ====
module

public import Idealize.ShloMosaic.Lib.Pointwise
public import Idealize.ShloMosaic.Lib.KernelVsHost
public import proofs.«01_k».proof.Defs
public import proofs.«01_k».proof.Proof.Gen.Pre_in_proj_finite
public import proofs.«01_k».proof.Proof.InProjValue
public import proofs.«01_k».proof.Proof.InProjRead

/-!
The projection's backward call and its reference leave the same arrays when the stream, the gain, the projection and the
projection's cotangent are finite.
-/

@[expose] public section

set_option maxRecDepth 16384

noncomputable section

open Idealize.ShloMosaic Idealize.ShloMosaic.TcCoe Idealize.SL.Sem
open PaddedRows RmsGrad

namespace Cert.Pre_in_proj_finite

variable (x0 : FVec Ideal S2x2064x1024 .f32) (x1 : FVec Ideal S1x1024 .f32) (x2 : FVec Ideal S1x1024x2576 .f32)
  (x3 : FVec Ideal S2x2064x1024 .f32) (x4 : FVec Ideal S2x2064x2576 .f32)

theorem real0 (h : (fn (F := Ideal) x0 x1 x2 x3 x4).1 = fun _ => 1#1) (i) : IsReal (x0 i) := isReal_of_cmp (congrFun h i)
theorem real1 (h : (fn (F := Ideal) x0 x1 x2 x3 x4).2.1 = fun _ => 1#1) (i) : IsReal (x1 i) := isReal_of_cmp (congrFun h i)
theorem real2 (h : (fn (F := Ideal) x0 x1 x2 x3 x4).2.2.1 = fun _ => 1#1) (i) : IsReal (x2 i) := isReal_of_cmp (congrFun h i)
theorem real4 (h : (fn (F := Ideal) x0 x1 x2 x3 x4).2.2.2 = fun _ => 1#1) (i) : IsReal (x4 i) := isReal_of_cmp (congrFun h i)

end Cert.Pre_in_proj_finite

namespace Cert.InProjBwdIdeal.Value
open Cert.InProjBwdIdeal Cert.InProjBwdIdeal.Gen Cert.InProjBwdIdeal.Host
variable (m : (ℓ : Loc nD τ sig) → Buf (Elt Ideal) ℓ) (c : Dev nD)

theorem n_eq (b : Fin 2) (s : Fin 2064) (j : Fin 1024) :
    Cert.InProjRefIdeal.Read.val_main_v19 (F := Ideal) (m (c.tc.loc main_arg2)) (m (c.tc.loc main_arg4)) (ix3 b s j)
      = n m c b s j := Cert.InProjRefIdeal.Read.normalised _ _ b s j

/-- The factor of the mean square's derivative. -/
def pull (b : Fin 2) (s : Fin 2064) : EReal :=
  Ideal.div ((∑ k, h m c b s k * (n m c b s k * g m c k)) * (Ideal.ofBits .f32 0xBF000000#32
    * Ideal.div (Ideal.rsqrt (meanSq (h m c b s))) (meanSq (h m c b s)))) (Ideal.ofBits .f32 0x44800000#32)

/-- The reference's gradient of the stream at a row. -/
theorem ref_stream (b : Fin 2) (s : Fin 2064) (j : Fin 1024) :
    Cert.InProjRefIdeal.Read.val_main_v40 (F := Ideal) (m (c.tc.loc main_arg0)) (m (c.tc.loc main_arg1))
      (m (c.tc.loc main_arg2)) (m (c.tc.loc main_arg3)) (m (c.tc.loc main_arg4)) (ix3 b s j)
    = d m c b s j + n m c b s j * g m c j * Ideal.rsqrt (meanSq (h m c b s)) + h m c b s j * pull m c b s
      + pull m c b s * h m c b s j := by
  rw [Cert.InProjRefIdeal.Read.stream]
  unfold Cert.InProjRefIdeal.Read.pull
  simp only [n_eq]
  rfl

variable (hp : Pre_InProjBwdIdeal_in_proj_finite m)
include hp

theorem h_real (b : Fin 2) (s : Fin 2064) (j : Fin 1024) : IsReal (h m c b s j) :=
  Cert.Pre_in_proj_finite.real0 _ _ _ _ _ (hp c).1 _

theorem n_real (b : Fin 2) (s : Fin 2064) (j : Fin 1024) : IsReal (n m c b s j) :=
  IsReal.sum _ fun l => IsReal.mul (Cert.Pre_in_proj_finite.real4 _ _ _ _ _ (hp c).2.2.2 _)
    (Cert.Pre_in_proj_finite.real2 _ _ _ _ _ (hp c).2.2.1 _)

theorem g_real (j : Fin 1024) : IsReal (g m c j) := Cert.Pre_in_proj_finite.real1 _ _ _ _ _ (hp c).2.1 _

/-- The kernel's gradient of the stream at a row. -/
theorem row_stream (b : Fin 2) (s : Fin 2064) (j : Fin 1024) :
    d m c b s j + Ideal.rsqrt (meanSq (h m c b s)) * (n m c b s j * g m c j
      - h m c b s j * Ideal.rsqrt (meanSq (h m c b s))
        * Ideal.div (∑ k, n m c b s k * g m c k * (h m c b s k * Ideal.rsqrt (meanSq (h m c b s))))
          (Ideal.ofBits .f32 0x44800000#32))
    = d m c b s j + n m c b s j * g m c j * Ideal.rsqrt (meanSq (h m c b s)) + h m c b s j * pull m c b s
      + pull m c b s * h m c b s j :=
  RmsGrad.row (d m c b s j) (h m c b s) (fun k => n m c b s k * g m c k) (h_real m c hp b s)
    (fun k => (n_real m c hp b s k).mul (g_real m c hp k)) j

/-- The stream's gradient as the reference computes it. -/
theorem stream_eq :
    (dats m 0 c).arrAt 6 cfg0.N = Cert.InProjRefIdeal.Read.val_main_v43 (F := Ideal) (m (c.tc.loc main_arg0))
      (m (c.tc.loc main_arg1)) (m (c.tc.loc main_arg2)) (m (c.tc.loc main_arg3)) (m (c.tc.loc main_arg4)) := by
  funext i
  idx_vars i
  refine (final6 m c i0 i1).trans ?_
  rw [Cert.InProjRefIdeal.Read.padded_stream]
  unfold stream
  by_cases hr : i0.val % 2112 < 48
  · simp only [padded_of_lt _ _ _ hr, zero_mul, mul_zero, sub_zero, add_zero]
  · have hr' : 48 ≤ i0.val % 2112 := not_lt.mp hr
    rw [show padded (h m c) i0 = h m c _ _ from funext fun k => padded_of_le _ _ _ hr',
      show padded (n m c) i0 = n m c _ _ from funext fun k => padded_of_le _ _ _ hr',
      padded_of_le _ _ _ hr', padded_of_le _ _ _ hr', row_stream m c hp, ref_stream]

omit hp

/-- The gain's gradient as the reference computes it. -/
theorem gain_eq :
    (dats m 0 c).arrAt 7 cfg0.N = Cert.InProjRefIdeal.Read.val_main_v41 (F := Ideal) (m (c.tc.loc main_arg0))
      (m (c.tc.loc main_arg2)) (m (c.tc.loc main_arg4)) := by
  funext i
  idx_vars i
  obtain rfl : i0 = 0 := Subsingleton.elim _ _
  refine (final7 m c i1).trans ?_
  rw [Cert.InProjRefIdeal.Read.gain]
  refine sum_rows _ _ (fun r hr => ?_) fun r hr => ?_
  · unfold gainRow
    rw [padded_of_lt _ _ _ hr, zero_mul]
  · rw [Cert.InProjRefIdeal.Read.gain_row, n_eq, mul_comm]
    unfold gainRow
    rw [show padded (h m c) r = h m c _ _ from funext fun k => padded_of_le _ _ _ hr, padded_of_le _ _ _ hr]
    rfl

end Cert.InProjBwdIdeal.Value
end
-- ==== Proof.FfnHost.lean ====
module

public import Idealize.ShloMosaic.Lib.Pointwise
public import Idealize.ShloMosaic.Lib.Claim
public import Idealize.ShloMosaic.Lib.KernelVsHost
public import Idealize.ShloMosaic.Lib.Pipeline.ValueKit
public import proofs.«01_k».proof.Proof.Gen.FfnBwdIdeal.Frame
public import proofs.«01_k».proof.Proof.PaddedRows
public import proofs.«01_k».proof.Proof.RmsGrad

/-!
What the host hands to the feed-forward's backward call: the cotangent, the two hidden projections of the normalised stream
and the stream itself padded to 4224 rows, and the transposed weights.
-/

@[expose] public section

set_option maxRecDepth 16384

noncomputable section

open Idealize.ShloMosaic Idealize.ShloMosaic.TcCoe Idealize.SL.Sem
open PaddedRows RmsGrad

namespace Cert.FfnBwdIdeal.Host
open Cert.FfnBwdIdeal Cert.FfnBwdIdeal.Gen
variable (m : (ℓ : Loc nD τ sig) → Buf (Elt Ideal) ℓ) (c : Dev nD)

/-- The stream, at an example, a row and a column. -/
def h (b : Fin 2) (s : Fin 2064) (j : Fin 1024) : EReal := m (c.tc.loc main_arg0) (ix3 b s j)
/-- The gain. -/
def g (j : Fin 1024) : EReal := m (c.tc.loc main_arg1) (ix2 0 j)
/-- The gate's weight. -/
def wg (j : Fin 1024) (k : Fin 2816) : EReal := m (c.tc.loc main_arg2) (ix3 0 j k)
/-- The other hidden projection. -/
def wu (j : Fin 1024) (k : Fin 2816) : EReal := m (c.tc.loc main_arg3) (ix3 0 j k)
/-- The projection back. -/
def wd (k : Fin 2816) (j : Fin 1024) : EReal := m (c.tc.loc main_arg4) (ix3 0 k j)
/-- The mixers' projection. -/
def wo (i : Fin 1024) (j : Fin 1024) : EReal := m (c.tc.loc main_arg5) (ix3 0 i j)
/-- The cotangent of the stream after the feed-forward. -/
def d (b : Fin 2) (s : Fin 2064) (j : Fin 1024) : EReal := m (c.tc.loc main_arg6) (ix3 b s j)

/-- A hidden projection of a row `x` of the stream, by the gain `g` and the weight `w`. -/
def hid (x g : Fin 1024 → EReal) (w : Fin 1024 → Fin 2816 → EReal) (k : Fin 2816) : EReal :=
  ∑ j, x j * Ideal.rsqrt (meanSq x) * g j * w j k

/-- What the padding holds, an integer zero converted. -/
abbrev zero : FVec Ideal S_ .f32 := sitofp .f32 (constantI S_ 32 0#32)

/-- The hidden projection as the host computes it. -/
def hidden (x : FVec Ideal S2x2064x1024 .f32) (g : FVec Ideal S1x1024 .f32) (w : FVec Ideal S1x1024x2816 .f32) :
    FVec Ideal S2x2064x2816 .f32 :=
  Host.dotGeneral dot_S2x2064x1024_S1024x2816_S2x2064x2816_2_0_01_1_n_n none
    (mulf (mulf x (broadcastInDim S2x2064x1024 ![0, 1, 2] bcast_S2x2064x1_S2x2064x1024_0_1_2
      (Host.rsqrt (addf (Host.divf (broadcastInDim S2x2064x1 ![0, 1] bcast_S2x2064_S2x2064x1_0_1
        (Host.reduceAdd (mulf x x) (constant S_ .f32 0x00000000#32) reducesTo_S2x2064x1024_S2x2064_d2 h_S_))
        (broadcastInDim S2x2064x1 ![] bcast_S_S2x2064x1 (constant S_ .f32 0x44800000#32)))
        (broadcastInDim S2x2064x1 ![] bcast_S_S2x2064x1 (constant S_ .f32 0x358637BD#32))))))
      (broadcastInDim S2x2064x1024 ![0, 1, 2] bcast_S1x1x1024_S2x2064x1024_0_1_2
        (broadcastInDim S1x1x1024 ![2] bcast_S1024_S1x1x1024_2 (shapeCast S1024 g shapeCasts_S1x1024_S1024))))
    (shapeCast S1024x2816 w shapeCasts_S1x1024x2816_S1024x2816)

theorem hidden_apply (x : FVec Ideal S2x2064x1024 .f32) (g : FVec Ideal S1x1024 .f32) (w : FVec Ideal S1x1024x2816 .f32)
    (b : Fin 2) (s : Fin 2064) (k : Fin 2816) :
    hidden x g w (ix3 b s k)
      = hid (fun j => x (ix3 b s j)) (fun j => g (ix2 0 j)) (fun j k => w (ix3 0 j k)) k := by
  unfold hid
  pointwise [hidden]

/-- Padding the examples' rows and putting the examples one under the other. -/
def rows1024 (x : FVec Ideal S2x2064x1024 .f32) : FVec Ideal S4224x1024 .f32 :=
  shapeCast S4224x1024 (pad S2x2112x1024 ![0, 48, 0] ![0, 0, 0] ![0, 0, 0] x zero
    pads_S2x2064x1024_S2x2112x1024_000_4800_000 h_S_) shapeCasts_S2x2112x1024_S4224x1024

theorem rows1024_apply (x : FVec Ideal S2x2064x1024 .f32) (r : Fin 4224) (j : Fin 1024) :
    rows1024 x (ix2 r j) = padded (fun b s k => x (ix3 b s k)) r j := by
  pointwise [rows1024]
  exact dite_padded (fun b s k => x (ix3 b s k)) _ (sitofp_zero (φ := .f32)) r j

def rows2816 (x : FVec Ideal S2x2064x2816 .f32) : FVec Ideal S4224x2816 .f32 :=
  shapeCast S4224x2816 (pad S2x2112x2816 ![0, 48, 0] ![0, 0, 0] ![0, 0, 0] x zero
    pads_S2x2064x2816_S2x2112x2816_000_4800_000 h_S_) shapeCasts_S2x2112x2816_S4224x2816

theorem rows2816_apply (x : FVec Ideal S2x2064x2816 .f32) (r : Fin 4224) (j : Fin 2816) :
    rows2816 x (ix2 r j) = padded (fun b s k => x (ix3 b s k)) r j := by
  pointwise [rows2816]
  exact dite_padded (fun b s k => x (ix3 b s k)) _ (sitofp_zero (φ := .f32)) r j

/-- The cotangent, padded rows. -/
def dp : FVec Ideal S4224x1024 .f32 := V m c main_v23

theorem dp_eq : dp m c = rows1024 (m (c.tc.loc main_arg6)) := by
  unfold dp
  simp only [V, List.flatten_cons, List.flatten_nil, List.cons_append, List.nil_append]
  entry_read
  rfl

theorem dp_apply (r : Fin 4224) (j : Fin 1024) : dp m c (ix2 r j) = padded (d m c) r j := by
  rw [dp_eq]; exact rows1024_apply _ r j

/-- The stream, padded rows. -/
def hp : FVec Ideal S4224x1024 .f32 := V m c main_v29

theorem hp_eq : hp m c = rows1024 (m (c.tc.loc main_arg0)) := by
  unfold hp
  simp only [V, List.flatten_cons, List.flatten_nil, List.cons_append, List.nil_append]
  entry_read
  rfl

theorem hp_apply (r : Fin 4224) (j : Fin 1024) : hp m c (ix2 r j) = padded (h m c) r j := by
  rw [hp_eq]; exact rows1024_apply _ r j

/-- The gate before its activation. -/
def gate (b : Fin 2) (s : Fin 2064) (k : Fin 2816) : EReal := hid (h m c b s) (g m c) (wg m c) k
/-- What the gate multiplies. -/
def up (b : Fin 2) (s : Fin 2064) (k : Fin 2816) : EReal := hid (h m c b s) (g m c) (wu m c) k

/-- The gate, padded rows. -/
def gp : FVec Ideal S4224x2816 .f32 := V m c main_v25

theorem gp_eq : gp m c = rows2816 (hidden (m (c.tc.loc main_arg0)) (m (c.tc.loc main_arg1)) (m (c.tc.loc main_arg2))) := by
  unfold gp
  simp only [V, List.flatten_cons, List.flatten_nil, List.cons_append, List.nil_append]
  entry_read
  rfl

theorem gp_apply (r : Fin 4224) (k : Fin 2816) : gp m c (ix2 r k) = padded (gate m c) r k := by
  rw [gp_eq, rows2816_apply]
  exact congrArg (padded · r k) (funext fun b => funext fun s => funext fun k => hidden_apply _ _ _ b s k)

/-- The other projection, padded rows. -/
def upp : FVec Ideal S4224x2816 .f32 := V m c main_v27

theorem upp_eq : upp m c = rows2816 (hidden (m (c.tc.loc main_arg0)) (m (c.tc.loc main_arg1)) (m (c.tc.loc main_arg3))) := by
  unfold upp
  simp only [V, List.flatten_cons, List.flatten_nil, List.cons_append, List.nil_append]
  entry_read
  rfl

theorem upp_apply (r : Fin 4224) (k : Fin 2816) : upp m c (ix2 r k) = padded (up m c) r k := by
  rw [upp_eq, rows2816_apply]
  exact congrArg (padded · r k) (funext fun b => funext fun s => funext fun k => hidden_apply _ _ _ b s k)

/-- The projection back, transposed. -/
def wdt : FVec Ideal S1024x2816 .bf16 := V m c main_v32

theorem wdt_eq : wdt m c = transpose S1024x2816 [1, 0] (truncf .bf16 (shapeCast S2816x1024
    (m (c.tc.loc main_arg4) : FVec Ideal S1x2816x1024 .f32) shapeCasts_S1x2816x1024_S2816x1024) bitsLt_bf16_f32)
    transposes_S2816x1024_S1024x2816_1_0 := by
  unfold wdt
  simp only [V, List.flatten_cons, List.flatten_nil, List.cons_append, List.nil_append]
  entry_read
  rfl

theorem down_apply (x : FVec Ideal S1x2816x1024 .f32) (j : Fin 1024) (k : Fin 2816) :
    transpose S1024x2816 [1, 0] (truncf .bf16 (shapeCast S2816x1024 x shapeCasts_S1x2816x1024_S2816x1024)
      bitsLt_bf16_f32) transposes_S2816x1024_S1024x2816_1_0 (ix2 j k) = x (ix3 0 k j) := by
  pointwise

theorem wdt_apply (j : Fin 1024) (k : Fin 2816) : wdt m c (ix2 j k) = wd m c k j := by
  rw [wdt_eq]; exact down_apply _ j k

theorem hid_apply (x : FVec Ideal S1x1024x2816 .f32) (k : Fin 2816) (j : Fin 1024) :
    truncf .bf16 (transpose S2816x1024 [1, 0] (shapeCast S1024x2816 x shapeCasts_S1x1024x2816_S1024x2816)
      transposes_S1024x2816_S2816x1024_1_0) bitsLt_bf16_f32 (ix2 k j) = x (ix3 0 j k) := by
  pointwise

/-- The gate's weight, transposed. -/
def wgt : FVec Ideal S2816x1024 .bf16 := V m c main_v35

theorem wgt_eq : wgt m c = truncf .bf16 (transpose S2816x1024 [1, 0] (shapeCast S1024x2816
    (m (c.tc.loc main_arg2) : FVec Ideal S1x1024x2816 .f32) shapeCasts_S1x1024x2816_S1024x2816)
    transposes_S1024x2816_S2816x1024_1_0) bitsLt_bf16_f32 := by
  unfold wgt
  simp only [V, List.flatten_cons, List.flatten_nil, List.cons_append, List.nil_append]
  entry_read
  rfl

theorem wgt_apply (k : Fin 2816) (j : Fin 1024) : wgt m c (ix2 k j) = wg m c j k := by
  rw [wgt_eq]; exact hid_apply _ k j

/-- The other hidden projection, transposed. -/
def wut : FVec Ideal S2816x1024 .bf16 := V m c main_v38

theorem wut_eq : wut m c = truncf .bf16 (transpose S2816x1024 [1, 0] (shapeCast S1024x2816
    (m (c.tc.loc main_arg3) : FVec Ideal S1x1024x2816 .f32) shapeCasts_S1x1024x2816_S1024x2816)
    transposes_S1024x2816_S2816x1024_1_0) bitsLt_bf16_f32 := by
  unfold wut
  simp only [V, List.flatten_cons, List.flatten_nil, List.cons_append, List.nil_append]
  entry_read
  rfl

theorem wut_apply (k : Fin 2816) (j : Fin 1024) : wut m c (ix2 k j) = wu m c j k := by
  rw [wut_eq]; exact hid_apply _ k j

/-- The mixers' projection in four groups of 256 rows, each transposed. -/
def wot : FVec Ideal S4x1024x256 .bf16 := V m c main_v21

theorem wot_eq : wot m c = truncf .bf16 (transpose S4x1024x256 [0, 2, 1] (shapeCast S4x256x1024 (shapeCast S1024x1024
    (m (c.tc.loc main_arg5) : FVec Ideal S1x1024x1024 .f32) shapeCasts_S1x1024x1024_S1024x1024)
    shapeCasts_S1024x1024_S4x256x1024) transposes_S4x256x1024_S4x1024x256_0_2_1) bitsLt_bf16_f32 := by
  unfold wot
  simp only [V, List.flatten_cons, List.flatten_nil, List.cons_append, List.nil_append]
  entry_read
  rfl

theorem groups_apply (x : FVec Ideal S1x1024x1024 .f32) (q : Fin 4) (k : Fin 1024) (i : Fin 256) :
    truncf .bf16 (transpose S4x1024x256 [0, 2, 1] (shapeCast S4x256x1024 (shapeCast S1024x1024
      x shapeCasts_S1x1024x1024_S1024x1024) shapeCasts_S1024x1024_S4x256x1024)
      transposes_S4x256x1024_S4x1024x256_0_2_1) bitsLt_bf16_f32 (ix3 q k i)
      = x (ix3 0 ⟨q.val * 256 + i.val, by omega⟩ k) := by
  pointwise

theorem wot_apply (q : Fin 4) (k : Fin 1024) (i : Fin 256) :
    wot m c (ix3 q k i) = wo m c ⟨q.val * 256 + i.val, by omega⟩ k := by
  rw [wot_eq]; exact groups_apply _ q k i

end Cert.FfnBwdIdeal.Host
end
-- ==== Proof.Swiglu.lean ====
module

public import Idealize.ShloMosaic.Lib.Pointwise
public import Idealize.ShloMosaic.Lib.IdealHost
public import proofs.«01_k».proof.Proof.RmsGrad

/-!
The derivative of `x · sigmoid x` times a cotangent: the kernel's form and the derivative's own are one value for finite
arguments.
-/

@[expose] public section

noncomputable section

open Idealize.ShloMosaic
open RmsGrad

namespace Swiglu

/-- The logistic function. -/
abbrev logi (x : EReal) : EReal := Ideal.div 1 (1 + Ideal.exp (-x))

theorem logi_real {x : EReal} (hx : IsReal x) : IsReal (logi x) := by
  obtain ⟨x, rfl⟩ := hx
  refine ⟨1 * (1 / (1 + Real.exp (-x))), ?_⟩
  have h : (1 : EReal) + Ideal.exp (-(x : EReal)) = ((1 + Real.exp (-x) : ℝ) : EReal) := by
    rw [← EReal.coe_neg, Ideal.exp_coe, EReal.coe_add, EReal.coe_one]
  have hp : (1 + Real.exp (-x)) ≠ 0 := (add_pos one_pos (Real.exp_pos _)).ne'
  unfold logi
  rw [h, Ideal.div_coe hp, EReal.coe_mul, EReal.coe_one]

/-- The gate's cotangent. -/
theorem gate {u x : EReal} (hu : IsReal u) (hx : IsReal x) :
    u * (logi x * (1 + x * (1 - logi x))) = u * logi x + x * u * (logi x * (1 - logi x)) := by
  obtain ⟨s, hs⟩ := logi_real hx
  obtain ⟨u, rfl⟩ := hu
  obtain ⟨x, rfl⟩ := hx
  rw [hs, ← EReal.coe_one]
  simp only [← EReal.coe_mul, ← EReal.coe_add, ← EReal.coe_sub]
  congr 1
  ring

end Swiglu
end
-- ==== Proof.FfnBlock.lean ====
module

public import Idealize.ShloMosaic.Lib.Pointwise
public import Idealize.ShloMosaic.Lib.Pipeline.ValueKit
public import proofs.«01_k».proof.Proof.Gen.FfnBwdIdeal.Frame
public import proofs.«01_k».proof.Proof.Swiglu

/-!
What one block of 192 rows of the feed-forward's backward call computes, entry by entry.
-/

@[expose] public section

set_option maxRecDepth 16384

noncomputable section

open Idealize.ShloMosaic Idealize.ShloMosaic.TcCoe Idealize.SL.Sem
open RmsGrad Swiglu

namespace Cert.FfnBwdIdeal.Block
open Cert.FfnBwdIdeal Cert.FfnBwdIdeal.Gen

/-- The cotangent of the activated hidden row. -/
theorem dact (d : FVec Ideal S192x1024 .f32) (w : FVec Ideal S1024x2816 .bf16) (r : Fin 192) (k : Fin 2816) :
    k0_pay8 (F := Ideal) d w (ix2 r k) = ∑ j, d (ix2 r j) * w (ix2 j k) := by
  pointwise [k0_pay8, k0_pay7]

/-- The logistic function of the gate. -/
theorem sigm (x : FVec Ideal S192x2816 .f32) (r : Fin 192) (k : Fin 2816) :
    k0_pay10 (F := Ideal) x (ix2 r k) = logi (x (ix2 r k)) := by
  pointwise [k0_pay10, k0_pay9]
  rw [zero_sub]

/-- The gate's cotangent. -/
theorem dgate (d : FVec Ideal S192x1024 .f32) (w : FVec Ideal S1024x2816 .bf16) (x u : FVec Ideal S192x2816 .f32)
    (r : Fin 192) (k : Fin 2816) :
    k0_pay11 (F := Ideal) d w x u (ix2 r k)
      = (∑ j, d (ix2 r j) * w (ix2 j k)) * u (ix2 r k)
        * (logi (x (ix2 r k)) * (1 + x (ix2 r k) * (1 - logi (x (ix2 r k))))) := by
  rw [← dact, ← sigm]
  pointwise [k0_pay11, k0_pay9]

/-- The other projection's cotangent. -/
theorem dup (d : FVec Ideal S192x1024 .f32) (w : FVec Ideal S1024x2816 .bf16) (x : FVec Ideal S192x2816 .f32)
    (r : Fin 192) (k : Fin 2816) :
    k0_pay12 (F := Ideal) d w x (ix2 r k)
      = (∑ j, d (ix2 r j) * w (ix2 j k)) * (x (ix2 r k) * logi (x (ix2 r k))) := by
  rw [← dact, ← sigm]
  pointwise [k0_pay12, k0_pay9]

/-- The cotangent of the normalised row: two products. -/
theorem dhn (a b : FVec Ideal S192x2816 .bf16) (wa wb : FVec Ideal S2816x1024 .bf16) (r : Fin 192) (j : Fin 1024) :
    k0_pay13 (F := Ideal) a b wa wb (ix2 r j)
      = ∑ k, a (ix2 r k) * wa (ix2 k j) + ∑ k, b (ix2 r k) * wb (ix2 k j) := by
  pointwise [k0_pay13]

/-- The gain's gradient: what was there plus the block's rows of cotangent times normalised row. -/
theorem dg (a b : FVec Ideal S192x2816 .bf16) (wa wb : FVec Ideal S2816x1024 .bf16) (x : FVec Ideal S192x1024 .f32)
    (acc : FVec Ideal S1x1024 .f32) (j : Fin 1024) :
    k0_pay17 (F := Ideal) a b wa wb x acc (ix2 0 j)
      = acc (ix2 0 j) + ∑ r, k0_pay13 (F := Ideal) a b wa wb (ix2 r j)
        * (x (ix2 r j) * Ideal.rsqrt (meanSq fun k => x (ix2 r k))) := by
  pointwise [k0_pay17, k0_pay16, k0_pay15, k0_pay14]

/-- The stream's gradient: the cotangent plus the norm's gradient. -/
theorem dh (d : FVec Ideal S192x1024 .f32) (a b : FVec Ideal S192x2816 .bf16) (wa wb : FVec Ideal S2816x1024 .bf16)
    (x : FVec Ideal S192x1024 .f32) (g : FVec Ideal S1x1024 .f32) (r : Fin 192) (j : Fin 1024) :
    k0_pay18 (F := Ideal) (k0_pay7 (F := Ideal) d) a b wa wb x g (ix2 r j)
      = d (ix2 r j) + Ideal.rsqrt (meanSq fun k => x (ix2 r k))
        * (k0_pay13 (F := Ideal) a b wa wb (ix2 r j) * g (ix2 0 j)
          - x (ix2 r j) * Ideal.rsqrt (meanSq fun k => x (ix2 r k))
            * Ideal.div (∑ k, k0_pay13 (F := Ideal) a b wa wb (ix2 r k) * g (ix2 0 k)
                * (x (ix2 r k) * Ideal.rsqrt (meanSq fun k => x (ix2 r k)))) (Ideal.ofBits .f32 0x44800000#32)) := by
  pointwise [k0_pay18, k0_pay7, k0_pay16, k0_pay15, k0_pay14]

/-- A group of 256 columns of the mixers' cotangent. -/
theorem dy2 (x : FVec Ideal S192x1024 .f32) (w : FVec Ideal S1x1024x256 .bf16) (r : Fin 192) (i : Fin 256) :
    k0_pay2 (F := Ideal) x w (ix2 r i) = ∑ k, x (ix2 r k) * w (ix3 0 k i) := by
  pointwise [k0_pay2, k0_pay1]
theorem dy3 (x : FVec Ideal S192x1024 .f32) (w : FVec Ideal S1x1024x256 .bf16) (r : Fin 192) (i : Fin 256) :
    k0_pay3 (F := Ideal) x w (ix2 r i) = ∑ k, x (ix2 r k) * w (ix3 0 k i) := dy2 x w r i
theorem dy4 (x : FVec Ideal S192x1024 .f32) (w : FVec Ideal S1x1024x256 .bf16) (r : Fin 192) (i : Fin 256) :
    k0_pay4 (F := Ideal) x w (ix2 r i) = ∑ k, x (ix2 r k) * w (ix3 0 k i) := dy2 x w r i
theorem dy5 (x : FVec Ideal S192x1024 .f32) (w : FVec Ideal S1x1024x256 .bf16) (r : Fin 192) (i : Fin 256) :
    k0_pay5 (F := Ideal) x w (ix2 r i) = ∑ k, x (ix2 r k) * w (ix3 0 k i) := dy2 x w r i

/-- The accumulator starts from zero. -/
theorem zero_fill (j : Fin 1024) : k0_pay6 (F := Ideal) (ix2 0 j) = (0 : EReal) := by
  pointwise [k0_pay6]

end Cert.FfnBwdIdeal.Block
end
-- ==== Proof.FfnValue.lean ====
module

public import Idealize.ShloMosaic.Lib.Pointwise
public import Idealize.ShloMosaic.Lib.Claim
public import Idealize.ShloMosaic.Lib.Pipeline.ValueKit
public import proofs.«01_k».proof.Proof.FfnHost
public import proofs.«01_k».proof.Proof.FfnBlock

/-!
What the feed-forward's backward call leaves in its five result arrays: the cotangents of the two hidden projections, the
stream's gradient and the mixers' cotangent row by row, and the gain's gradient accumulated over the 22 blocks of 192 rows.
-/

@[expose] public section

set_option maxRecDepth 16384

noncomputable section

open Idealize.ShloMosaic Idealize.ShloMosaic.TcCoe Idealize.SL.Sem
open Idealize.ShloMosaic.Pipeline (Dat)
open PaddedRows RmsGrad Swiglu

namespace Cert.FfnBwdIdeal.Value
open Cert.FfnBwdIdeal Cert.FfnBwdIdeal.Gen Cert.FfnBwdIdeal.Host Cert.FfnBwdIdeal.Block
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0]
    ∧ win0_6.index t = ![0, 0] ∧ win0_7.index t = ![0, 0, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0]
    ∧ win0_6.index t = ![0, 0] ∧ win0_7.index t = ![0, 0, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![0, 0])

/-- Row `r` of block `t`. -/
abbrev row (t : Fin cfg0.N) (r : Fin 192) : Fin 4224 :=
  ⟨192 * t.val + r.val, by have h : t.val < 22 := t.isLt; have := r.isLt; omega⟩

theorem blk0 (t : Fin cfg0.N) (r : Fin 192) (j : Fin 1024) :
    (iblk m c 0 t : FVec Ideal S192x1024 .f32) (ix2 r j) = dp m c (ix2 (row t r) j) := by
  blk_point [iblk, dp, idx t]

theorem blk1 (t : Fin cfg0.N) (r : Fin 192) (k : Fin 2816) :
    (iblk m c 1 t : FVec Ideal S192x2816 .f32) (ix2 r k) = gp m c (ix2 (row t r) k) := by
  blk_point [iblk, gp, idx t]

theorem blk2 (t : Fin cfg0.N) (r : Fin 192) (k : Fin 2816) :
    (iblk m c 2 t : FVec Ideal S192x2816 .f32) (ix2 r k) = upp m c (ix2 (row t r) k) := by
  blk_point [iblk, upp, idx t]

theorem blk3 (t : Fin cfg0.N) (r : Fin 192) (j : Fin 1024) :
    (iblk m c 3 t : FVec Ideal S192x1024 .f32) (ix2 r j) = hp m c (ix2 (row t r) j) := by
  blk_point [iblk, hp, idx t]

theorem blk4 (t : Fin cfg0.N) (j : Fin 1024) (k : Fin 2816) :
    (iblk m c 4 t : FVec Ideal S1024x2816 .bf16) (ix2 j k) = wdt m c (ix2 j k) := by
  blk_point [iblk, wdt, idx t]

theorem blk5 (t : Fin cfg0.N) (k : Fin 2816) (j : Fin 1024) :
    (iblk m c 5 t : FVec Ideal S2816x1024 .bf16) (ix2 k j) = wgt m c (ix2 k j) := by
  blk_point [iblk, wgt, idx t]

theorem blk6 (t : Fin cfg0.N) (k : Fin 2816) (j : Fin 1024) :
    (iblk m c 6 t : FVec Ideal S2816x1024 .bf16) (ix2 k j) = wut m c (ix2 k j) := by
  blk_point [iblk, wut, idx t]

theorem blk8 (t : Fin cfg0.N) (j : Fin 1024) :
    (iblk m c 8 t : FVec Ideal S1x1024 .f32) (ix2 0 j) = g m c j := by
  blk_point [iblk, g, V, idx t]

theorem blk7_0 (t : Fin cfg0.N) (k : Fin 1024) (i : Fin 256) :
    View.ld (iblk m c 7 t) (Rect.unit ![0, 0, 0] ![1, 1024, 256] inb_S4x1024x256_S1x1024x256_0_0_0) (ix3 0 k i)
      = wot m c (ix3 0 k i) := by
  blk_point [iblk, wot, idx t]

theorem blk7_1 (t : Fin cfg0.N) (k : Fin 1024) (i : Fin 256) :
    View.ld (iblk m c 7 t) (Rect.unit ![1, 0, 0] ![1, 1024, 256] inb_S4x1024x256_S1x1024x256_1_0_0) (ix3 0 k i)
      = wot m c (ix3 1 k i) := by
  blk_point [iblk, wot, idx t]

theorem blk7_2 (t : Fin cfg0.N) (k : Fin 1024) (i : Fin 256) :
    View.ld (iblk m c 7 t) (Rect.unit ![2, 0, 0] ![1, 1024, 256] inb_S4x1024x256_S1x1024x256_2_0_0) (ix3 0 k i)
      = wot m c (ix3 2 k i) := by
  blk_point [iblk, wot, idx t]

theorem blk7_3 (t : Fin cfg0.N) (k : Fin 1024) (i : Fin 256) :
    View.ld (iblk m c 7 t) (Rect.unit ![3, 0, 0] ![1, 1024, 256] inb_S4x1024x256_S1x1024x256_3_0_0) (ix3 0 k i)
      = wot m c (ix3 3 k i) := by
  blk_point [iblk, wot, idx t]

/-- The cotangent of the activated hidden row. -/
def actRow (r : Fin 4224) (k : Fin 2816) : EReal := ∑ j, padded (d m c) r j * wd m c k j
/-- The gate's cotangent. -/
def gateRow (r : Fin 4224) (k : Fin 2816) : EReal :=
  actRow m c r k * padded (up m c) r k
    * (logi (padded (gate m c) r k) * (1 + padded (gate m c) r k * (1 - logi (padded (gate m c) r k))))
/-- The other projection's cotangent. -/
def upRow (r : Fin 4224) (k : Fin 2816) : EReal :=
  actRow m c r k * (padded (gate m c) r k * logi (padded (gate m c) r k))
/-- The normalised row's cotangent. -/
def normRow (r : Fin 4224) (j : Fin 1024) : EReal :=
  ∑ k, gateRow m c r k * wg m c j k + ∑ k, upRow m c r k * wu m c j k
/-- The stream's gradient. -/
def streamRow (r : Fin 4224) (j : Fin 1024) : EReal :=
  padded (d m c) r j + Ideal.rsqrt (meanSq (padded (h m c) r)) * (normRow m c r j * g m c j
    - padded (h m c) r j * Ideal.rsqrt (meanSq (padded (h m c) r))
      * Ideal.div (∑ k, normRow m c r k * g m c k * (padded (h m c) r k * Ideal.rsqrt (meanSq (padded (h m c) r))))
        (Ideal.ofBits .f32 0x44800000#32))
/-- The mixers' cotangent. -/
def mixRow (r : Fin 4224) (i : Fin 1024) : EReal := ∑ k, streamRow m c r k * wo m c i k
/-- A row's contribution to the gain's gradient. -/
def gainRow (r : Fin 4224) (j : Fin 1024) : EReal :=
  normRow m c r j * (padded (h m c) r j * Ideal.rsqrt (meanSq (padded (h m c) r)))

/-- The block's cotangent of the gate. -/
def gateBlk (t : Fin cfg0.N) : FVec Ideal S192x2816 .bf16 :=
  k0_pay11 (F := Ideal) (iblk m c 0 t) (iblk m c 4 t) (iblk m c 1 t) (iblk m c 2 t)

theorem gateBlk_apply (t : Fin cfg0.N) (r : Fin 192) (k : Fin 2816) :
    gateBlk m c t (ix2 r k) = gateRow m c (row t r) k := by
  unfold gateBlk
  rw [dgate]
  simp only [blk0, blk1, blk2, blk4, dp_apply, gp_apply, upp_apply, wdt_apply]
  rfl

/-- The block's cotangent of the other projection. -/
def upBlk (t : Fin cfg0.N) : FVec Ideal S192x2816 .bf16 :=
  k0_pay12 (F := Ideal) (iblk m c 0 t) (iblk m c 4 t) (iblk m c 1 t)

theorem upBlk_apply (t : Fin cfg0.N) (r : Fin 192) (k : Fin 2816) :
    upBlk m c t (ix2 r k) = upRow m c (row t r) k := by
  unfold upBlk
  rw [dup]
  simp only [blk0, blk1, blk4, dp_apply, gp_apply, wdt_apply]
  rfl

theorem normBlk (t : Fin cfg0.N) (r : Fin 192) (j : Fin 1024) :
    k0_pay13 (F := Ideal) (gateBlk m c t) (upBlk m c t) (iblk m c 5 t) (iblk m c 6 t) (ix2 r j)
      = normRow m c (row t r) j := by
  rw [dhn]
  simp only [gateBlk_apply, upBlk_apply, blk5, blk6, wgt_apply, wut_apply]
  rfl

/-- The block's gradient of the stream. -/
def streamBlk (t : Fin cfg0.N) : FVec Ideal S192x1024 .f32 :=
  k0_pay18 (F := Ideal) (k0_pay7 (F := Ideal) (iblk m c 0 t)) (gateBlk m c t) (upBlk m c t) (iblk m c 5 t) (iblk m c 6 t)
    (iblk m c 3 t) (iblk m c 8 t)

theorem streamBlk_apply (t : Fin cfg0.N) (r : Fin 192) (j : Fin 1024) :
    streamBlk m c t (ix2 r j) = streamRow m c (row t r) j := by
  unfold streamBlk
  rw [dh]
  simp only [blk0, blk3, blk8, normBlk, hp_apply, dp_apply]
  rfl

theorem gainBlk (t : Fin cfg0.N) (acc : FVec Ideal S1x1024 .f32) (j : Fin 1024) :
    k0_pay17 (F := Ideal) (gateBlk m c t) (upBlk m c t) (iblk m c 5 t) (iblk m c 6 t) (iblk m c 3 t) acc (ix2 0 j)
      = acc (ix2 0 j) + ∑ r, gainRow m c (row t r) j := by
  rw [dg]
  simp only [normBlk, blk3, hp_apply]
  rfl

theorem mixBlk0 (t : Fin cfg0.N) (r : Fin 192) (j : Fin 1024) (x : S192x256.Idx) (h0 : (r : ℕ) = x 0)
    (h1 : (j : ℕ) = 0 + x 1) :
    k0_pay2 (F := Ideal) (streamBlk m c t)
      (View.ld (iblk m c 7 t) (Rect.unit ![0, 0, 0] ![1, 1024, 256] inb_S4x1024x256_S1x1024x256_0_0_0)) x
      = mixRow m c (row t r) j := by
  idx_vars x
  obtain rfl : r = x0 := Fin.ext h0
  have e : (⟨0 * 256 + x1.val, by omega⟩ : Fin 1024) = j := Fin.ext h1.symm
  rw [dy2]
  simp only [streamBlk_apply, blk7_0, wot_apply]
  rw [← e]
  rfl

theorem mixBlk1 (t : Fin cfg0.N) (r : Fin 192) (j : Fin 1024) (x : S192x256.Idx) (h0 : (r : ℕ) = x 0)
    (h1 : (j : ℕ) = 256 + x 1) :
    k0_pay3 (F := Ideal) (streamBlk m c t)
      (View.ld (iblk m c 7 t) (Rect.unit ![1, 0, 0] ![1, 1024, 256] inb_S4x1024x256_S1x1024x256_1_0_0)) x
      = mixRow m c (row t r) j := by
  idx_vars x
  obtain rfl : r = x0 := Fin.ext h0
  have e : (⟨1 * 256 + x1.val, by omega⟩ : Fin 1024) = j := Fin.ext h1.symm
  rw [dy3]
  simp only [streamBlk_apply, blk7_1, wot_apply]
  rw [← e]
  rfl

theorem mixBlk2 (t : Fin cfg0.N) (r : Fin 192) (j : Fin 1024) (x : S192x256.Idx) (h0 : (r : ℕ) = x 0)
    (h1 : (j : ℕ) = 512 + x 1) :
    k0_pay4 (F := Ideal) (streamBlk m c t)
      (View.ld (iblk m c 7 t) (Rect.unit ![2, 0, 0] ![1, 1024, 256] inb_S4x1024x256_S1x1024x256_2_0_0)) x
      = mixRow m c (row t r) j := by
  idx_vars x
  obtain rfl : r = x0 := Fin.ext h0
  have e : (⟨2 * 256 + x1.val, by omega⟩ : Fin 1024) = j := Fin.ext h1.symm
  rw [dy4]
  simp only [streamBlk_apply, blk7_2, wot_apply]
  rw [← e]
  rfl

theorem mixBlk3 (t : Fin cfg0.N) (r : Fin 192) (j : Fin 1024) (x : S192x256.Idx) (h0 : (r : ℕ) = x 0)
    (h1 : (j : ℕ) = 768 + x 1) :
    k0_pay5 (F := Ideal) (streamBlk m c t)
      (View.ld (iblk m c 7 t) (Rect.unit ![3, 0, 0] ![1, 1024, 256] inb_S4x1024x256_S1x1024x256_3_0_0)) x
      = mixRow m c (row t r) j := by
  idx_vars x
  obtain rfl : r = x0 := Fin.ext h0
  have e : (⟨3 * 256 + x1.val, by omega⟩ : Fin 1024) = j := Fin.ext h1.symm
  rw [dy5]
  simp only [streamBlk_apply, blk7_3, wot_apply]
  rw [← e]
  rfl

theorem out_gate (t : Fin cfg0.N) (r : Fin 192) (j : Fin 2816) :
    (outsAt0 m c t.val t.isLt).1 (ix2 r j) = gateRow m c (row t r) j := by
  by_cases h0 : t.val % 22 = 0
  · rw [outsAt0_A m c t h0]
    frame_out
    exact gateBlk_apply m c t r j
  · rw [outsAt0_B m c t h0]
    frame_out
    exact gateBlk_apply m c t r j

theorem out_up (t : Fin cfg0.N) (r : Fin 192) (j : Fin 2816) :
    (outsAt0 m c t.val t.isLt).2.1 (ix2 r j) = upRow m c (row t r) j := by
  by_cases h0 : t.val % 22 = 0
  · rw [outsAt0_A m c t h0]
    frame_out
    exact upBlk_apply m c t r j
  · rw [outsAt0_B m c t h0]
    frame_out
    exact upBlk_apply m c t r j

theorem out_stream (t : Fin cfg0.N) (r : Fin 192) (j : Fin 1024) :
    (outsAt0 m c t.val t.isLt).2.2.1 (ix2 r j) = streamRow m c (row t r) j := by
  by_cases h0 : t.val % 22 = 0
  · rw [outsAt0_A m c t h0]
    frame_out
    exact streamBlk_apply m c t r j
  · rw [outsAt0_B m c t h0]
    frame_out
    exact streamBlk_apply m c t r j

theorem out_mix (t : Fin cfg0.N) (r : Fin 192) (j : Fin 1024) :
    (outsAt0 m c t.val t.isLt).2.2.2.1 (ix2 r j) = mixRow m c (row t r) j := by
  by_cases hz : t.val % 22 = 0
  · rw [outsAt0_A m c t hz]
    frame_out
    clear hz
    canon_tiles x h
    · exact mixBlk3 m c t r j x h0 h1
    · exact mixBlk2 m c t r j x h0 h1
    · exact mixBlk1 m c t r j x h0 (h1.trans (by omega))
    · exact mixBlk0 m c t r j x h0 (h1.trans (by omega))
  · rw [outsAt0_B m c t hz]
    frame_out
    clear hz
    canon_tiles x h
    · exact mixBlk3 m c t r j x h0 h1
    · exact mixBlk2 m c t r j x h0 h1
    · exact mixBlk1 m c t r j x h0 (h1.trans (by omega))
    · exact mixBlk0 m c t r j x h0 (h1.trans (by omega))

/-- The gate's cotangent, in the first result array. -/
theorem final9 (r : Fin 4224) (j : Fin 2816) :
    ((dats m 0 c).arrAt 9 cfg0.N : FVec Ideal S4224x2816 .bf16) (ix2 r j) = gateRow m c r j := by
  have key : ((dats m 0 c).arrAt 9 cfg0.N : FVec Ideal S4224x2816 .bf16) = fun i => gateRow m c (i 0) (i 1) := by
    refine (dats m 0 c).arrAt_eq_of_covers 9 _ (by decide +kernel) fun t hf y => ?_
    blk_simp
    rw [after0_9]
    idx_vars y
    have e : ((View.whole main_v39_0).slice (win0_9.rect t)).emb (ix2 y0 y1) = ix2 (row t y0) y1 := by
      blk_ext [idx t]
    rw [e]
    exact out_gate m c t y0 y1
  rw [key]; rfl

/-- The other projection's cotangent, in the second. -/
theorem final10 (r : Fin 4224) (j : Fin 2816) :
    ((dats m 0 c).arrAt 10 cfg0.N : FVec Ideal S4224x2816 .bf16) (ix2 r j) = upRow m c r j := by
  have key : ((dats m 0 c).arrAt 10 cfg0.N : FVec Ideal S4224x2816 .bf16) = fun i => upRow m c (i 0) (i 1) := by
    refine (dats m 0 c).arrAt_eq_of_covers 10 _ (by decide +kernel) fun t hf y => ?_
    blk_simp
    rw [after0_10]
    idx_vars y
    have e : ((View.whole main_v39_1).slice (win0_10.rect t)).emb (ix2 y0 y1) = ix2 (row t y0) y1 := by
      blk_ext [idx t]
    rw [e]
    exact out_up m c t y0 y1
  rw [key]; rfl

/-- The stream's gradient, in the third. -/
theorem final11 (r : Fin 4224) (j : Fin 1024) :
    ((dats m 0 c).arrAt 11 cfg0.N : FVec Ideal S4224x1024 .f32) (ix2 r j) = streamRow m c r j := by
  have key : ((dats m 0 c).arrAt 11 cfg0.N : FVec Ideal S4224x1024 .f32) = fun i => streamRow m c (i 0) (i 1) := by
    refine (dats m 0 c).arrAt_eq_of_covers 11 _ (by decide +kernel) fun t hf y => ?_
    blk_simp
    rw [after0_11]
    idx_vars y
    have e : ((View.whole main_v39_2).slice (win0_11.rect t)).emb (ix2 y0 y1) = ix2 (row t y0) y1 := by
      blk_ext [idx t]
    rw [e]
    exact out_stream m c t y0 y1
  rw [key]; rfl

/-- The mixers' cotangent, in the fourth. -/
theorem final12 (r : Fin 4224) (j : Fin 1024) :
    ((dats m 0 c).arrAt 12 cfg0.N : FVec Ideal S4224x1024 .f32) (ix2 r j) = mixRow m c r j := by
  have key : ((dats m 0 c).arrAt 12 cfg0.N : FVec Ideal S4224x1024 .f32) = fun i => mixRow m c (i 0) (i 1) := by
    refine (dats m 0 c).arrAt_eq_of_covers 12 _ (by decide +kernel) fun t hf y => ?_
    blk_simp
    rw [after0_12]
    idx_vars y
    have e : ((View.whole main_v39_3).slice (win0_12.rect t)).emb (ix2 y0 y1) = ix2 (row t y0) y1 := by
      blk_ext [idx t]
    rw [e]
    exact out_mix m c t y0 y1
  rw [key]; rfl

/-- The last point of the grid. -/
def last : Fin cfg0.N := ⟨21, by decide⟩

theorem out_gain (j : Fin 1024) :
    (outsAt0 m c last.val last.isLt).2.2.2.2 (ix2 0 j) = ∑ t : Fin 22, ∑ r, gainRow m c (row t r) j := by
  rw [Pipeline.eq_sum_fin_of_reset_step_apply_last (fun n h => (outsAt0 m c n h).2.2.2.2) 22 (fun _ => (0 : EReal))
    (fun (t : Fin cfg0.N) (i : S1x1024.Idx) => ∑ r, gainRow m c (row t r) (i 1))
    (fun t h i => by
      rw [outsAt0_A m c t h]; frame_out
      idx_vars i
      obtain rfl : i0 = 0 := Subsingleton.elim _ _
      exact (gainBlk m c t _ i1).trans (congrArg (· + _) (zero_fill i1)))
    (fun t h i => by
      rw [outsAt0_B m c t h]; frame_out
      idx_vars i
      obtain rfl : i0 = 0 := Subsingleton.elim _ _
      exact gainBlk m c t _ i1) (le_of_eq N_0) last rfl (ix2 0 j), zero_add]
  rfl

/-- The rows, block by block. -/
theorem sum_blocks (j : Fin 1024) : ∑ t : Fin 22, ∑ r, gainRow m c (row t r) j = ∑ r, gainRow m c r j := by
  rw [Fin.sum_univ_tiles 22 192 (by norm_num) fun r => gainRow m c r j]
  refine Finset.sum_congr rfl fun t _ => Finset.sum_congr rfl fun r _ => ?_
  exact congrArg (gainRow m c · j) (Fin.ext (by show 192 * t.val + r.val = t.val * 192 + r.val; omega))

/-- The gain's gradient, in the fifth result array. -/
theorem final13 (j : Fin 1024) :
    ((dats m 0 c).arrAt 13 cfg0.N : FVec Ideal S1x1024 .f32) (ix2 0 j) = ∑ r, gainRow m c r j := by
  have key : ((dats m 0 c).arrAt 13 cfg0.N : FVec Ideal S1x1024 .f32) = fun i => ∑ r, gainRow m c r (i 1) := by
    refine (dats m 0 c).arrAt_eq_of_after_last 13 last (by decide +kernel) _ fun i => ?_
    blk_simp
    rw [after0_13]
    idx_vars i
    obtain rfl : i0 = 0 := Subsingleton.elim _ _
    rw [out_gain]
    exact sum_blocks m c i1
  rw [key]; rfl

end Cert.FfnBwdIdeal.Value
end
-- ==== Proof.FfnRead.lean ====
module

public import Idealize.ShloMosaic.Lib.Pointwise
public import Idealize.ShloMosaic.Lib.KernelVsHost
public import Idealize.ShloMosaic.Lib.IdealHost
public import proofs.«01_k».proof.Proof.Gen.FfnRefIdeal.Read
public import proofs.«01_k».proof.Proof.PaddedRows
public import proofs.«01_k».proof.Proof.Swiglu

/-!
What the reference of the feed-forward's backward part computes, entry by entry.
-/

@[expose] public section

set_option maxRecDepth 16384

noncomputable section

open Idealize.ShloMosaic Idealize.ShloMosaic.TcCoe Idealize.SL.Sem
open PaddedRows RmsGrad Swiglu

namespace Cert.FfnRefIdeal.Read
open Cert.FfnRefIdeal Cert.FfnRefIdeal.Gen

variable (x0 : FVec Ideal S2x2064x1024 .f32) (x1 : FVec Ideal S1x1024 .f32) (x2 x3 : FVec Ideal S1x1024x2816 .f32)
  (x4 : FVec Ideal S1x2816x1024 .f32) (x5 : FVec Ideal S1x1024x1024 .f32) (x6 : FVec Ideal S2x2064x1024 .f32)

/-- The normalised stream. -/
theorem normal (b : Fin 2) (s : Fin 2064) (j : Fin 1024) :
    val_main_v13 (F := Ideal) x0 (ix3 b s j)
      = x0 (ix3 b s j) * Ideal.rsqrt (meanSq fun k => x0 (ix3 b s k)) := by
  pointwise [val_main_v13, val_main_v12, val_main_v8, val_main_v7, val_main_v6, val_main_v5, val_main_v4,
    val_main_v3, val_main_v2, val_main_v1, val_main_cst, val_main_cst_0, val_main_cst_1]

theorem scaled (b : Fin 2) (s : Fin 2064) (j : Fin 1024) :
    val_main_v16 (F := Ideal) x0 x1 (ix3 b s j)
      = x0 (ix3 b s j) * Ideal.rsqrt (meanSq fun k => x0 (ix3 b s k)) * x1 (ix2 0 j) := by
  rw [← normal]
  pointwise [val_main_v16, val_main_v15, val_main_v14, val_main_v0]

/-- The gate before its activation. -/
theorem gate (b : Fin 2) (s : Fin 2064) (k : Fin 2816) :
    val_main_v18 (F := Ideal) x0 x1 x2 (ix3 b s k)
      = ∑ j, x0 (ix3 b s j) * Ideal.rsqrt (meanSq fun k => x0 (ix3 b s k)) * x1 (ix2 0 j) * x2 (ix3 0 j k) := by
  simp only [← scaled]
  pointwise [val_main_v18, val_main_v17]

/-- What the gate multiplies. -/
theorem up (b : Fin 2) (s : Fin 2064) (k : Fin 2816) :
    val_main_v20 (F := Ideal) x0 x1 x3 (ix3 b s k)
      = ∑ j, x0 (ix3 b s j) * Ideal.rsqrt (meanSq fun k => x0 (ix3 b s k)) * x1 (ix2 0 j) * x3 (ix3 0 j k) := by
  simp only [← scaled]
  pointwise [val_main_v20, val_main_v19]

/-- The cotangent of the activated hidden row. -/
theorem dact (b : Fin 2) (s : Fin 2064) (k : Fin 2816) :
    val_main_v27 (F := Ideal) x4 x6 (ix3 b s k) = ∑ j, x6 (ix3 b s j) * x4 (ix3 0 k j) := by
  pointwise [val_main_v27, val_main_v26, val_main_v23]

/-- The logistic function of the gate. -/
theorem sigm (i : S2x2064x2816.Idx) :
    val_main_v21_2 (F := Ideal) x0 x1 x2 i = logi (val_main_v18 (F := Ideal) x0 x1 x2 i) := by
  idx_vars i
  pointwise [val_main_v21_2, val_main_call0_v4, val_main_call0_cst_0, val_main_call0_v3, val_main_call0_v2,
    val_main_call0_cst, val_main_call0_v1, val_main_call0_v0]

/-- The other projection's cotangent. -/
theorem dup (b : Fin 2) (s : Fin 2064) (k : Fin 2816) :
    val_main_v28 (F := Ideal) x0 x1 x2 x4 x6 (ix3 b s k)
      = val_main_v18 (F := Ideal) x0 x1 x2 (ix3 b s k) * logi (val_main_v18 (F := Ideal) x0 x1 x2 (ix3 b s k))
        * val_main_v27 (F := Ideal) x4 x6 (ix3 b s k) := by
  rw [← sigm]
  pointwise [val_main_v28, val_main_v21_0]

/-- The gate's cotangent. -/
theorem dgate (b : Fin 2) (s : Fin 2064) (k : Fin 2816) :
    val_main_v30 (F := Ideal) x0 x1 x2 x3 x4 x6 (ix3 b s k)
      = val_main_v27 (F := Ideal) x4 x6 (ix3 b s k) * val_main_v20 (F := Ideal) x0 x1 x3 (ix3 b s k)
          * logi (val_main_v18 (F := Ideal) x0 x1 x2 (ix3 b s k))
        + val_main_v18 (F := Ideal) x0 x1 x2 (ix3 b s k)
          * (val_main_v27 (F := Ideal) x4 x6 (ix3 b s k) * val_main_v20 (F := Ideal) x0 x1 x3 (ix3 b s k))
          * (logi (val_main_v18 (F := Ideal) x0 x1 x2 (ix3 b s k))
            * (1 - logi (val_main_v18 (F := Ideal) x0 x1 x2 (ix3 b s k)))) := by
  rw [← sigm]
  pointwise [val_main_v30, val_main_call1_v1, val_main_call1_v2, val_main_call1_v0, val_main_v29, val_main_v21_1,
    val_main_call0_v7, val_main_call0_v6, val_main_call0_cst_1]

/-- The cotangent of the normalised rows. -/
theorem dhn (b : Fin 2) (s : Fin 2064) (j : Fin 1024) :
    val_main_v33 (F := Ideal) x0 x1 x2 x3 x4 x6 (ix3 b s j)
      = ∑ k, val_main_v28 (F := Ideal) x0 x1 x2 x4 x6 (ix3 b s k) * x3 (ix3 0 j k)
        + ∑ k, val_main_v30 (F := Ideal) x0 x1 x2 x3 x4 x6 (ix3 b s k) * x2 (ix3 0 j k) := by
  pointwise [val_main_v33, val_main_v31, val_main_v32, val_main_v17, val_main_v19]

/-- The cotangent of the row itself, the gain multiplied in. -/
theorem dn (b : Fin 2) (s : Fin 2064) (j : Fin 1024) :
    val_main_v38 (F := Ideal) x0 x1 x2 x3 x4 x6 (ix3 b s j)
      = val_main_v33 (F := Ideal) x0 x1 x2 x3 x4 x6 (ix3 b s j) * x1 (ix2 0 j) := by
  pointwise [val_main_v38, val_main_v37, val_main_v14, val_main_v0]

/-- The factor both contributions of the mean square carry. -/
abbrev pull (b : Fin 2) (s : Fin 2064) : EReal :=
  Ideal.div ((∑ k, x0 (ix3 b s k) * val_main_v38 (F := Ideal) x0 x1 x2 x3 x4 x6 (ix3 b s k))
    * (Ideal.ofBits .f32 0xBF000000#32 * Ideal.div (Ideal.rsqrt (meanSq fun k => x0 (ix3 b s k)))
      (meanSq fun k => x0 (ix3 b s k)))) (Ideal.ofBits .f32 0x44800000#32)

/-- The stream's gradient. -/
theorem stream (b : Fin 2) (s : Fin 2064) (j : Fin 1024) :
    val_main_v54 (F := Ideal) x0 x1 x2 x3 x4 x6 (ix3 b s j)
      = x6 (ix3 b s j) + val_main_v38 (F := Ideal) x0 x1 x2 x3 x4 x6 (ix3 b s j)
          * Ideal.rsqrt (meanSq fun k => x0 (ix3 b s k))
        + x0 (ix3 b s j) * pull x0 x1 x2 x3 x4 x6 b s + pull x0 x1 x2 x3 x4 x6 b s * x0 (ix3 b s j) := by
  pointwise [val_main_v54, val_main_v53, val_main_v52, val_main_v51, val_main_v50, val_main_v49, val_main_v48,
    val_main_v47, val_main_v46, val_main_v45, val_main_v44, val_main_v43, val_main_v42, val_main_v41, val_main_v40,
    val_main_v11, val_main_v10, val_main_v9, val_main_v8, val_main_v7, val_main_v6, val_main_v5, val_main_v4,
    val_main_v3, val_main_v2, val_main_v1, val_main_cst, val_main_cst_0, val_main_cst_1, val_main_cst_2, val_main_cst_5,
    val_main_cst_6, val_main_cst_7]
  simp only [Finset.univ_unique, Finset.sum_singleton]

/-- The mixers' cotangent. -/
theorem mixers (b : Fin 2) (s : Fin 2064) (j : Fin 1024) :
    val_main_v59 (F := Ideal) x0 x1 x2 x3 x4 x5 x6 (ix3 b s j)
      = ∑ k, val_main_v54 (F := Ideal) x0 x1 x2 x3 x4 x6 (ix3 b s k) * x5 (ix3 0 j k) := by
  pointwise [val_main_v59, val_main_v57]

/-! ## On the padded rows -/

theorem padded_gate (r : Fin 4224) (k : Fin 2816) :
    val_main_v62 (F := Ideal) x0 x1 x2 x3 x4 x6 (ix2 r k)
      = padded (fun b s k => val_main_v30 (F := Ideal) x0 x1 x2 x3 x4 x6 (ix3 b s k)) r k := by
  pointwise [val_main_v62, val_main_v61, val_main_v60, val_main_call2_v0, val_main_c]
  exact dite_padded (fun b s k => val_main_v30 (F := Ideal) x0 x1 x2 x3 x4 x6 (ix3 b s k)) _ (sitofp_zero (φ := .f32)) r k

theorem padded_up (r : Fin 4224) (k : Fin 2816) :
    val_main_v65 (F := Ideal) x0 x1 x2 x4 x6 (ix2 r k)
      = padded (fun b s k => val_main_v28 (F := Ideal) x0 x1 x2 x4 x6 (ix3 b s k)) r k := by
  pointwise [val_main_v65, val_main_v64, val_main_v63, val_main_call3_v0, val_main_c_9]
  exact dite_padded (fun b s k => val_main_v28 (F := Ideal) x0 x1 x2 x4 x6 (ix3 b s k)) _ (sitofp_zero (φ := .f32)) r k

theorem padded_stream (r : Fin 4224) (j : Fin 1024) :
    val_main_v67 (F := Ideal) x0 x1 x2 x3 x4 x6 (ix2 r j)
      = padded (fun b s j => val_main_v54 (F := Ideal) x0 x1 x2 x3 x4 x6 (ix3 b s j)) r j := by
  pointwise [val_main_v67, val_main_v66, val_main_call4_v0, val_main_c_10]
  exact dite_padded (fun b s k => val_main_v54 (F := Ideal) x0 x1 x2 x3 x4 x6 (ix3 b s k)) _ (sitofp_zero (φ := .f32)) r j

theorem padded_mixers (r : Fin 4224) (j : Fin 1024) :
    val_main_v69 (F := Ideal) x0 x1 x2 x3 x4 x5 x6 (ix2 r j)
      = padded (fun b s j => val_main_v59 (F := Ideal) x0 x1 x2 x3 x4 x5 x6 (ix3 b s j)) r j := by
  pointwise [val_main_v69, val_main_v68, val_main_call5_v0, val_main_c_11]
  exact dite_padded (fun b s k => val_main_v59 (F := Ideal) x0 x1 x2 x3 x4 x5 x6 (ix3 b s k)) _ (sitofp_zero (φ := .f32)) r j

/-! ## The gain -/

/-- A row's contribution to the gain's gradient. -/
theorem gain_row (b : Fin 2) (s : Fin 2064) (j : Fin 1024) :
    val_main_v34 (F := Ideal) x0 x1 x2 x3 x4 x6 (ix3 b s j)
      = x0 (ix3 b s j) * Ideal.rsqrt (meanSq fun k => x0 (ix3 b s k))
        * val_main_v33 (F := Ideal) x0 x1 x2 x3 x4 x6 (ix3 b s j) := by
  rw [← normal]
  pointwise [val_main_v34]

theorem gain_inner (j : Fin 1024) :
    val_main_v35 (F := Ideal) x0 x1 x2 x3 x4 x6 (ix1 j)
      = ∑ b, ∑ s, val_main_v34 (F := Ideal) x0 x1 x2 x3 x4 x6 (ix3 b s j) := by
  unfold val_main_v35
  rw [Idealize.ShloMosaic.ValueIdx.hostReduceAdd_apply]
  refine (hostReduceAdd_outer (a := 2) (b := 2064) (n := 1024) _ _ _ j).trans ?_
  rw [show val_main_cst_3 (F := Ideal) (Shape.Idx.first h_S_) = (0 : EReal) from Ideal.ofBits_zero_f32, zero_add]

/-- The gain's gradient. -/
theorem gain (j : Fin 1024) :
    val_main_v55 (F := Ideal) x0 x1 x2 x3 x4 x6 (ix2 0 j)
      = ∑ b, ∑ s, val_main_v34 (F := Ideal) x0 x1 x2 x3 x4 x6 (ix3 b s j) := by
  have h39 : val_main_v39 (F := Ideal) x0 x1 x2 x3 x4 x6 (ix1 j) = val_main_v36 (F := Ideal) x0 x1 x2 x3 x4 x6 (ix3 0 0 j) := by
    unfold val_main_v39
    rw [Idealize.ShloMosaic.ValueIdx.hostReduceAdd_apply]
    refine (hostReduceAdd_outer (a := 1) (b := 1) (n := 1024) _ _ _ j).trans ?_
    rw [show val_main_cst_4 (F := Ideal) (Shape.Idx.first h_S_) = (0 : EReal) from Ideal.ofBits_zero_f32, zero_add]
    simp only [Finset.univ_unique, Finset.sum_singleton]
    rfl
  have h36 : val_main_v36 (F := Ideal) x0 x1 x2 x3 x4 x6 (ix3 0 0 j) = val_main_v35 (F := Ideal) x0 x1 x2 x3 x4 x6 (ix1 j) := by
    pointwise [val_main_v36]
  rw [← gain_inner, ← h36, ← h39]
  pointwise [val_main_v55]

end Cert.FfnRefIdeal.Read
end
-- ==== Proof.FfnEq.lean ====
module

public import Idealize.ShloMosaic.Lib.Pointwise
public import Idealize.ShloMosaic.Lib.KernelVsHost
public import proofs.«01_k».proof.Defs
public import proofs.«01_k».proof.Proof.Gen.Pre_ffn_finite
public import proofs.«01_k».proof.Proof.FfnValue
public import proofs.«01_k».proof.Proof.FfnRead

/-!
The feed-forward's backward call and its reference leave the same arrays when the stream, the gain, the feed-forward's
weights and the cotangent are finite.
-/

@[expose] public section

set_option maxRecDepth 16384

noncomputable section

open Idealize.ShloMosaic Idealize.ShloMosaic.TcCoe Idealize.SL.Sem
open PaddedRows RmsGrad Swiglu

namespace Cert.Pre_ffn_finite

variable (x0 : FVec Ideal S2x2064x1024 .f32) (x1 : FVec Ideal S1x1024 .f32) (x2 x3 : FVec Ideal S1x1024x2816 .f32)
  (x4 : FVec Ideal S1x2816x1024 .f32) (x5 : FVec Ideal S1x1024x1024 .f32) (x6 : FVec Ideal S2x2064x1024 .f32)

theorem real0 (h : (fn (F := Ideal) x0 x1 x2 x3 x4 x5 x6).1 = fun _ => 1#1) (i) : IsReal (x0 i) :=
  isReal_of_cmp (congrFun h i)
theorem real1 (h : (fn (F := Ideal) x0 x1 x2 x3 x4 x5 x6).2.1 = fun _ => 1#1) (i) : IsReal (x1 i) :=
  isReal_of_cmp (congrFun h i)
theorem real2 (h : (fn (F := Ideal) x0 x1 x2 x3 x4 x5 x6).2.2.1 = fun _ => 1#1) (i) : IsReal (x2 i) :=
  isReal_of_cmp (congrFun h i)
theorem real3 (h : (fn (F := Ideal) x0 x1 x2 x3 x4 x5 x6).2.2.2.1 = fun _ => 1#1) (i) : IsReal (x3 i) :=
  isReal_of_cmp (congrFun h i)
theorem real4 (h : (fn (F := Ideal) x0 x1 x2 x3 x4 x5 x6).2.2.2.2.1 = fun _ => 1#1) (i) : IsReal (x4 i) :=
  isReal_of_cmp (congrFun h i)
theorem real6 (h : (fn (F := Ideal) x0 x1 x2 x3 x4 x5 x6).2.2.2.2.2 = fun _ => 1#1) (i) : IsReal (x6 i) :=
  isReal_of_cmp (congrFun h i)

end Cert.Pre_ffn_finite

namespace Cert.FfnBwdIdeal.Value
open Cert.FfnBwdIdeal Cert.FfnBwdIdeal.Gen Cert.FfnBwdIdeal.Host
variable (m : (ℓ : Loc nD τ sig) → Buf (Elt Ideal) ℓ) (c : Dev nD)

/-! ## The reference's arrays of the same arguments, at an example, a row and a column -/

/-- The cotangent of the activated hidden row. -/
def act (b : Fin 2) (s : Fin 2064) (k : Fin 2816) : EReal := ∑ j, d m c b s j * wd m c k j
/-- The gate's cotangent. -/
def dGate (b : Fin 2) (s : Fin 2064) (k : Fin 2816) : EReal :=
  Cert.FfnRefIdeal.Read.val_main_v30 (F := Ideal) (m (c.tc.loc main_arg0)) (m (c.tc.loc main_arg1)) (m (c.tc.loc main_arg2))
    (m (c.tc.loc main_arg3)) (m (c.tc.loc main_arg4)) (m (c.tc.loc main_arg6)) (ix3 b s k)
/-- The other projection's cotangent. -/
def dUp (b : Fin 2) (s : Fin 2064) (k : Fin 2816) : EReal :=
  Cert.FfnRefIdeal.Read.val_main_v28 (F := Ideal) (m (c.tc.loc main_arg0)) (m (c.tc.loc main_arg1)) (m (c.tc.loc main_arg2))
    (m (c.tc.loc main_arg4)) (m (c.tc.loc main_arg6)) (ix3 b s k)
/-- The normalised row's cotangent. -/
def dNorm (b : Fin 2) (s : Fin 2064) (j : Fin 1024) : EReal :=
  Cert.FfnRefIdeal.Read.val_main_v33 (F := Ideal) (m (c.tc.loc main_arg0)) (m (c.tc.loc main_arg1)) (m (c.tc.loc main_arg2))
    (m (c.tc.loc main_arg3)) (m (c.tc.loc main_arg4)) (m (c.tc.loc main_arg6)) (ix3 b s j)
/-- The stream's gradient. -/
def dStream (b : Fin 2) (s : Fin 2064) (j : Fin 1024) : EReal :=
  Cert.FfnRefIdeal.Read.val_main_v54 (F := Ideal) (m (c.tc.loc main_arg0)) (m (c.tc.loc main_arg1)) (m (c.tc.loc main_arg2))
    (m (c.tc.loc main_arg3)) (m (c.tc.loc main_arg4)) (m (c.tc.loc main_arg6)) (ix3 b s j)

theorem dUp_eq (b : Fin 2) (s : Fin 2064) (k : Fin 2816) :
    dUp m c b s k = gate m c b s k * logi (gate m c b s k) * act m c b s k := by
  unfold dUp
  rw [Cert.FfnRefIdeal.Read.dup, Cert.FfnRefIdeal.Read.gate, Cert.FfnRefIdeal.Read.dact]
  rfl

theorem dGate_eq (b : Fin 2) (s : Fin 2064) (k : Fin 2816) :
    dGate m c b s k = act m c b s k * up m c b s k * logi (gate m c b s k)
      + gate m c b s k * (act m c b s k * up m c b s k) * (logi (gate m c b s k) * (1 - logi (gate m c b s k))) := by
  unfold dGate
  rw [Cert.FfnRefIdeal.Read.dgate, Cert.FfnRefIdeal.Read.gate, Cert.FfnRefIdeal.Read.up, Cert.FfnRefIdeal.Read.dact]
  rfl

theorem dNorm_eq (b : Fin 2) (s : Fin 2064) (j : Fin 1024) :
    dNorm m c b s j = ∑ k, dUp m c b s k * wu m c j k + ∑ k, dGate m c b s k * wg m c j k := by
  unfold dNorm
  rw [Cert.FfnRefIdeal.Read.dhn]
  rfl

/-- The factor of the mean square's derivative. -/
def pull (b : Fin 2) (s : Fin 2064) : EReal :=
  Ideal.div ((∑ k, h m c b s k * (dNorm m c b s k * g m c k)) * (Ideal.ofBits .f32 0xBF000000#32
    * Ideal.div (Ideal.rsqrt (meanSq (h m c b s))) (meanSq (h m c b s)))) (Ideal.ofBits .f32 0x44800000#32)

theorem dStream_eq (b : Fin 2) (s : Fin 2064) (j : Fin 1024) :
    dStream m c b s j = d m c b s j + dNorm m c b s j * g m c j * Ideal.rsqrt (meanSq (h m c b s))
      + h m c b s j * pull m c b s + pull m c b s * h m c b s j := by
  unfold dStream
  rw [Cert.FfnRefIdeal.Read.stream]
  unfold Cert.FfnRefIdeal.Read.pull
  simp only [Cert.FfnRefIdeal.Read.dn]
  rfl

variable (hp : Pre_FfnBwdIdeal_ffn_finite m)
include hp

theorem h_real (b : Fin 2) (s : Fin 2064) (j : Fin 1024) : IsReal (h m c b s j) := Cert.Pre_ffn_finite.real0 _ _ _ _ _ _ _ (hp c).1 _
theorem gain_real (j : Fin 1024) : IsReal (g m c j) := Cert.Pre_ffn_finite.real1 _ _ _ _ _ _ _ (hp c).2.1 _
theorem wg_real (j : Fin 1024) (k : Fin 2816) : IsReal (wg m c j k) := Cert.Pre_ffn_finite.real2 _ _ _ _ _ _ _ (hp c).2.2.1 _
theorem wu_real (j : Fin 1024) (k : Fin 2816) : IsReal (wu m c j k) := Cert.Pre_ffn_finite.real3 _ _ _ _ _ _ _ (hp c).2.2.2.1 _
theorem wd_real (k : Fin 2816) (j : Fin 1024) : IsReal (wd m c k j) := Cert.Pre_ffn_finite.real4 _ _ _ _ _ _ _ (hp c).2.2.2.2.1 _
theorem d_real (b : Fin 2) (s : Fin 2064) (j : Fin 1024) : IsReal (d m c b s j) := Cert.Pre_ffn_finite.real6 _ _ _ _ _ _ _ (hp c).2.2.2.2.2 _

theorem gate_real (b : Fin 2) (s : Fin 2064) (k : Fin 2816) : IsReal (gate m c b s k) := by
  unfold Host.gate hid
  exact IsReal.sum _ fun j => (((h_real m c hp b s j).mul (rsqrt_real (h_real m c hp b s))).mul (gain_real m c hp j)).mul
    (wg_real m c hp j k)

theorem up_real (b : Fin 2) (s : Fin 2064) (k : Fin 2816) : IsReal (up m c b s k) := by
  unfold Host.up hid
  exact IsReal.sum _ fun j => (((h_real m c hp b s j).mul (rsqrt_real (h_real m c hp b s))).mul (gain_real m c hp j)).mul
    (wu_real m c hp j k)

theorem act_real (b : Fin 2) (s : Fin 2064) (k : Fin 2816) : IsReal (act m c b s k) :=
  IsReal.sum _ fun j => (d_real m c hp b s j).mul (wd_real m c hp k j)

theorem dUp_real (b : Fin 2) (s : Fin 2064) (k : Fin 2816) : IsReal (dUp m c b s k) := by
  rw [dUp_eq]
  exact ((gate_real m c hp b s k).mul (logi_real (gate_real m c hp b s k))).mul (act_real m c hp b s k)

/-- The gate's cotangent as the kernel writes it. -/
theorem dGate_kernel (b : Fin 2) (s : Fin 2064) (k : Fin 2816) :
    act m c b s k * up m c b s k * (logi (gate m c b s k) * (1 + gate m c b s k * (1 - logi (gate m c b s k))))
      = dGate m c b s k := by
  rw [dGate_eq]
  exact Swiglu.gate ((act_real m c hp b s k).mul (up_real m c hp b s k)) (gate_real m c hp b s k)

theorem dGate_real (b : Fin 2) (s : Fin 2064) (k : Fin 2816) : IsReal (dGate m c b s k) := by
  have hx := gate_real m c hp b s k
  have hl := logi_real hx
  have hu := (act_real m c hp b s k).mul (up_real m c hp b s k)
  rw [dGate_eq]
  exact (hu.mul hl).add ((hx.mul hu).mul (hl.mul (isReal_one.sub hl)))

theorem dNorm_real (b : Fin 2) (s : Fin 2064) (j : Fin 1024) : IsReal (dNorm m c b s j) := by
  rw [dNorm_eq]
  exact (IsReal.sum _ fun k => (dUp_real m c hp b s k).mul (wu_real m c hp j k)).add
    (IsReal.sum _ fun k => (dGate_real m c hp b s k).mul (wg_real m c hp j k))

/-- The stream's gradient as the kernel writes it. -/
theorem dStream_kernel (b : Fin 2) (s : Fin 2064) (j : Fin 1024) :
    d m c b s j + Ideal.rsqrt (meanSq (h m c b s)) * (dNorm m c b s j * g m c j
      - h m c b s j * Ideal.rsqrt (meanSq (h m c b s))
        * Ideal.div (∑ k, dNorm m c b s k * g m c k * (h m c b s k * Ideal.rsqrt (meanSq (h m c b s))))
          (Ideal.ofBits .f32 0x44800000#32)) = dStream m c b s j :=
  (RmsGrad.row (d m c b s j) (h m c b s) (fun k => dNorm m c b s k * g m c k) (h_real m c hp b s)
    (fun k => (dNorm_real m c hp b s k).mul (gain_real m c hp k)) j).trans (dStream_eq m c b s j).symm

/-! ## The kernel's rows are the reference's, padded -/

theorem actRow_eq (r : Fin 4224) (k : Fin 2816) : actRow m c r k = padded (act m c) r k := by
  by_cases hr : r.val % 2112 < 48
  · unfold actRow
    simp only [padded_of_lt _ _ _ hr, zero_mul, Finset.sum_const_zero]
  · have hr' : 48 ≤ r.val % 2112 := not_lt.mp hr
    rw [padded_of_le _ _ _ hr']
    unfold actRow act
    rw [show padded (d m c) r = d m c _ _ from funext fun k => padded_of_le _ _ _ hr']

theorem gateRow_eq (r : Fin 4224) (k : Fin 2816) : gateRow m c r k = padded (dGate m c) r k := by
  unfold gateRow
  rw [actRow_eq m c hp]
  by_cases hr : r.val % 2112 < 48
  · simp only [padded_of_lt _ _ _ hr, zero_mul]
  · have hr' : 48 ≤ r.val % 2112 := not_lt.mp hr
    rw [padded_of_le _ _ _ hr', padded_of_le _ _ _ hr', padded_of_le _ _ _ hr', padded_of_le _ _ _ hr', dGate_kernel m c hp]

theorem upRow_eq (r : Fin 4224) (k : Fin 2816) : upRow m c r k = padded (dUp m c) r k := by
  unfold upRow
  rw [actRow_eq m c hp]
  by_cases hr : r.val % 2112 < 48
  · simp only [padded_of_lt _ _ _ hr, zero_mul]
  · have hr' : 48 ≤ r.val % 2112 := not_lt.mp hr
    rw [padded_of_le _ _ _ hr', padded_of_le _ _ _ hr', padded_of_le _ _ _ hr', dUp_eq, mul_comm]

theorem normRow_eq (r : Fin 4224) (j : Fin 1024) : normRow m c r j = padded (dNorm m c) r j := by
  unfold normRow
  simp only [gateRow_eq m c hp, upRow_eq m c hp]
  by_cases hr : r.val % 2112 < 48
  · simp only [padded_of_lt _ _ _ hr, zero_mul, Finset.sum_const_zero, add_zero]
  · have hr' : 48 ≤ r.val % 2112 := not_lt.mp hr
    rw [padded_of_le _ _ _ hr', dNorm_eq, add_comm,
      show padded (dGate m c) r = dGate m c _ _ from funext fun k => padded_of_le _ _ _ hr',
      show padded (dUp m c) r = dUp m c _ _ from funext fun k => padded_of_le _ _ _ hr']

theorem streamRow_eq (r : Fin 4224) (j : Fin 1024) : streamRow m c r j = padded (dStream m c) r j := by
  unfold streamRow
  simp only [normRow_eq m c hp]
  by_cases hr : r.val % 2112 < 48
  · simp only [padded_of_lt _ _ _ hr, zero_mul, mul_zero, sub_zero, add_zero]
  · have hr' : 48 ≤ r.val % 2112 := not_lt.mp hr
    rw [show padded (h m c) r = h m c _ _ from funext fun k => padded_of_le _ _ _ hr',
      show padded (dNorm m c) r = dNorm m c _ _ from funext fun k => padded_of_le _ _ _ hr',
      padded_of_le _ _ _ hr', padded_of_le _ _ _ hr', dStream_kernel m c hp]

theorem mixRow_eq (r : Fin 4224) (i : Fin 1024) :
    mixRow m c r i = padded (fun b s i => ∑ k, dStream m c b s k * wo m c i k) r i := by
  unfold mixRow
  simp only [streamRow_eq m c hp]
  exact padded_map (dStream m c) (fun x i => ∑ k, x k * wo m c i k)
    (fun j => by simp only [zero_mul, Finset.sum_const_zero]) r i

theorem gainRow_lt (r : Fin 4224) (j : Fin 1024) (hr : r.val % 2112 < 48) : gainRow m c r j = 0 := by
  unfold gainRow
  rw [normRow_eq m c hp, padded_of_lt _ _ _ hr, zero_mul]

theorem gainRow_le (r : Fin 4224) (j : Fin 1024) (hr : 48 ≤ r.val % 2112) :
    gainRow m c r j = h m c ⟨r.val / 2112, by omega⟩ ⟨r.val % 2112 - 48, by omega⟩ j
      * Ideal.rsqrt (meanSq (h m c ⟨r.val / 2112, by omega⟩ ⟨r.val % 2112 - 48, by omega⟩))
      * dNorm m c ⟨r.val / 2112, by omega⟩ ⟨r.val % 2112 - 48, by omega⟩ j := by
  unfold gainRow
  rw [normRow_eq m c hp, mul_comm, show padded (h m c) r = h m c _ _ from funext fun k => padded_of_le _ _ _ hr,
    padded_of_le _ _ _ hr]

/-! ## The result arrays -/

/-- The gate's cotangent as the reference computes it. -/
theorem gate_eq :
    (dats m 0 c).arrAt 9 cfg0.N = Cert.FfnRefIdeal.Read.val_main_v62 (F := Ideal)
      (m (c.tc.loc main_arg0)) (m (c.tc.loc main_arg1)) (m (c.tc.loc main_arg2))
      (m (c.tc.loc main_arg3)) (m (c.tc.loc main_arg4)) (m (c.tc.loc main_arg6)) := by
  funext i
  idx_vars i
  refine (final9 m c i0 i1).trans ?_
  rw [gateRow_eq m c hp, Cert.FfnRefIdeal.Read.padded_gate]
  rfl

/-- The other projection's cotangent as the reference computes it. -/
theorem up_eq :
    (dats m 0 c).arrAt 10 cfg0.N = Cert.FfnRefIdeal.Read.val_main_v65 (F := Ideal)
      (m (c.tc.loc main_arg0)) (m (c.tc.loc main_arg1)) (m (c.tc.loc main_arg2))
      (m (c.tc.loc main_arg4)) (m (c.tc.loc main_arg6)) := by
  funext i
  idx_vars i
  refine (final10 m c i0 i1).trans ?_
  rw [upRow_eq m c hp, Cert.FfnRefIdeal.Read.padded_up]
  rfl

/-- The stream's gradient as the reference computes it. -/
theorem stream_eq :
    (dats m 0 c).arrAt 11 cfg0.N = Cert.FfnRefIdeal.Read.val_main_v67 (F := Ideal)
      (m (c.tc.loc main_arg0)) (m (c.tc.loc main_arg1)) (m (c.tc.loc main_arg2))
      (m (c.tc.loc main_arg3)) (m (c.tc.loc main_arg4)) (m (c.tc.loc main_arg6)) := by
  funext i
  idx_vars i
  refine (final11 m c i0 i1).trans ?_
  rw [streamRow_eq m c hp, Cert.FfnRefIdeal.Read.padded_stream]
  rfl

/-- The mixers' cotangent as the reference computes it. -/
theorem mix_eq :
    (dats m 0 c).arrAt 12 cfg0.N = Cert.FfnRefIdeal.Read.val_main_v69 (F := Ideal)
      (m (c.tc.loc main_arg0)) (m (c.tc.loc main_arg1)) (m (c.tc.loc main_arg2))
      (m (c.tc.loc main_arg3)) (m (c.tc.loc main_arg4)) (m (c.tc.loc main_arg5)) (m (c.tc.loc main_arg6)) := by
  funext i
  idx_vars i
  refine (final12 m c i0 i1).trans ?_
  rw [mixRow_eq m c hp, Cert.FfnRefIdeal.Read.padded_mixers]
  simp only [Cert.FfnRefIdeal.Read.mixers]
  rfl

/-- The gain's gradient as the reference computes it. -/
theorem gain_eq :
    (dats m 0 c).arrAt 13 cfg0.N = Cert.FfnRefIdeal.Read.val_main_v55 (F := Ideal)
      (m (c.tc.loc main_arg0)) (m (c.tc.loc main_arg1)) (m (c.tc.loc main_arg2))
      (m (c.tc.loc main_arg3)) (m (c.tc.loc main_arg4)) (m (c.tc.loc main_arg6)) := by
  funext i
  idx_vars i
  obtain rfl : i0 = 0 := Subsingleton.elim _ _
  refine (final13 m c i1).trans ?_
  rw [Cert.FfnRefIdeal.Read.gain]
  refine sum_rows _ _ (fun r hr => gainRow_lt m c hp r i1 hr) fun r hr => ?_
  rw [Cert.FfnRefIdeal.Read.gain_row, gainRow_le m c hp r i1 hr]
  rfl

end Cert.FfnBwdIdeal.Value
end
-- ==== Proof.DownLossHost.lean ====
module

public import Idealize.ShloMosaic.Lib.Pointwise
public import Idealize.ShloMosaic.Lib.Claim
public import Idealize.ShloMosaic.Lib.KernelVsHost
public import Idealize.ShloMosaic.Lib.Pipeline.ValueKit
public import proofs.«01_k».proof.Proof.Gen.DownLossIdeal.Frame
public import proofs.«01_k».proof.Proof.PaddedRows
public import proofs.«01_k».proof.Proof.RmsGrad

/-!
What the host hands to the call of the feed-forward's end and the loss: the hidden rows, the stream and the targets padded to
4224 rows, and the mask that is zero on the rows that have no target.
-/

@[expose] public section

set_option maxRecDepth 16384

noncomputable section

open Idealize.ShloMosaic Idealize.ShloMosaic.TcCoe Idealize.SL.Sem
open PaddedRows RmsGrad

namespace Cert.DownLossIdeal.Host
open Cert.DownLossIdeal Cert.DownLossIdeal.Gen
variable (m : (ℓ : Loc nD τ sig) → Buf (Elt Ideal) ℓ) (c : Dev nD)

/-- The activated hidden row, at an example, a row and a column. -/
def a (b : Fin 2) (s : Fin 2064) (k : Fin 2816) : EReal := m (c.tc.loc main_arg0) (ix3 b s k)
/-- The projection back. -/
def w (k : Fin 2816) (j : Fin 1024) : EReal := m (c.tc.loc main_arg1) (ix3 0 k j)
/-- The stream before the feed-forward's contribution. -/
def h (b : Fin 2) (s : Fin 2064) (j : Fin 1024) : EReal := m (c.tc.loc main_arg2) (ix3 b s j)
/-- The gain. -/
def g (j : Fin 1024) : EReal := m (c.tc.loc main_arg3) (ix1 j)
/-- The target. -/
def y (b : Fin 2) (s : Fin 2048) (j : Fin 1024) : EReal := m (c.tc.loc main_arg4) (ix3 b s j)

/-- Row `r` of the 4224, where each example's rows with a target begin at its row 64: what comes before is zero. -/
def late (x : Fin 2 → Fin 2048 → Fin 1024 → EReal) (r : Fin 4224) (j : Fin 1024) : EReal :=
  if h : 64 ≤ r.val % 2112 then x ⟨r.val / 2112, by omega⟩ ⟨r.val % 2112 - 64, by omega⟩ j else 0

/-- What the padding holds, an integer zero converted. -/
abbrev zero : FVec Ideal S_ .f32 := sitofp .f32 (constantI S_ 32 0#32)

/-- The hidden rows, padded. -/
def ap : FVec Ideal S4224x2816 .bf16 := V m c main_v8

theorem ap_eq : ap m c = truncf .bf16 (shapeCast S4224x2816 (pad S2x2112x2816 ![0, 48, 0] ![0, 0, 0] ![0, 0, 0]
    (m (c.tc.loc main_arg0) : FVec Ideal S2x2064x2816 .f32) zero pads_S2x2064x2816_S2x2112x2816_000_4800_000 h_S_)
    shapeCasts_S2x2112x2816_S4224x2816) bitsLt_bf16_f32 := by
  unfold ap
  simp only [V, List.flatten_cons, List.flatten_nil, List.cons_append, List.nil_append]
  entry_read
  rfl

theorem rows2816_apply (x : FVec Ideal S2x2064x2816 .f32) (r : Fin 4224) (j : Fin 2816) :
    truncf .bf16 (shapeCast S4224x2816 (pad S2x2112x2816 ![0, 48, 0] ![0, 0, 0] ![0, 0, 0] x zero
      pads_S2x2064x2816_S2x2112x2816_000_4800_000 h_S_) shapeCasts_S2x2112x2816_S4224x2816) bitsLt_bf16_f32 (ix2 r j)
      = padded (fun b s k => x (ix3 b s k)) r j := by
  pointwise
  exact dite_padded (fun b s k => x (ix3 b s k)) _ (sitofp_zero (φ := .f32)) r j

theorem ap_apply (r : Fin 4224) (k : Fin 2816) : ap m c (ix2 r k) = padded (a m c) r k := by
  rw [ap_eq]; exact rows2816_apply _ r k

/-- The projection. -/
def wb : FVec Ideal S2816x1024 .bf16 := V m c main_v10

theorem wb_eq : wb m c = truncf .bf16 (shapeCast S2816x1024
    (m (c.tc.loc main_arg1) : FVec Ideal S1x2816x1024 .f32) shapeCasts_S1x2816x1024_S2816x1024) bitsLt_bf16_f32 := by
  unfold wb
  simp only [V, List.flatten_cons, List.flatten_nil, List.cons_append, List.nil_append]
  entry_read
  rfl

theorem down_apply (x : FVec Ideal S1x2816x1024 .f32) (k : Fin 2816) (j : Fin 1024) :
    truncf .bf16 (shapeCast S2816x1024 x shapeCasts_S1x2816x1024_S2816x1024) bitsLt_bf16_f32 (ix2 k j)
      = x (ix3 0 k j) := by
  pointwise

theorem wb_apply (k : Fin 2816) (j : Fin 1024) : wb m c (ix2 k j) = w m c k j := by
  rw [wb_eq]; exact down_apply _ k j

/-- The stream, padded. -/
def hp : FVec Ideal S4224x1024 .f32 := V m c main_v12

theorem hp_eq : hp m c = shapeCast S4224x1024 (pad S2x2112x1024 ![0, 48, 0] ![0, 0, 0] ![0, 0, 0]
    (m (c.tc.loc main_arg2) : FVec Ideal S2x2064x1024 .f32) zero pads_S2x2064x1024_S2x2112x1024_000_4800_000 h_S_)
    shapeCasts_S2x2112x1024_S4224x1024 := by
  unfold hp
  simp only [V, List.flatten_cons, List.flatten_nil, List.cons_append, List.nil_append]
  entry_read
  rfl

theorem rows1024_apply (x : FVec Ideal S2x2064x1024 .f32) (r : Fin 4224) (j : Fin 1024) :
    shapeCast S4224x1024 (pad S2x2112x1024 ![0, 48, 0] ![0, 0, 0] ![0, 0, 0] x zero
      pads_S2x2064x1024_S2x2112x1024_000_4800_000 h_S_) shapeCasts_S2x2112x1024_S4224x1024 (ix2 r j)
      = padded (fun b s k => x (ix3 b s k)) r j := by
  pointwise
  exact dite_padded (fun b s k => x (ix3 b s k)) _ (sitofp_zero (φ := .f32)) r j

theorem hp_apply (r : Fin 4224) (j : Fin 1024) : hp m c (ix2 r j) = padded (h m c) r j := by
  rw [hp_eq]; exact rows1024_apply _ r j

/-- The targets, padded. -/
def yp : FVec Ideal S4224x1024 .f32 := V m c main_v1

theorem yp_eq : yp m c = shapeCast S4224x1024 (pad S2x2112x1024 ![0, 64, 0] ![0, 0, 0] ![0, 0, 0]
    (m (c.tc.loc main_arg4) : FVec Ideal S2x2048x1024 .f32) zero pads_S2x2048x1024_S2x2112x1024_000_6400_000 h_S_)
    shapeCasts_S2x2112x1024_S4224x1024 := by
  unfold yp
  simp only [V, List.flatten_cons, List.flatten_nil, List.cons_append, List.nil_append]
  entry_read
  rfl

theorem late_apply (x : FVec Ideal S2x2048x1024 .f32) (r : Fin 4224) (j : Fin 1024) :
    shapeCast S4224x1024 (pad S2x2112x1024 ![0, 64, 0] ![0, 0, 0] ![0, 0, 0] x zero
      pads_S2x2048x1024_S2x2112x1024_000_6400_000 h_S_) shapeCasts_S2x2112x1024_S4224x1024 (ix2 r j)
      = late (fun b s k => x (ix3 b s k)) r j := by
  unfold late
  pointwise
  by_cases hr : 64 ≤ r.val % 2112
  · rw [dif_pos ⟨by omega, hr, by omega⟩, dif_pos hr]
  · rw [dif_neg (by omega), dif_neg hr]
    exact sitofp_zero (φ := .f32)

theorem yp_apply (r : Fin 4224) (j : Fin 1024) : yp m c (ix2 r j) = late (y m c) r j := by
  rw [yp_eq]; exact late_apply _ r j

/-- The mask. -/
def mp : FVec Ideal S4224x1 .f32 := V m c main_v5

theorem mp_eq : mp m c = shapeCast S4224x1 (concatenate S2x2112x1 1
    [⟨S2x64x1, broadcastInDim S2x64x1 ![] bcast_S_S2x64x1 (constant (F := Ideal) S_ .f32 0x00000000#32)⟩,
      ⟨S2x2048x1, broadcastInDim S2x2048x1 ![] bcast_S_S2x2048x1 (constant S_ .f32 0x3F800000#32)⟩]
    concatenates_S2x64x1_S2x2048x1_S2x2112x1_d1) shapeCasts_S2x2112x1_S4224x1 := by
  unfold mp
  simp only [V, List.flatten_cons, List.flatten_nil, List.cons_append, List.nil_append]
  entry_read
  rfl

theorem mp_apply (r : Fin 4224) : mp m c (ix2 r 0) = if 64 ≤ r.val % 2112 then 1 else 0 := by
  rw [mp_eq]
  pointwise
  by_cases hr : 64 ≤ r.val % 2112
  · rw [if_pos hr, dif_neg (by omega)]
  · rw [if_neg hr, dif_pos (by omega)]

/-- The gain's row. -/
def gp : FVec Ideal S1x1024 .f32 := V m c main_v13

theorem gp_eq : gp m c = shapeCast S1x1024 (m (c.tc.loc main_arg3) : FVec Ideal S1024 .f32) shapeCasts_S1024_S1x1024 := by
  unfold gp
  simp only [V, List.flatten_cons, List.flatten_nil, List.cons_append, List.nil_append]
  entry_read
  rfl

theorem gain_apply (x : FVec Ideal S1024 .f32) (j : Fin 1024) :
    shapeCast S1x1024 x shapeCasts_S1024_S1x1024 (ix2 0 j) = x (ix1 j) := by
  pointwise

theorem gp_apply (j : Fin 1024) : gp m c (ix2 0 j) = g m c j := by
  rw [gp_eq]; exact gain_apply _ j

end Cert.DownLossIdeal.Host
end
-- ==== Proof.DownLossBlock.lean ====
module

public import Idealize.ShloMosaic.Lib.Pointwise
public import Idealize.ShloMosaic.Lib.Pipeline.ValueKit
public import proofs.«01_k».proof.Proof.Gen.DownLossIdeal.Frame
public import proofs.«01_k».proof.Proof.RmsGrad

/-!
What one part of 128 rows of the call of the feed-forward's end and the loss computes, entry by entry. The three parts of a
block are printed split differently: the first and the third are the second under other names.
-/

@[expose] public section

set_option maxRecDepth 16384

noncomputable section

open Idealize.ShloMosaic Idealize.ShloMosaic.TcCoe Idealize.SL.Sem
open RmsGrad

namespace Cert.DownLossIdeal.Block
open Cert.DownLossIdeal Cert.DownLossIdeal.Gen

variable (v w : FVec Ideal S1x1024 .f32) (x t : FVec Ideal S128x1024 .f32) (k : FVec Ideal S128x1 .f32)

/-- The stream after the feed-forward. -/
theorem stream (h : FVec Ideal S128x1024 .f32) (a : FVec Ideal S128x2816 .bf16) (p : FVec Ideal S2816x1024 .bf16)
    (r : Fin 128) (j : Fin 1024) :
    k0_pay9 (F := Ideal) h a p (ix2 r j) = h (ix2 r j) + ∑ i, a (ix2 r i) * p (ix2 i j) := by
  pointwise [k0_pay9]

/-- The reciprocal root. -/
theorem root (r : Fin 128) :
    k0_pay21 (F := Ideal) x (ix2 r 0) = Ideal.rsqrt (meanSq fun i => x (ix2 r i)) := by
  pointwise [k0_pay21]

theorem normal (r : Fin 128) (j : Fin 1024) :
    k0_pay22 (F := Ideal) x (ix2 r j) = x (ix2 r j) * Ideal.rsqrt (meanSq fun i => x (ix2 r i)) := by
  rw [← root]
  pointwise [k0_pay22]

/-- The masked difference to the target. -/
theorem err (r : Fin 128) (j : Fin 1024) :
    k0_pay23 (F := Ideal) w x t k (ix2 r j)
      = (x (ix2 r j) * Ideal.rsqrt (meanSq fun i => x (ix2 r i)) * w (ix2 0 j) - t (ix2 r j)) * k (ix2 r 0) := by
  rw [← normal]
  pointwise [k0_pay23]

/-- The loss: what was there plus the part's sum of squares times the literal. -/
theorem loss (acc : FVec Ideal S1x128 .f32) (l : Fin 128) :
    k0_pay24 (F := Ideal) w x t k acc (ix2 0 l)
      = acc (ix2 0 l) + (∑ r, ∑ j, k0_pay23 (F := Ideal) w x t k (ix2 r j) * k0_pay23 (F := Ideal) w x t k (ix2 r j))
        * Ideal.ofBits .f32 0x3A000000#32 := by
  pointwise [k0_pay24]

/-- The gain's gradient: what was there plus the part's rows. -/
theorem gain (e : FVec Ideal S128x1024 .f32) (acc : FVec Ideal S1x1024 .f32) (j : Fin 1024) :
    k0_pay27 (F := Ideal) (k0_pay22 (F := Ideal) x) e (k0_pay25 (F := Ideal)) acc (ix2 0 j)
      = acc (ix2 0 j) + ∑ r, e (ix2 r j) * Ideal.ofBits .f32 0x3A800000#32
        * (x (ix2 r j) * Ideal.rsqrt (meanSq fun i => x (ix2 r i))) := by
  simp only [← normal]
  pointwise [k0_pay27, k0_pay26, k0_pay25]

/-- The stream's gradient. -/
theorem grad (e : FVec Ideal S128x1024 .f32) (r : Fin 128) (j : Fin 1024) :
    k0_pay28 (F := Ideal) w (k0_pay21 (F := Ideal) x) (k0_pay22 (F := Ideal) x) e (k0_pay25 (F := Ideal)) (ix2 r j)
      = Ideal.rsqrt (meanSq fun i => x (ix2 r i)) * (e (ix2 r j) * Ideal.ofBits .f32 0x3A800000#32 * w (ix2 0 j)
        - x (ix2 r j) * Ideal.rsqrt (meanSq fun i => x (ix2 r i))
          * Ideal.div (∑ i, e (ix2 r i) * Ideal.ofBits .f32 0x3A800000#32 * w (ix2 0 i)
              * (x (ix2 r i) * Ideal.rsqrt (meanSq fun i => x (ix2 r i)))) (Ideal.ofBits .f32 0x44800000#32)) := by
  simp only [← normal]
  rw [← root]
  pointwise [k0_pay28, k0_pay26, k0_pay25]

/-- The accumulators start from zero. -/
theorem zero_loss (l : Fin 128) : k0_pay5 (F := Ideal) (ix2 0 l) = (0 : EReal) := by
  pointwise [k0_pay5]
theorem zero_gain (j : Fin 1024) : k0_pay6 (F := Ideal) (ix2 0 j) = (0 : EReal) := by
  pointwise [k0_pay6]

end Cert.DownLossIdeal.Block
end
-- ==== Proof.DownLossValue.lean ====
module

public import Idealize.ShloMosaic.Lib.Pointwise
public import Idealize.ShloMosaic.Lib.Claim
public import Idealize.ShloMosaic.Lib.Pipeline.ValueKit
public import proofs.«01_k».proof.Proof.DownLossHost
public import proofs.«01_k».proof.Proof.DownLossBlock

/-!
What the call of the feed-forward's end and the loss leaves in its three result arrays: the stream's gradient row by row, the
loss and the gain's gradient accumulated over the 33 parts of 128 rows, three to a block.
-/

@[expose] public section

set_option maxRecDepth 16384

noncomputable section

open Idealize.ShloMosaic Idealize.ShloMosaic.TcCoe Idealize.SL.Sem
open Idealize.ShloMosaic.Pipeline (Dat)
open PaddedRows RmsGrad

namespace Cert.DownLossIdeal.Value
open Cert.DownLossIdeal Cert.DownLossIdeal.Gen Cert.DownLossIdeal.Host Cert.DownLossIdeal.Block
variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0]
    ∧ win0_6.index t = ![t.val, 0] ∧ win0_7.index t = ![0, 0] ∧ win0_8.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![t.val, 0]
    ∧ win0_6.index t = ![t.val, 0] ∧ win0_7.index t = ![0, 0] ∧ win0_8.index t = ![0, 0])

/-- Row `r` of part `q` of block `t`. -/
abbrev row (t : Fin cfg0.N) (q : Fin 3) (r : Fin 128) : Fin 4224 :=
  ⟨384 * t.val + 128 * q.val + r.val, by have h : t.val < 11 := t.isLt; omega⟩

theorem blk1 (t : Fin cfg0.N) (k : Fin 2816) (j : Fin 1024) :
    (iblk m c 1 t : FVec Ideal S2816x1024 .bf16) (ix2 k j) = wb m c (ix2 k j) := by
  blk_point [iblk, wb, idx t]

theorem blk4 (t : Fin cfg0.N) (j : Fin 1024) :
    (iblk m c 4 t : FVec Ideal S1x1024 .f32) (ix2 0 j) = gp m c (ix2 0 j) := by
  blk_point [iblk, gp, idx t]

theorem blk0 (t : Fin cfg0.N) (q : Fin 3) (e) (r : Fin 128) (k : Fin 2816) :
    View.ld (iblk m c 0 t) (Rect.unit ![128 * q.val, 0] ![128, 2816] e) (ix2 r k) = ap m c (ix2 (row t q r) k) := by
  blk_point [iblk, ap, idx t]

theorem blk2 (t : Fin cfg0.N) (q : Fin 3) (e) (r : Fin 128) (k : Fin 1024) :
    View.ld (iblk m c 2 t) (Rect.unit ![128 * q.val, 0] ![128, 1024] e) (ix2 r k) = hp m c (ix2 (row t q r) k) := by
  blk_point [iblk, hp, idx t]

theorem blk3 (t : Fin cfg0.N) (q : Fin 3) (e) (r : Fin 128) (k : Fin 1024) :
    View.ld (iblk m c 3 t) (Rect.unit ![128 * q.val, 0] ![128, 1024] e) (ix2 r k) = yp m c (ix2 (row t q r) k) := by
  blk_point [iblk, yp, idx t]

theorem blk5 (t : Fin cfg0.N) (q : Fin 3) (e) (r : Fin 128) :
    View.ld (iblk m c 5 t) (Rect.unit ![128 * q.val, 0] ![128, 1] e) (ix2 r 0) = mp m c (ix2 (row t q r) 0) := by
  blk_point [iblk, mp, idx t]

/-- The stream after the feed-forward, padded rows. -/
def outRow (r : Fin 4224) (j : Fin 1024) : EReal := padded (h m c) r j + ∑ k, padded (a m c) r k * w m c k j
/-- The difference to the target, zero at a row that has none. -/
def errRow (r : Fin 4224) (j : Fin 1024) : EReal :=
  (outRow m c r j * Ideal.rsqrt (meanSq (outRow m c r)) * g m c j - late (y m c) r j)
    * (if 64 ≤ r.val % 2112 then 1 else 0)
/-- A row's sum of squares. -/
def sqRow (r : Fin 4224) : EReal := ∑ j, errRow m c r j * errRow m c r j
/-- A row's contribution to the gain's gradient. -/
def gainRow (r : Fin 4224) (j : Fin 1024) : EReal :=
  errRow m c r j * Ideal.ofBits .f32 0x3A800000#32 * (outRow m c r j * Ideal.rsqrt (meanSq (outRow m c r)))
/-- The stream's gradient. -/
def streamRow (r : Fin 4224) (j : Fin 1024) : EReal :=
  Ideal.rsqrt (meanSq (outRow m c r)) * (errRow m c r j * Ideal.ofBits .f32 0x3A800000#32 * g m c j
    - outRow m c r j * Ideal.rsqrt (meanSq (outRow m c r))
      * Ideal.div (∑ k, errRow m c r k * Ideal.ofBits .f32 0x3A800000#32 * g m c k
          * (outRow m c r k * Ideal.rsqrt (meanSq (outRow m c r)))) (Ideal.ofBits .f32 0x44800000#32))

/-! ## The three parts of a block -/

theorem in2816 (q : Fin 3) : ∀ a, ![128 * q.val, 0] a + ![128, 2816] a ≤ S384x2816.size a := by revert q; decide
theorem in1024 (q : Fin 3) : ∀ a, ![128 * q.val, 0] a + ![128, 1024] a ≤ S384x1024.size a := by revert q; decide
theorem in1 (q : Fin 3) : ∀ a, ![128 * q.val, 0] a + ![128, 1] a ≤ S384x1.size a := by revert q; decide

/-- The stream after the feed-forward in part `q`. -/
def outBlk (t : Fin cfg0.N) (q : Fin 3) : FVec Ideal S128x1024 .f32 :=
  k0_pay9 (F := Ideal) (View.ld (iblk m c 2 t) (Rect.unit ![128 * q.val, 0] ![128, 1024] (in1024 q)))
    (View.ld (iblk m c 0 t) (Rect.unit ![128 * q.val, 0] ![128, 2816] (in2816 q))) (iblk m c 1 t)

theorem outBlk_apply (t : Fin cfg0.N) (q : Fin 3) (r : Fin 128) (j : Fin 1024) :
    outBlk m c t q (ix2 r j) = outRow m c (row t q r) j := by
  unfold outBlk
  rw [Block.stream]
  simp only [blk0, blk1, blk2, hp_apply, ap_apply, wb_apply]
  rfl

/-- The difference to the target in part `q`. -/
def errBlk (t : Fin cfg0.N) (q : Fin 3) : FVec Ideal S128x1024 .f32 :=
  k0_pay23 (F := Ideal) (k0_pay7 (F := Ideal) (iblk m c 4 t)) (outBlk m c t q)
    (View.ld (iblk m c 3 t) (Rect.unit ![128 * q.val, 0] ![128, 1024] (in1024 q)))
    (View.ld (iblk m c 5 t) (Rect.unit ![128 * q.val, 0] ![128, 1] (in1 q)))

theorem gain_row (t : Fin cfg0.N) (j : Fin 1024) : k0_pay7 (F := Ideal) (iblk m c 4 t) (ix2 0 j) = g m c j := by
  rw [← gp_apply, ← blk4 m c t]
  pointwise [k0_pay7]

theorem errBlk_apply (t : Fin cfg0.N) (q : Fin 3) (r : Fin 128) (j : Fin 1024) :
    errBlk m c t q (ix2 r j) = errRow m c (row t q r) j := by
  unfold errBlk
  rw [Block.err]
  simp only [outBlk_apply, gain_row, blk3, blk5, yp_apply, mp_apply]
  rfl

theorem streamBlk (t : Fin cfg0.N) (q : Fin 3) (r : Fin 128) (j : Fin 1024) :
    k0_pay28 (F := Ideal) (k0_pay7 (F := Ideal) (iblk m c 4 t)) (k0_pay21 (F := Ideal) (outBlk m c t q))
      (k0_pay22 (F := Ideal) (outBlk m c t q)) (errBlk m c t q) (k0_pay25 (F := Ideal)) (ix2 r j)
      = streamRow m c (row t q r) j := by
  rw [Block.grad]
  simp only [outBlk_apply, errBlk_apply, gain_row]
  rfl

/-- The loss after part `q`, from what was there. -/
def lossBlk (t : Fin cfg0.N) (q : Fin 3) (acc : FVec Ideal S1x128 .f32) : FVec Ideal S1x128 .f32 :=
  k0_pay24 (F := Ideal) (k0_pay7 (F := Ideal) (iblk m c 4 t)) (outBlk m c t q)
    (View.ld (iblk m c 3 t) (Rect.unit ![128 * q.val, 0] ![128, 1024] (in1024 q)))
    (View.ld (iblk m c 5 t) (Rect.unit ![128 * q.val, 0] ![128, 1] (in1 q))) acc

theorem lossBlk_apply (t : Fin cfg0.N) (q : Fin 3) (acc : FVec Ideal S1x128 .f32) (l : Fin 128) :
    lossBlk m c t q acc (ix2 0 l)
      = acc (ix2 0 l) + (∑ r, sqRow m c (row t q r)) * Ideal.ofBits .f32 0x3A000000#32 := by
  unfold lossBlk
  rw [Block.loss]
  refine congrArg (fun z => acc (ix2 0 l) + z * Ideal.ofBits .f32 0x3A000000#32) ?_
  exact Finset.sum_congr rfl fun r _ => Finset.sum_congr rfl fun j _ =>
    congrArg₂ (· * ·) (errBlk_apply m c t q r j) (errBlk_apply m c t q r j)

/-- The gain's gradient after part `q`, from what was there. -/
def gainBlk (t : Fin cfg0.N) (q : Fin 3) (acc : FVec Ideal S1x1024 .f32) : FVec Ideal S1x1024 .f32 :=
  k0_pay27 (F := Ideal) (k0_pay22 (F := Ideal) (outBlk m c t q)) (errBlk m c t q) (k0_pay25 (F := Ideal)) acc

theorem gainBlk_apply (t : Fin cfg0.N) (q : Fin 3) (acc : FVec Ideal S1x1024 .f32) (j : Fin 1024) :
    gainBlk m c t q acc (ix2 0 j) = acc (ix2 0 j) + ∑ r, gainRow m c (row t q r) j := by
  unfold gainBlk
  rw [Block.gain]
  simp only [outBlk_apply, errBlk_apply]
  rfl

/-! ## The result arrays -/

theorem streamPart (t : Fin cfg0.N) (q : Fin 3) (r : Fin 384) (j : Fin 1024) (x : S128x1024.Idx)
    (h0 : (r : ℕ) = 128 * q.val + x 0) (h1 : (j : ℕ) = x 1) :
    k0_pay28 (F := Ideal) (k0_pay7 (F := Ideal) (iblk m c 4 t)) (k0_pay21 (F := Ideal) (outBlk m c t q))
      (k0_pay22 (F := Ideal) (outBlk m c t q)) (errBlk m c t q) (k0_pay25 (F := Ideal)) x
      = streamRow m c ⟨384 * t.val + r.val, by have h : t.val < 11 := t.isLt; omega⟩ j := by
  idx_vars x
  obtain rfl : j = x1 := Fin.ext h1
  rw [streamBlk]
  refine congrArg (streamRow m c · j) (Fin.ext ?_)
  show 384 * t.val + 128 * q.val + x0.val = 384 * t.val + r.val
  rw [add_assoc]; exact congrArg (384 * t.val + ·) h0.symm

theorem out_stream (t : Fin cfg0.N) (r : Fin 384) (j : Fin 1024) :
    (outsAt0 m c t.val t.isLt).1 (ix2 r j)
      = streamRow m c ⟨384 * t.val + r.val, by have h : t.val < 11 := t.isLt; omega⟩ j := by
  by_cases hz : t.val % 11 = 0
  · rw [outsAt0_A m c t hz]
    frame_out
    clear hz
    canon_tiles x h
    · exact streamPart m c t 2 r j x h0 h1
    · exact streamPart m c t 1 r j x h0 h1
    · exact streamPart m c t 0 r j x (h0.trans (zero_add _).symm) h1
  · rw [outsAt0_B m c t hz]
    frame_out
    clear hz
    canon_tiles x h
    · exact streamPart m c t 2 r j x h0 h1
    · exact streamPart m c t 1 r j x h0 h1
    · exact streamPart m c t 0 r j x (h0.trans (zero_add _).symm) h1

/-- The stream's gradient, in the first result array. -/
theorem final6 (r : Fin 4224) (j : Fin 1024) :
    ((dats m 0 c).arrAt 6 cfg0.N : FVec Ideal S4224x1024 .f32) (ix2 r j) = streamRow m c r j := by
  have key : ((dats m 0 c).arrAt 6 cfg0.N : FVec Ideal S4224x1024 .f32) = fun i => streamRow m c (i 0) (i 1) := by
    refine (dats m 0 c).arrAt_eq_of_covers 6 _ (by decide +kernel) fun t hf y => ?_
    blk_simp
    rw [after0_6]
    idx_vars y
    have e : ((View.whole main_v14_0).slice (win0_6.rect t)).emb (ix2 y0 y1)
        = ix2 ⟨384 * t.val + y0.val, by have h : t.val < 11 := t.isLt; omega⟩ y1 := by
      blk_ext [idx t]
    rw [e]
    exact out_stream m c t y0 y1
  rw [key]; rfl

/-- The last point of the grid. -/
def last : Fin cfg0.N := ⟨10, by decide⟩

theorem three {x a b d : EReal} (f : Fin 3 → EReal) (h0 : a = x + f 0) (h1 : b = a + f 1) (h2 : d = b + f 2) :
    d = x + ∑ q, f q := by
  rw [Fin.sum_univ_three, h2, h1, h0, add_assoc, add_assoc, add_assoc]

theorem out_gain (j : Fin 1024) :
    (outsAt0 m c last.val last.isLt).2.2 (ix2 0 j) = ∑ t : Fin 11, ∑ q, ∑ r, gainRow m c (row t q r) j := by
  rw [Pipeline.eq_sum_fin_of_reset_step_apply_last (fun n h => (outsAt0 m c n h).2.2) 11 (fun _ => (0 : EReal))
    (fun (t : Fin cfg0.N) (i : S1x1024.Idx) => ∑ q, ∑ r, gainRow m c (row t q r) (i 1))
    (fun t h i => by
      rw [outsAt0_A m c t h]; frame_out
      idx_vars i
      obtain rfl : i0 = 0 := Subsingleton.elim _ _
      exact (three _ (gainBlk_apply m c t 0 _ i1) (gainBlk_apply m c t 1 _ i1) (gainBlk_apply m c t 2 _ i1)).trans
        (congrArg (· + _) (zero_gain i1)))
    (fun t h i => by
      rw [outsAt0_B m c t h]; frame_out
      idx_vars i
      obtain rfl : i0 = 0 := Subsingleton.elim _ _
      exact three _ (gainBlk_apply m c t 0 _ i1) (gainBlk_apply m c t 1 _ i1) (gainBlk_apply m c t 2 _ i1))
    (le_of_eq N_0) last rfl (ix2 0 j), zero_add]
  rfl

theorem out_loss (l : Fin 128) :
    (outsAt0 m c last.val last.isLt).2.1 (ix2 0 l)
      = ∑ t : Fin 11, ∑ q, (∑ r, sqRow m c (row t q r)) * Ideal.ofBits .f32 0x3A000000#32 := by
  rw [Pipeline.eq_sum_fin_of_reset_step_apply_last (fun n h => (outsAt0 m c n h).2.1) 11 (fun _ => (0 : EReal))
    (fun (t : Fin cfg0.N) (i : S1x128.Idx) => ∑ q, (∑ r, sqRow m c (row t q r)) * Ideal.ofBits .f32 0x3A000000#32)
    (fun t h i => by
      rw [outsAt0_A m c t h]; frame_out
      idx_vars i
      obtain rfl : i0 = 0 := Subsingleton.elim _ _
      exact (three _ (lossBlk_apply m c t 0 _ i1) (lossBlk_apply m c t 1 _ i1) (lossBlk_apply m c t 2 _ i1)).trans
        (congrArg (· + _) (zero_loss i1)))
    (fun t h i => by
      rw [outsAt0_B m c t h]; frame_out
      idx_vars i
      obtain rfl : i0 = 0 := Subsingleton.elim _ _
      exact three _ (lossBlk_apply m c t 0 _ i1) (lossBlk_apply m c t 1 _ i1) (lossBlk_apply m c t 2 _ i1))
    (le_of_eq N_0) last rfl (ix2 0 l), zero_add]
  rfl

/-- The rows, part by part. -/
theorem sum_parts (f : Fin 4224 → EReal) : ∑ t : Fin 11, ∑ q, ∑ r, f (row t q r) = ∑ r, f r := by
  rw [Fin.sum_univ_tiles 11 384 (by norm_num) f]
  refine Finset.sum_congr rfl fun t _ => ?_
  rw [Fin.sum_univ_tiles 3 128 (by norm_num) fun r : Fin 384 => f _]
  refine Finset.sum_congr rfl fun q _ => Finset.sum_congr rfl fun r _ => ?_
  exact congrArg f (Fin.ext (by
    show 384 * t.val + 128 * q.val + r.val = t.val * 384 + (q.val * 128 + r.val); omega))

/-- The loss, in the second result array. -/
theorem final7 (l : Fin 128) :
    ((dats m 0 c).arrAt 7 cfg0.N : FVec Ideal S1x128 .f32) (ix2 0 l)
      = ∑ t : Fin 11, ∑ q, (∑ r, sqRow m c (row t q r)) * Ideal.ofBits .f32 0x3A000000#32 := by
  have key : ((dats m 0 c).arrAt 7 cfg0.N : FVec Ideal S1x128 .f32)
      = fun i => ∑ t : Fin 11, ∑ q, (∑ r, sqRow m c (row t q r)) * Ideal.ofBits .f32 0x3A000000#32 := by
    refine (dats m 0 c).arrAt_eq_of_after_last 7 last (by decide +kernel) _ fun i => ?_
    blk_simp
    rw [after0_7]
    idx_vars i
    obtain rfl : i0 = 0 := Subsingleton.elim _ _
    rw [out_loss]
  rw [key]

/-- The gain's gradient, in the third result array. -/
theorem final8 (j : Fin 1024) :
    ((dats m 0 c).arrAt 8 cfg0.N : FVec Ideal S1x1024 .f32) (ix2 0 j) = ∑ r, gainRow m c r j := by
  have key : ((dats m 0 c).arrAt 8 cfg0.N : FVec Ideal S1x1024 .f32) = fun i => ∑ r, gainRow m c r (i 1) := by
    refine (dats m 0 c).arrAt_eq_of_after_last 8 last (by decide +kernel) _ fun i => ?_
    blk_simp
    rw [after0_8]
    idx_vars i
    obtain rfl : i0 = 0 := Subsingleton.elim _ _
    rw [out_gain]
    exact sum_parts (gainRow m c · i1)
  rw [key]; rfl

end Cert.DownLossIdeal.Value
end
-- ==== Proof.DownLossRead.lean ====
module

public import Idealize.ShloMosaic.Lib.Pointwise
public import Idealize.ShloMosaic.Lib.KernelVsHost
public import Idealize.ShloMosaic.Lib.IdealHost
public import proofs.«01_k».proof.Proof.Gen.DownLossRefIdeal.Read
public import proofs.«01_k».proof.Proof.PaddedRows
public import proofs.«01_k».proof.Proof.RmsGrad

/-!
What the reference of the feed-forward's end and the loss computes, entry by entry.
-/

@[expose] public section

set_option maxRecDepth 16384

noncomputable section

open Idealize.ShloMosaic Idealize.ShloMosaic.TcCoe Idealize.SL.Sem
open PaddedRows RmsGrad

namespace Cert.DownLossRefIdeal.Read
open Cert.DownLossRefIdeal Cert.DownLossRefIdeal.Gen

variable (x0 : FVec Ideal S2x2064x2816 .f32) (x1 : FVec Ideal S1x2816x1024 .f32) (x2 : FVec Ideal S2x2064x1024 .f32)
  (x3 : FVec Ideal S1024 .f32) (x4 : FVec Ideal S2x2048x1024 .f32)

/-- The stream after the feed-forward. -/
theorem out (b : Fin 2) (s : Fin 2064) (j : Fin 1024) :
    val_main_v2 (F := Ideal) x0 x1 x2 (ix3 b s j) = x2 (ix3 b s j) + ∑ k, x0 (ix3 b s k) * x1 (ix3 0 k j) := by
  pointwise [val_main_v2, val_main_v1, val_main_v0]

/-- The reciprocal root of a row. -/
theorem root (b : Fin 2) (s : Fin 2064) :
    val_main_v10 (F := Ideal) x0 x1 x2 (ix3 b s 0)
      = Ideal.rsqrt (meanSq fun k => val_main_v2 (F := Ideal) x0 x1 x2 (ix3 b s k)) := by
  pointwise [val_main_v10, val_main_v9, val_main_v8, val_main_v7, val_main_v6, val_main_v5, val_main_v4, val_main_v3,
    val_main_cst, val_main_cst_0, val_main_cst_1]

theorem normal (b : Fin 2) (s : Fin 2064) (j : Fin 1024) :
    val_main_v15 (F := Ideal) x0 x1 x2 (ix3 b s j) = val_main_v2 (F := Ideal) x0 x1 x2 (ix3 b s j)
      * Ideal.rsqrt (meanSq fun k => val_main_v2 (F := Ideal) x0 x1 x2 (ix3 b s k)) := by
  rw [← root]
  pointwise [val_main_v15, val_main_v14]

/-- The difference to the target, at a row that has one. -/
theorem err (b : Fin 2) (s : Fin 2048) (j : Fin 1024) :
    val_main_v20 (F := Ideal) x0 x1 x2 x3 x4 (ix3 b s j)
      = val_main_v2 (F := Ideal) x0 x1 x2 (ix3 b ⟨16 + s.val, by omega⟩ j)
        * Ideal.rsqrt (meanSq fun k => val_main_v2 (F := Ideal) x0 x1 x2 (ix3 b ⟨16 + s.val, by omega⟩ k)) * x3 (ix1 j)
        - x4 (ix3 b s j) := by
  rw [← normal]
  pointwise [val_main_v20, val_main_v19, val_main_v18, val_main_v17, val_main_v16]

/-- The loss. -/
theorem loss (l : Fin 128) :
    val_main_v58 (F := Ideal) x0 x1 x2 x3 x4 (ix2 0 l)
      = Ideal.ofBits .f32 0x3F000000#32 * ∑ b, ∑ s, Ideal.div (∑ j, val_main_v20 (F := Ideal) x0 x1 x2 x3 x4 (ix3 b s j)
        * val_main_v20 (F := Ideal) x0 x1 x2 x3 x4 (ix3 b s j)) (Ideal.ofBits .f32 0x44800000#32) := by
  pointwise [val_main_v58, val_main_v28, val_main_v27, val_main_v26, val_main_v25, val_main_v24, val_main_v21,
    val_main_cst_4, val_main_cst_5, val_main_cst_6, val_main_cst_7]

/-- The cotangent of the scaled row, at a row that has a target. -/
theorem cot (b : Fin 2) (s : Fin 2048) (j : Fin 1024) :
    val_main_v34 (F := Ideal) x0 x1 x2 x3 x4 (ix3 b s j)
      = Ideal.div (Ideal.ofBits .f32 0x3F000000#32 * 1) (Ideal.ofBits .f32 0x44800000#32)
        * (Ideal.ofBits .f32 0x40000000#32 * val_main_v20 (F := Ideal) x0 x1 x2 x3 x4 (ix3 b s j)) := by
  pointwise [val_main_v34, val_main_v33, val_main_v32, val_main_v31, val_main_v30, val_main_v29, val_main_v23,
    val_main_v22, val_main_cst_3, val_main_cst_8, val_main_cst_9, val_main_cst_10]

/-- The rows before the targets begin have no cotangent. -/
theorem cots (b : Fin 2) (s : Fin 2064) (j : Fin 1024) :
    val_main_v35 (F := Ideal) x0 x1 x2 x3 x4 (ix3 b s j)
      = if h : 16 ≤ s.val then val_main_v34 (F := Ideal) x0 x1 x2 x3 x4 (ix3 b ⟨s.val - 16, by omega⟩ j) else 0 := by
  pointwise [val_main_v35, val_main_cst_11]
  by_cases hs : 16 ≤ s.val
  · rw [dif_pos ⟨hs, by omega⟩, dif_pos hs]
  · rw [dif_neg (by omega), dif_neg hs]

/-- The factor both contributions of the mean square carry. -/
abbrev pull (b : Fin 2) (s : Fin 2064) : EReal :=
  Ideal.div ((∑ k, val_main_v2 (F := Ideal) x0 x1 x2 (ix3 b s k)
      * (val_main_v35 (F := Ideal) x0 x1 x2 x3 x4 (ix3 b s k) * x3 (ix1 k)))
    * (Ideal.ofBits .f32 0xBF000000#32 * Ideal.div
      (Ideal.rsqrt (meanSq fun k => val_main_v2 (F := Ideal) x0 x1 x2 (ix3 b s k)))
      (meanSq fun k => val_main_v2 (F := Ideal) x0 x1 x2 (ix3 b s k)))) (Ideal.ofBits .f32 0x44800000#32)

theorem scaled (b : Fin 2) (s : Fin 2064) (j : Fin 1024) :
    val_main_v40 (F := Ideal) x0 x1 x2 x3 x4 (ix3 b s j)
      = val_main_v35 (F := Ideal) x0 x1 x2 x3 x4 (ix3 b s j) * x3 (ix1 j) := by
  pointwise [val_main_v40, val_main_v39, val_main_v16]

/-- The stream's gradient. -/
theorem stream (b : Fin 2) (s : Fin 2064) (j : Fin 1024) :
    val_main_v55 (F := Ideal) x0 x1 x2 x3 x4 (ix3 b s j)
      = val_main_v35 (F := Ideal) x0 x1 x2 x3 x4 (ix3 b s j) * x3 (ix1 j)
          * Ideal.rsqrt (meanSq fun k => val_main_v2 (F := Ideal) x0 x1 x2 (ix3 b s k))
        + val_main_v2 (F := Ideal) x0 x1 x2 (ix3 b s j) * pull x0 x1 x2 x3 x4 b s
        + pull x0 x1 x2 x3 x4 b s * val_main_v2 (F := Ideal) x0 x1 x2 (ix3 b s j) := by
  pointwise [val_main_v55, val_main_v54, val_main_v53, val_main_v52, val_main_v51, val_main_v50, val_main_v49,
    val_main_v48, val_main_v47, val_main_v46, val_main_v45, val_main_v44, val_main_v43, val_main_v42, val_main_v13,
    val_main_v12, val_main_v11, val_main_v10, val_main_v9, val_main_v8, val_main_v7, val_main_v6, val_main_v5,
    val_main_v4, val_main_v3, val_main_cst, val_main_cst_0, val_main_cst_1, val_main_cst_2, val_main_cst_14,
    val_main_cst_15, val_main_cst_16]
  simp only [Finset.univ_unique, Finset.sum_singleton, scaled]

theorem padded_stream (r : Fin 4224) (j : Fin 1024) :
    val_main_v57 (F := Ideal) x0 x1 x2 x3 x4 (ix2 r j)
      = padded (fun b s j => val_main_v55 (F := Ideal) x0 x1 x2 x3 x4 (ix3 b s j)) r j := by
  pointwise [val_main_v57, val_main_v56, val_main_call0_v0, val_main_c]
  exact dite_padded (fun b s k => val_main_v55 (F := Ideal) x0 x1 x2 x3 x4 (ix3 b s k)) _ (sitofp_zero (φ := .f32)) r j

/-! ## The gain -/

/-- A row's contribution to the gain's gradient. -/
theorem gain_row (b : Fin 2) (s : Fin 2064) (j : Fin 1024) :
    val_main_v36 (F := Ideal) x0 x1 x2 x3 x4 (ix3 b s j)
      = val_main_v2 (F := Ideal) x0 x1 x2 (ix3 b s j)
        * Ideal.rsqrt (meanSq fun k => val_main_v2 (F := Ideal) x0 x1 x2 (ix3 b s k))
        * val_main_v35 (F := Ideal) x0 x1 x2 x3 x4 (ix3 b s j) := by
  rw [← normal]
  pointwise [val_main_v36]

theorem gain_inner (j : Fin 1024) :
    val_main_v37 (F := Ideal) x0 x1 x2 x3 x4 (ix1 j)
      = ∑ b, ∑ s, val_main_v36 (F := Ideal) x0 x1 x2 x3 x4 (ix3 b s j) := by
  unfold val_main_v37
  rw [Idealize.ShloMosaic.ValueIdx.hostReduceAdd_apply]
  refine (hostReduceAdd_outer (a := 2) (b := 2064) (n := 1024) _ _ _ j).trans ?_
  rw [show val_main_cst_12 (F := Ideal) (Shape.Idx.first h_S_) = (0 : EReal) from Ideal.ofBits_zero_f32, zero_add]

/-- The gain's gradient. -/
theorem gain (j : Fin 1024) :
    val_main_v59 (F := Ideal) x0 x1 x2 x3 x4 (ix2 0 j)
      = ∑ b, ∑ s, val_main_v36 (F := Ideal) x0 x1 x2 x3 x4 (ix3 b s j) := by
  have h41 : val_main_v41 (F := Ideal) x0 x1 x2 x3 x4 (ix1 j) = val_main_v38 (F := Ideal) x0 x1 x2 x3 x4 (ix3 0 0 j) := by
    unfold val_main_v41
    rw [Idealize.ShloMosaic.ValueIdx.hostReduceAdd_apply]
    refine (hostReduceAdd_outer (a := 1) (b := 1) (n := 1024) _ _ _ j).trans ?_
    rw [show val_main_cst_13 (F := Ideal) (Shape.Idx.first h_S_) = (0 : EReal) from Ideal.ofBits_zero_f32, zero_add]
    simp only [Finset.univ_unique, Finset.sum_singleton]
    rfl
  have h38 : val_main_v38 (F := Ideal) x0 x1 x2 x3 x4 (ix3 0 0 j) = val_main_v37 (F := Ideal) x0 x1 x2 x3 x4 (ix1 j) := by
    pointwise [val_main_v38]
  rw [← gain_inner, ← h38, ← h41]
  pointwise [val_main_v59]

end Cert.DownLossRefIdeal.Read
end
-- ==== Proof.DownLossEq.lean ====
module

public import Idealize.ShloMosaic.Lib.Pointwise
public import Idealize.ShloMosaic.Lib.KernelVsHost
public import proofs.«01_k».proof.Defs
public import proofs.«01_k».proof.Proof.Gen.Pre_ffn_down_loss_finite
public import proofs.«01_k».proof.Proof.DownLossValue
public import proofs.«01_k».proof.Proof.DownLossRead

/-!
The call of the feed-forward's end and the loss and its reference leave the same arrays when the arguments are finite.
-/

@[expose] public section

set_option maxRecDepth 16384

noncomputable section

open Idealize.ShloMosaic Idealize.ShloMosaic.TcCoe Idealize.SL.Sem
open PaddedRows RmsGrad

/-! ## Literals and sums -/

namespace Loss

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem inv_1024 : Ideal.ofBits .f32 0x3A800000#32 = ((1 / 1024 : ℝ) : EReal) := by
  simp [Ideal.ofBits, Ideal.ieee, -EReal.coe_mul]; norm_num
theorem inv_2048 : Ideal.ofBits .f32 0x3A000000#32 = ((1 / 2048 : ℝ) : EReal) := by
  simp [Ideal.ofBits, Ideal.ieee, -EReal.coe_mul]; norm_num

/-- The reference's cotangent of a difference `e` is the kernel's. -/
theorem cot {e : EReal} (he : IsReal e) :
    Ideal.div (Ideal.ofBits .f32 0x3F000000#32 * 1) (Ideal.ofBits .f32 0x44800000#32)
      * (Ideal.ofBits .f32 0x40000000#32 * e) = e * Ideal.ofBits .f32 0x3A800000#32 := by
  obtain ⟨e, rfl⟩ := he
  rw [half, two, inv_1024, ofBits_1024, mul_one, Ideal.div_coe (by norm_num)]
  simp only [← EReal.coe_mul]
  congr 1
  ring

theorem sum_mul {ι : Type} (s : Finset ι) {f : ι → EReal} (hf : ∀ i, IsReal (f i)) (x : ℝ) :
    ∑ i ∈ s, f i * (x : EReal) = (∑ i ∈ s, f i) * (x : EReal) := by
  choose f' hf' using hf
  simp only [hf', ← EReal.coe_mul, ← coe_sum, Finset.sum_mul]

/-- A sum over the padded rows of what vanishes on the rows without a target is the sum over the rows that have one. -/
theorem sum_late (f : Fin 4224 → EReal) (g : Fin 2 → Fin 2048 → EReal)
    (h0 : ∀ r : Fin 4224, r.val % 2112 < 64 → f r = 0)
    (hg : ∀ (r : Fin 4224) (_ : 64 ≤ r.val % 2112), f r = g ⟨r.val / 2112, by omega⟩ ⟨r.val % 2112 - 64, by omega⟩) :
    ∑ r, f r = ∑ b, ∑ s, g b s := by
  rw [sum_rows f (fun b s => if h : 16 ≤ s.val then g b ⟨s.val - 16, by omega⟩ else 0) (fun r hr => h0 r (by omega))
    fun r hr => ?_]
  · refine Finset.sum_congr rfl fun b _ => ?_
    rw [Fin.sum_univ_two_halves 16 2048 (by norm_num), Finset.sum_eq_zero, zero_add]
    · refine Finset.sum_congr rfl fun s _ => ?_
      rw [dif_pos (by show 16 ≤ 16 + s.val; omega)]
      exact congrArg (g b) (Fin.ext (by show 16 + s.val - 16 = s.val; omega))
    · intro s _
      exact dif_neg (by show ¬ 16 ≤ s.val; omega)
  · by_cases hr' : 64 ≤ r.val % 2112
    · rw [hg r hr', dif_pos (by show 16 ≤ r.val % 2112 - 48; omega)]
      exact congrArg (g _) (Fin.ext (by show r.val % 2112 - 64 = r.val % 2112 - 48 - 16; omega))
    · rw [h0 r (by omega), dif_neg (by show ¬ 16 ≤ r.val % 2112 - 48; omega)]

end Loss

namespace Cert.Pre_ffn_down_loss_finite

variable (x0 : FVec Ideal S2x2064x2816 .f32) (x1 : FVec Ideal S1x2816x1024 .f32) (x2 : FVec Ideal S2x2064x1024 .f32)
  (x3 : FVec Ideal S1024 .f32) (x4 : FVec Ideal S2x2048x1024 .f32)

theorem real0 (h : (fn (F := Ideal) x0 x1 x2 x3 x4).1 = fun _ => 1#1) (i) : IsReal (x0 i) :=
  isReal_of_cmp (congrFun h i)
theorem real1 (h : (fn (F := Ideal) x0 x1 x2 x3 x4).2.1 = fun _ => 1#1) (i) : IsReal (x1 i) :=
  isReal_of_cmp (congrFun h i)
theorem real2 (h : (fn (F := Ideal) x0 x1 x2 x3 x4).2.2.1 = fun _ => 1#1) (i) : IsReal (x2 i) :=
  isReal_of_cmp (congrFun h i)
theorem real3 (h : (fn (F := Ideal) x0 x1 x2 x3 x4).2.2.2.1 = fun _ => 1#1) (i) : IsReal (x3 i) :=
  isReal_of_cmp (congrFun h i)
theorem real4 (h : (fn (F := Ideal) x0 x1 x2 x3 x4).2.2.2.2 = fun _ => 1#1) (i) : IsReal (x4 i) :=
  isReal_of_cmp (congrFun h i)

end Cert.Pre_ffn_down_loss_finite

namespace Cert.DownLossIdeal.Value
open Cert.DownLossIdeal Cert.DownLossIdeal.Gen Cert.DownLossIdeal.Host
variable (m : (ℓ : Loc nD τ sig) → Buf (Elt Ideal) ℓ) (c : Dev nD)

/-! ## The reference's arrays of the same arguments -/

/-- The stream after the feed-forward. -/
def o (b : Fin 2) (s : Fin 2064) (j : Fin 1024) : EReal := h m c b s j + ∑ k, a m c b s k * w m c k j

theorem o_eq (b : Fin 2) (s : Fin 2064) (j : Fin 1024) :
    Cert.DownLossRefIdeal.Read.val_main_v2 (F := Ideal) (m (c.tc.loc main_arg0)) (m (c.tc.loc main_arg1))
      (m (c.tc.loc main_arg2)) (ix3 b s j) = o m c b s j := Cert.DownLossRefIdeal.Read.out _ _ _ b s j

/-- The difference to the target. -/
def e (b : Fin 2) (s : Fin 2048) (j : Fin 1024) : EReal :=
  o m c b ⟨16 + s.val, by omega⟩ j * Ideal.rsqrt (meanSq (o m c b ⟨16 + s.val, by omega⟩)) * g m c j - y m c b s j

theorem e_eq (b : Fin 2) (s : Fin 2048) (j : Fin 1024) :
    Cert.DownLossRefIdeal.Read.val_main_v20 (F := Ideal) (m (c.tc.loc main_arg0)) (m (c.tc.loc main_arg1))
    (m (c.tc.loc main_arg2)) (m (c.tc.loc main_arg3)) (m (c.tc.loc main_arg4)) (ix3 b s j) = e m c b s j := by
  rw [Cert.DownLossRefIdeal.Read.err]
  simp only [o_eq]
  rfl

/-- The cotangent of the scaled rows. -/
def dy (b : Fin 2) (s : Fin 2064) (j : Fin 1024) : EReal :=
  if h : 16 ≤ s.val then e m c b ⟨s.val - 16, by omega⟩ j * Ideal.ofBits .f32 0x3A800000#32 else 0

/-- The factor of the mean square's derivative. -/
def pull (b : Fin 2) (s : Fin 2064) : EReal :=
  Ideal.div ((∑ k, o m c b s k * (dy m c b s k * g m c k)) * (Ideal.ofBits .f32 0xBF000000#32
    * Ideal.div (Ideal.rsqrt (meanSq (o m c b s))) (meanSq (o m c b s)))) (Ideal.ofBits .f32 0x44800000#32)

/-- The stream's gradient. -/
def dStream (b : Fin 2) (s : Fin 2064) (j : Fin 1024) : EReal :=
  dy m c b s j * g m c j * Ideal.rsqrt (meanSq (o m c b s)) + o m c b s j * pull m c b s + pull m c b s * o m c b s j

/-! ## The kernel's rows -/

theorem outRow_eq (r : Fin 4224) (j : Fin 1024) : outRow m c r j = padded (o m c) r j := by
  unfold outRow
  by_cases hr : r.val % 2112 < 48
  · simp only [padded_of_lt _ _ _ hr, zero_mul, Finset.sum_const_zero, add_zero]
  · have hr' : 48 ≤ r.val % 2112 := not_lt.mp hr
    rw [padded_of_le _ _ _ hr', padded_of_le _ _ _ hr',
      show padded (a m c) r = a m c _ _ from funext fun k => padded_of_le _ _ _ hr']
    rfl

theorem errRow_eq (r : Fin 4224) (j : Fin 1024) : errRow m c r j = late (e m c) r j := by
  unfold errRow late
  by_cases hr : 64 ≤ r.val % 2112
  · have hr' : 48 ≤ r.val % 2112 := by omega
    have hs : (⟨r.val % 2112 - 48, by omega⟩ : Fin 2064) = ⟨16 + (r.val % 2112 - 64), by omega⟩ := Fin.ext (by
      show r.val % 2112 - 48 = 16 + (r.val % 2112 - 64); omega)
    rw [if_pos hr, mul_one, dif_pos hr, dif_pos hr, show outRow m c r = o m c _ _ from
      funext fun k => (outRow_eq m c r k).trans (padded_of_le _ _ _ hr'), hs]
    rfl
  · rw [if_neg hr, dif_neg hr, dif_neg hr, mul_zero]

variable (hp : Pre_DownLossIdeal_ffn_down_loss_finite m)
include hp

theorem o_real (b : Fin 2) (s : Fin 2064) (j : Fin 1024) : IsReal (o m c b s j) :=
  IsReal.add (Cert.Pre_ffn_down_loss_finite.real2 _ _ _ _ _ (hp c).2.2.1 _)
    (IsReal.sum _ fun k => IsReal.mul (Cert.Pre_ffn_down_loss_finite.real0 _ _ _ _ _ (hp c).1 _)
      (Cert.Pre_ffn_down_loss_finite.real1 _ _ _ _ _ (hp c).2.1 _))

theorem gain_real (j : Fin 1024) : IsReal (g m c j) :=
  Cert.Pre_ffn_down_loss_finite.real3 _ _ _ _ _ (hp c).2.2.2.1 _

theorem e_real (b : Fin 2) (s : Fin 2048) (j : Fin 1024) : IsReal (e m c b s j) :=
  (((o_real m c hp b _ j).mul (rsqrt_real (o_real m c hp b _))).mul (gain_real m c hp j)).sub
    (Cert.Pre_ffn_down_loss_finite.real4 _ _ _ _ _ (hp c).2.2.2.2 _)

theorem dy_real (b : Fin 2) (s : Fin 2064) (j : Fin 1024) : IsReal (dy m c b s j) := by
  unfold dy
  by_cases hs : 16 ≤ s.val
  · rw [dif_pos hs]
    exact (e_real m c hp b _ j).mul ⟨_, Loss.inv_1024⟩
  · rw [dif_neg hs]
    exact isReal_zero

theorem dy_eq (b : Fin 2) (s : Fin 2064) (j : Fin 1024) :
    Cert.DownLossRefIdeal.Read.val_main_v35 (F := Ideal) (m (c.tc.loc main_arg0)) (m (c.tc.loc main_arg1))
    (m (c.tc.loc main_arg2)) (m (c.tc.loc main_arg3)) (m (c.tc.loc main_arg4)) (ix3 b s j) = dy m c b s j := by
  rw [Cert.DownLossRefIdeal.Read.cots]
  unfold dy
  by_cases hs : 16 ≤ s.val
  · rw [dif_pos hs, dif_pos hs, Cert.DownLossRefIdeal.Read.cot, e_eq, Loss.cot (e_real m c hp b _ j)]
  · rw [dif_neg hs, dif_neg hs]

theorem dStream_eq (b : Fin 2) (s : Fin 2064) (j : Fin 1024) :
    Cert.DownLossRefIdeal.Read.val_main_v55 (F := Ideal) (m (c.tc.loc main_arg0)) (m (c.tc.loc main_arg1))
    (m (c.tc.loc main_arg2)) (m (c.tc.loc main_arg3)) (m (c.tc.loc main_arg4)) (ix3 b s j) = dStream m c b s j := by
  rw [Cert.DownLossRefIdeal.Read.stream]
  unfold Cert.DownLossRefIdeal.Read.pull
  simp only [o_eq, dy_eq m c hp]
  rfl

/-- The stream's gradient as the kernel writes it. -/
theorem dStream_kernel (b : Fin 2) (s : Fin 2064) (j : Fin 1024) :
    Ideal.rsqrt (meanSq (o m c b s)) * (dy m c b s j * g m c j
      - o m c b s j * Ideal.rsqrt (meanSq (o m c b s))
        * Ideal.div (∑ k, dy m c b s k * g m c k * (o m c b s k * Ideal.rsqrt (meanSq (o m c b s))))
          (Ideal.ofBits .f32 0x44800000#32)) = dStream m c b s j := by
  have h := RmsGrad.row 0 (o m c b s) (fun k => dy m c b s k * g m c k) (o_real m c hp b s)
    (fun k => (dy_real m c hp b s k).mul (gain_real m c hp k)) j
  rw [zero_add, zero_add] at h
  exact h

omit hp

theorem dyRow_eq (r : Fin 4224) (j : Fin 1024) :
    errRow m c r j * Ideal.ofBits .f32 0x3A800000#32 = padded (dy m c) r j := by
  rw [errRow_eq]
  unfold late
  by_cases hr : 48 ≤ r.val % 2112
  · rw [padded_of_le _ _ _ hr]
    unfold dy
    by_cases hs : 64 ≤ r.val % 2112
    · rw [dif_pos hs, dif_pos (by show 16 ≤ r.val % 2112 - 48; omega)]
      exact congrArg (e m c _ · j * _) (Fin.ext (by show r.val % 2112 - 64 = r.val % 2112 - 48 - 16; omega))
    · rw [dif_neg hs, dif_neg (by show ¬ 16 ≤ r.val % 2112 - 48; omega), zero_mul]
  · rw [padded_of_lt _ _ _ (by omega), dif_neg (by omega), zero_mul]

include hp

theorem streamRow_eq (r : Fin 4224) (j : Fin 1024) : streamRow m c r j = padded (dStream m c) r j := by
  unfold streamRow
  simp only [dyRow_eq]
  rw [show outRow m c r = padded (o m c) r from funext fun k => outRow_eq m c r k]
  by_cases hr : r.val % 2112 < 48
  · simp only [padded_of_lt _ _ _ hr, zero_mul, mul_zero, sub_zero]
  · have hr' : 48 ≤ r.val % 2112 := not_lt.mp hr
    rw [show padded (o m c) r = o m c _ _ from funext fun k => padded_of_le _ _ _ hr',
      show padded (dy m c) r = dy m c _ _ from funext fun k => padded_of_le _ _ _ hr',
      padded_of_le _ _ _ hr', dStream_kernel m c hp]

/-! ## The result arrays -/

/-- The stream's gradient as the reference computes it. -/
theorem stream_eq :
    (dats m 0 c).arrAt 6 cfg0.N = Cert.DownLossRefIdeal.Read.val_main_v57 (F := Ideal) (m (c.tc.loc main_arg0)) (m (c.tc.loc main_arg1))
    (m (c.tc.loc main_arg2)) (m (c.tc.loc main_arg3)) (m (c.tc.loc main_arg4)) := by
  funext i
  idx_vars i
  refine (final6 m c i0 i1).trans ?_
  rw [streamRow_eq m c hp, Cert.DownLossRefIdeal.Read.padded_stream]
  simp only [dStream_eq m c hp]

/-- The rows that have a target, their squares. -/
theorem sum_sq : ∑ r, sqRow m c r = ∑ b, ∑ s, ∑ j, e m c b s j * e m c b s j := by
  refine Loss.sum_late _ _ (fun r hr => ?_) fun r hr => ?_ <;> unfold sqRow <;> simp only [errRow_eq] <;> unfold late
  · simp only [dif_neg (show ¬ 64 ≤ r.val % 2112 by omega), zero_mul, Finset.sum_const_zero]
  · simp only [dif_pos hr]

theorem errRow_real (r : Fin 4224) (j : Fin 1024) : IsReal (errRow m c r j) := by
  rw [errRow_eq]
  unfold late
  by_cases hr : 64 ≤ r.val % 2112
  · rw [dif_pos hr]
    exact e_real m c hp _ _ j
  · rw [dif_neg hr]
    exact isReal_zero

theorem sqRow_real (r : Fin 4224) : IsReal (sqRow m c r) :=
  IsReal.sum _ fun j => (errRow_real m c hp r j).mul (errRow_real m c hp r j)

/-- The loss as the reference computes it. -/
theorem loss_eq :
    (dats m 0 c).arrAt 7 cfg0.N = Cert.DownLossRefIdeal.Read.val_main_v58 (F := Ideal) (m (c.tc.loc main_arg0)) (m (c.tc.loc main_arg1))
    (m (c.tc.loc main_arg2)) (m (c.tc.loc main_arg3)) (m (c.tc.loc main_arg4)) := by
  funext i
  idx_vars i
  obtain rfl : i0 = 0 := Subsingleton.elim _ _
  rw [Cert.DownLossRefIdeal.Read.loss]
  simp only [e_eq]
  have hs : ∀ b s, IsReal (∑ j, e m c b s j * e m c b s j) := fun b s =>
    IsReal.sum _ fun j => (e_real m c hp b s j).mul (e_real m c hp b s j)
  have hq : ∀ t q, IsReal (∑ r, sqRow m c (row t q r)) := fun t q => IsReal.sum _ fun r => sqRow_real m c hp _
  refine (final7 m c i1).trans ?_
  rw [Loss.inv_2048]
  refine ((Finset.sum_congr rfl fun t _ => Loss.sum_mul _ (hq t) _).trans
    (Loss.sum_mul _ (fun t => IsReal.sum _ (hq t)) _)).trans ?_
  refine (congrArg (· * _) ((sum_parts (sqRow m c)).trans (sum_sq m c hp))).trans ?_
  simp only [Loss.half, ofBits_1024, Ideal.div_coe (show (1024 : ℝ) ≠ 0 by norm_num), Loss.sum_mul _ (hs _),
    Loss.sum_mul _ fun b => IsReal.sum _ (hs b)]
  obtain ⟨x, hx⟩ := IsReal.sum Finset.univ fun b => IsReal.sum Finset.univ (hs b)
  rw [hx]
  simp only [← EReal.coe_mul]
  congr 1
  ring

/-- The gain's gradient as the reference computes it. -/
theorem gain_eq :
    (dats m 0 c).arrAt 8 cfg0.N = Cert.DownLossRefIdeal.Read.val_main_v59 (F := Ideal) (m (c.tc.loc main_arg0)) (m (c.tc.loc main_arg1))
    (m (c.tc.loc main_arg2)) (m (c.tc.loc main_arg3)) (m (c.tc.loc main_arg4)) := by
  funext i
  idx_vars i
  obtain rfl : i0 = 0 := Subsingleton.elim _ _
  refine (final8 m c i1).trans ?_
  rw [Cert.DownLossRefIdeal.Read.gain]
  refine sum_rows _ _ (fun r hr => ?_) fun r hr => ?_ <;> unfold gainRow <;> rw [dyRow_eq]
  · rw [padded_of_lt _ _ _ hr, zero_mul]
  · rw [Cert.DownLossRefIdeal.Read.gain_row, dy_eq m c hp, padded_of_le _ _ _ hr, mul_comm]
    simp only [o_eq]
    rw [show outRow m c r = o m c _ _ from funext fun k => (outRow_eq m c r k).trans (padded_of_le _ _ _ hr)]

end Cert.DownLossIdeal.Value
end
-- ==== Proof.GlaChunk.lean ====
module

public import Idealize.ShloMosaic.Lib.Pointwise
public import Idealize.ShloMosaic.Lib.Claim

/-!
Gated linear attention over a sequence cut into chunks of 64 rows, four heads of 64 key lanes and 128 value lanes. What a chunk
gives of its own rows and of the state it is entered with: the scores between its rows, what the state adds, the state it hands
on; and the states that enter the chunks of a sequence, one after the other.
-/

@[expose] public section

noncomputable section

open Idealize.ShloMosaic

namespace Gla

/-- Lane `d` of head `h` among the key lanes. -/
abbrev lane (h : Fin 4) (d : Fin 64) : Fin 256 := ⟨h.val * 64 + d.val, by omega⟩
/-- Lane `w` of head `h` among the value lanes. -/
abbrev vlane (h : Fin 4) (w : Fin 128) : Fin 512 := ⟨h.val * 128 + w.val, by omega⟩
/-- The head a key lane belongs to. -/
abbrev headOf (l : Fin 256) : Fin 4 := ⟨l.val / 64, by omega⟩

/-- The scale of the queries. -/
def scale : EReal := Ideal.ofBits .f32 0x3E000000#32

section Chunk
variable (q k a : Fin 64 → Fin 256 → EReal) (v : Fin 64 → Fin 512 → EReal) (st : Fin 128 → Fin 256 → EReal)

/-- The running sum of the gates' logarithms. -/
def run (i : Fin 64) (l : Fin 256) : EReal := ∑ x, if x ≤ i then a x l else 0
/-- The query, with the decay from the chunk's beginning. -/
def qIn (i : Fin 64) (l : Fin 256) : EReal := q i l * scale * Ideal.exp (run a i l)
/-- The key, without it. -/
def kIn (i : Fin 64) (l : Fin 256) : EReal := k i l * Ideal.exp (-run a i l)
/-- The key, with the decay to the chunk's end. -/
def kEnd (i : Fin 64) (l : Fin 256) : EReal := k i l * Ideal.exp (run a 63 l - run a i l)
/-- The score of row `j` for row `i`. -/
def score (h : Fin 4) (i j : Fin 64) : EReal :=
  if j ≤ i then ∑ d, qIn q a i (lane h d) * kIn k a j (lane h d) else 0
/-- What the chunk's own rows give. -/
def intra (h : Fin 4) (i : Fin 64) (w : Fin 128) : EReal := ∑ j, score q k a h i j * v j (vlane h w)
/-- What the state gives. -/
def inter (h : Fin 4) (i : Fin 64) (w : Fin 128) : EReal := ∑ d, qIn q a i (lane h d) * st w (lane h d)
/-- What the chunk adds to the state. -/
def kv (w : Fin 128) (l : Fin 256) : EReal := ∑ j, v j (vlane (headOf l) w) * kEnd k a j l
/-- The state after the chunk. -/
def next (w : Fin 128) (l : Fin 256) : EReal := Ideal.exp (run a 63 l) * st w l + kv k a v w l
/-- What a row attends to. -/
def out (h : Fin 4) (i : Fin 64) (w : Fin 128) : EReal := intra q k a v h i w + inter q a st h i w

end Chunk

/-- A row of a head, divided by its root mean square. -/
def normed (o : Fin 128 → EReal) (w : Fin 128) : EReal :=
  o w * Ideal.rsqrt (Ideal.div (∑ x, o x * o x) (Ideal.ofBits .f32 0x43000000#32) + Ideal.ofBits .f32 0x358637BD#32)

/-- The gate of an output lane. -/
def gate (n g : EReal) : EReal := n * (g * Ideal.div 1 (1 + Ideal.exp (-g)))

/-- The logarithm of the gate of a key lane, before it is divided by the temperature. -/
def logGate (z : EReal) : EReal := min z 0 - Ideal.log (1 + Ideal.exp (0 - FloatOps.absf (F := Ideal) (φ := .f32) z))

theorem logGate_coe (z : ℝ) : logGate z = ((min z 0 - Real.log (1 + Real.exp (0 - |z|)) : ℝ) : EReal) := by
  have h : ¬ (1 + Real.exp (0 - |z|) ≤ 0) := not_le.mpr (by positivity)
  have h1 : max (z : EReal) (-(z : EReal)) = ((|z| : ℝ) : EReal) := by
    rw [abs, ← EReal.coe_neg]; exact (EReal.coe_strictMono.monotone.map_max).symm
  have h2 : min (z : EReal) 0 = ((min z 0 : ℝ) : EReal) := (EReal.coe_strictMono.monotone.map_min (a := z) (b := 0)).symm
  unfold logGate
  rw [Ideal.absf_def, h1, h2, ← EReal.coe_zero, ← EReal.coe_sub, Ideal.exp_coe, ← EReal.coe_one, ← EReal.coe_add, Ideal.log_coe,
    if_neg h, ← EReal.coe_sub]

/-- Chunk `n` of a sequence. -/
abbrev chunk {s : ℕ} (x : ℕ → Fin s → EReal) (n : ℕ) (i : Fin 64) (l : Fin s) : EReal := x (64 * n + i.val) l

/-- The state that enters chunk `n`. -/
def state (k a : ℕ → Fin 256 → EReal) (v : ℕ → Fin 512 → EReal) : ℕ → Fin 128 → Fin 256 → EReal
  | 0 => fun _ _ => 0
  | n + 1 => next (chunk k n) (chunk a n) (chunk v n) (state k a v n)

/-- The attended rows of chunk `n`. -/
def attended (q k a : ℕ → Fin 256 → EReal) (v : ℕ → Fin 512 → EReal) (n : ℕ) (h : Fin 4) (i : Fin 64) (w : Fin 128) : EReal :=
  out (chunk q n) (chunk k n) (chunk a n) (chunk v n) (state k a v n) h i w

/-- The rows of an example behind 48 rows of zeros. -/
def behind {s : ℕ} (x : Fin 2064 → Fin s → EReal) (r : ℕ) (l : Fin s) : EReal :=
  if h : 48 ≤ r ∧ r < 2112 then x ⟨r - 48, by omega⟩ l else 0

/-- They as padding reads, up and down and to the right. -/
theorem dite_behind {n : ℕ} (x : Fin 2064 → Fin n → EReal) (z : EReal) (hz : z = 0) (r l : ℕ) (hr : r < 2112) (hl : l < n) :
    (if h : (48 ≤ r ∧ r - 48 < 2064) ∧ l < n then x ⟨r - 48, h.1.2⟩ ⟨l, h.2⟩ else z) = behind x r ⟨l, hl⟩ := by
  unfold behind
  by_cases h : 48 ≤ r
  · rw [dif_pos ⟨⟨h, by omega⟩, hl⟩, dif_pos ⟨h, hr⟩]
  · rw [dif_neg (by omega), dif_neg (by omega), hz]

theorem sum_head (f : Fin 256 → EReal) (h : Fin 4) : (∑ l, if headOf l = h then f l else 0) = ∑ d, f (lane h d) := by
  rw [Fin.sum_univ_tiles 4 64 (by norm_num)]
  rw [Finset.sum_eq_single h]
  · refine Finset.sum_congr rfl fun d _ => ?_
    exact if_pos (Fin.ext (by show (h.val * 64 + d.val) / 64 = h.val; omega))
  · intro b _ hb
    refine Finset.sum_eq_zero fun d _ => if_neg fun e => hb (Fin.ext ?_)
    have e' : (b.val * 64 + d.val) / 64 = h.val := congrArg Fin.val e
    omega
  · exact fun hh => absurd (Finset.mem_univ _) hh

/-- Four blocks of 64 rows, one under the other, at a row. -/
theorem unstack {α : Type} (F : Fin 4 → Fin 64 → α) (h : Fin 4) (i : Fin 64) :
    (if h1 : h.val * 64 + i.val < 64 then F 0 ⟨h.val * 64 + i.val, h1⟩
      else if h2 : h.val * 64 + i.val - 64 < 64 then F 1 ⟨h.val * 64 + i.val - 64, h2⟩
      else if h3 : h.val * 64 + i.val - 64 - 64 < 64 then F 2 ⟨h.val * 64 + i.val - 64 - 64, h3⟩
      else F 3 ⟨h.val * 64 + i.val - 64 - 64 - 64, by omega⟩) = F h i := by
  have hi := i.isLt
  match h with
  | 0 => rw [dif_pos (by simp)]; congr 1; exact Fin.ext (by simp)
  | 1 => rw [dif_neg (by simp), dif_pos (by simp)]; congr 1; exact Fin.ext (by simp)
  | 2 => rw [dif_neg (by simp; omega), dif_neg (by simp; omega), dif_pos (by simp; omega)]; congr 1; exact Fin.ext (by simp; omega)
  | 3 => rw [dif_neg (by simp; omega), dif_neg (by simp; omega), dif_neg (by simp; omega)]; congr 1; exact Fin.ext (by simp; omega)

/-- Four blocks of 128 lanes, one beside the other, at a lane. -/
theorem unbeside {α : Type} (F : Fin 4 → Fin 128 → α) (h : Fin 4) (i : Fin 128) :
    (if h1 : h.val * 128 + i.val < 128 then F 0 ⟨h.val * 128 + i.val, h1⟩
      else if h2 : h.val * 128 + i.val - 128 < 128 then F 1 ⟨h.val * 128 + i.val - 128, h2⟩
      else if h3 : h.val * 128 + i.val - 128 - 128 < 128 then F 2 ⟨h.val * 128 + i.val - 128 - 128, h3⟩
      else F 3 ⟨h.val * 128 + i.val - 128 - 128 - 128, by omega⟩) = F h i := by
  have hi := i.isLt
  match h with
  | 0 => rw [dif_pos (by simp)]; congr 1; exact Fin.ext (by simp)
  | 1 => rw [dif_neg (by simp), dif_pos (by simp)]; congr 1; exact Fin.ext (by simp)
  | 2 => rw [dif_neg (by simp; omega), dif_neg (by simp; omega), dif_pos (by simp; omega)]; congr 1; exact Fin.ext (by simp; omega)
  | 3 => rw [dif_neg (by simp; omega), dif_neg (by simp; omega), dif_neg (by simp; omega)]; congr 1; exact Fin.ext (by simp; omega)

end Gla

end
-- ==== Proof.GlaFwdHost.lean ====
module

public import Idealize.ShloMosaic.Lib.Pointwise
public import Idealize.ShloMosaic.Lib.Claim
public import Idealize.ShloMosaic.Lib.KernelVsHost
public import Idealize.ShloMosaic.Lib.Pipeline.ValueKit
public import proofs.«01_k».proof.Proof.Gen.GlaFwdIdeal.Frame
public import proofs.«01_k».proof.Proof.GlaChunk
public import proofs.«01_k».proof.Proof.RmsGrad

/-!
What the host hands to the call of the gated linear attention: the projected rows behind 48 rows of zeros, with columns of zeros
behind them, and the second gate projection with rows of zeros below; and the queries, keys, values and gates these rows hold.
-/

@[expose] public section

set_option maxRecDepth 16384

noncomputable section

open Idealize.ShloMosaic Idealize.ShloMosaic.TcCoe Idealize.SL.Sem
open Gla RmsGrad

namespace Cert.GlaFwdIdeal.Host
open Cert.GlaFwdIdeal Cert.GlaFwdIdeal.Gen
variable (m : (ℓ : Loc nD τ sig) → Buf (Elt Ideal) ℓ) (c : Dev nD)

/-- A projected row of an example. -/
def u (e : Fin 2) (s : Fin 2064) (l : Fin 2576) : EReal := m (c.tc.loc main_arg0) (ix3 e s l)
/-- The gates' second projection. -/
def w2 (x : Fin 16) (l : Fin 256) : EReal := m (c.tc.loc main_arg1) (ix3 0 x l)
/-- The gates' bias. -/
def gb (l : Fin 256) : EReal := m (c.tc.loc main_arg2) (ix2 0 l)
/-- The gain of the heads' norm. -/
def ng (w : Fin 128) : EReal := m (c.tc.loc main_arg3) (ix2 0 w)

/-- What the padding holds, an integer zero converted. -/
abbrev zero : FVec Ideal S_ .f32 := sitofp .f32 (constantI S_ 32 0#32)
abbrev zero' : FVec Ideal S_ .bf16 := sitofp .bf16 (constantI S_ 32 0#32)

/-- The projected rows, padded. -/
def up : FVec Ideal S2x2112x2688 .f32 := V m c main_v6

theorem up_eq : up m c = shapeCast S2x2112x2688 (pad S4224x2688 ![0, 0] ![0, 112] ![0, 0]
    (shapeCast S4224x2576 (pad S2x2112x2576 ![0, 48, 0] ![0, 0, 0] ![0, 0, 0]
      (m (c.tc.loc main_arg0) : FVec Ideal S2x2064x2576 .f32) zero pads_S2x2064x2576_S2x2112x2576_000_4800_000 h_S_)
      shapeCasts_S2x2112x2576_S4224x2576) zero pads_S4224x2576_S4224x2688_000_01120 h_S_)
    shapeCasts_S4224x2688_S2x2112x2688 := by
  unfold up
  simp only [V, List.flatten_cons, List.flatten_nil, List.cons_append, List.nil_append]
  entry_read
  rfl

theorem rows_apply (x : FVec Ideal S2x2064x2576 .f32) (e : Fin 2) (r : Fin 2112) (l : Fin 2688) (hl : l.val < 2576) :
    shapeCast S2x2112x2688 (pad S4224x2688 ![0, 0] ![0, 112] ![0, 0]
    (shapeCast S4224x2576 (pad S2x2112x2576 ![0, 48, 0] ![0, 0, 0] ![0, 0, 0] x zero
      pads_S2x2064x2576_S2x2112x2576_000_4800_000 h_S_)
      shapeCasts_S2x2112x2576_S4224x2576) zero pads_S4224x2576_S4224x2688_000_01120 h_S_)
    shapeCasts_S4224x2688_S2x2112x2688 (ix3 e r l) = behind (fun s l => x (ix3 e s l)) r.val (⟨l.val, hl⟩ : Fin 2576) := by
  pointwise
  have h1 : e.val * 2112 + r.val < 4224 ∧ l.val < 2576 := ⟨by omega, hl⟩
  refine (dif_pos h1).trans ?_
  exact dite_behind (fun s l => x (ix3 e s l)) _ (sitofp_zero (φ := .f32)) r.val l.val r.isLt hl

theorem up_apply (e : Fin 2) (r : Fin 2112) (l : Fin 2688) (hl : l.val < 2576) :
    up m c (ix3 e r l) = behind (u m c e) r.val ⟨l.val, hl⟩ := by
  rw [up_eq]; exact rows_apply _ e r l hl

/-- The second projection, padded. -/
def wp : FVec Ideal S128x256 .bf16 := V m c main_v5

theorem wp_eq : wp m c = pad S128x256 ![0, 0] ![112, 0] ![0, 0]
    (truncf .bf16 (shapeCast S16x256 (m (c.tc.loc main_arg1) : FVec Ideal S1x16x256 .f32) shapeCasts_S1x16x256_S16x256)
      bitsLt_bf16_f32) zero' pads_S16x256_S128x256_01120_000 h_S_ := by
  unfold wp
  simp only [V, List.flatten_cons, List.flatten_nil, List.cons_append, List.nil_append]
  entry_read
  rfl

theorem gate2_apply (x : FVec Ideal S1x16x256 .f32) (r : Fin 128) (l : Fin 256) :
    pad S128x256 ![0, 0] ![112, 0] ![0, 0] (truncf .bf16 (shapeCast S16x256 x shapeCasts_S1x16x256_S16x256)
      bitsLt_bf16_f32) zero' pads_S16x256_S128x256_01120_000 h_S_ (ix2 r l)
      = if h : r.val < 16 then x (ix3 0 ⟨r.val, h⟩ l) else 0 := by
  pointwise
  refine dite_congr rfl (fun _ => rfl) fun _ => sitofp_zero (φ := .bf16)

theorem wp_apply (r : Fin 128) (l : Fin 256) : wp m c (ix2 r l) = if h : r.val < 16 then w2 m c ⟨r.val, h⟩ l else 0 := by
  rw [wp_eq]; exact gate2_apply _ r l

/-! ## What the rows hold, an example's rows behind 48 rows of zeros -/

/-- The queries. -/
def q (e : Fin 2) (r : ℕ) (l : Fin 256) : EReal := behind (fun s l => u m c e s ⟨1024 + l.val, by omega⟩) r l
/-- The keys. -/
def k (e : Fin 2) (r : ℕ) (l : Fin 256) : EReal := behind (fun s l => u m c e s ⟨1280 + l.val, by omega⟩) r l
/-- The values. -/
def v (e : Fin 2) (r : ℕ) (l : Fin 512) : EReal := behind (fun s l => u m c e s ⟨1536 + l.val, by omega⟩) r l
/-- The output's gates. -/
def g (e : Fin 2) (r : ℕ) (l : Fin 512) : EReal := behind (fun s l => u m c e s ⟨2048 + l.val, by omega⟩) r l
/-- A row's gates before the logarithm of the sigmoid. -/
def z (e : Fin 2) (s : Fin 2064) (l : Fin 256) : EReal := (∑ x : Fin 16, u m c e s ⟨2560 + x.val, by omega⟩ * w2 m c x l) + gb m c l
/-- The logarithms of the gates. -/
def a (e : Fin 2) (r : ℕ) (l : Fin 256) : EReal :=
  behind (fun s l => logGate (z m c e s l) * Ideal.ofBits .f32 0x3D800000#32) r l

theorem up_q (e : Fin 2) (r : Fin 2112) (l : Fin 256) : up m c (ix3 e r ⟨1024 + l.val, by omega⟩) = q m c e r.val l :=
  up_apply m c e r _ _
theorem up_k (e : Fin 2) (r : Fin 2112) (l : Fin 256) : up m c (ix3 e r ⟨1280 + l.val, by omega⟩) = k m c e r.val l :=
  up_apply m c e r _ (by show 1280 + l.val < 2576; omega)
theorem up_v (e : Fin 2) (r : Fin 2112) (l : Fin 512) : up m c (ix3 e r ⟨1536 + l.val, by omega⟩) = v m c e r.val l :=
  up_apply m c e r _ (by show 1536 + l.val < 2576; omega)
theorem up_g (e : Fin 2) (r : Fin 2112) (l : Fin 512) : up m c (ix3 e r ⟨2048 + l.val, by omega⟩) = g m c e r.val l :=
  up_apply m c e r _ (by show 2048 + l.val < 2576; omega)

/-- The logarithms of the gates as the padded rows and the padded projection give them. -/
theorem up_a (e : Fin 2) (r : Fin 2112) (l : Fin 256) :
    (if r.val < 48 then 0 else logGate ((∑ x : Fin 128, up m c (ix3 e r ⟨2560 + x.val, by omega⟩) * wp m c (ix2 x l)) + gb m c l)
      * Ideal.ofBits .f32 0x3D800000#32) = a m c e r.val l := by
  unfold a behind
  by_cases hr : r.val < 48
  · rw [if_pos hr, dif_neg (by omega)]
  · rw [if_neg hr, dif_pos ⟨by omega, r.isLt⟩]
    unfold z
    refine congrArg (fun s => logGate (s + gb m c l) * Ideal.ofBits .f32 0x3D800000#32) ?_
    rw [Fin.sum_univ_two_halves 16 112 rfl, Finset.sum_eq_zero (s := (Finset.univ : Finset (Fin 112))), add_zero]
    · refine Finset.sum_congr rfl fun x _ => ?_
      rw [up_apply m c e r _ (by show 2560 + x.val < 2576; omega), wp_apply, dif_pos x.isLt]
      unfold behind
      rw [dif_pos ⟨by omega, r.isLt⟩]
    · intro x _
      rw [wp_apply, dif_neg (by show ¬ 16 + x.val < 16; omega), mul_zero]

/-- What is asked of the arguments: nothing that decides over a gate is infinite. -/
def Fin₃ : Prop := (∀ e s l, IsReal (u m c e s l)) ∧ (∀ x l, IsReal (w2 m c x l)) ∧ ∀ l, IsReal (gb m c l)

variable {m c}

theorem z_real (h : Fin₃ m c) (e : Fin 2) (s : Fin 2064) (l : Fin 256) : IsReal (z m c e s l) :=
  (IsReal.sum _ fun x => (h.1 e s _).mul (h.2.1 x l)).add (h.2.2 l)

theorem logGate_real {z : EReal} (h : IsReal z) : IsReal (logGate z) := by
  obtain ⟨z, rfl⟩ := h
  rw [logGate_coe]
  exact ⟨_, rfl⟩

theorem a_real (h : Fin₃ m c) (e : Fin 2) (r : ℕ) (l : Fin 256) : IsReal (a m c e r l) := by
  unfold a behind
  split
  · exact (logGate_real (z_real h e _ l)).mul ⟨1 / 16, by simp [Ideal.ofBits, Ideal.ieee, -EReal.coe_mul]; norm_num⟩
  · exact isReal_zero

end Cert.GlaFwdIdeal.Host
end
-- ==== Proof.GlaFwdBlock.lean ====
module

public import Idealize.ShloMosaic.Lib.Pointwise
public import Idealize.ShloMosaic.Lib.Pipeline.ValueKit
public import proofs.«01_k».proof.Proof.Gen.GlaFwdIdeal.Frame
public import proofs.«01_k».proof.Proof.RmsGrad
public import proofs.«01_k».proof.Proof.GlaChunk

/-!
What the forward call of the gated linear attention computes of one chunk, entry by entry. The six chunks of a block are printed
split differently: the others are the first under other names.
-/

@[expose] public section

set_option maxRecDepth 16384

noncomputable section

open Idealize.ShloMosaic Idealize.ShloMosaic.TcCoe Idealize.SL.Sem
open RmsGrad Gla

namespace Cert.GlaFwdIdeal.Block
open Cert.GlaFwdIdeal Cert.GlaFwdIdeal.Gen

/-- Row `i` of head `h` of the four heads stacked. -/
abbrev srow (h : Fin 4) (i : Fin 64) : Fin 256 := ⟨h.val * 64 + i.val, by omega⟩

theorem srow_eq (h : Fin 4) (i : Fin 64) : (![⟨i.val, by omega⟩, ⟨64 + i.val, by omega⟩, ⟨128 + i.val, by omega⟩,
    ⟨192 + i.val, by omega⟩] : Fin 4 → Fin 256) h = srow h i := by
  match h with
  | 0 => exact Fin.ext (by simp)
  | 1 => exact Fin.ext (by simp)
  | 2 => exact Fin.ext (by simp)
  | 3 => exact Fin.ext (by simp)

theorem vlane_eq (h : Fin 4) (w : Fin 128) : (![⟨w.val, by omega⟩, ⟨128 + w.val, by omega⟩, ⟨256 + w.val, by omega⟩,
    ⟨384 + w.val, by omega⟩] : Fin 4 → Fin 512) h = vlane h w := by
  match h with
  | 0 => exact Fin.ext (by simp)
  | 1 => exact Fin.ext (by simp)
  | 2 => exact Fin.ext (by simp)
  | 3 => exact Fin.ext (by simp)

/-! ## The masks -/

theorem bit (p : BitVec 1) : p = 0#1 ∨ p = 1#1 := by revert p; decide

theorem live_first (i : Fin 64) : IntOp.ori (Scalar.xori 1#1 1#1) (IntOp.cmpi CmpIPredicate.sge (BitVec.ofNat 32 i.val) 48#32)
    = if i.val < 48 then 0#1 else 1#1 := by
  revert i; decide +kernel

theorem live_other (i : Fin 64) : IntOp.ori (Scalar.xori 0#1 1#1) (IntOp.cmpi CmpIPredicate.sge (BitVec.ofNat 32 i.val) 48#32)
    = 1#1 := by
  revert i; decide +kernel

theorem tri (i x : Fin 64) : FloatOps.sitofp (F := Ideal) FTy.f32 (BitVec.setWidth 32
    (IntOp.cmpi CmpIPredicate.sge (BitVec.ofNat 32 i.val) (BitVec.ofNat 32 x.val))) = if x ≤ i then 1 else 0 := by
  have e : BitVec.setWidth 32 (IntOp.cmpi CmpIPredicate.sge (BitVec.ofNat 32 i.val) (BitVec.ofNat 32 x.val))
      = if x ≤ i then 1#32 else 0#32 := by
    revert i x; decide +kernel
  rw [e]
  split
  · show (((1#32 : BitVec 32).toInt : ℝ) : EReal) = 1
    simp
  · show (((0#32 : BitVec 32).toInt : ℝ) : EReal) = 0
    simp

/-- A word divided by 64, rounded down. -/
def floor64 (b : BitVec 32) : BitVec 32 :=
  Scalar.select
    (IntOp.andi
      (IntOp.cmpi CmpIPredicate.ne
        (IntOp.subi (BitVec.setWidth 32 (IntOp.cmpi CmpIPredicate.sgt b 0#32))
          (BitVec.setWidth 32 (IntOp.cmpi CmpIPredicate.slt b 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector b 64#32) 0#32))
    (IntOp.subi (IntOp.divsi ArithUnit.vector b 64#32) 1#32)
    (IntOp.divsi ArithUnit.vector b 64#32)

theorem floor64_ofNat (n : Fin 256) : floor64 (BitVec.ofNat 32 n.val) = BitVec.ofNat 32 (n.val / 64) := by
  revert n; decide +kernel

theorem eq_heads (a b : Fin 4) : IntOp.cmpi CmpIPredicate.eq (BitVec.ofNat 32 a.val) (BitVec.ofNat 32 b.val) = if b = a then 1#1 else 0#1 := by
  revert a b; decide +kernel

theorem select_ite {α : Type} (p : Prop) [Decidable p] (x y : α) : Scalar.select (if p then 1#1 else 0#1) x y = if p then x else y := by
  split <;> rfl

/-! ## The gate -/

/-- The gates' logarithms. -/
def aB (p : BitVec 1) (lr : Vec Ideal S1x64x128 .f32) (w2 : Vec Ideal S128x256 .bf16) (gb : Vec Ideal S1x256 .f32) : FVec Ideal S64x256 .f32 :=
  k0_pay14 p (k0_pay11 lr w2 gb) (k0_pay12 lr w2 gb) k0_pay13

theorem aB_apply (p : BitVec 1) (lr : Vec Ideal S1x64x128 .f32) (w2 : Vec Ideal S128x256 .bf16) (gb : Vec Ideal S1x256 .f32)
    (i : Fin 64) (l : Fin 256) : aB p lr w2 gb (ix2 i l) = if p = 1#1 ∧ i.val < 48 then 0
      else logGate (∑ x : Fin 128, lr (ix3 0 i x) * w2 (ix2 x l) + gb (ix2 0 l)) * Ideal.ofBits .f32 0x3D800000#32 := by
  unfold aB logGate
  pointwise [k0_pay14, k0_pay11, k0_pay12, k0_pay13, k0_pay10]
  rcases bit p with rfl | rfl
  · rw [live_other, if_neg (by simp)]; rfl
  · rw [live_first]
    by_cases h : i.val < 48
    · rw [if_pos h, if_pos ⟨rfl, h⟩]; rfl
    · rw [if_neg h, if_neg (fun e => h e.2)]; rfl

/-- Their running sums. -/
def bB (a : FVec Ideal S64x256 .f32) : FVec Ideal S64x256 .f32 := k0_pay53 a

theorem bB_apply (a : FVec Ideal S64x256 .f32) (ha : ∀ i l, IsReal (a (ix2 i l))) (i : Fin 64) (l : Fin 256) :
    bB a (ix2 i l) = run (fun i l => a (ix2 i l)) i l := by
  have hs : ∀ i l, a (ix2 i l) - a (ix2 i l) = 0 := fun i l => by
    obtain ⟨r, hr⟩ := ha i l
    rw [hr, ← EReal.coe_sub, sub_self, EReal.coe_zero]
  unfold bB run
  pointwise [k0_pay53]
  simp only [hs, tri, mul_zero, Finset.sum_const_zero, add_zero, sub_zero, dite_eq_ite]
  have h5 : ¬ 512 + l.val < 256 := by omega
  simp only [h5, dite_false, ite_self, mul_zero, Finset.sum_const_zero, add_zero, ite_mul, one_mul, zero_mul]

section Rows
variable (qk : Vec Ideal S1x64x512 .f32) (b : FVec Ideal S64x256 .f32)

/-- The queries, with the decay from the chunk's beginning, each row once per head and zero outside its head's lanes. -/
def qx : FVec Ideal S256x256 .bf16 :=
  k0_pay75 (k0_pay69 (k0_pay7 qk) b) (iota .tc S256x256 32 [0] iota_S256x256_d0_w32) 64#32 k0_pay72 k0_pay73 k0_pay74

theorem qx_apply (h : Fin 4) (i : Fin 64) (l : Fin 256) :
    qx qk b (ix2 (srow h i) l) = if headOf l = h then qk (ix3 0 i ⟨l.val, by omega⟩) * scale * Ideal.exp (b (ix2 i l)) else 0 := by
  unfold qx scale
  pointwise [k0_pay75, k0_pay72, k0_pay73, k0_pay74, k0_pay69, k0_pay7, k0_pay6]
  show Scalar.select (IntOp.cmpi CmpIPredicate.eq (floor64 (BitVec.ofNat 32 (srow h i).val)) (floor64 (BitVec.ofNat 32 l.val))) _ _ = _
  rw [floor64_ofNat, floor64_ofNat, show (srow h i).val / 64 = h.val by show (h.val * 64 + i.val) / 64 = h.val; omega]
  rw [show IntOp.cmpi CmpIPredicate.eq (BitVec.ofNat 32 h.val) (BitVec.ofNat 32 (l.val / 64)) = _ from eq_heads h (headOf l), select_ite]
  split
  · exact unstack (fun _ r => qk (ix3 0 r ⟨l.val, by omega⟩) * Ideal.ofBits .f32 0x3E000000#32 * Ideal.exp (b (ix2 r l))) h i
  · rfl

/-- A row among the four heads' stacked rows, within its head. -/
def mod64 (b : BitVec 32) : BitVec 32 :=
  Scalar.select
    (IntOp.andi
      (IntOp.xori
        (IntOp.cmpi CmpIPredicate.slt
          (IntOp.remsi ArithUnit.vector b (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne
        (IntOp.remsi ArithUnit.vector b (Scalar.select (Scalar.cmpi CmpIPredicate.eq 64#32 0#32) 1#32 64#32)) 0#32))
    (IntOp.addi
      (IntOp.remsi ArithUnit.vector b (Scalar.select (Scalar.cmpi CmpIPredicate.eq 64#32 0#32) 1#32 64#32))
      (Scalar.select (Scalar.cmpi CmpIPredicate.eq 64#32 0#32) 1#32 64#32))
    (IntOp.remsi ArithUnit.vector b (Scalar.select (Scalar.cmpi CmpIPredicate.eq 64#32 0#32) 1#32 64#32))

theorem mod64_ofNat (n : Fin 256) : mod64 (BitVec.ofNat 32 n.val) = BitVec.ofNat 32 (n.val % 64) := by
  revert n; decide +kernel

theorem causal (i j : Fin 64) : IntOp.cmpi CmpIPredicate.sge (BitVec.ofNat 32 i.val) (BitVec.ofNat 32 j.val)
    = if j ≤ i then 1#1 else 0#1 := by
  revert i j; decide +kernel

/-- The scores. -/
def sB : FVec Ideal S256x64 .bf16 := k0_pay78 (k0_pay70 (k0_pay8 qk) b) (qx qk b)

theorem sB_apply (h : Fin 4) (i j : Fin 64) : sB qk b (ix2 (srow h i) j)
    = if j ≤ i then ∑ d : Fin 64, (qk (ix3 0 i ⟨(lane h d).val, by omega⟩) * scale * Ideal.exp (b (ix2 i (lane h d))))
        * (qk (ix3 0 j ⟨256 + (lane h d).val, by omega⟩) * Ideal.exp (-b (ix2 j (lane h d)))) else 0 := by
  unfold sB
  pointwise [k0_pay78, k0_pay70, k0_pay8, k0_pay6]
  show Scalar.select (IntOp.cmpi CmpIPredicate.sge (mod64 (BitVec.ofNat 32 (srow h i).val)) (BitVec.ofNat 32 j.val)) _ _ = _
  rw [mod64_ofNat, show (srow h i).val % 64 = i.val by show (h.val * 64 + i.val) % 64 = i.val; omega, causal, select_ite]
  split
  · simp only [qx_apply, ite_mul, zero_mul, zero_sub]
    exact sum_head (fun l => (qk (ix3 0 i ⟨l.val, by omega⟩) * scale * Ideal.exp (b (ix2 i l)))
      * (qk (ix3 0 j ⟨256 + l.val, by omega⟩) * Ideal.exp (-b (ix2 j l)))) h
  · rfl

variable (v : Vec Ideal S1x64x512 .f32)

/-- What the chunk's own rows give. -/
def oB : FVec Ideal S256x128 .f32 := k0_pay140 (k0_pay77 (k0_pay9 v)) (sB qk b)

theorem oB_apply (h : Fin 4) (i : Fin 64) (w : Fin 128) : oB qk b v (ix2 (srow h i) w)
    = ∑ j : Fin 64, sB qk b (ix2 (srow h i) j) * v (ix3 0 j (vlane h w)) := by
  unfold oB
  generalize sB qk b = s
  pointwise [k0_pay140, k0_pay77, k0_pay9]
  refine (unstack (fun h' r => ∑ x : Fin 64, s (ix2 ((![⟨r.val, by omega⟩, ⟨64 + r.val, by omega⟩, ⟨128 + r.val, by omega⟩,
    ⟨192 + r.val, by omega⟩] : Fin 4 → Fin 256) h') x) * v (ix3 0 x ((![⟨w.val, by omega⟩, ⟨128 + w.val, by omega⟩,
    ⟨256 + w.val, by omega⟩, ⟨384 + w.val, by omega⟩] : Fin 4 → Fin 512) h'))) h i).trans ?_
  rw [srow_eq, vlane_eq]

/-- What the chunk adds to the state. -/
def kvB : FVec Ideal S128x256 .f32 :=
  k0_pay146 (k0_pay142 (k0_pay76 (k0_pay71 (k0_pay8 qk) b)) (k0_pay77 (k0_pay9 v)))
    (iota .tc S128x256 32 [1] iota_S128x256_d1_w32) 64#32 k0_pay143 k0_pay144 k0_pay145

theorem fold_heads (F : Fin 4 → EReal) (h : Fin 4) :
    (if (0 : Fin 4) = h then F 0 else 0) + (if (1 : Fin 4) = h then F 1 else 0) + (if (2 : Fin 4) = h then F 2 else 0)
      + (if (3 : Fin 4) = h then F 3 else 0) = F h := by
  match h with
  | 0 => simp
  | 1 => simp
  | 2 => simp
  | 3 => simp

theorem kvB_apply (w : Fin 128) (l : Fin 256) : kvB qk b v (ix2 w l)
    = ∑ j : Fin 64, v (ix3 0 j (vlane (headOf l) w))
        * (qk (ix3 0 j ⟨256 + l.val, by omega⟩) * Ideal.exp (b (ix2 63 l) - b (ix2 j l))) := by
  unfold kvB
  pointwise [k0_pay142, k0_pay146, k0_pay143, k0_pay144, k0_pay145, k0_pay76, k0_pay71, k0_pay68, k0_pay8, k0_pay6, k0_pay77, k0_pay9]
  show Scalar.select (IntOp.cmpi CmpIPredicate.eq (floor64 (BitVec.ofNat 32 l.val)) 0#32) _ _
    + Scalar.select (IntOp.cmpi CmpIPredicate.eq (floor64 (BitVec.ofNat 32 l.val)) 1#32) _ _
    + Scalar.select (IntOp.cmpi CmpIPredicate.eq (floor64 (BitVec.ofNat 32 l.val)) 2#32) _ _
    + Scalar.select (IntOp.cmpi CmpIPredicate.eq (floor64 (BitVec.ofNat 32 l.val)) 3#32) _ _ = _
  rw [floor64_ofNat]
  rw [show IntOp.cmpi CmpIPredicate.eq (BitVec.ofNat 32 (l.val / 64)) 0#32 = _ from eq_heads (headOf l) 0,
    show IntOp.cmpi CmpIPredicate.eq (BitVec.ofNat 32 (l.val / 64)) 1#32 = _ from eq_heads (headOf l) 1,
    show IntOp.cmpi CmpIPredicate.eq (BitVec.ofNat 32 (l.val / 64)) 2#32 = _ from eq_heads (headOf l) 2,
    show IntOp.cmpi CmpIPredicate.eq (BitVec.ofNat 32 (l.val / 64)) 3#32 = _ from eq_heads (headOf l) 3,
    select_ite, select_ite, select_ite, select_ite]
  refine (fold_heads (fun h' => ∑ j : Fin 64, v (ix3 0 j ((![⟨w.val, by omega⟩, ⟨128 + w.val, by omega⟩,
    ⟨256 + w.val, by omega⟩, ⟨384 + w.val, by omega⟩] : Fin 4 → Fin 512) h'))
        * (qk (ix3 0 j ⟨256 + l.val, by omega⟩) * Ideal.exp (b (ix2 63 l) - b (ix2 j l)))) (headOf l)).trans ?_
  rw [vlane_eq]

/-- The state after the chunk. -/
def nextB (st : FVec Ideal S128x256 .f32) : FVec Ideal S128x256 .f32 := k0_pay194 st (k0_pay141 (k0_pay68 b)) (kvB qk b v)

theorem nextB_apply (st : FVec Ideal S128x256 .f32) (w : Fin 128) (l : Fin 256) :
    nextB qk b v st (ix2 w l) = Ideal.exp (b (ix2 63 l)) * st (ix2 w l) + kvB qk b v (ix2 w l) := by
  unfold nextB
  pointwise [k0_pay194, k0_pay141, k0_pay68]

end Rows

/-- The output's gate. -/
def gB (g : Vec Ideal S1x64x512 .f32) (ng : Vec Ideal S1x128 .f32) : FVec Ideal S256x128 .f32 :=
  k0_pay151 (k0_pay147 g) (k0_pay148 g) (k0_pay149 g) (k0_pay150 g) ng

theorem gB_apply (g : Vec Ideal S1x64x512 .f32) (ng : Vec Ideal S1x128 .f32) (h : Fin 4) (i : Fin 64) (w : Fin 128) :
    gB g ng (ix2 (srow h i) w) = gate (ng (ix2 0 w)) (g (ix3 0 i (vlane h w))) := by
  unfold gB gate
  pointwise [k0_pay151, k0_pay147, k0_pay148, k0_pay149, k0_pay150]
  have e := (unstack (fun h' r => g (ix3 0 r ((![⟨w.val, by omega⟩, ⟨128 + w.val, by omega⟩,
    ⟨256 + w.val, by omega⟩, ⟨384 + w.val, by omega⟩] : Fin 4 → Fin 512) h'))) h i).trans
    (congrArg (fun x => g (ix3 0 i x)) (vlane_eq h w))
  rw [zero_sub]
  exact congrArg (fun x => ng (ix2 0 w) * (x * Ideal.div 1 (1 + Ideal.exp (-x)))) e

section Out
variable (st : FVec Ideal S128x256 .f32) (q : FVec Ideal S256x256 .bf16) (o g : FVec Ideal S256x128 .f32)

/-- A row's gated output before the lanes are put in place. -/
def yRow (R : Fin 256) (w : Fin 128) : EReal :=
  normed (fun x => o (ix2 R x) + ∑ l : Fin 256, q (ix2 R l) * st (ix2 x l)) w * g (ix2 R w)

theorem y_apply (h : Fin 4) (i : Fin 64) (w : Fin 128) :
    k0_pay193 st q o g (ix3 0 i (vlane h w)) = yRow st q o g (srow h i) w := by
  pointwise [k0_pay193]
  refine (unbeside (fun h' x => yRow st q o g ((![⟨i.val, by omega⟩, ⟨64 + i.val, by omega⟩, ⟨128 + i.val, by omega⟩,
    ⟨192 + i.val, by omega⟩] : Fin 4 → Fin 256) h') x) h w).trans ?_
  rw [srow_eq]

end Out

/-! ## A chunk as a whole -/

section Chunk
variable (qk v g : Vec Ideal S1x64x512 .f32) (ng : Vec Ideal S1x128 .f32) (p : BitVec 1) (lr : Vec Ideal S1x64x128 .f32)
  (w2 : Vec Ideal S128x256 .bf16) (gb : Vec Ideal S1x256 .f32) (st : FVec Ideal S128x256 .f32)

/-- The running sums of the gates' logarithms. -/
abbrev bC : FVec Ideal S64x256 .f32 := bB (aB p lr w2 gb)
/-- The chunk's output. -/
def yC : FVec Ideal S1x64x512 .bf16 := k0_pay193 st (qx qk (bC p lr w2 gb)) (oB qk (bC p lr w2 gb) v) (gB g ng)
/-- The state after the chunk. -/
def nextC : FVec Ideal S128x256 .f32 := nextB qk (bC p lr w2 gb) v st

variable {qk v g ng p lr w2 gb st} {Q K A : Fin 64 → Fin 256 → EReal} {W G : Fin 64 → Fin 512 → EReal} {S : Fin 128 → Fin 256 → EReal}
  (hq : ∀ i (l : Fin 256), qk (ix3 0 i ⟨l.val, by omega⟩) = Q i l)
  (hk : ∀ i (l : Fin 256), qk (ix3 0 i ⟨256 + l.val, by omega⟩) = K i l)
  (hv : ∀ i l, v (ix3 0 i l) = W i l) (ha : ∀ i l, aB p lr w2 gb (ix2 i l) = A i l) (hr : ∀ i l, IsReal (A i l))
  (hs : ∀ w l, st (ix2 w l) = S w l)
include hq hk hv ha hr hs

omit hq hk hv hs in
theorem bC_apply (i : Fin 64) (l : Fin 256) : bC p lr w2 gb (ix2 i l) = run A i l := by
  unfold bC
  rw [bB_apply _ (fun i l => by rw [ha]; exact hr i l), show (fun i l => aB p lr w2 gb (ix2 i l)) = A from funext₂ ha]

omit hq in
theorem nextC_apply (w : Fin 128) (l : Fin 256) : nextC qk v p lr w2 gb st (ix2 w l) = next K A W S w l := by
  unfold nextC next kv kEnd
  rw [nextB_apply, kvB_apply, bC_apply ha hr, hs]
  simp only [hv, hk, bC_apply ha hr]

theorem yC_apply (h : Fin 4) (i : Fin 64) (w : Fin 128) : yC qk v g ng p lr w2 gb st (ix3 0 i (vlane h w))
    = normed (out Q K A W S h i) w * gate (ng (ix2 0 w)) (g (ix3 0 i (vlane h w))) := by
  unfold yC
  rw [y_apply, yRow, gB_apply]
  congr 2
  funext x
  unfold out intra inter score qIn kIn
  rw [oB_apply]
  have hq' (i : Fin 64) (d : Fin 64) : qk (ix3 0 i ⟨h.val * 64 + d.val, by omega⟩) = Q i (lane h d) := hq i (lane h d)
  have hk' (i : Fin 64) (d : Fin 64) : qk (ix3 0 i ⟨256 + (h.val * 64 + d.val), by omega⟩) = K i (lane h d) := hk i (lane h d)
  simp only [sB_apply, hq, hq', hk', hv, bC_apply ha hr, qx_apply, ite_mul, zero_mul, hs]
  congr 1
  exact sum_head (fun l => Q i l * scale * Ideal.exp (run A i l) * S x l) h

end Chunk

end Cert.GlaFwdIdeal.Block

end
-- ==== Proof.GlaFwdValue.lean ====
module

public import Idealize.ShloMosaic.Lib.Pointwise
public import Idealize.ShloMosaic.Lib.Claim
public import Idealize.ShloMosaic.Lib.Pipeline.ValueKit
public import Idealize.ShloMosaic.Lib.Pipeline.ReadBack
public import proofs.«01_k».proof.Proof.GlaFwdHost
public import proofs.«01_k».proof.Proof.GlaFwdBlock

/-!
What the call of the gated linear attention leaves in its two result arrays: the gated rows and the state that enters each of the
33 chunks, three to a block and one example beside the other, the state carried in scratch memory from block to block.
-/

@[expose] public section

set_option maxRecDepth 16384

noncomputable section

open Idealize.ShloMosaic Idealize.ShloMosaic.TcCoe Idealize.SL.Sem
open Idealize.ShloMosaic.Pipeline (Dat)
open Gla RmsGrad

namespace Cert.GlaFwdIdeal.Value
open Cert.GlaFwdIdeal Cert.GlaFwdIdeal.Gen Cert.GlaFwdIdeal.Host Cert.GlaFwdIdeal.Block
variable (m : (ℓ : Loc nD τ sig) → Buf (Elt Ideal) ℓ) (c : Dev nD)

theorem idx : ∀ t : Fin cfg0.N, win0_0.index t = ![0, t.val, 2] ∧ win0_1.index t = ![0, t.val, 3] ∧ win0_2.index t = ![0, t.val, 4]
    ∧ win0_3.index t = ![0, t.val, 20] ∧ win0_4.index t = ![0, 0] ∧ win0_5.index t = ![0, 0] ∧ win0_6.index t = ![0, 0]
    ∧ win0_7.index t = ![0, t.val, 0] ∧ win0_8.index t = ![0, t.val, 0] :=
  (by decide +kernel : ∀ t : Fin grid0.N, win0_0.index t = ![0, t.val, 2] ∧ win0_1.index t = ![0, t.val, 3]
    ∧ win0_2.index t = ![0, t.val, 4] ∧ win0_3.index t = ![0, t.val, 20] ∧ win0_4.index t = ![0, 0] ∧ win0_5.index t = ![0, 0]
    ∧ win0_6.index t = ![0, 0] ∧ win0_7.index t = ![0, t.val, 0] ∧ win0_8.index t = ![0, t.val, 0])

/-- Row `r` of block `t`. -/
abbrev row (t : Fin cfg0.N) (r : Fin 192) : Fin 2112 := ⟨192 * t.val + r.val, by have h : t.val < 11 := t.isLt; omega⟩
/-- Row `i` of chunk `j` of a block. -/
abbrev part (j : Fin 3) (i : Fin 64) : Fin 192 := ⟨64 * j.val + i.val, by omega⟩

theorem read0 (A : FVec Ideal S2x2112x2688 .f32) (t : Fin cfg0.N) (y : ((cfg0.win 0).xblock (cfg0.grid.coords t)).Idx)
    (e : Fin 2) (r : Fin 192) (l : Fin 512) (h0 : (y 0).val = e.val) (h1 : (y 1).val = r.val) (h2 : (y 2).val = l.val) :
    View.read (Elt Ideal) ((cfg0.win 0).blk t).view A y = A (ix3 e (row t r) ⟨1024 + l.val, by omega⟩) := by
  rw [View.read_apply]
  refine congrArg A (funext fun x => Fin.ext ?_)
  have hx (a) : (((cfg0.win 0).blk t).view.emb y a : ℕ) = win0_0.index t a * win0_0.size a + y a := win0_0.rect_emb_val t y a
  match x with
  | ⟨0, _⟩ => exact (hx 0).trans (by rw [(idx t).1]; show 0 * 2 + (y 0).val = e.val; omega)
  | ⟨1, _⟩ => exact (hx 1).trans (by rw [(idx t).1]; show t.val * 192 + (y 1).val = 192 * t.val + r.val; omega)
  | ⟨2, _⟩ => exact (hx 2).trans (by rw [(idx t).1]; show 2 * 512 + (y 2).val = 1024 + l.val; omega)

theorem blk0 (t : Fin cfg0.N) (e : Fin 2) (r : Fin 192) (l : Fin 512) :
    (X0_0 m c t : FVec Ideal S2x192x512 .f32) (ix3 e r l) = up m c (ix3 e (row t r) ⟨1024 + l.val, by omega⟩) := by
  unfold X0_0 Pipeline.Window.fill
  rw [dif_pos (moved0_0 t _)]
  unfold iblk up
  exact read0 (V m c main_v6) t _ e r l rfl rfl rfl

theorem read1 (A : FVec Ideal S2x2112x2688 .f32) (t : Fin cfg0.N) (y : ((cfg0.win 1).xblock (cfg0.grid.coords t)).Idx)
    (e : Fin 2) (r : Fin 192) (l : Fin 512) (h0 : (y 0).val = e.val) (h1 : (y 1).val = r.val) (h2 : (y 2).val = l.val) :
    View.read (Elt Ideal) ((cfg0.win 1).blk t).view A y = A (ix3 e (row t r) ⟨1536 + l.val, by omega⟩) := by
  rw [View.read_apply]
  refine congrArg A (funext fun x => Fin.ext ?_)
  have hx (a) : (((cfg0.win 1).blk t).view.emb y a : ℕ) = win0_1.index t a * win0_1.size a + y a := win0_1.rect_emb_val t y a
  match x with
  | ⟨0, _⟩ => exact (hx 0).trans (by rw [(idx t).2.1]; show 0 * 2 + (y 0).val = e.val; omega)
  | ⟨1, _⟩ => exact (hx 1).trans (by rw [(idx t).2.1]; show t.val * 192 + (y 1).val = 192 * t.val + r.val; omega)
  | ⟨2, _⟩ => exact (hx 2).trans (by rw [(idx t).2.1]; show 3 * 512 + (y 2).val = 1536 + l.val; omega)

theorem blk1 (t : Fin cfg0.N) (e : Fin 2) (r : Fin 192) (l : Fin 512) :
    (X0_1 m c t : FVec Ideal S2x192x512 .f32) (ix3 e r l) = up m c (ix3 e (row t r) ⟨1536 + l.val, by omega⟩) := by
  unfold X0_1 Pipeline.Window.fill
  rw [dif_pos (moved0_1 t _)]
  unfold iblk up
  exact read1 (V m c main_v6) t _ e r l rfl rfl rfl

theorem read2 (A : FVec Ideal S2x2112x2688 .f32) (t : Fin cfg0.N) (y : ((cfg0.win 2).xblock (cfg0.grid.coords t)).Idx)
    (e : Fin 2) (r : Fin 192) (l : Fin 512) (h0 : (y 0).val = e.val) (h1 : (y 1).val = r.val) (h2 : (y 2).val = l.val) :
    View.read (Elt Ideal) ((cfg0.win 2).blk t).view A y = A (ix3 e (row t r) ⟨2048 + l.val, by omega⟩) := by
  rw [View.read_apply]
  refine congrArg A (funext fun x => Fin.ext ?_)
  have hx (a) : (((cfg0.win 2).blk t).view.emb y a : ℕ) = win0_2.index t a * win0_2.size a + y a := win0_2.rect_emb_val t y a
  match x with
  | ⟨0, _⟩ => exact (hx 0).trans (by rw [(idx t).2.2.1]; show 0 * 2 + (y 0).val = e.val; omega)
  | ⟨1, _⟩ => exact (hx 1).trans (by rw [(idx t).2.2.1]; show t.val * 192 + (y 1).val = 192 * t.val + r.val; omega)
  | ⟨2, _⟩ => exact (hx 2).trans (by rw [(idx t).2.2.1]; show 4 * 512 + (y 2).val = 2048 + l.val; omega)

theorem blk2 (t : Fin cfg0.N) (e : Fin 2) (r : Fin 192) (l : Fin 512) :
    (X0_2 m c t : FVec Ideal S2x192x512 .f32) (ix3 e r l) = up m c (ix3 e (row t r) ⟨2048 + l.val, by omega⟩) := by
  unfold X0_2 Pipeline.Window.fill
  rw [dif_pos (moved0_2 t _)]
  unfold iblk up
  exact read2 (V m c main_v6) t _ e r l rfl rfl rfl

theorem read3 (A : FVec Ideal S2x2112x2688 .f32) (t : Fin cfg0.N) (y : ((cfg0.win 3).xblock (cfg0.grid.coords t)).Idx)
    (e : Fin 2) (r : Fin 192) (l : Fin 128) (h0 : (y 0).val = e.val) (h1 : (y 1).val = r.val) (h2 : (y 2).val = l.val) :
    View.read (Elt Ideal) ((cfg0.win 3).blk t).view A y = A (ix3 e (row t r) ⟨2560 + l.val, by omega⟩) := by
  rw [View.read_apply]
  refine congrArg A (funext fun x => Fin.ext ?_)
  have hx (a) : (((cfg0.win 3).blk t).view.emb y a : ℕ) = win0_3.index t a * win0_3.size a + y a := win0_3.rect_emb_val t y a
  match x with
  | ⟨0, _⟩ => exact (hx 0).trans (by rw [(idx t).2.2.2.1]; show 0 * 2 + (y 0).val = e.val; omega)
  | ⟨1, _⟩ => exact (hx 1).trans (by rw [(idx t).2.2.2.1]; show t.val * 192 + (y 1).val = 192 * t.val + r.val; omega)
  | ⟨2, _⟩ => exact (hx 2).trans (by rw [(idx t).2.2.2.1]; show 20 * 128 + (y 2).val = 2560 + l.val; omega)

theorem blk3 (t : Fin cfg0.N) (e : Fin 2) (r : Fin 192) (l : Fin 128) :
    (iblk m c 3 t : FVec Ideal S2x192x128 .f32) (ix3 e r l) = up m c (ix3 e (row t r) ⟨2560 + l.val, by omega⟩) := by
  unfold iblk up
  exact read3 (V m c main_v6) t _ e r l rfl rfl rfl

theorem blk4 (t : Fin cfg0.N) (x : Fin 128) (l : Fin 256) :
    (iblk m c 4 t : FVec Ideal S128x256 .bf16) (ix2 x l) = wp m c (ix2 x l) := by
  blk_point [iblk, Host.wp, idx t]

theorem blk5 (t : Fin cfg0.N) (l : Fin 256) : (iblk m c 5 t : FVec Ideal S1x256 .f32) (ix2 0 l) = gb m c l := by
  have h : (iblk m c 5 t : FVec Ideal S1x256 .f32) (ix2 0 l) = (V m c main_arg2 : FVec Ideal S1x256 .f32) (ix2 0 l) := by
    blk_point [iblk, idx t]
  rw [h, V_main_arg2]; rfl

theorem blk6 (t : Fin cfg0.N) (w : Fin 128) : (iblk m c 6 t : FVec Ideal S1x128 .f32) (ix2 0 w) = ng m c w := by
  have h : (iblk m c 6 t : FVec Ideal S1x128 .f32) (ix2 0 w) = (V m c main_arg3 : FVec Ideal S1x128 .f32) (ix2 0 w) := by
    blk_point [iblk, idx t]
  rw [h, V_main_arg3]; rfl

/-! ## One chunk -/

theorem in512 (e : Fin 2) (j : Fin 3) : ∀ a, ![e.val, 64 * j.val, 0] a + ![1, 64, 512] a ≤ S2x192x512.size a := by
  revert e j; decide
theorem in128 (e : Fin 2) (j : Fin 3) : ∀ a, ![e.val, 64 * j.val, 0] a + ![1, 64, 128] a ≤ S2x192x128.size a := by
  revert e j; decide

/-- A chunk of a block of 512 lanes. -/
abbrev cut (x : Vec Ideal S2x192x512 .f32) (e : Fin 2) (j : Fin 3) : Vec Ideal S1x64x512 .f32 :=
  View.ld (Val := Elt Ideal) (e' := .f32) x (Rect.unit ![e.val, 64 * j.val, 0] ![1, 64, 512] (in512 e j))

theorem cut_apply (x : Vec Ideal S2x192x512 .f32) (e : Fin 2) (j : Fin 3) (i : Fin 64) (l : Fin 512) :
    cut x e j (ix3 0 i l) = x (ix3 e (part j i) l) := by
  refine congrArg x (funext fun a => Fin.ext ?_)
  match a with
  | ⟨0, _⟩ => exact (by omega : e.val + 1 * 0 = e.val)
  | ⟨1, _⟩ => exact (by omega : 64 * j.val + 1 * i.val = 64 * j.val + i.val)
  | ⟨2, _⟩ => exact (by omega : 0 + 1 * l.val = l.val)

/-- Whether a chunk is the sequence's first. -/
abbrev first (t : Fin cfg0.N) (j : Fin 3) : BitVec 1 :=
  Scalar.andi (Scalar.cmpi .eq (BitVec.ofNat 32 (grid0.coords t 0).val) 0#32) (if j = 0 then 1#1 else 0#1)

theorem first_iff : ∀ (t : Fin cfg0.N) (j : Fin 3), first t j = 1#1 ↔ 192 * t.val + 64 * j.val = 0 :=
  (by decide +kernel : ∀ (t : Fin grid0.N) (j : Fin 3), first t j = 1#1 ↔ 192 * t.val + 64 * j.val = 0)

/-- The rows of the gates' input of a chunk. -/
abbrev lr (t : Fin cfg0.N) (e : Fin 2) (j : Fin 3) : Vec Ideal S1x64x128 .f32 :=
  View.ld (Val := Elt Ideal) (e' := .f32) (iblk m c 3 t) (Rect.unit ![e.val, 64 * j.val, 0] ![1, 64, 128] (in128 e j))

theorem lr_apply (t : Fin cfg0.N) (e : Fin 2) (j : Fin 3) (i : Fin 64) (l : Fin 128) :
    lr m c t e j (ix3 0 i l) = up m c (ix3 e (row t (part j i)) ⟨2560 + l.val, by omega⟩) := by
  rw [← blk3]
  refine congrArg (iblk m c 3 t : FVec Ideal S2x192x128 .f32) (funext fun a => Fin.ext ?_)
  match a with
  | ⟨0, _⟩ => exact (by omega : e.val + 1 * 0 = e.val)
  | ⟨1, _⟩ => exact (by omega : 64 * j.val + 1 * i.val = 64 * j.val + i.val)
  | ⟨2, _⟩ => exact (by omega : 0 + 1 * l.val = l.val)

/-- The state after a chunk, from the one that enters it. -/
abbrev nextP (t : Fin cfg0.N) (e : Fin 2) (j : Fin 3) (st : FVec Ideal S128x256 .f32) : FVec Ideal S128x256 .f32 :=
  nextC (cut (X0_0 m c t) e j) (cut (X0_1 m c t) e j) (first t j) (lr m c t e j) (iblk m c 4 t) (iblk m c 5 t) st

/-- The output of a chunk. -/
abbrev yP (t : Fin cfg0.N) (e : Fin 2) (j : Fin 3) (st : FVec Ideal S128x256 .f32) : FVec Ideal S1x64x512 .bf16 :=
  yC (cut (X0_0 m c t) e j) (cut (X0_1 m c t) e j) (cut (X0_2 m c t) e j) (iblk m c 6 t) (first t j) (lr m c t e j)
    (iblk m c 4 t) (iblk m c 5 t) st

/-- The gated rows. -/
def yVal (e : Fin 2) (n : ℕ) (h : Fin 4) (i : Fin 64) (w : Fin 128) : EReal :=
  normed (attended (q m c e) (k m c e) (a m c e) (v m c e) n h i) w * gate (ng m c w) (g m c e (64 * n + i.val) (vlane h w))
/-- The states. -/
def sVal (e : Fin 2) (n : ℕ) (w : Fin 128) (l : Fin 256) : EReal := state (k m c e) (a m c e) (v m c e) n w l

theorem rows (t : Fin cfg0.N) (j : Fin 3) (i : Fin 64) : (row t (part j i)).val = 64 * (3 * t.val + j.val) + i.val := by
  show 192 * t.val + (64 * j.val + i.val) = _; omega

section
variable {m c} (hm : Fin₃ m c) (t : Fin cfg0.N) (e : Fin 2) (j : Fin 3)

theorem q_chunk (i : Fin 64) (l : Fin 256) : cut (X0_0 m c t) e j (ix3 0 i ⟨l.val, by omega⟩) = chunk (q m c e) (3 * t.val + j.val) i l := by
  rw [cut_apply, blk0]
  refine (up_q m c e _ l).trans ?_
  rw [rows]

theorem k_chunk (i : Fin 64) (l : Fin 256) :
    cut (X0_0 m c t) e j (ix3 0 i ⟨256 + l.val, by omega⟩) = chunk (k m c e) (3 * t.val + j.val) i l := by
  rw [cut_apply, blk0]
  refine (congrArg (fun x => up m c (ix3 e _ x)) (Fin.ext (by show 1024 + (256 + l.val) = 1280 + l.val; omega))).trans ((up_k m c e _ l).trans ?_)
  rw [rows]

theorem v_chunk (i : Fin 64) (l : Fin 512) : cut (X0_1 m c t) e j (ix3 0 i l) = chunk (v m c e) (3 * t.val + j.val) i l := by
  rw [cut_apply, blk1]
  refine (up_v m c e _ l).trans ?_
  rw [rows]

theorem g_chunk (i : Fin 64) (l : Fin 512) : cut (X0_2 m c t) e j (ix3 0 i l) = chunk (g m c e) (3 * t.val + j.val) i l := by
  rw [cut_apply, blk2]
  refine (up_g m c e _ l).trans ?_
  rw [rows]

theorem a_chunk (i : Fin 64) (l : Fin 256) :
    aB (first t j) (lr m c t e j) (iblk m c 4 t) (iblk m c 5 t) (ix2 i l) = chunk (a m c e) (3 * t.val + j.val) i l := by
  rw [aB_apply]
  refine Eq.trans ?_ ((up_a m c e (row t (part j i)) l).trans (by rw [rows]))
  simp only [lr_apply, blk4, blk5]
  congr 1
  rw [first_iff]
  show (192 * t.val + 64 * j.val = 0 ∧ i.val < 48) = (192 * t.val + (64 * j.val + i.val) < 48)
  exact propext ⟨fun h => by omega, fun h => by omega⟩

include hm

theorem nextP_apply {st : FVec Ideal S128x256 .f32} (hs : ∀ w l, st (ix2 w l) = sVal m c e (3 * t.val + j.val) w l) (w : Fin 128) (l : Fin 256) :
    nextP m c t e j st (ix2 w l) = sVal m c e (3 * t.val + j.val + 1) w l :=
  nextC_apply (k_chunk t e j) (v_chunk t e j) (a_chunk t e j) (fun i l => a_real hm e _ l) hs w l

theorem yP_apply {st : FVec Ideal S128x256 .f32} (hs : ∀ w l, st (ix2 w l) = sVal m c e (3 * t.val + j.val) w l) (h : Fin 4) (i : Fin 64) (w : Fin 128) :
    yP m c t e j st (ix3 0 i (vlane h w)) = yVal m c e (3 * t.val + j.val) h i w := by
  refine (yC_apply (q_chunk t e j) (k_chunk t e j) (v_chunk t e j) (a_chunk t e j) (fun i l => a_real hm e _ l) hs h i w).trans ?_
  rw [g_chunk, blk6]; rfl

end

/-! ## The blocks -/

/-- A state as the kernel stores it. -/
abbrev asBlock (st : FVec Ideal S128x256 .f32) : FVec Ideal S1x128x256 .f32 := shapeCast S1x128x256 st shapeCasts_S128x256_S1x128x256
/-- A state as the kernel loads it. -/
abbrev asState (x : Vec Ideal S1x128x256 .f32) : FVec Ideal S128x256 .f32 := shapeCast S128x256 x shapeCasts_S1x128x256_S128x256

theorem asBlock_apply (st : FVec Ideal S128x256 .f32) (w : Fin 128) (l : Fin 256) : asBlock st (ix3 0 w l) = st (ix2 w l) := by
  pointwise
theorem asState_apply (x : Vec Ideal S1x128x256 .f32) (w : Fin 128) (l : Fin 256) : asState x (ix2 w l) = x (ix3 0 w l) := by
  pointwise

theorem in256 (e : Fin 2) : ∀ a, ![e.val, 0, 0] a + ![1, 128, 256] a ≤ S2x128x256.size a := by revert e; decide

/-- One example's part of the scratch memory. -/
theorem ld_scratch (Z : Vec Ideal S2x128x256 .f32) (e : Fin 2) (w : Fin 128) (l : Fin 256) :
    asState (View.ld (Val := Elt Ideal) (e' := .f32) Z (Rect.unit ![e.val, 0, 0] ![1, 128, 256] (in256 e))) (ix2 w l) = Z (ix3 e w l) := by
  rw [asState_apply]
  refine congrArg Z (funext fun a => Fin.ext ?_)
  match a with
  | ⟨0, _⟩ => exact (by omega : e.val + 1 * 0 = e.val)
  | ⟨1, _⟩ => exact (by omega : 0 + 1 * w.val = w.val)
  | ⟨2, _⟩ => exact (by omega : 0 + 1 * l.val = l.val)

/-- What the first block finds in the scratch memory. -/
theorem old_A (t : Fin cfg0.N) (ht : t.val % 11 = 0) (e : Fin 2) (h) (w : Fin 128) (l : Fin 256) :
    asState ((View.whole cc0_scratch0).readCov [⟨Rect.unit ![0, 0, 0] ![2, 128, 256] h, k0_pay3 (F := Ideal)⟩]
      (Rect.unit ![e.val, 0, 0] ![1, 128, 256] (in256 e)).toLoadRect) (ix2 w l) = sVal m c e (3 * t.val + (0 : Fin 3).val) w l := by
  have h0 : 3 * t.val + (0 : Fin 3).val = 0 := by have h : t.val < 11 := t.isLt; show 3 * t.val + 0 = 0; omega
  rw [h0]
  refine (congrArg (fun x => asState x (ix2 w l)) (View.readCov_fill (Val := Elt Ideal) (View.whole cc0_scratch0) h
    (k0_pay3 (F := Ideal)) [] (Rect.unit ![e.val, 0, 0] ![1, 128, 256] (in256 e)) (by decide))).trans ((ld_scratch _ e w l).trans ?_)
  show _ = (0 : EReal)
  pointwise [k0_pay3]

/-- What a later block finds there. -/
theorem old_B (t : Fin cfg0.N) (Z : Vec Ideal S2x128x256 .f32) (hz : ∀ e w l, Z (ix3 e w l) = sVal m c e (3 * t.val + (0 : Fin 3).val) w l)
    (hw : (Memref.whole cc0_scratch0).IsWhole) (e : Fin 2) (w : Fin 128) (l : Fin 256) :
    asState (View.ld (Val := Elt Ideal) (e' := .f32) (View.read (Elt Ideal) (View.whole cc0_scratch0) (hw.unread Z))
      (Rect.unit ![e.val, 0, 0] ![1, 128, 256] (in256 e))) (ix2 w l) = sVal m c e (3 * t.val + (0 : Fin 3).val) w l := by
  rw [hw.read_unread]
  exact (ld_scratch _ e w l).trans (hz e w l)

variable {m c} (hm : Fin₃ m c)

/-- The gated rows of a block. -/
def yAt (m : (ℓ : Loc nD τ sig) → Buf (Elt Ideal) ℓ) (c : Dev nD) (t : ℕ) (e : Fin 2) (r : Fin 192) (l : Fin 512) : EReal :=
  yVal m c e (3 * t + r.val / 64) ⟨l.val / 128, by omega⟩ ⟨r.val % 64, by omega⟩ ⟨l.val % 128, by omega⟩
/-- The states of a block. -/
def sAt (m : (ℓ : Loc nD τ sig) → Buf (Elt Ideal) ℓ) (c : Dev nD) (t : ℕ) (e : Fin 2) (r : Fin 384) (l : Fin 256) : EReal :=
  sVal m c e (3 * t + r.val / 128) ⟨r.val % 128, by omega⟩ l

include hm in
theorem yPart (t : Fin cfg0.N) (e' : Fin 2) (j : Fin 3) {st : FVec Ideal S128x256 .f32} {e : Fin 2} {r : Fin 192} {l : Fin 512}
    (hs : ∀ w l, st (ix2 w l) = sVal m c e' (3 * t.val + j.val) w l) (x : S1x64x512.Idx)
    (h0 : e.val = e'.val + (x 0).val) (h1 : r.val = 64 * j.val + (x 1).val) (h2 : l.val = (x 2).val) :
    yP m c t e' j st x = yAt m c t.val e r l := by
  idx_vars x
  obtain rfl : x0 = 0 := Subsingleton.elim _ _
  obtain rfl : e = e' := Fin.ext h0
  obtain rfl : l = x2 := Fin.ext h2
  have hl : l = vlane ⟨l.val / 128, by omega⟩ ⟨l.val % 128, by omega⟩ := Fin.ext (by show l.val = l.val / 128 * 128 + l.val % 128; omega)
  have h1' : r.val = 64 * j.val + x1.val := h1
  have hx : x1.val < 64 := x1.isLt
  refine (congrArg (fun k => yP m c t e j st (ix3 0 x1 k)) hl).trans ((yP_apply hm t e j hs _ x1 _).trans ?_)
  unfold yAt
  congr 1
  · omega
  · exact Fin.ext (by show x1.val = r.val % 64; omega)

theorem sPart (t : Fin cfg0.N) (e' : Fin 2) (j : Fin 3) {st : FVec Ideal S128x256 .f32} {e : Fin 2} {r : Fin 384} {l : Fin 256}
    (hs : ∀ w l, st (ix2 w l) = sVal m c e' (3 * t.val + j.val) w l) (x : S1x128x256.Idx)
    (h0 : e.val = e'.val + (x 0).val) (h1 : r.val = 128 * j.val + (x 1).val) (h2 : l.val = (x 2).val) :
    asBlock st x = sAt m c t.val e r l := by
  idx_vars x
  obtain rfl : x0 = 0 := Subsingleton.elim _ _
  obtain rfl : e = e' := Fin.ext h0
  obtain rfl : l = x2 := Fin.ext h2
  have h1' : r.val = 128 * j.val + x1.val := h1
  have hx : x1.val < 128 := x1.isLt
  refine (asBlock_apply st x1 l).trans ((hs x1 l).trans ?_)
  unfold sAt
  congr 1
  · omega
  · exact Fin.ext (by show x1.val = r.val % 128; omega)

theorem scratchPart (t : Fin cfg0.N) (e' : Fin 2) {st : FVec Ideal S128x256 .f32} {e : Fin 2} {w : Fin 128} {l : Fin 256}
    (hs : ∀ w l, st (ix2 w l) = sVal m c e' (3 * t.val + (2 : Fin 3).val + 1) w l) (x : S1x128x256.Idx)
    (h0 : e.val = e'.val + (x 0).val) (h1 : w.val = (x 1).val) (h2 : l.val = (x 2).val) :
    asBlock st x = sVal m c e (3 * (t.val + 1)) w l := by
  idx_vars x
  obtain rfl : x0 = 0 := Subsingleton.elim _ _
  obtain rfl : e = e' := Fin.ext h0
  obtain rfl : l = x2 := Fin.ext h2
  obtain rfl : w = x1 := Fin.ext h1
  exact (asBlock_apply st w l).trans (hs w l)

theorem from_zero {a b : ℕ} (h : a = b) : a = 0 + b := h.trans (zero_add b).symm

section
variable {t : Fin cfg0.N} {e : Fin 2} {st : FVec Ideal S128x256 .f32} (hs : ∀ w l, st (ix2 w l) = sVal m c e (3 * t.val + (0 : Fin 3).val) w l)
include hm hs
theorem one : ∀ w l, nextP m c t e 0 st (ix2 w l) = sVal m c e (3 * t.val + (1 : Fin 3).val) w l := nextP_apply hm t e 0 hs
theorem two : ∀ w l, nextP m c t e 1 (nextP m c t e 0 st) (ix2 w l) = sVal m c e (3 * t.val + (2 : Fin 3).val) w l :=
  nextP_apply hm t e 1 (one hm hs)
theorem three : ∀ w l, nextP m c t e 2 (nextP m c t e 1 (nextP m c t e 0 st)) (ix2 w l) = sVal m c e (3 * t.val + (2 : Fin 3).val + 1) w l :=
  nextP_apply hm t e 2 (two hm hs)
end

include hm

/-- What a block leaves, and what it carries on, from what the block before carried. -/
structure Leaves (m : (ℓ : Loc nD τ sig) → Buf (Elt Ideal) ℓ) (c : Dev nD) (t : Fin cfg0.N) : Prop where
  y (e : Fin 2) (r : Fin 192) (l : Fin 512) : (outsAt0 m c t.val t.isLt).1 (ix3 e r l) = yAt m c t.val e r l
  s (e : Fin 2) (r : Fin 384) (l : Fin 256) : (outsAt0 m c t.val t.isLt).2.1 (ix3 e r l) = sAt m c t.val e r l
  carried (e : Fin 2) (w : Fin 128) (l : Fin 256) : (outsAt0 m c t.val t.isLt).2.2 (ix3 e w l) = sVal m c e (3 * (t.val + 1)) w l

/-- The states carried on from a block. -/
def sScr (m : (ℓ : Loc nD τ sig) → Buf (Elt Ideal) ℓ) (c : Dev nD) (n : ℕ) : Vec Ideal S2x128x256 .f32 := fun i =>
  sVal m c (i 0) (3 * n) (i 1) (i 2)

theorem scratch_A (t : Fin cfg0.N) (ht : t.val % 11 = 0) (e : Fin 2) (w : Fin 128) (l : Fin 256) :
    (outsAt0 m c t.val t.isLt).2.2 (ix3 e w l) = sVal m c e (3 * (t.val + 1)) w l := by
  have o := old_A m c t ht
  rw [outsAt0_A m c t ht]
  frame_out
  clear ht
  refine View.canon_append_of_piecesOf (Val := Elt Ideal) (sScr m c (t.val + 1)) [_] [_, _] ⟨fun x => ?_, fun x => ?_, trivial⟩
    (ix3 e w l) ?_
  · exact scratchPart t 1 (three hm (o 1 _)) x (by show 1 + 1 * (x 0).val = 1 + (x 0).val; omega)
      (by show 0 + 1 * (x 1).val = (x 1).val; omega) (by show 0 + 1 * (x 2).val = (x 2).val; omega)
  · exact scratchPart t 0 (three hm (o 0 _)) x (by show 0 + 1 * (x 0).val = 0 + (x 0).val; omega)
      (by show 0 + 1 * (x 1).val = (x 1).val; omega) (by show 0 + 1 * (x 2).val = (x 2).val; omega)
  · exact View.cover_of_tiledL _ ![1, 128, 256] rfl _
theorem leaves_A (t : Fin cfg0.N) (ht : t.val % 11 = 0) : Leaves m c t := by
  have o := old_A m c t ht
  refine ⟨fun e r l => ?_, fun e r l => ?_, scratch_A hm t ht⟩ <;> rw [outsAt0_A m c t ht] <;> frame_out <;> clear ht <;> canon_tiles x h
  · exact yPart hm t 1 2 (two hm (o 1 _)) x h0 h1 h2
  · exact yPart hm t 0 2 (two hm (o 0 _)) x (from_zero h0) h1 h2
  · exact yPart hm t 1 1 (one hm (o 1 _)) x h0 h1 h2
  · exact yPart hm t 0 1 (one hm (o 0 _)) x (from_zero h0) h1 h2
  · exact yPart hm t 1 0 (o 1 _) x h0 (from_zero h1) h2
  · exact yPart hm t 0 0 (o 0 _) x (from_zero h0) (from_zero h1) h2
  · exact sPart t 1 2 (two hm (o 1 _)) x h0 h1 h2
  · exact sPart t 0 2 (two hm (o 0 _)) x (from_zero h0) h1 h2
  · exact sPart t 1 1 (one hm (o 1 _)) x h0 h1 h2
  · exact sPart t 0 1 (one hm (o 0 _)) x (from_zero h0) h1 h2
  · exact sPart t 1 0 (o 1 _) x h0 (from_zero h1) h2
  · exact sPart t 0 0 (o 0 _) x (from_zero h0) (from_zero h1) h2

theorem leaves_B (t : Fin cfg0.N) (ht : ¬ t.val % 11 = 0)
    (hz : ∀ e w l, (outsAt0 m c (t.val - 1) (Nat.lt_of_le_of_lt (Nat.sub_le _ _) t.isLt)).2.2 (ix3 e w l) = sVal m c e (3 * t.val) w l) :
    Leaves m c t := by
  have o := old_B m c t _ hz (Memref.isWhole_whole _)
  constructor <;> intro e r l <;> rw [outsAt0_B m c t ht] <;> frame_out <;> clear ht <;> canon_tiles x h
  · exact yPart hm t 1 2 (two hm (o 1)) x h0 h1 h2
  · exact yPart hm t 0 2 (two hm (o 0)) x (from_zero h0) h1 h2
  · exact yPart hm t 1 1 (one hm (o 1)) x h0 h1 h2
  · exact yPart hm t 0 1 (one hm (o 0)) x (from_zero h0) h1 h2
  · exact yPart hm t 1 0 (o 1) x h0 (from_zero h1) h2
  · exact yPart hm t 0 0 (o 0) x (from_zero h0) (from_zero h1) h2
  · exact sPart t 1 2 (two hm (o 1)) x h0 h1 h2
  · exact sPart t 0 2 (two hm (o 0)) x (from_zero h0) h1 h2
  · exact sPart t 1 1 (one hm (o 1)) x h0 h1 h2
  · exact sPart t 0 1 (one hm (o 0)) x (from_zero h0) h1 h2
  · exact sPart t 1 0 (o 1) x h0 (from_zero h1) h2
  · exact sPart t 0 0 (o 0) x (from_zero h0) (from_zero h1) h2
  · exact scratchPart t 1 (three hm (o 1)) x h0 h1 h2
  · exact scratchPart t 0 (three hm (o 0)) x (from_zero h0) h1 h2

theorem leaves : ∀ (n : ℕ) (hn : n < cfg0.N), Leaves m c ⟨n, hn⟩
  | 0, hn => leaves_A hm ⟨0, hn⟩ rfl
  | n + 1, hn => leaves_B hm ⟨n + 1, hn⟩
      (by have h : n + 1 < 11 := hn; show ¬ (n + 1) % 11 = 0; omega)
      (leaves n (Nat.lt_of_succ_lt hn)).carried

/-! ## The result arrays -/

/-- The gated rows as an array. -/
def yArr (m : (ℓ : Loc nD τ sig) → Buf (Elt Ideal) ℓ) (c : Dev nD) : FVec Ideal S2x2112x512 .bf16 := fun i =>
  have h1 : (i 1).val < 2112 := (i 1).isLt
  have h2 : (i 2).val < 512 := (i 2).isLt
  yVal m c (i 0) ((i 1).val / 64) ⟨(i 2).val / 128, by omega⟩ ⟨(i 1).val % 64, by omega⟩ ⟨(i 2).val % 128, by omega⟩
/-- The states as an array. -/
def sArr (m : (ℓ : Loc nD τ sig) → Buf (Elt Ideal) ℓ) (c : Dev nD) : FVec Ideal S2x4224x256 .f32 := fun i =>
  sVal m c (i 0) ((i 1).val / 128) ⟨(i 1).val % 128, by omega⟩ (i 2)

/-- The gated rows, in the first result array. -/
theorem y_final (e : Fin 2) (r : Fin 2112) (l : Fin 512) : ((dats m 0 c).arrAt 7 cfg0.N : FVec Ideal S2x2112x512 .bf16) (ix3 e r l)
    = yVal m c e (r.val / 64) ⟨l.val / 128, by omega⟩ ⟨r.val % 64, by omega⟩ ⟨l.val % 128, by omega⟩ := by
  have key : ((dats m 0 c).arrAt 7 cfg0.N : FVec Ideal S2x2112x512 .bf16) = yArr m c := by
    refine (dats m 0 c).arrAt_eq_of_covers 7 _ (by decide +kernel) fun t hf y => ?_
    blk_simp
    rw [after0_7]
    idx_vars y
    have e : ((View.whole main_v7_0).slice (win0_7.rect t)).emb (ix3 y0 y1 y2) = ix3 y0 (row t y1) y2 := by
      blk_ext [idx t]
    rw [e]
    refine ((leaves hm t.val t.isLt).y y0 y1 y2).trans ?_
    have h : y1.val < 192 := y1.isLt
    unfold yAt yArr
    congr 1
    · show 3 * t.val + y1.val / 64 = (192 * t.val + y1.val) / 64; omega
    · exact Fin.ext (by show y1.val % 64 = (192 * t.val + y1.val) % 64; omega)
  rw [key]; rfl

/-- The states, in the second. -/
theorem states_final (e : Fin 2) (r : Fin 4224) (l : Fin 256) : ((dats m 0 c).arrAt 8 cfg0.N : FVec Ideal S2x4224x256 .f32) (ix3 e r l)
    = sVal m c e (r.val / 128) ⟨r.val % 128, by omega⟩ l := by
  have key : ((dats m 0 c).arrAt 8 cfg0.N : FVec Ideal S2x4224x256 .f32) = sArr m c := by
    refine (dats m 0 c).arrAt_eq_of_covers 8 _ (by decide +kernel) fun t hf y => ?_
    blk_simp
    rw [after0_8]
    idx_vars y
    have e : ((View.whole main_v7_1).slice (win0_8.rect t)).emb (ix3 y0 y1 y2)
        = ix3 y0 ⟨384 * t.val + y1.val, by have h : t.val < 11 := t.isLt; omega⟩ y2 := by
      blk_ext [idx t]
    rw [e]
    refine ((leaves hm t.val t.isLt).s y0 y1 y2).trans ?_
    have h : y1.val < 384 := y1.isLt
    unfold sAt sArr
    congr 1
    · show 3 * t.val + y1.val / 128 = (384 * t.val + y1.val) / 128; omega
    · exact Fin.ext (by show y1.val % 128 = (384 * t.val + y1.val) % 128; omega)
  rw [key]; rfl

end Cert.GlaFwdIdeal.Value
end
-- ==== Proof.GlaFwdCum.lean ====
module

public import Idealize.ShloMosaic.Lib.Pointwise
public import Idealize.ShloMosaic.Lib.Claim

/-!
A running sum down the fourth axis of five, as a sum over windows of 64 positions that end at the row it is taken at.
-/

@[expose] public section

noncomputable section

open Idealize.ShloMosaic

namespace Gla

/-- A fold that adds is a sum. -/
theorem foldl_add_eq_sum {n : ℕ} (f : Fin n → EReal) (z : EReal) : (List.finRange n).foldl (fun r x => r + f x) z = z + ∑ x, f x := by
  have h : ∀ (l : List (Fin n)) (z : EReal), l.foldl (fun r x => r + f x) z = z + (l.map f).sum := by
    intro l
    induction l with
    | nil => intro z; simp
    | cons x l ih => intro z; rw [List.foldl_cons, ih, List.map_cons, List.sum_cons, add_assoc]
  rw [h, ← Fin.sum_univ_def]

/-- The positions of a window that reaches along the fourth axis only. -/
def windowEquiv : Fin 64 ≃ (⟨5, ![1, 1, 1, 64, 1]⟩ : Shape).Idx where
  toFun y := ix5 0 0 0 y 0
  invFun i := i 3
  left_inv _ := rfl
  right_inv i := by
    funext a
    match a with
    | 0 => exact Subsingleton.elim (α := Fin 1) _ _
    | 1 => exact Subsingleton.elim (α := Fin 1) _ _
    | 2 => exact Subsingleton.elim (α := Fin 1) _ _
    | 3 => rfl
    | 4 => exact Subsingleton.elim (α := Fin 1) _ _

/-- The rows up to `i`, counted from the window's beginning. -/
theorem sum_window (f : Fin 64 → EReal) (i : Fin 64) :
    (∑ y : Fin 64, if h : 63 ≤ i.val + y.val ∧ i.val + y.val - 63 < 64 then f ⟨i.val + y.val - 63, h.2⟩ else 0)
      = ∑ x, if x ≤ i then f x else 0 := by
  have e : ∀ y : Fin 64, (if h : 63 ≤ i.val + y.val ∧ i.val + y.val - 63 < 64 then f ⟨i.val + y.val - 63, h.2⟩ else 0)
      = if 63 ≤ i.val + y.val then f ⟨i.val + y.val - 63, by omega⟩ else 0 := fun y => by
    by_cases h : 63 ≤ i.val + y.val
    · rw [dif_pos ⟨h, by omega⟩, if_pos h]
    · rw [dif_neg (by omega), if_neg h]
  rw [Finset.sum_congr rfl fun y _ => e y, ← Finset.sum_filter, ← Finset.sum_filter]
  refine Finset.sum_nbij' (fun y => ⟨i.val + y.val - 63, by omega⟩) (fun x => ⟨(63 - i.val + x.val) % 64, by omega⟩) ?_ ?_ ?_ ?_ ?_
  · intro y hy; simp only [Finset.mem_filter, Finset.mem_univ, true_and, Fin.le_def] at hy ⊢; omega
  · intro x hx; simp only [Finset.mem_filter, Finset.mem_univ, true_and, Fin.le_def] at hx ⊢; omega
  · intro y hy; simp only [Finset.mem_filter, Finset.mem_univ, true_and, Fin.ext_iff] at hy ⊢; omega
  · intro x hx; simp only [Finset.mem_filter, Finset.mem_univ, true_and, Fin.le_def, Fin.ext_iff] at hx ⊢; omega
  · intro y hy; rfl

theorem runningSum {a' b c d : ℕ} (x : FVec Ideal ⟨5, ![a', b, c, 64, d]⟩ .f32) (v : FVec Ideal ⟨0, ![]⟩ .f32) (hv : v = fun _ => 0)
    (h : Shape.ReduceWindows (s := ⟨5, ![a', b, c, 64, d]⟩) ![1, 1, 1, 64, 1] ![1, 1, 1, 1, 1] ![0, 0, 0, 63, 0] ![0, 0, 0, 0, 0]
      ⟨5, ![a', b, c, 64, d]⟩) (hu : 0 < (⟨0, ![]⟩ : Shape).numel) (e : Fin a') (n : Fin b) (k : Fin c) (i : Fin 64) (l : Fin d) :
    Host.reduceWindowAdd (F := Ideal) ![1, 1, 1, 64, 1] ![1, 1, 1, 1, 1] ![0, 0, 0, 63, 0] ![0, 0, 0, 0, 0] x v h hu (ix5 e n k i l)
      = ∑ y, if y ≤ i then x (ix5 e n k y l) else 0 := by
  subst hv
  rw [← sum_window (fun y => x (ix5 e n k y l)) i]
  refine (foldl_add_eq_sum _ _).trans ?_
  rw [show ∀ z : EReal, (0 : EReal) + z = z from zero_add]
  refine ((windowEquiv.trans (Shape.rowMajor _)).sum_comp _).symm.trans (Finset.sum_congr rfl fun y _ => ?_)
  simp only [Equiv.trans_apply, Equiv.symm_apply_apply]
  refine dite_congr (propext ⟨fun hh => ?_, fun hh a => ?_⟩) (fun hh => ?_) fun _ => rfl
  · have h3 : 63 ≤ i.val * 1 + y.val ∧ i.val * 1 + y.val - 63 < 64 := hh 3
    rwa [mul_one] at h3
  · match a with
    | 0 => exact ⟨Nat.zero_le _, (by show e.val * 1 + 0 - 0 < a'; omega)⟩
    | 1 => exact ⟨Nat.zero_le _, (by show n.val * 1 + 0 - 0 < b; omega)⟩
    | 2 => exact ⟨Nat.zero_le _, (by show k.val * 1 + 0 - 0 < c; omega)⟩
    | 3 => show 63 ≤ i.val * 1 + y.val ∧ i.val * 1 + y.val - 63 < 64; rwa [mul_one]
    | 4 => exact ⟨Nat.zero_le _, (by show l.val * 1 + 0 - 0 < d; omega)⟩
  · refine congrArg x (funext fun a => Fin.ext ?_)
    match a with
    | 0 => show e.val * 1 + 0 - 0 = e.val; omega
    | 1 => show n.val * 1 + 0 - 0 = n.val; omega
    | 2 => show k.val * 1 + 0 - 0 = k.val; omega
    | 3 => show i.val * 1 + y.val - 63 = i.val + y.val - 63; omega
    | 4 => show l.val * 1 + 0 - 0 = l.val; omega

end Gla

end
-- ==== Proof.GlaFwdStages.lean ====
module

public import Idealize.ShloMosaic.Lib.Pointwise
public import Idealize.ShloMosaic.Lib.KernelVsHost
public import Idealize.ShloMosaic.Lib.IdealHost
public import proofs.«01_k».proof.Proof.Gen.GlaFwdRefIdeal.Run
public import proofs.«01_k».proof.Proof.GlaChunk
public import proofs.«01_k».proof.Proof.GlaFwdCum
public import proofs.«01_k».proof.Proof.RmsGrad

/-!
The steps of the reference of the gated linear attention, each as a function of the arrays it takes, entry by entry.
-/

@[expose] public section

set_option maxRecDepth 16384

noncomputable section

open Idealize.ShloMosaic Idealize.ShloMosaic.TcCoe Idealize.SL.Sem
open Gla RmsGrad

namespace Cert.GlaFwdRefIdeal.Stages
open Cert.GlaFwdRefIdeal Cert.GlaFwdRefIdeal.Gen

/-- What the padding holds, an integer zero converted. -/
abbrev zero : FVec Ideal S_ .f32 := sitofp .f32 (constantI S_ 32 0#32)

/-! ## The parts of the projected rows -/
section Parts
variable (x : FVec Ideal S2x2064x2576 .f32)

def rows : FVec Ideal S2x2064x1552 .f32 := extractStridedSlice S2x2064x1552 ![0, 0, 1024] x slices_S2x2064x2576_S2x2064x1552_0_0_1024
def qR : FVec Ideal S2x2064x256 .f32 := extractStridedSlice S2x2064x256 ![0, 0, 0] (rows x) slices_S2x2064x1552_S2x2064x256_0_0_0
def kR : FVec Ideal S2x2064x256 .f32 := extractStridedSlice S2x2064x256 ![0, 0, 256] (rows x) slices_S2x2064x1552_S2x2064x256_0_0_256
def vR : FVec Ideal S2x2064x512 .f32 := extractStridedSlice S2x2064x512 ![0, 0, 512] (rows x) slices_S2x2064x1552_S2x2064x512_0_0_512
def gR : FVec Ideal S2x2064x512 .f32 := extractStridedSlice S2x2064x512 ![0, 0, 1024] (rows x) slices_S2x2064x1552_S2x2064x512_0_0_1024
def lrR : FVec Ideal S2x2064x16 .f32 := extractStridedSlice S2x2064x16 ![0, 0, 1536] (rows x) slices_S2x2064x1552_S2x2064x16_0_0_1536

variable (e : Fin 2) (s : Fin 2064)
theorem qR_apply (l : Fin 256) : qR x (ix3 e s l) = x (ix3 e s ⟨1024 + l.val, by omega⟩) := by pointwise [qR, rows]
theorem kR_apply (l : Fin 256) : kR x (ix3 e s l) = x (ix3 e s ⟨1280 + l.val, by omega⟩) := by
  pointwise [kR, rows]; congr 2; exact Fin.ext (by simp; omega)
theorem vR_apply (l : Fin 512) : vR x (ix3 e s l) = x (ix3 e s ⟨1536 + l.val, by omega⟩) := by
  pointwise [vR, rows]; congr 2; exact Fin.ext (by simp; omega)
theorem gR_apply (l : Fin 512) : gR x (ix3 e s l) = x (ix3 e s ⟨2048 + l.val, by omega⟩) := by
  pointwise [gR, rows]; congr 2; exact Fin.ext (by simp; omega)
theorem lrR_apply (l : Fin 16) : lrR x (ix3 e s l) = x (ix3 e s ⟨2560 + l.val, by omega⟩) := by
  pointwise [lrR, rows]; congr 2; exact Fin.ext (by simp; omega)

end Parts

/-! ## The gates -/

/-- The gates before their activation. -/
def zR (t : FVec Ideal S2x2064x16 .f32) (w : FVec Ideal S1x16x256 .f32) (b : FVec Ideal S1x256 .f32) : FVec Ideal S2x2064x256 .f32 :=
  addf (Host.dotGeneral dot_S2x2064x16_S16x256_S2x2064x256_2_0_01_1_n_n none t (shapeCast S16x256 w shapeCasts_S1x16x256_S16x256))
    (broadcastInDim S2x2064x256 ![0, 1, 2] bcast_S1x1x256_S2x2064x256_0_1_2
      (broadcastInDim S1x1x256 ![2] bcast_S256_S1x1x256_2 (shapeCast S256 b shapeCasts_S1x256_S256)))

theorem zR_apply (t : FVec Ideal S2x2064x16 .f32) (w : FVec Ideal S1x16x256 .f32) (b : FVec Ideal S1x256 .f32)
    (e : Fin 2) (s : Fin 2064) (l : Fin 256) :
    zR t w b (ix3 e s l) = (∑ x : Fin 16, t (ix3 e s x) * w (ix3 0 x l)) + b (ix2 0 l) := by
  pointwise [zR]

/-- The logarithm of their sigmoid. -/
def logR (z : FVec Ideal S2x2064x256 .f32) : FVec Ideal S2x2064x256 .f32 :=
  let o : FVec Ideal S2x2064x256 .f32 := broadcastInDim S2x2064x256 ![] bcast_S_S2x2064x256 (constant S_ .f32 0x00000000#32)
  let n : FVec Ideal S2x2064x256 .f32 := Host.negf z
  Host.negf (select (cmpf .une (subf n o) (subf n o)) (addf n o)
    (addf (maximumf n o) (Host.log1p (Host.exp (Host.negf (Host.absf (subf n o)))))))

theorem logR_apply (z : FVec Ideal S2x2064x256 .f32) (e : Fin 2) (s : Fin 2064) (l : Fin 256) (h : IsReal (z (ix3 e s l))) :
    logR z (ix3 e s l) = logGate (z (ix3 e s l)) := by
  obtain ⟨r, hr⟩ := h
  pointwise [logR]
  have h1 : max (-(r : EReal)) (-(-(r : EReal))) = ((|r| : ℝ) : EReal) := by
    rw [neg_neg, max_comm, abs, ← EReal.coe_neg]; exact (EReal.coe_strictMono.monotone.map_max).symm
  have h2 : max (-(r : EReal)) 0 = ((max (-r) 0 : ℝ) : EReal) := by
    rw [← EReal.coe_neg]; exact (EReal.coe_strictMono.monotone.map_max (a := -r) (b := 0)).symm
  have h3 : ¬ (1 + Real.exp (-|r|) ≤ 0) := not_le.mpr (by positivity)
  rw [hr, if_neg (not_not.mpr rfl), logGate_coe, Ideal.absf_def, h1, h2, ← EReal.coe_neg, Ideal.exp_coe, Ideal.log1p,
    ← EReal.coe_one, ← EReal.coe_add, Ideal.log_coe, if_neg h3, ← EReal.coe_add, ← EReal.coe_neg]
  congr 1
  rw [zero_sub, neg_add, ← min_neg_neg, neg_neg, neg_zero, sub_eq_add_neg]

/-- The logarithm of the gates, divided by the temperature. -/
def aR (z : FVec Ideal S2x2064x256 .f32) : FVec Ideal S2x2064x256 .f32 :=
  Host.divf (logR z) (broadcastInDim S2x2064x256 ![] bcast_S_S2x2064x256 (constant S_ .f32 0x41800000#32))

theorem aR_apply (z : FVec Ideal S2x2064x256 .f32) (e : Fin 2) (s : Fin 2064) (l : Fin 256) (h : IsReal (z (ix3 e s l))) :
    aR z (ix3 e s l) = logGate (z (ix3 e s l)) * Ideal.ofBits .f32 0x3D800000#32 := by
  rw [← logR_apply z e s l h]
  pointwise [aR]
  rw [show Ideal.ofBits FTy.f32 1098907648#32 = ((16 : ℝ) : EReal) by simp [Ideal.ofBits, Ideal.ieee, -EReal.coe_mul]; norm_num,
    show Ideal.ofBits FTy.f32 1031798784#32 = ((1 / 16 : ℝ) : EReal) by simp [Ideal.ofBits, Ideal.ieee, -EReal.coe_mul]; norm_num,
    Ideal.div_coe (by norm_num)]

/-! ## Chunks and heads -/

/-- Rows of key lanes, by chunks and heads. -/
def headsK (t : FVec Ideal S2x2064x256 .f32) : FVec Ideal S2x33x4x64x64 .f32 :=
  transpose S2x33x4x64x64 [0, 1, 3, 2, 4] (shapeCast S2x33x64x4x64
    (pad S2x2112x256 ![0, 48, 0] ![0, 0, 0] ![0, 0, 0] t zero pads_S2x2064x256_S2x2112x256_000_4800_000 h_S_)
    shapeCasts_S2x2112x256_S2x33x64x4x64) transposes_S2x33x64x4x64_S2x33x4x64x64_0_1_3_2_4
/-- Rows of value lanes. -/
def headsV (t : FVec Ideal S2x2064x512 .f32) : FVec Ideal S2x33x4x64x128 .f32 :=
  transpose S2x33x4x64x128 [0, 1, 3, 2, 4] (shapeCast S2x33x64x4x128
    (pad S2x2112x512 ![0, 48, 0] ![0, 0, 0] ![0, 0, 0] t zero pads_S2x2064x512_S2x2112x512_000_4800_000 h_S_)
    shapeCasts_S2x2112x512_S2x33x64x4x128) transposes_S2x33x64x4x128_S2x33x4x64x128_0_1_3_2_4

theorem headsK_apply (t : FVec Ideal S2x2064x256 .f32) (e : Fin 2) (n : Fin 33) (h : Fin 4) (i : Fin 64) (d : Fin 64) :
    headsK t (ix5 e n h i d) = chunk (behind fun s l => t (ix3 e s l)) n.val i (lane h d) := by
  pointwise [headsK]
  refine (dite_behind (fun s l => t (ix3 e s l)) _ (sitofp_zero (φ := .f32)) (n.val * 64 + i.val) (h.val * 64 + d.val)
    (by omega) (by omega)).trans ?_
  rw [mul_comm n.val 64]

theorem headsV_apply (t : FVec Ideal S2x2064x512 .f32) (e : Fin 2) (n : Fin 33) (h : Fin 4) (i : Fin 64) (w : Fin 128) :
    headsV t (ix5 e n h i w) = chunk (behind fun s l => t (ix3 e s l)) n.val i (vlane h w) := by
  pointwise [headsV]
  refine (dite_behind (fun s l => t (ix3 e s l)) _ (sitofp_zero (φ := .f32)) (n.val * 64 + i.val) (h.val * 128 + w.val)
    (by omega) (by omega)).trans ?_
  rw [mul_comm n.val 64]

/-! ## Inside a chunk -/

/-- The running sum of the gates' logarithms. -/
def cum (t : FVec Ideal S2x33x4x64x64 .f32) : FVec Ideal S2x33x4x64x64 .f32 :=
  Host.reduceWindowAdd ![1, 1, 1, 64, 1] ![1, 1, 1, 1, 1] ![0, 0, 0, 63, 0] ![0, 0, 0, 0, 0] t
    (broadcastInDim S_ ![] bcast_S_S_ (constant S_ .f32 0x00000000#32 : FVec Ideal S_ .f32))
    reduceWindows_S2x33x4x64x64_S2x33x4x64x64_w1s1p0_0_w1s1p0_0_w1s1p0_0_w64s1p63_0_w1s1p0_0 h_S_

theorem cum_apply (t : FVec Ideal S2x33x4x64x64 .f32) (e : Fin 2) (n : Fin 33) (h : Fin 4) (i : Fin 64) (d : Fin 64) :
    cum t (ix5 e n h i d) = ∑ y, if y ≤ i then t (ix5 e n h y d) else 0 :=
  runningSum t _ (funext fun _ => Ideal.ofBits_zero_f32) _ _ e n h i d

section Chunk
variable (q k s : FVec Ideal S2x33x4x64x64 .f32) (v : FVec Ideal S2x33x4x64x128 .f32)

/-- Its last row. -/
def endR : FVec Ideal S2x33x4x1x64 .f32 :=
  extractStridedSlice S2x33x4x1x64 ![0, 0, 0, 63, 0] s slices_S2x33x4x64x64_S2x33x4x1x64_0_0_0_63_0
/-- The queries, with the decay from the chunk's beginning. -/
def qInR : FVec Ideal S2x33x4x64x64 .f32 :=
  mulf (mulf q (broadcastInDim S2x33x4x64x64 ![] bcast_S_S2x33x4x64x64 (constant S_ .f32 0x3E000000#32))) (Host.exp s)
/-- The keys, without it. -/
def kInR : FVec Ideal S2x33x4x64x64 .f32 := mulf k (Host.exp (Host.negf s))
/-- The rows up to each row. -/
def maskR : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))
/-- The scores between a chunk's rows. -/
def scoreR : FVec Ideal S2x33x4x64x64 .f32 :=
  select (broadcastInDim S2x33x4x64x64 ![3, 4] bcast_S64x64_S2x33x4x64x64_3_4 maskR)
    (Host.dotGeneral dot_S2x33x4x64x64_S2x33x4x64x64_S2x33x4x64x64_4_4_3_3_012_012 none q k)
    (broadcastInDim S2x33x4x64x64 ![] bcast_S_S2x33x4x64x64 (id (constant S_ .f32 0x00000000#32 : FVec Ideal S_ .f32)))
/-- Rows weighted with scores. -/
def weighR : FVec Ideal S2x33x4x64x128 .f32 :=
  Host.dotGeneral dot_S2x33x4x64x64_S2x33x4x64x128_S2x33x4x64x128_4_3_3_4_012_012 none q v
/-- What a chunk adds to the state. -/
def kvR : FVec Ideal S2x33x4x64x128 .f32 :=
  Host.dotGeneral dot_S2x33x4x64x64_S2x33x4x64x128_S2x33x4x64x128_3_3_4_4_012_012 none
    (mulf k (Host.exp (subf (broadcastInDim S2x33x4x64x64 ![0, 1, 2, 3, 4] bcast_S2x33x4x1x64_S2x33x4x64x64_0_1_2_3_4 (endR s)) s))) v
/-- The chunks' decays, chunk after chunk. -/
def decaysR : FVec Ideal S33x2x4x64 .f32 :=
  transpose S33x2x4x64 [1, 0, 2, 3] (Host.exp (shapeCast S2x33x4x64 (endR s) shapeCasts_S2x33x4x1x64_S2x33x4x64))
    transposes_S2x33x4x64_S33x2x4x64_1_0_2_3
/-- What they add to the state, chunk after chunk. -/
def kvsR : FVec Ideal S33x2x4x64x128 .f32 :=
  transpose S33x2x4x64x128 [1, 0, 2, 3, 4] (kvR k s v) transposes_S2x33x4x64x128_S33x2x4x64x128_1_0_2_3_4

variable (e : Fin 2) (n : Fin 33) (h : Fin 4) (i j : Fin 64) (d : Fin 64) (w : Fin 128)

theorem qInR_apply : qInR q s (ix5 e n h i d) = q (ix5 e n h i d) * scale * Ideal.exp (s (ix5 e n h i d)) := by
  pointwise [qInR, scale]
theorem kInR_apply : kInR k s (ix5 e n h i d) = k (ix5 e n h i d) * Ideal.exp (-s (ix5 e n h i d)) := by
  pointwise [kInR]
theorem maskR_apply : maskR (ix2 i j) = if j ≤ i then 1#1 else 0#1 := by
  pointwise [maskR]
  revert i j
  decide +kernel
theorem scoreR_apply : scoreR q k (ix5 e n h i j) = if j ≤ i then ∑ d, q (ix5 e n h i d) * k (ix5 e n h j d) else 0 := by
  pointwise [scoreR]
  rw [maskR_apply]
  by_cases hj : j ≤ i
  · rw [if_pos hj, if_pos hj]; rfl
  · rw [if_neg hj, if_neg hj]; exact Ideal.ofBits_zero_f32
theorem weighR_apply : weighR q v (ix5 e n h i w) = ∑ j, q (ix5 e n h i j) * v (ix5 e n h j w) := by
  pointwise [weighR]
theorem kvsR_apply : kvsR k s v (ix5 n e h d w)
    = ∑ j, k (ix5 e n h j d) * Ideal.exp (s (ix5 e n h 63 d) - s (ix5 e n h j d)) * v (ix5 e n h j w) := by
  pointwise [kvsR, kvR, endR]
theorem decaysR_apply : decaysR s (ix4 n e h d) = Ideal.exp (s (ix5 e n h 63 d)) := by
  pointwise [decaysR, endR]

end Chunk

/-! ## The output -/

/-- The states that enter the chunks, chunk after chunk, by examples. -/
def stackR (st : FVec Ideal S33x2x4x64x128 .f32) : FVec Ideal S2x33x4x64x128 .f32 :=
  transpose S2x33x4x64x128 [1, 0, 2, 3, 4] st transposes_S33x2x4x64x128_S2x33x4x64x128_1_0_2_3_4
/-- They as the call gives them. -/
def statesR (st : FVec Ideal S2x33x4x64x128 .f32) : FVec Ideal S2x4224x256 .f32 :=
  shapeCast S2x4224x256 (transpose S2x33x128x4x64 [0, 1, 4, 2, 3] st transposes_S2x33x4x64x128_S2x33x128x4x64_0_1_4_2_3)
    shapeCasts_S2x33x128x4x64_S2x4224x256
/-- The attended rows. -/
def rowsR (t : FVec Ideal S2x33x4x64x128 .f32) : FVec Ideal S2x2064x4x128 .f32 :=
  extractStridedSlice S2x2064x4x128 ![0, 48, 0, 0] (shapeCast S2x2112x4x128
    (transpose S2x33x64x4x128 [0, 1, 3, 2, 4] t transposes_S2x33x4x64x128_S2x33x64x4x128_0_1_3_2_4)
    shapeCasts_S2x33x64x4x128_S2x2112x4x128) slices_S2x2112x4x128_S2x2064x4x128_0_48_0_0
/-- They, normalised. -/
def normR (o : FVec Ideal S2x2064x4x128 .f32) : FVec Ideal S2x2064x4x128 .f32 :=
  mulf o (broadcastInDim S2x2064x4x128 ![0, 1, 2, 3] bcast_S2x2064x4x1_S2x2064x4x128_0_1_2_3 (Host.rsqrt (addf
    (Host.divf (broadcastInDim S2x2064x4x1 ![0, 1, 2] bcast_S2x2064x4_S2x2064x4x1_0_1_2
      (Host.reduceAdd (mulf o o) (constant S_ .f32 0x00000000#32) reducesTo_S2x2064x4x128_S2x2064x4_d3 h_S_))
      (broadcastInDim S2x2064x4x1 ![] bcast_S_S2x2064x4x1 (constant S_ .f32 0x43000000#32)))
    (broadcastInDim S2x2064x4x1 ![] bcast_S_S2x2064x4x1 (constant S_ .f32 0x358637BD#32)))))
/-- They, scaled. -/
def gainedR (o : FVec Ideal S2x2064x4x128 .f32) (n : FVec Ideal S128 .f32) : FVec Ideal S2x2064x4x128 .f32 :=
  mulf o (broadcastInDim S2x2064x4x128 ![0, 1, 2, 3] bcast_S1x1x1x128_S2x2064x4x128_0_1_2_3
    (broadcastInDim S1x1x1x128 ![3] bcast_S128_S1x1x1x128_3 n))
/-- They, gated. -/
def gatedR (o : FVec Ideal S2x2064x4x128 .f32) (g : FVec Ideal S2x2064x512 .f32) : FVec Ideal S2x2064x512 .f32 :=
  let one : FVec Ideal S2x2064x512 .f32 := broadcastInDim S2x2064x512 ![] bcast_S_S2x2064x512 (constant S_ .f32 0x3F800000#32)
  shapeCast S2x2064x512 (mulf o
    (shapeCast S2x2064x4x128 (mulf g (Host.divf one (addf one (Host.exp (Host.negf g))))) shapeCasts_S2x2064x512_S2x2064x4x128))
    shapeCasts_S2x2064x4x128_S2x2064x512
/-- They behind their rows of zeros. -/
def outR (y : FVec Ideal S2x2064x512 .f32) : FVec Ideal S2x2112x512 .bf16 :=
  truncf .bf16 (pad S2x2112x512 ![0, 48, 0] ![0, 0, 0] ![0, 0, 0] y zero pads_S2x2064x512_S2x2112x512_000_4800_000 h_S_) bitsLt_bf16_f32

theorem stackR_apply (st : FVec Ideal S33x2x4x64x128 .f32) (e : Fin 2) (n : Fin 33) (h : Fin 4) (d : Fin 64) (w : Fin 128) :
    stackR st (ix5 e n h d w) = st (ix5 n e h d w) := by pointwise [stackR]
theorem statesR_apply (st : FVec Ideal S2x33x4x64x128 .f32) (e : Fin 2) (r : Fin 4224) (l : Fin 256) :
    statesR st (ix3 e r l) = st (ix5 e ⟨r.val / 128, by omega⟩ (headOf l) ⟨l.val % 64, by omega⟩ ⟨r.val % 128, by omega⟩) := by
  pointwise [statesR]
theorem rowsR_apply (t : FVec Ideal S2x33x4x64x128 .f32) (e : Fin 2) (s : Fin 2064) (h : Fin 4) (w : Fin 128) :
    rowsR t (ix4 e s h w) = t (ix5 e ⟨(48 + s.val) / 64, by omega⟩ h ⟨(48 + s.val) % 64, by omega⟩ w) := by
  pointwise [rowsR]
theorem normR_apply (o : FVec Ideal S2x2064x4x128 .f32) (e : Fin 2) (s : Fin 2064) (h : Fin 4) (w : Fin 128) :
    normR o (ix4 e s h w) = normed (fun w => o (ix4 e s h w)) w := by
  pointwise [normR, normed]
theorem gatedR_apply (o : FVec Ideal S2x2064x4x128 .f32) (n : FVec Ideal S128 .f32) (g : FVec Ideal S2x2064x512 .f32)
    (e : Fin 2) (s : Fin 2064) (l : Fin 512) :
    gatedR (gainedR o n) g (ix3 e s l) = o (ix4 e s ⟨l.val / 128, by omega⟩ ⟨l.val % 128, by omega⟩)
      * gate (n (ix1 ⟨l.val % 128, by omega⟩)) (g (ix3 e s l)) := by
  unfold gate
  rw [← mul_assoc]
  pointwise [gatedR, gainedR]
theorem outR_apply (y : FVec Ideal S2x2064x512 .f32) (e : Fin 2) (r : Fin 2112) (l : Fin 512) :
    outR y (ix3 e r l) = behind (fun s l => y (ix3 e s l)) r.val l := by
  pointwise [outR]
  refine Eq.trans ?_ (dite_behind (fun s l => y (ix3 e s l)) _ (sitofp_zero (φ := .f32)) r.val l.val r.isLt l.isLt)
  by_cases h : 48 ≤ r.val
  · rw [dif_pos ⟨h, by omega⟩, dif_pos ⟨⟨h, by omega⟩, l.isLt⟩]
  · rw [dif_neg (by omega), dif_neg (by omega)]; rfl

end Cert.GlaFwdRefIdeal.Stages

end
-- ==== Proof.GlaFwdRead.lean ====
module

public import proofs.«01_k».proof.Proof.GlaFwdStages

/-!
What the reference of the gated linear attention holds: at the entry of its recurrence over the chunks, around it, and at the end.
-/

@[expose] public section

set_option maxRecDepth 16384

noncomputable section

open Idealize.ShloMosaic Idealize.ShloMosaic.TcCoe Idealize.SL.Sem Idealize.ShloMosaic.StableHlo
open Gla RmsGrad

namespace Cert.GlaFwdRefIdeal.Read
open Cert.GlaFwdRefIdeal Cert.GlaFwdRefIdeal.Gen Cert.GlaFwdRefIdeal.Value Cert.GlaFwdRefIdeal.Stages
variable (m : (ℓ : Loc nD τ sig) → Buf (Elt Ideal) ℓ) (c : Dev nD)

abbrev arg0 : FVec Ideal S2x2064x2576 .f32 := m (c.tc.loc main_arg0)
abbrev arg1 : FVec Ideal S1x16x256 .f32 := m (c.tc.loc main_arg1)
abbrev arg2 : FVec Ideal S1x256 .f32 := m (c.tc.loc main_arg2)
abbrev arg3 : FVec Ideal S1x128 .f32 := m (c.tc.loc main_arg3)

/-- The keys, by chunks and heads. -/
abbrev keys : FVec Ideal S2x33x4x64x64 .f32 := headsK (kR (arg0 m c))
/-- The values. -/
abbrev values : FVec Ideal S2x33x4x64x128 .f32 := headsV (vR (arg0 m c))
/-- The running sums of the gates' logarithms. -/
abbrev sums : FVec Ideal S2x33x4x64x64 .f32 := cum (headsK (aR (zR (lrR (arg0 m c)) (arg1 m c) (arg2 m c))))
/-- The queries, with the decay from the chunk's beginning. -/
abbrev queries : FVec Ideal S2x33x4x64x64 .f32 := qInR (headsK (qR (arg0 m c))) (sums m c)

/-- Steps of which the reference's are made. -/
abbrev tempered (t : FVec Ideal S2x2064x256 .f32) : FVec Ideal S2x2064x256 .f32 :=
  Host.divf t (broadcastInDim S2x2064x256 ![] bcast_S_S2x2064x256 (constant S_ .f32 0x41800000#32))
abbrev scaled (t : FVec Ideal S2x33x4x64x64 .f32) : FVec Ideal S2x33x4x64x64 .f32 :=
  mulf t (broadcastInDim S2x33x4x64x64 ![] bcast_S_S2x33x4x64x64 (constant S_ .f32 0x3E000000#32))
abbrev decayed (t s : FVec Ideal S2x33x4x64x64 .f32) : FVec Ideal S2x33x4x64x64 .f32 := mulf t (Host.exp s)
/-- The state the recurrence starts from. -/
abbrev noState : FVec Ideal S2x4x64x128 .f32 := broadcastInDim S2x4x64x128 ![] bcast_S_S2x4x64x128 (constant S_ .f32 0x00000000#32)

/-! ## The operations before the recurrence, some at a time -/
section Windows
variable (V : Valuation τ sig (Elt Ideal))

/-- The parts of the rows, and the gates before their activation. -/
abbrev win0 : List (List (HloOp τ sig (Elt Ideal))) := [hostOps0]
/-- The logarithms of the gates. -/
abbrev win1 : List (List (HloOp τ sig (Elt Ideal))) := [hostOps0_1]
/-- The chunks and heads. -/
abbrev win2 : List (List (HloOp τ sig (Elt Ideal))) := [hostOps0_2, hostOps0_3, hostOps0_4, hostOps0_5, hostOps0_6, hostOps0_7, hostOps0_8, hostOps0_9, hostOps0_10]
/-- The running sums. -/
abbrev win3 : List (List (HloOp τ sig (Elt Ideal))) := [hostOps0_11]
/-- The inside of the chunks. -/
abbrev win4 : List (List (HloOp τ sig (Elt Ideal))) := [hostOps0_12, hostOps0_13, hostOps0_14, hostOps0_15, hostOps0_16]

theorem win0_v1 : (afterL win0 V (Proc.devRef .tc main_v1) : FVec Ideal S2x2064x256 .f32) = qR (V (Proc.devRef .tc main_arg0)) := by
  simp only [win0, afterL_eq_after_flatten, List.flatten_cons, List.flatten_nil, List.cons_append, List.nil_append]
  after_reads_simp
  rfl
theorem win0_v2 : (afterL win0 V (Proc.devRef .tc main_v2) : FVec Ideal S2x2064x256 .f32) = kR (V (Proc.devRef .tc main_arg0)) := by
  simp only [win0, afterL_eq_after_flatten, List.flatten_cons, List.flatten_nil, List.cons_append, List.nil_append]
  after_reads_simp
  rfl
theorem win0_v3 : (afterL win0 V (Proc.devRef .tc main_v3) : FVec Ideal S2x2064x512 .f32) = vR (V (Proc.devRef .tc main_arg0)) := by
  simp only [win0, afterL_eq_after_flatten, List.flatten_cons, List.flatten_nil, List.cons_append, List.nil_append]
  after_reads_simp
  rfl
theorem win0_v4 : (afterL win0 V (Proc.devRef .tc main_v4) : FVec Ideal S2x2064x512 .f32) = gR (V (Proc.devRef .tc main_arg0)) := by
  simp only [win0, afterL_eq_after_flatten, List.flatten_cons, List.flatten_nil, List.cons_append, List.nil_append]
  after_reads_simp
  rfl
theorem win0_v8 : (afterL win0 V (Proc.devRef .tc main_v8) : FVec Ideal S128 .f32) = shapeCast S128 ((V (Proc.devRef .tc main_arg3)) : FVec Ideal S1x128 .f32) shapeCasts_S1x128_S128 := by
  simp only [win0, afterL_eq_after_flatten, List.flatten_cons, List.flatten_nil, List.cons_append, List.nil_append]
  after_reads_simp
  rfl
theorem win0_v12 : (afterL win0 V (Proc.devRef .tc main_v12) : FVec Ideal S2x2064x256 .f32) = zR (lrR (V (Proc.devRef .tc main_arg0))) (V (Proc.devRef .tc main_arg1)) (V (Proc.devRef .tc main_arg2)) := by
  simp only [win0, afterL_eq_after_flatten, List.flatten_cons, List.flatten_nil, List.cons_append, List.nil_append]
  after_reads_simp
  rfl
theorem win1_v1 : (afterL win1 V (Proc.devRef .tc main_v1) : FVec Ideal S2x2064x256 .f32) = (V (Proc.devRef .tc main_v1)) := by
  simp only [win1, afterL_eq_after_flatten, List.flatten_cons, List.flatten_nil, List.cons_append, List.nil_append]
  after_reads_simp
theorem win1_v2 : (afterL win1 V (Proc.devRef .tc main_v2) : FVec Ideal S2x2064x256 .f32) = (V (Proc.devRef .tc main_v2)) := by
  simp only [win1, afterL_eq_after_flatten, List.flatten_cons, List.flatten_nil, List.cons_append, List.nil_append]
  after_reads_simp
theorem win1_v3 : (afterL win1 V (Proc.devRef .tc main_v3) : FVec Ideal S2x2064x512 .f32) = (V (Proc.devRef .tc main_v3)) := by
  simp only [win1, afterL_eq_after_flatten, List.flatten_cons, List.flatten_nil, List.cons_append, List.nil_append]
  after_reads_simp
theorem win1_v4 : (afterL win1 V (Proc.devRef .tc main_v4) : FVec Ideal S2x2064x512 .f32) = (V (Proc.devRef .tc main_v4)) := by
  simp only [win1, afterL_eq_after_flatten, List.flatten_cons, List.flatten_nil, List.cons_append, List.nil_append]
  after_reads_simp
theorem win1_v8 : (afterL win1 V (Proc.devRef .tc main_v8) : FVec Ideal S128 .f32) = (V (Proc.devRef .tc main_v8)) := by
  simp only [win1, afterL_eq_after_flatten, List.flatten_cons, List.flatten_nil, List.cons_append, List.nil_append]
  after_reads_simp
theorem win1_v13 : (afterL win1 V (Proc.devRef .tc main_v13) : FVec Ideal S2x2064x256 .f32) = logR (V (Proc.devRef .tc main_v12)) := by
  simp only [win1, afterL_eq_after_flatten, List.flatten_cons, List.flatten_nil, List.cons_append, List.nil_append]
  after_reads_simp
  rfl
theorem win2_v4 : (afterL win2 V (Proc.devRef .tc main_v4) : FVec Ideal S2x2064x512 .f32) = (V (Proc.devRef .tc main_v4)) := by
  simp only [win2, afterL_eq_after_flatten, List.flatten_cons, List.flatten_nil, List.cons_append, List.nil_append]
  after_reads_simp
theorem win2_v8 : (afterL win2 V (Proc.devRef .tc main_v8) : FVec Ideal S128 .f32) = (V (Proc.devRef .tc main_v8)) := by
  simp only [win2, afterL_eq_after_flatten, List.flatten_cons, List.flatten_nil, List.cons_append, List.nil_append]
  after_reads_simp
theorem win2_v20 : (afterL win2 V (Proc.devRef .tc main_v20) : FVec Ideal S2x33x4x64x64 .f32) = scaled (headsK (V (Proc.devRef .tc main_v1))) := by
  simp only [win2, afterL_eq_after_flatten, List.flatten_cons, List.flatten_nil, List.cons_append, List.nil_append]
  after_reads_simp
  simp only [TRef.toBuf, TRef.ofBuf, cast_eq]
  rfl
theorem win2_v23 : (afterL win2 V (Proc.devRef .tc main_v23) : FVec Ideal S2x33x4x64x64 .f32) = headsK (V (Proc.devRef .tc main_v2)) := by
  simp only [win2, afterL_eq_after_flatten, List.flatten_cons, List.flatten_nil, List.cons_append, List.nil_append]
  after_reads_simp
  simp only [TRef.toBuf, TRef.ofBuf, cast_eq]
  rfl
theorem win2_v26 : (afterL win2 V (Proc.devRef .tc main_v26) : FVec Ideal S2x33x4x64x128 .f32) = headsV (V (Proc.devRef .tc main_v3)) := by
  simp only [win2, afterL_eq_after_flatten, List.flatten_cons, List.flatten_nil, List.cons_append, List.nil_append]
  after_reads_simp
  simp only [TRef.toBuf, TRef.ofBuf, cast_eq]
  rfl
theorem win2_v29 : (afterL win2 V (Proc.devRef .tc main_v29) : FVec Ideal S2x33x4x64x64 .f32) = headsK (tempered (V (Proc.devRef .tc main_v13))) := by
  simp only [win2, afterL_eq_after_flatten, List.flatten_cons, List.flatten_nil, List.cons_append, List.nil_append]
  after_reads_simp
  simp only [TRef.toBuf, TRef.ofBuf, cast_eq]
  rfl
theorem win3_v4 : (afterL win3 V (Proc.devRef .tc main_v4) : FVec Ideal S2x2064x512 .f32) = (V (Proc.devRef .tc main_v4)) := by
  simp only [win3, afterL_eq_after_flatten, List.flatten_cons, List.flatten_nil, List.cons_append, List.nil_append]
  after_reads_simp
theorem win3_v8 : (afterL win3 V (Proc.devRef .tc main_v8) : FVec Ideal S128 .f32) = (V (Proc.devRef .tc main_v8)) := by
  simp only [win3, afterL_eq_after_flatten, List.flatten_cons, List.flatten_nil, List.cons_append, List.nil_append]
  after_reads_simp
theorem win3_v20 : (afterL win3 V (Proc.devRef .tc main_v20) : FVec Ideal S2x33x4x64x64 .f32) = (V (Proc.devRef .tc main_v20)) := by
  simp only [win3, afterL_eq_after_flatten, List.flatten_cons, List.flatten_nil, List.cons_append, List.nil_append]
  after_reads_simp
theorem win3_v23 : (afterL win3 V (Proc.devRef .tc main_v23) : FVec Ideal S2x33x4x64x64 .f32) = (V (Proc.devRef .tc main_v23)) := by
  simp only [win3, afterL_eq_after_flatten, List.flatten_cons, List.flatten_nil, List.cons_append, List.nil_append]
  after_reads_simp
theorem win3_v26 : (afterL win3 V (Proc.devRef .tc main_v26) : FVec Ideal S2x33x4x64x128 .f32) = (V (Proc.devRef .tc main_v26)) := by
  simp only [win3, afterL_eq_after_flatten, List.flatten_cons, List.flatten_nil, List.cons_append, List.nil_append]
  after_reads_simp
theorem win3_v30 : (afterL win3 V (Proc.devRef .tc main_v30) : FVec Ideal S2x33x4x64x64 .f32) = cum (V (Proc.devRef .tc main_v29)) := by
  simp only [win3, afterL_eq_after_flatten, List.flatten_cons, List.flatten_nil, List.cons_append, List.nil_append]
  after_reads_simp
  rfl
theorem win4_v4 : (afterL win4 V (Proc.devRef .tc main_v4) : FVec Ideal S2x2064x512 .f32) = (V (Proc.devRef .tc main_v4)) := by
  simp only [win4, afterL_eq_after_flatten, List.flatten_cons, List.flatten_nil, List.cons_append, List.nil_append]
  after_reads_simp
theorem win4_v8 : (afterL win4 V (Proc.devRef .tc main_v8) : FVec Ideal S128 .f32) = (V (Proc.devRef .tc main_v8)) := by
  simp only [win4, afterL_eq_after_flatten, List.flatten_cons, List.flatten_nil, List.cons_append, List.nil_append]
  after_reads_simp
theorem win4_v33 : (afterL win4 V (Proc.devRef .tc main_v33) : FVec Ideal S2x33x4x64x64 .f32) = decayed (V (Proc.devRef .tc main_v20)) (V (Proc.devRef .tc main_v30)) := by
  simp only [win4, afterL_eq_after_flatten, List.flatten_cons, List.flatten_nil, List.cons_append, List.nil_append]
  after_reads_simp
theorem win4_v41 : (afterL win4 V (Proc.devRef .tc main_v41) : FVec Ideal S2x33x4x64x128 .f32) = weighR (scoreR (decayed (V (Proc.devRef .tc main_v20)) (V (Proc.devRef .tc main_v30))) (kInR (V (Proc.devRef .tc main_v23)) (V (Proc.devRef .tc main_v30)))) (V (Proc.devRef .tc main_v26)) := by
  simp only [win4, afterL_eq_after_flatten, List.flatten_cons, List.flatten_nil, List.cons_append, List.nil_append]
  after_reads_simp
  rfl
theorem win4_decays : (afterL win4 V (Proc.devRef .tc main_v53_0) : FVec Ideal S33x2x4x64 .f32) = decaysR (V (Proc.devRef .tc main_v30)) := by
  simp only [win4, afterL_eq_after_flatten, List.flatten_cons, List.flatten_nil, List.cons_append, List.nil_append]
  after_reads_simp
  rfl
theorem win4_kvs : (afterL win4 V (Proc.devRef .tc main_v53_1) : FVec Ideal S33x2x4x64x128 .f32) = kvsR (V (Proc.devRef .tc main_v23)) (V (Proc.devRef .tc main_v30)) (V (Proc.devRef .tc main_v26)) := by
  simp only [win4, afterL_eq_after_flatten, List.flatten_cons, List.flatten_nil, List.cons_append, List.nil_append]
  after_reads_simp
  rfl
theorem win4_state : (afterL win4 V (Proc.devRef .tc main_v53_3) : FVec Ideal S2x4x64x128 .f32) = noState := by
  simp only [win4, afterL_eq_after_flatten, List.flatten_cons, List.flatten_nil, List.cons_append, List.nil_append]
  after_reads_simp
  rfl

end Windows

/-! ## The recurrence's entry -/

/-- The contents there. -/
abbrev E : Valuation τ sig (Elt Ideal) := entryContents preI m c

theorem E_eq : E m c = afterL win4 (afterL win3 (afterL win2 (afterL win1 (afterL win0 (launchContents m c))))) := rfl

theorem entry_v4 : (E m c (Proc.devRef .tc main_v4) : FVec Ideal S2x2064x512 .f32) = gR (arg0 m c) := by
  rw [E_eq, win4_v4, win3_v4, win2_v4, win1_v4, win0_v4]
theorem entry_v8 : (E m c (Proc.devRef .tc main_v8) : FVec Ideal S128 .f32) = shapeCast S128 (arg3 m c) shapeCasts_S1x128_S128 := by
  rw [E_eq, win4_v8, win3_v8, win2_v8, win1_v8, win0_v8]
theorem entry_v33 : (E m c (Proc.devRef .tc main_v33) : FVec Ideal S2x33x4x64x64 .f32) = queries m c := by
  rw [E_eq, win4_v33, win3_v20, win3_v30, win2_v20, win2_v29, win1_v1, win1_v13, win0_v1, win0_v12]
  rfl
theorem entry_v41 : (E m c (Proc.devRef .tc main_v41) : FVec Ideal S2x33x4x64x128 .f32)
    = weighR (scoreR (queries m c) (kInR (keys m c) (sums m c))) (values m c) := by
  rw [E_eq, win4_v41, win3_v20, win3_v23, win3_v26, win3_v30, win2_v20, win2_v23, win2_v26, win2_v29, win1_v1, win1_v2, win1_v3,
    win1_v13, win0_v1, win0_v2, win0_v3, win0_v12]
  rfl
theorem entry_decays : (E m c (Proc.devRef .tc main_v53_0) : FVec Ideal S33x2x4x64 .f32) = decaysR (sums m c) := by
  rw [E_eq, win4_decays, win3_v30, win2_v29, win1_v13, win0_v12]
  rfl
theorem entry_kvs : (E m c (Proc.devRef .tc main_v53_1) : FVec Ideal S33x2x4x64x128 .f32)
    = kvsR (keys m c) (sums m c) (values m c) := by
  rw [E_eq, win4_kvs, win3_v23, win3_v26, win3_v30, win2_v23, win2_v26, win2_v29, win1_v2, win1_v3, win1_v13, win0_v2, win0_v3,
    win0_v12]
  rfl
theorem entry_state : (E m c (Proc.devRef .tc main_v53_3) : FVec Ideal S2x4x64x128 .f32)
    = noState := by
  rw [E_eq, win4_state]

end Cert.GlaFwdRefIdeal.Read

end
-- ==== Proof.GlaFwdLoop.lean ====
module

public import proofs.«01_k».proof.Proof.GlaFwdRead

/-!
The recurrence over the chunks as the reference runs it: the state that enters each chunk, and the stack of them it leaves.
-/

@[expose] public section

set_option maxRecDepth 16384

noncomputable section

open Idealize.ShloMosaic Idealize.ShloMosaic.TcCoe Idealize.SL.Sem Idealize.ShloMosaic.StableHlo
open Gla RmsGrad

namespace Cert.GlaFwdRefIdeal.Read
open Cert.GlaFwdRefIdeal Cert.GlaFwdRefIdeal.Gen Cert.GlaFwdRefIdeal.Value Cert.GlaFwdRefIdeal.Stages
variable (m : (ℓ : Loc nD τ sig) → Buf (Elt Ideal) ℓ) (c : Dev nD)

/-! ## A trip, entry by entry -/

/-- A chunk's decay, taken off the stack. -/
theorem slot_decay (x : FVec Ideal S33x2x4x64 .f32) (start : Fin 4 → Int) (n : Fin 33) (h0 : start 0 = n.val) (h1 : start 1 = 0)
    (h2 : start 2 = 0) (h3 : start 3 = 0) (e : Fin 2) (h : Fin 4) (d : Fin 64) :
    Host.dynamicSlice S1x2x4x64 x start sliceFits_S33x2x4x64_S1x2x4x64 (ix4 0 e h d) = x (ix4 n e h d) := by
  rw [Host.dynamicSlice_apply]
  refine congrArg x (funext fun a => Fin.ext ?_)
  match a with
  | 0 => exact (congrArg (· + 0) (Host.clampedStart_of_le (s := S33x2x4x64) (t := S1x2x4x64) rfl start 0 n.val h0 (by show n.val + 1 ≤ 33; omega)))
  | 1 => exact (congrArg (· + e.val) (Host.clampedStart_of_le (s := S33x2x4x64) (t := S1x2x4x64) rfl start 1 0 h1 (by decide))).trans (zero_add _)
  | 2 => exact (congrArg (· + h.val) (Host.clampedStart_of_le (s := S33x2x4x64) (t := S1x2x4x64) rfl start 2 0 h2 (by decide))).trans (zero_add _)
  | 3 => exact (congrArg (· + d.val) (Host.clampedStart_of_le (s := S33x2x4x64) (t := S1x2x4x64) rfl start 3 0 h3 (by decide))).trans (zero_add _)

/-- What a chunk adds to the state, taken off the stack. -/
theorem slot_kv (x : FVec Ideal S33x2x4x64x128 .f32) (start : Fin 5 → Int) (n : Fin 33) (h0 : start 0 = n.val) (h1 : start 1 = 0)
    (h2 : start 2 = 0) (h3 : start 3 = 0) (h4 : start 4 = 0) (e : Fin 2) (h : Fin 4) (d : Fin 64) (w : Fin 128) :
    Host.dynamicSlice S1x2x4x64x128 x start sliceFits_S33x2x4x64x128_S1x2x4x64x128 (ix5 0 e h d w) = x (ix5 n e h d w) := by
  rw [Host.dynamicSlice_apply]
  refine congrArg x (funext fun a => Fin.ext ?_)
  match a with
  | 0 => exact (congrArg (· + 0) (Host.clampedStart_of_le (s := S33x2x4x64x128) (t := S1x2x4x64x128) rfl start 0 n.val h0 (by show n.val + 1 ≤ 33; omega)))
  | 1 => exact (congrArg (· + e.val) (Host.clampedStart_of_le (s := S33x2x4x64x128) (t := S1x2x4x64x128) rfl start 1 0 h1 (by decide))).trans (zero_add _)
  | 2 => exact (congrArg (· + h.val) (Host.clampedStart_of_le (s := S33x2x4x64x128) (t := S1x2x4x64x128) rfl start 2 0 h2 (by decide))).trans (zero_add _)
  | 3 => exact (congrArg (· + d.val) (Host.clampedStart_of_le (s := S33x2x4x64x128) (t := S1x2x4x64x128) rfl start 3 0 h3 (by decide))).trans (zero_add _)
  | 4 => exact (congrArg (· + w.val) (Host.clampedStart_of_le (s := S33x2x4x64x128) (t := S1x2x4x64x128) rfl start 4 0 h4 (by decide))).trans (zero_add _)

/-- A state, laid on the stack. -/
theorem slot_update (x : FVec Ideal S33x2x4x64x128 .f32) (u : FVec Ideal S1x2x4x64x128 .f32) (start : Fin 5 → Int) (k n : Fin 33)
    (h0 : start 0 = k.val) (h1 : start 1 = 0) (h2 : start 2 = 0) (h3 : start 3 = 0) (h4 : start 4 = 0)
    (e : Fin 2) (h : Fin 4) (d : Fin 64) (w : Fin 128) :
    Host.dynamicUpdateSlice x u start updateFits_S33x2x4x64x128_S1x2x4x64x128 (ix5 n e h d w)
      = if n = k then u (ix5 0 e h d w) else x (ix5 n e h d w) := by
  have c0 : ∀ hr, Host.clampedStart S33x2x4x64x128 S1x2x4x64x128 hr start 0 = k.val := fun hr =>
    Host.clampedStart_of_le (s := S33x2x4x64x128) (t := S1x2x4x64x128) hr start 0 k.val h0 (by show k.val + 1 ≤ 33; omega)
  have c1 : ∀ hr, Host.clampedStart S33x2x4x64x128 S1x2x4x64x128 hr start 1 = 0 := fun hr => Host.clampedStart_of_le (s := S33x2x4x64x128) (t := S1x2x4x64x128) rfl start 1 0 h1 (by decide)
  have c2 : ∀ hr, Host.clampedStart S33x2x4x64x128 S1x2x4x64x128 hr start 2 = 0 := fun hr => Host.clampedStart_of_le (s := S33x2x4x64x128) (t := S1x2x4x64x128) rfl start 2 0 h2 (by decide)
  have c3 : ∀ hr, Host.clampedStart S33x2x4x64x128 S1x2x4x64x128 hr start 3 = 0 := fun hr => Host.clampedStart_of_le (s := S33x2x4x64x128) (t := S1x2x4x64x128) rfl start 3 0 h3 (by decide)
  have c4 : ∀ hr, Host.clampedStart S33x2x4x64x128 S1x2x4x64x128 hr start 4 = 0 := fun hr => Host.clampedStart_of_le (s := S33x2x4x64x128) (t := S1x2x4x64x128) rfl start 4 0 h4 (by decide)
  rw [Host.dynamicUpdateSlice_apply]
  by_cases hn : n = k
  · subst hn
    rw [if_pos rfl, dif_pos]
    · refine congrArg u (funext fun a => Fin.ext ?_)
      match a with
      | 0 => exact (congrArg (n.val - ·) (c0 _)).trans (Nat.sub_self _)
      | 1 => exact congrArg (e.val - ·) (c1 _)
      | 2 => exact congrArg (h.val - ·) (c2 _)
      | 3 => exact congrArg (d.val - ·) (c3 _)
      | 4 => exact congrArg (w.val - ·) (c4 _)
    · intro a
      match a with
      | 0 => exact ⟨(c0 _).le, by rw [c0]; exact Nat.lt_succ_self _⟩
      | 1 => exact ⟨(c1 _).le.trans (Nat.zero_le _), by rw [c1]; show e.val < 0 + 2; omega⟩
      | 2 => exact ⟨(c2 _).le.trans (Nat.zero_le _), by rw [c2]; show h.val < 0 + 4; omega⟩
      | 3 => exact ⟨(c3 _).le.trans (Nat.zero_le _), by rw [c3]; show d.val < 0 + 64; omega⟩
      | 4 => exact ⟨(c4 _).le.trans (Nat.zero_le _), by rw [c4]; show w.val < 0 + 128; omega⟩
  · rw [if_neg hn, dif_neg]
    intro hh
    have h5 := hh 0
    rw [c0] at h5
    have h6 : k.val ≤ n.val ∧ n.val < k.val + 1 := h5
    exact hn (Fin.ext (by omega))

/-- The state after a chunk. -/
def tripState (dec : FVec Ideal S33x2x4x64 .f32) (kvs : FVec Ideal S33x2x4x64x128 .f32) (t : IVec S_ 32) (st : FVec Ideal S2x4x64x128 .f32) :
    FVec Ideal S2x4x64x128 .f32 :=
  id (addf (mulf (broadcastInDim S2x4x64x128 ![0, 1, 2, 3] bcast_S2x4x64x1_S2x4x64x128_0_1_2_3
      (broadcastInDim S2x4x64x1 ![0, 1, 2] bcast_S2x4x64_S2x4x64x1_0_1_2 (shapeCast S2x4x64
        (Host.dynamicSlice S1x2x4x64 dec (fun k => ((![t, constantI S_ 32 0#32, constantI S_ 32 0#32, constantI S_ 32 0#32] : Fin 4 → IVec S_ 32) k
          (Shape.Idx.first h_S_)).toInt) sliceFits_S33x2x4x64_S1x2x4x64) shapeCasts_S1x2x4x64_S2x4x64))) st)
    (shapeCast S2x4x64x128 (Host.dynamicSlice S1x2x4x64x128 kvs (fun k => ((![t, constantI S_ 32 0#32, constantI S_ 32 0#32,
      constantI S_ 32 0#32, constantI S_ 32 0#32] : Fin 5 → IVec S_ 32) k (Shape.Idx.first h_S_)).toInt)
      sliceFits_S33x2x4x64x128_S1x2x4x64x128) shapeCasts_S1x2x4x64x128_S2x4x64x128))
/-- The stack after a chunk. -/
def tripStack (t : IVec S_ 32) (st : FVec Ideal S2x4x64x128 .f32) (x : FVec Ideal S33x2x4x64x128 .f32) : FVec Ideal S33x2x4x64x128 .f32 :=
  id (Host.dynamicUpdateSlice x (broadcastInDim S1x2x4x64x128 ![1, 2, 3, 4] bcast_S2x4x64x128_S1x2x4x64x128_1_2_3_4 st)
    (fun k => ((![t, constantI S_ 32 0#32, constantI S_ 32 0#32, constantI S_ 32 0#32, constantI S_ 32 0#32] : Fin 5 → IVec S_ 32) k
      (Shape.Idx.first h_S_)).toInt) updateFits_S33x2x4x64x128_S1x2x4x64x128)

/-- The counter at the `n`-th trip. -/
abbrev counter (n : ℕ) : IVec S_ 32 := fun _ => Scf.iv 0#32 1#32 n

theorem counter_toInt (n : Fin 33) : (counter n.val (Shape.Idx.first h_S_)).toInt = n.val := by
  revert n
  decide +kernel

theorem tripState_apply (dec : FVec Ideal S33x2x4x64 .f32) (kvs : FVec Ideal S33x2x4x64x128 .f32) (n : Fin 33) (st : FVec Ideal S2x4x64x128 .f32)
    (e : Fin 2) (h : Fin 4) (d : Fin 64) (w : Fin 128) :
    tripState dec kvs (counter n.val) st (ix4 e h d w) = dec (ix4 n e h d) * st (ix4 e h d w) + kvs (ix5 n e h d w) := by
  rw [← slot_decay dec (fun k => ((![counter n.val, constantI S_ 32 0#32, constantI S_ 32 0#32, constantI S_ 32 0#32] : Fin 4 → IVec S_ 32) k
      (Shape.Idx.first h_S_)).toInt) n (counter_toInt n) rfl rfl rfl e h d,
    ← slot_kv kvs (fun k => ((![counter n.val, constantI S_ 32 0#32, constantI S_ 32 0#32,
      constantI S_ 32 0#32, constantI S_ 32 0#32] : Fin 5 → IVec S_ 32) k (Shape.Idx.first h_S_)).toInt) n (counter_toInt n) rfl rfl rfl rfl e h d w]
  generalize hX : Host.dynamicSlice S1x2x4x64 dec _ _ = X
  generalize hY : Host.dynamicSlice S1x2x4x64x128 kvs _ _ = Y
  unfold tripState
  rw [hX, hY, id_eq]
  pointwise

theorem tripStack_apply (k n : Fin 33) (st : FVec Ideal S2x4x64x128 .f32) (x : FVec Ideal S33x2x4x64x128 .f32)
    (e : Fin 2) (h : Fin 4) (d : Fin 64) (w : Fin 128) :
    tripStack (counter k.val) st x (ix5 n e h d w) = if n = k then st (ix4 e h d w) else x (ix5 n e h d w) := by
  refine (slot_update x _ _ k n (counter_toInt k) rfl rfl rfl rfl e h d w).trans ?_
  refine if_congr Iff.rfl ?_ rfl
  pointwise

/-! ## Trip after trip -/

/-- The state before the `n`-th trip. -/
def stateAt (n : ℕ) : FVec Ideal S2x4x64x128 .f32 := atK m n c (Proc.devRef .tc main_v53_3)
/-- The stack then. -/
def stackAt (n : ℕ) : FVec Ideal S33x2x4x64x128 .f32 := atK m n c (Proc.devRef .tc main_v53_4)

theorem decays_at (n : ℕ) : (atK m n c (Proc.devRef .tc main_v53_0) : FVec Ideal S33x2x4x64 .f32) = decaysR (sums m c) := by
  induction n with
  | zero => exact entry_decays m c
  | succ n ih => exact ((trip_main_v53_0 _).trans (cond_keeps _ main_v53_0 (by decide))).trans ih
theorem kvs_at (n : ℕ) : (atK m n c (Proc.devRef .tc main_v53_1) : FVec Ideal S33x2x4x64x128 .f32) = kvsR (keys m c) (sums m c) (values m c) := by
  induction n with
  | zero => exact entry_kvs m c
  | succ n ih => exact ((trip_main_v53_1 _).trans (cond_keeps _ main_v53_1 (by decide))).trans ih
theorem stateAt_succ (n : ℕ) : stateAt m c (n + 1)
    = tripState (decaysR (sums m c)) (kvsR (keys m c) (sums m c) (values m c)) (counter n) (stateAt m c n) := by
  rw [← decays_at m c n, ← kvs_at m c n, show counter n = atK m n c (Proc.devRef .tc main_v53_2) from (atK_ctr m c n).symm]
  exact (trip_main_v53_3 _).trans (step_main_v53_3_congr (cond_keeps _))
theorem stackAt_succ (n : ℕ) : stackAt m c (n + 1) = tripStack (counter n) (stateAt m c n) (stackAt m c n) := by
  rw [show counter n = atK m n c (Proc.devRef .tc main_v53_2) from (atK_ctr m c n).symm]
  exact (trip_main_v53_4 _).trans (step_main_v53_4_congr (cond_keeps _))

theorem stackAt_eq (n k : ℕ) (hk : k ≤ 33) (hn : n < k) (e : Fin 2) (h : Fin 4) (d : Fin 64) (w : Fin 128) :
    stackAt m c k (ix5 ⟨n, by omega⟩ e h d w) = stateAt m c n (ix4 e h d w) := by
  induction k with
  | zero => omega
  | succ k ih =>
    rw [stackAt_succ]
    refine (tripStack_apply ⟨k, by omega⟩ ⟨n, by omega⟩ _ _ e h d w).trans ?_
    by_cases hnk : n = k
    · subst hnk; rw [if_pos rfl]
    · rw [if_neg (fun he => hnk (congrArg Fin.val he))]
      exact ih (by omega) (by omega)

/-! ## Buffers the recurrence leaves alone -/

theorem trips_keep (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (n : ℕ) : atK m n c (Proc.devRef .tc r) = E m c (Proc.devRef .tc r) := by
  induction n with
  | zero => rfl
  | succ n ih =>
    refine Eq.trans ?_ ih
    show afterL bodyI (after condOps (atK m n c)) (Proc.devRef .tc r) = _
    simp only [bodyI, afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]

/-! ## The operations behind the recurrence -/
section Windows
variable (V : Valuation τ sig (Elt Ideal))

abbrev win5 : List (List (HloOp τ sig (Elt Ideal))) := [hostOps0_17]
abbrev win6 : List (List (HloOp τ sig (Elt Ideal))) := [hostOps0_18, hostOps0_19, hostOps0_20, hostOps0_21]

theorem win5_v54 : (afterL win5 V (Proc.devRef .tc main_v54) : FVec Ideal S2x33x4x64x128 .f32) = stackR (V (Proc.devRef .tc main_v53_4)) := by
  simp only [win5, afterL_eq_after_flatten, List.flatten_cons, List.flatten_nil, List.cons_append, List.nil_append]
  after_reads_simp
  rfl
theorem win5_v4 : (afterL win5 V (Proc.devRef .tc main_v4) : FVec Ideal S2x2064x512 .f32) = V (Proc.devRef .tc main_v4) := by
  simp only [win5, afterL_eq_after_flatten, List.flatten_cons, List.flatten_nil, List.cons_append, List.nil_append]
  after_reads_simp
theorem win5_v72 : (afterL win5 V (Proc.devRef .tc main_v72) : FVec Ideal S2x2064x4x128 .f32)
    = gainedR (normR (rowsR (addf (V (Proc.devRef .tc main_v41) : FVec Ideal S2x33x4x64x128 .f32)
        (weighR (V (Proc.devRef .tc main_v33)) (stackR (V (Proc.devRef .tc main_v53_4))))))) (V (Proc.devRef .tc main_v8)) := by
  simp only [win5, afterL_eq_after_flatten, List.flatten_cons, List.flatten_nil, List.cons_append, List.nil_append]
  after_reads_simp
  rfl
theorem win6_v80 : (afterL win6 V (Proc.devRef .tc main_v80) : FVec Ideal S2x4224x256 .f32) = statesR (V (Proc.devRef .tc main_v54)) := by
  simp only [win6, afterL_eq_after_flatten, List.flatten_cons, List.flatten_nil, List.cons_append, List.nil_append]
  after_reads_simp
  rfl
theorem win6_v78 : (afterL win6 V (Proc.devRef .tc main_v78) : FVec Ideal S2x2112x512 .bf16)
    = outR (gatedR (V (Proc.devRef .tc main_v72)) (V (Proc.devRef .tc main_v4))) := by
  simp only [win6, afterL_eq_after_flatten, List.flatten_cons, List.flatten_nil, List.cons_append, List.nil_append]
  after_reads_simp
  simp only [TRef.toBuf, TRef.ofBuf, cast_eq]
  rfl

end Windows

/-! ## The results -/

theorem final_eq : finalContents condOps preI bodyI postI 33 m c = afterL win6 (afterL win5 (after condOps (atK m 33 c))) := rfl

theorem final_states : (finalContents condOps preI bodyI postI 33 m c (Proc.devRef .tc main_v80) : FVec Ideal S2x4224x256 .f32)
    = statesR (stackR (stackAt m c 33)) := by
  rw [final_eq, win6_v80, win5_v54, after_of_writes_sub condOps _ condOps_writes (by decide +kernel)]
  rfl
theorem final_y : (finalContents condOps preI bodyI postI 33 m c (Proc.devRef .tc main_v78) : FVec Ideal S2x2112x512 .bf16)
    = outR (gatedR (gainedR (normR (rowsR (addf (weighR (scoreR (queries m c) (kInR (keys m c) (sums m c))) (values m c))
        (weighR (queries m c) (stackR (stackAt m c 33)))))) (shapeCast S128 (arg3 m c) shapeCasts_S1x128_S128)) (gR (arg0 m c))) := by
  rw [final_eq, win6_v78, win5_v72, win5_v4, after_of_writes_sub condOps (atK m 33 c) condOps_writes (r := main_v41) (by decide +kernel),
    after_of_writes_sub condOps (atK m 33 c) condOps_writes (r := main_v33) (by decide +kernel),
    after_of_writes_sub condOps (atK m 33 c) condOps_writes (r := main_v53_4) (by decide +kernel),
    after_of_writes_sub condOps (atK m 33 c) condOps_writes (r := main_v8) (by decide +kernel),
    after_of_writes_sub condOps (atK m 33 c) condOps_writes (r := main_v4) (by decide +kernel),
    trips_keep m c main_v41 (by decide) (by decide) (by decide) (by decide) (by decide) (by decide),
    trips_keep m c main_v33 (by decide) (by decide) (by decide) (by decide) (by decide) (by decide),
    trips_keep m c main_v8 (by decide) (by decide) (by decide) (by decide) (by decide) (by decide),
    trips_keep m c main_v4 (by decide) (by decide) (by decide) (by decide) (by decide) (by decide),
    entry_v41, entry_v33, entry_v8, entry_v4]
  rfl

end Cert.GlaFwdRefIdeal.Read

end
-- ==== Proof.GlaFwdRefValue.lean ====
module

public import proofs.«01_k».proof.Proof.GlaFwdLoop

/-!
What the reference of the gated linear attention gives: the attended rows, normalised and gated, and the states that enter the chunks.
-/

@[expose] public section

set_option maxRecDepth 16384

noncomputable section

open Idealize.ShloMosaic Idealize.ShloMosaic.TcCoe Idealize.SL.Sem Idealize.ShloMosaic.StableHlo
open Gla RmsGrad

namespace Cert.GlaFwdRefIdeal.Read
open Cert.GlaFwdRefIdeal Cert.GlaFwdRefIdeal.Gen Cert.GlaFwdRefIdeal.Value Cert.GlaFwdRefIdeal.Stages
variable (m : (ℓ : Loc nD τ sig) → Buf (Elt Ideal) ℓ) (c : Dev nD)

/-- The queries of an example. -/
def q (e : Fin 2) (r : ℕ) (l : Fin 256) : EReal := behind (fun s l => arg0 m c (ix3 e s ⟨1024 + l.val, by omega⟩)) r l
/-- The keys. -/
def k (e : Fin 2) (r : ℕ) (l : Fin 256) : EReal := behind (fun s l => arg0 m c (ix3 e s ⟨1280 + l.val, by omega⟩)) r l
/-- The values. -/
def v (e : Fin 2) (r : ℕ) (l : Fin 512) : EReal := behind (fun s l => arg0 m c (ix3 e s ⟨1536 + l.val, by omega⟩)) r l
/-- The gates of the key lanes before their activation. -/
def z (e : Fin 2) (s : Fin 2064) (l : Fin 256) : EReal :=
  (∑ x : Fin 16, arg0 m c (ix3 e s ⟨2560 + x.val, by omega⟩) * arg1 m c (ix3 0 x l)) + arg2 m c (ix2 0 l)
/-- Their logarithms. -/
def a (e : Fin 2) (r : ℕ) (l : Fin 256) : EReal :=
  behind (fun s l => logGate (z m c e s l) * Ideal.ofBits .f32 0x3D800000#32) r l

theorem headsK_q (e : Fin 2) (n : Fin 33) (h : Fin 4) (i d : Fin 64) :
    headsK (qR (arg0 m c)) (ix5 e n h i d) = chunk (q m c e) n.val i (lane h d) := by
  rw [headsK_apply]; simp only [qR_apply]; rfl
theorem headsK_k (e : Fin 2) (n : Fin 33) (h : Fin 4) (i d : Fin 64) :
    keys m c (ix5 e n h i d) = chunk (k m c e) n.val i (lane h d) := by
  refine (headsK_apply _ e n h i d).trans ?_; simp only [kR_apply]; rfl
theorem headsV_v (e : Fin 2) (n : Fin 33) (h : Fin 4) (i : Fin 64) (w : Fin 128) :
    values m c (ix5 e n h i w) = chunk (v m c e) n.val i (vlane h w) := by
  refine (headsV_apply _ e n h i w).trans ?_; simp only [vR_apply]; rfl

theorem headOf_lane (h : Fin 4) (d : Fin 64) : headOf (lane h d) = h := Fin.ext (by show (h.val * 64 + d.val) / 64 = h.val; omega)

variable (hz : ∀ e s l, IsReal (z m c e s l))
include hz

theorem sums_apply (e : Fin 2) (n : Fin 33) (h : Fin 4) (i d : Fin 64) :
    sums m c (ix5 e n h i d) = run (chunk (a m c e) n.val) i (lane h d) := by
  have ez : ∀ e s l, zR (lrR (arg0 m c)) (arg1 m c) (arg2 m c) (ix3 e s l) = z m c e s l := fun e s l => by
    rw [zR_apply]; simp only [lrR_apply]; rfl
  have ea : ∀ e, (fun s l => aR (zR (lrR (arg0 m c)) (arg1 m c) (arg2 m c)) (ix3 e s l))
      = fun s l => logGate (z m c e s l) * Ideal.ofBits .f32 0x3D800000#32 := fun e => by
    funext s l
    rw [aR_apply _ e s l (by rw [ez]; exact hz e s l), ez]
  refine (cum_apply _ e n h i d).trans ?_
  unfold run
  refine Finset.sum_congr rfl fun y _ => if_congr Iff.rfl ?_ rfl
  rw [headsK_apply, ea]
  rfl

theorem queries_apply (e : Fin 2) (n : Fin 33) (h : Fin 4) (i d : Fin 64) :
    queries m c (ix5 e n h i d) = qIn (chunk (q m c e) n.val) (chunk (a m c e) n.val) i (lane h d) := by
  refine (qInR_apply _ _ e n h i d).trans ?_
  rw [headsK_q, sums_apply m c hz]
  rfl
theorem kIn_apply (e : Fin 2) (n : Fin 33) (h : Fin 4) (i d : Fin 64) :
    kInR (keys m c) (sums m c) (ix5 e n h i d) = kIn (chunk (k m c e) n.val) (chunk (a m c e) n.val) i (lane h d) := by
  rw [kInR_apply, headsK_k, sums_apply m c hz]
  rfl

theorem intra_apply (e : Fin 2) (n : Fin 33) (h : Fin 4) (i : Fin 64) (w : Fin 128) :
    weighR (scoreR (queries m c) (kInR (keys m c) (sums m c))) (values m c) (ix5 e n h i w)
      = intra (chunk (q m c e) n.val) (chunk (k m c e) n.val) (chunk (a m c e) n.val) (chunk (v m c e) n.val) h i w := by
  rw [weighR_apply]
  simp only [scoreR_apply, queries_apply m c hz, kIn_apply m c hz, headsV_v]
  rfl

theorem kvs_apply (n : Fin 33) (e : Fin 2) (h : Fin 4) (d : Fin 64) (w : Fin 128) :
    kvsR (keys m c) (sums m c) (values m c) (ix5 n e h d w)
      = kv (chunk (k m c e) n.val) (chunk (a m c e) n.val) (chunk (v m c e) n.val) w (lane h d) := by
  rw [kvsR_apply]
  unfold kv
  refine Finset.sum_congr rfl fun j _ => ?_
  rw [headsK_k, headsV_v, sums_apply m c hz, sums_apply m c hz, mul_comm, headOf_lane]
  rfl

/-- The state before the `n`-th trip is the one that enters the chunk. -/
theorem stateAt_apply (n : ℕ) (hn : n ≤ 33) (e : Fin 2) (h : Fin 4) (d : Fin 64) (w : Fin 128) :
    stateAt m c n (ix4 e h d w) = state (k m c e) (a m c e) (v m c e) n w (lane h d) := by
  induction n with
  | zero =>
    refine (congrFun (entry_state m c) (ix4 e h d w)).trans ?_
    exact Ideal.ofBits_zero_f32
  | succ n ih =>
    rw [stateAt_succ]
    refine (tripState_apply _ _ ⟨n, by omega⟩ _ e h d w).trans ?_
    rw [decaysR_apply, sums_apply m c hz, kvs_apply m c hz, ih (by omega)]
    rfl

theorem states_apply (e : Fin 2) (n : Fin 33) (h : Fin 4) (d : Fin 64) (w : Fin 128) :
    stackR (stackAt m c 33) (ix5 e n h d w) = state (k m c e) (a m c e) (v m c e) n.val w (lane h d) := by
  rw [stackR_apply]
  exact (stackAt_eq m c n.val 33 le_rfl n.isLt e h d w).trans (stateAt_apply m c hz n.val n.isLt.le e h d w)

/-- The states that enter the chunks. -/
theorem final_states_apply (e : Fin 2) (r : Fin 4224) (l : Fin 256) :
    (finalContents condOps preI bodyI postI 33 m c (Proc.devRef .tc main_v80) : FVec Ideal S2x4224x256 .f32) (ix3 e r l)
      = state (k m c e) (a m c e) (v m c e) (r.val / 128) ⟨r.val % 128, by omega⟩ l := by
  rw [final_states, statesR_apply, states_apply m c hz]
  congr 1
  exact Fin.ext (by show l.val / 64 * 64 + l.val % 64 = l.val; omega)

theorem attended_apply (e : Fin 2) (n : Fin 33) (h : Fin 4) (i : Fin 64) (w : Fin 128) :
    addf (weighR (scoreR (queries m c) (kInR (keys m c) (sums m c))) (values m c))
        (weighR (queries m c) (stackR (stackAt m c 33))) (ix5 e n h i w)
      = attended (q m c e) (k m c e) (a m c e) (v m c e) n.val h i w := by
  refine (congrArg₂ (· + ·) (intra_apply m c hz e n h i w) (weighR_apply _ _ e n h i w)).trans ?_
  simp only [queries_apply m c hz, states_apply m c hz]
  rfl

/-- The attended rows, normalised and gated. -/
theorem final_y_apply (e : Fin 2) (r : Fin 2112) (l : Fin 512) :
    (finalContents condOps preI bodyI postI 33 m c (Proc.devRef .tc main_v78) : FVec Ideal S2x2112x512 .bf16) (ix3 e r l)
      = behind (fun s l => normed (attended (q m c e) (k m c e) (a m c e) (v m c e) ((48 + s.val) / 64) ⟨l.val / 128, by omega⟩
          ⟨(48 + s.val) % 64, by omega⟩) ⟨l.val % 128, by omega⟩
        * gate (arg3 m c (ix2 0 ⟨l.val % 128, by omega⟩)) (arg0 m c (ix3 e s ⟨2048 + l.val, by omega⟩))) r.val l := by
  rw [final_y, outR_apply]
  refine congrArg (fun f => behind f r.val l) (funext fun s => funext fun l => ?_)
  rw [gatedR_apply, normR_apply, gR_apply]
  simp only [rowsR_apply, attended_apply m c hz]
  congr 2
  generalize arg3 m c = x
  pointwise

end Cert.GlaFwdRefIdeal.Read

end
-- ==== Proof.GlaFwdEq.lean ====
module

public import Idealize.ShloMosaic.Lib.Pointwise
public import Idealize.ShloMosaic.Lib.KernelVsHost
public import proofs.«01_k».proof.Defs
public import proofs.«01_k».proof.Proof.Gen.Pre_gla_fwd_finite
public import proofs.«01_k».proof.Proof.GlaFwdValue
public import proofs.«01_k».proof.Proof.GlaFwdRefValue

/-!
The call of the gated linear attention and its reference leave the same arrays when the projected rows and the gates' second
projection and bias are finite.
-/

@[expose] public section

set_option maxRecDepth 16384

noncomputable section

open Idealize.ShloMosaic Idealize.ShloMosaic.TcCoe Idealize.SL.Sem Idealize.ShloMosaic.StableHlo
open Gla RmsGrad

namespace Cert.Pre_gla_fwd_finite

variable (x0 : FVec Ideal S2x2064x2576 .f32) (x1 : FVec Ideal S1x16x256 .f32) (x2 : FVec Ideal S1x256 .f32) (x3 : FVec Ideal S1x128 .f32)

theorem real0 (h : (fn (F := Ideal) x0 x1 x2 x3).1 = fun _ => 1#1) (i) : IsReal (x0 i) := isReal_of_cmp (congrFun h i)
theorem real1 (h : (fn (F := Ideal) x0 x1 x2 x3).2.1 = fun _ => 1#1) (i) : IsReal (x1 i) := isReal_of_cmp (congrFun h i)
theorem real2 (h : (fn (F := Ideal) x0 x1 x2 x3).2.2 = fun _ => 1#1) (i) : IsReal (x2 i) := isReal_of_cmp (congrFun h i)

end Cert.Pre_gla_fwd_finite

namespace Cert.GlaFwdIdeal.Value
open Cert.GlaFwdIdeal Cert.GlaFwdIdeal.Gen Cert.GlaFwdIdeal.Host
variable (m : (ℓ : Loc nD τ sig) → Buf (Elt Ideal) ℓ) (c : Dev nD)
  (m' : (ℓ : Loc Cert.GlaFwdRefIdeal.nD Cert.GlaFwdRefIdeal.τ Cert.GlaFwdRefIdeal.sig) → Buf (Elt Ideal) ℓ)
  (c' : Dev Cert.GlaFwdRefIdeal.nD)

theorem fin_of_pre (h : Pre_GlaFwdIdeal_gla_fwd_finite m) : Fin₃ m c :=
  ⟨fun e s l => Cert.Pre_gla_fwd_finite.real0 _ _ _ _ (h c).1 (ix3 e s l), fun x l => Cert.Pre_gla_fwd_finite.real1 _ _ _ _ (h c).2.1 (ix3 0 x l),
    fun l => Cert.Pre_gla_fwd_finite.real2 _ _ _ _ (h c).2.2 (ix2 0 l)⟩

/-- The two programs are given the same arguments. -/
structure Same : Prop where
  h0 : Cert.GlaFwdRefIdeal.Read.arg0 m' c' = (m (c.tc.loc main_arg0) : FVec Ideal S2x2064x2576 .f32)
  h1 : Cert.GlaFwdRefIdeal.Read.arg1 m' c' = (m (c.tc.loc main_arg1) : FVec Ideal S1x16x256 .f32)
  h2 : Cert.GlaFwdRefIdeal.Read.arg2 m' c' = (m (c.tc.loc main_arg2) : FVec Ideal S1x256 .f32)
  h3 : Cert.GlaFwdRefIdeal.Read.arg3 m' c' = (m (c.tc.loc main_arg3) : FVec Ideal S1x128 .f32)

variable {m c m' c'} (hs : Same m c m' c')
include hs

theorem same_q : Cert.GlaFwdRefIdeal.Read.q m' c' = q m c := by
  unfold Cert.GlaFwdRefIdeal.Read.q; rw [hs.h0]; rfl
theorem same_k : Cert.GlaFwdRefIdeal.Read.k m' c' = k m c := by
  unfold Cert.GlaFwdRefIdeal.Read.k; rw [hs.h0]; rfl
theorem same_v : Cert.GlaFwdRefIdeal.Read.v m' c' = v m c := by
  unfold Cert.GlaFwdRefIdeal.Read.v; rw [hs.h0]; rfl
theorem same_z : Cert.GlaFwdRefIdeal.Read.z m' c' = z m c := by
  unfold Cert.GlaFwdRefIdeal.Read.z; rw [hs.h0, hs.h1, hs.h2]; rfl
theorem same_a : Cert.GlaFwdRefIdeal.Read.a m' c' = a m c := by
  unfold Cert.GlaFwdRefIdeal.Read.a; rw [same_z hs]; rfl

variable (hm : Fin₃ m c)
include hm

theorem states_eq : ((dats m 0 c).arrAt 8 cfg0.N : FVec Ideal S2x4224x256 .f32)
    = finalContents Cert.GlaFwdRefIdeal.Value.condOps Cert.GlaFwdRefIdeal.Value.preI Cert.GlaFwdRefIdeal.Value.bodyI
        Cert.GlaFwdRefIdeal.Value.postI 33 m' c' (Proc.devRef .tc Cert.GlaFwdRefIdeal.main_v80) := by
  funext i
  rw [eq_ix3 i]
  refine (states_final hm _ _ _).trans (Eq.symm ?_)
  refine (Cert.GlaFwdRefIdeal.Read.final_states_apply m' c' (by rw [same_z hs]; exact z_real hm) _ _ _).trans ?_
  rw [same_k hs, same_a hs, same_v hs]
  rfl

theorem y_apply (e : Fin 2) (r : Fin 2112) (l : Fin 512) : ((dats m 0 c).arrAt 7 cfg0.N : FVec Ideal S2x2112x512 .bf16) (ix3 e r l)
    = (finalContents Cert.GlaFwdRefIdeal.Value.condOps Cert.GlaFwdRefIdeal.Value.preI Cert.GlaFwdRefIdeal.Value.bodyI
        Cert.GlaFwdRefIdeal.Value.postI 33 m' c' (Proc.devRef .tc Cert.GlaFwdRefIdeal.main_v78) : FVec Ideal S2x2112x512 .bf16) (ix3 e r l) := by
  refine (y_final hm e r l).trans (Eq.symm ?_)
  refine (Cert.GlaFwdRefIdeal.Read.final_y_apply m' c' (by rw [same_z hs]; exact z_real hm) e r l).trans ?_
  rw [same_q hs, same_k hs, same_a hs, same_v hs, hs.h0, hs.h3]
  have hl : vlane ⟨l.val / 128, by omega⟩ ⟨l.val % 128, by omega⟩ = l := Fin.ext (by show l.val / 128 * 128 + l.val % 128 = l.val; omega)
  have hr : 64 * (r.val / 64) + r.val % 64 = r.val := by omega
  unfold yVal g
  rw [hl, hr]
  unfold behind
  have h2112 : r.val < 2112 := r.isLt
  by_cases h : 48 ≤ r.val
  · rw [dif_pos ⟨h, h2112⟩, dif_pos ⟨h, h2112⟩]
    have e1 : 48 + (r.val - 48) = r.val := by omega
    simp only [e1]
    rfl
  · rw [dif_neg (by omega), dif_neg (by omega)]
    unfold gate
    rw [zero_mul, mul_zero, mul_zero]

theorem y_eq : ((dats m 0 c).arrAt 7 cfg0.N : FVec Ideal S2x2112x512 .bf16)
    = finalContents Cert.GlaFwdRefIdeal.Value.condOps Cert.GlaFwdRefIdeal.Value.preI Cert.GlaFwdRefIdeal.Value.bodyI
        Cert.GlaFwdRefIdeal.Value.postI 33 m' c' (Proc.devRef .tc Cert.GlaFwdRefIdeal.main_v78) := by
  funext i
  rw [eq_ix3 i]
  exact y_apply hs hm _ _ _

end Cert.GlaFwdIdeal.Value

end
-- ==== Proof.GlaFwdRun.lean ====
module

public import proofs.«01_k».proof.Proof.GlaFwdLoop

/-!
Every run of the reference of the gated linear attention: it ends with the results that its operations hold, and leaves its arguments alone.
-/

@[expose] public section

set_option maxRecDepth 16384

noncomputable section

open Idealize.ShloMosaic Idealize.ShloMosaic.TcCoe Idealize.SL.Sem Idealize.ShloMosaic.StableHlo

namespace Cert.GlaFwdRefIdeal.Read
open Cert.GlaFwdRefIdeal Cert.GlaFwdRefIdeal.Gen Cert.GlaFwdRefIdeal.Value
variable (m : (ℓ : Loc nD τ sig) → Buf (Elt Ideal) ℓ) (c : Dev nD)

/-- Lists of operations that do not write a buffer leave it alone. -/
theorem afterL_keeps {L : List (List (HloOp τ sig (Elt Ideal)))} {Ws : List (List (Ref sig .tc))}
    (hL : List.Forall₂ (fun ops W => ops.Forall fun op => op.writes ⊆ (W.map (Proc.devRef (τ := τ) .tc)).toFinset) L Ws)
    {r : Ref sig .tc} (hr : ∀ W ∈ Ws, r ∉ W) (V : Valuation τ sig (Elt Ideal)) :
    afterL L V (Proc.devRef .tc r) = V (Proc.devRef .tc r) := by
  induction hL generalizing V with
  | nil => rfl
  | cons h _ ih =>
    rw [afterL_cons, ih (fun W hW => hr W (List.mem_cons_of_mem _ hW)), after_of_writes_sub _ _ h (hr _ List.mem_cons_self)]

/-- The buffers written before the recurrence. -/
abbrev preW : List (List (Ref sig .tc)) := [hostOps0_W, hostOps0_1_W, hostOps0_2_W, hostOps0_3_W, hostOps0_4_W, hostOps0_5_W, hostOps0_6_W,
  hostOps0_7_W, hostOps0_8_W, hostOps0_9_W, hostOps0_10_W, hostOps0_11_W, hostOps0_12_W, hostOps0_13_W, hostOps0_14_W, hostOps0_15_W, hostOps0_16_W]

theorem arg_keeps (r : Ref sig .tc) (hpre : ∀ W ∈ preW, r ∉ W) (hpost : ∀ V : Valuation τ sig (Elt Ideal), afterL win6 (afterL win5 V) (Proc.devRef .tc r) = V (Proc.devRef .tc r)) (hc : r ∉ condOps_W) (h0 : r ∉ while0Ops0_W)
    (h1 : r ∉ while0Ops0_1_W) (h2 : r ∉ while0Ops0_2_W) (h3 : r ∉ while0Ops0_3_W) (h4 : r ∉ while0Ops0_4_W) :
    finalContents condOps preI bodyI postI 33 m c (Proc.devRef .tc r) = m ((c.tc : Thread nD τ).loc r) := by
  rw [final_eq, hpost, after_of_writes_sub condOps _ condOps_writes hc, trips_keep m c r hc h0 h1 h2 h3 h4]
  show afterL preI (launchContents m c) (Proc.devRef .tc r) = _
  rw [afterL_keeps (L := preI) (Ws := preW) (.cons hostOps0_writes (.cons hostOps0_1_writes (.cons hostOps0_2_writes (.cons hostOps0_3_writes
      (.cons hostOps0_4_writes (.cons hostOps0_5_writes (.cons hostOps0_6_writes (.cons hostOps0_7_writes (.cons hostOps0_8_writes
      (.cons hostOps0_9_writes (.cons hostOps0_10_writes (.cons hostOps0_11_writes (.cons hostOps0_12_writes (.cons hostOps0_13_writes
      (.cons hostOps0_14_writes (.cons hostOps0_15_writes (.cons hostOps0_16_writes .nil))))))))))))))))) hpre]

section
variable (V : Valuation τ sig (Elt Ideal))
theorem post_arg0 : afterL win6 (afterL win5 V) (Proc.devRef .tc main_arg0) = V (Proc.devRef .tc main_arg0) := by
  simp only [win5, win6, afterL_eq_after_flatten, List.flatten_cons, List.flatten_nil, List.cons_append, List.nil_append]
  after_reads_simp
theorem post_arg1 : afterL win6 (afterL win5 V) (Proc.devRef .tc main_arg1) = V (Proc.devRef .tc main_arg1) := by
  simp only [win5, win6, afterL_eq_after_flatten, List.flatten_cons, List.flatten_nil, List.cons_append, List.nil_append]
  after_reads_simp
theorem post_arg2 : afterL win6 (afterL win5 V) (Proc.devRef .tc main_arg2) = V (Proc.devRef .tc main_arg2) := by
  simp only [win5, win6, afterL_eq_after_flatten, List.flatten_cons, List.flatten_nil, List.cons_append, List.nil_append]
  after_reads_simp
theorem post_arg3 : afterL win6 (afterL win5 V) (Proc.devRef .tc main_arg3) = V (Proc.devRef .tc main_arg3) := by
  simp only [win5, win6, afterL_eq_after_flatten, List.flatten_cons, List.flatten_nil, List.cons_append, List.nil_append]
  after_reads_simp
end

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v78) = finalContents condOps preI bodyI postI 33 m c (Proc.devRef .tc main_v78)
      ∧ r.2.mem ((c.tc : Thread nD τ).loc main_v80) = finalContents condOps preI bodyI postI 33 m c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v78 rfl, h c main_v80 rfl,
      (h c main_arg0 rfl).trans (arg_keeps m c main_arg0 (by decide) post_arg0 (by decide) (by decide) (by decide) (by decide) (by decide) (by decide)),
      (h c main_arg1 rfl).trans (arg_keeps m c main_arg1 (by decide) post_arg1 (by decide) (by decide) (by decide) (by decide) (by decide) (by decide)),
      (h c main_arg2 rfl).trans (arg_keeps m c main_arg2 (by decide) post_arg2 (by decide) (by decide) (by decide) (by decide) (by decide) (by decide)),
      (h c main_arg3 rfl).trans (arg_keeps m c main_arg3 (by decide) post_arg3 (by decide) (by decide) (by decide) (by decide) (by decide) (by decide))⟩)
    (run_fold m ρ)

end Cert.GlaFwdRefIdeal.Read

end
-- ==== Proof.LayerNorm.lean ====
module

public import Idealize.ShloMosaic.Lib.Pointwise
public import Idealize.ShloMosaic.Lib.IdealHost
public import proofs.«01_k».proof.Proof.RmsGrad

/-!
The gradient of a layer normalisation at one row of 512 entries, over the extended reals: the form written from the
normalised row and the derivative's own, which passes through the variance and the mean, are one value for finite rows.
-/

@[expose] public section

noncomputable section

open Idealize.ShloMosaic
open RmsGrad

namespace LayerNorm

/-- The literal of the row length. -/
theorem ofBits_512 : Ideal.ofBits .f32 0x44000000#32 = ((512 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The literal added under the root is a positive real. -/
theorem ofBits_eps : ∃ e : ℝ, 0 < e ∧ Ideal.ofBits .f32 0x3727C5AC#32 = (e : EReal) := by
  refine ⟨_, ?_, by simp only [Ideal.ofBits, Ideal.ieee]; rw [if_neg (by decide), if_neg (by decide)]⟩
  norm_num
  rw [if_neg (by decide)]
  positivity

/-- A row's mean. -/
abbrev mean (x : Fin 512 → EReal) : EReal := Ideal.div (∑ k, x k) (Ideal.ofBits .f32 0x44000000#32)

/-- The row without its mean. -/
abbrev cen (x : Fin 512 → EReal) (j : Fin 512) : EReal := x j - mean x

/-- The row's variance plus the literal under the root. -/
abbrev var (x : Fin 512 → EReal) : EReal := mean (fun k => cen x k * cen x k) + Ideal.ofBits .f32 0x3727C5AC#32

theorem mean_coe (x : Fin 512 → ℝ) : mean (fun k => (x k : EReal)) = ((∑ k, x k) * (1 / 512) : ℝ) := by
  unfold mean
  rw [ofBits_512, Ideal.div_coe (by norm_num), ← coe_sum]
  push_cast; rfl

theorem mean_real {x : Fin 512 → EReal} (hx : ∀ k, IsReal (x k)) : IsReal (mean x) := by
  choose x' hx' using hx
  obtain rfl : x = fun k => (x' k : EReal) := funext hx'
  exact ⟨_, mean_coe x'⟩

theorem cen_real {x : Fin 512 → EReal} (hx : ∀ k, IsReal (x k)) (j : Fin 512) : IsReal (cen x j) :=
  (hx j).sub (mean_real hx)

/-- A finite row's centred entries are finite and sum to zero. -/
theorem cen_coe (x : Fin 512 → ℝ) : ∃ z : Fin 512 → ℝ, (∀ j, cen (fun k => (x k : EReal)) j = (z j : EReal)) ∧ ∑ j, z j = 0 := by
  refine ⟨fun j => x j - (∑ k, x k) * (1 / 512), fun j => by unfold cen; rw [mean_coe]; push_cast; rfl, ?_⟩
  rw [Finset.sum_sub_distrib, Finset.sum_const, Finset.card_univ, Fintype.card_fin]
  simp only [nsmul_eq_mul]
  push_cast; ring

theorem var_pos {x : Fin 512 → EReal} (hx : ∀ k, IsReal (x k)) : ∃ q : ℝ, 0 < q ∧ var x = (q : EReal) := by
  obtain ⟨e, he, hE⟩ := ofBits_eps
  choose x' hx' using hx
  obtain rfl : x = fun k => (x' k : EReal) := funext hx'
  obtain ⟨z, hz, -⟩ := cen_coe x'
  refine ⟨(∑ k, z k * z k) * (1 / 512) + e, add_pos_of_nonneg_of_pos
    (mul_nonneg (Finset.sum_nonneg fun k _ => mul_self_nonneg _) (by norm_num)) he, ?_⟩
  unfold var
  simp only [hz, hE, ← EReal.coe_mul]
  rw [mean_coe, EReal.coe_add]

theorem rsqrt_real {x : Fin 512 → EReal} (hx : ∀ k, IsReal (x k)) : IsReal (Ideal.rsqrt (var x)) := by
  obtain ⟨q, hq, e⟩ := var_pos hx
  rw [e, Ideal.rsqrt_coe, if_neg (not_lt.mpr hq.le), if_neg hq.ne']
  exact ⟨_, rfl⟩

/-- What reaches an entry through the variance: the row's part times twice the centred entry. -/
def throughVar (x w : Fin 512 → EReal) (j : Fin 512) : EReal :=
  Ideal.div ((∑ k, cen x k * w k) * (Ideal.ofBits .f32 0xBF000000#32 * Ideal.div (Ideal.rsqrt (var x)) (var x)))
    (Ideal.ofBits .f32 0x44000000#32) * (Ideal.ofBits .f32 0x40000000#32 * cen x j)

/-- The derivative's own form of the normalisation's gradient, from the cotangent `w` of the normalised row. -/
def derivative (x w : Fin 512 → EReal) (j : Fin 512) : EReal :=
  w j * Ideal.rsqrt (var x) + throughVar x w j
    + Ideal.div ((∑ k, -(w k * Ideal.rsqrt (var x))) + ∑ k, -throughVar x w k) (Ideal.ofBits .f32 0x44000000#32)

/-- The form written from the normalised row. -/
def direct (x w : Fin 512 → EReal) (j : Fin 512) : EReal :=
  Ideal.rsqrt (var x) * (w j - mean w
    - cen x j * Ideal.rsqrt (var x) * mean fun k => w k * (cen x k * Ideal.rsqrt (var x)))

theorem direct_eq {x w : Fin 512 → EReal} (hx : ∀ k, IsReal (x k)) (hw : ∀ k, IsReal (w k)) (j : Fin 512) :
    direct x w j = derivative x w j := by
  obtain ⟨q, hpos, hm⟩ := var_pos hx
  choose x' hx' using hx
  choose w' hw' using hw
  unfold direct derivative throughVar
  rw [hm]
  obtain rfl : x = fun k => (x' k : EReal) := funext hx'
  obtain rfl : w = fun k => (w' k : EReal) := funext hw'
  obtain ⟨z, hz, h0⟩ := cen_coe x'
  have hs : 0 < Real.sqrt q := Real.sqrt_pos.mpr hpos
  simp only [hz]
  rw [Ideal.rsqrt_coe, if_neg (not_lt.mpr hpos.le), if_neg hpos.ne', ofBits_512, ofBits_neg_half, ofBits_two,
    Ideal.div_coe (x := _) hpos.ne']
  simp only [← EReal.coe_mul, mean_coe, ← coe_sum, Ideal.div_coe (show (512 : ℝ) ≠ 0 by norm_num), ← EReal.coe_neg]
  simp only [← EReal.coe_mul, ← EReal.coe_add, ← EReal.coe_sub, ← coe_sum]
  congr 1
  have h1 : ∑ k, w' k * (z k * (Real.sqrt q)⁻¹) = (∑ k, z k * w' k) * (Real.sqrt q)⁻¹ := by
    rw [Finset.sum_mul]; exact Finset.sum_congr rfl fun k _ => by ring
  have h2 : ∑ k, -(w' k * (Real.sqrt q)⁻¹) = -((∑ k, w' k) * (Real.sqrt q)⁻¹) := by
    rw [Finset.sum_neg_distrib, Finset.sum_mul]
  have h3 : ∀ a : ℝ, ∑ k, -(a * (2 * z k)) = 0 := fun a => by
    rw [Finset.sum_neg_distrib, ← Finset.mul_sum, ← Finset.mul_sum, h0]; ring
  rw [h1, h2, h3]
  generalize ∑ k, z k * w' k = S
  generalize ∑ k, w' k = W
  have hq : q = Real.sqrt q * Real.sqrt q := (Real.mul_self_sqrt hpos.le).symm
  generalize Real.sqrt q = s at hs hq
  subst hq
  field_simp
  ring

end LayerNorm
end
-- ==== Proof.ConvRead.lean ====
module

public import Idealize.ShloMosaic.Lib.Pointwise
public import Idealize.ShloMosaic.Lib.KernelVsHost
public import Idealize.ShloMosaic.Lib.IdealHost
public import proofs.«01_k».proof.Proof.Gen.ConvBwdRefIdeal.Read
public import proofs.«01_k».proof.Proof.PaddedRows
public import proofs.«01_k».proof.Proof.Swiglu
public import proofs.«01_k».proof.Proof.LayerNorm

/-!
What the reference of the convolution branch's backward part computes: the gradients of the convolution's bias and of the
normalisation's gain and bias, each a sum over the examples and their rows.
-/

@[expose] public section

set_option maxRecDepth 16384

noncomputable section

open Idealize.ShloMosaic Idealize.ShloMosaic.TcCoe Idealize.SL.Sem
open PaddedRows RmsGrad Swiglu LayerNorm

namespace Cert.ConvBwdRefIdeal.Read
open Cert.ConvBwdRefIdeal Cert.ConvBwdRefIdeal.Gen

variable (x0 : FVec Ideal S2x2064x2576 .f32) (x1 : FVec Ideal S1x31x512 .f32) (x2 x3 x4 : FVec Ideal S1x512 .f32)
  (x5 : FVec Ideal S2x2064x1024 .f32)

/-- A row of the convolution's result. -/
def y (b : Fin 2) (s : Fin 2064) (k : Fin 512) : EReal := val_main_v86 (F := Ideal) x0 x1 x2 (ix3 b s k)

theorem centred (b : Fin 2) (s : Fin 2064) (j : Fin 512) :
    val_main_v101 (F := Ideal) x0 x1 x2 (ix3 b s j) = cen (y x0 x1 x2 b s) j := by
  pointwise [val_main_v101, val_main_v100, val_main_v90, val_main_v89, val_main_v88, val_main_v87, val_main_cst_3,
    val_main_cst_4]
  rfl

theorem centred' (b : Fin 2) (s : Fin 2064) (j : Fin 512) :
    val_main_v92 (F := Ideal) x0 x1 x2 (ix3 b s j) = cen (y x0 x1 x2 b s) j := by
  pointwise [val_main_v92, val_main_v91, val_main_v90, val_main_v89, val_main_v88, val_main_v87, val_main_cst_3,
    val_main_cst_4]
  rfl

theorem variance (b : Fin 2) (s : Fin 2064) :
    val_main_v103 (F := Ideal) x0 x1 x2 (ix3 b s 0) = var (y x0 x1 x2 b s) := by
  pointwise [val_main_v103, val_main_v102, val_main_v99, val_main_v98, val_main_v97, val_main_v96, val_main_v93,
    val_main_cst_6, val_main_cst_7, val_main_cst_8]
  simp only [centred']

theorem root (b : Fin 2) (s : Fin 2064) :
    val_main_v104 (F := Ideal) x0 x1 x2 (ix3 b s 0) = Ideal.rsqrt (var (y x0 x1 x2 b s)) := by
  rw [← variance]; pointwise [val_main_v104]

theorem normal (b : Fin 2) (s : Fin 2064) (j : Fin 512) :
    val_main_v109 (F := Ideal) x0 x1 x2 (ix3 b s j)
      = cen (y x0 x1 x2 b s) j * Ideal.rsqrt (var (y x0 x1 x2 b s)) := by
  pointwise [val_main_v109, val_main_v108]
  rw [centred, root]

/-- The normalised row with gain and bias. -/
abbrev out (x : Fin 512 → EReal) (j : Fin 512) : EReal :=
  cen x j * Ideal.rsqrt (var x) * x3 (ix2 0 j) + x4 (ix2 0 j)

theorem outs (b : Fin 2) (s : Fin 2064) (j : Fin 512) :
    val_main_v115 (F := Ideal) x0 x1 x2 x3 x4 (ix3 b s j) = out x3 x4 (y x0 x1 x2 b s) j := by
  pointwise [val_main_v115, val_main_v114, val_main_v113, val_main_v112, val_main_v111, val_main_v110, val_main_v1,
    val_main_v2]
  rw [normal]

/-- The cotangent of the normalised row with gain and bias. -/
def cot (x d : Fin 512 → EReal) (j : Fin 512) : EReal :=
  d j * logi (out x3 x4 x j) + out x3 x4 x j * d j * (logi (out x3 x4 x j) * (1 - logi (out x3 x4 x j)))

theorem cots (b : Fin 2) (s : Fin 2064) (j : Fin 512) :
    val_main_v118 (F := Ideal) x0 x1 x2 x3 x4 x5 (ix3 b s j)
      = cot x3 x4 (y x0 x1 x2 b s) (fun k => x5 (ix3 b s ⟨k.val, by omega⟩)) j := by
  unfold cot
  rw [← outs]
  pointwise [val_main_v118, val_main_call1_v0, val_main_call1_v1, val_main_call1_v2, val_main_v117, val_main_v116_1, val_main_v116_2,
    val_main_call0_v0, val_main_call0_v1, val_main_call0_v2, val_main_call0_v3, val_main_call0_v4, val_main_call0_v6,
    val_main_call0_v7, val_main_call0_cst, val_main_call0_cst_0, val_main_call0_cst_1]

/-- The cotangent of the normalised row. -/
abbrev cotN (x d : Fin 512 → EReal) (j : Fin 512) : EReal := cot x3 x4 x d j * x3 (ix2 0 j)

/-- The stream's cotangent, the branch's columns. -/
abbrev dy (b : Fin 2) (s : Fin 2064) (k : Fin 512) : EReal := x5 (ix3 b s ⟨k.val, by omega⟩)

theorem cotNs (b : Fin 2) (s : Fin 2064) (j : Fin 512) :
    val_main_v126 (F := Ideal) x0 x1 x2 x3 x4 x5 (ix3 b s j) = cotN x3 x4 (y x0 x1 x2 b s) (dy x5 b s) j := by
  pointwise [val_main_v126, val_main_v125, val_main_v110, val_main_v1]
  rw [cots]

theorem through (b : Fin 2) (s : Fin 2064) (j : Fin 512) :
    val_main_v141 (F := Ideal) x0 x1 x2 x3 x4 x5 (ix3 b s j)
      = throughVar (y x0 x1 x2 b s) (cotN x3 x4 (y x0 x1 x2 b s) (dy x5 b s)) j := by
  unfold throughVar
  pointwise [val_main_v141, val_main_v140, val_main_v139, val_main_v138, val_main_v137, val_main_v133, val_main_v130,
    val_main_v129, val_main_v128, val_main_v107, val_main_v106, val_main_v105, val_main_v95, val_main_v94,
    val_main_cst_5, val_main_cst_9, val_main_cst_14, val_main_cst_16, val_main_cst_17]
  simp only [centred, centred', cotNs, Finset.univ_unique, Finset.sum_singleton, Fin.default_eq_zero, variance, root]

theorem rows (b : Fin 2) (s : Fin 2064) (j : Fin 512) :
    val_main_v151 (F := Ideal) x0 x1 x2 x3 x4 x5 (ix3 b s j)
      = derivative (y x0 x1 x2 b s) (cotN x3 x4 (y x0 x1 x2 b s) (dy x5 b s)) j := by
  unfold derivative
  pointwise [val_main_v151, val_main_v150, val_main_v149, val_main_v148, val_main_v147, val_main_v146, val_main_v145,
    val_main_v144, val_main_v143, val_main_v142, val_main_v136, val_main_v135, val_main_v134, val_main_v132,
    val_main_v131, val_main_cst_15, val_main_cst_18, val_main_cst_19, val_main_cst_20]
  simp only [through, root, cotNs, Finset.univ_unique, Finset.sum_singleton]

/-- The sum over the examples and their rows, and a second one over axes of one entry. -/
theorem sums (x : FVec Ideal S2x2064x512 .f32) (z z' : FVec Ideal S_ .f32) (hz : z (Shape.Idx.first h_S_) = (0 : EReal))
    (hz' : z' (Shape.Idx.first h_S_) = (0 : EReal)) (j : Fin 512) :
    Host.reduceAdd (shapeCast S1x1x512 (Host.reduceAdd x z reducesTo_S2x2064x512_S512_d0_1 h_S_)
      shapeCasts_S512_S1x1x512) z' reducesTo_S1x1x512_S512_d0_1 h_S_ (ix1 j) = ∑ b, ∑ s, x (ix3 b s j) := by
  rw [Idealize.ShloMosaic.ValueIdx.hostReduceAdd_apply]
  refine (hostReduceAdd_outer (a := 1) (b := 1) (n := 512) _ _ _ j).trans ?_
  rw [hz', zero_add]
  simp only [Finset.univ_unique, Finset.sum_singleton]
  have h : shapeCast S1x1x512 (Host.reduceAdd x z reducesTo_S2x2064x512_S512_d0_1 h_S_)
      shapeCasts_S512_S1x1x512 (ix3 0 0 j) = Host.reduceAdd x z reducesTo_S2x2064x512_S512_d0_1 h_S_ (ix1 j) := by
    pointwise
  refine h.trans ?_
  rw [Idealize.ShloMosaic.ValueIdx.hostReduceAdd_apply]
  refine (hostReduceAdd_outer (a := 2) (b := 2064) (n := 512) _ _ _ j).trans ?_
  rw [hz, zero_add]

/-- The convolution bias' gradient. -/
theorem bias (j : Fin 512) :
    val_main_v155 (F := Ideal) x0 x1 x2 x3 x4 x5 (ix2 0 j)
      = ∑ b, ∑ s, derivative (y x0 x1 x2 b s) (cotN x3 x4 (y x0 x1 x2 b s) (dy x5 b s)) j := by
  simp only [← rows]
  refine Eq.trans ?_ (sums _ (val_main_cst_21 (F := Ideal)) (val_main_cst_22 (F := Ideal)) Ideal.ofBits_zero_f32 Ideal.ofBits_zero_f32 j)
  pointwise [val_main_v155]
  rfl

/-- The normalisation gain's gradient. -/
theorem gain (j : Fin 512) :
    val_main_v156 (F := Ideal) x0 x1 x2 x3 x4 x5 (ix2 0 j)
      = ∑ b, ∑ s, cen (y x0 x1 x2 b s) j * Ideal.rsqrt (var (y x0 x1 x2 b s))
          * cot x3 x4 (y x0 x1 x2 b s) (dy x5 b s) j := by
  have e : ∀ b s, val_main_v122 (F := Ideal) x0 x1 x2 x3 x4 x5 (ix3 b s j)
      = cen (y x0 x1 x2 b s) j * Ideal.rsqrt (var (y x0 x1 x2 b s)) * cot x3 x4 (y x0 x1 x2 b s) (dy x5 b s) j := by
    intro b s
    pointwise [val_main_v122]
    rw [normal, cots]
  simp only [← e]
  refine Eq.trans ?_ (sums _ (val_main_cst_12 (F := Ideal)) (val_main_cst_13 (F := Ideal)) Ideal.ofBits_zero_f32 Ideal.ofBits_zero_f32 j)
  pointwise [val_main_v156]
  rfl

/-- The normalisation bias' gradient. -/
theorem offset (j : Fin 512) :
    val_main_v157 (F := Ideal) x0 x1 x2 x3 x4 x5 (ix2 0 j) = ∑ b, ∑ s, cot x3 x4 (y x0 x1 x2 b s) (dy x5 b s) j := by
  have e : ∀ b s, val_main_v118 (F := Ideal) x0 x1 x2 x3 x4 x5 (ix3 b s j)
      = cot x3 x4 (y x0 x1 x2 b s) (dy x5 b s) j := fun b s => cots x0 x1 x2 x3 x4 x5 b s j
  simp only [← e]
  refine Eq.trans ?_ (sums _ (val_main_cst_10 (F := Ideal)) (val_main_cst_11 (F := Ideal)) Ideal.ofBits_zero_f32 Ideal.ofBits_zero_f32 j)
  pointwise [val_main_v157]
  rfl

end Cert.ConvBwdRefIdeal.Read
end
-- ==== Proof.ConvHost.lean ====
module

public import Idealize.ShloMosaic.Lib.Pointwise
public import Idealize.ShloMosaic.Lib.Claim
public import Idealize.ShloMosaic.Lib.KernelVsHost
public import Idealize.ShloMosaic.Lib.Pipeline.ValueKit
public import proofs.«01_k».proof.Proof.Gen.ConvBwdIdeal.Frame
public import proofs.«01_k».proof.Proof.ConvRead
public import proofs.«01_k».proof.Proof.Gen.ConvBwdRefIdeal.Run

/-!
What the host hands to the convolution branch's backward call: the cotangent and the convolution's result, padded to 4224
rows. The convolution's result is the one the reference computes.
-/

@[expose] public section

set_option maxRecDepth 16384

noncomputable section

open Idealize.ShloMosaic Idealize.ShloMosaic.TcCoe Idealize.SL.Sem
open PaddedRows

namespace Cert.ConvBwdIdeal.Host
open Cert.ConvBwdIdeal Cert.ConvBwdIdeal.Gen
variable (m : (ℓ : Loc nD τ sig) → Buf (Elt Ideal) ℓ) (c : Dev nD)

/-- The stream's cotangent, at an example, a row and a column. -/
def d (b : Fin 2) (s : Fin 2064) (j : Fin 1024) : EReal := m (c.tc.loc main_arg5) (ix3 b s j)

/-- What the padding holds, an integer zero converted. -/
abbrev zero : FVec Ideal S_ .f32 := sitofp .f32 (constantI S_ 32 0#32)

theorem rows1024 (x : FVec Ideal S2x2064x1024 .f32) (r : Fin 4224) (j : Fin 1024) :
    shapeCast S4224x1024 (pad S2x2112x1024 ![0, 48, 0] ![0, 0, 0] ![0, 0, 0] x zero
      pads_S2x2064x1024_S2x2112x1024_000_4800_000 h_S_) shapeCasts_S2x2112x1024_S4224x1024 (ix2 r j)
      = padded (fun b s k => x (ix3 b s k)) r j := by
  pointwise
  exact dite_padded (fun b s k => x (ix3 b s k)) _ (sitofp_zero (φ := .f32)) r j

theorem rows512 (x : FVec Ideal S2x2064x512 .f32) (r : Fin 4224) (j : Fin 512) :
    shapeCast S4224x512 (pad S2x2112x512 ![0, 48, 0] ![0, 0, 0] ![0, 0, 0] x zero
      pads_S2x2064x512_S2x2112x512_000_4800_000 h_S_) shapeCasts_S2x2112x512_S4224x512 (ix2 r j)
      = padded (fun b s k => x (ix3 b s k)) r j := by
  pointwise
  exact dite_padded (fun b s k => x (ix3 b s k)) _ (sitofp_zero (φ := .f32)) r j

/-- The cotangent, padded rows. -/
def dp : FVec Ideal S4224x1024 .f32 := V m c main_v15

theorem dp_eq : dp m c = shapeCast S4224x1024 (pad S2x2112x1024 ![0, 48, 0] ![0, 0, 0] ![0, 0, 0]
    (m (c.tc.loc main_arg5) : FVec Ideal S2x2064x1024 .f32) zero pads_S2x2064x1024_S2x2112x1024_000_4800_000 h_S_)
    shapeCasts_S2x2112x1024_S4224x1024 := by
  unfold dp
  simp only [V, List.flatten_cons, List.flatten_nil, List.cons_append, List.nil_append]
  entry_read
  rfl

theorem dp_apply (r : Fin 4224) (j : Fin 1024) : dp m c (ix2 r j) = padded (d m c) r j := by
  rw [dp_eq]; exact rows1024 _ r j

/-- A row of the convolution's result. -/
def y : Fin 2 → Fin 2064 → Fin 512 → EReal :=
  Cert.ConvBwdRefIdeal.Read.y (m (c.tc.loc main_arg0)) (m (c.tc.loc main_arg1)) (m (c.tc.loc main_arg2))

/-- The convolution's result, padded rows. -/
def yp : FVec Ideal S4224x512 .f32 := V m c main_v93

/-! The convolution's result is read in three steps: the gated input, the shifted copies, their weighted sum. -/

open StableHlo

theorem after_append (l₁ l₂ : List (HloOp τ sig (Elt Ideal))) (W : Valuation τ sig (Elt Ideal)) :
    after (l₁ ++ l₂) W = after l₂ (after l₁ W) := by
  induction l₁ generalizing W with
  | nil => rfl
  | cons a l ih => exact ih _

/-- The operations up to the padded cotangent. -/
abbrev early : List (HloOp τ sig (Elt Ideal)) :=
  main_part0_ops0 ++ main_part0_ops1 ++ main_part0_ops2 ++ main_part0_ops3 ++ main_part0_ops4 ++ main_part0_ops5
    ++ main_part0_ops6 ++ main_part0_ops7

open Cert.ConvBwdRefIdeal.Read Cert.ConvBwdRefIdeal.Value

variable {W : Valuation τ sig (Elt Ideal)} {x0 : FVec Ideal S2x2064x2576 .f32} {x1 : FVec Ideal S1x31x512 .f32}
  {x2 : FVec Ideal S1x512 .f32}

theorem early_gated (h : W main_arg0 = x0) : after early W main_v11 = val_main_v12 (F := Ideal) x0 := by
  simp only [early, List.cons_append, List.nil_append]
  after_reads_simp
  rw [h]; rfl

theorem early_weights : after early W main_arg1 = W main_arg1 := by
  simp only [early, List.cons_append, List.nil_append]
  after_reads_simp

theorem early_bias : after early W main_arg2 = W main_arg2 := by
  simp only [early, List.cons_append, List.nil_append]
  after_reads_simp

theorem led_parts : after main_part0_ops8 W main_v18
    = fn_main_v14 (F := Ideal) (after main_part0_ops8 W main_v17) (after main_part0_ops8 W main_v11) := by
  after_reads_simp
  rfl

theorem led_zeros : after main_part0_ops8 W main_v17 = val_main_v13 (F := Ideal) := by
  after_reads_simp
  rfl

theorem gated_kept : after main_part0_ops8 W main_v11 = W main_v11 := by
  after_reads_simp

/-- The input with thirty zero rows in front. -/
theorem led (h : W main_v11 = val_main_v12 (F := Ideal) x0) :
    after main_part0_ops8 W main_v18 = val_main_v14 (F := Ideal) x0 := by
  rw [led_parts, led_zeros, gated_kept, h]
  rfl

theorem weights (h : W main_arg1 = x1) : after main_part0_ops8 W main_v16 = val_main_v5 (F := Ideal) x1 := by
  after_reads_simp
  rw [h]; rfl

theorem fill : after main_part1_ops0 W main_c_6 = constantI S_ 32 0#32 := by
  after_reads_simp

theorem bias_kept : after main_part0_ops8 W main_arg2 = W main_arg2 := by
  after_reads_simp

/-- The first seventeen shifted copies. -/
theorem shifts (h : after main_part0_ops8 W main_v18 = val_main_v14 (F := Ideal) x0) :
    after main_part0_ops8 W main_v20 = val_main_v16 (F := Ideal) x0
    ∧ after main_part0_ops8 W main_v22 = val_main_v18 (F := Ideal) x0
    ∧ after main_part0_ops8 W main_v24 = val_main_v20 (F := Ideal) x0
    ∧ after main_part0_ops8 W main_v26 = val_main_v22 (F := Ideal) x0
    ∧ after main_part0_ops8 W main_v28 = val_main_v24 (F := Ideal) x0
    ∧ after main_part0_ops8 W main_v30 = val_main_v26 (F := Ideal) x0
    ∧ after main_part0_ops8 W main_v32 = val_main_v28 (F := Ideal) x0
    ∧ after main_part0_ops8 W main_v34 = val_main_v30 (F := Ideal) x0
    ∧ after main_part0_ops8 W main_v36 = val_main_v32 (F := Ideal) x0
    ∧ after main_part0_ops8 W main_v38 = val_main_v34 (F := Ideal) x0
    ∧ after main_part0_ops8 W main_v40 = val_main_v36 (F := Ideal) x0
    ∧ after main_part0_ops8 W main_v42 = val_main_v38 (F := Ideal) x0
    ∧ after main_part0_ops8 W main_v44 = val_main_v40 (F := Ideal) x0
    ∧ after main_part0_ops8 W main_v46 = val_main_v42 (F := Ideal) x0
    ∧ after main_part0_ops8 W main_v48 = val_main_v44 (F := Ideal) x0
    ∧ after main_part0_ops8 W main_v50 = val_main_v46 (F := Ideal) x0
    ∧ after main_part0_ops8 W main_v52 = val_main_v48 (F := Ideal) x0 := by
  refine ⟨?_, ?_, ?_, ?_, ?_, ?_, ?_, ?_, ?_, ?_, ?_, ?_, ?_, ?_, ?_, ?_, ?_⟩ <;> (simp only [
    val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48]; rw [← h]; after_reads_simp)

/-- The others. -/
theorem shifts_more (h : W main_v18 = val_main_v14 (F := Ideal) x0) :
    after main_part1_ops0 W main_v54 = val_main_v50 (F := Ideal) x0
    ∧ after main_part1_ops0 W main_v56 = val_main_v52 (F := Ideal) x0
    ∧ after main_part1_ops0 W main_v58 = val_main_v54 (F := Ideal) x0
    ∧ after main_part1_ops0 W main_v60 = val_main_v56 (F := Ideal) x0
    ∧ after main_part1_ops0 W main_v62 = val_main_v58 (F := Ideal) x0
    ∧ after main_part1_ops0 W main_v64 = val_main_v60 (F := Ideal) x0
    ∧ after main_part1_ops0 W main_v66 = val_main_v62 (F := Ideal) x0
    ∧ after main_part1_ops0 W main_v68 = val_main_v64 (F := Ideal) x0
    ∧ after main_part1_ops0 W main_v70 = val_main_v66 (F := Ideal) x0
    ∧ after main_part1_ops0 W main_v72 = val_main_v68 (F := Ideal) x0
    ∧ after main_part1_ops0 W main_v74 = val_main_v70 (F := Ideal) x0
    ∧ after main_part1_ops0 W main_v76 = val_main_v72 (F := Ideal) x0
    ∧ after main_part1_ops0 W main_v78 = val_main_v74 (F := Ideal) x0
    ∧ after main_part1_ops0 W main_v80 = val_main_v76 (F := Ideal) x0 := by
  refine ⟨?_, ?_, ?_, ?_, ?_, ?_, ?_, ?_, ?_, ?_, ?_, ?_, ?_, ?_⟩ <;> (after_reads_simp; rw [h]; rfl)

theorem stack_one : after main_part1_ops0 W main_v81 = fn_main_v77 (F := Ideal) (W main_v20) (W main_v22) (W main_v24) (W main_v26) (W main_v28) (W main_v30) (W main_v32) (W main_v34) (W main_v36) (W main_v38) (W main_v40) (W main_v42) (W main_v44) (W main_v46) (W main_v48) (W main_v50) := by
  after_reads_simp
  rfl

theorem stack_two : after main_part1_ops0 W main_v82 = fn_main_v78 (F := Ideal) (W main_v52) (after main_part1_ops0 W main_v54) (after main_part1_ops0 W main_v56) (after main_part1_ops0 W main_v58) (after main_part1_ops0 W main_v60) (after main_part1_ops0 W main_v62) (after main_part1_ops0 W main_v64) (after main_part1_ops0 W main_v66) (after main_part1_ops0 W main_v68) (after main_part1_ops0 W main_v70) (after main_part1_ops0 W main_v72) (after main_part1_ops0 W main_v74) (after main_part1_ops0 W main_v76) (after main_part1_ops0 W main_v78) (after main_part1_ops0 W main_v80) := by
  after_reads_simp
  rfl

theorem weighted : after main_part1_ops0 W main_v91 = (addf (Host.reduceAdd (mulf (concatenate S31x2x2064x512 0
    [⟨S16x2x2064x512, after main_part1_ops0 W main_v81⟩, ⟨S15x2x2064x512, after main_part1_ops0 W main_v82⟩]
    concatenates_S16x2x2064x512_S15x2x2064x512_S31x2x2064x512_d0) (broadcastInDim S31x2x2064x512 ![0, 1, 2, 3]
    bcast_S31x1x1x512_S31x2x2064x512_0_1_2_3 (broadcastInDim S31x1x1x512 ![0, 3] bcast_S31x512_S31x1x1x512_0_3
    (W main_v16 : FVec Ideal S31x512 .f32)))) (constant (F := Ideal) S_ .f32 0x00000000#32) reducesTo_S31x2x2064x512_S2x2064x512_d0 h_S_)
    (broadcastInDim S2x2064x512 ![0, 1, 2] bcast_S1x1x512_S2x2064x512_0_1_2 (broadcastInDim S1x1x512 ![2]
    bcast_S512_S1x1x512_2 (shapeCast S512 (W main_arg2 : FVec Ideal S1x512 .f32) shapeCasts_S1x512_S512)))
    : FVec Ideal S2x2064x512 .f32) := by
  after_reads_simp
  rfl

theorem conv (h : W main_v11 = val_main_v12 (F := Ideal) x0) (h1 : W main_arg1 = x1) (h2 : W main_arg2 = x2) :
    after main_part1_ops0 (after main_part0_ops8 W) main_v91 = val_main_v86 (F := Ideal) x0 x1 x2 := by
  have hl := led h
  obtain ⟨a0, a1, a2, a3, a4, a5, a6, a7, a8, a9, a10, a11, a12, a13, a14, a15, a16⟩ := shifts hl
  obtain ⟨a17, a18, a19, a20, a21, a22, a23, a24, a25, a26, a27, a28, a29, a30⟩ := shifts_more hl
  have one := stack_one (W := after main_part0_ops8 W)
  have two := stack_two (W := after main_part0_ops8 W)
  rw [a0, a1, a2, a3, a4, a5, a6, a7, a8, a9, a10, a11, a12, a13, a14, a15] at one
  rw [a16, a17, a18, a19, a20, a21, a22, a23, a24, a25, a26, a27, a28, a29, a30] at two
  rw [weighted, one, two, weights h1, bias_kept, h2]
  rfl

theorem yp_eq : yp m c = shapeCast S4224x512 (pad S2x2112x512 ![0, 48, 0] ![0, 0, 0] ![0, 0, 0]
    (val_main_v86 (F := Ideal) (m (c.tc.loc main_arg0)) (m (c.tc.loc main_arg1))
      (m (c.tc.loc main_arg2)) : FVec Ideal S2x2064x512 .f32) zero pads_S2x2064x512_S2x2112x512_000_4800_000 h_S_)
    shapeCasts_S2x2112x512_S4224x512 := by
  have e : List.flatten [hostOps0, hostOps0_1, hostOps0_2, hostOps0_3, hostOps0_4, hostOps0_5, hostOps0_6, hostOps0_7,
      hostOps0_8, hostOps0_9, hostOps0_10] = early ++ (main_part0_ops8 ++ (main_part1_ops0
      ++ (main_part1_ops1 ++ main_part1_ops2 : List (HloOp τ sig (Elt Ideal))))) := rfl
  have h := conv (W := after early fun b => m (c, b)) (early_gated rfl) early_weights early_bias
  unfold yp
  rw [show V m c main_v93 = after (early ++ (main_part0_ops8 ++ (main_part1_ops0 ++ (main_part1_ops1 ++ main_part1_ops2))))
    (fun b => m (c, b)) main_v93 from congrArg (fun l => after l (fun b => m (c, b)) main_v93) e, after_append, after_append,
    after_append]
  have hf := fill (W := after main_part0_ops8 (after early fun b => m (c, b)))
  generalize after main_part1_ops0 (after main_part0_ops8 (after early fun b => m (c, b))) = U at h hf
  simp only [List.cons_append, List.nil_append]
  after_reads_simp
  simp only [TRef.toBuf, TRef.ofBuf, cast_eq]
  rw [h, hf]
  rfl

theorem yp_apply (r : Fin 4224) (j : Fin 512) : yp m c (ix2 r j) = padded (y m c) r j := by
  rw [yp_eq]; exact rows512 _ r j

end Cert.ConvBwdIdeal.Host
end
-- ==== Proof.ConvBlock.lean ====
module

public import Idealize.ShloMosaic.Lib.Pointwise
public import Idealize.ShloMosaic.Lib.IdealHost
public import Idealize.ShloMosaic.Lib.Pipeline.ValueKit
public import proofs.«01_k».proof.Proof.Gen.ConvBwdIdeal.Frame
public import proofs.«01_k».proof.Proof.Swiglu
public import proofs.«01_k».proof.Proof.LayerNorm

/-!
What one block of 192 rows of the convolution branch's backward call computes on its way to the gradients of the biases and
of the normalisation's gain, entry by entry.
-/

@[expose] public section

set_option maxRecDepth 16384

noncomputable section

open Idealize.ShloMosaic Idealize.ShloMosaic.TcCoe Idealize.SL.Sem
open Swiglu LayerNorm

namespace Cert.ConvBwdIdeal.Block
open Cert.ConvBwdIdeal Cert.ConvBwdIdeal.Gen

variable (g b : FVec Ideal S1x512 .f32) (x d : FVec Ideal S192x512 .f32) (live : IVec S192x1 1)

/-- A row of the block. -/
abbrev row (r : Fin 192) (k : Fin 512) : EReal := x (ix2 r k)

theorem centred (r : Fin 192) (j : Fin 512) : k0_pay13 (F := Ideal) x (ix2 r j) = cen (row x r) j := by
  pointwise [k0_pay13]

theorem root (r : Fin 192) : k0_pay14 (F := Ideal) x (ix2 r 0) = Ideal.rsqrt (var (row x r)) := by
  pointwise [k0_pay14]
  simp only [centred]

theorem normal (r : Fin 192) (j : Fin 512) :
    k0_pay15 (F := Ideal) x (ix2 r j) = cen (row x r) j * Ideal.rsqrt (var (row x r)) := by
  pointwise [k0_pay15]
  rw [centred, root]

/-- The normalised row with gain and bias. -/
abbrev out (x : Fin 512 → EReal) (j : Fin 512) : EReal := cen x j * Ideal.rsqrt (var x) * g (ix2 0 j) + b (ix2 0 j)

theorem outs (r : Fin 192) (j : Fin 512) : k0_pay16 (F := Ideal) g b x (ix2 r j) = out g b (row x r) j := by
  pointwise [k0_pay16]
  rw [normal]

theorem gates (r : Fin 192) (j : Fin 512) : k0_pay17 (F := Ideal) g b x (ix2 r j) = logi (out g b (row x r) j) := by
  rw [← outs]
  pointwise [k0_pay17]
  simp only [Ideal.ofBits_zero_f32, Ideal.ofBits_one_f32, zero_sub]

/-- The cotangent of the normalised row with gain and bias, zero on a row that is no row of an example. -/
def cots : FVec Ideal S192x512 .f32 :=
  k0_pay18 (F := Ideal) (k0_pay11 d) live (k0_pay16 g b x) (k0_pay17 g b x) (Scalar.ofBits .f32 0x3F800000#32)

theorem cots_apply (r : Fin 192) (j : Fin 512) :
    cots g b x d live (ix2 r j) = if live (ix2 r 0) = 1#1 then
      d (ix2 r j) * (logi (out g b (row x r) j) * (1 + out g b (row x r) j * (1 - logi (out g b (row x r) j)))) else 0 := by
  rw [← gates, ← outs]
  unfold cots
  pointwise [k0_pay18, k0_pay11]
  rfl

theorem cots_one : k0_pay18 (F := Ideal) (k0_pay11 d) live (k0_pay16 g b x) (k0_pay17 g b x) (1 : EReal) = cots g b x d live := by
  unfold cots
  exact congrArg _ Ideal.ofBits_one_f32.symm

/-- The cotangent of the convolution's result. -/
def rows : FVec Ideal S192x512 .f32 :=
  k0_pay19 (F := Ideal) g (k0_pay11 d) live (k0_pay14 x) (k0_pay15 x) (k0_pay16 g b x) (k0_pay17 g b x)
    (Scalar.ofBits .f32 0x3F800000#32)

theorem rows_apply (r : Fin 192) (j : Fin 512) :
    rows g b x d live (ix2 r j) = direct (row x r) (fun k => cots g b x d live (ix2 r k) * g (ix2 0 k)) j := by
  unfold rows direct
  pointwise [k0_pay19]
  simp only [root, normal, cots_one]

/-- The three accumulators: what was there plus the block's rows. -/
theorem bias (v : FVec Ideal S192x512 .f32) (acc : FVec Ideal S1x512 .f32) (j : Fin 512) :
    k0_pay26 (F := Ideal) v acc (ix2 0 j) = acc (ix2 0 j) + ∑ r, v (ix2 r j) := by
  pointwise [k0_pay26]

theorem gain (v : FVec Ideal S192x512 .f32) (acc : FVec Ideal S1x512 .f32) (j : Fin 512) :
    k0_pay27 (F := Ideal) (k0_pay15 x) v acc (ix2 0 j)
      = acc (ix2 0 j) + ∑ r, v (ix2 r j) * (cen (row x r) j * Ideal.rsqrt (var (row x r))) := by
  simp only [← normal]
  pointwise [k0_pay27]

theorem offset (v : FVec Ideal S192x512 .f32) (acc : FVec Ideal S1x512 .f32) (j : Fin 512) :
    k0_pay28 (F := Ideal) v acc (ix2 0 j) = acc (ix2 0 j) + ∑ r, v (ix2 r j) := by
  pointwise [k0_pay28]

/-- They start from zero. -/
theorem zero_bias (j : Fin 512) : k0_pay3 (F := Ideal) (ix2 0 j) = (0 : EReal) := by pointwise [k0_pay3]
theorem zero_gain (j : Fin 512) : k0_pay4 (F := Ideal) (ix2 0 j) = (0 : EReal) := by pointwise [k0_pay4]
theorem zero_offset (j : Fin 512) : k0_pay5 (F := Ideal) (ix2 0 j) = (0 : EReal) := by pointwise [k0_pay5]

/-- A row is a row of an example from the 48th on. -/
theorem live_apply (q : Fin 11) (r : Fin 192) :
    k0_pay12 (BitVec.ofNat 32 q.val) (ix2 r 0) = if 48 ≤ 192 * q.val + r.val then 1#1 else 0#1 := by
  have e : k0_pay12 (BitVec.ofNat 32 q.val) (ix2 r 0)
      = IntOp.cmpi CmpIPredicate.sge (IntOp.addi (IntOp.muli (BitVec.ofNat 32 q.val) 192#32) (BitVec.ofNat 32 r.val)) 48#32 := by
    pointwise [k0_pay12]
    rfl
  rw [e]
  revert q r; decide +kernel

end Cert.ConvBwdIdeal.Block
end
-- ==== Proof.ConvValue.lean ====
module

public import Idealize.ShloMosaic.Lib.Pointwise
public import Idealize.ShloMosaic.Lib.Claim
public import Idealize.ShloMosaic.Lib.Pipeline.ValueKit
public import proofs.«01_k».proof.Proof.ConvHost
public import proofs.«01_k».proof.Proof.ConvBlock

/-!
What the convolution branch's backward call leaves in the result arrays of the gradients of the convolution's bias and of
the normalisation's gain and bias: each is accumulated over the 22 blocks of 192 rows.
-/

@[expose] public section

set_option maxRecDepth 16384

noncomputable section

open Idealize.ShloMosaic Idealize.ShloMosaic.TcCoe Idealize.SL.Sem
open Idealize.ShloMosaic.Pipeline (Dat)
open PaddedRows Swiglu LayerNorm

namespace Cert.ConvBwdIdeal.Value
open Cert.ConvBwdIdeal Cert.ConvBwdIdeal.Gen Cert.ConvBwdIdeal.Host
variable (m : (ℓ : Loc nD τ sig) → Buf (Elt Ideal) ℓ) (c : Dev nD)

/-- The normalisation's gain and bias, as the call stages them. -/
def g : FVec Ideal S1x512 .f32 := m (c.tc.loc main_arg3)
def b : FVec Ideal S1x512 .f32 := m (c.tc.loc main_arg4)

theorem idx : ∀ t : Fin cfg0.N, win0_0.index t = ![t.val, 0] ∧ win0_2.index t = ![t.val, 0]
    ∧ win0_7.index t = ![0, 0] ∧ win0_8.index t = ![0, 0] ∧ win0_11.index t = ![0, 0] ∧ win0_12.index t = ![0, 0]
    ∧ win0_13.index t = ![0, 0] :=
  (by decide +kernel : ∀ t : Fin grid0.N, win0_0.index t = ![t.val, 0] ∧ win0_2.index t = ![t.val, 0]
    ∧ win0_7.index t = ![0, 0] ∧ win0_8.index t = ![0, 0] ∧ win0_11.index t = ![0, 0] ∧ win0_12.index t = ![0, 0]
    ∧ win0_13.index t = ![0, 0])

theorem coord : ∀ t : Fin cfg0.N, (grid0.coords t 1).val = t.val % 11 :=
  (by decide +kernel : ∀ t : Fin grid0.N, (grid0.coords t 1).val = t.val % 11)

/-- Row `r` of block `t`. -/
abbrev row (t : Fin cfg0.N) (r : Fin 192) : Fin 4224 :=
  ⟨192 * t.val + r.val, by have h : t.val < 22 := t.isLt; have := r.isLt; omega⟩

theorem blk0 (t : Fin cfg0.N) (r : Fin 192) (k : Fin 512) :
    (iblk m c 0 t : FVec Ideal S192x512 .f32) (ix2 r k) = dp m c (ix2 (row t r) ⟨k.val, by omega⟩) := by
  blk_point [iblk, dp, idx t]

theorem blk2 (t : Fin cfg0.N) (r : Fin 192) (k : Fin 512) :
    (iblk m c 2 t : FVec Ideal S192x512 .f32) (ix2 r k) = yp m c (ix2 (row t r) k) := by
  blk_point [iblk, yp, idx t]

theorem blk7 (t : Fin cfg0.N) : (iblk m c 7 t : FVec Ideal S1x512 .f32) = g m c := by
  funext i
  idx_vars i
  blk_point [iblk, g, V, idx t]

theorem blk8 (t : Fin cfg0.N) : (iblk m c 8 t : FVec Ideal S1x512 .f32) = b m c := by
  funext i
  idx_vars i
  blk_point [iblk, b, V, idx t]

/-- The rows that are rows of an example. -/
def live (t : Fin cfg0.N) : IVec S192x1 1 := k0_pay12 (BitVec.ofNat 32 (grid0.coords t 1).val)

theorem live_row (t : Fin cfg0.N) (r : Fin 192) :
    live t (ix2 r 0) = if 48 ≤ (row t r).val % 2112 then 1#1 else 0#1 := by
  unfold live
  rw [coord]
  refine (Block.live_apply ⟨t.val % 11, by omega⟩ r).trans ?_
  have h : 192 * (t.val % 11) + r.val = (row t r).val % 2112 := by
    show _ = (192 * t.val + r.val) % 2112
    omega
  simp only [h]

/-- The cotangents of block `t`. -/
def cots (t : Fin cfg0.N) : FVec Ideal S192x512 .f32 :=
  Block.cots (g m c) (b m c) (iblk m c 2 t) (iblk m c 0 t) (live t)
def rows (t : Fin cfg0.N) : FVec Ideal S192x512 .f32 :=
  Block.rows (g m c) (b m c) (iblk m c 2 t) (iblk m c 0 t) (live t)

/-- The cotangent's row, the branch's columns. -/
abbrev dRow (r : Fin 4224) (k : Fin 512) : EReal := padded (d m c) r ⟨k.val, by omega⟩

/-- The cotangent of a normalised row with gain and bias. -/
def cotRow (r : Fin 4224) (j : Fin 512) : EReal :=
  if 48 ≤ r.val % 2112 then dRow m c r j * (logi (Block.out (g m c) (b m c) (padded (y m c) r) j)
    * (1 + Block.out (g m c) (b m c) (padded (y m c) r) j * (1 - logi (Block.out (g m c) (b m c) (padded (y m c) r) j))))
  else 0

/-- The three gradients' parts of a row. -/
def biasRow (r : Fin 4224) (j : Fin 512) : EReal :=
  direct (padded (y m c) r) (fun k => cotRow m c r k * g m c (ix2 0 k)) j
def gainRow (r : Fin 4224) (j : Fin 512) : EReal :=
  cotRow m c r j * (cen (padded (y m c) r) j * Ideal.rsqrt (var (padded (y m c) r)))

theorem y_row (t : Fin cfg0.N) (r : Fin 192) :
    Block.row (iblk m c 2 t) r = padded (y m c) (row t r) :=
  funext fun k => (blk2 m c t r k).trans (yp_apply m c _ k)

theorem cots_apply (t : Fin cfg0.N) (r : Fin 192) (j : Fin 512) : cots m c t (ix2 r j) = cotRow m c (row t r) j := by
  unfold cots cotRow
  rw [Block.cots_apply, live_row, y_row, blk0, dp_apply]
  by_cases h : 48 ≤ (row t r).val % 2112
  · rw [if_pos h, if_pos h, if_pos rfl]
  · rw [if_neg h, if_neg h, if_neg (by decide)]

theorem rows_apply (t : Fin cfg0.N) (r : Fin 192) (j : Fin 512) : rows m c t (ix2 r j) = biasRow m c (row t r) j := by
  unfold rows biasRow
  rw [Block.rows_apply, y_row]
  simp only [← cots_apply]
  rfl

theorem bias_blk (t : Fin cfg0.N) (acc : FVec Ideal S1x512 .f32) (j : Fin 512) :
    k0_pay26 (F := Ideal) (rows m c t) acc (ix2 0 j) = acc (ix2 0 j) + ∑ r, biasRow m c (row t r) j := by
  rw [Block.bias]
  simp only [rows_apply]

theorem gain_blk (t : Fin cfg0.N) (acc : FVec Ideal S1x512 .f32) (j : Fin 512) :
    k0_pay27 (F := Ideal) (k0_pay15 (iblk m c 2 t)) (cots m c t) acc (ix2 0 j)
      = acc (ix2 0 j) + ∑ r, gainRow m c (row t r) j := by
  rw [Block.gain]
  simp only [y_row, cots_apply]
  rfl

theorem offset_blk (t : Fin cfg0.N) (acc : FVec Ideal S1x512 .f32) (j : Fin 512) :
    k0_pay28 (F := Ideal) (cots m c t) acc (ix2 0 j) = acc (ix2 0 j) + ∑ r, cotRow m c (row t r) j := by
  rw [Block.offset]
  simp only [cots_apply]

/-- The accumulators after the first point. -/
theorem first (t : Fin cfg0.N) (h : t.val = 0) :
    (outsAt0 m c t.val t.isLt).2.2.1 = k0_pay26 (F := Ideal) (rows m c t) (k0_pay3 (F := Ideal))
    ∧ (outsAt0 m c t.val t.isLt).2.2.2.1 = k0_pay27 (F := Ideal) (k0_pay15 (iblk m c 2 t)) (cots m c t) (k0_pay4 (F := Ideal))
    ∧ (outsAt0 m c t.val t.isLt).2.2.2.2.1 = k0_pay28 (F := Ideal) (cots m c t) (k0_pay5 (F := Ideal)) := by
  rw [outsAt0_A m c t (by omega) (by omega)]
  dsimp only
  refine ⟨?_, ?_, ?_⟩
  · frame_out
    rw [blk7, blk8]; rfl
  · frame_out
    rw [blk7, blk8]; rfl
  · frame_out
    rw [blk7, blk8]; rfl

/-- … and after each later one, from what the point before left. -/
theorem next (t : Fin cfg0.N) (h : t.val ≠ 0) (o) (ho : o = outsAt0 m c (t.val - 1) (by have := t.isLt; omega)) :
    (outsAt0 m c t.val t.isLt).2.2.1 = k0_pay26 (F := Ideal) (rows m c t) o.2.2.1
    ∧ (outsAt0 m c t.val t.isLt).2.2.2.1 = k0_pay27 (F := Ideal) (k0_pay15 (iblk m c 2 t)) (cots m c t) o.2.2.2.1
    ∧ (outsAt0 m c t.val t.isLt).2.2.2.2.1 = k0_pay28 (F := Ideal) (cots m c t) o.2.2.2.2.1 := by
  have ht : t.val < 22 := t.isLt
  subst ho
  by_cases h1 : t.val % 22 = 21
  · rw [outsAt0_C m c t (by omega) h1]
    dsimp only
    refine ⟨?_, ?_, ?_⟩
    · frame_out
      rw [blk7, blk8]; rfl
    · frame_out
      rw [blk7, blk8]; rfl
    · frame_out
      rw [blk7, blk8]; rfl
  · rw [outsAt0_B m c t (by omega) h1]
    dsimp only
    refine ⟨?_, ?_, ?_⟩
    · frame_out
      rw [blk7, blk8]; rfl
    · frame_out
      rw [blk7, blk8]; rfl
    · frame_out
      rw [blk7, blk8]; rfl

/-- The last point of the grid. -/
def last : Fin cfg0.N := ⟨21, by decide⟩

theorem mod_zero (t : Fin cfg0.N) (h : t.val % 22 = 0) : t.val = 0 := by
  have ht : t.val < 22 := t.isLt
  omega

/-- The rows, block by block. -/
theorem sum_blocks (f : Fin 4224 → EReal) : ∑ t : Fin 22, ∑ r, f (row t r) = ∑ r, f r := by
  rw [Fin.sum_univ_tiles 22 192 (by norm_num) f]
  refine Finset.sum_congr rfl fun t _ => Finset.sum_congr rfl fun r _ => ?_
  exact congrArg f (Fin.ext (by show 192 * t.val + r.val = t.val * 192 + r.val; omega))

theorem out_bias (j : Fin 512) :
    (outsAt0 m c last.val last.isLt).2.2.1 (ix2 0 j) = ∑ t : Fin 22, ∑ r, biasRow m c (row t r) j := by
  rw [Pipeline.eq_sum_fin_of_reset_step_apply_last (fun n h => (outsAt0 m c n h).2.2.1) 22 (fun _ => (0 : EReal))
    (fun (t : Fin cfg0.N) (i : S1x512.Idx) => ∑ r, biasRow m c (row t r) (i 1))
    (fun t h i => by
      refine (congrFun (first m c t (mod_zero t h)).1 i).trans ?_
      idx_vars i
      obtain rfl : i0 = 0 := Subsingleton.elim _ _
      exact (bias_blk m c t _ i1).trans (congrArg (· + _) (Block.zero_bias i1)))
    (fun t h i => by
      refine (congrFun (next m c t (fun e => h (by rw [e])) _ rfl).1 i).trans ?_
      idx_vars i
      obtain rfl : i0 = 0 := Subsingleton.elim _ _
      exact bias_blk m c t _ i1) (le_of_eq N_0) last rfl (ix2 0 j), zero_add]
  rfl

theorem out_gain (j : Fin 512) :
    (outsAt0 m c last.val last.isLt).2.2.2.1 (ix2 0 j) = ∑ t : Fin 22, ∑ r, gainRow m c (row t r) j := by
  rw [Pipeline.eq_sum_fin_of_reset_step_apply_last (fun n h => (outsAt0 m c n h).2.2.2.1) 22 (fun _ => (0 : EReal))
    (fun (t : Fin cfg0.N) (i : S1x512.Idx) => ∑ r, gainRow m c (row t r) (i 1))
    (fun t h i => by
      refine (congrFun (first m c t (mod_zero t h)).2.1 i).trans ?_
      idx_vars i
      obtain rfl : i0 = 0 := Subsingleton.elim _ _
      exact (gain_blk m c t _ i1).trans (congrArg (· + _) (Block.zero_gain i1)))
    (fun t h i => by
      refine (congrFun (next m c t (fun e => h (by rw [e])) _ rfl).2.1 i).trans ?_
      idx_vars i
      obtain rfl : i0 = 0 := Subsingleton.elim _ _
      exact gain_blk m c t _ i1) (le_of_eq N_0) last rfl (ix2 0 j), zero_add]
  rfl

theorem out_offset (j : Fin 512) :
    (outsAt0 m c last.val last.isLt).2.2.2.2.1 (ix2 0 j) = ∑ t : Fin 22, ∑ r, cotRow m c (row t r) j := by
  rw [Pipeline.eq_sum_fin_of_reset_step_apply_last (fun n h => (outsAt0 m c n h).2.2.2.2.1) 22 (fun _ => (0 : EReal))
    (fun (t : Fin cfg0.N) (i : S1x512.Idx) => ∑ r, cotRow m c (row t r) (i 1))
    (fun t h i => by
      refine (congrFun (first m c t (mod_zero t h)).2.2 i).trans ?_
      idx_vars i
      obtain rfl : i0 = 0 := Subsingleton.elim _ _
      exact (offset_blk m c t _ i1).trans (congrArg (· + _) (Block.zero_offset i1)))
    (fun t h i => by
      refine (congrFun (next m c t (fun e => h (by rw [e])) _ rfl).2.2 i).trans ?_
      idx_vars i
      obtain rfl : i0 = 0 := Subsingleton.elim _ _
      exact offset_blk m c t _ i1) (le_of_eq N_0) last rfl (ix2 0 j), zero_add]
  rfl

/-- The gradients, in their result arrays. -/
theorem final11 (j : Fin 512) :
    ((dats m 0 c).arrAt 11 cfg0.N : FVec Ideal S1x512 .f32) (ix2 0 j) = ∑ r, biasRow m c r j := by
  have key : ((dats m 0 c).arrAt 11 cfg0.N : FVec Ideal S1x512 .f32) = fun i => ∑ r, biasRow m c r (i 1) := by
    refine (dats m 0 c).arrAt_eq_of_after_last 11 last (by decide +kernel) _ fun i => ?_
    blk_simp
    rw [after0_11]
    idx_vars i
    obtain rfl : i0 = 0 := Subsingleton.elim _ _
    rw [out_bias]
    exact sum_blocks fun r => biasRow m c r i1
  rw [key]; rfl

theorem final12 (j : Fin 512) :
    ((dats m 0 c).arrAt 12 cfg0.N : FVec Ideal S1x512 .f32) (ix2 0 j) = ∑ r, gainRow m c r j := by
  have key : ((dats m 0 c).arrAt 12 cfg0.N : FVec Ideal S1x512 .f32) = fun i => ∑ r, gainRow m c r (i 1) := by
    refine (dats m 0 c).arrAt_eq_of_after_last 12 last (by decide +kernel) _ fun i => ?_
    blk_simp
    rw [after0_12]
    idx_vars i
    obtain rfl : i0 = 0 := Subsingleton.elim _ _
    rw [out_gain]
    exact sum_blocks fun r => gainRow m c r i1
  rw [key]; rfl

theorem final13 (j : Fin 512) :
    ((dats m 0 c).arrAt 13 cfg0.N : FVec Ideal S1x512 .f32) (ix2 0 j) = ∑ r, cotRow m c r j := by
  have key : ((dats m 0 c).arrAt 13 cfg0.N : FVec Ideal S1x512 .f32) = fun i => ∑ r, cotRow m c r (i 1) := by
    refine (dats m 0 c).arrAt_eq_of_after_last 13 last (by decide +kernel) _ fun i => ?_
    blk_simp
    rw [after0_13]
    idx_vars i
    obtain rfl : i0 = 0 := Subsingleton.elim _ _
    rw [out_offset]
    exact sum_blocks fun r => cotRow m c r i1
  rw [key]; rfl

end Cert.ConvBwdIdeal.Value
end
-- ==== Proof.ConvReal.lean ====
module

public import proofs.«01_k».proof.Proof.ConvRead

/-!
The convolution's result is finite for finite arguments.
-/

@[expose] public section

set_option maxRecDepth 16384

noncomputable section

open Idealize.ShloMosaic Idealize.ShloMosaic.TcCoe Idealize.SL.Sem
open PaddedRows RmsGrad Swiglu LayerNorm

namespace Cert.ConvBwdRefIdeal.Read
open Cert.ConvBwdRefIdeal Cert.ConvBwdRefIdeal.Gen

/-- What holds of every entry of every piece holds of every entry of their concatenation. -/
theorem concatenate_all {t : Shape} {a : Fin t.rank} {xs : List ((s : Shape) × (s.Idx → EReal))}
    (h : Shape.Concatenates (xs.map (·.1)) t a) {P : EReal → Prop} (hP : ∀ p ∈ xs, ∀ i, P (p.2 i)) (j : t.Idx) :
    P (concatenate t a xs h j) :=
  hP _ (List.getElem_mem _) _

/-- … and so of a broadcast slice. -/
theorem slice_all {s t v : Shape} {off : Fin s.rank → ℕ} {dims : Fin t.rank → Fin v.rank} {x : s.Idx → EReal}
    (h : s.Slices off t) (h' : t.BroadcastsInDim v dims) {P : EReal → Prop} (hP : ∀ i, P (x i)) (i : v.Idx) :
    P (broadcastInDim v dims h' (extractStridedSlice t off x h) i) :=
  hP _

variable (x0 : FVec Ideal S2x2064x2576 .f32) (x1 : FVec Ideal S1x31x512 .f32) (x2 x3 x4 : FVec Ideal S1x512 .f32)

theorem gated_real (h0 : ∀ i, IsReal (x0 i)) (i : S2x2064x512.Idx) : IsReal (val_main_v12 (F := Ideal) x0 i) := by
  idx_vars i
  have e : val_main_v12 (F := Ideal) x0 (ix3 i0 i1 i2)
      = x0 (ix3 i0 i1 ⟨i2.val, by omega⟩) * logi (x0 (ix3 i0 i1 ⟨512 + i2.val, by omega⟩)) := by
    pointwise [val_main_v12, val_main_v11, val_main_v10, val_main_v9, val_main_v8, val_main_v7, val_main_v6,
      val_main_v4, val_main_v3, val_main_cst, val_main_cst_0]
  rw [e]
  exact (h0 _).mul (logi_real (h0 _))

theorem shifted_real (h0 : ∀ i, IsReal (x0 i)) (i : S2x2094x512.Idx) : IsReal (val_main_v14 (F := Ideal) x0 i) := by
  unfold val_main_v14
  refine concatenate_all _ (List.forall_mem_cons.mpr ⟨fun i => ?_, List.forall_mem_cons.mpr ⟨gated_real x0 h0, fun _ h => absurd h List.not_mem_nil⟩⟩) i
  exact (congrArg IsReal Ideal.ofBits_zero_f32).mpr isReal_zero

set_option maxHeartbeats 4000000 in
theorem first_real (h0 : ∀ i, IsReal (x0 i)) (i : S16x2x2064x512.Idx) : IsReal (val_main_v77 (F := Ideal) x0 i) := by
  unfold val_main_v77
  refine concatenate_all (P := IsReal) _ ?_ i
  iterate 16 refine List.forall_mem_cons.mpr ⟨fun i => slice_all (by decide) bcast_S2x2064x512_S1x2x2064x512_1_2_3 (shifted_real x0 h0) i, ?_⟩
  exact fun _ h => absurd h List.not_mem_nil

set_option maxHeartbeats 4000000 in
theorem second_real (h0 : ∀ i, IsReal (x0 i)) (i : S15x2x2064x512.Idx) : IsReal (val_main_v78 (F := Ideal) x0 i) := by
  unfold val_main_v78
  refine concatenate_all (P := IsReal) _ ?_ i
  iterate 15 refine List.forall_mem_cons.mpr ⟨fun i => slice_all (by decide) bcast_S2x2064x512_S1x2x2064x512_1_2_3 (shifted_real x0 h0) i, ?_⟩
  exact fun _ h => absurd h List.not_mem_nil

theorem all_real (h0 : ∀ i, IsReal (x0 i)) (i : S31x2x2064x512.Idx) : IsReal (val_main_v79 (F := Ideal) x0 i) := by
  unfold val_main_v79
  exact concatenate_all _ (List.forall_mem_cons.mpr ⟨first_real x0 h0, List.forall_mem_cons.mpr ⟨second_real x0 h0, fun _ h => absurd h List.not_mem_nil⟩⟩) i

theorem y_real (h0 : ∀ i, IsReal (x0 i)) (h1 : ∀ i, IsReal (x1 i)) (h2 : ∀ i, IsReal (x2 i)) (b : Fin 2) (s : Fin 2064)
    (k : Fin 512) : IsReal (y x0 x1 x2 b s k) := by
  have e : y x0 x1 x2 b s k = (∑ l : Fin 31, val_main_v79 (F := Ideal) x0 (ix4 l b s k) * x1 (ix3 0 l k)) + x2 (ix2 0 k) := by
    unfold y
    pointwise [val_main_v86, val_main_v85, val_main_v84, val_main_v83, val_main_v82, val_main_v81, val_main_v80,
      val_main_v5, val_main_v0, val_main_cst_2]
  rw [e]
  exact (IsReal.sum _ fun l => (all_real x0 h0 _).mul (h1 _)).add (h2 _)

theorem out_real {x : Fin 512 → EReal} (hx : ∀ k, IsReal (x k)) (h3 : ∀ i, IsReal (x3 i)) (h4 : ∀ i, IsReal (x4 i))
    (j : Fin 512) : IsReal (out x3 x4 x j) :=
  (((cen_real hx j).mul (LayerNorm.rsqrt_real hx)).mul (h3 _)).add (h4 _)

theorem cot_real {x d : Fin 512 → EReal} (hx : ∀ k, IsReal (x k)) (hd : ∀ k, IsReal (d k)) (h3 : ∀ i, IsReal (x3 i))
    (h4 : ∀ i, IsReal (x4 i)) (j : Fin 512) : IsReal (cot x3 x4 x d j) := by
  have ho := out_real x3 x4 hx h3 h4 j
  have hl := logi_real ho
  exact ((hd j).mul hl).add ((ho.mul (hd j)).mul (hl.mul (isReal_one.sub hl)))

/-- The cotangent as a product with one factor. -/
theorem cot_direct {x d : Fin 512 → EReal} (hx : ∀ k, IsReal (x k)) (hd : ∀ k, IsReal (d k)) (h3 : ∀ i, IsReal (x3 i))
    (h4 : ∀ i, IsReal (x4 i)) (j : Fin 512) :
    d j * (logi (out x3 x4 x j) * (1 + out x3 x4 x j * (1 - logi (out x3 x4 x j)))) = cot x3 x4 x d j :=
  Swiglu.gate (hd j) (out_real x3 x4 hx h3 h4 j)

end Cert.ConvBwdRefIdeal.Read
end
-- ==== Proof.ConvEq.lean ====
module

public import Idealize.ShloMosaic.Lib.Pointwise
public import Idealize.ShloMosaic.Lib.KernelVsHost
public import proofs.«01_k».proof.Defs
public import proofs.«01_k».proof.Proof.Gen.Pre_conv_bwd_finite
public import proofs.«01_k».proof.Proof.ConvValue
public import proofs.«01_k».proof.Proof.ConvReal

/-!
The convolution branch's backward call and its reference leave the same gradients of the convolution's bias and of the
normalisation's gain and bias when the arguments are finite.
-/

@[expose] public section

set_option maxRecDepth 16384

noncomputable section

open Idealize.ShloMosaic Idealize.ShloMosaic.TcCoe Idealize.SL.Sem
open PaddedRows LayerNorm Swiglu RmsGrad

namespace Cert.Pre_conv_bwd_finite

variable (x0 : FVec Ideal S2x2064x2576 .f32) (x1 : FVec Ideal S1x31x512 .f32) (x2 x3 x4 : FVec Ideal S1x512 .f32)
  (x5 : FVec Ideal S2x2064x1024 .f32)

theorem real0 (h : (fn (F := Ideal) x0 x1 x2 x3 x4 x5).1 = fun _ => 1#1) (i) : IsReal (x0 i) := isReal_of_cmp (congrFun h i)
theorem real1 (h : (fn (F := Ideal) x0 x1 x2 x3 x4 x5).2.1 = fun _ => 1#1) (i) : IsReal (x1 i) := isReal_of_cmp (congrFun h i)
theorem real2 (h : (fn (F := Ideal) x0 x1 x2 x3 x4 x5).2.2.1 = fun _ => 1#1) (i) : IsReal (x2 i) := isReal_of_cmp (congrFun h i)
theorem real3 (h : (fn (F := Ideal) x0 x1 x2 x3 x4 x5).2.2.2.1 = fun _ => 1#1) (i) : IsReal (x3 i) := isReal_of_cmp (congrFun h i)
theorem real4 (h : (fn (F := Ideal) x0 x1 x2 x3 x4 x5).2.2.2.2.1 = fun _ => 1#1) (i) : IsReal (x4 i) := isReal_of_cmp (congrFun h i)
theorem real5 (h : (fn (F := Ideal) x0 x1 x2 x3 x4 x5).2.2.2.2.2 = fun _ => 1#1) (i) : IsReal (x5 i) := isReal_of_cmp (congrFun h i)

end Cert.Pre_conv_bwd_finite

namespace Cert.ConvBwdIdeal.Value
open Cert.ConvBwdIdeal Cert.ConvBwdIdeal.Gen Cert.ConvBwdIdeal.Host
variable (m : (ℓ : Loc nD τ sig) → Buf (Elt Ideal) ℓ) (c : Dev nD)

theorem mean_zero : LayerNorm.mean (fun _ => 0) = 0 :=
  (mean_coe fun _ => 0).trans (by simp)

/-- A row without cotangent has no gradient. -/
theorem direct_zero (x : Fin 512 → EReal) (j : Fin 512) : direct x (fun _ => 0) j = 0 := by
  unfold direct
  simp only [zero_mul, mean_zero, mul_zero, sub_zero]

theorem cotRow_lt (r : Fin 4224) (j : Fin 512) (h : r.val % 2112 < 48) : cotRow m c r j = 0 := if_neg (by omega)

theorem biasRow_lt (r : Fin 4224) (j : Fin 512) (h : r.val % 2112 < 48) : biasRow m c r j = 0 := by
  unfold biasRow
  simp only [cotRow_lt m c r _ h, zero_mul]
  exact direct_zero _ j

theorem gainRow_lt (r : Fin 4224) (j : Fin 512) (h : r.val % 2112 < 48) : gainRow m c r j = 0 := by
  unfold gainRow
  rw [cotRow_lt m c r j h, zero_mul]

/-- The reference's cotangent row. -/
abbrev dy (b : Fin 2) (s : Fin 2064) : Fin 512 → EReal := Cert.ConvBwdRefIdeal.Read.dy (m (c.tc.loc main_arg5)) b s

variable (hp : Pre_ConvBwdIdeal_conv_bwd_finite m)
include hp

theorem y_real (b : Fin 2) (s : Fin 2064) (j : Fin 512) : IsReal (y m c b s j) :=
  Cert.ConvBwdRefIdeal.Read.y_real _ _ _ (Cert.Pre_conv_bwd_finite.real0 _ _ _ _ _ _ (hp c).1)
    (Cert.Pre_conv_bwd_finite.real1 _ _ _ _ _ _ (hp c).2.1) (Cert.Pre_conv_bwd_finite.real2 _ _ _ _ _ _ (hp c).2.2.1) b s j

theorem dy_real (b : Fin 2) (s : Fin 2064) (j : Fin 512) : IsReal (dy m c b s j) :=
  Cert.Pre_conv_bwd_finite.real5 _ _ _ _ _ _ (hp c).2.2.2.2.2 _

theorem g_real (i) : IsReal (g m c i) := Cert.Pre_conv_bwd_finite.real3 _ _ _ _ _ _ (hp c).2.2.2.1 i
theorem b_real (i) : IsReal (b m c i) := Cert.Pre_conv_bwd_finite.real4 _ _ _ _ _ _ (hp c).2.2.2.2.1 i

theorem cotRow_le (r : Fin 4224) (j : Fin 512) (h : 48 ≤ r.val % 2112) :
    cotRow m c r j = Cert.ConvBwdRefIdeal.Read.cot (g m c) (b m c)
      (y m c ⟨r.val / 2112, by omega⟩ ⟨r.val % 2112 - 48, by omega⟩)
      (dy m c ⟨r.val / 2112, by omega⟩ ⟨r.val % 2112 - 48, by omega⟩) j := by
  rw [← Cert.ConvBwdRefIdeal.Read.cot_direct _ _ (y_real m c hp _ _) (dy_real m c hp _ _) (g_real m c hp) (b_real m c hp)]
  unfold cotRow dRow
  rw [if_pos h, show padded (y m c) r = y m c _ _ from funext fun k => padded_of_le _ _ _ h, padded_of_le _ _ _ h]
  rfl

theorem offset_eq :
    (dats m 0 c).arrAt 13 cfg0.N = Cert.ConvBwdRefIdeal.Read.val_main_v157 (F := Ideal) (m (c.tc.loc main_arg0))
      (m (c.tc.loc main_arg1)) (m (c.tc.loc main_arg2)) (m (c.tc.loc main_arg3)) (m (c.tc.loc main_arg4))
      (m (c.tc.loc main_arg5)) := by
  funext i
  idx_vars i
  obtain rfl : i0 = 0 := Subsingleton.elim _ _
  refine (final13 m c i1).trans ?_
  rw [Cert.ConvBwdRefIdeal.Read.offset]
  exact sum_rows _ _ (fun r hr => cotRow_lt m c r i1 hr) fun r hr => cotRow_le m c hp r i1 hr

theorem gain_eq :
    (dats m 0 c).arrAt 12 cfg0.N = Cert.ConvBwdRefIdeal.Read.val_main_v156 (F := Ideal) (m (c.tc.loc main_arg0))
      (m (c.tc.loc main_arg1)) (m (c.tc.loc main_arg2)) (m (c.tc.loc main_arg3)) (m (c.tc.loc main_arg4))
      (m (c.tc.loc main_arg5)) := by
  funext i
  idx_vars i
  obtain rfl : i0 = 0 := Subsingleton.elim _ _
  refine (final12 m c i1).trans ?_
  rw [Cert.ConvBwdRefIdeal.Read.gain]
  refine sum_rows _ _ (fun r hr => gainRow_lt m c r i1 hr) fun r hr => ?_
  unfold gainRow
  rw [cotRow_le m c hp r i1 hr, show padded (y m c) r = y m c _ _ from funext fun k => padded_of_le _ _ _ hr, mul_comm]
  rfl

theorem bias_eq :
    (dats m 0 c).arrAt 11 cfg0.N = Cert.ConvBwdRefIdeal.Read.val_main_v155 (F := Ideal) (m (c.tc.loc main_arg0))
      (m (c.tc.loc main_arg1)) (m (c.tc.loc main_arg2)) (m (c.tc.loc main_arg3)) (m (c.tc.loc main_arg4))
      (m (c.tc.loc main_arg5)) := by
  funext i
  idx_vars i
  obtain rfl : i0 = 0 := Subsingleton.elim _ _
  refine (final11 m c i1).trans ?_
  rw [Cert.ConvBwdRefIdeal.Read.bias]
  refine sum_rows _ _ (fun r hr => biasRow_lt m c r i1 hr) fun r hr => ?_
  unfold biasRow
  rw [show padded (y m c) r = y m c _ _ from funext fun k => padded_of_le _ _ _ hr]
  simp only [cotRow_le m c hp r _ hr]
  exact direct_eq (y_real m c hp _ _) (fun k => (Cert.ConvBwdRefIdeal.Read.cot_real _ _ (y_real m c hp _ _) (dy_real m c hp _ _)
    (g_real m c hp) (b_real m c hp) k).mul (g_real m c hp _)) i1

end Cert.ConvBwdIdeal.Value
end
-- ==== Proof.MixUpHost.lean ====
module

public import Idealize.ShloMosaic.Lib.Pointwise
public import Idealize.ShloMosaic.Lib.Claim
public import Idealize.ShloMosaic.Lib.KernelVsHost
public import Idealize.ShloMosaic.Lib.Pipeline.ValueKit
public import proofs.«01_k».proof.Proof.Gen.MixUpIdeal.Frame
public import proofs.«01_k».proof.Proof.PaddedRows
public import proofs.«01_k».proof.Proof.RmsGrad

/-!
What the host hands to the call that projects the two mixers back: the stream and the mixers' rows padded to 4224 rows,
and the weights transposed.
-/

@[expose] public section

set_option maxRecDepth 16384

noncomputable section

open Idealize.ShloMosaic Idealize.ShloMosaic.TcCoe Idealize.SL.Sem
open PaddedRows RmsGrad

namespace Cert.MixUpIdeal.Host
open Cert.MixUpIdeal Cert.MixUpIdeal.Gen
variable (m : (ℓ : Loc nD τ sig) → Buf (Elt Ideal) ℓ) (c : Dev nD)

/-- The stream, at an example, a row and a column. -/
def h (b : Fin 2) (s : Fin 2064) (j : Fin 1024) : EReal := m (c.tc.loc main_arg0) (ix3 b s j)
/-- The convolution's rows. -/
def yc (b : Fin 2) (s : Fin 2064) (i : Fin 512) : EReal := m (c.tc.loc main_arg1) (ix3 b s i)
/-- The attention's rows. -/
def yg (b : Fin 2) (s : Fin 2064) (i : Fin 512) : EReal := m (c.tc.loc main_arg2) (ix3 b s i)
/-- The mixers' projection. -/
def wo (i : Fin 1024) (j : Fin 1024) : EReal := m (c.tc.loc main_arg3) (ix3 0 i j)
/-- The gain. -/
def g (j : Fin 1024) : EReal := m (c.tc.loc main_arg4) (ix2 0 j)
/-- The gate's weight. -/
def wg (j : Fin 1024) (k : Fin 2816) : EReal := m (c.tc.loc main_arg5) (ix3 0 j k)
/-- The other hidden projection. -/
def wu (j : Fin 1024) (k : Fin 2816) : EReal := m (c.tc.loc main_arg6) (ix3 0 j k)

/-- What the padding holds, an integer zero converted. -/
abbrev zero : FVec Ideal S_ .f32 := sitofp .f32 (constantI S_ 32 0#32)

/-- Padding the examples' rows and putting the examples one under the other. -/
def rows1024 (x : FVec Ideal S2x2064x1024 .f32) : FVec Ideal S4224x1024 .f32 :=
  shapeCast S4224x1024 (pad S2x2112x1024 ![0, 48, 0] ![0, 0, 0] ![0, 0, 0] x zero
    pads_S2x2064x1024_S2x2112x1024_000_4800_000 h_S_) shapeCasts_S2x2112x1024_S4224x1024

theorem rows1024_apply (x : FVec Ideal S2x2064x1024 .f32) (r : Fin 4224) (j : Fin 1024) :
    rows1024 x (ix2 r j) = padded (fun b s k => x (ix3 b s k)) r j := by
  pointwise [rows1024]
  exact dite_padded (fun b s k => x (ix3 b s k)) _ (sitofp_zero (φ := .f32)) r j

/-- The same of a mixer's rows, then rounded. -/
def rows512 (x : FVec Ideal S2x2064x512 .f32) : FVec Ideal S4224x512 .bf16 :=
  truncf .bf16 (shapeCast S4224x512 (pad S2x2112x512 ![0, 48, 0] ![0, 0, 0] ![0, 0, 0] x zero
    pads_S2x2064x512_S2x2112x512_000_4800_000 h_S_) shapeCasts_S2x2112x512_S4224x512) bitsLt_bf16_f32

theorem rows512_apply (x : FVec Ideal S2x2064x512 .f32) (r : Fin 4224) (i : Fin 512) :
    rows512 x (ix2 r i) = padded (fun b s k => x (ix3 b s k)) r i := by
  pointwise [rows512]
  exact dite_padded (fun b s k => x (ix3 b s k)) _ (sitofp_zero (φ := .f32)) r i

/-- The stream, padded rows. -/
def hp : FVec Ideal S4224x1024 .f32 := V m c main_v5

theorem hp_eq : hp m c = rows1024 (m (c.tc.loc main_arg0)) := by
  unfold hp
  simp only [V, List.flatten_cons, List.flatten_nil, List.cons_append, List.nil_append]
  entry_read
  rfl

theorem hp_apply (r : Fin 4224) (j : Fin 1024) : hp m c (ix2 r j) = padded (h m c) r j := by
  rw [hp_eq]; exact rows1024_apply _ r j

/-- The convolution's rows, padded. -/
def ycp : FVec Ideal S4224x512 .bf16 := V m c main_v8

theorem ycp_eq : ycp m c = rows512 (m (c.tc.loc main_arg1)) := by
  unfold ycp
  simp only [V, List.flatten_cons, List.flatten_nil, List.cons_append, List.nil_append]
  entry_read
  rfl

theorem ycp_apply (r : Fin 4224) (i : Fin 512) : ycp m c (ix2 r i) = padded (yc m c) r i := by
  rw [ycp_eq]; exact rows512_apply _ r i

/-- The attention's rows, padded. -/
def ygp : FVec Ideal S4224x512 .bf16 := V m c main_v11

theorem ygp_eq : ygp m c = rows512 (m (c.tc.loc main_arg2)) := by
  unfold ygp
  simp only [V, List.flatten_cons, List.flatten_nil, List.cons_append, List.nil_append]
  entry_read
  rfl

theorem ygp_apply (r : Fin 4224) (i : Fin 512) : ygp m c (ix2 r i) = padded (yg m c) r i := by
  rw [ygp_eq]; exact rows512_apply _ r i

/-- The mixers' projection in four groups of 256 rows, each transposed. -/
def wot : FVec Ideal S4x1024x256 .bf16 := V m c main_v3

theorem wot_eq : wot m c = truncf .bf16 (transpose S4x1024x256 [0, 2, 1] (shapeCast S4x256x1024 (shapeCast S1024x1024
    (m (c.tc.loc main_arg3) : FVec Ideal S1x1024x1024 .f32) shapeCasts_S1x1024x1024_S1024x1024)
    shapeCasts_S1024x1024_S4x256x1024) transposes_S4x256x1024_S4x1024x256_0_2_1) bitsLt_bf16_f32 := by
  unfold wot
  simp only [V, List.flatten_cons, List.flatten_nil, List.cons_append, List.nil_append]
  entry_read
  rfl

theorem groups_apply (x : FVec Ideal S1x1024x1024 .f32) (q : Fin 4) (k : Fin 1024) (i : Fin 256) :
    truncf .bf16 (transpose S4x1024x256 [0, 2, 1] (shapeCast S4x256x1024 (shapeCast S1024x1024
      x shapeCasts_S1x1024x1024_S1024x1024) shapeCasts_S1024x1024_S4x256x1024)
      transposes_S4x256x1024_S4x1024x256_0_2_1) bitsLt_bf16_f32 (ix3 q k i)
      = x (ix3 0 ⟨q.val * 256 + i.val, by omega⟩ k) := by
  pointwise

theorem wot_apply (q : Fin 4) (k : Fin 1024) (i : Fin 256) :
    wot m c (ix3 q k i) = wo m c ⟨q.val * 256 + i.val, by omega⟩ k := by
  rw [wot_eq]; exact groups_apply _ q k i

theorem hid_apply (x : FVec Ideal S1x1024x2816 .f32) (k : Fin 2816) (j : Fin 1024) :
    truncf .bf16 (transpose S2816x1024 [1, 0] (shapeCast S1024x2816 x shapeCasts_S1x1024x2816_S1024x2816)
      transposes_S1024x2816_S2816x1024_1_0) bitsLt_bf16_f32 (ix2 k j) = x (ix3 0 j k) := by
  pointwise

/-- The gate's weight, transposed. -/
def wgt : FVec Ideal S2816x1024 .bf16 := V m c main_v14

theorem wgt_eq : wgt m c = truncf .bf16 (transpose S2816x1024 [1, 0] (shapeCast S1024x2816
    (m (c.tc.loc main_arg5) : FVec Ideal S1x1024x2816 .f32) shapeCasts_S1x1024x2816_S1024x2816)
    transposes_S1024x2816_S2816x1024_1_0) bitsLt_bf16_f32 := by
  unfold wgt
  simp only [V, List.flatten_cons, List.flatten_nil, List.cons_append, List.nil_append]
  entry_read
  rfl

theorem wgt_apply (k : Fin 2816) (j : Fin 1024) : wgt m c (ix2 k j) = wg m c j k := by
  rw [wgt_eq]; exact hid_apply _ k j

/-- The other hidden projection, transposed. -/
def wut : FVec Ideal S2816x1024 .bf16 := V m c main_v17

theorem wut_eq : wut m c = truncf .bf16 (transpose S2816x1024 [1, 0] (shapeCast S1024x2816
    (m (c.tc.loc main_arg6) : FVec Ideal S1x1024x2816 .f32) shapeCasts_S1x1024x2816_S1024x2816)
    transposes_S1024x2816_S2816x1024_1_0) bitsLt_bf16_f32 := by
  unfold wut
  simp only [V, List.flatten_cons, List.flatten_nil, List.cons_append, List.nil_append]
  entry_read
  rfl

theorem wut_apply (k : Fin 2816) (j : Fin 1024) : wut m c (ix2 k j) = wu m c j k := by
  rw [wut_eq]; exact hid_apply _ k j

end Cert.MixUpIdeal.Host
end
-- ==== Proof.MixUpBlock.lean ====
module

public import Idealize.ShloMosaic.Lib.Pointwise
public import Idealize.ShloMosaic.Lib.Pipeline.ValueKit
public import proofs.«01_k».proof.Proof.Gen.MixUpIdeal.Frame
public import proofs.«01_k».proof.Proof.Swiglu

/-!
What one block of 384 rows of the call that projects the two mixers back computes, entry by entry.
-/

@[expose] public section

set_option maxRecDepth 16384

noncomputable section

open Idealize.ShloMosaic Idealize.ShloMosaic.TcCoe Idealize.SL.Sem
open RmsGrad Swiglu

namespace Cert.MixUpIdeal.Block
open Cert.MixUpIdeal Cert.MixUpIdeal.Gen

/-- The stream after the mixers: the four groups' products added one after the other. -/
theorem stream (x : FVec Ideal S384x1024 .f32) (a b p q : FVec Ideal S384x256 .bf16)
    (wa wb wp wq : FVec Ideal S1x1024x256 .bf16) (r : Fin 384) (j : Fin 1024) :
    k0_pay5 (F := Ideal) x a wa b wb p wp q wq (ix2 r j)
      = x (ix2 r j) + ∑ i, a (ix2 r i) * wa (ix3 0 j i) + ∑ i, b (ix2 r i) * wb (ix3 0 j i)
        + ∑ i, p (ix2 r i) * wp (ix3 0 j i) + ∑ i, q (ix2 r i) * wq (ix3 0 j i) := by
  pointwise [k0_pay5]

/-- The sum of the squares of a row. -/
theorem squares (x : FVec Ideal S384x1024 .f32) (a b p q : FVec Ideal S384x256 .bf16)
    (wa wb wp wq : FVec Ideal S1x1024x256 .bf16) (r : Fin 384) :
    k0_pay6 (F := Ideal) x a wa b wb p wp q wq (ix1 r)
      = ∑ j, k0_pay5 (F := Ideal) x a wa b wb p wp q wq (ix2 r j) * k0_pay5 (F := Ideal) x a wa b wb p wp q wq (ix2 r j) := by
  pointwise [k0_pay6]

/-- The normalised row. -/
theorem normal (x : FVec Ideal S384x1024 .f32) (q : FVec Ideal S384 .f32) (g : FVec Ideal S1x1024 .f32)
    (hq : ∀ r, q (ix1 r) = ∑ j, x (ix2 r j) * x (ix2 r j)) (r : Fin 384) (j : Fin 1024) :
    k0_pay1 (F := Ideal) x q g (ix2 r j) = x (ix2 r j) * Ideal.rsqrt (meanSq fun k => x (ix2 r k)) * g (ix2 0 j) := by
  pointwise [k0_pay1]
  rw [hq]

/-- The gate. -/
theorem gate (x : FVec Ideal S384x1024 .f32) (q : FVec Ideal S384 .f32) (g : FVec Ideal S1x1024 .f32)
    (w : FVec Ideal S2816x1024 .bf16) (r : Fin 384) (k : Fin 2816) :
    k0_pay2 (F := Ideal) x q g w (ix2 r k) = ∑ j, k0_pay1 (F := Ideal) x q g (ix2 r j) * w (ix2 k j) := by
  pointwise [k0_pay2]

/-- What the gate multiplies. -/
theorem up (x : FVec Ideal S384x1024 .f32) (q : FVec Ideal S384 .f32) (g : FVec Ideal S1x1024 .f32)
    (w : FVec Ideal S2816x1024 .bf16) (r : Fin 384) (k : Fin 2816) :
    k0_pay3 (F := Ideal) x q g w (ix2 r k) = ∑ j, k0_pay1 (F := Ideal) x q g (ix2 r j) * w (ix2 k j) := by
  pointwise [k0_pay3]

/-- The gated row. -/
theorem act (x : FVec Ideal S384x1024 .f32) (q : FVec Ideal S384 .f32) (g : FVec Ideal S1x1024 .f32)
    (w v : FVec Ideal S2816x1024 .bf16) (r : Fin 384) (k : Fin 2816) :
    k0_pay4 (F := Ideal) x q g w v (ix2 r k)
      = k0_pay2 (F := Ideal) x q g w (ix2 r k) * logi (k0_pay2 (F := Ideal) x q g w (ix2 r k))
        * k0_pay3 (F := Ideal) x q g v (ix2 r k) := by
  pointwise [k0_pay4]
  rw [zero_sub]

end Cert.MixUpIdeal.Block
end
-- ==== Proof.MixUpValue.lean ====
module

public import Idealize.ShloMosaic.Lib.Pointwise
public import Idealize.ShloMosaic.Lib.Claim
public import Idealize.ShloMosaic.Lib.Pipeline.ValueKit
public import proofs.«01_k».proof.Proof.MixUpHost
public import proofs.«01_k».proof.Proof.MixUpBlock

/-!
What the call that projects the two mixers back leaves in its five result arrays, row by row: the stream after the mixers,
that stream normalised, the two hidden projections and their gated product.
-/

@[expose] public section

set_option maxRecDepth 16384

noncomputable section

open Idealize.ShloMosaic Idealize.ShloMosaic.TcCoe Idealize.SL.Sem
open Idealize.ShloMosaic.Pipeline (Dat)
open PaddedRows RmsGrad Swiglu

namespace Cert.MixUpIdeal.Value
open Cert.MixUpIdeal Cert.MixUpIdeal.Gen Cert.MixUpIdeal.Host Cert.MixUpIdeal.Block
variable (m : (ℓ : Loc nD τ sig) → Buf (Elt Ideal) ℓ) (c : Dev nD)

/-! ## Rows -/

/-- The mixers' rows side by side. -/
def both (a b : Fin 512 → EReal) (i : Fin 1024) : EReal :=
  if h : i.val < 512 then a ⟨i.val, h⟩ else b ⟨i.val - 512, by omega⟩

/-- A row of the stream after the mixers. -/
def mixed (w : Fin 1024 → Fin 1024 → EReal) (x : Fin 1024 → EReal) (a b : Fin 512 → EReal) (j : Fin 1024) : EReal :=
  x j + ∑ i, both a b i * w i j

/-- A normalised row. -/
def normed (g x : Fin 1024 → EReal) (j : Fin 1024) : EReal := x j * Ideal.rsqrt (meanSq x) * g j

/-- A hidden projection of a row. -/
def hid (w : Fin 1024 → Fin 2816 → EReal) (x : Fin 1024 → EReal) (k : Fin 2816) : EReal := ∑ j, x j * w j k

/-- The gated row. -/
def gated (u v : EReal) : EReal := u * logi u * v

/-- The four groups of 256 columns are the two mixers' rows side by side. -/
theorem groups (w : Fin 1024 → Fin 1024 → EReal) (x : Fin 1024 → EReal) (a b : Fin 512 → EReal) (j : Fin 1024) :
    x j + ∑ i : Fin 256, a ⟨i.val, by omega⟩ * w ⟨0 * 256 + i.val, by omega⟩ j
        + ∑ i : Fin 256, a ⟨256 + i.val, by omega⟩ * w ⟨1 * 256 + i.val, by omega⟩ j
        + ∑ i : Fin 256, b ⟨i.val, by omega⟩ * w ⟨2 * 256 + i.val, by omega⟩ j
        + ∑ i : Fin 256, b ⟨256 + i.val, by omega⟩ * w ⟨3 * 256 + i.val, by omega⟩ j = mixed w x a b j := by
  unfold mixed
  rw [Fin.sum_univ_tiles 4 256 rfl fun i => both a b i * w i j, Fin.sum_univ_four, add_assoc, add_assoc, add_assoc]
  refine congrArg (x j + ·) ?_
  rw [add_assoc, add_assoc]
  refine congrArg₂ (· + ·) ?_ (congrArg₂ (· + ·) ?_ (congrArg₂ (· + ·) ?_ ?_)) <;>
    refine Finset.sum_congr rfl fun i _ => congrArg₂ (· * ·) ?_ rfl
  · unfold both
    rw [dif_pos (by show 0 * 256 + i.val < 512; omega)]
    exact congrArg a (Fin.ext (by show i.val = 0 * 256 + i.val; omega))
  · unfold both
    rw [dif_pos (by show 1 * 256 + i.val < 512; omega)]
    exact congrArg a (Fin.ext (by show 256 + i.val = 1 * 256 + i.val; omega))
  · unfold both
    rw [dif_neg (by show ¬ 2 * 256 + i.val < 512; omega)]
    exact congrArg b (Fin.ext (by show i.val = 2 * 256 + i.val - 512; omega))
  · unfold both
    rw [dif_neg (by show ¬ 3 * 256 + i.val < 512; omega)]
    exact congrArg b (Fin.ext (by show 256 + i.val = 3 * 256 + i.val - 512; omega))

/-! ## The padded rows -/

/-- The stream after the mixers, at a padded row. -/
def h1 (r : Fin 4224) (j : Fin 1024) : EReal :=
  mixed (wo m c) (padded (h m c) r) (padded (yc m c) r) (padded (yg m c) r) j
/-- The normalised stream. -/
def hn (r : Fin 4224) (j : Fin 1024) : EReal := normed (g m c) (h1 m c r) j
/-- The gate. -/
def gt (r : Fin 4224) (k : Fin 2816) : EReal := hid (wg m c) (hn m c r) k
/-- What the gate multiplies. -/
def ut (r : Fin 4224) (k : Fin 2816) : EReal := hid (wu m c) (hn m c r) k

/-! ## The blocks -/

theorem idx : ∀ t : Fin cfg0.N, win0_0.index t = ![t.val, 0] ∧ win0_1.index t = ![t.val, 0]
    ∧ win0_2.index t = ![t.val, 0] ∧ win0_3.index t = ![0, 0, 0] ∧ win0_4.index t = ![0, 0]
    ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, win0_0.index t = ![t.val, 0] ∧ win0_1.index t = ![t.val, 0]
    ∧ win0_2.index t = ![t.val, 0] ∧ win0_3.index t = ![0, 0, 0] ∧ win0_4.index t = ![0, 0]
    ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0])

/-- Row `r` of block `t`. -/
abbrev row (t : Fin cfg0.N) (r : Fin 384) : Fin 4224 :=
  ⟨384 * t.val + r.val, by have h : t.val < 11 := t.isLt; have := r.isLt; omega⟩

theorem blk0 (t : Fin cfg0.N) (r : Fin 384) (j : Fin 1024) :
    (iblk m c 0 t : FVec Ideal S384x1024 .f32) (ix2 r j) = hp m c (ix2 (row t r) j) := by
  blk_point [iblk, hp, idx t]

theorem blk1_left (t : Fin cfg0.N) (r : Fin 384) (i : Fin 256) :
    View.ld (iblk m c 1 t) r0_1 (ix2 r i) = ycp m c (ix2 (row t r) ⟨i.val, by omega⟩) := by
  blk_point [iblk, ycp, idx t]

theorem blk1_right (t : Fin cfg0.N) (r : Fin 384) (i : Fin 256) :
    View.ld (iblk m c 1 t) r0_3 (ix2 r i) = ycp m c (ix2 (row t r) ⟨256 + i.val, by omega⟩) := by
  blk_point [iblk, ycp, idx t]

theorem blk2_left (t : Fin cfg0.N) (r : Fin 384) (i : Fin 256) :
    View.ld (iblk m c 2 t) r0_1 (ix2 r i) = ygp m c (ix2 (row t r) ⟨i.val, by omega⟩) := by
  blk_point [iblk, ygp, idx t]

theorem blk2_right (t : Fin cfg0.N) (r : Fin 384) (i : Fin 256) :
    View.ld (iblk m c 2 t) r0_3 (ix2 r i) = ygp m c (ix2 (row t r) ⟨256 + i.val, by omega⟩) := by
  blk_point [iblk, ygp, idx t]

theorem blk3_0 (t : Fin cfg0.N) (k : Fin 1024) (i : Fin 256) :
    View.ld (iblk m c 3 t) r0_2 (ix3 0 k i) = wot m c (ix3 0 k i) := by
  blk_point [iblk, wot, idx t]

theorem blk3_1 (t : Fin cfg0.N) (k : Fin 1024) (i : Fin 256) :
    View.ld (iblk m c 3 t) r0_4 (ix3 0 k i) = wot m c (ix3 1 k i) := by
  blk_point [iblk, wot, idx t]

theorem blk3_2 (t : Fin cfg0.N) (k : Fin 1024) (i : Fin 256) :
    View.ld (iblk m c 3 t) r0_5 (ix3 0 k i) = wot m c (ix3 2 k i) := by
  blk_point [iblk, wot, idx t]

theorem blk3_3 (t : Fin cfg0.N) (k : Fin 1024) (i : Fin 256) :
    View.ld (iblk m c 3 t) r0_6 (ix3 0 k i) = wot m c (ix3 3 k i) := by
  blk_point [iblk, wot, idx t]

theorem blk4 (t : Fin cfg0.N) (j : Fin 1024) :
    (iblk m c 4 t : FVec Ideal S1x1024 .f32) (ix2 0 j) = g m c j := by
  blk_point [iblk, g, V, idx t]

theorem blk5 (t : Fin cfg0.N) (k : Fin 2816) (j : Fin 1024) :
    (iblk m c 5 t : FVec Ideal S2816x1024 .bf16) (ix2 k j) = wgt m c (ix2 k j) := by
  blk_point [iblk, wgt, idx t]

theorem blk6 (t : Fin cfg0.N) (k : Fin 2816) (j : Fin 1024) :
    (iblk m c 6 t : FVec Ideal S2816x1024 .bf16) (ix2 k j) = wut m c (ix2 k j) := by
  blk_point [iblk, wut, idx t]

/-- The stream after the mixers in block `t`. -/
def h1Blk (t : Fin cfg0.N) : FVec Ideal S384x1024 .f32 :=
  k0_pay5 (F := Ideal) (iblk m c 0 t) (View.ld (iblk m c 1 t) r0_1) (View.ld (iblk m c 3 t) r0_2)
    (View.ld (iblk m c 1 t) r0_3) (View.ld (iblk m c 3 t) r0_4) (View.ld (iblk m c 2 t) r0_1)
    (View.ld (iblk m c 3 t) r0_5) (View.ld (iblk m c 2 t) r0_3) (View.ld (iblk m c 3 t) r0_6)

/-- The sums of its rows' squares. -/
def sqBlk (t : Fin cfg0.N) : FVec Ideal S384 .f32 :=
  k0_pay6 (F := Ideal) (iblk m c 0 t) (View.ld (iblk m c 1 t) r0_1) (View.ld (iblk m c 3 t) r0_2)
    (View.ld (iblk m c 1 t) r0_3) (View.ld (iblk m c 3 t) r0_4) (View.ld (iblk m c 2 t) r0_1)
    (View.ld (iblk m c 3 t) r0_5) (View.ld (iblk m c 2 t) r0_3) (View.ld (iblk m c 3 t) r0_6)

theorem h1Blk_apply (t : Fin cfg0.N) (r : Fin 384) (j : Fin 1024) : h1Blk m c t (ix2 r j) = h1 m c (row t r) j := by
  unfold h1Blk h1
  rw [stream, ← groups]
  simp only [blk0, blk1_left, blk1_right, blk2_left, blk2_right, blk3_0, blk3_1, blk3_2, blk3_3, hp_apply, ycp_apply,
    ygp_apply, wot_apply]
  rfl

theorem sqBlk_apply (t : Fin cfg0.N) (r : Fin 384) :
    sqBlk m c t (ix1 r) = ∑ j, h1Blk m c t (ix2 r j) * h1Blk m c t (ix2 r j) := squares _ _ _ _ _ _ _ _ _ r

theorem hn_blk (t : Fin cfg0.N) (r : Fin 384) (j : Fin 1024) :
    k0_pay1 (F := Ideal) (h1Blk m c t) (sqBlk m c t) (iblk m c 4 t) (ix2 r j) = hn m c (row t r) j := by
  rw [normal _ _ _ (sqBlk_apply m c t)]
  simp only [h1Blk_apply, blk4]
  rfl

theorem gate_blk (t : Fin cfg0.N) (r : Fin 384) (k : Fin 2816) :
    k0_pay2 (F := Ideal) (h1Blk m c t) (sqBlk m c t) (iblk m c 4 t) (iblk m c 5 t) (ix2 r k) = gt m c (row t r) k := by
  rw [Block.gate]
  simp only [hn_blk, blk5, wgt_apply]
  rfl

theorem up_blk (t : Fin cfg0.N) (r : Fin 384) (k : Fin 2816) :
    k0_pay3 (F := Ideal) (h1Blk m c t) (sqBlk m c t) (iblk m c 4 t) (iblk m c 6 t) (ix2 r k) = ut m c (row t r) k := by
  rw [up]
  simp only [hn_blk, blk6, wut_apply]
  rfl

theorem act_blk (t : Fin cfg0.N) (r : Fin 384) (k : Fin 2816) :
    k0_pay4 (F := Ideal) (h1Blk m c t) (sqBlk m c t) (iblk m c 4 t) (iblk m c 5 t) (iblk m c 6 t) (ix2 r k)
      = gated (gt m c (row t r) k) (ut m c (row t r) k) := by
  rw [act, gate_blk, up_blk]
  rfl

/-! ## The result arrays -/

theorem final7 (r : Fin 4224) (j : Fin 1024) :
    ((dats m 0 c).arrAt 7 cfg0.N : FVec Ideal S4224x1024 .f32) (ix2 r j) = h1 m c r j := by
  have key : ((dats m 0 c).arrAt 7 cfg0.N : FVec Ideal S4224x1024 .f32) = fun i => h1 m c (i 0) (i 1) := by
    refine (dats m 0 c).arrAt_eq_of_covers 7 _ (by decide +kernel) fun t hf y => ?_
    blk_simp
    rw [after0_7]
    frame_out
    idx_vars y
    have e : ((View.whole main_v18_0).slice (win0_7.rect t)).emb (ix2 y0 y1) = ix2 (row t y0) y1 := by
      blk_ext [idx t]
    rw [e]
    exact h1Blk_apply m c t y0 y1
  rw [key]; rfl

theorem final8 (r : Fin 4224) (j : Fin 1024) :
    ((dats m 0 c).arrAt 8 cfg0.N : FVec Ideal S4224x1024 .bf16) (ix2 r j) = hn m c r j := by
  have key : ((dats m 0 c).arrAt 8 cfg0.N : FVec Ideal S4224x1024 .bf16) = fun i => hn m c (i 0) (i 1) := by
    refine (dats m 0 c).arrAt_eq_of_covers 8 _ (by decide +kernel) fun t hf y => ?_
    blk_simp
    rw [after0_8]
    unfold_out out0_8
    frame_out
    idx_vars y
    have e : ((View.whole main_v18_1).slice (win0_8.rect t)).emb (ix2 y0 y1) = ix2 (row t y0) y1 := by
      blk_ext [idx t]
    rw [e]
    exact hn_blk m c t y0 y1
  rw [key]; rfl

theorem final9 (r : Fin 4224) (k : Fin 2816) :
    ((dats m 0 c).arrAt 9 cfg0.N : FVec Ideal S4224x2816 .f32) (ix2 r k) = gt m c r k := by
  have key : ((dats m 0 c).arrAt 9 cfg0.N : FVec Ideal S4224x2816 .f32) = fun i => gt m c (i 0) (i 1) := by
    refine (dats m 0 c).arrAt_eq_of_covers 9 _ (by decide +kernel) fun t hf y => ?_
    blk_simp
    rw [after0_9]
    unfold_out out0_9
    frame_out
    idx_vars y
    have e : ((View.whole main_v18_2).slice (win0_9.rect t)).emb (ix2 y0 y1) = ix2 (row t y0) y1 := by
      blk_ext [idx t]
    rw [e]
    exact gate_blk m c t y0 y1
  rw [key]; rfl

theorem final10 (r : Fin 4224) (k : Fin 2816) :
    ((dats m 0 c).arrAt 10 cfg0.N : FVec Ideal S4224x2816 .f32) (ix2 r k) = ut m c r k := by
  have key : ((dats m 0 c).arrAt 10 cfg0.N : FVec Ideal S4224x2816 .f32) = fun i => ut m c (i 0) (i 1) := by
    refine (dats m 0 c).arrAt_eq_of_covers 10 _ (by decide +kernel) fun t hf y => ?_
    blk_simp
    rw [after0_10]
    unfold_out out0_10
    frame_out
    idx_vars y
    have e : ((View.whole main_v18_3).slice (win0_10.rect t)).emb (ix2 y0 y1) = ix2 (row t y0) y1 := by
      blk_ext [idx t]
    rw [e]
    exact up_blk m c t y0 y1
  rw [key]; rfl

theorem final11 (r : Fin 4224) (k : Fin 2816) :
    ((dats m 0 c).arrAt 11 cfg0.N : FVec Ideal S4224x2816 .bf16) (ix2 r k) = gated (gt m c r k) (ut m c r k) := by
  have key : ((dats m 0 c).arrAt 11 cfg0.N : FVec Ideal S4224x2816 .bf16)
      = fun i => gated (gt m c (i 0) (i 1)) (ut m c (i 0) (i 1)) := by
    refine (dats m 0 c).arrAt_eq_of_covers 11 _ (by decide +kernel) fun t hf y => ?_
    blk_simp
    rw [after0_11]
    unfold_out out0_11
    frame_out
    idx_vars y
    have e : ((View.whole main_v18_4).slice (win0_11.rect t)).emb (ix2 y0 y1) = ix2 (row t y0) y1 := by
      blk_ext [idx t]
    rw [e]
    exact act_blk m c t y0 y1
  rw [key]; rfl

end Cert.MixUpIdeal.Value
end
-- ==== Proof.MixUpRead.lean ====
module

public import Idealize.ShloMosaic.Lib.Pointwise
public import Idealize.ShloMosaic.Lib.KernelVsHost
public import Idealize.ShloMosaic.Lib.IdealHost
public import proofs.«01_k».proof.Proof.Gen.MixUpRefIdeal.Read
public import proofs.«01_k».proof.Proof.PaddedRows
public import proofs.«01_k».proof.Proof.Swiglu

/-!
What the reference of the mixers' projection and the hidden projections computes, entry by entry.
-/

@[expose] public section

set_option maxRecDepth 16384

noncomputable section

open Idealize.ShloMosaic Idealize.ShloMosaic.TcCoe Idealize.SL.Sem
open PaddedRows RmsGrad Swiglu

namespace Cert.MixUpRefIdeal.Read
open Cert.MixUpRefIdeal Cert.MixUpRefIdeal.Gen

variable (x0 : FVec Ideal S2x2064x1024 .f32) (x1 x2 : FVec Ideal S2x2064x512 .f32) (x3 : FVec Ideal S1x1024x1024 .f32)
  (x4 : FVec Ideal S1x1024 .f32) (x5 x6 : FVec Ideal S1x1024x2816 .f32)

/-- The mixers' rows side by side. -/
theorem side (b : Fin 2) (s : Fin 2064) (i : Fin 1024) :
    val_main_v0 (F := Ideal) x1 x2 (ix3 b s i)
      = if h : i.val < 512 then x1 (ix3 b s ⟨i.val, h⟩) else x2 (ix3 b s ⟨i.val - 512, by omega⟩) := by
  pointwise [val_main_v0]

/-- The stream after the mixers. -/
theorem stream (b : Fin 2) (s : Fin 2064) (j : Fin 1024) :
    val_main_v3 (F := Ideal) x0 x1 x2 x3 (ix3 b s j)
      = x0 (ix3 b s j) + ∑ i, val_main_v0 (F := Ideal) x1 x2 (ix3 b s i) * x3 (ix3 0 i j) := by
  pointwise [val_main_v3, val_main_v2, val_main_v1]

/-- The normalised stream. -/
theorem normal (b : Fin 2) (s : Fin 2064) (j : Fin 1024) :
    val_main_v17 (F := Ideal) x0 x1 x2 x3 x4 (ix3 b s j)
      = val_main_v3 (F := Ideal) x0 x1 x2 x3 (ix3 b s j)
        * Ideal.rsqrt (meanSq fun k => val_main_v3 (F := Ideal) x0 x1 x2 x3 (ix3 b s k)) * x4 (ix2 0 j) := by
  pointwise [val_main_v17, val_main_v16, val_main_v15, val_main_v14, val_main_v13, val_main_v12, val_main_v11,
    val_main_v10, val_main_v9, val_main_v8, val_main_v7, val_main_v6, val_main_v5, val_main_v4, val_main_cst,
    val_main_cst_0, val_main_cst_1]

/-- The gate. -/
theorem gate (b : Fin 2) (s : Fin 2064) (k : Fin 2816) :
    val_main_v19 (F := Ideal) x0 x1 x2 x3 x4 x5 (ix3 b s k)
      = ∑ j, val_main_v17 (F := Ideal) x0 x1 x2 x3 x4 (ix3 b s j) * x5 (ix3 0 j k) := by
  pointwise [val_main_v19, val_main_v18]

/-- What the gate multiplies. -/
theorem up (b : Fin 2) (s : Fin 2064) (k : Fin 2816) :
    val_main_v21 (F := Ideal) x0 x1 x2 x3 x4 x6 (ix3 b s k)
      = ∑ j, val_main_v17 (F := Ideal) x0 x1 x2 x3 x4 (ix3 b s j) * x6 (ix3 0 j k) := by
  pointwise [val_main_v21, val_main_v20]

/-- The gated row. -/
theorem act (b : Fin 2) (s : Fin 2064) (k : Fin 2816) :
    val_main_v32 (F := Ideal) x0 x1 x2 x3 x4 x5 x6 (ix3 b s k)
      = val_main_v19 (F := Ideal) x0 x1 x2 x3 x4 x5 (ix3 b s k) * logi (val_main_v19 (F := Ideal) x0 x1 x2 x3 x4 x5 (ix3 b s k))
        * val_main_v21 (F := Ideal) x0 x1 x2 x3 x4 x6 (ix3 b s k) := by
  pointwise [val_main_v32, val_main_v31, val_main_call4_v5, val_main_call4_v4, val_main_call4_v3, val_main_call4_v2,
    val_main_call4_v1, val_main_call4_v0, val_main_call4_cst, val_main_call4_cst_0]

/-! ## The padded rows -/

theorem padded_stream (r : Fin 4224) (j : Fin 1024) :
    val_main_v23 (F := Ideal) x0 x1 x2 x3 (ix2 r j)
      = padded (fun b s j => val_main_v3 (F := Ideal) x0 x1 x2 x3 (ix3 b s j)) r j := by
  pointwise [val_main_v23, val_main_v22, val_main_call0_v0, val_main_c]
  exact dite_padded (fun b s k => val_main_v3 (F := Ideal) x0 x1 x2 x3 (ix3 b s k)) _ (sitofp_zero (φ := .f32)) r j

theorem padded_normal (r : Fin 4224) (j : Fin 1024) :
    val_main_v26 (F := Ideal) x0 x1 x2 x3 x4 (ix2 r j)
      = padded (fun b s j => val_main_v17 (F := Ideal) x0 x1 x2 x3 x4 (ix3 b s j)) r j := by
  pointwise [val_main_v26, val_main_v25, val_main_v24, val_main_call1_v0, val_main_c_2]
  exact dite_padded (fun b s k => val_main_v17 (F := Ideal) x0 x1 x2 x3 x4 (ix3 b s k)) _ (sitofp_zero (φ := .f32)) r j

theorem padded_gate (r : Fin 4224) (k : Fin 2816) :
    val_main_v28 (F := Ideal) x0 x1 x2 x3 x4 x5 (ix2 r k)
      = padded (fun b s k => val_main_v19 (F := Ideal) x0 x1 x2 x3 x4 x5 (ix3 b s k)) r k := by
  pointwise [val_main_v28, val_main_v27, val_main_call2_v0, val_main_c_3]
  exact dite_padded (fun b s k => val_main_v19 (F := Ideal) x0 x1 x2 x3 x4 x5 (ix3 b s k)) _ (sitofp_zero (φ := .f32)) r k

theorem padded_up (r : Fin 4224) (k : Fin 2816) :
    val_main_v30 (F := Ideal) x0 x1 x2 x3 x4 x6 (ix2 r k)
      = padded (fun b s k => val_main_v21 (F := Ideal) x0 x1 x2 x3 x4 x6 (ix3 b s k)) r k := by
  pointwise [val_main_v30, val_main_v29, val_main_call3_v0, val_main_c_4]
  exact dite_padded (fun b s k => val_main_v21 (F := Ideal) x0 x1 x2 x3 x4 x6 (ix3 b s k)) _ (sitofp_zero (φ := .f32)) r k

theorem padded_act (r : Fin 4224) (k : Fin 2816) :
    val_main_v35 (F := Ideal) x0 x1 x2 x3 x4 x5 x6 (ix2 r k)
      = padded (fun b s k => val_main_v32 (F := Ideal) x0 x1 x2 x3 x4 x5 x6 (ix3 b s k)) r k := by
  pointwise [val_main_v35, val_main_v34, val_main_v33, val_main_call5_v0, val_main_c_5]
  exact dite_padded (fun b s k => val_main_v32 (F := Ideal) x0 x1 x2 x3 x4 x5 x6 (ix3 b s k)) _ (sitofp_zero (φ := .f32)) r k

end Cert.MixUpRefIdeal.Read
end
-- ==== Proof.MixUpEq.lean ====
module

public import Idealize.ShloMosaic.Lib.Pointwise
public import Idealize.ShloMosaic.Lib.KernelVsHost
public import proofs.«01_k».proof.Defs
public import proofs.«01_k».proof.Proof.MixUpValue
public import proofs.«01_k».proof.Proof.MixUpRead

/-!
The call that projects the two mixers back and its reference leave the same arrays.
-/

@[expose] public section

set_option maxRecDepth 16384

noncomputable section

open Idealize.ShloMosaic Idealize.ShloMosaic.TcCoe Idealize.SL.Sem
open PaddedRows RmsGrad Swiglu

namespace Cert.MixUpIdeal.Value
open Cert.MixUpIdeal Cert.MixUpIdeal.Gen Cert.MixUpIdeal.Host
variable (m : (ℓ : Loc nD τ sig) → Buf (Elt Ideal) ℓ) (c : Dev nD)

/-! ## The reference's arrays of the same arguments -/

/-- The stream after the mixers. -/
def H1 (b : Fin 2) (s : Fin 2064) : Fin 1024 → EReal := mixed (wo m c) (h m c b s) (yc m c b s) (yg m c b s)
/-- The normalised stream. -/
def HN (b : Fin 2) (s : Fin 2064) : Fin 1024 → EReal := normed (g m c) (H1 m c b s)
/-- The gate. -/
def GT (b : Fin 2) (s : Fin 2064) : Fin 2816 → EReal := hid (wg m c) (HN m c b s)
/-- What the gate multiplies. -/
def UT (b : Fin 2) (s : Fin 2064) : Fin 2816 → EReal := hid (wu m c) (HN m c b s)

theorem H1_eq (b : Fin 2) (s : Fin 2064) (j : Fin 1024) :
    Cert.MixUpRefIdeal.Read.val_main_v3 (F := Ideal) (m (c.tc.loc main_arg0)) (m (c.tc.loc main_arg1))
      (m (c.tc.loc main_arg2)) (m (c.tc.loc main_arg3)) (ix3 b s j) = H1 m c b s j := by
  rw [Cert.MixUpRefIdeal.Read.stream]
  simp only [Cert.MixUpRefIdeal.Read.side]
  rfl

theorem HN_eq (b : Fin 2) (s : Fin 2064) (j : Fin 1024) :
    Cert.MixUpRefIdeal.Read.val_main_v17 (F := Ideal) (m (c.tc.loc main_arg0)) (m (c.tc.loc main_arg1))
      (m (c.tc.loc main_arg2)) (m (c.tc.loc main_arg3)) (m (c.tc.loc main_arg4)) (ix3 b s j) = HN m c b s j := by
  rw [Cert.MixUpRefIdeal.Read.normal]
  simp only [H1_eq]
  rfl

theorem GT_eq (b : Fin 2) (s : Fin 2064) (k : Fin 2816) :
    Cert.MixUpRefIdeal.Read.val_main_v19 (F := Ideal) (m (c.tc.loc main_arg0)) (m (c.tc.loc main_arg1))
      (m (c.tc.loc main_arg2)) (m (c.tc.loc main_arg3)) (m (c.tc.loc main_arg4)) (m (c.tc.loc main_arg5)) (ix3 b s k)
      = GT m c b s k := by
  rw [Cert.MixUpRefIdeal.Read.gate]
  simp only [HN_eq]
  rfl

theorem UT_eq (b : Fin 2) (s : Fin 2064) (k : Fin 2816) :
    Cert.MixUpRefIdeal.Read.val_main_v21 (F := Ideal) (m (c.tc.loc main_arg0)) (m (c.tc.loc main_arg1))
      (m (c.tc.loc main_arg2)) (m (c.tc.loc main_arg3)) (m (c.tc.loc main_arg4)) (m (c.tc.loc main_arg6)) (ix3 b s k)
      = UT m c b s k := by
  rw [Cert.MixUpRefIdeal.Read.up]
  simp only [HN_eq]
  rfl

/-! ## The kernel's rows: a row of zeros gives rows of zeros -/

theorem h1_eq (r : Fin 4224) (j : Fin 1024) : h1 m c r j = padded (H1 m c) r j := by
  unfold h1
  by_cases hr : 48 ≤ r.val % 2112
  · rw [padded_of_le _ r j hr, show padded (h m c) r = h m c _ _ from funext fun k => padded_of_le _ _ _ hr,
      show padded (yc m c) r = yc m c _ _ from funext fun k => padded_of_le _ _ _ hr,
      show padded (yg m c) r = yg m c _ _ from funext fun k => padded_of_le _ _ _ hr]
    rfl
  · have hr' : r.val % 2112 < 48 := not_le.mp hr
    rw [padded_of_lt _ r j hr']
    unfold mixed both
    simp only [padded_of_lt _ r _ hr', dite_eq_ite, ite_self, zero_mul, Finset.sum_const_zero, add_zero]

theorem hn_eq (r : Fin 4224) (j : Fin 1024) : hn m c r j = padded (HN m c) r j := by
  unfold hn
  rw [show h1 m c r = padded (H1 m c) r from funext (h1_eq m c r)]
  exact padded_map (H1 m c) (normed (g m c)) (fun j => by unfold normed; rw [zero_mul, zero_mul]) r j

theorem gt_eq (r : Fin 4224) (k : Fin 2816) : gt m c r k = padded (GT m c) r k := by
  unfold gt
  rw [show hn m c r = padded (HN m c) r from funext (hn_eq m c r)]
  exact padded_map (HN m c) (hid (wg m c)) (fun j => by unfold hid; simp only [zero_mul, Finset.sum_const_zero]) r k

theorem ut_eq (r : Fin 4224) (k : Fin 2816) : ut m c r k = padded (UT m c) r k := by
  unfold ut
  rw [show hn m c r = padded (HN m c) r from funext (hn_eq m c r)]
  exact padded_map (HN m c) (hid (wu m c)) (fun j => by unfold hid; simp only [zero_mul, Finset.sum_const_zero]) r k

theorem act_eq (r : Fin 4224) (k : Fin 2816) :
    gated (gt m c r k) (ut m c r k) = padded (fun b s k => gated (GT m c b s k) (UT m c b s k)) r k := by
  rw [gt_eq, ut_eq]
  by_cases hr : 48 ≤ r.val % 2112
  · simp only [padded_of_le _ r k hr]
  · have hr' : r.val % 2112 < 48 := not_le.mp hr
    simp only [padded_of_lt _ r k hr']
    unfold gated
    rw [zero_mul, zero_mul]

/-! ## The result arrays -/

theorem stream_eq :
    (dats m 0 c).arrAt 7 cfg0.N = Cert.MixUpRefIdeal.Read.val_main_v23 (F := Ideal) (m (c.tc.loc main_arg0))
      (m (c.tc.loc main_arg1)) (m (c.tc.loc main_arg2)) (m (c.tc.loc main_arg3)) := by
  funext i
  idx_vars i
  refine (final7 m c i0 i1).trans ?_
  rw [h1_eq, Cert.MixUpRefIdeal.Read.padded_stream]
  simp only [H1_eq]

theorem normal_eq :
    (dats m 0 c).arrAt 8 cfg0.N = Cert.MixUpRefIdeal.Read.val_main_v26 (F := Ideal) (m (c.tc.loc main_arg0))
      (m (c.tc.loc main_arg1)) (m (c.tc.loc main_arg2)) (m (c.tc.loc main_arg3)) (m (c.tc.loc main_arg4)) := by
  funext i
  idx_vars i
  refine (final8 m c i0 i1).trans ?_
  rw [hn_eq, Cert.MixUpRefIdeal.Read.padded_normal]
  simp only [HN_eq]

theorem gate_eq :
    (dats m 0 c).arrAt 9 cfg0.N = Cert.MixUpRefIdeal.Read.val_main_v28 (F := Ideal) (m (c.tc.loc main_arg0))
      (m (c.tc.loc main_arg1)) (m (c.tc.loc main_arg2)) (m (c.tc.loc main_arg3)) (m (c.tc.loc main_arg4))
      (m (c.tc.loc main_arg5)) := by
  funext i
  idx_vars i
  refine (final9 m c i0 i1).trans ?_
  rw [gt_eq, Cert.MixUpRefIdeal.Read.padded_gate]
  simp only [GT_eq]

theorem up_eq :
    (dats m 0 c).arrAt 10 cfg0.N = Cert.MixUpRefIdeal.Read.val_main_v30 (F := Ideal) (m (c.tc.loc main_arg0))
      (m (c.tc.loc main_arg1)) (m (c.tc.loc main_arg2)) (m (c.tc.loc main_arg3)) (m (c.tc.loc main_arg4))
      (m (c.tc.loc main_arg6)) := by
  funext i
  idx_vars i
  refine (final10 m c i0 i1).trans ?_
  rw [ut_eq, Cert.MixUpRefIdeal.Read.padded_up]
  simp only [UT_eq]

theorem gated_eq :
    (dats m 0 c).arrAt 11 cfg0.N = Cert.MixUpRefIdeal.Read.val_main_v35 (F := Ideal) (m (c.tc.loc main_arg0))
      (m (c.tc.loc main_arg1)) (m (c.tc.loc main_arg2)) (m (c.tc.loc main_arg3)) (m (c.tc.loc main_arg4))
      (m (c.tc.loc main_arg5)) (m (c.tc.loc main_arg6)) := by
  funext i
  idx_vars i
  refine (final11 m c i0 i1).trans ?_
  rw [act_eq, Cert.MixUpRefIdeal.Read.padded_act]
  simp only [Cert.MixUpRefIdeal.Read.act, GT_eq, UT_eq]
  rfl

end Cert.MixUpIdeal.Value
end
-- ==== Proof.InProjRun.lean ====
module

public import proofs.«01_k».proof.Proof.Gen.InProjIdeal.Frame
public import proofs.«01_k».proof.Proof.Gen.InProjIdeal.Skeleton
public import Idealize.ShloMosaic.Lib.Pipeline.TableIdle
public import Idealize.ShloMosaic.Lib.Claim

/-!
# The input projection's run

The kernel builds the weight's transposed table at its first step and reads it at every step; the table's window is idle
afterwards and is written back after the last step. What each step leaves is stated over the table, over any float values.
-/

@[expose] public section

set_option maxRecDepth 16384

noncomputable section

namespace Cert.InProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.InProjIdeal Cert.InProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table is built at the first step only. -/
theorem builds_iff (t : Fin cfg0.N) : k0_cond1 (grid0.coords t) = 1#1 ↔ t.val = 0 := by
  have ht : t.val < 11 := Nat.lt_of_lt_of_eq t.isLt N_0
  have e0 : (grid0.coords t 0).val = t.val / 1 % 11 := Pipeline.Grid.coords_val t 0 (by decide) rfl
  rw [show k0_cond1 (grid0.coords t)
    = Scalar.cmpi .ne (Scalar.extui (Scalar.cmpi .eq (BitVec.ofNat 32 (grid0.coords t 0).val) 0#32)) 0#32 from rfl, e0]
  rw [show (t.val = 0) ↔ (t.val % 11 = 0) from by omega]
  word_cmp

/-! ## One step on any buffers -/

section Step

variable (c : Dev nD) (i : grid0.Coords) (a0 : Memref sig .tc .vmem S384x1024 .f32) (w0 : a0.IsWhole)
  (a1 : Memref sig .tc .vmem S1x1024 .f32) (w1 : a1.IsWhole) (a2 : Memref sig .tc .vmem S4x644x1024 .bf16) (w2 : a2.IsWhole)
  (a3 : Memref sig .tc .vmem S384x2688 .f32) (w3 : a3.IsWhole) (a4 : Memref sig .tc .vmem S384x1024 .bf16) (w4 : a4.IsWhole)
  (a5 : Memref sig .tc .vmem S2688x1024 .bf16) (w5 : a5.IsWhole)
  (x0 : Vec F S384x1024 .f32) (x1 : Vec F S1x1024 .f32) (x2 : Vec F S4x644x1024 .bf16)

set_option maxHeartbeats 1000000 in
/-- The first step: what it stores into the three outputs. -/
noncomputable def first (hc : k0_cond1 i = 1#1) :
    Σ' (L3 : List (View.Piece (Elt F) S384x2688 .f32)) (L4 : List (View.Piece (Elt F) S384x1024 .bf16)),
      { L5 : List (View.Piece (Elt F) S2688x1024 .bf16) //
      ∀ (E : Set ℕ) (K : PUnit → sProp 𝕄),
        iprop(owns (c : Thread nD τ) a0 fullShare x0 ∗ owns (c : Thread nD τ) a1 fullShare x1
            ∗ owns (c : Thread nD τ) a2 fullShare x2 ∗ (∃ d, owns (c : Thread nD τ) a3 fullShare d)
            ∗ (∃ d, owns (c : Thread nD τ) a4 fullShare d) ∗ (∃ d, owns (c : Thread nD τ) a5 fullShare d)
            ∗ (iprop(owns (c : Thread nD τ) a0 fullShare x0 ∗ owns (c : Thread nD τ) a1 fullShare x1
              ∗ owns (c : Thread nD τ) a2 fullShare x2
              ∗ (∃ f, a3.view.loc (c : Thread nD τ) ↦[a3.view.set]{fullShare} a3.view.writes (Elt F) f L3)
              ∗ (∃ f, a4.view.loc (c : Thread nD τ) ↦[a4.view.set]{fullShare} a4.view.writes (Elt F) f L4)
              ∗ (∃ f, a5.view.loc (c : Thread nD τ) ↦[a5.view.set]{fullShare} a5.view.writes (Elt F) f L5)) -∗ K ⟨⟩))
          ⊢ wp frame (wpE (defs₀ (F := F)) Variants.none c none) E
              (cc0_in_proj i a0 w0 a1 w1 a2 w2 a3 w3 a4 w4 a5 w5) K } := by
  refine ⟨?_, ?_, ?_, fun E K => ?run⟩
  case run =>
    simp only [cc0_in_proj_eq_skeleton]; unfold cc0_in_proj_skel owns
    iintro ⟨⟨%f0, %e0, H0⟩, ⟨%f1, %e1, H1⟩, ⟨%f2, %e2, H2⟩, ⟨%d3, %f3, -, H3⟩, ⟨%d4, %f4, -, H4⟩, ⟨%d5, %f5, -, H5⟩, Hk⟩
    obtain rfl := w0.eq_unread e0; obtain rfl := w1.eq_unread e1; obtain rfl := w2.eq_unread e2
    sl_exec (disch := first | sl_exact hc)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]; · iexists _; iexact H3
    isplitl [H4]; · iexists _; iexact H4
    iexists _; iexact H5

set_option maxHeartbeats 1000000 in
/-- A later step: what it stores into the first two outputs, the table read and kept. -/
noncomputable def later (hc : ¬k0_cond1 i = 1#1) (x5 : Vec F S2688x1024 .bf16) :
    Σ' (L3 : List (View.Piece (Elt F) S384x2688 .f32)), { L4 : List (View.Piece (Elt F) S384x1024 .bf16) //
      ∀ (E : Set ℕ) (K : PUnit → sProp 𝕄),
        iprop(owns (c : Thread nD τ) a0 fullShare x0 ∗ owns (c : Thread nD τ) a1 fullShare x1
            ∗ owns (c : Thread nD τ) a2 fullShare x2 ∗ (∃ d, owns (c : Thread nD τ) a3 fullShare d)
            ∗ (∃ d, owns (c : Thread nD τ) a4 fullShare d) ∗ owns (c : Thread nD τ) a5 fullShare x5
            ∗ (iprop(owns (c : Thread nD τ) a0 fullShare x0 ∗ owns (c : Thread nD τ) a1 fullShare x1
              ∗ owns (c : Thread nD τ) a2 fullShare x2
              ∗ (∃ f, a3.view.loc (c : Thread nD τ) ↦[a3.view.set]{fullShare} a3.view.writes (Elt F) f L3)
              ∗ (∃ f, a4.view.loc (c : Thread nD τ) ↦[a4.view.set]{fullShare} a4.view.writes (Elt F) f L4)
              ∗ owns (c : Thread nD τ) a5 fullShare x5) -∗ K ⟨⟩))
          ⊢ wp frame (wpE (defs₀ (F := F)) Variants.none c none) E
              (cc0_in_proj i a0 w0 a1 w1 a2 w2 a3 w3 a4 w4 a5 w5) K } := by
  refine ⟨?_, ?_, fun E K => ?run⟩
  case run =>
    simp only [cc0_in_proj_eq_skeleton]; unfold cc0_in_proj_skel owns
    iintro ⟨⟨%f0, %e0, H0⟩, ⟨%f1, %e1, H1⟩, ⟨%f2, %e2, H2⟩, ⟨%d3, %f3, -, H3⟩, ⟨%d4, %f4, -, H4⟩, ⟨%f5, %e5, H5⟩, Hk⟩
    obtain rfl := w0.eq_unread e0; obtain rfl := w1.eq_unread e1; obtain rfl := w2.eq_unread e2
    obtain rfl := w5.eq_unread e5
    sl_exec (disch := first | sl_exact hc)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]; · iexists _; iexact H3
    isplitl [H4]; · iexists _; iexact H4
    iexists _; isplitr; · ipureintro; exact w5.read_unread _
    iexact H5

theorem first_covers3 (hc : k0_cond1 i = 1#1) (y : S384x2688.Idx) :
    ∃ pc ∈ (first c i a0 w0 a1 w1 a2 w2 a3 w3 a4 w4 a5 w5 x0 x1 x2 hc).1, y ∈ pc.1.set :=
  View.cover_of_tiledL _ S384x2688.size (by sl_kernel_rfl) y

theorem first_covers4 (hc : k0_cond1 i = 1#1) (y : S384x1024.Idx) :
    ∃ pc ∈ (first c i a0 w0 a1 w1 a2 w2 a3 w3 a4 w4 a5 w5 x0 x1 x2 hc).2.1, y ∈ pc.1.set :=
  View.cover_of_tiledL _ S384x1024.size (by sl_kernel_rfl) y

theorem first_covers5 (hc : k0_cond1 i = 1#1) (y : S2688x1024.Idx) :
    ∃ pc ∈ (first c i a0 w0 a1 w1 a2 w2 a3 w3 a4 w4 a5 w5 x0 x1 x2 hc).2.2.1, y ∈ pc.1.set :=
  View.cover_of_tiledBy _ ![28, 1024] (by sl_kernel_rfl) y

theorem later_covers3 (hc : ¬k0_cond1 i = 1#1) (x5 : Vec F S2688x1024 .bf16) (y : S384x2688.Idx) :
    ∃ pc ∈ (later c i a0 w0 a1 w1 a2 w2 a3 w3 a4 w4 a5 w5 x0 x1 x2 hc x5).1, y ∈ pc.1.set :=
  View.cover_of_tiledL _ S384x2688.size (by sl_kernel_rfl) y

theorem later_covers4 (hc : ¬k0_cond1 i = 1#1) (x5 : Vec F S2688x1024 .bf16) (y : S384x1024.Idx) :
    ∃ pc ∈ (later c i a0 w0 a1 w1 a2 w2 a3 w3 a4 w4 a5 w5 x0 x1 x2 hc x5).2.1, y ∈ pc.1.set :=
  View.cover_of_tiledL _ S384x1024.size (by sl_kernel_rfl) y

end Step

/-! ## What each output holds after each step -/

/-- A staging buffer's memref, and its wholeness, at point `t`. -/
abbrev st0 (t : Fin cfg0.N) : Memref sig .tc .vmem S384x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S4x644x1024 .bf16 := win0_2.stage (cfg0.slots t 2)
abbrev st3 (t : Fin cfg0.N) : Memref sig .tc .vmem S384x2688 .f32 := win0_3.stage (cfg0.slots t 3)
abbrev st4 (t : Fin cfg0.N) : Memref sig .tc .vmem S384x1024 .bf16 := win0_4.stage (cfg0.slots t 4)
abbrev st5 (t : Fin cfg0.N) : Memref sig .tc .vmem S2688x1024 .bf16 := win0_5.stage (cfg0.slots t 5)
theorem wh0 (t : Fin cfg0.N) : (st0 t).IsWhole := hstage0_0 ((cfg0.slots t 0).cast nbuf0_0)
theorem wh1 (t : Fin cfg0.N) : (st1 t).IsWhole := hstage0_1 ((cfg0.slots t 1).cast nbuf0_1)
theorem wh2 (t : Fin cfg0.N) : (st2 t).IsWhole := hstage0_2 ((cfg0.slots t 2).cast nbuf0_2)
theorem wh3 (t : Fin cfg0.N) : (st3 t).IsWhole := hstage0_3 ((cfg0.slots t 3).cast nbuf0_3)
theorem wh4 (t : Fin cfg0.N) : (st4 t).IsWhole := hstage0_4 ((cfg0.slots t 4).cast nbuf0_4)
theorem wh5 (t : Fin cfg0.N) : (st5 t).IsWhole := hstage0_5 ((cfg0.slots t 5).cast nbuf0_5)

/-- Contents are read off their pieces through one buffer of each window. -/
abbrev view3 : View sig .tc .vmem S384x2688 .f32 := (Memref.whole cc0_stg3_0 : Memref sig .tc .vmem S384x2688 .f32).view
abbrev view4 : View sig .tc .vmem S384x1024 .bf16 := (Memref.whole cc0_stg4_0 : Memref sig .tc .vmem S384x1024 .bf16).view
abbrev view5 : View sig .tc .vmem S2688x1024 .bf16 := (Memref.whole cc0_stg5_0 : Memref sig .tc .vmem S2688x1024 .bf16).view

/-- The first step at point `t`. -/
abbrev firstAt (c : Dev nD) (t : Fin cfg0.N) (h : k0_cond1 (grid0.coords t) = 1#1) :=
  first (F := F) c (grid0.coords t) (st0 t) (wh0 t) (st1 t) (wh1 t) (st2 t) (wh2 t) (st3 t) (wh3 t) (st4 t) (wh4 t)
    (st5 t) (wh5 t) (iblk m c 0 t) (iblk m c 1 t) (iblk m c 2 t) h

/-- A later step at point `t`. -/
abbrev laterAt (c : Dev nD) (t : Fin cfg0.N) (h : ¬k0_cond1 (grid0.coords t) = 1#1) (x5 : Vec F S2688x1024 .bf16) :=
  later (F := F) c (grid0.coords t) (st0 t) (wh0 t) (st1 t) (wh1 t) (st2 t) (wh2 t) (st3 t) (wh3 t) (st4 t) (wh4 t)
    (st5 t) (wh5 t) (iblk m c 0 t) (iblk m c 1 t) (iblk m c 2 t) h x5

/-- The first point. -/
abbrev start : Fin cfg0.N := ⟨0, by rw [show cfg0.N = 11 from N_0]; decide⟩

/-- The transposed table. -/
def table (c : Dev nD) : Vec F S2688x1024 .bf16 :=
  view5.read (Elt F) (view5.writes (Elt F) view5.junk (firstAt m c start ((builds_iff start).mpr rfl)).2.2.1)

/-- The projected rows after point `t`. -/
def left3 (c : Dev nD) (t : Fin cfg0.N) : Vec F S384x2688 .f32 :=
  view3.read (Elt F) (view3.writes (Elt F) view3.junk
    (if h : k0_cond1 (grid0.coords t) = 1#1 then (firstAt m c t h).1 else (laterAt m c t h (table m c)).1))

/-- The normalised rows after point `t`. -/
def left4 (c : Dev nD) (t : Fin cfg0.N) : Vec F S384x1024 .bf16 :=
  view4.read (Elt F) (view4.writes (Elt F) view4.junk
    (if h : k0_cond1 (grid0.coords t) = 1#1 then (firstAt m c t h).2.1 else (laterAt m c t h (table m c)).2.1))

/-- The proof data: each input's block in place, the outputs as above, the table from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left3 m c t
    | ⟨4, _⟩ => left4 m c t
    | ⟨5, _⟩ => table m c
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = left3 m c t := by dsimp only [dats]
theorem after_4 (c : Dev nD) (t : Fin cfg0.N) : (dats m 0 c).after 4 t = left4 m c t := by dsimp only [dats]
theorem after_5 (c : Dev nD) (t : Fin cfg0.N) : (dats m 0 c).after 5 t = table m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Once built, the table's buffer is never fresh again. -/
theorem kept : ∀ n : ℕ, n + 1 < cfg0.N → cfg0.fresh 5 (n + 1) = false
  | 0, hn => by
    rw [cfg0.fresh_succ 5 0 (by omega), Bool.or_eq_false_iff]
    refine ⟨Bool.eq_false_iff.mpr fun h => by have := (flush0_5 _).mp h; dsimp only at this; omega, ?_⟩
    rw [show cfg0.idle 5 (cfg0.grid.coords start) = !(k0_cond1 (grid0.coords start) == 1#1) from rfl,
      (builds_iff start).mpr rfl]
    rfl
  | n + 1, hn => by
    have hN : cfg0.N = 11 := N_0
    rw [cfg0.fresh_succ 5 (n + 1) (by omega), kept n (by omega), Bool.and_false, Bool.or_false]
    exact Bool.eq_false_iff.mpr fun h => by have := (flush0_5 _).mp h; dsimp only at this; omega

/-- A later step finds the table. -/
theorem before_5 (c : Dev nD) (t : Fin cfg0.N) (h : t.val ≠ 0) (d) : (dats m 0 c).before 5 t d = table m c := by
  rw [Dat.before_out_traj (dats m 0 c) 5 rfl (fun _ _ => rfl) (fun _ _ _ _ => by rw [after_5, after_5]) t.val t rfl d]
  obtain ⟨n, hn⟩ := t
  cases n with
  | zero => exact absurd rfl h
  | succ n => rw [kept n hn, if_neg Bool.false_ne_true, after_5]

/-! ## The body -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ (dats m 0 c).leavesExact 5 t)

/-- The table in its buffer is what a step leaves there, idle or not. -/
theorem leaves_table (c : Dev nD) (t : Fin cfg0.N) :
    owns (c : Thread nD τ) (st5 t) fullShare (table m c) ⊢ ((dats m 0 c).leavesExact 5 t : sProp 𝕄) := by
  by_cases hi : cfg0.idle 5 (cfg0.grid.coords t) = true
  · have h0 : t.val ≠ 0 := fun h => by
      rw [show cfg0.idle 5 (cfg0.grid.coords t) = !(k0_cond1 (grid0.coords t) == 1#1) from rfl,
        (builds_iff t).mpr h] at hi
      exact Bool.false_ne_true hi
    by_cases hf : (cfg0.win 5).flush t = true
    · unfold Dat.leavesExact
      rw [hi, hf]
      rw [after_5]
    · rw [Dat.leavesExact_idle _ 5 t hi (Bool.eq_false_iff.mpr hf)]
      iintro H
      iexists (table m c)
      rw [before_5 m c t h0]
      iexact H
  · unfold Dat.leavesExact
    rw [Bool.eq_false_iff.mpr hi]
    rw [after_5]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  unfold left3 left4
  by_cases h : k0_cond1 (grid0.coords t) = 1#1
  · rw [dif_pos h, dif_pos h]
    obtain rfl : t = start := Fin.ext ((builds_iff t).mp h)
    iintro ⟨HΦ, Ho, ⟨%d0, H0⟩, ⟨%d1, H1⟩, ⟨%d2, H2⟩, ⟨%d3, H3⟩, ⟨%d4, H4⟩, ⟨%d5, H5⟩⟩
    iapply ((firstAt m c start h).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (first_covers3 c _ _ _ _ _ _ _ _ _ _ _ _ _ _ _ _ _)
    isplitl [H4]
    · unfold owns; iexists _; isplitr
      swap; · iexact H4
      ipureintro; exact View.read_writes_of_cover _ _ _ _ _ (first_covers4 c _ _ _ _ _ _ _ _ _ _ _ _ _ _ _ _ _)
    iapply (leaves_table m c start)
    unfold owns; iexists _; isplitr
    swap; · iexact H5
    ipureintro; exact View.read_writes_of_cover _ _ _ _ _ (first_covers5 c _ _ _ _ _ _ _ _ _ _ _ _ _ _ _ _ _)
  · rw [dif_neg h, dif_neg h]
    simp only [before_5 m c t fun h0 => h ((builds_iff t).mpr h0)]
    iintro ⟨HΦ, Ho, ⟨%d0, H0⟩, ⟨%d1, H1⟩, ⟨%d2, H2⟩, ⟨%d3, H3⟩, ⟨%d4, H4⟩, ⟨%d5, H5⟩⟩
    iapply ((laterAt m c t h (table m c)).2.2 Set.univ _)
    isplitl [H0]; · iexact H0
    isplitl [H1]; · iexact H1
    isplitl [H2]; · iexact H2
    isplitl [H3]; · iexists _; iexact H3
    isplitl [H4]; · iexists _; iexact H4
    isplitl [H5]; · iexact H5
    iintro ⟨H0, H1, H2, ⟨%e3, H3⟩, ⟨%e4, H4⟩, H5⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (later_covers3 c _ _ _ _ _ _ _ _ _ _ _ _ _ _ _ _ _ _)
    isplitl [H4]
    · unfold owns; iexists _; isplitr
      swap; · iexact H4
      ipureintro; exact View.read_writes_of_cover _ _ _ _ _ (later_covers4 c _ _ _ _ _ _ _ _ _ _ _ _ _ _ _ _ _ _)
    iapply (leaves_table m c t)
    iexact H5

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- Every execution ends, each window's array as the proof data has it and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.InProjIdeal.Hand

end
-- ==== Proof.InFwdHost.lean ====
module

public import Idealize.ShloMosaic.Lib.Pointwise
public import Idealize.ShloMosaic.Lib.Claim
public import Idealize.ShloMosaic.Lib.KernelVsHost
public import Idealize.ShloMosaic.Lib.Pipeline.ValueKit
public import proofs.«01_k».proof.Proof.Gen.InProjIdeal.Frame
public import proofs.«01_k».proof.Proof.Gen.InProjIdeal.Skeleton
public import proofs.«01_k».proof.Proof.PaddedRows
public import proofs.«01_k».proof.Proof.RmsGrad

/-!
What the host hands to the input projection, and what one block of 384 rows of it computes, entry by entry.
-/

@[expose] public section

set_option maxRecDepth 16384

noncomputable section

open Idealize.ShloMosaic Idealize.ShloMosaic.TcCoe Idealize.SL.Sem
open PaddedRows RmsGrad

namespace Cert.InProjIdeal.Host
open Cert.InProjIdeal Cert.InProjIdeal.Gen
variable (m : (ℓ : Loc nD τ sig) → Buf (Elt Ideal) ℓ) (c : Dev nD)

/-- The stream, at an example, a row and a column. -/
def h (b : Fin 2) (s : Fin 2064) (j : Fin 1024) : EReal := m (c.tc.loc main_arg0) (ix3 b s j)
/-- The gain. -/
def g (j : Fin 1024) : EReal := m (c.tc.loc main_arg1) (ix2 0 j)
/-- The projection's weight. -/
def w (j : Fin 1024) (k : Fin 2576) : EReal := m (c.tc.loc main_arg2) (ix3 0 j k)

/-- Padding the examples' rows and putting the examples one under the other. -/
def rows (x : FVec Ideal S2x2064x1024 .f32) : FVec Ideal S4224x1024 .f32 :=
  shapeCast S4224x1024 (pad S2x2112x1024 ![0, 48, 0] ![0, 0, 0] ![0, 0, 0] x (sitofp .f32 (constantI S_ 32 0#32))
    pads_S2x2064x1024_S2x2112x1024_000_4800_000 h_S_) shapeCasts_S2x2112x1024_S4224x1024

theorem rows_apply (x : FVec Ideal S2x2064x1024 .f32) (r : Fin 4224) (j : Fin 1024) :
    rows x (ix2 r j) = padded (fun b s k => x (ix3 b s k)) r j := by
  pointwise [rows]
  exact dite_padded (fun b s k => x (ix3 b s k)) _ (sitofp_zero (φ := .f32)) r j

/-- The padded stream. -/
def hp : FVec Ideal S4224x1024 .f32 := V m c main_v5

theorem hp_eq : hp m c = rows (m (c.tc.loc main_arg0)) := by
  unfold hp
  simp only [V, List.flatten_cons, List.flatten_nil, List.cons_append, List.nil_append]
  entry_read
  rfl

theorem hp_apply (r : Fin 4224) (j : Fin 1024) : hp m c (ix2 r j) = padded (h m c) r j := by
  rw [hp_eq]; exact rows_apply _ r j

/-- The weight in four groups of 644 columns, transposed. -/
def wt : FVec Ideal S4x644x1024 .bf16 := V m c main_v3

theorem wt_eq : wt m c = truncf .bf16 (shapeCast S4x644x1024 (transpose S2576x1024 [1, 0] (shapeCast S1024x2576
    (m (c.tc.loc main_arg2) : FVec Ideal S1x1024x2576 .f32) shapeCasts_S1x1024x2576_S1024x2576)
    transposes_S1024x2576_S2576x1024_1_0) shapeCasts_S2576x1024_S4x644x1024) bitsLt_bf16_f32 := by
  unfold wt
  simp only [V, List.flatten_cons, List.flatten_nil, List.cons_append, List.nil_append]
  entry_read
  rfl

theorem groups_apply (x : FVec Ideal S1x1024x2576 .f32) (q : Fin 4) (i : Fin 644) (j : Fin 1024) :
    truncf .bf16 (shapeCast S4x644x1024 (transpose S2576x1024 [1, 0] (shapeCast S1024x2576
      x shapeCasts_S1x1024x2576_S1024x2576) transposes_S1024x2576_S2576x1024_1_0)
      shapeCasts_S2576x1024_S4x644x1024) bitsLt_bf16_f32 (ix3 q i j)
      = x (ix3 0 j ⟨q.val * 644 + i.val, by omega⟩) := by
  pointwise

theorem wt_apply (q : Fin 4) (i : Fin 644) (j : Fin 1024) :
    wt m c (ix3 q i j) = w m c j ⟨q.val * 644 + i.val, by omega⟩ := by
  rw [wt_eq]; exact groups_apply _ q i j

/-! ## A block -/

/-- A group of the weight's rows. -/
theorem group1 (v : FVec Ideal S1x644x1024 .bf16) (i : Fin 644) (j : Fin 1024) :
    k0_pay1 (F := Ideal) v (ix2 i j) = v (ix3 0 i j) := by
  pointwise [k0_pay1]

theorem group2 (v : FVec Ideal S1x644x1024 .bf16) (i : Fin 644) (j : Fin 1024) :
    k0_pay2 (F := Ideal) v (ix2 i j) = v (ix3 0 i j) := group1 v i j

theorem group3 (v : FVec Ideal S1x644x1024 .bf16) (i : Fin 644) (j : Fin 1024) :
    k0_pay3 (F := Ideal) v (ix2 i j) = v (ix3 0 i j) := group1 v i j

theorem group4 (v : FVec Ideal S1x644x1024 .bf16) (i : Fin 644) (j : Fin 1024) :
    k0_pay4 (F := Ideal) v (ix2 i j) = v (ix3 0 i j) := group1 v i j

/-- The table's last rows. -/
theorem zeros (i : Fin 112) (j : Fin 1024) : k0_pay5 (F := Ideal) (ix2 i j) = 0 := by
  pointwise [k0_pay5]

/-- The normalised row. -/
theorem normal (x : FVec Ideal S384x1024 .f32) (g : FVec Ideal S1x1024 .f32) (r : Fin 384) (j : Fin 1024) :
    k0_pay6 (F := Ideal) x g (ix2 r j) = x (ix2 r j) * Ideal.rsqrt (meanSq fun k => x (ix2 r k)) * g (ix2 0 j) := by
  pointwise [k0_pay6]

/-- The projected row. -/
theorem project (x : FVec Ideal S384x1024 .f32) (g : FVec Ideal S1x1024 .f32) (v : FVec Ideal S2688x1024 .bf16)
    (r : Fin 384) (k : Fin 2688) :
    k0_pay7 (F := Ideal) x g v (ix2 r k) = ∑ j, k0_pay6 (F := Ideal) x g (ix2 r j) * v (ix2 k j) := by
  pointwise [k0_pay7]

end Cert.InProjIdeal.Host
end
-- ==== Proof.InFwdValue.lean ====
module

public import Idealize.ShloMosaic.Lib.Pointwise
public import Idealize.ShloMosaic.Lib.Claim
public import Idealize.ShloMosaic.Lib.Pipeline.ValueKit
public import Idealize.ShloMosaic.Lib.Writes
public import proofs.«01_k».proof.Proof.InProjRun
public import proofs.«01_k».proof.Proof.InFwdHost

/-!
What the input projection leaves in its three result arrays: the projected rows, the normalised rows and the weight's
transposed table.
-/

@[expose] public section

set_option maxRecDepth 16384

noncomputable section

open Idealize.ShloMosaic Idealize.ShloMosaic.TcCoe Idealize.SL.Sem
open Idealize.ShloMosaic.Pipeline (Dat)
open PaddedRows RmsGrad

namespace Cert.InProjIdeal.Value
open Cert.InProjIdeal Cert.InProjIdeal.Gen Cert.InProjIdeal.Hand Cert.InProjIdeal.Host
variable (m : (ℓ : Loc nD τ sig) → Buf (Elt Ideal) ℓ) (c : Dev nD)

theorem idx : ∀ t : Fin cfg0.N, win0_0.index t = ![t.val, 0] ∧ win0_1.index t = ![0, 0]
    ∧ win0_2.index t = ![0, 0, 0] ∧ win0_3.index t = ![t.val, 0] ∧ win0_4.index t = ![t.val, 0]
    ∧ win0_5.index t = ![0, 0] :=
  (by decide +kernel : ∀ t : Fin grid0.N, win0_0.index t = ![t.val, 0] ∧ win0_1.index t = ![0, 0]
    ∧ win0_2.index t = ![0, 0, 0] ∧ win0_3.index t = ![t.val, 0] ∧ win0_4.index t = ![t.val, 0]
    ∧ win0_5.index t = ![0, 0])

/-- Row `r` of block `t`. -/
abbrev row (t : Fin cfg0.N) (r : Fin 384) : Fin 4224 :=
  ⟨384 * t.val + r.val, by have h : t.val < 11 := t.isLt; have := r.isLt; omega⟩

theorem blk0 (t : Fin cfg0.N) (r : Fin 384) (j : Fin 1024) :
    (iblk m c 0 t : FVec Ideal S384x1024 .f32) (ix2 r j) = hp m c (ix2 (row t r) j) := by
  blk_point [iblk, hp, idx t]

theorem blk1 (t : Fin cfg0.N) (j : Fin 1024) :
    (iblk m c 1 t : FVec Ideal S1x1024 .f32) (ix2 0 j) = g m c j := by
  blk_point [iblk, g, V, idx t]

/-! ## The table -/

/-- The table's entries: the weight's, transposed, and zeros below. -/
def tab (k : Fin 2688) (j : Fin 1024) : EReal := if h : k.val < 2576 then w m c j ⟨k.val, h⟩ else 0

theorem load0 (t : Fin cfg0.N) (i : Fin 644) (j : Fin 1024) :
    View.ld (iblk m c 2 t) (Rect.unit ![0, 0, 0] S1x644x1024.size inb_S4x644x1024_S1x644x1024_0_0_0) (ix3 0 i j)
      = wt m c (ix3 0 i j) := by
  blk_point [iblk, wt, idx t]

theorem load1 (t : Fin cfg0.N) (i : Fin 644) (j : Fin 1024) :
    View.ld (iblk m c 2 t) (Rect.unit ![1, 0, 0] S1x644x1024.size inb_S4x644x1024_S1x644x1024_1_0_0) (ix3 0 i j)
      = wt m c (ix3 1 i j) := by
  blk_point [iblk, wt, idx t]

theorem load2 (t : Fin cfg0.N) (i : Fin 644) (j : Fin 1024) :
    View.ld (iblk m c 2 t) (Rect.unit ![2, 0, 0] S1x644x1024.size inb_S4x644x1024_S1x644x1024_2_0_0) (ix3 0 i j)
      = wt m c (ix3 2 i j) := by
  blk_point [iblk, wt, idx t]

theorem load3 (t : Fin cfg0.N) (i : Fin 644) (j : Fin 1024) :
    View.ld (iblk m c 2 t) (Rect.unit ![3, 0, 0] S1x644x1024.size inb_S4x644x1024_S1x644x1024_3_0_0) (ix3 0 i j)
      = wt m c (ix3 3 i j) := by
  blk_point [iblk, wt, idx t]

theorem wt_tab (q : Fin 4) (i : Fin 644) (j : Fin 1024) (k : Fin 2688) (h : k.val = 644 * q.val + i.val) :
    wt m c (ix3 q i j) = tab m c k j := by
  unfold tab
  rw [wt_apply, dif_pos (by omega)]
  exact congrArg (w m c j) (Fin.ext (by show q.val * 644 + i.val = k.val; omega))

/-- The pieces the first step stores into the table. -/
abbrev pieces : List (View.Piece (Elt Ideal) S2688x1024 .bf16) :=
  (firstAt m c start ((builds_iff start).mpr rfl)).2.2.1

theorem pieces_cover (y : S2688x1024.Idx) : ∃ p ∈ pieces m c, y ∈ p.1.set :=
  first_covers5 c _ _ _ _ _ _ _ _ _ _ _ _ _ _ _ _ _ y

theorem table_eq : table m c = View.canon (pieces m c) := by
  unfold table
  rw [View.read_writes_junk_eq_canon]

theorem table_apply (k : Fin 2688) (j : Fin 1024) : table m c (ix2 k j) = tab m c k j := by
  rw [table_eq]
  refine View.canon_eq_of_allAt _ _ _ (pieces_cover m c _) ?_
  unfold pieces firstAt
  frame_open
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_)
    (View.allAt_cons_unit _ _ _ _ _ (fun x hx => ?_) (View.allAt_nil _ _)))))
  all_goals idx_vars x
  all_goals have h0 : k.val = _ := hx 0
  all_goals have h1 : j.val = 0 + x1.val := hx 1
  all_goals obtain rfl : j = x1 := Fin.ext (by omega)
  · unfold tab
    rw [zeros, dif_neg (by have : k.val = 2576 + x0.val := h0; omega)]
  · rw [group4, View.readAt_eq_ld, Memref.IsWhole.read_unread, load3]
    exact wt_tab m c 3 x0 j k h0
  · rw [group3, View.readAt_eq_ld, Memref.IsWhole.read_unread, load2]
    exact wt_tab m c 2 x0 j k h0
  · rw [group2, View.readAt_eq_ld, Memref.IsWhole.read_unread, load1]
    exact wt_tab m c 1 x0 j k h0
  · rw [group1, View.readAt_eq_ld, Memref.IsWhole.read_unread, load0]
    exact wt_tab m c 0 x0 j k h0

/-! ## A step -/

theorem left3_eq (t : Fin cfg0.N) : left3 m c t = k0_pay7 (F := Ideal) (iblk m c 0 t) (iblk m c 1 t) (table m c) := by
  unfold left3 firstAt laterAt
  by_cases h : k0_cond1 (grid0.coords t) = 1#1
  · rw [dif_pos h]
    obtain rfl : t = start := Fin.ext ((builds_iff t).mp h)
    have e : (st5 start).view.readCov (pieces m c)
        (Rect.unit ![0, 0] ![2688, 1024] inb_S2688x1024_S2688x1024_0_0).toLoadRect = table m c := by
      rw [View.readCov_eq_canon_ld _ _ _ (pieces_cover m c), View.ld_unit_lit' _ _ (by decide), table_eq]
    rw [← e]
    unfold pieces firstAt
    frame_open
    simp (disch := decide) only [View.read_writes_junk_eq_canon, View.canon_cons_unit_lit', View.ld_unit_lit',
      View.readAt_eq_ld, Memref.IsWhole.read_unread]
  · rw [dif_neg h]
    generalize table m c = x
    frame_open
    simp (disch := decide) only [View.read_writes_junk_eq_canon, View.canon_cons_unit_lit', View.ld_unit_lit',
      View.readAt_eq_ld, Memref.IsWhole.read_unread]

theorem left4_eq (t : Fin cfg0.N) : left4 m c t = k0_pay6 (F := Ideal) (iblk m c 0 t) (iblk m c 1 t) := by
  unfold left4 firstAt laterAt
  by_cases h : k0_cond1 (grid0.coords t) = 1#1
  · rw [dif_pos h]
    frame_out
  · rw [dif_neg h]
    frame_out

/-! ## The result arrays -/

/-- A normalised row. -/
def normed (g x : Fin 1024 → EReal) (j : Fin 1024) : EReal := x j * Ideal.rsqrt (meanSq x) * g j
/-- A projected row. -/
def projected (x : Fin 1024 → EReal) (k : Fin 2688) : EReal := ∑ j, x j * tab m c k j
/-- The normalised rows, padded. -/
def hn (r : Fin 4224) : Fin 1024 → EReal := normed (g m c) (padded (h m c) r)

theorem hn_blk (t : Fin cfg0.N) (r : Fin 384) (j : Fin 1024) :
    k0_pay6 (F := Ideal) (iblk m c 0 t) (iblk m c 1 t) (ix2 r j) = hn m c (row t r) j := by
  rw [Host.normal]
  simp only [blk0, blk1, hp_apply]
  rfl

theorem u_blk (t : Fin cfg0.N) (r : Fin 384) (k : Fin 2688) :
    k0_pay7 (F := Ideal) (iblk m c 0 t) (iblk m c 1 t) (table m c) (ix2 r k) = projected m c (hn m c (row t r)) k := by
  rw [Host.project]
  simp only [hn_blk, table_apply]
  rfl

theorem final3 (r : Fin 4224) (k : Fin 2688) :
    ((dats m 0 c).arrAt 3 cfg0.N : FVec Ideal S4224x2688 .f32) (ix2 r k) = projected m c (hn m c r) k := by
  have key : ((dats m 0 c).arrAt 3 cfg0.N : FVec Ideal S4224x2688 .f32)
      = fun i => projected m c (hn m c (i 0)) (i 1) := by
    refine (dats m 0 c).arrAt_eq_of_covers 3 _ (by decide +kernel) fun t hf y => ?_
    blk_simp
    rw [after_3, left3_eq]
    idx_vars y
    have e : ((View.whole main_v6_0).slice (win0_3.rect t)).emb (ix2 y0 y1) = ix2 (row t y0) y1 := by
      blk_ext [idx t]
    rw [e]
    exact u_blk m c t y0 y1
  rw [key]; rfl

theorem final4 (r : Fin 4224) (j : Fin 1024) :
    ((dats m 0 c).arrAt 4 cfg0.N : FVec Ideal S4224x1024 .bf16) (ix2 r j) = hn m c r j := by
  have key : ((dats m 0 c).arrAt 4 cfg0.N : FVec Ideal S4224x1024 .bf16) = fun i => hn m c (i 0) (i 1) := by
    refine (dats m 0 c).arrAt_eq_of_covers 4 _ (by decide +kernel) fun t hf y => ?_
    blk_simp
    rw [after_4, left4_eq]
    idx_vars y
    have e : ((View.whole main_v6_1).slice (win0_4.rect t)).emb (ix2 y0 y1) = ix2 (row t y0) y1 := by
      blk_ext [idx t]
    rw [e]
    exact hn_blk m c t y0 y1
  rw [key]; rfl

theorem final5 (k : Fin 2688) (j : Fin 1024) :
    ((dats m 0 c).arrAt 5 cfg0.N : FVec Ideal S2688x1024 .bf16) (ix2 k j) = tab m c k j := by
  have key : ((dats m 0 c).arrAt 5 cfg0.N : FVec Ideal S2688x1024 .bf16) = fun i => tab m c (i 0) (i 1) := by
    refine (dats m 0 c).arrAt_eq_of_covers 5 _ (by decide +kernel) fun t hf y => ?_
    blk_simp
    rw [after_5]
    idx_vars y
    have e : ((View.whole main_v6_2).slice (win0_5.rect t)).emb (ix2 y0 y1) = ix2 y0 y1 := by
      blk_ext [idx t]
    rw [e]
    exact table_apply m c y0 y1
  rw [key]; rfl

end Cert.InProjIdeal.Value
end
-- ==== Proof.InFwdRead.lean ====
module

public import Idealize.ShloMosaic.Lib.Pointwise
public import Idealize.ShloMosaic.Lib.KernelVsHost
public import Idealize.ShloMosaic.Lib.IdealHost
public import proofs.«01_k».proof.Proof.Gen.InProjFwdRefIdeal.Read
public import proofs.«01_k».proof.Proof.PaddedRows
public import proofs.«01_k».proof.Proof.RmsGrad

/-!
What the reference of the input projection computes, entry by entry.
-/

@[expose] public section

set_option maxRecDepth 16384

noncomputable section

open Idealize.ShloMosaic Idealize.ShloMosaic.TcCoe Idealize.SL.Sem
open PaddedRows RmsGrad

namespace Cert.InProjFwdRefIdeal.Read
open Cert.InProjFwdRefIdeal Cert.InProjFwdRefIdeal.Gen

variable (x0 : FVec Ideal S2x2064x1024 .f32) (x1 : FVec Ideal S1x1024 .f32) (x2 : FVec Ideal S1x1024x2576 .f32)

/-- The normalised stream. -/
theorem normal (b : Fin 2) (s : Fin 2064) (j : Fin 1024) :
    val_main_v13 (F := Ideal) x0 x1 (ix3 b s j)
      = x0 (ix3 b s j) * Ideal.rsqrt (meanSq fun k => x0 (ix3 b s k)) * x1 (ix2 0 j) := by
  pointwise [val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1]

/-- The projected row. -/
theorem project (b : Fin 2) (s : Fin 2064) (k : Fin 2576) :
    val_main_v15 (F := Ideal) x0 x1 x2 (ix3 b s k)
      = ∑ j, val_main_v13 (F := Ideal) x0 x1 (ix3 b s j) * x2 (ix3 0 j k) := by
  pointwise [val_main_v15, val_main_v14]

/-! ## The padded rows -/

theorem padded_project (r : Fin 4224) (k : Fin 2688) :
    val_main_v17 (F := Ideal) x0 x1 x2 (ix2 r k)
      = padded (fun b s (k : Fin 2688) =>
          if h : k.val < 2576 then val_main_v15 (F := Ideal) x0 x1 x2 (ix3 b s ⟨k.val, h⟩) else 0) r k := by
  pointwise [val_main_v17, val_main_v16, val_main_call0_v0, val_main_c]
  by_cases hr : 48 ≤ r.val % 2112
  · rw [padded_of_le _ r k hr]
    by_cases hk : k.val < 2576
    · rw [dif_pos ⟨by omega, ⟨hr, by omega⟩, hk⟩, dif_pos hk]
    · rw [dif_neg (fun h => hk h.2.2), dif_neg hk]
      exact sitofp_zero (φ := .f32)
  · rw [padded_of_lt _ r k (by omega), dif_neg (fun h => hr h.2.1.1)]
    exact sitofp_zero (φ := .f32)

theorem padded_normal (r : Fin 4224) (j : Fin 1024) :
    val_main_v20 (F := Ideal) x0 x1 (ix2 r j)
      = padded (fun b s j => val_main_v13 (F := Ideal) x0 x1 (ix3 b s j)) r j := by
  pointwise [val_main_v20, val_main_v19, val_main_v18, val_main_call1_v0, val_main_c_2]
  exact dite_padded (fun b s k => val_main_v13 (F := Ideal) x0 x1 (ix3 b s k)) _ (sitofp_zero (φ := .f32)) r j

theorem table (k : Fin 2688) (j : Fin 1024) :
    val_main_v24 (F := Ideal) x2 (ix2 k j) = if h : k.val < 2576 then x2 (ix3 0 j ⟨k.val, h⟩) else 0 := by
  pointwise [val_main_v24, val_main_v23, val_main_v22, val_main_v21, val_main_call2_v0, val_main_c_3]
  rw [show (FloatOps.sitofp FTy.f32 0#32 : Ideal .f32) = 0 from sitofp_zero (φ := .f32)]

end Cert.InProjFwdRefIdeal.Read
end
-- ==== Proof.InFwdEq.lean ====
module

public import Idealize.ShloMosaic.Lib.Pointwise
public import Idealize.ShloMosaic.Lib.KernelVsHost
public import proofs.«01_k».proof.Defs
public import proofs.«01_k».proof.Proof.InFwdValue
public import proofs.«01_k».proof.Proof.InFwdRead

/-!
The input projection and its reference leave the same arrays.
-/

@[expose] public section

set_option maxRecDepth 16384

noncomputable section

open Idealize.ShloMosaic Idealize.ShloMosaic.TcCoe Idealize.SL.Sem
open PaddedRows RmsGrad

namespace Cert.InProjIdeal.Value
open Cert.InProjIdeal Cert.InProjIdeal.Gen Cert.InProjIdeal.Hand Cert.InProjIdeal.Host
variable (m : (ℓ : Loc nD τ sig) → Buf (Elt Ideal) ℓ) (c : Dev nD)

/-- The reference's normalised rows of the same arguments. -/
def HN (b : Fin 2) (s : Fin 2064) : Fin 1024 → EReal := normed (g m c) (h m c b s)

theorem HN_eq (b : Fin 2) (s : Fin 2064) (j : Fin 1024) :
    Cert.InProjFwdRefIdeal.Read.val_main_v13 (F := Ideal) (m (c.tc.loc main_arg0)) (m (c.tc.loc main_arg1)) (ix3 b s j)
      = HN m c b s j := by
  rw [Cert.InProjFwdRefIdeal.Read.normal]
  rfl

/-- A column of the reference's projection, zero where the table is. -/
theorem column (b : Fin 2) (s : Fin 2064) (k : Fin 2688) :
    (if hk : k.val < 2576 then Cert.InProjFwdRefIdeal.Read.val_main_v15 (F := Ideal) (m (c.tc.loc main_arg0))
      (m (c.tc.loc main_arg1)) (m (c.tc.loc main_arg2)) (ix3 b s ⟨k.val, hk⟩) else 0) = projected m c (HN m c b s) k := by
  unfold projected tab
  by_cases hk : k.val < 2576
  · rw [dif_pos hk, Cert.InProjFwdRefIdeal.Read.project]
    simp only [HN_eq, dif_pos hk]
    rfl
  · rw [dif_neg hk]
    simp only [dif_neg hk, mul_zero, Finset.sum_const_zero]

/-! ## A row of zeros gives rows of zeros -/

theorem hn_eq (r : Fin 4224) (j : Fin 1024) : hn m c r j = padded (HN m c) r j :=
  padded_map (h m c) (normed (g m c)) (fun j => by unfold normed; rw [zero_mul, zero_mul]) r j

theorem u_eq (r : Fin 4224) (k : Fin 2688) :
    projected m c (hn m c r) k = padded (fun b s => projected m c (HN m c b s)) r k := by
  rw [show hn m c r = padded (HN m c) r from funext (hn_eq m c r)]
  exact padded_map (HN m c) (projected m c) (fun j => by unfold projected; simp only [zero_mul, Finset.sum_const_zero]) r k

/-! ## The result arrays -/

theorem rows_eq :
    (dats m 0 c).arrAt 3 cfg0.N = Cert.InProjFwdRefIdeal.Read.val_main_v17 (F := Ideal) (m (c.tc.loc main_arg0))
      (m (c.tc.loc main_arg1)) (m (c.tc.loc main_arg2)) := by
  funext i
  idx_vars i
  refine (final3 m c i0 i1).trans ?_
  rw [u_eq, Cert.InProjFwdRefIdeal.Read.padded_project]
  exact congrArg (padded · i0 i1) (funext fun b => funext fun s => funext fun k => (column m c b s k).symm)

theorem normal_eq :
    (dats m 0 c).arrAt 4 cfg0.N = Cert.InProjFwdRefIdeal.Read.val_main_v20 (F := Ideal) (m (c.tc.loc main_arg0))
      (m (c.tc.loc main_arg1)) := by
  funext i
  idx_vars i
  refine (final4 m c i0 i1).trans ?_
  rw [hn_eq, Cert.InProjFwdRefIdeal.Read.padded_normal]
  simp only [HN_eq]

theorem table_eq_reference :
    (dats m 0 c).arrAt 5 cfg0.N = Cert.InProjFwdRefIdeal.Read.val_main_v24 (F := Ideal) (m (c.tc.loc main_arg2)) := by
  funext i
  idx_vars i
  refine (final5 m c i0 i1).trans ?_
  rw [Cert.InProjFwdRefIdeal.Read.table]
  rfl

end Cert.InProjIdeal.Value
end
-- ==== Proof.ConvFwdLanes.lean ====
module

public import Idealize.ShloMosaic.Lib.Pointwise
public import Idealize.ShloMosaic.Lib.Claim
public import Idealize.ShloMosaic.Lib.Pipeline.ValueKit
public import proofs.«01_k».proof.Proof.Gen.ConvFwdIdeal.Frame

/-!
The convolution kernel's tile, over the extended reals: the gated rows of the tile behind the last rows of the tile before
it, the copies of them shifted by one to seven rows, and the running sum over the 31 taps, whose every load is a block of
the gated rows at its own offset.
-/

@[expose] public section

set_option maxRecDepth 16384

noncomputable section

open Idealize.ShloMosaic Idealize.ShloMosaic.TcCoe Idealize.SL.Sem
open Idealize.ShloMosaic.Pipeline (Dat)

namespace Cert.ConvFwdIdeal.Value
open Cert.ConvFwdIdeal Cert.ConvFwdIdeal.Gen
variable (m : (ℓ : Loc nD τ sig) → Buf (Elt Ideal) ℓ) (c : Dev nD)

/-- Row `n` of the gated rows, those before the block first. -/
def lane (g : S224x512.Idx → EReal) (n : ℕ) (k : Fin 512) : EReal := g (ix2 ⟨n % 224, Nat.mod_lt _ (by decide)⟩ k)

/-- A load of thirty-two of them. -/
theorem direct (p q : View.Piece (Elt Ideal) S224x512 .f32) (b : ℕ) (h) :
    (fun j => View.canon [p, q] ((Rect.unit (s := S224x512) ![b, 0] ![32, 512] h).toLoadRect.idx j))
      = fun y : S32x512.Idx => lane (View.canon [p, q]) (b + (y 0).val) (y 1) := by
  have hb : b + 32 ≤ 224 := h 0
  funext y
  unfold lane
  refine congrArg _ (funext fun a => Fin.ext ?_)
  have := (y 0).isLt
  match a with
  | ⟨0, _⟩ =>
    have h0 : (y 0).val < 32 := (y 0).isLt
    show b + 1 * (y 0).val = (b + (y 0).val) % 224
    rw [Nat.mod_eq_of_lt (by omega)]; omega
  | ⟨1, _⟩ => show 0 + 1 * (y 1).val = (y 1).val; omega

/-- A plane of the shifted copies is the rows it was cut from. -/
theorem plane (v : FVec Ideal S216x512 .f32) (f) (x : S1x216x512.Idx) :
    shapeCast S1x216x512 v f x = v (ix2 (x 1) (x 2)) := by
  obtain ⟨a, b, d, rfl⟩ : ∃ a b d, x = ix3 a b d := ⟨x 0, x 1, x 2, by funext i; match i with | ⟨0, _⟩ => rfl | ⟨1, _⟩ => rfl | ⟨2, _⟩ => rfl⟩
  pointwise

theorem plane_lane (g : S224x512.Idx → EReal) (o : ℕ) (h) (f) (x : S1x216x512.Idx) (n : ℕ) (k : Fin 512)
    (h1 : n = o + (x 1).val) (h2 : k.val = (x 2).val) :
    shapeCast S1x216x512 (fun j => g ((Rect.unit (s := S224x512) ![o, 0] ![216, 512] h).toLoadRect.idx j) : FVec Ideal S216x512 .f32) f x
      = lane g n k := by
  have hb : o + 216 ≤ 224 := h 0
  have hx : (x 1).val < 216 := (x 1).isLt
  rw [plane]
  unfold lane
  refine congrArg g (funext fun a => Fin.ext ?_)
  match a with
  | ⟨0, _⟩ => show o + 1 * (x 1).val = n % 224; rw [Nat.mod_eq_of_lt (by omega)]; omega
  | ⟨1, _⟩ => show 0 + 1 * (x 2).val = k.val; omega

/-- What the seven shifted copies hold. -/
theorem copies (g : S224x512.Idx → EReal) (s : Fin 7) (p : Fin 216) (k : Fin 512) (e6 e5 e4 e3 e2 e1 e0 k7 k6 k5 k4 k3 k2 k1 f6 f5 f4 f3 f2 f1 f0) :
    View.canon (Val := Elt Ideal) (e := .f32)
      [⟨Rect.unit (s := S7x216x512) ![6, 0, 0] ![1, 216, 512] e6, shapeCast S1x216x512 (fun j => g ((Rect.unit (s := S224x512) ![7, 0] ![216, 512] k7).toLoadRect.idx j)) f6⟩,
       ⟨Rect.unit (s := S7x216x512) ![5, 0, 0] ![1, 216, 512] e5, shapeCast S1x216x512 (fun j => g ((Rect.unit (s := S224x512) ![6, 0] ![216, 512] k6).toLoadRect.idx j)) f5⟩,
       ⟨Rect.unit (s := S7x216x512) ![4, 0, 0] ![1, 216, 512] e4, shapeCast S1x216x512 (fun j => g ((Rect.unit (s := S224x512) ![5, 0] ![216, 512] k5).toLoadRect.idx j)) f4⟩,
       ⟨Rect.unit (s := S7x216x512) ![3, 0, 0] ![1, 216, 512] e3, shapeCast S1x216x512 (fun j => g ((Rect.unit (s := S224x512) ![4, 0] ![216, 512] k4).toLoadRect.idx j)) f3⟩,
       ⟨Rect.unit (s := S7x216x512) ![2, 0, 0] ![1, 216, 512] e2, shapeCast S1x216x512 (fun j => g ((Rect.unit (s := S224x512) ![3, 0] ![216, 512] k3).toLoadRect.idx j)) f2⟩,
       ⟨Rect.unit (s := S7x216x512) ![1, 0, 0] ![1, 216, 512] e1, shapeCast S1x216x512 (fun j => g ((Rect.unit (s := S224x512) ![2, 0] ![216, 512] k2).toLoadRect.idx j)) f1⟩,
       ⟨Rect.unit (s := S7x216x512) ![0, 0, 0] ![1, 216, 512] e0, shapeCast S1x216x512 (fun j => g ((Rect.unit (s := S224x512) ![1, 0] ![216, 512] k1).toLoadRect.idx j)) f0⟩]
      (ix3 s p k) = lane g (p.val + s.val + 1) k := by
  canon_tiles x h using (View.cover_of_tiledL _ ![1, 216, 512] (by rfl) _)
  all_goals
    have h0' : s.val = _ := h0
    have h1' : p.val = _ := h1
    have hx : (x 0).val < 1 := (x 0).isLt
    exact plane_lane g _ _ _ x _ k (by omega) h2

/-- A load of thirty-two rows from one of them. -/
theorem shifted (g : S224x512.Idx → EReal) (s b : ℕ) (h) (e6 e5 e4 e3 e2 e1 e0 k7 k6 k5 k4 k3 k2 k1 f6 f5 f4 f3 f2 f1 f0) :
    (fun j => View.canon (Val := Elt Ideal) (e := .f32)
      [⟨Rect.unit (s := S7x216x512) ![6, 0, 0] ![1, 216, 512] e6, shapeCast S1x216x512 (fun j => g ((Rect.unit (s := S224x512) ![7, 0] ![216, 512] k7).toLoadRect.idx j)) f6⟩,
       ⟨Rect.unit (s := S7x216x512) ![5, 0, 0] ![1, 216, 512] e5, shapeCast S1x216x512 (fun j => g ((Rect.unit (s := S224x512) ![6, 0] ![216, 512] k6).toLoadRect.idx j)) f5⟩,
       ⟨Rect.unit (s := S7x216x512) ![4, 0, 0] ![1, 216, 512] e4, shapeCast S1x216x512 (fun j => g ((Rect.unit (s := S224x512) ![5, 0] ![216, 512] k5).toLoadRect.idx j)) f4⟩,
       ⟨Rect.unit (s := S7x216x512) ![3, 0, 0] ![1, 216, 512] e3, shapeCast S1x216x512 (fun j => g ((Rect.unit (s := S224x512) ![4, 0] ![216, 512] k4).toLoadRect.idx j)) f3⟩,
       ⟨Rect.unit (s := S7x216x512) ![2, 0, 0] ![1, 216, 512] e2, shapeCast S1x216x512 (fun j => g ((Rect.unit (s := S224x512) ![3, 0] ![216, 512] k3).toLoadRect.idx j)) f2⟩,
       ⟨Rect.unit (s := S7x216x512) ![1, 0, 0] ![1, 216, 512] e1, shapeCast S1x216x512 (fun j => g ((Rect.unit (s := S224x512) ![2, 0] ![216, 512] k2).toLoadRect.idx j)) f1⟩,
       ⟨Rect.unit (s := S7x216x512) ![0, 0, 0] ![1, 216, 512] e0, shapeCast S1x216x512 (fun j => g ((Rect.unit (s := S224x512) ![1, 0] ![216, 512] k1).toLoadRect.idx j)) f0⟩]
      ((Rect.unit (s := S7x216x512) ![s, b, 0] ![1, 32, 512] h).toLoadRect.idx j))
      = fun y : S1x32x512.Idx => lane g (b + s + 1 + (y 1).val) (y 2) := by
  have hs : s + 1 ≤ 7 := h 0
  have hb : b + 32 ≤ 216 := h 1
  funext y
  have h0 : (y 0).val < 1 := (y 0).isLt
  have h1 : (y 1).val < 32 := (y 1).isLt
  have e : (Rect.unit (s := S7x216x512) ![s, b, 0] ![1, 32, 512] h).toLoadRect.idx y
      = ix3 (⟨s, by omega⟩ : Fin 7) (⟨b + (y 1).val, by omega⟩ : Fin 216) (y 2) := by
    funext a
    refine Fin.ext ?_
    match a with
    | ⟨0, _⟩ => show s + 1 * (y 0).val = s; omega
    | ⟨1, _⟩ => show b + 1 * (y 1).val = b + (y 1).val; omega
    | ⟨2, _⟩ => show 0 + 1 * (y 2).val = (y 2).val; omega
  refine (congrArg _ e).trans ((copies g _ _ _ ..).trans ?_)
  exact congrArg (lane g · (y 2)) (by show b + (y 1).val + s + 1 = b + s + 1 + (y 1).val; omega)

/-- A bias and the first `n` terms after it. -/
def acc (b : EReal) (f : ℕ → EReal) : ℕ → EReal
  | 0 => b
  | n + 1 => acc b f n + f n

/-- A tap's product at row `n`. -/
def tap (w : FVec Ideal S32x512 .f32) (g : S224x512.Idx → EReal) (n : ℕ) (k : Fin 512) (t : ℕ) : EReal :=
  w (ix2 ⟨t % 32, Nat.mod_lt _ (by decide)⟩ k) * lane g n k

/-- The convolution at row `n` of a block. -/
def conv (w : FVec Ideal S32x512 .f32) (b : FVec Ideal S1x512 .f32) (g : S224x512.Idx → EReal) (n : ℕ) (k : Fin 512) : EReal :=
  acc (b (ix2 0 k)) (fun t => tap w g (n + t + 2) k t) 31

theorem conv_of (w : FVec Ideal S32x512 .f32) (b : FVec Ideal S1x512 .f32) (g : S224x512.Idx → EReal) (o p n : ℕ) (q k : Fin 512) {v : EReal}
    (e : v = acc (b (ix2 0 q)) (fun t => tap w g (o + t + p) q t) 31) (h0 : n + 2 = o + p) (h1 : k.val = q.val) : v = conv w b g n k := by
  obtain rfl : k = q := Fin.ext h1
  rw [e]
  exact congrArg (acc _ · 31) (funext fun t => congrArg (tap w g · k t) (by omega))

/-- The gated rows at a grid point. -/
def rowsAt (t : Fin cfg0.N) : S224x512.Idx → EReal :=
  View.canon (Val := Elt Ideal) (s := S224x512) (e := .f32)
    [⟨Rect.unit ![0, 0] ![32, 512] inb_S224x512_S32x512_0_0, k0_pay3 (grid0.coords t) (X0_1 m c t)⟩,
     ⟨Rect.unit ![32, 0] ![192, 512] inb_S224x512_S192x512_32_0, k0_pay2 (X0_0 m c t)⟩]

end Cert.ConvFwdIdeal.Value
end
-- ==== Proof.ConvFwdSum.lean ====
module

public import Idealize.ShloMosaic.Lib.Pointwise
public import Idealize.ShloMosaic.Lib.Claim
public import Idealize.ShloMosaic.Lib.Pipeline.ValueKit
public import proofs.«01_k».proof.Proof.ConvFwdLanes
public import proofs.«01_k».proof.Proof.LayerNorm
public import proofs.«01_k».proof.Proof.Swiglu

/-!
The block of the convolution's sums that a tile writes: at each of its rows the bias and the 31 taps over the rows behind it.
-/

@[expose] public section

set_option maxRecDepth 16384

noncomputable section

open Idealize.ShloMosaic Idealize.ShloMosaic.TcCoe Idealize.SL.Sem
open Idealize.ShloMosaic.Pipeline (Dat)

namespace Cert.ConvFwdIdeal.Value
open Cert.ConvFwdIdeal Cert.ConvFwdIdeal.Gen
variable (m : (ℓ : Loc nD τ sig) → Buf (Elt Ideal) ℓ) (c : Dev nD)

set_option maxHeartbeats 1000000 in
theorem yc_block (t : Fin cfg0.N) (r : Fin 192) (k : Fin 512) :
    (outsAt0 m c t).1 (ix2 r k) = conv (iblk m c 2 t) (iblk m c 3 t) (rowsAt m c t) r.val k := by
  generalize hg : rowsAt m c t = g
  unfold rowsAt at hg
  unfold outsAt0
  frame_out
  simp only [View.readCov_eq_canon', direct]
  simp only [hg, k0_pay4, k0_pay5, k0_pay6, k0_pay7, k0_pay8, k0_pay9, k0_pay10, shifted]
  clear hg
  generalize iblk m c 2 t = w
  generalize iblk m c 3 t = b
  canon_tiles x h
  all_goals
    obtain ⟨p, q, rfl⟩ : ∃ p q, x = ix2 p q := ⟨x 0, x 1, by funext i; match i with | ⟨0, _⟩ => rfl | ⟨1, _⟩ => rfl⟩
    have h0' : r.val = _ := h0
    have h1' : k.val = q.val := h1
  · pointwise [k0_pay11, k0_pay77, k0_pay78, k0_pay79, k0_pay80, k0_pay81, k0_pay82, k0_pay83, k0_pay84, k0_pay85, k0_pay86, k0_pay87]
    refine conv_of w b g 162 p.val _ q k ?_ (by rw [h0']; show 160 + p.val + 2 = 162 + p.val; omega) h1'
    simp only [acc, tap, Nat.reduceMod, Nat.reduceAdd, Nat.add_zero]
    rfl
  · pointwise [k0_pay11, k0_pay65, k0_pay66, k0_pay67, k0_pay68, k0_pay69, k0_pay70, k0_pay71, k0_pay72, k0_pay73]
    refine conv_of w b g 130 p.val _ q k ?_ (by rw [h0']; show 128 + p.val + 2 = 130 + p.val; omega) h1'
    simp only [acc, tap, Nat.reduceMod, Nat.reduceAdd, Nat.add_zero]
    rfl
  · pointwise [k0_pay11, k0_pay52, k0_pay53, k0_pay54, k0_pay55, k0_pay56, k0_pay57, k0_pay58, k0_pay59, k0_pay60, k0_pay61, k0_pay62]
    refine conv_of w b g 98 p.val _ q k ?_ (by rw [h0']; show 96 + p.val + 2 = 98 + p.val; omega) h1'
    simp only [acc, tap, Nat.reduceMod, Nat.reduceAdd, Nat.add_zero]
    rfl
  · pointwise [k0_pay11, k0_pay39, k0_pay40, k0_pay41, k0_pay42, k0_pay43, k0_pay44, k0_pay45, k0_pay46, k0_pay47, k0_pay48, k0_pay49]
    refine conv_of w b g 66 p.val _ q k ?_ (by rw [h0']; show 64 + p.val + 2 = 66 + p.val; omega) h1'
    simp only [acc, tap, Nat.reduceMod, Nat.reduceAdd, Nat.add_zero]
    rfl
  · pointwise [k0_pay11, k0_pay24, k0_pay25, k0_pay26, k0_pay27, k0_pay28, k0_pay29, k0_pay30, k0_pay31, k0_pay32, k0_pay33, k0_pay34, k0_pay35, k0_pay36]
    refine conv_of w b g 34 p.val _ q k ?_ (by rw [h0']; show 32 + p.val + 2 = 34 + p.val; omega) h1'
    simp only [acc, tap, Nat.reduceMod, Nat.reduceAdd, Nat.add_zero]
    rfl
  · pointwise [k0_pay11, k0_pay12, k0_pay13, k0_pay14, k0_pay15, k0_pay16, k0_pay17, k0_pay18, k0_pay19, k0_pay20]
    refine conv_of w b g 2 p.val _ q k ?_ (by rw [h0']; show p.val + 2 = 2 + p.val; omega) h1'
    simp only [acc, tap, Nat.reduceMod, Nat.reduceAdd, Nat.add_zero]
    rfl

end Cert.ConvFwdIdeal.Value
end
-- ==== Proof.ConvFwdNorm.lean ====
module

public import Idealize.ShloMosaic.Lib.Pointwise
public import Idealize.ShloMosaic.Lib.Claim
public import Idealize.ShloMosaic.Lib.Pipeline.ValueKit
public import proofs.«01_k».proof.Proof.ConvFwdLanes
public import proofs.«01_k».proof.Proof.LayerNorm
public import proofs.«01_k».proof.Proof.Swiglu

/-!
The block of the branch's rows that a tile writes: the layer norm of the convolution's row through the SiLU, and zero at the
rows of the padding.
-/

@[expose] public section

set_option maxRecDepth 16384

noncomputable section

open Idealize.ShloMosaic Idealize.ShloMosaic.TcCoe Idealize.SL.Sem
open Idealize.ShloMosaic.Pipeline (Dat)

namespace Cert.ConvFwdIdeal.Value
open RmsGrad LayerNorm Swiglu Cert.ConvFwdIdeal Cert.ConvFwdIdeal.Gen
variable (m : (ℓ : Loc nD τ sig) → Buf (Elt Ideal) ℓ) (c : Dev nD)

/-- The normalised row with gain and bias. -/
def out (lg lb : FVec Ideal S1x512 .f32) (x : Fin 512 → EReal) (j : Fin 512) : EReal :=
  cen x j * Ideal.rsqrt (var x) * lg (ix2 0 j) + lb (ix2 0 j)

/-- A row of an example passes the mask. -/
theorem live {i o : ℕ} {p : Fin 32} (hi : i < 11) (ho : o ≤ 160) (ho' : o % 32 = 0) (h : 48 ≤ 192 * i + (o + p.val)) {x y : EReal} :
    Scalar.select (IntOp.cmpi CmpIPredicate.sge (IntOp.addi (Scalar.addi (Scalar.muli (BitVec.ofNat 32 i) 192#32) (BitVec.ofNat 32 o))
      (BitVec.ofNat 32 p.val)) 48#32) x y = x := by
  have e : IntOp.cmpi CmpIPredicate.sge (IntOp.addi (Scalar.addi (Scalar.muli (BitVec.ofNat 32 i) 192#32) (BitVec.ofNat 32 o))
      (BitVec.ofNat 32 p.val)) 48#32 = 1#1 := by
    obtain ⟨j, rfl⟩ : ∃ j : Fin 6, o = 32 * j.val := ⟨⟨o / 32, by omega⟩, by dsimp only; omega⟩
    obtain ⟨i, rfl⟩ : ∃ i' : Fin 11, i = i'.val := ⟨⟨i, hi⟩, rfl⟩
    clear hi ho ho'
    revert i j p; decide +kernel
  rw [e]
  rfl

set_option maxHeartbeats 1000000 in
theorem y_block (t : Fin cfg0.N) (r : Fin 192) (k : Fin 512) (hr : 48 ≤ 192 * (grid0.coords t 1).val + r.val) :
    (outsAt0 m c t).2 (ix2 r k) = out (iblk m c 4 t) (iblk m c 5 t) (conv (iblk m c 2 t) (iblk m c 3 t) (rowsAt m c t) r.val) k
      * logi (out (iblk m c 4 t) (iblk m c 5 t) (conv (iblk m c 2 t) (iblk m c 3 t) (rowsAt m c t) r.val) k) := by
  generalize hg : rowsAt m c t = g
  unfold rowsAt at hg
  unfold outsAt0
  frame_out
  simp only [View.readCov_eq_canon', direct]
  simp only [hg, k0_pay4, k0_pay5, k0_pay6, k0_pay7, k0_pay8, k0_pay9, k0_pay10, shifted]
  simp only [Nat.reduceAdd]
  clear hg
  generalize iblk m c 2 t = w
  generalize iblk m c 3 t = b
  generalize iblk m c 4 t = lg
  generalize iblk m c 5 t = lb
  canon_tiles x h
  all_goals
    obtain ⟨p, q, rfl⟩ : ∃ p q, x = ix2 p q := ⟨x 0, x 1, by funext i; match i with | ⟨0, _⟩ => rfl | ⟨1, _⟩ => rfl⟩
    have h0' : r.val = _ := h0
    rw [show (ix2 p q 0).val = p.val from rfl] at h0'
    obtain rfl : k = q := Fin.ext h1
  · unfold k0_pay89 k0_pay88
    generalize hA : k0_pay87 (F := Ideal) _ _ _ _ _ = A
    have hc : ∀ q, A (ix2 p q) = conv w b g (160 + p.val) q := by
      intro q
      rw [← hA]
      pointwise [k0_pay11, k0_pay77, k0_pay78, k0_pay79, k0_pay80, k0_pay81, k0_pay82, k0_pay83, k0_pay84, k0_pay85, k0_pay86, k0_pay87]
      refine conv_of w b g 162 p.val _ q q ?_ (by omega) rfl
      simp only [acc, tap, Nat.reduceMod, Nat.reduceAdd, Nat.add_zero]
      rfl
    pointwise [k0_pay1, k0_pay90]
    simp only [hc, zero_sub]
    rw [live (i := (grid0.coords t 1).val) (o := 160) (p := p) (by exact (grid0.coords t 1).isLt) (by decide) (by decide) (by omega)]
    rw [h0']
    rfl
  · unfold k0_pay75 k0_pay74
    generalize hA : k0_pay73 (F := Ideal) _ _ _ _ _ _ _ _ = A
    have hc : ∀ q, A (ix2 p q) = conv w b g (128 + p.val) q := by
      intro q
      rw [← hA]
      pointwise [k0_pay11, k0_pay65, k0_pay66, k0_pay67, k0_pay68, k0_pay69, k0_pay70, k0_pay71, k0_pay72, k0_pay73]
      refine conv_of w b g 130 p.val _ q q ?_ (by omega) rfl
      simp only [acc, tap, Nat.reduceMod, Nat.reduceAdd, Nat.add_zero]
      rfl
    pointwise [k0_pay76]
    simp only [hc, zero_sub]
    rw [live (i := (grid0.coords t 1).val) (o := 128) (p := p) (by exact (grid0.coords t 1).isLt) (by decide) (by decide) (by omega)]
    rw [h0']
    rfl
  · unfold k0_pay63
    generalize hA : k0_pay62 (F := Ideal) _ _ _ _ _ _ _ _ _ _ = A
    have hc : ∀ q, A (ix2 p q) = conv w b g (96 + p.val) q := by
      intro q
      rw [← hA]
      pointwise [k0_pay11, k0_pay52, k0_pay53, k0_pay54, k0_pay55, k0_pay56, k0_pay57, k0_pay58, k0_pay59, k0_pay60, k0_pay61, k0_pay62]
      refine conv_of w b g 98 p.val _ q q ?_ (by omega) rfl
      simp only [acc, tap, Nat.reduceMod, Nat.reduceAdd, Nat.add_zero]
      rfl
    pointwise [k0_pay64]
    simp only [hc, zero_sub]
    rw [live (i := (grid0.coords t 1).val) (o := 96) (p := p) (by exact (grid0.coords t 1).isLt) (by decide) (by decide) (by omega)]
    rw [h0']
    rfl
  · unfold k0_pay50
    generalize hA : k0_pay49 (F := Ideal) _ _ _ _ _ = A
    have hc : ∀ q, A (ix2 p q) = conv w b g (64 + p.val) q := by
      intro q
      rw [← hA]
      pointwise [k0_pay11, k0_pay39, k0_pay40, k0_pay41, k0_pay42, k0_pay43, k0_pay44, k0_pay45, k0_pay46, k0_pay47, k0_pay48, k0_pay49]
      refine conv_of w b g 66 p.val _ q q ?_ (by omega) rfl
      simp only [acc, tap, Nat.reduceMod, Nat.reduceAdd, Nat.add_zero]
      rfl
    pointwise [k0_pay51]
    simp only [hc, zero_sub]
    rw [live (i := (grid0.coords t 1).val) (o := 64) (p := p) (by exact (grid0.coords t 1).isLt) (by decide) (by decide) (by omega)]
    rw [h0']
    rfl
  · unfold k0_pay37
    generalize hA : k0_pay36 (F := Ideal) _ _ _ _ _ _ _ = A
    have hc : ∀ q, A (ix2 p q) = conv w b g (32 + p.val) q := by
      intro q
      rw [← hA]
      pointwise [k0_pay11, k0_pay24, k0_pay25, k0_pay26, k0_pay27, k0_pay28, k0_pay29, k0_pay30, k0_pay31, k0_pay32, k0_pay33, k0_pay34, k0_pay35, k0_pay36]
      refine conv_of w b g 34 p.val _ q q ?_ (by omega) rfl
      simp only [acc, tap, Nat.reduceMod, Nat.reduceAdd, Nat.add_zero]
      rfl
    pointwise [k0_pay38]
    simp only [hc, zero_sub]
    rw [live (i := (grid0.coords t 1).val) (o := 32) (p := p) (by exact (grid0.coords t 1).isLt) (by decide) (by decide) (by omega)]
    rw [h0']
    rfl
  · unfold k0_pay22 k0_pay21
    generalize hA : k0_pay20 (F := Ideal) _ _ _ _ _ _ _ _ _ = A
    have hc : ∀ q, A (ix2 p q) = conv w b g (p.val) q := by
      intro q
      rw [← hA]
      pointwise [k0_pay11, k0_pay12, k0_pay13, k0_pay14, k0_pay15, k0_pay16, k0_pay17, k0_pay18, k0_pay19, k0_pay20]
      refine conv_of w b g 2 p.val _ q q ?_ (by omega) rfl
      simp only [acc, tap, Nat.reduceMod, Nat.reduceAdd, Nat.add_zero]
      rfl
    pointwise [k0_pay23]
    simp only [hc, zero_sub]
    rw [live (i := (grid0.coords t 1).val) (o := 0) (p := p) (by exact (grid0.coords t 1).isLt) (by decide) (by decide) (by omega)]
    rw [h0']
    rfl

end Cert.ConvFwdIdeal.Value
end
-- ==== Proof.ConvFwdHost.lean ====
module

public import Idealize.ShloMosaic.Lib.Pointwise
public import Idealize.ShloMosaic.Lib.Claim
public import Idealize.ShloMosaic.Lib.KernelVsHost
public import Idealize.ShloMosaic.Lib.Pipeline.ValueKit
public import proofs.«01_k».proof.Proof.PaddedRows
public import proofs.«01_k».proof.Proof.ConvFwdLanes
public import proofs.«01_k».proof.Proof.Swiglu
public import proofs.«01_k».proof.Proof.LayerNorm

/-!
What the host hands to the convolution branch's call: the projected rows, padded, and the taps with a row of zeros below; and what
the call gates of them, block by block.
-/

@[expose] public section

set_option maxRecDepth 16384

noncomputable section

open Idealize.ShloMosaic Idealize.ShloMosaic.TcCoe Idealize.SL.Sem
open Idealize.ShloMosaic.Pipeline (Dat)
open PaddedRows RmsGrad Swiglu LayerNorm

namespace Cert.ConvFwdIdeal.Value
open Cert.ConvFwdIdeal Cert.ConvFwdIdeal.Gen
variable (m : (ℓ : Loc nD τ sig) → Buf (Elt Ideal) ℓ) (c : Dev nD)

/-- The projected rows. -/
def u (b : Fin 2) (s : Fin 2064) (j : Fin 2576) : EReal := m (c.tc.loc main_arg0) (ix3 b s j)
/-- The taps. -/
def taps (t : Fin 31) (k : Fin 512) : EReal := m (c.tc.loc main_arg1) (ix3 0 t k)

/-- What the padding holds, an integer zero converted. -/
abbrev zero : FVec Ideal S_ .f32 := sitofp .f32 (constantI S_ 32 0#32)

/-- The projected rows, padded, with columns of zeros. -/
def up : FVec Ideal S4224x2688 .f32 := V m c main_v2
/-- The taps with a row of zeros. -/
def wp : FVec Ideal S32x512 .f32 := V m c main_v4

theorem up_eq : up m c = pad S4224x2688 ![0, 0] ![0, 112] ![0, 0] (shapeCast S4224x2576 (pad S2x2112x2576 ![0, 48, 0] ![0, 0, 0] ![0, 0, 0]
    (m (c.tc.loc main_arg0) : FVec Ideal S2x2064x2576 .f32) zero pads_S2x2064x2576_S2x2112x2576_000_4800_000 h_S_)
    shapeCasts_S2x2112x2576_S4224x2576) zero pads_S4224x2576_S4224x2688_000_01120 h_S_ := by
  unfold up
  entry_read
  rfl

theorem wp_eq : wp m c = pad S32x512 ![0, 0] ![1, 0] ![0, 0] (shapeCast S31x512 (m (c.tc.loc main_arg1) : FVec Ideal S1x31x512 .f32)
    shapeCasts_S1x31x512_S31x512) zero pads_S31x512_S32x512_010_000 h_S_ := by
  unfold wp
  entry_read
  rfl

theorem rows2576 (x : FVec Ideal S2x2064x2576 .f32) (r : Fin 4224) (j : Fin 2576) :
    shapeCast S4224x2576 (pad S2x2112x2576 ![0, 48, 0] ![0, 0, 0] ![0, 0, 0] x zero
      pads_S2x2064x2576_S2x2112x2576_000_4800_000 h_S_) shapeCasts_S2x2112x2576_S4224x2576 (ix2 r j)
      = padded (fun b s k => x (ix3 b s k)) r j := by
  pointwise
  exact dite_padded (fun b s k => x (ix3 b s k)) _ (sitofp_zero (φ := .f32)) r j

theorem wide (x : FVec Ideal S4224x2576 .f32) (r : Fin 4224) (j : Fin 2688) (h : j.val < 2576) :
    pad S4224x2688 ![0, 0] ![0, 112] ![0, 0] x zero pads_S4224x2576_S4224x2688_000_01120 h_S_ (ix2 r j) = x (ix2 r ⟨j.val, h⟩) := by
  pointwise
  rw [dif_pos h]

theorem up_apply (r : Fin 4224) (j : Fin 2688) (h : j.val < 2576) : up m c (ix2 r j) = padded (u m c) r ⟨j.val, h⟩ := by
  rw [up_eq, wide _ _ _ h]; exact rows2576 _ r _

theorem below (x : FVec Ideal S1x31x512 .f32) (t : Fin 32) (k : Fin 512) (h : t.val < 31) :
    pad S32x512 ![0, 0] ![1, 0] ![0, 0] (shapeCast S31x512 x shapeCasts_S1x31x512_S31x512) zero pads_S31x512_S32x512_010_000 h_S_ (ix2 t k)
      = x (ix3 0 ⟨t.val, h⟩ k) := by
  pointwise
  rw [dif_pos h]

theorem wp_apply (t : Fin 32) (k : Fin 512) (h : t.val < 31) : wp m c (ix2 t k) = taps m c ⟨t.val, h⟩ k := by
  rw [wp_eq]; exact below _ t k h

/-- A gated row of the padded ones. -/
def G (r : Fin 4224) (k : Fin 512) : EReal := up m c (ix2 r ⟨k.val, by omega⟩) * logi (up m c (ix2 r ⟨512 + k.val, by omega⟩))

/-- A gated row. -/
def gated (b : Fin 2) (s : Fin 2064) (k : Fin 512) : EReal :=
  u m c b s ⟨k.val, by omega⟩ * logi (u m c b s ⟨512 + k.val, by omega⟩)

theorem G_eq (r : Fin 4224) (k : Fin 512) : G m c r k = padded (gated m c) r k := by
  unfold G
  rw [up_apply m c r _ (by show k.val < 2576; omega), up_apply m c r _ (by show 512 + k.val < 2576; omega)]
  by_cases h : 48 ≤ r.val % 2112
  · rw [padded_of_le _ r _ h, padded_of_le _ r _ h, padded_of_le _ r _ h]; rfl
  · simp only [padded_of_lt _ r _ (show r.val % 2112 < 48 by omega), zero_mul]

/-! ## The blocks -/

theorem idx : ∀ t : Fin cfg0.N, win0_0.index t = ![t.val, 0] ∧ win0_1.index t = ![6 * t.val - 1, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ (grid0.coords t 1).val = t.val % 11 :=
  (by decide +kernel : ∀ t : Fin grid0.N, win0_0.index t = ![t.val, 0] ∧ win0_1.index t = ![6 * t.val - 1, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ (grid0.coords t 1).val = t.val % 11)

/-- Row `r` of block `t`. -/
abbrev row (t : Fin cfg0.N) (r : Fin 192) : Fin 4224 := ⟨192 * t.val + r.val, by have h : t.val < 22 := t.isLt; omega⟩
/-- Row `r` of the rows before block `t`. -/
abbrev prev (t : Fin cfg0.N) (r : Fin 32) : Fin 4224 := ⟨32 * (6 * t.val - 1) + r.val, by have h : t.val < 22 := t.isLt; omega⟩

theorem read0 (A : FVec Ideal S4224x2688 .f32) (t : Fin cfg0.N) (y : ((cfg0.win 0).xblock (cfg0.grid.coords t)).Idx)
    (r : Fin 192) (l : Fin 1024) (h0 : (y 0).val = r.val) (h1 : (y 1).val = l.val) :
    View.read (Elt Ideal) ((cfg0.win 0).blk t).view A y = A (ix2 (row t r) ⟨l.val, by omega⟩) := by
  rw [View.read_apply]
  refine congrArg A (funext fun x => Fin.ext ?_)
  have hx (a) : (((cfg0.win 0).blk t).view.emb y a : ℕ) = win0_0.index t a * win0_0.size a + y a := win0_0.rect_emb_val t y a
  match x with
  | ⟨0, _⟩ => exact (hx 0).trans (by rw [(idx t).1]; show t.val * 192 + (y 0).val = 192 * t.val + r.val; omega)
  | ⟨1, _⟩ => exact (hx 1).trans (by rw [(idx t).1]; show 0 * 1024 + (y 1).val = l.val; omega)

theorem blk0 (t : Fin cfg0.N) (r : Fin 192) (l : Fin 1024) :
    (X0_0 m c t : FVec Ideal S192x1024 .f32) (ix2 r l) = up m c (ix2 (row t r) ⟨l.val, by omega⟩) := by
  unfold X0_0 Pipeline.Window.fill
  rw [dif_pos (moved0_0 t _)]
  unfold iblk up
  exact read0 (V m c main_v2) t _ r l rfl rfl

theorem read1 (A : FVec Ideal S4224x2688 .f32) (t : Fin cfg0.N) (y : ((cfg0.win 1).xblock (cfg0.grid.coords t)).Idx)
    (r : Fin 32) (l : Fin 1024) (h0 : (y 0).val = r.val) (h1 : (y 1).val = l.val) :
    View.read (Elt Ideal) ((cfg0.win 1).blk t).view A y = A (ix2 (prev t r) ⟨l.val, by omega⟩) := by
  rw [View.read_apply]
  refine congrArg A (funext fun x => Fin.ext ?_)
  have hx (a) : (((cfg0.win 1).blk t).view.emb y a : ℕ) = win0_1.index t a * win0_1.size a + y a := win0_1.rect_emb_val t y a
  match x with
  | ⟨0, _⟩ => exact (hx 0).trans (by rw [(idx t).2.1]; show (6 * t.val - 1) * 32 + (y 0).val = 32 * (6 * t.val - 1) + r.val; omega)
  | ⟨1, _⟩ => exact (hx 1).trans (by rw [(idx t).2.1]; show 0 * 1024 + (y 1).val = l.val; omega)

theorem blk1 (t : Fin cfg0.N) (r : Fin 32) (l : Fin 1024) :
    (X0_1 m c t : FVec Ideal S32x1024 .f32) (ix2 r l) = up m c (ix2 (prev t r) ⟨l.val, by omega⟩) := by
  unfold X0_1 Pipeline.Window.fill
  rw [dif_pos (moved0_1 t _)]
  unfold iblk up
  exact read1 (V m c main_v2) t _ r l rfl rfl

theorem blk2 (t : Fin cfg0.N) (x : Fin 32) (k : Fin 512) : (iblk m c 2 t : FVec Ideal S32x512 .f32) (ix2 x k) = wp m c (ix2 x k) := by
  blk_point [iblk, wp, idx t]

theorem blk3 (t : Fin cfg0.N) : (iblk m c 3 t : FVec Ideal S1x512 .f32) = m (c.tc.loc main_arg2) := by
  have h : (iblk m c 3 t : FVec Ideal S1x512 .f32) = (V m c main_arg2 : FVec Ideal S1x512 .f32) := by
    funext i
    idx_vars i
    blk_point [iblk, idx t]
  rw [h, V_main_arg2]

theorem blk4 (t : Fin cfg0.N) : (iblk m c 4 t : FVec Ideal S1x512 .f32) = m (c.tc.loc main_arg3) := by
  have h : (iblk m c 4 t : FVec Ideal S1x512 .f32) = (V m c main_arg3 : FVec Ideal S1x512 .f32) := by
    funext i
    idx_vars i
    blk_point [iblk, idx t]
  rw [h, V_main_arg3]

theorem blk5 (t : Fin cfg0.N) : (iblk m c 5 t : FVec Ideal S1x512 .f32) = m (c.tc.loc main_arg4) := by
  have h : (iblk m c 5 t : FVec Ideal S1x512 .f32) = (V m c main_arg4 : FVec Ideal S1x512 .f32) := by
    funext i
    idx_vars i
    blk_point [iblk, idx t]
  rw [h, V_main_arg4]

/-! ## The gated rows of a block -/

theorem own (x : FVec Ideal S192x1024 .f32) (r : Fin 192) (k : Fin 512) :
    k0_pay2 x (ix2 r k) = x (ix2 r ⟨k.val, by omega⟩) * logi (x (ix2 r ⟨512 + k.val, by omega⟩)) := by
  pointwise [k0_pay2]
  simp only [zero_sub]

theorem after_first {i : ℕ} (h0 : 0 < i) (hi : i < 11) {x y : EReal} :
    Scalar.select (Scalar.cmpi .sgt (BitVec.ofNat 32 i) 0#32) x y = x := by
  have e : Scalar.cmpi .sgt (BitVec.ofNat 32 i) 0#32 = 1#1 := by
    obtain ⟨i, rfl⟩ : ∃ i' : Fin 11, i = i'.val := ⟨⟨i, hi⟩, rfl⟩
    clear hi
    revert i; decide +kernel
  rw [e]; rfl

theorem before (t : Fin cfg0.N) (x : FVec Ideal S32x1024 .f32) (r : Fin 32) (k : Fin 512) (h : 0 < (grid0.coords t 1).val) :
    k0_pay3 (grid0.coords t) x (ix2 r k) = x (ix2 r ⟨k.val, by omega⟩) * logi (x (ix2 r ⟨512 + k.val, by omega⟩)) := by
  pointwise [k0_pay3]
  simp only [zero_sub]
  rw [after_first h (grid0.coords t 1).isLt]

/-- The two stores fill the rows. -/
theorem covers (v : FVec Ideal S32x512 .f32) (w : FVec Ideal S192x512 .f32) (q : Fin 224) (k : Fin 512) :
    ∃ p ∈ ([⟨Rect.unit ![0, 0] ![32, 512] inb_S224x512_S32x512_0_0, v⟩, ⟨Rect.unit ![32, 0] ![192, 512] inb_S224x512_S192x512_32_0, w⟩] :
      List (View.Piece (Elt Ideal) S224x512 .f32)), (ix2 q k : S224x512.Idx) ∈ p.1.set := by
  by_cases h : q.val < 32
  · refine ⟨_, List.mem_cons_self .., (Rect.mem_set_unit (inb := inb_S224x512_S32x512_0_0)).mpr fun a => ?_⟩
    match a with
    | ⟨0, _⟩ => exact ⟨Nat.zero_le _, by show q.val < 0 + 32; omega⟩
    | ⟨1, _⟩ => exact ⟨Nat.zero_le _, by show k.val < 0 + 512; omega⟩
  · refine ⟨_, List.mem_cons_of_mem _ (List.mem_cons_self ..), (Rect.mem_set_unit (inb := inb_S224x512_S192x512_32_0)).mpr fun a => ?_⟩
    match a with
    | ⟨0, _⟩ => exact ⟨by show 32 ≤ q.val; omega, by show q.val < 32 + 192; omega⟩
    | ⟨1, _⟩ => exact ⟨Nat.zero_le _, by show k.val < 0 + 512; omega⟩

theorem lane_eq (t : Fin cfg0.N) (n : ℕ) (k : Fin 512) (hn : n < 224) (h : 32 ≤ n ∨ 0 < (grid0.coords t 1).val) (r : Fin 4224)
    (hr : r.val + 32 = 192 * t.val + n) : lane (rowsAt m c t) n k = G m c r k := by
  unfold lane rowsAt G
  obtain ⟨q, hq⟩ : ∃ q : Fin 224, q.val = n := ⟨⟨n, hn⟩, rfl⟩
  rw [show (⟨n % 224, Nat.mod_lt _ (by decide)⟩ : Fin 224) = q from Fin.ext (by rw [hq]; exact Nat.mod_eq_of_lt hn)]
  have ht : t.val % 11 = (grid0.coords t 1).val := (idx t).2.2.2.2.2.2.2.2.symm
  canon_tiles x h using (covers _ _ q k)
  all_goals
    obtain ⟨p, j, rfl⟩ : ∃ p j, x = ix2 p j := ⟨x 0, x 1, by funext i; match i with | ⟨0, _⟩ => rfl | ⟨1, _⟩ => rfl⟩
    have h0' : q.val = _ := h0
    rw [show (ix2 p j 0).val = p.val from rfl] at h0'
    obtain rfl : k = j := Fin.ext h1
  · rw [before t _ _ _ (by have := p.isLt; omega), blk1, blk1, show prev t p = r from Fin.ext (by show 32 * (6 * t.val - 1) + p.val = r.val; omega)]
  · rw [own, blk0, blk0, show row t p = r from Fin.ext (by show 192 * t.val + p.val = r.val; omega)]

end Cert.ConvFwdIdeal.Value
end
-- ==== Proof.ConvFwdValue.lean ====
module

public import Idealize.ShloMosaic.Lib.Pointwise
public import Idealize.ShloMosaic.Lib.Claim
public import Idealize.ShloMosaic.Lib.KernelVsHost
public import Idealize.ShloMosaic.Lib.Pipeline.ValueKit
public import proofs.«01_k».proof.Proof.ConvFwdSum
public import proofs.«01_k».proof.Proof.ConvFwdNorm
public import proofs.«01_k».proof.Proof.ConvFwdHost

/-!
What the convolution branch's call leaves in its two result arrays, the rows of zeros cut off: the convolved rows and the normalised
rows behind their gate.
-/

@[expose] public section

set_option maxRecDepth 16384

noncomputable section

open Idealize.ShloMosaic Idealize.ShloMosaic.TcCoe Idealize.SL.Sem
open Idealize.ShloMosaic.Pipeline (Dat)
open PaddedRows RmsGrad Swiglu LayerNorm

namespace Cert.ConvFwdIdeal.Value
open Cert.ConvFwdIdeal Cert.ConvFwdIdeal.Gen
variable (m : (ℓ : Loc nD τ sig) → Buf (Elt Ideal) ℓ) (c : Dev nD)

/-- The block of a row. -/
abbrev blockOf (r : Fin 4224) : Fin cfg0.N := ⟨r.val / 192, by have h : r.val / 192 < 22 := by omega
                                                               exact h⟩
/-- Its place in the block. -/
abbrev placeOf (r : Fin 4224) : Fin 192 := ⟨r.val % 192, by omega⟩

theorem final6 (r : Fin 4224) (k : Fin 512) : ((dats m 0 c).arrAt 6 cfg0.N : FVec Ideal S4224x512 .f32) (ix2 r k)
    = (outsAt0 m c (blockOf r)).1 (ix2 (placeOf r) k) := by
  have key : ((dats m 0 c).arrAt 6 cfg0.N : FVec Ideal S4224x512 .f32)
      = fun i => (outsAt0 m c (blockOf (i 0))).1 (ix2 (placeOf (i 0)) (i 1)) := by
    refine (dats m 0 c).arrAt_eq_of_covers 6 _ (by decide +kernel) fun t hf y => ?_
    blk_simp
    rw [after0_6]
    idx_vars y
    have e : ((View.whole main_v5_0).slice (win0_6.rect t)).emb (ix2 y0 y1) = ix2 (row t y0) y1 := by
      blk_ext [idx t]
    rw [e]
    have hy : y0.val < 192 := y0.isLt
    show _ = (outsAt0 m c (blockOf (row t y0))).1 (ix2 (placeOf (row t y0)) y1)
    rw [show blockOf (row t y0) = t from Fin.ext (by show (192 * t.val + y0.val) / 192 = t.val; omega),
      show placeOf (row t y0) = y0 from Fin.ext (by show (192 * t.val + y0.val) % 192 = y0.val; omega)]
  rw [key]; rfl

theorem final7 (r : Fin 4224) (k : Fin 512) : ((dats m 0 c).arrAt 7 cfg0.N : FVec Ideal S4224x512 .bf16) (ix2 r k)
    = (outsAt0 m c (blockOf r)).2 (ix2 (placeOf r) k) := by
  have key : ((dats m 0 c).arrAt 7 cfg0.N : FVec Ideal S4224x512 .bf16)
      = fun i => (outsAt0 m c (blockOf (i 0))).2 (ix2 (placeOf (i 0)) (i 1)) := by
    refine (dats m 0 c).arrAt_eq_of_covers 7 _ (by decide +kernel) fun t hf y => ?_
    blk_simp
    rw [after0_7]
    idx_vars y
    have e : ((View.whole main_v5_1).slice (win0_7.rect t)).emb (ix2 y0 y1) = ix2 (row t y0) y1 := by
      blk_ext [idx t]
    rw [e]
    have hy : y0.val < 192 := y0.isLt
    show _ = (outsAt0 m c (blockOf (row t y0))).2 (ix2 (placeOf (row t y0)) y1)
    rw [show blockOf (row t y0) = t from Fin.ext (by show (192 * t.val + y0.val) / 192 = t.val; omega),
      show placeOf (row t y0) = y0 from Fin.ext (by show (192 * t.val + y0.val) % 192 = y0.val; omega)]
  rw [key]; rfl

/-! ## The rows of zeros cut off -/

theorem tail_yc : Pipeline.afterTail₀ cfgs (dats m) 0 (V0 m) [hostOps1] c main_v7
    = extractStridedSlice S2x2064x512 ![0, 48, 0] (shapeCast S2x2112x512 ((dats m 0 c).arrAt 6 cfg0.N : FVec Ideal S4224x512 .f32)
      shapeCasts_S4224x512_S2x2112x512) slices_S2x2112x512_S2x2064x512_0_48_0 := by
  have h := (dats m 0 c).withArrays_arrAt sharedIn0 (V0 m c) (A_eq m c) 6
  rw [← h]
  unfold Pipeline.afterTail₀
  simp only [List.flatten_cons, List.flatten_nil, List.append_nil]
  after_results
  rfl

theorem tail_y : Pipeline.afterTail₀ cfgs (dats m) 0 (V0 m) [hostOps1] c main_v9
    = extractStridedSlice S2x2064x512 ![0, 48, 0] (shapeCast S2x2112x512 ((dats m 0 c).arrAt 7 cfg0.N : FVec Ideal S4224x512 .bf16)
      shapeCasts_S4224x512_S2x2112x512) slices_S2x2112x512_S2x2064x512_0_48_0 := by
  have h := (dats m 0 c).withArrays_arrAt sharedIn0 (V0 m c) (A_eq m c) 7
  rw [← h]
  unfold Pipeline.afterTail₀
  simp only [List.flatten_cons, List.flatten_nil, List.append_nil]
  after_results
  rfl

theorem cut {φ : FTy} (x : FVec Ideal S4224x512 φ) (b : Fin 2) (s : Fin 2064) (k : Fin 512) :
    extractStridedSlice S2x2064x512 ![0, 48, 0] (shapeCast S2x2112x512 x shapeCasts_S4224x512_S2x2112x512)
      slices_S2x2112x512_S2x2064x512_0_48_0 (ix3 b s k) = x (ix2 ⟨b.val * 2112 + (48 + s.val), by omega⟩ k) := by
  pointwise

/-! ## The convolution of a block is the convolution of the example -/

theorem acc_eq (b : EReal) (f : ℕ → EReal) (n : ℕ) : acc b f n = b + ∑ i : Fin n, f i.val := by
  induction n with
  | zero => rw [Finset.univ_eq_empty, Finset.sum_empty, add_zero]; rfl
  | succ n ih => rw [Fin.sum_univ_castSucc, ← add_assoc]; exact congrArg (· + f n) ih

/-- The gated rows behind thirty rows of zeros. -/
def led (b : Fin 2) (n : ℕ) (k : Fin 512) : EReal := if h : 30 ≤ n ∧ n - 30 < 2064 then gated m c b ⟨n - 30, h.2⟩ k else 0

/-- A row of the convolution. -/
def yc (b : Fin 2) (s : Fin 2064) (k : Fin 512) : EReal :=
  (∑ t : Fin 31, led m c b (s.val + t.val) k * taps m c t k) + (m (c.tc.loc main_arg2) : FVec Ideal S1x512 .f32) (ix2 0 k)

theorem conv_eq (b : Fin 2) (s : Fin 2064) (k : Fin 512) (r : Fin 4224) (hr : r.val = b.val * 2112 + (48 + s.val)) :
    conv (iblk m c 2 (blockOf r)) (iblk m c 3 (blockOf r)) (rowsAt m c (blockOf r)) (placeOf r).val k = yc m c b s k := by
  unfold conv yc
  rw [acc_eq, blk3, add_comm]
  refine congrArg (· + _) (Finset.sum_congr rfl fun t _ => ?_)
  have hi : (grid0.coords (blockOf r) 1).val = (r.val / 192) % 11 := (idx (blockOf r)).2.2.2.2.2.2.2.2
  have hs := s.isLt
  have ht := t.isLt
  have hb := b.isLt
  unfold tap
  rw [blk2, wp_apply m c _ k (by show t.val % 32 < 31; omega),
    lane_eq m c (blockOf r) ((placeOf r).val + t.val + 2) k (by show r.val % 192 + t.val + 2 < 224; omega)
      (by rw [hi]; show 32 ≤ r.val % 192 + t.val + 2 ∨ _; omega) ⟨2112 * b.val + (18 + s.val + t.val), by omega⟩
      (by show 2112 * b.val + (18 + s.val + t.val) + 32 = 192 * (r.val / 192) + (r.val % 192 + t.val + 2); omega), G_eq, mul_comm]
  refine congrArg₂ (· * ·) ?_ (congrArg (taps m c · k) (Fin.ext (by show t.val % 32 = t.val; omega)))
  unfold led
  by_cases h : 30 ≤ s.val + t.val
  · rw [dif_pos ⟨h, by omega⟩, padded_of_le _ _ _ (by show 48 ≤ (2112 * b.val + (18 + s.val + t.val)) % 2112; omega)]
    refine congrArg₂ (gated m c · · k) (Fin.ext ?_) (Fin.ext ?_)
    · show (2112 * b.val + (18 + s.val + t.val)) / 2112 = b.val; omega
    · show (2112 * b.val + (18 + s.val + t.val)) % 2112 - 48 = s.val + t.val - 30; omega
  · rw [dif_neg (by omega), padded_of_lt _ _ _ (by show (2112 * b.val + (18 + s.val + t.val)) % 2112 < 48; omega)]

/-! ## The results -/

theorem yc_apply (b : Fin 2) (s : Fin 2064) (k : Fin 512) :
    (Pipeline.afterTail₀ cfgs (dats m) 0 (V0 m) [hostOps1] c main_v7 : FVec Ideal S2x2064x512 .f32) (ix3 b s k) = yc m c b s k := by
  rw [tail_yc, cut (φ := .f32), final6]
  exact (yc_block m c _ _ _).trans (conv_eq m c b s k _ rfl)

theorem y_apply (b : Fin 2) (s : Fin 2064) (k : Fin 512) :
    (Pipeline.afterTail₀ cfgs (dats m) 0 (V0 m) [hostOps1] c main_v9 : FVec Ideal S2x2064x512 .bf16) (ix3 b s k)
      = out (m (c.tc.loc main_arg3)) (m (c.tc.loc main_arg4)) (yc m c b s) k
        * logi (out (m (c.tc.loc main_arg3)) (m (c.tc.loc main_arg4)) (yc m c b s) k) := by
  rw [tail_y, cut (φ := .bf16), final7]
  have hb := b.isLt
  have hi := (idx (blockOf ⟨b.val * 2112 + (48 + s.val), by omega⟩)).2.2.2.2.2.2.2.2
  refine (y_block m c _ _ _ ?_).trans ?_
  · rw [hi]
    show 48 ≤ 192 * ((b.val * 2112 + (48 + s.val)) / 192 % 11) + (b.val * 2112 + (48 + s.val)) % 192
    omega
  rw [blk4, blk5, show conv _ _ _ _ = yc m c b s from funext fun k => conv_eq m c b s k _ rfl]

end Cert.ConvFwdIdeal.Value
end
-- ==== Proof.ConvFwdRead.lean ====
module

public import Idealize.ShloMosaic.Lib.Pointwise
public import Idealize.ShloMosaic.Lib.KernelVsHost
public import Idealize.ShloMosaic.Lib.IdealHost
public import proofs.«01_k».proof.Proof.Gen.ConvFwdRefIdeal.Read
public import proofs.«01_k».proof.Proof.PaddedRows
public import proofs.«01_k».proof.Proof.Swiglu
public import proofs.«01_k».proof.Proof.LayerNorm

/-!
What the reference of the convolution branch computes: the gated rows, their convolution over 31 rows, and the normalised rows
behind their gate.
-/

@[expose] public section

set_option maxRecDepth 16384

noncomputable section

open Idealize.ShloMosaic Idealize.ShloMosaic.TcCoe Idealize.SL.Sem
open Idealize.ShloMosaic.Pipeline (Dat)
open PaddedRows RmsGrad Swiglu LayerNorm

namespace Cert.ConvFwdRefIdeal.Read
open Cert.ConvFwdRefIdeal Cert.ConvFwdRefIdeal.Gen

variable (x0 : FVec Ideal S2x2064x2576 .f32) (x1 : FVec Ideal S1x31x512 .f32) (x2 x3 x4 : FVec Ideal S1x512 .f32)

/-- A gated row. -/
def gated (b : Fin 2) (s : Fin 2064) (k : Fin 512) : EReal :=
  x0 (ix3 b s ⟨k.val, by omega⟩) * logi (x0 (ix3 b s ⟨512 + k.val, by omega⟩))

theorem gates (b : Fin 2) (s : Fin 2064) (k : Fin 512) : val_main_v8 (F := Ideal) x0 (ix3 b s k) = gated x0 b s k := by
  unfold gated
  pointwise [val_main_v8, val_main_v7, val_main_v6, val_main_v5, val_main_v4, val_main_v3, val_main_v2, val_main_v1, val_main_v0,
    val_main_cst, val_main_cst_0]

/-- The gated rows behind thirty rows of zeros. -/
def led (b : Fin 2) (n : ℕ) (k : Fin 512) : EReal := if h : 30 ≤ n ∧ n - 30 < 2064 then gated x0 b ⟨n - 30, h.2⟩ k else 0

theorem leds (b : Fin 2) (n : Fin 2094) (k : Fin 512) : val_main_v11 (F := Ideal) x0 (ix3 b n k) = led x0 b n.val k := by
  unfold led
  pointwise [val_main_v11, val_main_v10, val_main_cst_1]
  simp only [gates]
  by_cases h : n.val < 30
  · rw [dif_pos h, dif_neg (by omega)]
  · rw [dif_neg h, dif_pos ⟨by omega, by omega⟩]

set_option maxHeartbeats 4000000 in
theorem stack (t : Fin 31) (b : Fin 2) (s : Fin 2064) (k : Fin 512) :
    val_main_v76 (F := Ideal) x0 (ix4 t b s k) = val_main_v11 (F := Ideal) x0 (ix3 b ⟨s.val + t.val, by omega⟩ k) := by
  fin_cases t
  all_goals
    pointwise [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12]
  all_goals exact congrArg (fun n => val_main_v11 (F := Ideal) x0 (ix3 b n k)) (Fin.ext (by dsimp only; omega))

/-- A row of the convolution. -/
def conv (b : Fin 2) (s : Fin 2064) (k : Fin 512) : EReal :=
  (∑ t : Fin 31, led x0 b (s.val + t.val) k * x1 (ix3 0 t k)) + x2 (ix2 0 k)

theorem convs (b : Fin 2) (s : Fin 2064) (k : Fin 512) : val_main_v84 (F := Ideal) x0 x1 x2 (ix3 b s k) = conv x0 x1 x2 b s k := by
  have e (t : Fin 31) : val_main_v79 (F := Ideal) x0 x1 (ix4 t b s k) = led x0 b (s.val + t.val) k * x1 (ix3 0 t k) := by
    rw [← leds x0 b ⟨s.val + t.val, by omega⟩ k, ← stack]
    pointwise [val_main_v79, val_main_v78, val_main_v77, val_main_v9]
  have h : val_main_v80 (F := Ideal) x0 x1 (ix3 b s k) = ∑ t : Fin 31, led x0 b (s.val + t.val) k * x1 (ix3 0 t k) := by
    rw [val_main_v80_apply]
    refine (congrArg (· + _) Ideal.ofBits_zero_f32).trans ((zero_add _).trans (Finset.sum_congr rfl fun t _ => ?_))
    rw [← e]
    refine congrArg _ (funext fun a => Fin.ext ?_)
    match a with | ⟨0, _⟩ => rfl | ⟨1, _⟩ => rfl | ⟨2, _⟩ => rfl | ⟨3, _⟩ => rfl
  unfold conv
  rw [← h]
  pointwise [val_main_v84, val_main_v83, val_main_v82, val_main_v81]

theorem centred (b : Fin 2) (s : Fin 2064) (j : Fin 512) :
    val_main_v97 (F := Ideal) x0 x1 x2 (ix3 b s j) = cen (conv x0 x1 x2 b s) j := by
  pointwise [val_main_v97, val_main_v96, val_main_v88, val_main_v87, val_main_v86, val_main_v85, val_main_cst_3,
    val_main_cst_4]
  simp only [convs]

theorem centred' (b : Fin 2) (s : Fin 2064) (j : Fin 512) :
    val_main_v90 (F := Ideal) x0 x1 x2 (ix3 b s j) = cen (conv x0 x1 x2 b s) j := by
  pointwise [val_main_v90, val_main_v89, val_main_v88, val_main_v87, val_main_v86, val_main_v85, val_main_cst_3,
    val_main_cst_4]
  simp only [convs]

theorem variance (b : Fin 2) (s : Fin 2064) :
    val_main_v99 (F := Ideal) x0 x1 x2 (ix3 b s 0) = var (conv x0 x1 x2 b s) := by
  pointwise [val_main_v99, val_main_v98, val_main_v95, val_main_v94, val_main_v93, val_main_v92, val_main_v91,
    val_main_cst_5, val_main_cst_6, val_main_cst_7]
  simp only [centred']

theorem root (b : Fin 2) (s : Fin 2064) :
    val_main_v100 (F := Ideal) x0 x1 x2 (ix3 b s 0) = Ideal.rsqrt (var (conv x0 x1 x2 b s)) := by
  rw [← variance]; pointwise [val_main_v100]

/-- The normalised row with gain and bias. -/
abbrev out (x : Fin 512 → EReal) (j : Fin 512) : EReal :=
  cen x j * Ideal.rsqrt (var x) * x3 (ix2 0 j) + x4 (ix2 0 j)

theorem outs (b : Fin 2) (s : Fin 2064) (j : Fin 512) :
    val_main_v110 (F := Ideal) x0 x1 x2 x3 x4 (ix3 b s j) = out x3 x4 (conv x0 x1 x2 b s) j := by
  pointwise [val_main_v110, val_main_v109, val_main_v108, val_main_v107, val_main_v106, val_main_v105, val_main_v104,
    val_main_v103, val_main_v102, val_main_v101]
  rw [centred, root]

theorem rows (b : Fin 2) (s : Fin 2064) (j : Fin 512) :
    val_main_v112 (F := Ideal) x0 x1 x2 x3 x4 (ix3 b s j)
      = out x3 x4 (conv x0 x1 x2 b s) j * logi (out x3 x4 (conv x0 x1 x2 b s) j) := by
  rw [← outs]
  pointwise [val_main_v112, val_main_v111, val_main_call0_v0, val_main_call0_v1, val_main_call0_v2, val_main_call0_v3,
    val_main_call0_v4, val_main_call0_v5, val_main_call0_cst, val_main_call0_cst_0]

end Cert.ConvFwdRefIdeal.Read
end
-- ==== Proof.ConvFwdEq.lean ====
module

public import Idealize.ShloMosaic.Lib.Pointwise
public import Idealize.ShloMosaic.Lib.KernelVsHost
public import proofs.«01_k».proof.Defs
public import proofs.«01_k».proof.Proof.ConvFwdValue
public import proofs.«01_k».proof.Proof.ConvFwdRead

/-!
The call of the convolution branch and its reference leave the same arrays.
-/

@[expose] public section

set_option maxRecDepth 16384

noncomputable section

open Idealize.ShloMosaic Idealize.ShloMosaic.TcCoe Idealize.SL.Sem
open Idealize.ShloMosaic.Pipeline (Dat)
open PaddedRows RmsGrad Swiglu LayerNorm

namespace Cert.ConvFwdIdeal.Value
open Cert.ConvFwdIdeal Cert.ConvFwdIdeal.Gen
variable (m : (ℓ : Loc nD τ sig) → Buf (Elt Ideal) ℓ) (c : Dev nD)

theorem conv_same (b : Fin 2) (s : Fin 2064) (k : Fin 512) :
    Cert.ConvFwdRefIdeal.Read.conv (m (c.tc.loc main_arg0)) (m (c.tc.loc main_arg1)) (m (c.tc.loc main_arg2)) b s k = yc m c b s k := rfl

theorem yc_eq : Pipeline.afterTail₀ cfgs (dats m) 0 (V0 m) [hostOps1] c main_v7
    = Cert.ConvFwdRefIdeal.Read.val_main_v84 (F := Ideal) (m (c.tc.loc main_arg0)) (m (c.tc.loc main_arg1)) (m (c.tc.loc main_arg2)) := by
  funext i
  idx_vars i
  exact (yc_apply m c i0 i1 i2).trans (Cert.ConvFwdRefIdeal.Read.convs _ _ _ i0 i1 i2).symm

theorem y_eq : Pipeline.afterTail₀ cfgs (dats m) 0 (V0 m) [hostOps1] c main_v9
    = Cert.ConvFwdRefIdeal.Read.val_main_v112 (F := Ideal) (m (c.tc.loc main_arg0)) (m (c.tc.loc main_arg1)) (m (c.tc.loc main_arg2))
        (m (c.tc.loc main_arg3)) (m (c.tc.loc main_arg4)) := by
  funext i
  idx_vars i
  exact (y_apply m c i0 i1 i2).trans (Cert.ConvFwdRefIdeal.Read.rows _ _ _ _ _ i0 i1 i2).symm

end Cert.ConvFwdIdeal.Value
end
-- ==== Proof.lean ====
module

public import proofs.«01_k».proof.Proof.Gen.InProjBwdIdeal.Value
public import proofs.«01_k».proof.Proof.Gen.InProjRefIdeal.Run
public import proofs.«01_k».proof.Proof.Gen.InProjRefIdeal.Read
public import proofs.«01_k».proof.Proof.Gen.FfnBwdIdeal.Value
public import proofs.«01_k».proof.Proof.Gen.FfnRefIdeal.Run
public import proofs.«01_k».proof.Proof.Gen.FfnRefIdeal.Read
public import proofs.«01_k».proof.Proof.Gen.DownLossIdeal.Value
public import proofs.«01_k».proof.Proof.Gen.DownLossRefIdeal.Run
public import proofs.«01_k».proof.Proof.Gen.DownLossRefIdeal.Read
public import proofs.«01_k».proof.Proof.Gen.GlaFwdIdeal.Value
public import proofs.«01_k».proof.Proof.Gen.GlaFwdRefIdeal.Run
public import proofs.«01_k».proof.Proof.Gen.ConvBwdRefIdeal.Run
public import proofs.«01_k».proof.Proof.Gen.ConvBwdRefIdeal.Read
public import proofs.«01_k».proof.Proof.Gen.MixUpRefIdeal.Run
public import proofs.«01_k».proof.Proof.Gen.MixUpRefIdeal.Read
public import proofs.«01_k».proof.Proof.Gen.InProjFwdRefIdeal.Run
public import proofs.«01_k».proof.Proof.Gen.InProjFwdRefIdeal.Read
public import proofs.«01_k».proof.Proof.Gen.ConvFwdRefIdeal.Run
public import proofs.«01_k».proof.Proof.Gen.ConvFwdRefIdeal.Read
public import proofs.«01_k».proof.Proof.InProjEq
public import proofs.«01_k».proof.Proof.FfnEq
public import proofs.«01_k».proof.Proof.DownLossEq
public import proofs.«01_k».proof.Proof.GlaFwdEq
public import proofs.«01_k».proof.Proof.GlaFwdRun
public import proofs.«01_k».proof.Proof.ConvEq
public import proofs.«01_k».proof.Proof.MixUpEq
public import proofs.«01_k».proof.Proof.InFwdEq
public import proofs.«01_k».proof.Proof.ConvFwdEq
public import proofs.«01_k».proof.Defs
public import proofs.«01_k».proof.Proof.Gen.InProjBwd
public import proofs.«01_k».proof.Proof.Gen.InProjBwd.Skeleton
public import proofs.«01_k».proof.Proof.Gen.InProjBwd.Launch
public import proofs.«01_k».proof.Proof.Gen.InProjBwd.Points
public import proofs.«01_k».proof.Proof.Gen.InProjBwd.Frame
public import proofs.«01_k».proof.Proof.Gen.InProjBwdIdeal
public import proofs.«01_k».proof.Proof.Gen.InProjBwdIdeal.Skeleton
public import proofs.«01_k».proof.Proof.Gen.InProjBwdIdeal.Launch
public import proofs.«01_k».proof.Proof.Gen.InProjBwdIdeal.Points
public import proofs.«01_k».proof.Proof.Gen.InProjBwdIdeal.Frame
public import proofs.«01_k».proof.Proof.Gen.InProjRefIdeal
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnRefIdeal
public import proofs.«01_k».proof.Proof.Gen.DownLoss
public import proofs.«01_k».proof.Proof.Gen.DownLoss.Skeleton
public import proofs.«01_k».proof.Proof.Gen.DownLoss.Launch
public import proofs.«01_k».proof.Proof.Gen.DownLoss.Points
public import proofs.«01_k».proof.Proof.Gen.DownLoss.Frame
public import proofs.«01_k».proof.Proof.Gen.DownLossIdeal
public import proofs.«01_k».proof.Proof.Gen.DownLossIdeal.Skeleton
public import proofs.«01_k».proof.Proof.Gen.DownLossIdeal.Launch
public import proofs.«01_k».proof.Proof.Gen.DownLossIdeal.Points
public import proofs.«01_k».proof.Proof.Gen.DownLossIdeal.Frame
public import proofs.«01_k».proof.Proof.Gen.DownLossRefIdeal
public import proofs.«01_k».proof.Proof.Gen.GlaFwd
public import proofs.«01_k».proof.Proof.Gen.GlaFwd.Skeleton
public import proofs.«01_k».proof.Proof.Gen.GlaFwd.Launch
public import proofs.«01_k».proof.Proof.Gen.GlaFwd.Points
public import proofs.«01_k».proof.Proof.Gen.GlaFwd.Frame
public import proofs.«01_k».proof.Proof.Gen.GlaFwdIdeal
public import proofs.«01_k».proof.Proof.Gen.GlaFwdIdeal.Skeleton
public import proofs.«01_k».proof.Proof.Gen.GlaFwdIdeal.Launch
public import proofs.«01_k».proof.Proof.Gen.GlaFwdIdeal.Points
public import proofs.«01_k».proof.Proof.Gen.GlaFwdIdeal.Frame
public import proofs.«01_k».proof.Proof.Gen.GlaFwdRefIdeal
public import proofs.«01_k».proof.Proof.Gen.GlaBwd
public import proofs.«01_k».proof.Proof.Gen.GlaBwd.Skeleton
public import proofs.«01_k».proof.Proof.Gen.GlaBwd.Launch
public import proofs.«01_k».proof.Proof.Gen.GlaBwd.Points
public import proofs.«01_k».proof.Proof.Gen.GlaBwd.Frame
public import proofs.«01_k».proof.Proof.Gen.GlaBwdIdeal
public import proofs.«01_k».proof.Proof.Gen.GlaBwdIdeal.Skeleton
public import proofs.«01_k».proof.Proof.Gen.GlaBwdIdeal.Launch
public import proofs.«01_k».proof.Proof.Gen.GlaBwdIdeal.Points
public import proofs.«01_k».proof.Proof.Gen.GlaBwdIdeal.Frame
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdRefIdeal
public import proofs.«01_k».proof.Proof.Gen.MixUp
public import proofs.«01_k».proof.Proof.Gen.MixUp.Skeleton
public import proofs.«01_k».proof.Proof.Gen.MixUp.Launch
public import proofs.«01_k».proof.Proof.Gen.MixUp.Points
public import proofs.«01_k».proof.Proof.Gen.MixUp.Frame
public import proofs.«01_k».proof.Proof.Gen.MixUpIdeal
public import proofs.«01_k».proof.Proof.Gen.MixUpIdeal.Skeleton
public import proofs.«01_k».proof.Proof.Gen.MixUpIdeal.Launch
public import proofs.«01_k».proof.Proof.Gen.MixUpIdeal.Points
public import proofs.«01_k».proof.Proof.Gen.MixUpIdeal.Frame
public import proofs.«01_k».proof.Proof.Gen.MixUpRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjFwdRefIdeal
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdRefIdeal
public import proofs.«01_k».proof.Proof.Gen.Pre_in_proj_finite
public import proofs.«01_k».proof.Proof.Gen.Pre_ffn_finite
public import proofs.«01_k».proof.Proof.Gen.Pre_ffn_down_loss_finite
public import proofs.«01_k».proof.Proof.Gen.Pre_gla_fwd_finite
public import proofs.«01_k».proof.Proof.Gen.Pre_conv_bwd_finite
public import Idealize.ShloMosaic.Adequacy
public import Idealize.ShloMosaic.Init

@[expose] public section

noncomputable section

namespace Cert.Proof

open Idealize.ShloMosaic Idealize.SL.Sem Cert.InProjBwd

theorem in_proj_reference : quiescent_InProjRefIdeal := fun m g _ =>
  (θ_run Cert.InProjRefIdeal.defs _ _).mono (fun r h => ⟨fun c => (h c).2.2, sem_eq_zero_of_no_sems (by decide) r.2⟩)
    (Cert.InProjRefIdeal.Value.run (F := Ideal) m g)

theorem in_proj : algebraic_InProjBwdIdeal_InProjRefIdeal_pre_in_proj_finite := by
  pair_intro
  · run_from Cert.InProjBwdIdeal.Gen.run_main m g
    · exact Cert.InProjBwdIdeal.Gen.V_main_arg0 m c
    · exact Cert.InProjBwdIdeal.Gen.V_main_arg2 m c
    · exact Cert.InProjBwdIdeal.Gen.V_main_arg3 m c
    · exact Cert.InProjBwdIdeal.Gen.V_main_arg4 m c
  · run_from Cert.InProjRefIdeal.Value.run m' g'
    · obtain ⟨h0, h1, h2, h3, h4⟩ := hagree c
      rw [Cert.InProjBwdIdeal.Value.stream_eq m c hpre, Cert.InProjRefIdeal.Read.val_main_v43_eq, h0, h1, h2, h3, h4]
    · rw [Cert.InProjBwdIdeal.Value.gain_eq m c]
      exact Cert.InProjRefIdeal.Read.val_main_v41_eq _ _ _

theorem ffn_reference : quiescent_FfnRefIdeal := fun m g _ =>
  (θ_run Cert.FfnRefIdeal.defs _ _).mono (fun r h => ⟨fun c => (h c).2.2.2.2.2, sem_eq_zero_of_no_sems (by decide) r.2⟩)
    (Cert.FfnRefIdeal.Value.run (F := Ideal) m g)

set_option maxHeartbeats 4000000 in
theorem ffn : algebraic_FfnBwdIdeal_FfnRefIdeal_pre_ffn_finite := by
  pair_intro
  · run_from Cert.FfnBwdIdeal.Gen.run_main m g
    · exact Cert.FfnBwdIdeal.Gen.V_main_arg0 m c
    · exact Cert.FfnBwdIdeal.Gen.V_main_arg2 m c
    · exact Cert.FfnBwdIdeal.Gen.V_main_arg3 m c
    · exact Cert.FfnBwdIdeal.Gen.V_main_arg4 m c
    · exact Cert.FfnBwdIdeal.Gen.V_main_arg5 m c
    · exact Cert.FfnBwdIdeal.Gen.V_main_arg6 m c
  · run_from Cert.FfnRefIdeal.Value.run m' g'
    all_goals obtain ⟨h0, h1, h2, h3, h4, h5, h6⟩ := hagree c
    · rw [Cert.FfnBwdIdeal.Value.gate_eq m c hpre, Cert.FfnRefIdeal.Read.val_main_v62_eq, h0, h1, h2, h3, h4, h6]
    · rw [Cert.FfnBwdIdeal.Value.up_eq m c hpre, Cert.FfnRefIdeal.Read.val_main_v65_eq]
    · rw [Cert.FfnBwdIdeal.Value.stream_eq m c hpre, Cert.FfnRefIdeal.Read.val_main_v67_eq, h0, h1, h2, h3, h4, h6]
    · rw [Cert.FfnBwdIdeal.Value.mix_eq m c hpre, Cert.FfnRefIdeal.Read.val_main_v69_eq, h0, h1, h2, h3, h4, h5, h6]
    · rw [Cert.FfnBwdIdeal.Value.gain_eq m c hpre, Cert.FfnRefIdeal.Read.val_main_v55_eq, h0, h1, h2, h3, h4, h6]

theorem down_loss_reference : quiescent_DownLossRefIdeal := fun m g _ =>
  (θ_run Cert.DownLossRefIdeal.defs _ _).mono (fun r h => ⟨fun c => (h c).2.2.2, sem_eq_zero_of_no_sems (by decide) r.2⟩)
    (Cert.DownLossRefIdeal.Value.run (F := Ideal) m g)

theorem down_loss : algebraic_DownLossIdeal_DownLossRefIdeal_pre_ffn_down_loss_finite := by
  pair_intro
  · run_from Cert.DownLossIdeal.Gen.run_main m g
    · exact Cert.DownLossIdeal.Gen.V_main_arg0 m c
    · exact Cert.DownLossIdeal.Gen.V_main_arg1 m c
    · exact Cert.DownLossIdeal.Gen.V_main_arg2 m c
    · exact Cert.DownLossIdeal.Gen.V_main_arg3 m c
    · exact Cert.DownLossIdeal.Gen.V_main_arg4 m c
  · run_from Cert.DownLossRefIdeal.Value.run m' g'
    all_goals obtain ⟨h0, h1, h2, h3, h4⟩ := hagree c
    · rw [Cert.DownLossIdeal.Value.stream_eq m c hpre, Cert.DownLossRefIdeal.Read.val_main_v57_eq, h0, h1, h2, h3, h4]
    · rw [Cert.DownLossIdeal.Value.loss_eq m c hpre, Cert.DownLossRefIdeal.Read.val_main_v58_eq]
    · rw [Cert.DownLossIdeal.Value.gain_eq m c hpre, Cert.DownLossRefIdeal.Read.val_main_v59_eq]

theorem gla_reference : quiescent_GlaFwdRefIdeal := fun m g _ =>
  (θ_run Cert.GlaFwdRefIdeal.defs _ _).mono (fun r h => ⟨fun c => (h c).2.2, sem_eq_zero_of_no_sems (by decide) r.2⟩)
    (Cert.GlaFwdRefIdeal.Read.run m g)

theorem gla : algebraic_GlaFwdIdeal_GlaFwdRefIdeal_pre_gla_fwd_finite := by
  pair_intro
  · run_from Cert.GlaFwdIdeal.Gen.run_main m g
    · exact Cert.GlaFwdIdeal.Gen.V_main_arg0 m c
    · exact Cert.GlaFwdIdeal.Gen.V_main_arg1 m c
  · refine θ_run_mono (Cert.GlaFwdRefIdeal.Read.run m' g') fun r h c => ?_
    obtain ⟨h0, h1, h2, h3⟩ := hagree c
    have hs : Cert.GlaFwdIdeal.Value.Same m c m' c := ⟨h0, h1, h2, h3⟩
    have hm := Cert.GlaFwdIdeal.Value.fin_of_pre m c hpre
    exact ⟨(h c).1.trans (Cert.GlaFwdIdeal.Value.y_eq hs hm).symm, (h c).2.1.trans (Cert.GlaFwdIdeal.Value.states_eq hs hm).symm, (h c).2.2⟩

theorem conv_reference : quiescent_ConvBwdRefIdeal := fun m g _ =>
  (θ_run Cert.ConvBwdRefIdeal.defs _ _).mono (fun r h => ⟨fun c => (h c).2.2.2, sem_eq_zero_of_no_sems (by decide) r.2⟩)
    (Cert.ConvBwdRefIdeal.Value.run (F := Ideal) m g)

set_option maxHeartbeats 4000000 in
theorem conv : algebraic_ConvBwdIdeal_ConvBwdRefIdeal_pre_conv_bwd_finite := by
  pair_intro
  · run_from Cert.ConvBwdIdeal.Gen.run_main m g
    · exact Cert.ConvBwdIdeal.Gen.V_main_arg0 m c
    · exact Cert.ConvBwdIdeal.Gen.V_main_arg1 m c
    · exact Cert.ConvBwdIdeal.Gen.V_main_arg2 m c
    · exact Cert.ConvBwdIdeal.Gen.V_main_arg5 m c
  · run_from Cert.ConvBwdRefIdeal.Value.run m' g'
    all_goals
      obtain ⟨h0, h1, h2, h3, h4, h5⟩ := hagree c
      have e0 : StableHlo.launchContents m' c (Proc.tc.devRef Cert.ConvBwdRefIdeal.main_arg0) = _ := h0
      have e1 : StableHlo.launchContents m' c (Proc.tc.devRef Cert.ConvBwdRefIdeal.main_arg1) = _ := h1
      have e2 : StableHlo.launchContents m' c (Proc.tc.devRef Cert.ConvBwdRefIdeal.main_arg2) = _ := h2
      have e3 : StableHlo.launchContents m' c (Proc.tc.devRef Cert.ConvBwdRefIdeal.main_arg3) = _ := h3
      have e4 : StableHlo.launchContents m' c (Proc.tc.devRef Cert.ConvBwdRefIdeal.main_arg4) = _ := h4
      have e5 : StableHlo.launchContents m' c (Proc.tc.devRef Cert.ConvBwdRefIdeal.main_arg5) = _ := h5
    · rw [Cert.ConvBwdIdeal.Value.bias_eq m c hpre, Cert.ConvBwdRefIdeal.Read.val_main_v155_eq, e0, e1, e2, e3, e4, e5]
    · rw [Cert.ConvBwdIdeal.Value.gain_eq m c hpre, Cert.ConvBwdRefIdeal.Read.val_main_v156_eq, e0, e1, e2, e3, e4, e5]
    · rw [Cert.ConvBwdIdeal.Value.offset_eq m c hpre, Cert.ConvBwdRefIdeal.Read.val_main_v157_eq, e0, e1, e2, e3, e4, e5]

theorem mix_up_reference : quiescent_MixUpRefIdeal := fun m g _ =>
  (θ_run Cert.MixUpRefIdeal.defs _ _).mono (fun r h => ⟨fun c => (h c).2.2.2.2.2, sem_eq_zero_of_no_sems (by decide) r.2⟩)
    (Cert.MixUpRefIdeal.Value.run (F := Ideal) m g)

set_option maxHeartbeats 4000000 in
theorem mix_up : algebraic_MixUpIdeal_MixUpRefIdeal := by
  pair_intro
  · run_from Cert.MixUpIdeal.Gen.run_main m g
    · exact Cert.MixUpIdeal.Gen.V_main_arg0 m c
    · exact Cert.MixUpIdeal.Gen.V_main_arg1 m c
    · exact Cert.MixUpIdeal.Gen.V_main_arg2 m c
    · exact Cert.MixUpIdeal.Gen.V_main_arg3 m c
    · exact Cert.MixUpIdeal.Gen.V_main_arg5 m c
    · exact Cert.MixUpIdeal.Gen.V_main_arg6 m c
  · run_from Cert.MixUpRefIdeal.Value.run m' g'
    all_goals obtain ⟨h0, h1, h2, h3, h4, h5, h6⟩ := hagree c
    · rw [Cert.MixUpIdeal.Value.stream_eq m c, Cert.MixUpRefIdeal.Read.val_main_v23_eq]; simp only [h0, h1, h2, h3]
    · rw [Cert.MixUpIdeal.Value.normal_eq m c, Cert.MixUpRefIdeal.Read.val_main_v26_eq]; simp only [h0, h1, h2, h3, h4]
    · rw [Cert.MixUpIdeal.Value.gate_eq m c, Cert.MixUpRefIdeal.Read.val_main_v28_eq]; simp only [h0, h1, h2, h3, h4, h5]
    · rw [Cert.MixUpIdeal.Value.up_eq m c, Cert.MixUpRefIdeal.Read.val_main_v30_eq]; simp only [h0, h1, h2, h3, h4, h6]
    · rw [Cert.MixUpIdeal.Value.gated_eq m c, Cert.MixUpRefIdeal.Read.val_main_v35_eq]; simp only [h0, h1, h2, h3, h4, h5, h6]

theorem in_proj_fwd_reference : quiescent_InProjFwdRefIdeal := fun m g _ =>
  (θ_run Cert.InProjFwdRefIdeal.defs _ _).mono (fun r h => ⟨fun c => (h c).2.2.2, sem_eq_zero_of_no_sems (by decide) r.2⟩)
    (Cert.InProjFwdRefIdeal.Value.run (F := Ideal) m g)

theorem in_proj_fwd_frame : quiescent_InProj := fun m ρ _ =>
  Eq.mp (by sl_kernel_rfl) (Cert.InProjIdeal.Hand.frame (F := Bits) m ρ)

theorem in_proj_fwd : algebraic_InProjIdeal_InProjFwdRefIdeal := by
  pair_intro
  · run_from Cert.InProjIdeal.Hand.run_main m g
    · exact Cert.InProjIdeal.Gen.V_main_arg0 m c
    · exact Cert.InProjIdeal.Gen.V_main_arg2 m c
  · run_from Cert.InProjFwdRefIdeal.Value.run m' g'
    · rw [Cert.InProjIdeal.Value.rows_eq m c, Cert.InProjFwdRefIdeal.Read.val_main_v17_eq]
    · rw [Cert.InProjIdeal.Value.normal_eq m c, Cert.InProjFwdRefIdeal.Read.val_main_v20_eq]
    · rw [Cert.InProjIdeal.Value.table_eq_reference m c, Cert.InProjFwdRefIdeal.Read.val_main_v24_eq]

theorem conv_fwd_reference : quiescent_ConvFwdRefIdeal := fun m g _ =>
  (θ_run Cert.ConvFwdRefIdeal.defs _ _).mono (fun r h => ⟨fun c => (h c).2.2, sem_eq_zero_of_no_sems (by decide) r.2⟩)
    (Cert.ConvFwdRefIdeal.Value.run (F := Ideal) m g)

set_option maxHeartbeats 4000000 in
theorem conv_fwd : algebraic_ConvFwdIdeal_ConvFwdRefIdeal := by
  pair_intro
  · run_from Cert.ConvFwdIdeal.Gen.run_main m g
    · exact Cert.ConvFwdIdeal.Gen.W_main_arg0 m (Cert.ConvFwdIdeal.Gen.dats m) c
    · exact Cert.ConvFwdIdeal.Gen.W_main_arg1 m (Cert.ConvFwdIdeal.Gen.dats m) c
  · run_from Cert.ConvFwdRefIdeal.Value.run m' g'
    all_goals obtain ⟨h0, h1, h2, h3, h4⟩ := hagree c
    · rw [Cert.ConvFwdIdeal.Value.yc_eq m c, Cert.ConvFwdRefIdeal.Read.val_main_v84_eq]; simp only [h0, h1, h2]
    · rw [Cert.ConvFwdIdeal.Value.y_eq m c, Cert.ConvFwdRefIdeal.Read.val_main_v112_eq]; simp only [h0, h1, h2, h3, h4]

theorem claim : Cert.Claim := ⟨Cert.InProjBwd.Gen.facts, Cert.InProjBwdIdeal.Gen.facts, Cert.InProjRefIdeal.Gen.facts, Cert.FfnBwd.Gen.facts, Cert.FfnBwdIdeal.Gen.facts, Cert.FfnRefIdeal.Gen.facts, Cert.DownLoss.Gen.facts, Cert.DownLossIdeal.Gen.facts, Cert.DownLossRefIdeal.Gen.facts, Cert.GlaFwd.Gen.facts, Cert.GlaFwdIdeal.Gen.facts, Cert.GlaFwdRefIdeal.Gen.facts, Cert.GlaBwd.Gen.facts, Cert.GlaBwdIdeal.Gen.facts, Cert.ConvBwd.Gen.facts, Cert.ConvBwdIdeal.Gen.facts, Cert.ConvBwdRefIdeal.Gen.facts, Cert.MixUp.Gen.facts, Cert.MixUpIdeal.Gen.facts, Cert.MixUpRefIdeal.Gen.facts, Cert.InProj.Gen.facts, Cert.InProjIdeal.Gen.facts, Cert.InProjFwdRefIdeal.Gen.facts, Cert.ConvFwd.Gen.facts, Cert.ConvFwdIdeal.Gen.facts, Cert.ConvFwdRefIdeal.Gen.facts, Cert.Pre_in_proj_finite.Gen.facts, Cert.Pre_ffn_finite.Gen.facts, Cert.Pre_ffn_down_loss_finite.Gen.facts, Cert.Pre_gla_fwd_finite.Gen.facts, Cert.Pre_conv_bwd_finite.Gen.facts,
    fun m ρ _ => Cert.InProjBwd.Gen.frame m ρ, fun m ρ _ => Cert.InProjBwdIdeal.Gen.frame m ρ,
    fun m ρ _ => Cert.InProjBwdIdeal.Gen.frame m ρ, in_proj_reference, fun m ρ _ => in_proj_reference m ρ trivial,
    fun m ρ _ => Cert.FfnBwd.Gen.frame m ρ, fun m ρ _ => Cert.FfnBwdIdeal.Gen.frame m ρ,
    fun m ρ _ => Cert.FfnBwdIdeal.Gen.frame m ρ, ffn_reference, fun m ρ _ => ffn_reference m ρ trivial,
    fun m ρ _ => Cert.DownLoss.Gen.frame m ρ, fun m ρ _ => Cert.DownLossIdeal.Gen.frame m ρ,
    fun m ρ _ => Cert.DownLossIdeal.Gen.frame m ρ, down_loss_reference, fun m ρ _ => down_loss_reference m ρ trivial,
    fun m ρ _ => Cert.GlaFwd.Gen.frame m ρ, fun m ρ _ => Cert.GlaFwdIdeal.Gen.frame m ρ,
    fun m ρ _ => Cert.GlaFwdIdeal.Gen.frame m ρ, gla_reference, fun m ρ _ => gla_reference m ρ trivial,
    fun m ρ _ => Cert.GlaBwd.Gen.frame m ρ, fun m ρ _ => Cert.GlaBwdIdeal.Gen.frame m ρ,
    fun m ρ _ => Cert.ConvBwd.Gen.frame m ρ, fun m ρ _ => Cert.ConvBwdIdeal.Gen.frame m ρ,
    fun m ρ _ => Cert.ConvBwdIdeal.Gen.frame m ρ, conv_reference, fun m ρ _ => conv_reference m ρ trivial,
    fun m ρ _ => Cert.MixUp.Gen.frame m ρ, fun m ρ _ => Cert.MixUpIdeal.Gen.frame m ρ, mix_up_reference,
    in_proj_fwd_frame, fun m ρ _ => Cert.InProjIdeal.Hand.frame m ρ, in_proj_fwd_reference,
    fun m ρ _ => Cert.ConvFwd.Gen.frame m ρ, fun m ρ _ => Cert.ConvFwdIdeal.Gen.frame m ρ, conv_fwd_reference,
    trivial, in_proj, trivial, ffn, trivial, down_loss, trivial, gla, trivial, trivial, conv, trivial, mix_up, trivial, in_proj_fwd, trivial, conv_fwd⟩

end Cert.Proof

end
